-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KUp (m : (ℓ : Loc Cert.KUp.nD Cert.KUp.τ Cert.KUp.sig) → Buf (Elt Bits) ℓ) : Prop :=
  True

def Pre_KUpIdeal (m : (ℓ : Loc Cert.KUpIdeal.nD Cert.KUpIdeal.τ Cert.KUpIdeal.sig) → Buf (Elt Ideal) ℓ) : Prop :=
  True

def Pre_RUpIdeal (m : (ℓ : Loc Cert.RUpIdeal.nD Cert.RUpIdeal.τ Cert.RUpIdeal.sig) → Buf (Elt Ideal) ℓ) : Prop :=
  True

def Pre_KUpDx (m : (ℓ : Loc Cert.KUpDx.nD Cert.KUpDx.τ Cert.KUpDx.sig) → Buf (Elt Bits) ℓ) : Prop :=
  True

def Pre_KUpDxIdeal (m : (ℓ : Loc Cert.KUpDxIdeal.nD Cert.KUpDxIdeal.τ Cert.KUpDxIdeal.sig) → Buf (Elt Ideal) ℓ) : Prop :=
  True

def Pre_RUpDxIdeal (m : (ℓ : Loc Cert.RUpDxIdeal.nD Cert.RUpDxIdeal.τ Cert.RUpDxIdeal.sig) → Buf (Elt Ideal) ℓ) : Prop :=
  True

def Pre_KUpDw (m : (ℓ : Loc Cert.KUpDw.nD Cert.KUpDw.τ Cert.KUpDw.sig) → Buf (Elt Bits) ℓ) : Prop :=
  True

def Pre_KUpDwIdeal (m : (ℓ : Loc Cert.KUpDwIdeal.nD Cert.KUpDwIdeal.τ Cert.KUpDwIdeal.sig) → Buf (Elt Ideal) ℓ) : Prop :=
  True

def Pre_RUpDwIdeal (m : (ℓ : Loc Cert.RUpDwIdeal.nD Cert.RUpDwIdeal.τ Cert.RUpDwIdeal.sig) → Buf (Elt Ideal) ℓ) : Prop :=
  True

def Pre_KIn (m : (ℓ : Loc Cert.KIn.nD Cert.KIn.τ Cert.KIn.sig) → Buf (Elt Bits) ℓ) : Prop :=
  True

def Pre_KInIdeal (m : (ℓ : Loc Cert.KInIdeal.nD Cert.KInIdeal.τ Cert.KInIdeal.sig) → Buf (Elt Ideal) ℓ) : Prop :=
  True

def Pre_RInIdeal (m : (ℓ : Loc Cert.RInIdeal.nD Cert.RInIdeal.τ Cert.RInIdeal.sig) → Buf (Elt Ideal) ℓ) : Prop :=
  True

def Pre_KInDx (m : (ℓ : Loc Cert.KInDx.nD Cert.KInDx.τ Cert.KInDx.sig) → Buf (Elt Bits) ℓ) : Prop :=
  True

def Pre_KInDxIdeal (m : (ℓ : Loc Cert.KInDxIdeal.nD Cert.KInDxIdeal.τ Cert.KInDxIdeal.sig) → Buf (Elt Ideal) ℓ) : Prop :=
  True

def Pre_RInDxIdeal (m : (ℓ : Loc Cert.RInDxIdeal.nD Cert.RInDxIdeal.τ Cert.RInDxIdeal.sig) → Buf (Elt Ideal) ℓ) : Prop :=
  True

def Pre_KInDw (m : (ℓ : Loc Cert.KInDw.nD Cert.KInDw.τ Cert.KInDw.sig) → Buf (Elt Bits) ℓ) : Prop :=
  True

def Pre_KInDwIdeal (m : (ℓ : Loc Cert.KInDwIdeal.nD Cert.KInDwIdeal.τ Cert.KInDwIdeal.sig) → Buf (Elt Ideal) ℓ) : Prop :=
  True

def Pre_RInDwIdeal (m : (ℓ : Loc Cert.RInDwIdeal.nD Cert.RInDwIdeal.τ Cert.RInDwIdeal.sig) → Buf (Elt Ideal) ℓ) : Prop :=
  True

def Pre_KDown (m : (ℓ : Loc Cert.KDown.nD Cert.KDown.τ Cert.KDown.sig) → Buf (Elt Bits) ℓ) : Prop :=
  True

def Pre_KDownIdeal (m : (ℓ : Loc Cert.KDownIdeal.nD Cert.KDownIdeal.τ Cert.KDownIdeal.sig) → Buf (Elt Ideal) ℓ) : Prop :=
  True

def Pre_RDownIdeal (m : (ℓ : Loc Cert.RDownIdeal.nD Cert.RDownIdeal.τ Cert.RDownIdeal.sig) → Buf (Elt Ideal) ℓ) : Prop :=
  True

def Pre_KDownDx (m : (ℓ : Loc Cert.KDownDx.nD Cert.KDownDx.τ Cert.KDownDx.sig) → Buf (Elt Bits) ℓ) : Prop :=
  True

def Pre_KDownDxIdeal (m : (ℓ : Loc Cert.KDownDxIdeal.nD Cert.KDownDxIdeal.τ Cert.KDownDxIdeal.sig) → Buf (Elt Ideal) ℓ) : Prop :=
  True

def Pre_RDownDxIdeal (m : (ℓ : Loc Cert.RDownDxIdeal.nD Cert.RDownDxIdeal.τ Cert.RDownDxIdeal.sig) → Buf (Elt Ideal) ℓ) : Prop :=
  True

def Pre_KDownDw (m : (ℓ : Loc Cert.KDownDw.nD Cert.KDownDw.τ Cert.KDownDw.sig) → Buf (Elt Bits) ℓ) : Prop :=
  True

def Pre_KDownDwIdeal (m : (ℓ : Loc Cert.KDownDwIdeal.nD Cert.KDownDwIdeal.τ Cert.KDownDwIdeal.sig) → Buf (Elt Ideal) ℓ) : Prop :=
  True

def Pre_RDownDwIdeal (m : (ℓ : Loc Cert.RDownDwIdeal.nD Cert.RDownDwIdeal.τ Cert.RDownDwIdeal.sig) → Buf (Elt Ideal) ℓ) : Prop :=
  True

def Pre_KSsdOut (m : (ℓ : Loc Cert.KSsdOut.nD Cert.KSsdOut.τ Cert.KSsdOut.sig) → Buf (Elt Bits) ℓ) : Prop :=
  True

def Pre_KSsdOutIdeal (m : (ℓ : Loc Cert.KSsdOutIdeal.nD Cert.KSsdOutIdeal.τ Cert.KSsdOutIdeal.sig) → Buf (Elt Ideal) ℓ) : Prop :=
  True

def Pre_RSsdOutIdeal (m : (ℓ : Loc Cert.RSsdOutIdeal.nD Cert.RSsdOutIdeal.τ Cert.RSsdOutIdeal.sig) → Buf (Elt Ideal) ℓ) : Prop :=
  True

def Pre_KSsdOutDx (m : (ℓ : Loc Cert.KSsdOutDx.nD Cert.KSsdOutDx.τ Cert.KSsdOutDx.sig) → Buf (Elt Bits) ℓ) : Prop :=
  True

def Pre_KSsdOutDxIdeal (m : (ℓ : Loc Cert.KSsdOutDxIdeal.nD Cert.KSsdOutDxIdeal.τ Cert.KSsdOutDxIdeal.sig) → Buf (Elt Ideal) ℓ) : Prop :=
  True

def Pre_RSsdOutDxIdeal (m : (ℓ : Loc Cert.RSsdOutDxIdeal.nD Cert.RSsdOutDxIdeal.τ Cert.RSsdOutDxIdeal.sig) → Buf (Elt Ideal) ℓ) : Prop :=
  True

def Pre_KSsdOutDw (m : (ℓ : Loc Cert.KSsdOutDw.nD Cert.KSsdOutDw.τ Cert.KSsdOutDw.sig) → Buf (Elt Bits) ℓ) : Prop :=
  True

def Pre_KSsdOutDwIdeal (m : (ℓ : Loc Cert.KSsdOutDwIdeal.nD Cert.KSsdOutDwIdeal.τ Cert.KSsdOutDwIdeal.sig) → Buf (Elt Ideal) ℓ) : Prop :=
  True

def Pre_RSsdOutDwIdeal (m : (ℓ : Loc Cert.RSsdOutDwIdeal.nD Cert.RSsdOutDwIdeal.τ Cert.RSsdOutDwIdeal.sig) → Buf (Elt Ideal) ℓ) : Prop :=
  True

def Pre_KUq (m : (ℓ : Loc Cert.KUq.nD Cert.KUq.τ Cert.KUq.sig) → Buf (Elt Bits) ℓ) : Prop :=
  True

def Pre_KUqIdeal (m : (ℓ : Loc Cert.KUqIdeal.nD Cert.KUqIdeal.τ Cert.KUqIdeal.sig) → Buf (Elt Ideal) ℓ) : Prop :=
  True

def Pre_RUqIdeal (m : (ℓ : Loc Cert.RUqIdeal.nD Cert.RUqIdeal.τ Cert.RUqIdeal.sig) → Buf (Elt Ideal) ℓ) : Prop :=
  True

def Pre_KUqDx (m : (ℓ : Loc Cert.KUqDx.nD Cert.KUqDx.τ Cert.KUqDx.sig) → Buf (Elt Bits) ℓ) : Prop :=
  True

def Pre_KUqDxIdeal (m : (ℓ : Loc Cert.KUqDxIdeal.nD Cert.KUqDxIdeal.τ Cert.KUqDxIdeal.sig) → Buf (Elt Ideal) ℓ) : Prop :=
  True

def Pre_RUqDxIdeal (m : (ℓ : Loc Cert.RUqDxIdeal.nD Cert.RUqDxIdeal.τ Cert.RUqDxIdeal.sig) → Buf (Elt Ideal) ℓ) : Prop :=
  True

def Pre_KUqDw (m : (ℓ : Loc Cert.KUqDw.nD Cert.KUqDw.τ Cert.KUqDw.sig) → Buf (Elt Bits) ℓ) : Prop :=
  True

def Pre_KUqDwIdeal (m : (ℓ : Loc Cert.KUqDwIdeal.nD Cert.KUqDwIdeal.τ Cert.KUqDwIdeal.sig) → Buf (Elt Ideal) ℓ) : Prop :=
  True

def Pre_RUqDwIdeal (m : (ℓ : Loc Cert.RUqDwIdeal.nD Cert.RUqDwIdeal.τ Cert.RUqDwIdeal.sig) → Buf (Elt Ideal) ℓ) : Prop :=
  True

def Pre_KUkv (m : (ℓ : Loc Cert.KUkv.nD Cert.KUkv.τ Cert.KUkv.sig) → Buf (Elt Bits) ℓ) : Prop :=
  True

def Pre_KUkvIdeal (m : (ℓ : Loc Cert.KUkvIdeal.nD Cert.KUkvIdeal.τ Cert.KUkvIdeal.sig) → Buf (Elt Ideal) ℓ) : Prop :=
  True

def Pre_RUkvIdeal (m : (ℓ : Loc Cert.RUkvIdeal.nD Cert.RUkvIdeal.τ Cert.RUkvIdeal.sig) → Buf (Elt Ideal) ℓ) : Prop :=
  True

def Pre_KUkvDx (m : (ℓ : Loc Cert.KUkvDx.nD Cert.KUkvDx.τ Cert.KUkvDx.sig) → Buf (Elt Bits) ℓ) : Prop :=
  True

def Pre_KUkvDxIdeal (m : (ℓ : Loc Cert.KUkvDxIdeal.nD Cert.KUkvDxIdeal.τ Cert.KUkvDxIdeal.sig) → Buf (Elt Ideal) ℓ) : Prop :=
  True

def Pre_RUkvDxIdeal (m : (ℓ : Loc Cert.RUkvDxIdeal.nD Cert.RUkvDxIdeal.τ Cert.RUkvDxIdeal.sig) → Buf (Elt Ideal) ℓ) : Prop :=
  True

def Pre_KUkvDw (m : (ℓ : Loc Cert.KUkvDw.nD Cert.KUkvDw.τ Cert.KUkvDw.sig) → Buf (Elt Bits) ℓ) : Prop :=
  True

def Pre_KUkvDwIdeal (m : (ℓ : Loc Cert.KUkvDwIdeal.nD Cert.KUkvDwIdeal.τ Cert.KUkvDwIdeal.sig) → Buf (Elt Ideal) ℓ) : Prop :=
  True

def Pre_RUkvDwIdeal (m : (ℓ : Loc Cert.RUkvDwIdeal.nD Cert.RUkvDwIdeal.τ Cert.RUkvDwIdeal.sig) → Buf (Elt Ideal) ℓ) : Prop :=
  True

def Pre_KMlaOut (m : (ℓ : Loc Cert.KMlaOut.nD Cert.KMlaOut.τ Cert.KMlaOut.sig) → Buf (Elt Bits) ℓ) : Prop :=
  True

def Pre_KMlaOutIdeal (m : (ℓ : Loc Cert.KMlaOutIdeal.nD Cert.KMlaOutIdeal.τ Cert.KMlaOutIdeal.sig) → Buf (Elt Ideal) ℓ) : Prop :=
  True

def Pre_RMlaOutIdeal (m : (ℓ : Loc Cert.RMlaOutIdeal.nD Cert.RMlaOutIdeal.τ Cert.RMlaOutIdeal.sig) → Buf (Elt Ideal) ℓ) : Prop :=
  True

def Pre_KMlaOutDx (m : (ℓ : Loc Cert.KMlaOutDx.nD Cert.KMlaOutDx.τ Cert.KMlaOutDx.sig) → Buf (Elt Bits) ℓ) : Prop :=
  True

def Pre_KMlaOutDxIdeal (m : (ℓ : Loc Cert.KMlaOutDxIdeal.nD Cert.KMlaOutDxIdeal.τ Cert.KMlaOutDxIdeal.sig) → Buf (Elt Ideal) ℓ) : Prop :=
  True

def Pre_RMlaOutDxIdeal (m : (ℓ : Loc Cert.RMlaOutDxIdeal.nD Cert.RMlaOutDxIdeal.τ Cert.RMlaOutDxIdeal.sig) → Buf (Elt Ideal) ℓ) : Prop :=
  True

def Pre_KMlaOutDw (m : (ℓ : Loc Cert.KMlaOutDw.nD Cert.KMlaOutDw.τ Cert.KMlaOutDw.sig) → Buf (Elt Bits) ℓ) : Prop :=
  True

def Pre_KMlaOutDwIdeal (m : (ℓ : Loc Cert.KMlaOutDwIdeal.nD Cert.KMlaOutDwIdeal.τ Cert.KMlaOutDwIdeal.sig) → Buf (Elt Ideal) ℓ) : Prop :=
  True

def Pre_RMlaOutDwIdeal (m : (ℓ : Loc Cert.RMlaOutDwIdeal.nD Cert.RMlaOutDwIdeal.τ Cert.RMlaOutDwIdeal.sig) → Buf (Elt Ideal) ℓ) : Prop :=
  True

def Pre_KOut (m : (ℓ : Loc Cert.KOut.nD Cert.KOut.τ Cert.KOut.sig) → Buf (Elt Bits) ℓ) : Prop :=
  True

def Pre_KOutIdeal (m : (ℓ : Loc Cert.KOutIdeal.nD Cert.KOutIdeal.τ Cert.KOutIdeal.sig) → Buf (Elt Ideal) ℓ) : Prop :=
  True

def Pre_ROutIdeal (m : (ℓ : Loc Cert.ROutIdeal.nD Cert.ROutIdeal.τ Cert.ROutIdeal.sig) → Buf (Elt Ideal) ℓ) : Prop :=
  True

def Pre_KOutDx (m : (ℓ : Loc Cert.KOutDx.nD Cert.KOutDx.τ Cert.KOutDx.sig) → Buf (Elt Bits) ℓ) : Prop :=
  True

def Pre_KOutDxIdeal (m : (ℓ : Loc Cert.KOutDxIdeal.nD Cert.KOutDxIdeal.τ Cert.KOutDxIdeal.sig) → Buf (Elt Ideal) ℓ) : Prop :=
  True

def Pre_ROutDxIdeal (m : (ℓ : Loc Cert.ROutDxIdeal.nD Cert.ROutDxIdeal.τ Cert.ROutDxIdeal.sig) → Buf (Elt Ideal) ℓ) : Prop :=
  True

def Pre_KOutDw (m : (ℓ : Loc Cert.KOutDw.nD Cert.KOutDw.τ Cert.KOutDw.sig) → Buf (Elt Bits) ℓ) : Prop :=
  True

def Pre_KOutDwIdeal (m : (ℓ : Loc Cert.KOutDwIdeal.nD Cert.KOutDwIdeal.τ Cert.KOutDwIdeal.sig) → Buf (Elt Ideal) ℓ) : Prop :=
  True

def Pre_ROutDwIdeal (m : (ℓ : Loc Cert.ROutDwIdeal.nD Cert.ROutDwIdeal.τ Cert.ROutDwIdeal.sig) → Buf (Elt Ideal) ℓ) : Prop :=
  True

def Pre_KNorm (m : (ℓ : Loc Cert.KNorm.nD Cert.KNorm.τ Cert.KNorm.sig) → Buf (Elt Bits) ℓ) : Prop :=
  True

def Pre_KNormIdeal (m : (ℓ : Loc Cert.KNormIdeal.nD Cert.KNormIdeal.τ Cert.KNormIdeal.sig) → Buf (Elt Ideal) ℓ) : Prop :=
  True

def Pre_RNormIdeal (m : (ℓ : Loc Cert.RNormIdeal.nD Cert.RNormIdeal.τ Cert.RNormIdeal.sig) → Buf (Elt Ideal) ℓ) : Prop :=
  True

def Pre_KGatedNorm (m : (ℓ : Loc Cert.KGatedNorm.nD Cert.KGatedNorm.τ Cert.KGatedNorm.sig) → Buf (Elt Bits) ℓ) : Prop :=
  True

def Pre_KGatedNormIdeal (m : (ℓ : Loc Cert.KGatedNormIdeal.nD Cert.KGatedNormIdeal.τ Cert.KGatedNormIdeal.sig) → Buf (Elt Ideal) ℓ) : Prop :=
  True

def Pre_RGatedNormIdeal (m : (ℓ : Loc Cert.RGatedNormIdeal.nD Cert.RGatedNormIdeal.τ Cert.RGatedNormIdeal.sig) → Buf (Elt Ideal) ℓ) : Prop :=
  True

def Pre_KMerge (m : (ℓ : Loc Cert.KMerge.nD Cert.KMerge.τ Cert.KMerge.sig) → Buf (Elt Bits) ℓ) : Prop :=
  True

def Pre_KMergeIdeal (m : (ℓ : Loc Cert.KMergeIdeal.nD Cert.KMergeIdeal.τ Cert.KMergeIdeal.sig) → Buf (Elt Ideal) ℓ) : Prop :=
  True

def Pre_RMergeIdeal (m : (ℓ : Loc Cert.RMergeIdeal.nD Cert.RMergeIdeal.τ Cert.RMergeIdeal.sig) → Buf (Elt Ideal) ℓ) : Prop :=
  True

def Pre_KAdam (m : (ℓ : Loc Cert.KAdam.nD Cert.KAdam.τ Cert.KAdam.sig) → Buf (Elt Bits) ℓ) : Prop :=
  True

def Pre_KAdamIdeal (m : (ℓ : Loc Cert.KAdamIdeal.nD Cert.KAdamIdeal.τ Cert.KAdamIdeal.sig) → Buf (Elt Ideal) ℓ) : Prop :=
  True

def Pre_RAdamIdeal (m : (ℓ : Loc Cert.RAdamIdeal.nD Cert.RAdamIdeal.τ Cert.RAdamIdeal.sig) → Buf (Elt Ideal) ℓ) : Prop :=
  True

def Pre_KQNorm (m : (ℓ : Loc Cert.KQNorm.nD Cert.KQNorm.τ Cert.KQNorm.sig) → Buf (Elt Bits) ℓ) : Prop :=
  True

def Pre_KQNormIdeal (m : (ℓ : Loc Cert.KQNormIdeal.nD Cert.KQNormIdeal.τ Cert.KQNormIdeal.sig) → Buf (Elt Ideal) ℓ) : Prop :=
  True

def Pre_RQNormIdeal (m : (ℓ : Loc Cert.RQNormIdeal.nD Cert.RQNormIdeal.τ Cert.RQNormIdeal.sig) → Buf (Elt Ideal) ℓ) : Prop :=
  True

def Pre_KKvNorm (m : (ℓ : Loc Cert.KKvNorm.nD Cert.KKvNorm.τ Cert.KKvNorm.sig) → Buf (Elt Bits) ℓ) : Prop :=
  True

def Pre_KKvNormIdeal (m : (ℓ : Loc Cert.KKvNormIdeal.nD Cert.KKvNormIdeal.τ Cert.KKvNormIdeal.sig) → Buf (Elt Ideal) ℓ) : Prop :=
  True

def Pre_RKvNormIdeal (m : (ℓ : Loc Cert.RKvNormIdeal.nD Cert.RKvNormIdeal.τ Cert.RKvNormIdeal.sig) → Buf (Elt Ideal) ℓ) : Prop :=
  True

def Pre_KMergeDx (m : (ℓ : Loc Cert.KMergeDx.nD Cert.KMergeDx.τ Cert.KMergeDx.sig) → Buf (Elt Bits) ℓ) : Prop :=
  True

def Pre_KMergeDxIdeal (m : (ℓ : Loc Cert.KMergeDxIdeal.nD Cert.KMergeDxIdeal.τ Cert.KMergeDxIdeal.sig) → Buf (Elt Ideal) ℓ) : Prop :=
  True

def Pre_RMergeDxIdeal (m : (ℓ : Loc Cert.RMergeDxIdeal.nD Cert.RMergeDxIdeal.τ Cert.RMergeDxIdeal.sig) → Buf (Elt Ideal) ℓ) : Prop :=
  True

def Pre_KLoss (m : (ℓ : Loc Cert.KLoss.nD Cert.KLoss.τ Cert.KLoss.sig) → Buf (Elt Bits) ℓ) : Prop :=
  True

def Pre_KLossIdeal (m : (ℓ : Loc Cert.KLossIdeal.nD Cert.KLossIdeal.τ Cert.KLossIdeal.sig) → Buf (Elt Ideal) ℓ) : Prop :=
  True

def Pre_RLossIdeal (m : (ℓ : Loc Cert.RLossIdeal.nD Cert.RLossIdeal.τ Cert.RLossIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KUp [hKUp : Cert.KUp.Facts] : Prop :=
  ∀ (m : (ℓ : Loc Cert.KUp.nD Cert.KUp.τ Cert.KUp.sig) → Buf (Elt Bits) ℓ) (g : Dev Cert.KUp.nD → PrngReg), Pre_KUp m →
    θ_run (Cert.KUp.defs (F := Bits)) (onTc (τ := Cert.KUp.τ) (Cert.KUp.main (F := Bits))) ⟨m, fun _ => 0, g⟩ (fun r => (∀ c : Dev Cert.KUp.nD,
      r.2.mem ((c.tc : Thread Cert.KUp.nD Cert.KUp.τ).loc Cert.KUp.main_arg0) = m ((c.tc : Thread Cert.KUp.nD Cert.KUp.τ).loc Cert.KUp.main_arg0)
      ∧ r.2.mem ((c.tc : Thread Cert.KUp.nD Cert.KUp.τ).loc Cert.KUp.main_arg1) = m ((c.tc : Thread Cert.KUp.nD Cert.KUp.τ).loc Cert.KUp.main_arg1))
      ∧ r.2.sem = fun _ => 0)

def quiescent_KUpIdeal [hKUpIdeal : Cert.KUpIdeal.Facts] : Prop :=
  ∀ (m : (ℓ : Loc Cert.KUpIdeal.nD Cert.KUpIdeal.τ Cert.KUpIdeal.sig) → Buf (Elt Ideal) ℓ) (g : Dev Cert.KUpIdeal.nD → PrngReg), Pre_KUpIdeal m →
    θ_run (Cert.KUpIdeal.defs (F := Ideal)) (onTc (τ := Cert.KUpIdeal.τ) (Cert.KUpIdeal.main (F := Ideal))) ⟨m, fun _ => 0, g⟩ (fun r => (∀ c : Dev Cert.KUpIdeal.nD,
      r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
      ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1))
      ∧ r.2.sem = fun _ => 0)

def quiescent_RUpIdeal [hRUpIdeal : Cert.RUpIdeal.Facts] : Prop :=
  ∀ (m : (ℓ : Loc Cert.RUpIdeal.nD Cert.RUpIdeal.τ Cert.RUpIdeal.sig) → Buf (Elt Ideal) ℓ) (g : Dev Cert.RUpIdeal.nD → PrngReg), Pre_RUpIdeal m →
    θ_run (Cert.RUpIdeal.defs (F := Ideal)) (onTc (τ := Cert.RUpIdeal.τ) (Cert.RUpIdeal.main (F := Ideal))) ⟨m, fun _ => 0, g⟩ (fun r => (∀ c : Dev Cert.RUpIdeal.nD,
      r.2.mem ((c.tc : Thread Cert.RUpIdeal.nD Cert.RUpIdeal.τ).loc Cert.RUpIdeal.main_arg0) = m ((c.tc : Thread Cert.RUpIdeal.nD Cert.RUpIdeal.τ).loc Cert.RUpIdeal.main_arg0)
      ∧ r.2.mem ((c.tc : Thread Cert.RUpIdeal.nD Cert.RUpIdeal.τ).loc Cert.RUpIdeal.main_arg1) = m ((c.tc : Thread Cert.RUpIdeal.nD Cert.RUpIdeal.τ).loc Cert.RUpIdeal.main_arg1))
      ∧ r.2.sem = fun _ => 0)

def quiescent_KUpDx [hKUpDx : Cert.KUpDx.Facts] : Prop :=
  ∀ (m : (ℓ : Loc Cert.KUpDx.nD Cert.KUpDx.τ Cert.KUpDx.sig) → Buf (Elt Bits) ℓ) (g : Dev Cert.KUpDx.nD → PrngReg), Pre_KUpDx m →
    θ_run (Cert.KUpDx.defs (F := Bits)) (onTc (τ := Cert.KUpDx.τ) (Cert.KUpDx.main (F := Bits))) ⟨m, fun _ => 0, g⟩ (fun r => (∀ c : Dev Cert.KUpDx.nD,
      r.2.mem ((c.tc : Thread Cert.KUpDx.nD Cert.KUpDx.τ).loc Cert.KUpDx.main_arg0) = m ((c.tc : Thread Cert.KUpDx.nD Cert.KUpDx.τ).loc Cert.KUpDx.main_arg0)
      ∧ r.2.mem ((c.tc : Thread Cert.KUpDx.nD Cert.KUpDx.τ).loc Cert.KUpDx.main_arg1) = m ((c.tc : Thread Cert.KUpDx.nD Cert.KUpDx.τ).loc Cert.KUpDx.main_arg1))
      ∧ r.2.sem = fun _ => 0)

def quiescent_KUpDxIdeal [hKUpDxIdeal : Cert.KUpDxIdeal.Facts] : Prop :=
  ∀ (m : (ℓ : Loc Cert.KUpDxIdeal.nD Cert.KUpDxIdeal.τ Cert.KUpDxIdeal.sig) → Buf (Elt Ideal) ℓ) (g : Dev Cert.KUpDxIdeal.nD → PrngReg), Pre_KUpDxIdeal m →
    θ_run (Cert.KUpDxIdeal.defs (F := Ideal)) (onTc (τ := Cert.KUpDxIdeal.τ) (Cert.KUpDxIdeal.main (F := Ideal))) ⟨m, fun _ => 0, g⟩ (fun r => (∀ c : Dev Cert.KUpDxIdeal.nD,
      r.2.mem ((c.tc : Thread Cert.KUpDxIdeal.nD Cert.KUpDxIdeal.τ).loc Cert.KUpDxIdeal.main_arg0) = m ((c.tc : Thread Cert.KUpDxIdeal.nD Cert.KUpDxIdeal.τ).loc Cert.KUpDxIdeal.main_arg0)
      ∧ r.2.mem ((c.tc : Thread Cert.KUpDxIdeal.nD Cert.KUpDxIdeal.τ).loc Cert.KUpDxIdeal.main_arg1) = m ((c.tc : Thread Cert.KUpDxIdeal.nD Cert.KUpDxIdeal.τ).loc Cert.KUpDxIdeal.main_arg1))
      ∧ r.2.sem = fun _ => 0)

def quiescent_RUpDxIdeal [hRUpDxIdeal : Cert.RUpDxIdeal.Facts] : Prop :=
  ∀ (m : (ℓ : Loc Cert.RUpDxIdeal.nD Cert.RUpDxIdeal.τ Cert.RUpDxIdeal.sig) → Buf (Elt Ideal) ℓ) (g : Dev Cert.RUpDxIdeal.nD → PrngReg), Pre_RUpDxIdeal m →
    θ_run (Cert.RUpDxIdeal.defs (F := Ideal)) (onTc (τ := Cert.RUpDxIdeal.τ) (Cert.RUpDxIdeal.main (F := Ideal))) ⟨m, fun _ => 0, g⟩ (fun r => (∀ c : Dev Cert.RUpDxIdeal.nD,
      r.2.mem ((c.tc : Thread Cert.RUpDxIdeal.nD Cert.RUpDxIdeal.τ).loc Cert.RUpDxIdeal.main_arg0) = m ((c.tc : Thread Cert.RUpDxIdeal.nD Cert.RUpDxIdeal.τ).loc Cert.RUpDxIdeal.main_arg0)
      ∧ r.2.mem ((c.tc : Thread Cert.RUpDxIdeal.nD Cert.RUpDxIdeal.τ).loc Cert.RUpDxIdeal.main_arg1) = m ((c.tc : Thread Cert.RUpDxIdeal.nD Cert.RUpDxIdeal.τ).loc Cert.RUpDxIdeal.main_arg1))
      ∧ r.2.sem = fun _ => 0)

def quiescent_KUpDw [hKUpDw : Cert.KUpDw.Facts] : Prop :=
  ∀ (m : (ℓ : Loc Cert.KUpDw.nD Cert.KUpDw.τ Cert.KUpDw.sig) → Buf (Elt Bits) ℓ) (g : Dev Cert.KUpDw.nD → PrngReg), Pre_KUpDw m →
    θ_run (Cert.KUpDw.defs (F := Bits)) (onTc (τ := Cert.KUpDw.τ) (Cert.KUpDw.main (F := Bits))) ⟨m, fun _ => 0, g⟩ (fun r => (∀ c : Dev Cert.KUpDw.nD,
      r.2.mem ((c.tc : Thread Cert.KUpDw.nD Cert.KUpDw.τ).loc Cert.KUpDw.main_arg0) = m ((c.tc : Thread Cert.KUpDw.nD Cert.KUpDw.τ).loc Cert.KUpDw.main_arg0)
      ∧ r.2.mem ((c.tc : Thread Cert.KUpDw.nD Cert.KUpDw.τ).loc Cert.KUpDw.main_arg1) = m ((c.tc : Thread Cert.KUpDw.nD Cert.KUpDw.τ).loc Cert.KUpDw.main_arg1))
      ∧ r.2.sem = fun _ => 0)

def quiescent_KUpDwIdeal [hKUpDwIdeal : Cert.KUpDwIdeal.Facts] : Prop :=
  ∀ (m : (ℓ : Loc Cert.KUpDwIdeal.nD Cert.KUpDwIdeal.τ Cert.KUpDwIdeal.sig) → Buf (Elt Ideal) ℓ) (g : Dev Cert.KUpDwIdeal.nD → PrngReg), Pre_KUpDwIdeal m →
    θ_run (Cert.KUpDwIdeal.defs (F := Ideal)) (onTc (τ := Cert.KUpDwIdeal.τ) (Cert.KUpDwIdeal.main (F := Ideal))) ⟨m, fun _ => 0, g⟩ (fun r => (∀ c : Dev Cert.KUpDwIdeal.nD,
      r.2.mem ((c.tc : Thread Cert.KUpDwIdeal.nD Cert.KUpDwIdeal.τ).loc Cert.KUpDwIdeal.main_arg0) = m ((c.tc : Thread Cert.KUpDwIdeal.nD Cert.KUpDwIdeal.τ).loc Cert.KUpDwIdeal.main_arg0)
      ∧ r.2.mem ((c.tc : Thread Cert.KUpDwIdeal.nD Cert.KUpDwIdeal.τ).loc Cert.KUpDwIdeal.main_arg1) = m ((c.tc : Thread Cert.KUpDwIdeal.nD Cert.KUpDwIdeal.τ).loc Cert.KUpDwIdeal.main_arg1))
      ∧ r.2.sem = fun _ => 0)

def quiescent_RUpDwIdeal [hRUpDwIdeal : Cert.RUpDwIdeal.Facts] : Prop :=
  ∀ (m : (ℓ : Loc Cert.RUpDwIdeal.nD Cert.RUpDwIdeal.τ Cert.RUpDwIdeal.sig) → Buf (Elt Ideal) ℓ) (g : Dev Cert.RUpDwIdeal.nD → PrngReg), Pre_RUpDwIdeal m →
    θ_run (Cert.RUpDwIdeal.defs (F := Ideal)) (onTc (τ := Cert.RUpDwIdeal.τ) (Cert.RUpDwIdeal.main (F := Ideal))) ⟨m, fun _ => 0, g⟩ (fun r => (∀ c : Dev Cert.RUpDwIdeal.nD,
      r.2.mem ((c.tc : Thread Cert.RUpDwIdeal.nD Cert.RUpDwIdeal.τ).loc Cert.RUpDwIdeal.main_arg0) = m ((c.tc : Thread Cert.RUpDwIdeal.nD Cert.RUpDwIdeal.τ).loc Cert.RUpDwIdeal.main_arg0)
      ∧ r.2.mem ((c.tc : Thread Cert.RUpDwIdeal.nD Cert.RUpDwIdeal.τ).loc Cert.RUpDwIdeal.main_arg1) = m ((c.tc : Thread Cert.RUpDwIdeal.nD Cert.RUpDwIdeal.τ).loc Cert.RUpDwIdeal.main_arg1))
      ∧ r.2.sem = fun _ => 0)

def quiescent_KIn [hKIn : Cert.KIn.Facts] : Prop :=
  ∀ (m : (ℓ : Loc Cert.KIn.nD Cert.KIn.τ Cert.KIn.sig) → Buf (Elt Bits) ℓ) (g : Dev Cert.KIn.nD → PrngReg), Pre_KIn m →
    θ_run (Cert.KIn.defs (F := Bits)) (onTc (τ := Cert.KIn.τ) (Cert.KIn.main (F := Bits))) ⟨m, fun _ => 0, g⟩ (fun r => (∀ c : Dev Cert.KIn.nD,
      r.2.mem ((c.tc : Thread Cert.KIn.nD Cert.KIn.τ).loc Cert.KIn.main_arg0) = m ((c.tc : Thread Cert.KIn.nD Cert.KIn.τ).loc Cert.KIn.main_arg0)
      ∧ r.2.mem ((c.tc : Thread Cert.KIn.nD Cert.KIn.τ).loc Cert.KIn.main_arg1) = m ((c.tc : Thread Cert.KIn.nD Cert.KIn.τ).loc Cert.KIn.main_arg1))
      ∧ r.2.sem = fun _ => 0)

def quiescent_KInIdeal [hKInIdeal : Cert.KInIdeal.Facts] : Prop :=
  ∀ (m : (ℓ : Loc Cert.KInIdeal.nD Cert.KInIdeal.τ Cert.KInIdeal.sig) → Buf (Elt Ideal) ℓ) (g : Dev Cert.KInIdeal.nD → PrngReg), Pre_KInIdeal m →
    θ_run (Cert.KInIdeal.defs (F := Ideal)) (onTc (τ := Cert.KInIdeal.τ) (Cert.KInIdeal.main (F := Ideal))) ⟨m, fun _ => 0, g⟩ (fun r => (∀ c : Dev Cert.KInIdeal.nD,
      r.2.mem ((c.tc : Thread Cert.KInIdeal.nD Cert.KInIdeal.τ).loc Cert.KInIdeal.main_arg0) = m ((c.tc : Thread Cert.KInIdeal.nD Cert.KInIdeal.τ).loc Cert.KInIdeal.main_arg0)
      ∧ r.2.mem ((c.tc : Thread Cert.KInIdeal.nD Cert.KInIdeal.τ).loc Cert.KInIdeal.main_arg1) = m ((c.tc : Thread Cert.KInIdeal.nD Cert.KInIdeal.τ).loc Cert.KInIdeal.main_arg1))
      ∧ r.2.sem = fun _ => 0)

def quiescent_RInIdeal [hRInIdeal : Cert.RInIdeal.Facts] : Prop :=
  ∀ (m : (ℓ : Loc Cert.RInIdeal.nD Cert.RInIdeal.τ Cert.RInIdeal.sig) → Buf (Elt Ideal) ℓ) (g : Dev Cert.RInIdeal.nD → PrngReg), Pre_RInIdeal m →
    θ_run (Cert.RInIdeal.defs (F := Ideal)) (onTc (τ := Cert.RInIdeal.τ) (Cert.RInIdeal.main (F := Ideal))) ⟨m, fun _ => 0, g⟩ (fun r => (∀ c : Dev Cert.RInIdeal.nD,
      r.2.mem ((c.tc : Thread Cert.RInIdeal.nD Cert.RInIdeal.τ).loc Cert.RInIdeal.main_arg0) = m ((c.tc : Thread Cert.RInIdeal.nD Cert.RInIdeal.τ).loc Cert.RInIdeal.main_arg0)
      ∧ r.2.mem ((c.tc : Thread Cert.RInIdeal.nD Cert.RInIdeal.τ).loc Cert.RInIdeal.main_arg1) = m ((c.tc : Thread Cert.RInIdeal.nD Cert.RInIdeal.τ).loc Cert.RInIdeal.main_arg1))
      ∧ r.2.sem = fun _ => 0)

def quiescent_KInDx [hKInDx : Cert.KInDx.Facts] : Prop :=
  ∀ (m : (ℓ : Loc Cert.KInDx.nD Cert.KInDx.τ Cert.KInDx.sig) → Buf (Elt Bits) ℓ) (g : Dev Cert.KInDx.nD → PrngReg), Pre_KInDx m →
    θ_run (Cert.KInDx.defs (F := Bits)) (onTc (τ := Cert.KInDx.τ) (Cert.KInDx.main (F := Bits))) ⟨m, fun _ => 0, g⟩ (fun r => (∀ c : Dev Cert.KInDx.nD,
      r.2.mem ((c.tc : Thread Cert.KInDx.nD Cert.KInDx.τ).loc Cert.KInDx.main_arg0) = m ((c.tc : Thread Cert.KInDx.nD Cert.KInDx.τ).loc Cert.KInDx.main_arg0)
      ∧ r.2.mem ((c.tc : Thread Cert.KInDx.nD Cert.KInDx.τ).loc Cert.KInDx.main_arg1) = m ((c.tc : Thread Cert.KInDx.nD Cert.KInDx.τ).loc Cert.KInDx.main_arg1))
      ∧ r.2.sem = fun _ => 0)

def quiescent_KInDxIdeal [hKInDxIdeal : Cert.KInDxIdeal.Facts] : Prop :=
  ∀ (m : (ℓ : Loc Cert.KInDxIdeal.nD Cert.KInDxIdeal.τ Cert.KInDxIdeal.sig) → Buf (Elt Ideal) ℓ) (g : Dev Cert.KInDxIdeal.nD → PrngReg), Pre_KInDxIdeal m →
    θ_run (Cert.KInDxIdeal.defs (F := Ideal)) (onTc (τ := Cert.KInDxIdeal.τ) (Cert.KInDxIdeal.main (F := Ideal))) ⟨m, fun _ => 0, g⟩ (fun r => (∀ c : Dev Cert.KInDxIdeal.nD,
      r.2.mem ((c.tc : Thread Cert.KInDxIdeal.nD Cert.KInDxIdeal.τ).loc Cert.KInDxIdeal.main_arg0) = m ((c.tc : Thread Cert.KInDxIdeal.nD Cert.KInDxIdeal.τ).loc Cert.KInDxIdeal.main_arg0)
      ∧ r.2.mem ((c.tc : Thread Cert.KInDxIdeal.nD Cert.KInDxIdeal.τ).loc Cert.KInDxIdeal.main_arg1) = m ((c.tc : Thread Cert.KInDxIdeal.nD Cert.KInDxIdeal.τ).loc Cert.KInDxIdeal.main_arg1))
      ∧ r.2.sem = fun _ => 0)

def quiescent_RInDxIdeal [hRInDxIdeal : Cert.RInDxIdeal.Facts] : Prop :=
  ∀ (m : (ℓ : Loc Cert.RInDxIdeal.nD Cert.RInDxIdeal.τ Cert.RInDxIdeal.sig) → Buf (Elt Ideal) ℓ) (g : Dev Cert.RInDxIdeal.nD → PrngReg), Pre_RInDxIdeal m →
    θ_run (Cert.RInDxIdeal.defs (F := Ideal)) (onTc (τ := Cert.RInDxIdeal.τ) (Cert.RInDxIdeal.main (F := Ideal))) ⟨m, fun _ => 0, g⟩ (fun r => (∀ c : Dev Cert.RInDxIdeal.nD,
      r.2.mem ((c.tc : Thread Cert.RInDxIdeal.nD Cert.RInDxIdeal.τ).loc Cert.RInDxIdeal.main_arg0) = m ((c.tc : Thread Cert.RInDxIdeal.nD Cert.RInDxIdeal.τ).loc Cert.RInDxIdeal.main_arg0)
      ∧ r.2.mem ((c.tc : Thread Cert.RInDxIdeal.nD Cert.RInDxIdeal.τ).loc Cert.RInDxIdeal.main_arg1) = m ((c.tc : Thread Cert.RInDxIdeal.nD Cert.RInDxIdeal.τ).loc Cert.RInDxIdeal.main_arg1))
      ∧ r.2.sem = fun _ => 0)

def quiescent_KInDw [hKInDw : Cert.KInDw.Facts] : Prop :=
  ∀ (m : (ℓ : Loc Cert.KInDw.nD Cert.KInDw.τ Cert.KInDw.sig) → Buf (Elt Bits) ℓ) (g : Dev Cert.KInDw.nD → PrngReg), Pre_KInDw m →
    θ_run (Cert.KInDw.defs (F := Bits)) (onTc (τ := Cert.KInDw.τ) (Cert.KInDw.main (F := Bits))) ⟨m, fun _ => 0, g⟩ (fun r => (∀ c : Dev Cert.KInDw.nD,
      r.2.mem ((c.tc : Thread Cert.KInDw.nD Cert.KInDw.τ).loc Cert.KInDw.main_arg0) = m ((c.tc : Thread Cert.KInDw.nD Cert.KInDw.τ).loc Cert.KInDw.main_arg0)
      ∧ r.2.mem ((c.tc : Thread Cert.KInDw.nD Cert.KInDw.τ).loc Cert.KInDw.main_arg1) = m ((c.tc : Thread Cert.KInDw.nD Cert.KInDw.τ).loc Cert.KInDw.main_arg1))
      ∧ r.2.sem = fun _ => 0)

def quiescent_KInDwIdeal [hKInDwIdeal : Cert.KInDwIdeal.Facts] : Prop :=
  ∀ (m : (ℓ : Loc Cert.KInDwIdeal.nD Cert.KInDwIdeal.τ Cert.KInDwIdeal.sig) → Buf (Elt Ideal) ℓ) (g : Dev Cert.KInDwIdeal.nD → PrngReg), Pre_KInDwIdeal m →
    θ_run (Cert.KInDwIdeal.defs (F := Ideal)) (onTc (τ := Cert.KInDwIdeal.τ) (Cert.KInDwIdeal.main (F := Ideal))) ⟨m, fun _ => 0, g⟩ (fun r => (∀ c : Dev Cert.KInDwIdeal.nD,
      r.2.mem ((c.tc : Thread Cert.KInDwIdeal.nD Cert.KInDwIdeal.τ).loc Cert.KInDwIdeal.main_arg0) = m ((c.tc : Thread Cert.KInDwIdeal.nD Cert.KInDwIdeal.τ).loc Cert.KInDwIdeal.main_arg0)
      ∧ r.2.mem ((c.tc : Thread Cert.KInDwIdeal.nD Cert.KInDwIdeal.τ).loc Cert.KInDwIdeal.main_arg1) = m ((c.tc : Thread Cert.KInDwIdeal.nD Cert.KInDwIdeal.τ).loc Cert.KInDwIdeal.main_arg1))
      ∧ r.2.sem = fun _ => 0)

def quiescent_RInDwIdeal [hRInDwIdeal : Cert.RInDwIdeal.Facts] : Prop :=
  ∀ (m : (ℓ : Loc Cert.RInDwIdeal.nD Cert.RInDwIdeal.τ Cert.RInDwIdeal.sig) → Buf (Elt Ideal) ℓ) (g : Dev Cert.RInDwIdeal.nD → PrngReg), Pre_RInDwIdeal m →
    θ_run (Cert.RInDwIdeal.defs (F := Ideal)) (onTc (τ := Cert.RInDwIdeal.τ) (Cert.RInDwIdeal.main (F := Ideal))) ⟨m, fun _ => 0, g⟩ (fun r => (∀ c : Dev Cert.RInDwIdeal.nD,
      r.2.mem ((c.tc : Thread Cert.RInDwIdeal.nD Cert.RInDwIdeal.τ).loc Cert.RInDwIdeal.main_arg0) = m ((c.tc : Thread Cert.RInDwIdeal.nD Cert.RInDwIdeal.τ).loc Cert.RInDwIdeal.main_arg0)
      ∧ r.2.mem ((c.tc : Thread Cert.RInDwIdeal.nD Cert.RInDwIdeal.τ).loc Cert.RInDwIdeal.main_arg1) = m ((c.tc : Thread Cert.RInDwIdeal.nD Cert.RInDwIdeal.τ).loc Cert.RInDwIdeal.main_arg1))
      ∧ r.2.sem = fun _ => 0)

def quiescent_KDown [hKDown : Cert.KDown.Facts] : Prop :=
  ∀ (m : (ℓ : Loc Cert.KDown.nD Cert.KDown.τ Cert.KDown.sig) → Buf (Elt Bits) ℓ) (g : Dev Cert.KDown.nD → PrngReg), Pre_KDown m →
    θ_run (Cert.KDown.defs (F := Bits)) (onTc (τ := Cert.KDown.τ) (Cert.KDown.main (F := Bits))) ⟨m, fun _ => 0, g⟩ (fun r => (∀ c : Dev Cert.KDown.nD,
      r.2.mem ((c.tc : Thread Cert.KDown.nD Cert.KDown.τ).loc Cert.KDown.main_arg0) = m ((c.tc : Thread Cert.KDown.nD Cert.KDown.τ).loc Cert.KDown.main_arg0)
      ∧ r.2.mem ((c.tc : Thread Cert.KDown.nD Cert.KDown.τ).loc Cert.KDown.main_arg1) = m ((c.tc : Thread Cert.KDown.nD Cert.KDown.τ).loc Cert.KDown.main_arg1)
      ∧ r.2.mem ((c.tc : Thread Cert.KDown.nD Cert.KDown.τ).loc Cert.KDown.main_arg2) = m ((c.tc : Thread Cert.KDown.nD Cert.KDown.τ).loc Cert.KDown.main_arg2))
      ∧ r.2.sem = fun _ => 0)

def quiescent_KDownIdeal [hKDownIdeal : Cert.KDownIdeal.Facts] : Prop :=
  ∀ (m : (ℓ : Loc Cert.KDownIdeal.nD Cert.KDownIdeal.τ Cert.KDownIdeal.sig) → Buf (Elt Ideal) ℓ) (g : Dev Cert.KDownIdeal.nD → PrngReg), Pre_KDownIdeal m →
    θ_run (Cert.KDownIdeal.defs (F := Ideal)) (onTc (τ := Cert.KDownIdeal.τ) (Cert.KDownIdeal.main (F := Ideal))) ⟨m, fun _ => 0, g⟩ (fun r => (∀ c : Dev Cert.KDownIdeal.nD,
      r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
      ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
      ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2))
      ∧ r.2.sem = fun _ => 0)

def quiescent_RDownIdeal [hRDownIdeal : Cert.RDownIdeal.Facts] : Prop :=
  ∀ (m : (ℓ : Loc Cert.RDownIdeal.nD Cert.RDownIdeal.τ Cert.RDownIdeal.sig) → Buf (Elt Ideal) ℓ) (g : Dev Cert.RDownIdeal.nD → PrngReg), Pre_RDownIdeal m →
    θ_run (Cert.RDownIdeal.defs (F := Ideal)) (onTc (τ := Cert.RDownIdeal.τ) (Cert.RDownIdeal.main (F := Ideal))) ⟨m, fun _ => 0, g⟩ (fun r => (∀ c : Dev Cert.RDownIdeal.nD,
      r.2.mem ((c.tc : Thread Cert.RDownIdeal.nD Cert.RDownIdeal.τ).loc Cert.RDownIdeal.main_arg0) = m ((c.tc : Thread Cert.RDownIdeal.nD Cert.RDownIdeal.τ).loc Cert.RDownIdeal.main_arg0)
      ∧ r.2.mem ((c.tc : Thread Cert.RDownIdeal.nD Cert.RDownIdeal.τ).loc Cert.RDownIdeal.main_arg1) = m ((c.tc : Thread Cert.RDownIdeal.nD Cert.RDownIdeal.τ).loc Cert.RDownIdeal.main_arg1)
      ∧ r.2.mem ((c.tc : Thread Cert.RDownIdeal.nD Cert.RDownIdeal.τ).loc Cert.RDownIdeal.main_arg2) = m ((c.tc : Thread Cert.RDownIdeal.nD Cert.RDownIdeal.τ).loc Cert.RDownIdeal.main_arg2))
      ∧ r.2.sem = fun _ => 0)

def quiescent_KDownDx [hKDownDx : Cert.KDownDx.Facts] : Prop :=
  ∀ (m : (ℓ : Loc Cert.KDownDx.nD Cert.KDownDx.τ Cert.KDownDx.sig) → Buf (Elt Bits) ℓ) (g : Dev Cert.KDownDx.nD → PrngReg), Pre_KDownDx m →
    θ_run (Cert.KDownDx.defs (F := Bits)) (onTc (τ := Cert.KDownDx.τ) (Cert.KDownDx.main (F := Bits))) ⟨m, fun _ => 0, g⟩ (fun r => (∀ c : Dev Cert.KDownDx.nD,
      r.2.mem ((c.tc : Thread Cert.KDownDx.nD Cert.KDownDx.τ).loc Cert.KDownDx.main_arg0) = m ((c.tc : Thread Cert.KDownDx.nD Cert.KDownDx.τ).loc Cert.KDownDx.main_arg0)
      ∧ r.2.mem ((c.tc : Thread Cert.KDownDx.nD Cert.KDownDx.τ).loc Cert.KDownDx.main_arg1) = m ((c.tc : Thread Cert.KDownDx.nD Cert.KDownDx.τ).loc Cert.KDownDx.main_arg1))
      ∧ r.2.sem = fun _ => 0)

def quiescent_KDownDxIdeal [hKDownDxIdeal : Cert.KDownDxIdeal.Facts] : Prop :=
  ∀ (m : (ℓ : Loc Cert.KDownDxIdeal.nD Cert.KDownDxIdeal.τ Cert.KDownDxIdeal.sig) → Buf (Elt Ideal) ℓ) (g : Dev Cert.KDownDxIdeal.nD → PrngReg), Pre_KDownDxIdeal m →
    θ_run (Cert.KDownDxIdeal.defs (F := Ideal)) (onTc (τ := Cert.KDownDxIdeal.τ) (Cert.KDownDxIdeal.main (F := Ideal))) ⟨m, fun _ => 0, g⟩ (fun r => (∀ c : Dev Cert.KDownDxIdeal.nD,
      r.2.mem ((c.tc : Thread Cert.KDownDxIdeal.nD Cert.KDownDxIdeal.τ).loc Cert.KDownDxIdeal.main_arg0) = m ((c.tc : Thread Cert.KDownDxIdeal.nD Cert.KDownDxIdeal.τ).loc Cert.KDownDxIdeal.main_arg0)
      ∧ r.2.mem ((c.tc : Thread Cert.KDownDxIdeal.nD Cert.KDownDxIdeal.τ).loc Cert.KDownDxIdeal.main_arg1) = m ((c.tc : Thread Cert.KDownDxIdeal.nD Cert.KDownDxIdeal.τ).loc Cert.KDownDxIdeal.main_arg1))
      ∧ r.2.sem = fun _ => 0)

def quiescent_RDownDxIdeal [hRDownDxIdeal : Cert.RDownDxIdeal.Facts] : Prop :=
  ∀ (m : (ℓ : Loc Cert.RDownDxIdeal.nD Cert.RDownDxIdeal.τ Cert.RDownDxIdeal.sig) → Buf (Elt Ideal) ℓ) (g : Dev Cert.RDownDxIdeal.nD → PrngReg), Pre_RDownDxIdeal m →
    θ_run (Cert.RDownDxIdeal.defs (F := Ideal)) (onTc (τ := Cert.RDownDxIdeal.τ) (Cert.RDownDxIdeal.main (F := Ideal))) ⟨m, fun _ => 0, g⟩ (fun r => (∀ c : Dev Cert.RDownDxIdeal.nD,
      r.2.mem ((c.tc : Thread Cert.RDownDxIdeal.nD Cert.RDownDxIdeal.τ).loc Cert.RDownDxIdeal.main_arg0) = m ((c.tc : Thread Cert.RDownDxIdeal.nD Cert.RDownDxIdeal.τ).loc Cert.RDownDxIdeal.main_arg0)
      ∧ r.2.mem ((c.tc : Thread Cert.RDownDxIdeal.nD Cert.RDownDxIdeal.τ).loc Cert.RDownDxIdeal.main_arg1) = m ((c.tc : Thread Cert.RDownDxIdeal.nD Cert.RDownDxIdeal.τ).loc Cert.RDownDxIdeal.main_arg1))
      ∧ r.2.sem = fun _ => 0)

def quiescent_KDownDw [hKDownDw : Cert.KDownDw.Facts] : Prop :=
  ∀ (m : (ℓ : Loc Cert.KDownDw.nD Cert.KDownDw.τ Cert.KDownDw.sig) → Buf (Elt Bits) ℓ) (g : Dev Cert.KDownDw.nD → PrngReg), Pre_KDownDw m →
    θ_run (Cert.KDownDw.defs (F := Bits)) (onTc (τ := Cert.KDownDw.τ) (Cert.KDownDw.main (F := Bits))) ⟨m, fun _ => 0, g⟩ (fun r => (∀ c : Dev Cert.KDownDw.nD,
      r.2.mem ((c.tc : Thread Cert.KDownDw.nD Cert.KDownDw.τ).loc Cert.KDownDw.main_arg0) = m ((c.tc : Thread Cert.KDownDw.nD Cert.KDownDw.τ).loc Cert.KDownDw.main_arg0)
      ∧ r.2.mem ((c.tc : Thread Cert.KDownDw.nD Cert.KDownDw.τ).loc Cert.KDownDw.main_arg1) = m ((c.tc : Thread Cert.KDownDw.nD Cert.KDownDw.τ).loc Cert.KDownDw.main_arg1))
      ∧ r.2.sem = fun _ => 0)

def quiescent_KDownDwIdeal [hKDownDwIdeal : Cert.KDownDwIdeal.Facts] : Prop :=
  ∀ (m : (ℓ : Loc Cert.KDownDwIdeal.nD Cert.KDownDwIdeal.τ Cert.KDownDwIdeal.sig) → Buf (Elt Ideal) ℓ) (g : Dev Cert.KDownDwIdeal.nD → PrngReg), Pre_KDownDwIdeal m →
    θ_run (Cert.KDownDwIdeal.defs (F := Ideal)) (onTc (τ := Cert.KDownDwIdeal.τ) (Cert.KDownDwIdeal.main (F := Ideal))) ⟨m, fun _ => 0, g⟩ (fun r => (∀ c : Dev Cert.KDownDwIdeal.nD,
      r.2.mem ((c.tc : Thread Cert.KDownDwIdeal.nD Cert.KDownDwIdeal.τ).loc Cert.KDownDwIdeal.main_arg0) = m ((c.tc : Thread Cert.KDownDwIdeal.nD Cert.KDownDwIdeal.τ).loc Cert.KDownDwIdeal.main_arg0)
      ∧ r.2.mem ((c.tc : Thread Cert.KDownDwIdeal.nD Cert.KDownDwIdeal.τ).loc Cert.KDownDwIdeal.main_arg1) = m ((c.tc : Thread Cert.KDownDwIdeal.nD Cert.KDownDwIdeal.τ).loc Cert.KDownDwIdeal.main_arg1))
      ∧ r.2.sem = fun _ => 0)

def quiescent_RDownDwIdeal [hRDownDwIdeal : Cert.RDownDwIdeal.Facts] : Prop :=
  ∀ (m : (ℓ : Loc Cert.RDownDwIdeal.nD Cert.RDownDwIdeal.τ Cert.RDownDwIdeal.sig) → Buf (Elt Ideal) ℓ) (g : Dev Cert.RDownDwIdeal.nD → PrngReg), Pre_RDownDwIdeal m →
    θ_run (Cert.RDownDwIdeal.defs (F := Ideal)) (onTc (τ := Cert.RDownDwIdeal.τ) (Cert.RDownDwIdeal.main (F := Ideal))) ⟨m, fun _ => 0, g⟩ (fun r => (∀ c : Dev Cert.RDownDwIdeal.nD,
      r.2.mem ((c.tc : Thread Cert.RDownDwIdeal.nD Cert.RDownDwIdeal.τ).loc Cert.RDownDwIdeal.main_arg0) = m ((c.tc : Thread Cert.RDownDwIdeal.nD Cert.RDownDwIdeal.τ).loc Cert.RDownDwIdeal.main_arg0)
      ∧ r.2.mem ((c.tc : Thread Cert.RDownDwIdeal.nD Cert.RDownDwIdeal.τ).loc Cert.RDownDwIdeal.main_arg1) = m ((c.tc : Thread Cert.RDownDwIdeal.nD Cert.RDownDwIdeal.τ).loc Cert.RDownDwIdeal.main_arg1))
      ∧ r.2.sem = fun _ => 0)

def quiescent_KSsdOut [hKSsdOut : Cert.KSsdOut.Facts] : Prop :=
  ∀ (m : (ℓ : Loc Cert.KSsdOut.nD Cert.KSsdOut.τ Cert.KSsdOut.sig) → Buf (Elt Bits) ℓ) (g : Dev Cert.KSsdOut.nD → PrngReg), Pre_KSsdOut m →
    θ_run (Cert.KSsdOut.defs (F := Bits)) (onTc (τ := Cert.KSsdOut.τ) (Cert.KSsdOut.main (F := Bits))) ⟨m, fun _ => 0, g⟩ (fun r => (∀ c : Dev Cert.KSsdOut.nD,
      r.2.mem ((c.tc : Thread Cert.KSsdOut.nD Cert.KSsdOut.τ).loc Cert.KSsdOut.main_arg0) = m ((c.tc : Thread Cert.KSsdOut.nD Cert.KSsdOut.τ).loc Cert.KSsdOut.main_arg0)
      ∧ r.2.mem ((c.tc : Thread Cert.KSsdOut.nD Cert.KSsdOut.τ).loc Cert.KSsdOut.main_arg1) = m ((c.tc : Thread Cert.KSsdOut.nD Cert.KSsdOut.τ).loc Cert.KSsdOut.main_arg1))
      ∧ r.2.sem = fun _ => 0)

def quiescent_KSsdOutIdeal [hKSsdOutIdeal : Cert.KSsdOutIdeal.Facts] : Prop :=
  ∀ (m : (ℓ : Loc Cert.KSsdOutIdeal.nD Cert.KSsdOutIdeal.τ Cert.KSsdOutIdeal.sig) → Buf (Elt Ideal) ℓ) (g : Dev Cert.KSsdOutIdeal.nD → PrngReg), Pre_KSsdOutIdeal m →
    θ_run (Cert.KSsdOutIdeal.defs (F := Ideal)) (onTc (τ := Cert.KSsdOutIdeal.τ) (Cert.KSsdOutIdeal.main (F := Ideal))) ⟨m, fun _ => 0, g⟩ (fun r => (∀ c : Dev Cert.KSsdOutIdeal.nD,
      r.2.mem ((c.tc : Thread Cert.KSsdOutIdeal.nD Cert.KSsdOutIdeal.τ).loc Cert.KSsdOutIdeal.main_arg0) = m ((c.tc : Thread Cert.KSsdOutIdeal.nD Cert.KSsdOutIdeal.τ).loc Cert.KSsdOutIdeal.main_arg0)
      ∧ r.2.mem ((c.tc : Thread Cert.KSsdOutIdeal.nD Cert.KSsdOutIdeal.τ).loc Cert.KSsdOutIdeal.main_arg1) = m ((c.tc : Thread Cert.KSsdOutIdeal.nD Cert.KSsdOutIdeal.τ).loc Cert.KSsdOutIdeal.main_arg1))
      ∧ r.2.sem = fun _ => 0)

def quiescent_RSsdOutIdeal [hRSsdOutIdeal : Cert.RSsdOutIdeal.Facts] : Prop :=
  ∀ (m : (ℓ : Loc Cert.RSsdOutIdeal.nD Cert.RSsdOutIdeal.τ Cert.RSsdOutIdeal.sig) → Buf (Elt Ideal) ℓ) (g : Dev Cert.RSsdOutIdeal.nD → PrngReg), Pre_RSsdOutIdeal m →
    θ_run (Cert.RSsdOutIdeal.defs (F := Ideal)) (onTc (τ := Cert.RSsdOutIdeal.τ) (Cert.RSsdOutIdeal.main (F := Ideal))) ⟨m, fun _ => 0, g⟩ (fun r => (∀ c : Dev Cert.RSsdOutIdeal.nD,
      r.2.mem ((c.tc : Thread Cert.RSsdOutIdeal.nD Cert.RSsdOutIdeal.τ).loc Cert.RSsdOutIdeal.main_arg0) = m ((c.tc : Thread Cert.RSsdOutIdeal.nD Cert.RSsdOutIdeal.τ).loc Cert.RSsdOutIdeal.main_arg0)
      ∧ r.2.mem ((c.tc : Thread Cert.RSsdOutIdeal.nD Cert.RSsdOutIdeal.τ).loc Cert.RSsdOutIdeal.main_arg1) = m ((c.tc : Thread Cert.RSsdOutIdeal.nD Cert.RSsdOutIdeal.τ).loc Cert.RSsdOutIdeal.main_arg1))
      ∧ r.2.sem = fun _ => 0)

def quiescent_KSsdOutDx [hKSsdOutDx : Cert.KSsdOutDx.Facts] : Prop :=
  ∀ (m : (ℓ : Loc Cert.KSsdOutDx.nD Cert.KSsdOutDx.τ Cert.KSsdOutDx.sig) → Buf (Elt Bits) ℓ) (g : Dev Cert.KSsdOutDx.nD → PrngReg), Pre_KSsdOutDx m →
    θ_run (Cert.KSsdOutDx.defs (F := Bits)) (onTc (τ := Cert.KSsdOutDx.τ) (Cert.KSsdOutDx.main (F := Bits))) ⟨m, fun _ => 0, g⟩ (fun r => (∀ c : Dev Cert.KSsdOutDx.nD,
      r.2.mem ((c.tc : Thread Cert.KSsdOutDx.nD Cert.KSsdOutDx.τ).loc Cert.KSsdOutDx.main_arg0) = m ((c.tc : Thread Cert.KSsdOutDx.nD Cert.KSsdOutDx.τ).loc Cert.KSsdOutDx.main_arg0)
      ∧ r.2.mem ((c.tc : Thread Cert.KSsdOutDx.nD Cert.KSsdOutDx.τ).loc Cert.KSsdOutDx.main_arg1) = m ((c.tc : Thread Cert.KSsdOutDx.nD Cert.KSsdOutDx.τ).loc Cert.KSsdOutDx.main_arg1))
      ∧ r.2.sem = fun _ => 0)

def quiescent_KSsdOutDxIdeal [hKSsdOutDxIdeal : Cert.KSsdOutDxIdeal.Facts] : Prop :=
  ∀ (m : (ℓ : Loc Cert.KSsdOutDxIdeal.nD Cert.KSsdOutDxIdeal.τ Cert.KSsdOutDxIdeal.sig) → Buf (Elt Ideal) ℓ) (g : Dev Cert.KSsdOutDxIdeal.nD → PrngReg), Pre_KSsdOutDxIdeal m →
    θ_run (Cert.KSsdOutDxIdeal.defs (F := Ideal)) (onTc (τ := Cert.KSsdOutDxIdeal.τ) (Cert.KSsdOutDxIdeal.main (F := Ideal))) ⟨m, fun _ => 0, g⟩ (fun r => (∀ c : Dev Cert.KSsdOutDxIdeal.nD,
      r.2.mem ((c.tc : Thread Cert.KSsdOutDxIdeal.nD Cert.KSsdOutDxIdeal.τ).loc Cert.KSsdOutDxIdeal.main_arg0) = m ((c.tc : Thread Cert.KSsdOutDxIdeal.nD Cert.KSsdOutDxIdeal.τ).loc Cert.KSsdOutDxIdeal.main_arg0)
      ∧ r.2.mem ((c.tc : Thread Cert.KSsdOutDxIdeal.nD Cert.KSsdOutDxIdeal.τ).loc Cert.KSsdOutDxIdeal.main_arg1) = m ((c.tc : Thread Cert.KSsdOutDxIdeal.nD Cert.KSsdOutDxIdeal.τ).loc Cert.KSsdOutDxIdeal.main_arg1))
      ∧ r.2.sem = fun _ => 0)

def quiescent_RSsdOutDxIdeal [hRSsdOutDxIdeal : Cert.RSsdOutDxIdeal.Facts] : Prop :=
  ∀ (m : (ℓ : Loc Cert.RSsdOutDxIdeal.nD Cert.RSsdOutDxIdeal.τ Cert.RSsdOutDxIdeal.sig) → Buf (Elt Ideal) ℓ) (g : Dev Cert.RSsdOutDxIdeal.nD → PrngReg), Pre_RSsdOutDxIdeal m →
    θ_run (Cert.RSsdOutDxIdeal.defs (F := Ideal)) (onTc (τ := Cert.RSsdOutDxIdeal.τ) (Cert.RSsdOutDxIdeal.main (F := Ideal))) ⟨m, fun _ => 0, g⟩ (fun r => (∀ c : Dev Cert.RSsdOutDxIdeal.nD,
      r.2.mem ((c.tc : Thread Cert.RSsdOutDxIdeal.nD Cert.RSsdOutDxIdeal.τ).loc Cert.RSsdOutDxIdeal.main_arg0) = m ((c.tc : Thread Cert.RSsdOutDxIdeal.nD Cert.RSsdOutDxIdeal.τ).loc Cert.RSsdOutDxIdeal.main_arg0)
      ∧ r.2.mem ((c.tc : Thread Cert.RSsdOutDxIdeal.nD Cert.RSsdOutDxIdeal.τ).loc Cert.RSsdOutDxIdeal.main_arg1) = m ((c.tc : Thread Cert.RSsdOutDxIdeal.nD Cert.RSsdOutDxIdeal.τ).loc Cert.RSsdOutDxIdeal.main_arg1))
      ∧ r.2.sem = fun _ => 0)

def quiescent_KSsdOutDw [hKSsdOutDw : Cert.KSsdOutDw.Facts] : Prop :=
  ∀ (m : (ℓ : Loc Cert.KSsdOutDw.nD Cert.KSsdOutDw.τ Cert.KSsdOutDw.sig) → Buf (Elt Bits) ℓ) (g : Dev Cert.KSsdOutDw.nD → PrngReg), Pre_KSsdOutDw m →
    θ_run (Cert.KSsdOutDw.defs (F := Bits)) (onTc (τ := Cert.KSsdOutDw.τ) (Cert.KSsdOutDw.main (F := Bits))) ⟨m, fun _ => 0, g⟩ (fun r => (∀ c : Dev Cert.KSsdOutDw.nD,
      r.2.mem ((c.tc : Thread Cert.KSsdOutDw.nD Cert.KSsdOutDw.τ).loc Cert.KSsdOutDw.main_arg0) = m ((c.tc : Thread Cert.KSsdOutDw.nD Cert.KSsdOutDw.τ).loc Cert.KSsdOutDw.main_arg0)
      ∧ r.2.mem ((c.tc : Thread Cert.KSsdOutDw.nD Cert.KSsdOutDw.τ).loc Cert.KSsdOutDw.main_arg1) = m ((c.tc : Thread Cert.KSsdOutDw.nD Cert.KSsdOutDw.τ).loc Cert.KSsdOutDw.main_arg1))
      ∧ r.2.sem = fun _ => 0)

def quiescent_KSsdOutDwIdeal [hKSsdOutDwIdeal : Cert.KSsdOutDwIdeal.Facts] : Prop :=
  ∀ (m : (ℓ : Loc Cert.KSsdOutDwIdeal.nD Cert.KSsdOutDwIdeal.τ Cert.KSsdOutDwIdeal.sig) → Buf (Elt Ideal) ℓ) (g : Dev Cert.KSsdOutDwIdeal.nD → PrngReg), Pre_KSsdOutDwIdeal m →
    θ_run (Cert.KSsdOutDwIdeal.defs (F := Ideal)) (onTc (τ := Cert.KSsdOutDwIdeal.τ) (Cert.KSsdOutDwIdeal.main (F := Ideal))) ⟨m, fun _ => 0, g⟩ (fun r => (∀ c : Dev Cert.KSsdOutDwIdeal.nD,
      r.2.mem ((c.tc : Thread Cert.KSsdOutDwIdeal.nD Cert.KSsdOutDwIdeal.τ).loc Cert.KSsdOutDwIdeal.main_arg0) = m ((c.tc : Thread Cert.KSsdOutDwIdeal.nD Cert.KSsdOutDwIdeal.τ).loc Cert.KSsdOutDwIdeal.main_arg0)
      ∧ r.2.mem ((c.tc : Thread Cert.KSsdOutDwIdeal.nD Cert.KSsdOutDwIdeal.τ).loc Cert.KSsdOutDwIdeal.main_arg1) = m ((c.tc : Thread Cert.KSsdOutDwIdeal.nD Cert.KSsdOutDwIdeal.τ).loc Cert.KSsdOutDwIdeal.main_arg1))
      ∧ r.2.sem = fun _ => 0)

def quiescent_RSsdOutDwIdeal [hRSsdOutDwIdeal : Cert.RSsdOutDwIdeal.Facts] : Prop :=
  ∀ (m : (ℓ : Loc Cert.RSsdOutDwIdeal.nD Cert.RSsdOutDwIdeal.τ Cert.RSsdOutDwIdeal.sig) → Buf (Elt Ideal) ℓ) (g : Dev Cert.RSsdOutDwIdeal.nD → PrngReg), Pre_RSsdOutDwIdeal m →
    θ_run (Cert.RSsdOutDwIdeal.defs (F := Ideal)) (onTc (τ := Cert.RSsdOutDwIdeal.τ) (Cert.RSsdOutDwIdeal.main (F := Ideal))) ⟨m, fun _ => 0, g⟩ (fun r => (∀ c : Dev Cert.RSsdOutDwIdeal.nD,
      r.2.mem ((c.tc : Thread Cert.RSsdOutDwIdeal.nD Cert.RSsdOutDwIdeal.τ).loc Cert.RSsdOutDwIdeal.main_arg0) = m ((c.tc : Thread Cert.RSsdOutDwIdeal.nD Cert.RSsdOutDwIdeal.τ).loc Cert.RSsdOutDwIdeal.main_arg0)
      ∧ r.2.mem ((c.tc : Thread Cert.RSsdOutDwIdeal.nD Cert.RSsdOutDwIdeal.τ).loc Cert.RSsdOutDwIdeal.main_arg1) = m ((c.tc : Thread Cert.RSsdOutDwIdeal.nD Cert.RSsdOutDwIdeal.τ).loc Cert.RSsdOutDwIdeal.main_arg1))
      ∧ r.2.sem = fun _ => 0)

def quiescent_KUq [hKUq : Cert.KUq.Facts] : Prop :=
  ∀ (m : (ℓ : Loc Cert.KUq.nD Cert.KUq.τ Cert.KUq.sig) → Buf (Elt Bits) ℓ) (g : Dev Cert.KUq.nD → PrngReg), Pre_KUq m →
    θ_run (Cert.KUq.defs (F := Bits)) (onTc (τ := Cert.KUq.τ) (Cert.KUq.main (F := Bits))) ⟨m, fun _ => 0, g⟩ (fun r => (∀ c : Dev Cert.KUq.nD,
      r.2.mem ((c.tc : Thread Cert.KUq.nD Cert.KUq.τ).loc Cert.KUq.main_arg0) = m ((c.tc : Thread Cert.KUq.nD Cert.KUq.τ).loc Cert.KUq.main_arg0)
      ∧ r.2.mem ((c.tc : Thread Cert.KUq.nD Cert.KUq.τ).loc Cert.KUq.main_arg1) = m ((c.tc : Thread Cert.KUq.nD Cert.KUq.τ).loc Cert.KUq.main_arg1))
      ∧ r.2.sem = fun _ => 0)

def quiescent_KUqIdeal [hKUqIdeal : Cert.KUqIdeal.Facts] : Prop :=
  ∀ (m : (ℓ : Loc Cert.KUqIdeal.nD Cert.KUqIdeal.τ Cert.KUqIdeal.sig) → Buf (Elt Ideal) ℓ) (g : Dev Cert.KUqIdeal.nD → PrngReg), Pre_KUqIdeal m →
    θ_run (Cert.KUqIdeal.defs (F := Ideal)) (onTc (τ := Cert.KUqIdeal.τ) (Cert.KUqIdeal.main (F := Ideal))) ⟨m, fun _ => 0, g⟩ (fun r => (∀ c : Dev Cert.KUqIdeal.nD,
      r.2.mem ((c.tc : Thread Cert.KUqIdeal.nD Cert.KUqIdeal.τ).loc Cert.KUqIdeal.main_arg0) = m ((c.tc : Thread Cert.KUqIdeal.nD Cert.KUqIdeal.τ).loc Cert.KUqIdeal.main_arg0)
      ∧ r.2.mem ((c.tc : Thread Cert.KUqIdeal.nD Cert.KUqIdeal.τ).loc Cert.KUqIdeal.main_arg1) = m ((c.tc : Thread Cert.KUqIdeal.nD Cert.KUqIdeal.τ).loc Cert.KUqIdeal.main_arg1))
      ∧ r.2.sem = fun _ => 0)

def quiescent_RUqIdeal [hRUqIdeal : Cert.RUqIdeal.Facts] : Prop :=
  ∀ (m : (ℓ : Loc Cert.RUqIdeal.nD Cert.RUqIdeal.τ Cert.RUqIdeal.sig) → Buf (Elt Ideal) ℓ) (g : Dev Cert.RUqIdeal.nD → PrngReg), Pre_RUqIdeal m →
    θ_run (Cert.RUqIdeal.defs (F := Ideal)) (onTc (τ := Cert.RUqIdeal.τ) (Cert.RUqIdeal.main (F := Ideal))) ⟨m, fun _ => 0, g⟩ (fun r => (∀ c : Dev Cert.RUqIdeal.nD,
      r.2.mem ((c.tc : Thread Cert.RUqIdeal.nD Cert.RUqIdeal.τ).loc Cert.RUqIdeal.main_arg0) = m ((c.tc : Thread Cert.RUqIdeal.nD Cert.RUqIdeal.τ).loc Cert.RUqIdeal.main_arg0)
      ∧ r.2.mem ((c.tc : Thread Cert.RUqIdeal.nD Cert.RUqIdeal.τ).loc Cert.RUqIdeal.main_arg1) = m ((c.tc : Thread Cert.RUqIdeal.nD Cert.RUqIdeal.τ).loc Cert.RUqIdeal.main_arg1))
      ∧ r.2.sem = fun _ => 0)

def quiescent_KUqDx [hKUqDx : Cert.KUqDx.Facts] : Prop :=
  ∀ (m : (ℓ : Loc Cert.KUqDx.nD Cert.KUqDx.τ Cert.KUqDx.sig) → Buf (Elt Bits) ℓ) (g : Dev Cert.KUqDx.nD → PrngReg), Pre_KUqDx m →
    θ_run (Cert.KUqDx.defs (F := Bits)) (onTc (τ := Cert.KUqDx.τ) (Cert.KUqDx.main (F := Bits))) ⟨m, fun _ => 0, g⟩ (fun r => (∀ c : Dev Cert.KUqDx.nD,
      r.2.mem ((c.tc : Thread Cert.KUqDx.nD Cert.KUqDx.τ).loc Cert.KUqDx.main_arg0) = m ((c.tc : Thread Cert.KUqDx.nD Cert.KUqDx.τ).loc Cert.KUqDx.main_arg0)
      ∧ r.2.mem ((c.tc : Thread Cert.KUqDx.nD Cert.KUqDx.τ).loc Cert.KUqDx.main_arg1) = m ((c.tc : Thread Cert.KUqDx.nD Cert.KUqDx.τ).loc Cert.KUqDx.main_arg1))
      ∧ r.2.sem = fun _ => 0)

def quiescent_KUqDxIdeal [hKUqDxIdeal : Cert.KUqDxIdeal.Facts] : Prop :=
  ∀ (m : (ℓ : Loc Cert.KUqDxIdeal.nD Cert.KUqDxIdeal.τ Cert.KUqDxIdeal.sig) → Buf (Elt Ideal) ℓ) (g : Dev Cert.KUqDxIdeal.nD → PrngReg), Pre_KUqDxIdeal m →
    θ_run (Cert.KUqDxIdeal.defs (F := Ideal)) (onTc (τ := Cert.KUqDxIdeal.τ) (Cert.KUqDxIdeal.main (F := Ideal))) ⟨m, fun _ => 0, g⟩ (fun r => (∀ c : Dev Cert.KUqDxIdeal.nD,
      r.2.mem ((c.tc : Thread Cert.KUqDxIdeal.nD Cert.KUqDxIdeal.τ).loc Cert.KUqDxIdeal.main_arg0) = m ((c.tc : Thread Cert.KUqDxIdeal.nD Cert.KUqDxIdeal.τ).loc Cert.KUqDxIdeal.main_arg0)
      ∧ r.2.mem ((c.tc : Thread Cert.KUqDxIdeal.nD Cert.KUqDxIdeal.τ).loc Cert.KUqDxIdeal.main_arg1) = m ((c.tc : Thread Cert.KUqDxIdeal.nD Cert.KUqDxIdeal.τ).loc Cert.KUqDxIdeal.main_arg1))
      ∧ r.2.sem = fun _ => 0)

def quiescent_RUqDxIdeal [hRUqDxIdeal : Cert.RUqDxIdeal.Facts] : Prop :=
  ∀ (m : (ℓ : Loc Cert.RUqDxIdeal.nD Cert.RUqDxIdeal.τ Cert.RUqDxIdeal.sig) → Buf (Elt Ideal) ℓ) (g : Dev Cert.RUqDxIdeal.nD → PrngReg), Pre_RUqDxIdeal m →
    θ_run (Cert.RUqDxIdeal.defs (F := Ideal)) (onTc (τ := Cert.RUqDxIdeal.τ) (Cert.RUqDxIdeal.main (F := Ideal))) ⟨m, fun _ => 0, g⟩ (fun r => (∀ c : Dev Cert.RUqDxIdeal.nD,
      r.2.mem ((c.tc : Thread Cert.RUqDxIdeal.nD Cert.RUqDxIdeal.τ).loc Cert.RUqDxIdeal.main_arg0) = m ((c.tc : Thread Cert.RUqDxIdeal.nD Cert.RUqDxIdeal.τ).loc Cert.RUqDxIdeal.main_arg0)
      ∧ r.2.mem ((c.tc : Thread Cert.RUqDxIdeal.nD Cert.RUqDxIdeal.τ).loc Cert.RUqDxIdeal.main_arg1) = m ((c.tc : Thread Cert.RUqDxIdeal.nD Cert.RUqDxIdeal.τ).loc Cert.RUqDxIdeal.main_arg1))
      ∧ r.2.sem = fun _ => 0)

def quiescent_KUqDw [hKUqDw : Cert.KUqDw.Facts] : Prop :=
  ∀ (m : (ℓ : Loc Cert.KUqDw.nD Cert.KUqDw.τ Cert.KUqDw.sig) → Buf (Elt Bits) ℓ) (g : Dev Cert.KUqDw.nD → PrngReg), Pre_KUqDw m →
    θ_run (Cert.KUqDw.defs (F := Bits)) (onTc (τ := Cert.KUqDw.τ) (Cert.KUqDw.main (F := Bits))) ⟨m, fun _ => 0, g⟩ (fun r => (∀ c : Dev Cert.KUqDw.nD,
      r.2.mem ((c.tc : Thread Cert.KUqDw.nD Cert.KUqDw.τ).loc Cert.KUqDw.main_arg0) = m ((c.tc : Thread Cert.KUqDw.nD Cert.KUqDw.τ).loc Cert.KUqDw.main_arg0)
      ∧ r.2.mem ((c.tc : Thread Cert.KUqDw.nD Cert.KUqDw.τ).loc Cert.KUqDw.main_arg1) = m ((c.tc : Thread Cert.KUqDw.nD Cert.KUqDw.τ).loc Cert.KUqDw.main_arg1))
      ∧ r.2.sem = fun _ => 0)

def quiescent_KUqDwIdeal [hKUqDwIdeal : Cert.KUqDwIdeal.Facts] : Prop :=
  ∀ (m : (ℓ : Loc Cert.KUqDwIdeal.nD Cert.KUqDwIdeal.τ Cert.KUqDwIdeal.sig) → Buf (Elt Ideal) ℓ) (g : Dev Cert.KUqDwIdeal.nD → PrngReg), Pre_KUqDwIdeal m →
    θ_run (Cert.KUqDwIdeal.defs (F := Ideal)) (onTc (τ := Cert.KUqDwIdeal.τ) (Cert.KUqDwIdeal.main (F := Ideal))) ⟨m, fun _ => 0, g⟩ (fun r => (∀ c : Dev Cert.KUqDwIdeal.nD,
      r.2.mem ((c.tc : Thread Cert.KUqDwIdeal.nD Cert.KUqDwIdeal.τ).loc Cert.KUqDwIdeal.main_arg0) = m ((c.tc : Thread Cert.KUqDwIdeal.nD Cert.KUqDwIdeal.τ).loc Cert.KUqDwIdeal.main_arg0)
      ∧ r.2.mem ((c.tc : Thread Cert.KUqDwIdeal.nD Cert.KUqDwIdeal.τ).loc Cert.KUqDwIdeal.main_arg1) = m ((c.tc : Thread Cert.KUqDwIdeal.nD Cert.KUqDwIdeal.τ).loc Cert.KUqDwIdeal.main_arg1))
      ∧ r.2.sem = fun _ => 0)

def quiescent_RUqDwIdeal [hRUqDwIdeal : Cert.RUqDwIdeal.Facts] : Prop :=
  ∀ (m : (ℓ : Loc Cert.RUqDwIdeal.nD Cert.RUqDwIdeal.τ Cert.RUqDwIdeal.sig) → Buf (Elt Ideal) ℓ) (g : Dev Cert.RUqDwIdeal.nD → PrngReg), Pre_RUqDwIdeal m →
    θ_run (Cert.RUqDwIdeal.defs (F := Ideal)) (onTc (τ := Cert.RUqDwIdeal.τ) (Cert.RUqDwIdeal.main (F := Ideal))) ⟨m, fun _ => 0, g⟩ (fun r => (∀ c : Dev Cert.RUqDwIdeal.nD,
      r.2.mem ((c.tc : Thread Cert.RUqDwIdeal.nD Cert.RUqDwIdeal.τ).loc Cert.RUqDwIdeal.main_arg0) = m ((c.tc : Thread Cert.RUqDwIdeal.nD Cert.RUqDwIdeal.τ).loc Cert.RUqDwIdeal.main_arg0)
      ∧ r.2.mem ((c.tc : Thread Cert.RUqDwIdeal.nD Cert.RUqDwIdeal.τ).loc Cert.RUqDwIdeal.main_arg1) = m ((c.tc : Thread Cert.RUqDwIdeal.nD Cert.RUqDwIdeal.τ).loc Cert.RUqDwIdeal.main_arg1))
      ∧ r.2.sem = fun _ => 0)

def quiescent_KUkv [hKUkv : Cert.KUkv.Facts] : Prop :=
  ∀ (m : (ℓ : Loc Cert.KUkv.nD Cert.KUkv.τ Cert.KUkv.sig) → Buf (Elt Bits) ℓ) (g : Dev Cert.KUkv.nD → PrngReg), Pre_KUkv m →
    θ_run (Cert.KUkv.defs (F := Bits)) (onTc (τ := Cert.KUkv.τ) (Cert.KUkv.main (F := Bits))) ⟨m, fun _ => 0, g⟩ (fun r => (∀ c : Dev Cert.KUkv.nD,
      r.2.mem ((c.tc : Thread Cert.KUkv.nD Cert.KUkv.τ).loc Cert.KUkv.main_arg0) = m ((c.tc : Thread Cert.KUkv.nD Cert.KUkv.τ).loc Cert.KUkv.main_arg0)
      ∧ r.2.mem ((c.tc : Thread Cert.KUkv.nD Cert.KUkv.τ).loc Cert.KUkv.main_arg1) = m ((c.tc : Thread Cert.KUkv.nD Cert.KUkv.τ).loc Cert.KUkv.main_arg1))
      ∧ r.2.sem = fun _ => 0)

def quiescent_KUkvIdeal [hKUkvIdeal : Cert.KUkvIdeal.Facts] : Prop :=
  ∀ (m : (ℓ : Loc Cert.KUkvIdeal.nD Cert.KUkvIdeal.τ Cert.KUkvIdeal.sig) → Buf (Elt Ideal) ℓ) (g : Dev Cert.KUkvIdeal.nD → PrngReg), Pre_KUkvIdeal m →
    θ_run (Cert.KUkvIdeal.defs (F := Ideal)) (onTc (τ := Cert.KUkvIdeal.τ) (Cert.KUkvIdeal.main (F := Ideal))) ⟨m, fun _ => 0, g⟩ (fun r => (∀ c : Dev Cert.KUkvIdeal.nD,
      r.2.mem ((c.tc : Thread Cert.KUkvIdeal.nD Cert.KUkvIdeal.τ).loc Cert.KUkvIdeal.main_arg0) = m ((c.tc : Thread Cert.KUkvIdeal.nD Cert.KUkvIdeal.τ).loc Cert.KUkvIdeal.main_arg0)
      ∧ r.2.mem ((c.tc : Thread Cert.KUkvIdeal.nD Cert.KUkvIdeal.τ).loc Cert.KUkvIdeal.main_arg1) = m ((c.tc : Thread Cert.KUkvIdeal.nD Cert.KUkvIdeal.τ).loc Cert.KUkvIdeal.main_arg1))
      ∧ r.2.sem = fun _ => 0)

def quiescent_RUkvIdeal [hRUkvIdeal : Cert.RUkvIdeal.Facts] : Prop :=
  ∀ (m : (ℓ : Loc Cert.RUkvIdeal.nD Cert.RUkvIdeal.τ Cert.RUkvIdeal.sig) → Buf (Elt Ideal) ℓ) (g : Dev Cert.RUkvIdeal.nD → PrngReg), Pre_RUkvIdeal m →
    θ_run (Cert.RUkvIdeal.defs (F := Ideal)) (onTc (τ := Cert.RUkvIdeal.τ) (Cert.RUkvIdeal.main (F := Ideal))) ⟨m, fun _ => 0, g⟩ (fun r => (∀ c : Dev Cert.RUkvIdeal.nD,
      r.2.mem ((c.tc : Thread Cert.RUkvIdeal.nD Cert.RUkvIdeal.τ).loc Cert.RUkvIdeal.main_arg0) = m ((c.tc : Thread Cert.RUkvIdeal.nD Cert.RUkvIdeal.τ).loc Cert.RUkvIdeal.main_arg0)
      ∧ r.2.mem ((c.tc : Thread Cert.RUkvIdeal.nD Cert.RUkvIdeal.τ).loc Cert.RUkvIdeal.main_arg1) = m ((c.tc : Thread Cert.RUkvIdeal.nD Cert.RUkvIdeal.τ).loc Cert.RUkvIdeal.main_arg1))
      ∧ r.2.sem = fun _ => 0)

def quiescent_KUkvDx [hKUkvDx : Cert.KUkvDx.Facts] : Prop :=
  ∀ (m : (ℓ : Loc Cert.KUkvDx.nD Cert.KUkvDx.τ Cert.KUkvDx.sig) → Buf (Elt Bits) ℓ) (g : Dev Cert.KUkvDx.nD → PrngReg), Pre_KUkvDx m →
    θ_run (Cert.KUkvDx.defs (F := Bits)) (onTc (τ := Cert.KUkvDx.τ) (Cert.KUkvDx.main (F := Bits))) ⟨m, fun _ => 0, g⟩ (fun r => (∀ c : Dev Cert.KUkvDx.nD,
      r.2.mem ((c.tc : Thread Cert.KUkvDx.nD Cert.KUkvDx.τ).loc Cert.KUkvDx.main_arg0) = m ((c.tc : Thread Cert.KUkvDx.nD Cert.KUkvDx.τ).loc Cert.KUkvDx.main_arg0)
      ∧ r.2.mem ((c.tc : Thread Cert.KUkvDx.nD Cert.KUkvDx.τ).loc Cert.KUkvDx.main_arg1) = m ((c.tc : Thread Cert.KUkvDx.nD Cert.KUkvDx.τ).loc Cert.KUkvDx.main_arg1))
      ∧ r.2.sem = fun _ => 0)

def quiescent_KUkvDxIdeal [hKUkvDxIdeal : Cert.KUkvDxIdeal.Facts] : Prop :=
  ∀ (m : (ℓ : Loc Cert.KUkvDxIdeal.nD Cert.KUkvDxIdeal.τ Cert.KUkvDxIdeal.sig) → Buf (Elt Ideal) ℓ) (g : Dev Cert.KUkvDxIdeal.nD → PrngReg), Pre_KUkvDxIdeal m →
    θ_run (Cert.KUkvDxIdeal.defs (F := Ideal)) (onTc (τ := Cert.KUkvDxIdeal.τ) (Cert.KUkvDxIdeal.main (F := Ideal))) ⟨m, fun _ => 0, g⟩ (fun r => (∀ c : Dev Cert.KUkvDxIdeal.nD,
      r.2.mem ((c.tc : Thread Cert.KUkvDxIdeal.nD Cert.KUkvDxIdeal.τ).loc Cert.KUkvDxIdeal.main_arg0) = m ((c.tc : Thread Cert.KUkvDxIdeal.nD Cert.KUkvDxIdeal.τ).loc Cert.KUkvDxIdeal.main_arg0)
      ∧ r.2.mem ((c.tc : Thread Cert.KUkvDxIdeal.nD Cert.KUkvDxIdeal.τ).loc Cert.KUkvDxIdeal.main_arg1) = m ((c.tc : Thread Cert.KUkvDxIdeal.nD Cert.KUkvDxIdeal.τ).loc Cert.KUkvDxIdeal.main_arg1))
      ∧ r.2.sem = fun _ => 0)

def quiescent_RUkvDxIdeal [hRUkvDxIdeal : Cert.RUkvDxIdeal.Facts] : Prop :=
  ∀ (m : (ℓ : Loc Cert.RUkvDxIdeal.nD Cert.RUkvDxIdeal.τ Cert.RUkvDxIdeal.sig) → Buf (Elt Ideal) ℓ) (g : Dev Cert.RUkvDxIdeal.nD → PrngReg), Pre_RUkvDxIdeal m →
    θ_run (Cert.RUkvDxIdeal.defs (F := Ideal)) (onTc (τ := Cert.RUkvDxIdeal.τ) (Cert.RUkvDxIdeal.main (F := Ideal))) ⟨m, fun _ => 0, g⟩ (fun r => (∀ c : Dev Cert.RUkvDxIdeal.nD,
      r.2.mem ((c.tc : Thread Cert.RUkvDxIdeal.nD Cert.RUkvDxIdeal.τ).loc Cert.RUkvDxIdeal.main_arg0) = m ((c.tc : Thread Cert.RUkvDxIdeal.nD Cert.RUkvDxIdeal.τ).loc Cert.RUkvDxIdeal.main_arg0)
      ∧ r.2.mem ((c.tc : Thread Cert.RUkvDxIdeal.nD Cert.RUkvDxIdeal.τ).loc Cert.RUkvDxIdeal.main_arg1) = m ((c.tc : Thread Cert.RUkvDxIdeal.nD Cert.RUkvDxIdeal.τ).loc Cert.RUkvDxIdeal.main_arg1))
      ∧ r.2.sem = fun _ => 0)

def quiescent_KUkvDw [hKUkvDw : Cert.KUkvDw.Facts] : Prop :=
  ∀ (m : (ℓ : Loc Cert.KUkvDw.nD Cert.KUkvDw.τ Cert.KUkvDw.sig) → Buf (Elt Bits) ℓ) (g : Dev Cert.KUkvDw.nD → PrngReg), Pre_KUkvDw m →
    θ_run (Cert.KUkvDw.defs (F := Bits)) (onTc (τ := Cert.KUkvDw.τ) (Cert.KUkvDw.main (F := Bits))) ⟨m, fun _ => 0, g⟩ (fun r => (∀ c : Dev Cert.KUkvDw.nD,
      r.2.mem ((c.tc : Thread Cert.KUkvDw.nD Cert.KUkvDw.τ).loc Cert.KUkvDw.main_arg0) = m ((c.tc : Thread Cert.KUkvDw.nD Cert.KUkvDw.τ).loc Cert.KUkvDw.main_arg0)
      ∧ r.2.mem ((c.tc : Thread Cert.KUkvDw.nD Cert.KUkvDw.τ).loc Cert.KUkvDw.main_arg1) = m ((c.tc : Thread Cert.KUkvDw.nD Cert.KUkvDw.τ).loc Cert.KUkvDw.main_arg1))
      ∧ r.2.sem = fun _ => 0)

def quiescent_KUkvDwIdeal [hKUkvDwIdeal : Cert.KUkvDwIdeal.Facts] : Prop :=
  ∀ (m : (ℓ : Loc Cert.KUkvDwIdeal.nD Cert.KUkvDwIdeal.τ Cert.KUkvDwIdeal.sig) → Buf (Elt Ideal) ℓ) (g : Dev Cert.KUkvDwIdeal.nD → PrngReg), Pre_KUkvDwIdeal m →
    θ_run (Cert.KUkvDwIdeal.defs (F := Ideal)) (onTc (τ := Cert.KUkvDwIdeal.τ) (Cert.KUkvDwIdeal.main (F := Ideal))) ⟨m, fun _ => 0, g⟩ (fun r => (∀ c : Dev Cert.KUkvDwIdeal.nD,
      r.2.mem ((c.tc : Thread Cert.KUkvDwIdeal.nD Cert.KUkvDwIdeal.τ).loc Cert.KUkvDwIdeal.main_arg0) = m ((c.tc : Thread Cert.KUkvDwIdeal.nD Cert.KUkvDwIdeal.τ).loc Cert.KUkvDwIdeal.main_arg0)
      ∧ r.2.mem ((c.tc : Thread Cert.KUkvDwIdeal.nD Cert.KUkvDwIdeal.τ).loc Cert.KUkvDwIdeal.main_arg1) = m ((c.tc : Thread Cert.KUkvDwIdeal.nD Cert.KUkvDwIdeal.τ).loc Cert.KUkvDwIdeal.main_arg1))
      ∧ r.2.sem = fun _ => 0)

def quiescent_RUkvDwIdeal [hRUkvDwIdeal : Cert.RUkvDwIdeal.Facts] : Prop :=
  ∀ (m : (ℓ : Loc Cert.RUkvDwIdeal.nD Cert.RUkvDwIdeal.τ Cert.RUkvDwIdeal.sig) → Buf (Elt Ideal) ℓ) (g : Dev Cert.RUkvDwIdeal.nD → PrngReg), Pre_RUkvDwIdeal m →
    θ_run (Cert.RUkvDwIdeal.defs (F := Ideal)) (onTc (τ := Cert.RUkvDwIdeal.τ) (Cert.RUkvDwIdeal.main (F := Ideal))) ⟨m, fun _ => 0, g⟩ (fun r => (∀ c : Dev Cert.RUkvDwIdeal.nD,
      r.2.mem ((c.tc : Thread Cert.RUkvDwIdeal.nD Cert.RUkvDwIdeal.τ).loc Cert.RUkvDwIdeal.main_arg0) = m ((c.tc : Thread Cert.RUkvDwIdeal.nD Cert.RUkvDwIdeal.τ).loc Cert.RUkvDwIdeal.main_arg0)
      ∧ r.2.mem ((c.tc : Thread Cert.RUkvDwIdeal.nD Cert.RUkvDwIdeal.τ).loc Cert.RUkvDwIdeal.main_arg1) = m ((c.tc : Thread Cert.RUkvDwIdeal.nD Cert.RUkvDwIdeal.τ).loc Cert.RUkvDwIdeal.main_arg1))
      ∧ r.2.sem = fun _ => 0)

def quiescent_KMlaOut [hKMlaOut : Cert.KMlaOut.Facts] : Prop :=
  ∀ (m : (ℓ : Loc Cert.KMlaOut.nD Cert.KMlaOut.τ Cert.KMlaOut.sig) → Buf (Elt Bits) ℓ) (g : Dev Cert.KMlaOut.nD → PrngReg), Pre_KMlaOut m →
    θ_run (Cert.KMlaOut.defs (F := Bits)) (onTc (τ := Cert.KMlaOut.τ) (Cert.KMlaOut.main (F := Bits))) ⟨m, fun _ => 0, g⟩ (fun r => (∀ c : Dev Cert.KMlaOut.nD,
      r.2.mem ((c.tc : Thread Cert.KMlaOut.nD Cert.KMlaOut.τ).loc Cert.KMlaOut.main_arg0) = m ((c.tc : Thread Cert.KMlaOut.nD Cert.KMlaOut.τ).loc Cert.KMlaOut.main_arg0)
      ∧ r.2.mem ((c.tc : Thread Cert.KMlaOut.nD Cert.KMlaOut.τ).loc Cert.KMlaOut.main_arg1) = m ((c.tc : Thread Cert.KMlaOut.nD Cert.KMlaOut.τ).loc Cert.KMlaOut.main_arg1))
      ∧ r.2.sem = fun _ => 0)

def quiescent_KMlaOutIdeal [hKMlaOutIdeal : Cert.KMlaOutIdeal.Facts] : Prop :=
  ∀ (m : (ℓ : Loc Cert.KMlaOutIdeal.nD Cert.KMlaOutIdeal.τ Cert.KMlaOutIdeal.sig) → Buf (Elt Ideal) ℓ) (g : Dev Cert.KMlaOutIdeal.nD → PrngReg), Pre_KMlaOutIdeal m →
    θ_run (Cert.KMlaOutIdeal.defs (F := Ideal)) (onTc (τ := Cert.KMlaOutIdeal.τ) (Cert.KMlaOutIdeal.main (F := Ideal))) ⟨m, fun _ => 0, g⟩ (fun r => (∀ c : Dev Cert.KMlaOutIdeal.nD,
      r.2.mem ((c.tc : Thread Cert.KMlaOutIdeal.nD Cert.KMlaOutIdeal.τ).loc Cert.KMlaOutIdeal.main_arg0) = m ((c.tc : Thread Cert.KMlaOutIdeal.nD Cert.KMlaOutIdeal.τ).loc Cert.KMlaOutIdeal.main_arg0)
      ∧ r.2.mem ((c.tc : Thread Cert.KMlaOutIdeal.nD Cert.KMlaOutIdeal.τ).loc Cert.KMlaOutIdeal.main_arg1) = m ((c.tc : Thread Cert.KMlaOutIdeal.nD Cert.KMlaOutIdeal.τ).loc Cert.KMlaOutIdeal.main_arg1))
      ∧ r.2.sem = fun _ => 0)

def quiescent_RMlaOutIdeal [hRMlaOutIdeal : Cert.RMlaOutIdeal.Facts] : Prop :=
  ∀ (m : (ℓ : Loc Cert.RMlaOutIdeal.nD Cert.RMlaOutIdeal.τ Cert.RMlaOutIdeal.sig) → Buf (Elt Ideal) ℓ) (g : Dev Cert.RMlaOutIdeal.nD → PrngReg), Pre_RMlaOutIdeal m →
    θ_run (Cert.RMlaOutIdeal.defs (F := Ideal)) (onTc (τ := Cert.RMlaOutIdeal.τ) (Cert.RMlaOutIdeal.main (F := Ideal))) ⟨m, fun _ => 0, g⟩ (fun r => (∀ c : Dev Cert.RMlaOutIdeal.nD,
      r.2.mem ((c.tc : Thread Cert.RMlaOutIdeal.nD Cert.RMlaOutIdeal.τ).loc Cert.RMlaOutIdeal.main_arg0) = m ((c.tc : Thread Cert.RMlaOutIdeal.nD Cert.RMlaOutIdeal.τ).loc Cert.RMlaOutIdeal.main_arg0)
      ∧ r.2.mem ((c.tc : Thread Cert.RMlaOutIdeal.nD Cert.RMlaOutIdeal.τ).loc Cert.RMlaOutIdeal.main_arg1) = m ((c.tc : Thread Cert.RMlaOutIdeal.nD Cert.RMlaOutIdeal.τ).loc Cert.RMlaOutIdeal.main_arg1))
      ∧ r.2.sem = fun _ => 0)

def quiescent_KMlaOutDx [hKMlaOutDx : Cert.KMlaOutDx.Facts] : Prop :=
  ∀ (m : (ℓ : Loc Cert.KMlaOutDx.nD Cert.KMlaOutDx.τ Cert.KMlaOutDx.sig) → Buf (Elt Bits) ℓ) (g : Dev Cert.KMlaOutDx.nD → PrngReg), Pre_KMlaOutDx m →
    θ_run (Cert.KMlaOutDx.defs (F := Bits)) (onTc (τ := Cert.KMlaOutDx.τ) (Cert.KMlaOutDx.main (F := Bits))) ⟨m, fun _ => 0, g⟩ (fun r => (∀ c : Dev Cert.KMlaOutDx.nD,
      r.2.mem ((c.tc : Thread Cert.KMlaOutDx.nD Cert.KMlaOutDx.τ).loc Cert.KMlaOutDx.main_arg0) = m ((c.tc : Thread Cert.KMlaOutDx.nD Cert.KMlaOutDx.τ).loc Cert.KMlaOutDx.main_arg0)
      ∧ r.2.mem ((c.tc : Thread Cert.KMlaOutDx.nD Cert.KMlaOutDx.τ).loc Cert.KMlaOutDx.main_arg1) = m ((c.tc : Thread Cert.KMlaOutDx.nD Cert.KMlaOutDx.τ).loc Cert.KMlaOutDx.main_arg1))
      ∧ r.2.sem = fun _ => 0)

def quiescent_KMlaOutDxIdeal [hKMlaOutDxIdeal : Cert.KMlaOutDxIdeal.Facts] : Prop :=
  ∀ (m : (ℓ : Loc Cert.KMlaOutDxIdeal.nD Cert.KMlaOutDxIdeal.τ Cert.KMlaOutDxIdeal.sig) → Buf (Elt Ideal) ℓ) (g : Dev Cert.KMlaOutDxIdeal.nD → PrngReg), Pre_KMlaOutDxIdeal m →
    θ_run (Cert.KMlaOutDxIdeal.defs (F := Ideal)) (onTc (τ := Cert.KMlaOutDxIdeal.τ) (Cert.KMlaOutDxIdeal.main (F := Ideal))) ⟨m, fun _ => 0, g⟩ (fun r => (∀ c : Dev Cert.KMlaOutDxIdeal.nD,
      r.2.mem ((c.tc : Thread Cert.KMlaOutDxIdeal.nD Cert.KMlaOutDxIdeal.τ).loc Cert.KMlaOutDxIdeal.main_arg0) = m ((c.tc : Thread Cert.KMlaOutDxIdeal.nD Cert.KMlaOutDxIdeal.τ).loc Cert.KMlaOutDxIdeal.main_arg0)
      ∧ r.2.mem ((c.tc : Thread Cert.KMlaOutDxIdeal.nD Cert.KMlaOutDxIdeal.τ).loc Cert.KMlaOutDxIdeal.main_arg1) = m ((c.tc : Thread Cert.KMlaOutDxIdeal.nD Cert.KMlaOutDxIdeal.τ).loc Cert.KMlaOutDxIdeal.main_arg1))
      ∧ r.2.sem = fun _ => 0)

def quiescent_RMlaOutDxIdeal [hRMlaOutDxIdeal : Cert.RMlaOutDxIdeal.Facts] : Prop :=
  ∀ (m : (ℓ : Loc Cert.RMlaOutDxIdeal.nD Cert.RMlaOutDxIdeal.τ Cert.RMlaOutDxIdeal.sig) → Buf (Elt Ideal) ℓ) (g : Dev Cert.RMlaOutDxIdeal.nD → PrngReg), Pre_RMlaOutDxIdeal m →
    θ_run (Cert.RMlaOutDxIdeal.defs (F := Ideal)) (onTc (τ := Cert.RMlaOutDxIdeal.τ) (Cert.RMlaOutDxIdeal.main (F := Ideal))) ⟨m, fun _ => 0, g⟩ (fun r => (∀ c : Dev Cert.RMlaOutDxIdeal.nD,
      r.2.mem ((c.tc : Thread Cert.RMlaOutDxIdeal.nD Cert.RMlaOutDxIdeal.τ).loc Cert.RMlaOutDxIdeal.main_arg0) = m ((c.tc : Thread Cert.RMlaOutDxIdeal.nD Cert.RMlaOutDxIdeal.τ).loc Cert.RMlaOutDxIdeal.main_arg0)
      ∧ r.2.mem ((c.tc : Thread Cert.RMlaOutDxIdeal.nD Cert.RMlaOutDxIdeal.τ).loc Cert.RMlaOutDxIdeal.main_arg1) = m ((c.tc : Thread Cert.RMlaOutDxIdeal.nD Cert.RMlaOutDxIdeal.τ).loc Cert.RMlaOutDxIdeal.main_arg1))
      ∧ r.2.sem = fun _ => 0)

def quiescent_KMlaOutDw [hKMlaOutDw : Cert.KMlaOutDw.Facts] : Prop :=
  ∀ (m : (ℓ : Loc Cert.KMlaOutDw.nD Cert.KMlaOutDw.τ Cert.KMlaOutDw.sig) → Buf (Elt Bits) ℓ) (g : Dev Cert.KMlaOutDw.nD → PrngReg), Pre_KMlaOutDw m →
    θ_run (Cert.KMlaOutDw.defs (F := Bits)) (onTc (τ := Cert.KMlaOutDw.τ) (Cert.KMlaOutDw.main (F := Bits))) ⟨m, fun _ => 0, g⟩ (fun r => (∀ c : Dev Cert.KMlaOutDw.nD,
      r.2.mem ((c.tc : Thread Cert.KMlaOutDw.nD Cert.KMlaOutDw.τ).loc Cert.KMlaOutDw.main_arg0) = m ((c.tc : Thread Cert.KMlaOutDw.nD Cert.KMlaOutDw.τ).loc Cert.KMlaOutDw.main_arg0)
      ∧ r.2.mem ((c.tc : Thread Cert.KMlaOutDw.nD Cert.KMlaOutDw.τ).loc Cert.KMlaOutDw.main_arg1) = m ((c.tc : Thread Cert.KMlaOutDw.nD Cert.KMlaOutDw.τ).loc Cert.KMlaOutDw.main_arg1))
      ∧ r.2.sem = fun _ => 0)

def quiescent_KMlaOutDwIdeal [hKMlaOutDwIdeal : Cert.KMlaOutDwIdeal.Facts] : Prop :=
  ∀ (m : (ℓ : Loc Cert.KMlaOutDwIdeal.nD Cert.KMlaOutDwIdeal.τ Cert.KMlaOutDwIdeal.sig) → Buf (Elt Ideal) ℓ) (g : Dev Cert.KMlaOutDwIdeal.nD → PrngReg), Pre_KMlaOutDwIdeal m →
    θ_run (Cert.KMlaOutDwIdeal.defs (F := Ideal)) (onTc (τ := Cert.KMlaOutDwIdeal.τ) (Cert.KMlaOutDwIdeal.main (F := Ideal))) ⟨m, fun _ => 0, g⟩ (fun r => (∀ c : Dev Cert.KMlaOutDwIdeal.nD,
      r.2.mem ((c.tc : Thread Cert.KMlaOutDwIdeal.nD Cert.KMlaOutDwIdeal.τ).loc Cert.KMlaOutDwIdeal.main_arg0) = m ((c.tc : Thread Cert.KMlaOutDwIdeal.nD Cert.KMlaOutDwIdeal.τ).loc Cert.KMlaOutDwIdeal.main_arg0)
      ∧ r.2.mem ((c.tc : Thread Cert.KMlaOutDwIdeal.nD Cert.KMlaOutDwIdeal.τ).loc Cert.KMlaOutDwIdeal.main_arg1) = m ((c.tc : Thread Cert.KMlaOutDwIdeal.nD Cert.KMlaOutDwIdeal.τ).loc Cert.KMlaOutDwIdeal.main_arg1))
      ∧ r.2.sem = fun _ => 0)

def quiescent_RMlaOutDwIdeal [hRMlaOutDwIdeal : Cert.RMlaOutDwIdeal.Facts] : Prop :=
  ∀ (m : (ℓ : Loc Cert.RMlaOutDwIdeal.nD Cert.RMlaOutDwIdeal.τ Cert.RMlaOutDwIdeal.sig) → Buf (Elt Ideal) ℓ) (g : Dev Cert.RMlaOutDwIdeal.nD → PrngReg), Pre_RMlaOutDwIdeal m →
    θ_run (Cert.RMlaOutDwIdeal.defs (F := Ideal)) (onTc (τ := Cert.RMlaOutDwIdeal.τ) (Cert.RMlaOutDwIdeal.main (F := Ideal))) ⟨m, fun _ => 0, g⟩ (fun r => (∀ c : Dev Cert.RMlaOutDwIdeal.nD,
      r.2.mem ((c.tc : Thread Cert.RMlaOutDwIdeal.nD Cert.RMlaOutDwIdeal.τ).loc Cert.RMlaOutDwIdeal.main_arg0) = m ((c.tc : Thread Cert.RMlaOutDwIdeal.nD Cert.RMlaOutDwIdeal.τ).loc Cert.RMlaOutDwIdeal.main_arg0)
      ∧ r.2.mem ((c.tc : Thread Cert.RMlaOutDwIdeal.nD Cert.RMlaOutDwIdeal.τ).loc Cert.RMlaOutDwIdeal.main_arg1) = m ((c.tc : Thread Cert.RMlaOutDwIdeal.nD Cert.RMlaOutDwIdeal.τ).loc Cert.RMlaOutDwIdeal.main_arg1))
      ∧ r.2.sem = fun _ => 0)

def quiescent_KOut [hKOut : Cert.KOut.Facts] : Prop :=
  ∀ (m : (ℓ : Loc Cert.KOut.nD Cert.KOut.τ Cert.KOut.sig) → Buf (Elt Bits) ℓ) (g : Dev Cert.KOut.nD → PrngReg), Pre_KOut m →
    θ_run (Cert.KOut.defs (F := Bits)) (onTc (τ := Cert.KOut.τ) (Cert.KOut.main (F := Bits))) ⟨m, fun _ => 0, g⟩ (fun r => (∀ c : Dev Cert.KOut.nD,
      r.2.mem ((c.tc : Thread Cert.KOut.nD Cert.KOut.τ).loc Cert.KOut.main_arg0) = m ((c.tc : Thread Cert.KOut.nD Cert.KOut.τ).loc Cert.KOut.main_arg0)
      ∧ r.2.mem ((c.tc : Thread Cert.KOut.nD Cert.KOut.τ).loc Cert.KOut.main_arg1) = m ((c.tc : Thread Cert.KOut.nD Cert.KOut.τ).loc Cert.KOut.main_arg1)
      ∧ r.2.mem ((c.tc : Thread Cert.KOut.nD Cert.KOut.τ).loc Cert.KOut.main_arg2) = m ((c.tc : Thread Cert.KOut.nD Cert.KOut.τ).loc Cert.KOut.main_arg2))
      ∧ r.2.sem = fun _ => 0)

def quiescent_KOutIdeal [hKOutIdeal : Cert.KOutIdeal.Facts] : Prop :=
  ∀ (m : (ℓ : Loc Cert.KOutIdeal.nD Cert.KOutIdeal.τ Cert.KOutIdeal.sig) → Buf (Elt Ideal) ℓ) (g : Dev Cert.KOutIdeal.nD → PrngReg), Pre_KOutIdeal m →
    θ_run (Cert.KOutIdeal.defs (F := Ideal)) (onTc (τ := Cert.KOutIdeal.τ) (Cert.KOutIdeal.main (F := Ideal))) ⟨m, fun _ => 0, g⟩ (fun r => (∀ c : Dev Cert.KOutIdeal.nD,
      r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
      ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
      ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2))
      ∧ r.2.sem = fun _ => 0)

def quiescent_ROutIdeal [hROutIdeal : Cert.ROutIdeal.Facts] : Prop :=
  ∀ (m : (ℓ : Loc Cert.ROutIdeal.nD Cert.ROutIdeal.τ Cert.ROutIdeal.sig) → Buf (Elt Ideal) ℓ) (g : Dev Cert.ROutIdeal.nD → PrngReg), Pre_ROutIdeal m →
    θ_run (Cert.ROutIdeal.defs (F := Ideal)) (onTc (τ := Cert.ROutIdeal.τ) (Cert.ROutIdeal.main (F := Ideal))) ⟨m, fun _ => 0, g⟩ (fun r => (∀ c : Dev Cert.ROutIdeal.nD,
      r.2.mem ((c.tc : Thread Cert.ROutIdeal.nD Cert.ROutIdeal.τ).loc Cert.ROutIdeal.main_arg0) = m ((c.tc : Thread Cert.ROutIdeal.nD Cert.ROutIdeal.τ).loc Cert.ROutIdeal.main_arg0)
      ∧ r.2.mem ((c.tc : Thread Cert.ROutIdeal.nD Cert.ROutIdeal.τ).loc Cert.ROutIdeal.main_arg1) = m ((c.tc : Thread Cert.ROutIdeal.nD Cert.ROutIdeal.τ).loc Cert.ROutIdeal.main_arg1)
      ∧ r.2.mem ((c.tc : Thread Cert.ROutIdeal.nD Cert.ROutIdeal.τ).loc Cert.ROutIdeal.main_arg2) = m ((c.tc : Thread Cert.ROutIdeal.nD Cert.ROutIdeal.τ).loc Cert.ROutIdeal.main_arg2))
      ∧ r.2.sem = fun _ => 0)

def quiescent_KOutDx [hKOutDx : Cert.KOutDx.Facts] : Prop :=
  ∀ (m : (ℓ : Loc Cert.KOutDx.nD Cert.KOutDx.τ Cert.KOutDx.sig) → Buf (Elt Bits) ℓ) (g : Dev Cert.KOutDx.nD → PrngReg), Pre_KOutDx m →
    θ_run (Cert.KOutDx.defs (F := Bits)) (onTc (τ := Cert.KOutDx.τ) (Cert.KOutDx.main (F := Bits))) ⟨m, fun _ => 0, g⟩ (fun r => (∀ c : Dev Cert.KOutDx.nD,
      r.2.mem ((c.tc : Thread Cert.KOutDx.nD Cert.KOutDx.τ).loc Cert.KOutDx.main_arg0) = m ((c.tc : Thread Cert.KOutDx.nD Cert.KOutDx.τ).loc Cert.KOutDx.main_arg0)
      ∧ r.2.mem ((c.tc : Thread Cert.KOutDx.nD Cert.KOutDx.τ).loc Cert.KOutDx.main_arg1) = m ((c.tc : Thread Cert.KOutDx.nD Cert.KOutDx.τ).loc Cert.KOutDx.main_arg1))
      ∧ r.2.sem = fun _ => 0)

def quiescent_KOutDxIdeal [hKOutDxIdeal : Cert.KOutDxIdeal.Facts] : Prop :=
  ∀ (m : (ℓ : Loc Cert.KOutDxIdeal.nD Cert.KOutDxIdeal.τ Cert.KOutDxIdeal.sig) → Buf (Elt Ideal) ℓ) (g : Dev Cert.KOutDxIdeal.nD → PrngReg), Pre_KOutDxIdeal m →
    θ_run (Cert.KOutDxIdeal.defs (F := Ideal)) (onTc (τ := Cert.KOutDxIdeal.τ) (Cert.KOutDxIdeal.main (F := Ideal))) ⟨m, fun _ => 0, g⟩ (fun r => (∀ c : Dev Cert.KOutDxIdeal.nD,
      r.2.mem ((c.tc : Thread Cert.KOutDxIdeal.nD Cert.KOutDxIdeal.τ).loc Cert.KOutDxIdeal.main_arg0) = m ((c.tc : Thread Cert.KOutDxIdeal.nD Cert.KOutDxIdeal.τ).loc Cert.KOutDxIdeal.main_arg0)
      ∧ r.2.mem ((c.tc : Thread Cert.KOutDxIdeal.nD Cert.KOutDxIdeal.τ).loc Cert.KOutDxIdeal.main_arg1) = m ((c.tc : Thread Cert.KOutDxIdeal.nD Cert.KOutDxIdeal.τ).loc Cert.KOutDxIdeal.main_arg1))
      ∧ r.2.sem = fun _ => 0)

def quiescent_ROutDxIdeal [hROutDxIdeal : Cert.ROutDxIdeal.Facts] : Prop :=
  ∀ (m : (ℓ : Loc Cert.ROutDxIdeal.nD Cert.ROutDxIdeal.τ Cert.ROutDxIdeal.sig) → Buf (Elt Ideal) ℓ) (g : Dev Cert.ROutDxIdeal.nD → PrngReg), Pre_ROutDxIdeal m →
    θ_run (Cert.ROutDxIdeal.defs (F := Ideal)) (onTc (τ := Cert.ROutDxIdeal.τ) (Cert.ROutDxIdeal.main (F := Ideal))) ⟨m, fun _ => 0, g⟩ (fun r => (∀ c : Dev Cert.ROutDxIdeal.nD,
      r.2.mem ((c.tc : Thread Cert.ROutDxIdeal.nD Cert.ROutDxIdeal.τ).loc Cert.ROutDxIdeal.main_arg0) = m ((c.tc : Thread Cert.ROutDxIdeal.nD Cert.ROutDxIdeal.τ).loc Cert.ROutDxIdeal.main_arg0)
      ∧ r.2.mem ((c.tc : Thread Cert.ROutDxIdeal.nD Cert.ROutDxIdeal.τ).loc Cert.ROutDxIdeal.main_arg1) = m ((c.tc : Thread Cert.ROutDxIdeal.nD Cert.ROutDxIdeal.τ).loc Cert.ROutDxIdeal.main_arg1))
      ∧ r.2.sem = fun _ => 0)

def quiescent_KOutDw [hKOutDw : Cert.KOutDw.Facts] : Prop :=
  ∀ (m : (ℓ : Loc Cert.KOutDw.nD Cert.KOutDw.τ Cert.KOutDw.sig) → Buf (Elt Bits) ℓ) (g : Dev Cert.KOutDw.nD → PrngReg), Pre_KOutDw m →
    θ_run (Cert.KOutDw.defs (F := Bits)) (onTc (τ := Cert.KOutDw.τ) (Cert.KOutDw.main (F := Bits))) ⟨m, fun _ => 0, g⟩ (fun r => (∀ c : Dev Cert.KOutDw.nD,
      r.2.mem ((c.tc : Thread Cert.KOutDw.nD Cert.KOutDw.τ).loc Cert.KOutDw.main_arg0) = m ((c.tc : Thread Cert.KOutDw.nD Cert.KOutDw.τ).loc Cert.KOutDw.main_arg0)
      ∧ r.2.mem ((c.tc : Thread Cert.KOutDw.nD Cert.KOutDw.τ).loc Cert.KOutDw.main_arg1) = m ((c.tc : Thread Cert.KOutDw.nD Cert.KOutDw.τ).loc Cert.KOutDw.main_arg1))
      ∧ r.2.sem = fun _ => 0)

def quiescent_KOutDwIdeal [hKOutDwIdeal : Cert.KOutDwIdeal.Facts] : Prop :=
  ∀ (m : (ℓ : Loc Cert.KOutDwIdeal.nD Cert.KOutDwIdeal.τ Cert.KOutDwIdeal.sig) → Buf (Elt Ideal) ℓ) (g : Dev Cert.KOutDwIdeal.nD → PrngReg), Pre_KOutDwIdeal m →
    θ_run (Cert.KOutDwIdeal.defs (F := Ideal)) (onTc (τ := Cert.KOutDwIdeal.τ) (Cert.KOutDwIdeal.main (F := Ideal))) ⟨m, fun _ => 0, g⟩ (fun r => (∀ c : Dev Cert.KOutDwIdeal.nD,
      r.2.mem ((c.tc : Thread Cert.KOutDwIdeal.nD Cert.KOutDwIdeal.τ).loc Cert.KOutDwIdeal.main_arg0) = m ((c.tc : Thread Cert.KOutDwIdeal.nD Cert.KOutDwIdeal.τ).loc Cert.KOutDwIdeal.main_arg0)
      ∧ r.2.mem ((c.tc : Thread Cert.KOutDwIdeal.nD Cert.KOutDwIdeal.τ).loc Cert.KOutDwIdeal.main_arg1) = m ((c.tc : Thread Cert.KOutDwIdeal.nD Cert.KOutDwIdeal.τ).loc Cert.KOutDwIdeal.main_arg1))
      ∧ r.2.sem = fun _ => 0)

def quiescent_ROutDwIdeal [hROutDwIdeal : Cert.ROutDwIdeal.Facts] : Prop :=
  ∀ (m : (ℓ : Loc Cert.ROutDwIdeal.nD Cert.ROutDwIdeal.τ Cert.ROutDwIdeal.sig) → Buf (Elt Ideal) ℓ) (g : Dev Cert.ROutDwIdeal.nD → PrngReg), Pre_ROutDwIdeal m →
    θ_run (Cert.ROutDwIdeal.defs (F := Ideal)) (onTc (τ := Cert.ROutDwIdeal.τ) (Cert.ROutDwIdeal.main (F := Ideal))) ⟨m, fun _ => 0, g⟩ (fun r => (∀ c : Dev Cert.ROutDwIdeal.nD,
      r.2.mem ((c.tc : Thread Cert.ROutDwIdeal.nD Cert.ROutDwIdeal.τ).loc Cert.ROutDwIdeal.main_arg0) = m ((c.tc : Thread Cert.ROutDwIdeal.nD Cert.ROutDwIdeal.τ).loc Cert.ROutDwIdeal.main_arg0)
      ∧ r.2.mem ((c.tc : Thread Cert.ROutDwIdeal.nD Cert.ROutDwIdeal.τ).loc Cert.ROutDwIdeal.main_arg1) = m ((c.tc : Thread Cert.ROutDwIdeal.nD Cert.ROutDwIdeal.τ).loc Cert.ROutDwIdeal.main_arg1))
      ∧ r.2.sem = fun _ => 0)

def quiescent_KNorm [hKNorm : Cert.KNorm.Facts] : Prop :=
  ∀ (m : (ℓ : Loc Cert.KNorm.nD Cert.KNorm.τ Cert.KNorm.sig) → Buf (Elt Bits) ℓ) (g : Dev Cert.KNorm.nD → PrngReg), Pre_KNorm m →
    θ_run (Cert.KNorm.defs (F := Bits)) (onTc (τ := Cert.KNorm.τ) (Cert.KNorm.main (F := Bits))) ⟨m, fun _ => 0, g⟩ (fun r => (∀ c : Dev Cert.KNorm.nD,
      r.2.mem ((c.tc : Thread Cert.KNorm.nD Cert.KNorm.τ).loc Cert.KNorm.main_arg0) = m ((c.tc : Thread Cert.KNorm.nD Cert.KNorm.τ).loc Cert.KNorm.main_arg0)
      ∧ r.2.mem ((c.tc : Thread Cert.KNorm.nD Cert.KNorm.τ).loc Cert.KNorm.main_arg1) = m ((c.tc : Thread Cert.KNorm.nD Cert.KNorm.τ).loc Cert.KNorm.main_arg1))
      ∧ r.2.sem = fun _ => 0)

def quiescent_KNormIdeal [hKNormIdeal : Cert.KNormIdeal.Facts] : Prop :=
  ∀ (m : (ℓ : Loc Cert.KNormIdeal.nD Cert.KNormIdeal.τ Cert.KNormIdeal.sig) → Buf (Elt Ideal) ℓ) (g : Dev Cert.KNormIdeal.nD → PrngReg), Pre_KNormIdeal m →
    θ_run (Cert.KNormIdeal.defs (F := Ideal)) (onTc (τ := Cert.KNormIdeal.τ) (Cert.KNormIdeal.main (F := Ideal))) ⟨m, fun _ => 0, g⟩ (fun r => (∀ c : Dev Cert.KNormIdeal.nD,
      r.2.mem ((c.tc : Thread Cert.KNormIdeal.nD Cert.KNormIdeal.τ).loc Cert.KNormIdeal.main_arg0) = m ((c.tc : Thread Cert.KNormIdeal.nD Cert.KNormIdeal.τ).loc Cert.KNormIdeal.main_arg0)
      ∧ r.2.mem ((c.tc : Thread Cert.KNormIdeal.nD Cert.KNormIdeal.τ).loc Cert.KNormIdeal.main_arg1) = m ((c.tc : Thread Cert.KNormIdeal.nD Cert.KNormIdeal.τ).loc Cert.KNormIdeal.main_arg1))
      ∧ r.2.sem = fun _ => 0)

def quiescent_RNormIdeal [hRNormIdeal : Cert.RNormIdeal.Facts] : Prop :=
  ∀ (m : (ℓ : Loc Cert.RNormIdeal.nD Cert.RNormIdeal.τ Cert.RNormIdeal.sig) → Buf (Elt Ideal) ℓ) (g : Dev Cert.RNormIdeal.nD → PrngReg), Pre_RNormIdeal m →
    θ_run (Cert.RNormIdeal.defs (F := Ideal)) (onTc (τ := Cert.RNormIdeal.τ) (Cert.RNormIdeal.main (F := Ideal))) ⟨m, fun _ => 0, g⟩ (fun r => (∀ c : Dev Cert.RNormIdeal.nD,
      r.2.mem ((c.tc : Thread Cert.RNormIdeal.nD Cert.RNormIdeal.τ).loc Cert.RNormIdeal.main_arg0) = m ((c.tc : Thread Cert.RNormIdeal.nD Cert.RNormIdeal.τ).loc Cert.RNormIdeal.main_arg0)
      ∧ r.2.mem ((c.tc : Thread Cert.RNormIdeal.nD Cert.RNormIdeal.τ).loc Cert.RNormIdeal.main_arg1) = m ((c.tc : Thread Cert.RNormIdeal.nD Cert.RNormIdeal.τ).loc Cert.RNormIdeal.main_arg1))
      ∧ r.2.sem = fun _ => 0)

def quiescent_KGatedNorm [hKGatedNorm : Cert.KGatedNorm.Facts] : Prop :=
  ∀ (m : (ℓ : Loc Cert.KGatedNorm.nD Cert.KGatedNorm.τ Cert.KGatedNorm.sig) → Buf (Elt Bits) ℓ) (g : Dev Cert.KGatedNorm.nD → PrngReg), Pre_KGatedNorm m →
    θ_run (Cert.KGatedNorm.defs (F := Bits)) (onTc (τ := Cert.KGatedNorm.τ) (Cert.KGatedNorm.main (F := Bits))) ⟨m, fun _ => 0, g⟩ (fun r => (∀ c : Dev Cert.KGatedNorm.nD,
      r.2.mem ((c.tc : Thread Cert.KGatedNorm.nD Cert.KGatedNorm.τ).loc Cert.KGatedNorm.main_arg0) = m ((c.tc : Thread Cert.KGatedNorm.nD Cert.KGatedNorm.τ).loc Cert.KGatedNorm.main_arg0)
      ∧ r.2.mem ((c.tc : Thread Cert.KGatedNorm.nD Cert.KGatedNorm.τ).loc Cert.KGatedNorm.main_arg1) = m ((c.tc : Thread Cert.KGatedNorm.nD Cert.KGatedNorm.τ).loc Cert.KGatedNorm.main_arg1)
      ∧ r.2.mem ((c.tc : Thread Cert.KGatedNorm.nD Cert.KGatedNorm.τ).loc Cert.KGatedNorm.main_arg2) = m ((c.tc : Thread Cert.KGatedNorm.nD Cert.KGatedNorm.τ).loc Cert.KGatedNorm.main_arg2))
      ∧ r.2.sem = fun _ => 0)

def quiescent_KGatedNormIdeal [hKGatedNormIdeal : Cert.KGatedNormIdeal.Facts] : Prop :=
  ∀ (m : (ℓ : Loc Cert.KGatedNormIdeal.nD Cert.KGatedNormIdeal.τ Cert.KGatedNormIdeal.sig) → Buf (Elt Ideal) ℓ) (g : Dev Cert.KGatedNormIdeal.nD → PrngReg), Pre_KGatedNormIdeal m →
    θ_run (Cert.KGatedNormIdeal.defs (F := Ideal)) (onTc (τ := Cert.KGatedNormIdeal.τ) (Cert.KGatedNormIdeal.main (F := Ideal))) ⟨m, fun _ => 0, g⟩ (fun r => (∀ c : Dev Cert.KGatedNormIdeal.nD,
      r.2.mem ((c.tc : Thread Cert.KGatedNormIdeal.nD Cert.KGatedNormIdeal.τ).loc Cert.KGatedNormIdeal.main_arg0) = m ((c.tc : Thread Cert.KGatedNormIdeal.nD Cert.KGatedNormIdeal.τ).loc Cert.KGatedNormIdeal.main_arg0)
      ∧ r.2.mem ((c.tc : Thread Cert.KGatedNormIdeal.nD Cert.KGatedNormIdeal.τ).loc Cert.KGatedNormIdeal.main_arg1) = m ((c.tc : Thread Cert.KGatedNormIdeal.nD Cert.KGatedNormIdeal.τ).loc Cert.KGatedNormIdeal.main_arg1)
      ∧ r.2.mem ((c.tc : Thread Cert.KGatedNormIdeal.nD Cert.KGatedNormIdeal.τ).loc Cert.KGatedNormIdeal.main_arg2) = m ((c.tc : Thread Cert.KGatedNormIdeal.nD Cert.KGatedNormIdeal.τ).loc Cert.KGatedNormIdeal.main_arg2))
      ∧ r.2.sem = fun _ => 0)

def quiescent_RGatedNormIdeal [hRGatedNormIdeal : Cert.RGatedNormIdeal.Facts] : Prop :=
  ∀ (m : (ℓ : Loc Cert.RGatedNormIdeal.nD Cert.RGatedNormIdeal.τ Cert.RGatedNormIdeal.sig) → Buf (Elt Ideal) ℓ) (g : Dev Cert.RGatedNormIdeal.nD → PrngReg), Pre_RGatedNormIdeal m →
    θ_run (Cert.RGatedNormIdeal.defs (F := Ideal)) (onTc (τ := Cert.RGatedNormIdeal.τ) (Cert.RGatedNormIdeal.main (F := Ideal))) ⟨m, fun _ => 0, g⟩ (fun r => (∀ c : Dev Cert.RGatedNormIdeal.nD,
      r.2.mem ((c.tc : Thread Cert.RGatedNormIdeal.nD Cert.RGatedNormIdeal.τ).loc Cert.RGatedNormIdeal.main_arg0) = m ((c.tc : Thread Cert.RGatedNormIdeal.nD Cert.RGatedNormIdeal.τ).loc Cert.RGatedNormIdeal.main_arg0)
      ∧ r.2.mem ((c.tc : Thread Cert.RGatedNormIdeal.nD Cert.RGatedNormIdeal.τ).loc Cert.RGatedNormIdeal.main_arg1) = m ((c.tc : Thread Cert.RGatedNormIdeal.nD Cert.RGatedNormIdeal.τ).loc Cert.RGatedNormIdeal.main_arg1)
      ∧ r.2.mem ((c.tc : Thread Cert.RGatedNormIdeal.nD Cert.RGatedNormIdeal.τ).loc Cert.RGatedNormIdeal.main_arg2) = m ((c.tc : Thread Cert.RGatedNormIdeal.nD Cert.RGatedNormIdeal.τ).loc Cert.RGatedNormIdeal.main_arg2))
      ∧ r.2.sem = fun _ => 0)

def quiescent_KMerge [hKMerge : Cert.KMerge.Facts] : Prop :=
  ∀ (m : (ℓ : Loc Cert.KMerge.nD Cert.KMerge.τ Cert.KMerge.sig) → Buf (Elt Bits) ℓ) (g : Dev Cert.KMerge.nD → PrngReg), Pre_KMerge m →
    θ_run (Cert.KMerge.defs (F := Bits)) (onTc (τ := Cert.KMerge.τ) (Cert.KMerge.main (F := Bits))) ⟨m, fun _ => 0, g⟩ (fun r => (∀ c : Dev Cert.KMerge.nD,
      r.2.mem ((c.tc : Thread Cert.KMerge.nD Cert.KMerge.τ).loc Cert.KMerge.main_arg0) = m ((c.tc : Thread Cert.KMerge.nD Cert.KMerge.τ).loc Cert.KMerge.main_arg0)
      ∧ r.2.mem ((c.tc : Thread Cert.KMerge.nD Cert.KMerge.τ).loc Cert.KMerge.main_arg1) = m ((c.tc : Thread Cert.KMerge.nD Cert.KMerge.τ).loc Cert.KMerge.main_arg1)
      ∧ r.2.mem ((c.tc : Thread Cert.KMerge.nD Cert.KMerge.τ).loc Cert.KMerge.main_arg2) = m ((c.tc : Thread Cert.KMerge.nD Cert.KMerge.τ).loc Cert.KMerge.main_arg2))
      ∧ r.2.sem = fun _ => 0)

def quiescent_KMergeIdeal [hKMergeIdeal : Cert.KMergeIdeal.Facts] : Prop :=
  ∀ (m : (ℓ : Loc Cert.KMergeIdeal.nD Cert.KMergeIdeal.τ Cert.KMergeIdeal.sig) → Buf (Elt Ideal) ℓ) (g : Dev Cert.KMergeIdeal.nD → PrngReg), Pre_KMergeIdeal m →
    θ_run (Cert.KMergeIdeal.defs (F := Ideal)) (onTc (τ := Cert.KMergeIdeal.τ) (Cert.KMergeIdeal.main (F := Ideal))) ⟨m, fun _ => 0, g⟩ (fun r => (∀ c : Dev Cert.KMergeIdeal.nD,
      r.2.mem ((c.tc : Thread Cert.KMergeIdeal.nD Cert.KMergeIdeal.τ).loc Cert.KMergeIdeal.main_arg0) = m ((c.tc : Thread Cert.KMergeIdeal.nD Cert.KMergeIdeal.τ).loc Cert.KMergeIdeal.main_arg0)
      ∧ r.2.mem ((c.tc : Thread Cert.KMergeIdeal.nD Cert.KMergeIdeal.τ).loc Cert.KMergeIdeal.main_arg1) = m ((c.tc : Thread Cert.KMergeIdeal.nD Cert.KMergeIdeal.τ).loc Cert.KMergeIdeal.main_arg1)
      ∧ r.2.mem ((c.tc : Thread Cert.KMergeIdeal.nD Cert.KMergeIdeal.τ).loc Cert.KMergeIdeal.main_arg2) = m ((c.tc : Thread Cert.KMergeIdeal.nD Cert.KMergeIdeal.τ).loc Cert.KMergeIdeal.main_arg2))
      ∧ r.2.sem = fun _ => 0)

def quiescent_RMergeIdeal [hRMergeIdeal : Cert.RMergeIdeal.Facts] : Prop :=
  ∀ (m : (ℓ : Loc Cert.RMergeIdeal.nD Cert.RMergeIdeal.τ Cert.RMergeIdeal.sig) → Buf (Elt Ideal) ℓ) (g : Dev Cert.RMergeIdeal.nD → PrngReg), Pre_RMergeIdeal m →
    θ_run (Cert.RMergeIdeal.defs (F := Ideal)) (onTc (τ := Cert.RMergeIdeal.τ) (Cert.RMergeIdeal.main (F := Ideal))) ⟨m, fun _ => 0, g⟩ (fun r => (∀ c : Dev Cert.RMergeIdeal.nD,
      r.2.mem ((c.tc : Thread Cert.RMergeIdeal.nD Cert.RMergeIdeal.τ).loc Cert.RMergeIdeal.main_arg0) = m ((c.tc : Thread Cert.RMergeIdeal.nD Cert.RMergeIdeal.τ).loc Cert.RMergeIdeal.main_arg0)
      ∧ r.2.mem ((c.tc : Thread Cert.RMergeIdeal.nD Cert.RMergeIdeal.τ).loc Cert.RMergeIdeal.main_arg1) = m ((c.tc : Thread Cert.RMergeIdeal.nD Cert.RMergeIdeal.τ).loc Cert.RMergeIdeal.main_arg1)
      ∧ r.2.mem ((c.tc : Thread Cert.RMergeIdeal.nD Cert.RMergeIdeal.τ).loc Cert.RMergeIdeal.main_arg2) = m ((c.tc : Thread Cert.RMergeIdeal.nD Cert.RMergeIdeal.τ).loc Cert.RMergeIdeal.main_arg2))
      ∧ r.2.sem = fun _ => 0)

def quiescent_KAdam [hKAdam : Cert.KAdam.Facts] : Prop :=
  ∀ (m : (ℓ : Loc Cert.KAdam.nD Cert.KAdam.τ Cert.KAdam.sig) → Buf (Elt Bits) ℓ) (g : Dev Cert.KAdam.nD → PrngReg), Pre_KAdam m →
    θ_run (Cert.KAdam.defs (F := Bits)) (onTc (τ := Cert.KAdam.τ) (Cert.KAdam.main (F := Bits))) ⟨m, fun _ => 0, g⟩ (fun r => (∀ c : Dev Cert.KAdam.nD,
      r.2.mem ((c.tc : Thread Cert.KAdam.nD Cert.KAdam.τ).loc Cert.KAdam.main_arg0) = m ((c.tc : Thread Cert.KAdam.nD Cert.KAdam.τ).loc Cert.KAdam.main_arg0)
      ∧ r.2.mem ((c.tc : Thread Cert.KAdam.nD Cert.KAdam.τ).loc Cert.KAdam.main_arg1) = m ((c.tc : Thread Cert.KAdam.nD Cert.KAdam.τ).loc Cert.KAdam.main_arg1)
      ∧ r.2.mem ((c.tc : Thread Cert.KAdam.nD Cert.KAdam.τ).loc Cert.KAdam.main_arg2) = m ((c.tc : Thread Cert.KAdam.nD Cert.KAdam.τ).loc Cert.KAdam.main_arg2)
      ∧ r.2.mem ((c.tc : Thread Cert.KAdam.nD Cert.KAdam.τ).loc Cert.KAdam.main_arg3) = m ((c.tc : Thread Cert.KAdam.nD Cert.KAdam.τ).loc Cert.KAdam.main_arg3))
      ∧ r.2.sem = fun _ => 0)

def quiescent_KAdamIdeal [hKAdamIdeal : Cert.KAdamIdeal.Facts] : Prop :=
  ∀ (m : (ℓ : Loc Cert.KAdamIdeal.nD Cert.KAdamIdeal.τ Cert.KAdamIdeal.sig) → Buf (Elt Ideal) ℓ) (g : Dev Cert.KAdamIdeal.nD → PrngReg), Pre_KAdamIdeal m →
    θ_run (Cert.KAdamIdeal.defs (F := Ideal)) (onTc (τ := Cert.KAdamIdeal.τ) (Cert.KAdamIdeal.main (F := Ideal))) ⟨m, fun _ => 0, g⟩ (fun r => (∀ c : Dev Cert.KAdamIdeal.nD,
      r.2.mem ((c.tc : Thread Cert.KAdamIdeal.nD Cert.KAdamIdeal.τ).loc Cert.KAdamIdeal.main_arg0) = m ((c.tc : Thread Cert.KAdamIdeal.nD Cert.KAdamIdeal.τ).loc Cert.KAdamIdeal.main_arg0)
      ∧ r.2.mem ((c.tc : Thread Cert.KAdamIdeal.nD Cert.KAdamIdeal.τ).loc Cert.KAdamIdeal.main_arg1) = m ((c.tc : Thread Cert.KAdamIdeal.nD Cert.KAdamIdeal.τ).loc Cert.KAdamIdeal.main_arg1)
      ∧ r.2.mem ((c.tc : Thread Cert.KAdamIdeal.nD Cert.KAdamIdeal.τ).loc Cert.KAdamIdeal.main_arg2) = m ((c.tc : Thread Cert.KAdamIdeal.nD Cert.KAdamIdeal.τ).loc Cert.KAdamIdeal.main_arg2)
      ∧ r.2.mem ((c.tc : Thread Cert.KAdamIdeal.nD Cert.KAdamIdeal.τ).loc Cert.KAdamIdeal.main_arg3) = m ((c.tc : Thread Cert.KAdamIdeal.nD Cert.KAdamIdeal.τ).loc Cert.KAdamIdeal.main_arg3))
      ∧ r.2.sem = fun _ => 0)

def quiescent_RAdamIdeal [hRAdamIdeal : Cert.RAdamIdeal.Facts] : Prop :=
  ∀ (m : (ℓ : Loc Cert.RAdamIdeal.nD Cert.RAdamIdeal.τ Cert.RAdamIdeal.sig) → Buf (Elt Ideal) ℓ) (g : Dev Cert.RAdamIdeal.nD → PrngReg), Pre_RAdamIdeal m →
    θ_run (Cert.RAdamIdeal.defs (F := Ideal)) (onTc (τ := Cert.RAdamIdeal.τ) (Cert.RAdamIdeal.main (F := Ideal))) ⟨m, fun _ => 0, g⟩ (fun r => (∀ c : Dev Cert.RAdamIdeal.nD,
      r.2.mem ((c.tc : Thread Cert.RAdamIdeal.nD Cert.RAdamIdeal.τ).loc Cert.RAdamIdeal.main_arg0) = m ((c.tc : Thread Cert.RAdamIdeal.nD Cert.RAdamIdeal.τ).loc Cert.RAdamIdeal.main_arg0)
      ∧ r.2.mem ((c.tc : Thread Cert.RAdamIdeal.nD Cert.RAdamIdeal.τ).loc Cert.RAdamIdeal.main_arg1) = m ((c.tc : Thread Cert.RAdamIdeal.nD Cert.RAdamIdeal.τ).loc Cert.RAdamIdeal.main_arg1)
      ∧ r.2.mem ((c.tc : Thread Cert.RAdamIdeal.nD Cert.RAdamIdeal.τ).loc Cert.RAdamIdeal.main_arg2) = m ((c.tc : Thread Cert.RAdamIdeal.nD Cert.RAdamIdeal.τ).loc Cert.RAdamIdeal.main_arg2)
      ∧ r.2.mem ((c.tc : Thread Cert.RAdamIdeal.nD Cert.RAdamIdeal.τ).loc Cert.RAdamIdeal.main_arg3) = m ((c.tc : Thread Cert.RAdamIdeal.nD Cert.RAdamIdeal.τ).loc Cert.RAdamIdeal.main_arg3))
      ∧ r.2.sem = fun _ => 0)

def quiescent_KQNorm [hKQNorm : Cert.KQNorm.Facts] : Prop :=
  ∀ (m : (ℓ : Loc Cert.KQNorm.nD Cert.KQNorm.τ Cert.KQNorm.sig) → Buf (Elt Bits) ℓ) (g : Dev Cert.KQNorm.nD → PrngReg), Pre_KQNorm m →
    θ_run (Cert.KQNorm.defs (F := Bits)) (onTc (τ := Cert.KQNorm.τ) (Cert.KQNorm.main (F := Bits))) ⟨m, fun _ => 0, g⟩ (fun r => (∀ c : Dev Cert.KQNorm.nD,
      r.2.mem ((c.tc : Thread Cert.KQNorm.nD Cert.KQNorm.τ).loc Cert.KQNorm.main_arg0) = m ((c.tc : Thread Cert.KQNorm.nD Cert.KQNorm.τ).loc Cert.KQNorm.main_arg0)
      ∧ r.2.mem ((c.tc : Thread Cert.KQNorm.nD Cert.KQNorm.τ).loc Cert.KQNorm.main_arg1) = m ((c.tc : Thread Cert.KQNorm.nD Cert.KQNorm.τ).loc Cert.KQNorm.main_arg1))
      ∧ r.2.sem = fun _ => 0)

def quiescent_KQNormIdeal [hKQNormIdeal : Cert.KQNormIdeal.Facts] : Prop :=
  ∀ (m : (ℓ : Loc Cert.KQNormIdeal.nD Cert.KQNormIdeal.τ Cert.KQNormIdeal.sig) → Buf (Elt Ideal) ℓ) (g : Dev Cert.KQNormIdeal.nD → PrngReg), Pre_KQNormIdeal m →
    θ_run (Cert.KQNormIdeal.defs (F := Ideal)) (onTc (τ := Cert.KQNormIdeal.τ) (Cert.KQNormIdeal.main (F := Ideal))) ⟨m, fun _ => 0, g⟩ (fun r => (∀ c : Dev Cert.KQNormIdeal.nD,
      r.2.mem ((c.tc : Thread Cert.KQNormIdeal.nD Cert.KQNormIdeal.τ).loc Cert.KQNormIdeal.main_arg0) = m ((c.tc : Thread Cert.KQNormIdeal.nD Cert.KQNormIdeal.τ).loc Cert.KQNormIdeal.main_arg0)
      ∧ r.2.mem ((c.tc : Thread Cert.KQNormIdeal.nD Cert.KQNormIdeal.τ).loc Cert.KQNormIdeal.main_arg1) = m ((c.tc : Thread Cert.KQNormIdeal.nD Cert.KQNormIdeal.τ).loc Cert.KQNormIdeal.main_arg1))
      ∧ r.2.sem = fun _ => 0)

def quiescent_RQNormIdeal [hRQNormIdeal : Cert.RQNormIdeal.Facts] : Prop :=
  ∀ (m : (ℓ : Loc Cert.RQNormIdeal.nD Cert.RQNormIdeal.τ Cert.RQNormIdeal.sig) → Buf (Elt Ideal) ℓ) (g : Dev Cert.RQNormIdeal.nD → PrngReg), Pre_RQNormIdeal m →
    θ_run (Cert.RQNormIdeal.defs (F := Ideal)) (onTc (τ := Cert.RQNormIdeal.τ) (Cert.RQNormIdeal.main (F := Ideal))) ⟨m, fun _ => 0, g⟩ (fun r => (∀ c : Dev Cert.RQNormIdeal.nD,
      r.2.mem ((c.tc : Thread Cert.RQNormIdeal.nD Cert.RQNormIdeal.τ).loc Cert.RQNormIdeal.main_arg0) = m ((c.tc : Thread Cert.RQNormIdeal.nD Cert.RQNormIdeal.τ).loc Cert.RQNormIdeal.main_arg0)
      ∧ r.2.mem ((c.tc : Thread Cert.RQNormIdeal.nD Cert.RQNormIdeal.τ).loc Cert.RQNormIdeal.main_arg1) = m ((c.tc : Thread Cert.RQNormIdeal.nD Cert.RQNormIdeal.τ).loc Cert.RQNormIdeal.main_arg1))
      ∧ r.2.sem = fun _ => 0)

def quiescent_KKvNorm [hKKvNorm : Cert.KKvNorm.Facts] : Prop :=
  ∀ (m : (ℓ : Loc Cert.KKvNorm.nD Cert.KKvNorm.τ Cert.KKvNorm.sig) → Buf (Elt Bits) ℓ) (g : Dev Cert.KKvNorm.nD → PrngReg), Pre_KKvNorm m →
    θ_run (Cert.KKvNorm.defs (F := Bits)) (onTc (τ := Cert.KKvNorm.τ) (Cert.KKvNorm.main (F := Bits))) ⟨m, fun _ => 0, g⟩ (fun r => (∀ c : Dev Cert.KKvNorm.nD,
      r.2.mem ((c.tc : Thread Cert.KKvNorm.nD Cert.KKvNorm.τ).loc Cert.KKvNorm.main_arg0) = m ((c.tc : Thread Cert.KKvNorm.nD Cert.KKvNorm.τ).loc Cert.KKvNorm.main_arg0)
      ∧ r.2.mem ((c.tc : Thread Cert.KKvNorm.nD Cert.KKvNorm.τ).loc Cert.KKvNorm.main_arg1) = m ((c.tc : Thread Cert.KKvNorm.nD Cert.KKvNorm.τ).loc Cert.KKvNorm.main_arg1))
      ∧ r.2.sem = fun _ => 0)

def quiescent_KKvNormIdeal [hKKvNormIdeal : Cert.KKvNormIdeal.Facts] : Prop :=
  ∀ (m : (ℓ : Loc Cert.KKvNormIdeal.nD Cert.KKvNormIdeal.τ Cert.KKvNormIdeal.sig) → Buf (Elt Ideal) ℓ) (g : Dev Cert.KKvNormIdeal.nD → PrngReg), Pre_KKvNormIdeal m →
    θ_run (Cert.KKvNormIdeal.defs (F := Ideal)) (onTc (τ := Cert.KKvNormIdeal.τ) (Cert.KKvNormIdeal.main (F := Ideal))) ⟨m, fun _ => 0, g⟩ (fun r => (∀ c : Dev Cert.KKvNormIdeal.nD,
      r.2.mem ((c.tc : Thread Cert.KKvNormIdeal.nD Cert.KKvNormIdeal.τ).loc Cert.KKvNormIdeal.main_arg0) = m ((c.tc : Thread Cert.KKvNormIdeal.nD Cert.KKvNormIdeal.τ).loc Cert.KKvNormIdeal.main_arg0)
      ∧ r.2.mem ((c.tc : Thread Cert.KKvNormIdeal.nD Cert.KKvNormIdeal.τ).loc Cert.KKvNormIdeal.main_arg1) = m ((c.tc : Thread Cert.KKvNormIdeal.nD Cert.KKvNormIdeal.τ).loc Cert.KKvNormIdeal.main_arg1))
      ∧ r.2.sem = fun _ => 0)

def quiescent_RKvNormIdeal [hRKvNormIdeal : Cert.RKvNormIdeal.Facts] : Prop :=
  ∀ (m : (ℓ : Loc Cert.RKvNormIdeal.nD Cert.RKvNormIdeal.τ Cert.RKvNormIdeal.sig) → Buf (Elt Ideal) ℓ) (g : Dev Cert.RKvNormIdeal.nD → PrngReg), Pre_RKvNormIdeal m →
    θ_run (Cert.RKvNormIdeal.defs (F := Ideal)) (onTc (τ := Cert.RKvNormIdeal.τ) (Cert.RKvNormIdeal.main (F := Ideal))) ⟨m, fun _ => 0, g⟩ (fun r => (∀ c : Dev Cert.RKvNormIdeal.nD,
      r.2.mem ((c.tc : Thread Cert.RKvNormIdeal.nD Cert.RKvNormIdeal.τ).loc Cert.RKvNormIdeal.main_arg0) = m ((c.tc : Thread Cert.RKvNormIdeal.nD Cert.RKvNormIdeal.τ).loc Cert.RKvNormIdeal.main_arg0)
      ∧ r.2.mem ((c.tc : Thread Cert.RKvNormIdeal.nD Cert.RKvNormIdeal.τ).loc Cert.RKvNormIdeal.main_arg1) = m ((c.tc : Thread Cert.RKvNormIdeal.nD Cert.RKvNormIdeal.τ).loc Cert.RKvNormIdeal.main_arg1))
      ∧ r.2.sem = fun _ => 0)

def quiescent_KMergeDx [hKMergeDx : Cert.KMergeDx.Facts] : Prop :=
  ∀ (m : (ℓ : Loc Cert.KMergeDx.nD Cert.KMergeDx.τ Cert.KMergeDx.sig) → Buf (Elt Bits) ℓ) (g : Dev Cert.KMergeDx.nD → PrngReg), Pre_KMergeDx m →
    θ_run (Cert.KMergeDx.defs (F := Bits)) (onTc (τ := Cert.KMergeDx.τ) (Cert.KMergeDx.main (F := Bits))) ⟨m, fun _ => 0, g⟩ (fun r => (∀ c : Dev Cert.KMergeDx.nD,
      r.2.mem ((c.tc : Thread Cert.KMergeDx.nD Cert.KMergeDx.τ).loc Cert.KMergeDx.main_arg0) = m ((c.tc : Thread Cert.KMergeDx.nD Cert.KMergeDx.τ).loc Cert.KMergeDx.main_arg0)
      ∧ r.2.mem ((c.tc : Thread Cert.KMergeDx.nD Cert.KMergeDx.τ).loc Cert.KMergeDx.main_arg1) = m ((c.tc : Thread Cert.KMergeDx.nD Cert.KMergeDx.τ).loc Cert.KMergeDx.main_arg1)
      ∧ r.2.mem ((c.tc : Thread Cert.KMergeDx.nD Cert.KMergeDx.τ).loc Cert.KMergeDx.main_arg2) = m ((c.tc : Thread Cert.KMergeDx.nD Cert.KMergeDx.τ).loc Cert.KMergeDx.main_arg2)
      ∧ r.2.mem ((c.tc : Thread Cert.KMergeDx.nD Cert.KMergeDx.τ).loc Cert.KMergeDx.main_arg3) = m ((c.tc : Thread Cert.KMergeDx.nD Cert.KMergeDx.τ).loc Cert.KMergeDx.main_arg3))
      ∧ r.2.sem = fun _ => 0)

def quiescent_KMergeDxIdeal [hKMergeDxIdeal : Cert.KMergeDxIdeal.Facts] : Prop :=
  ∀ (m : (ℓ : Loc Cert.KMergeDxIdeal.nD Cert.KMergeDxIdeal.τ Cert.KMergeDxIdeal.sig) → Buf (Elt Ideal) ℓ) (g : Dev Cert.KMergeDxIdeal.nD → PrngReg), Pre_KMergeDxIdeal m →
    θ_run (Cert.KMergeDxIdeal.defs (F := Ideal)) (onTc (τ := Cert.KMergeDxIdeal.τ) (Cert.KMergeDxIdeal.main (F := Ideal))) ⟨m, fun _ => 0, g⟩ (fun r => (∀ c : Dev Cert.KMergeDxIdeal.nD,
      r.2.mem ((c.tc : Thread Cert.KMergeDxIdeal.nD Cert.KMergeDxIdeal.τ).loc Cert.KMergeDxIdeal.main_arg0) = m ((c.tc : Thread Cert.KMergeDxIdeal.nD Cert.KMergeDxIdeal.τ).loc Cert.KMergeDxIdeal.main_arg0)
      ∧ r.2.mem ((c.tc : Thread Cert.KMergeDxIdeal.nD Cert.KMergeDxIdeal.τ).loc Cert.KMergeDxIdeal.main_arg1) = m ((c.tc : Thread Cert.KMergeDxIdeal.nD Cert.KMergeDxIdeal.τ).loc Cert.KMergeDxIdeal.main_arg1)
      ∧ r.2.mem ((c.tc : Thread Cert.KMergeDxIdeal.nD Cert.KMergeDxIdeal.τ).loc Cert.KMergeDxIdeal.main_arg2) = m ((c.tc : Thread Cert.KMergeDxIdeal.nD Cert.KMergeDxIdeal.τ).loc Cert.KMergeDxIdeal.main_arg2)
      ∧ r.2.mem ((c.tc : Thread Cert.KMergeDxIdeal.nD Cert.KMergeDxIdeal.τ).loc Cert.KMergeDxIdeal.main_arg3) = m ((c.tc : Thread Cert.KMergeDxIdeal.nD Cert.KMergeDxIdeal.τ).loc Cert.KMergeDxIdeal.main_arg3))
      ∧ r.2.sem = fun _ => 0)

def quiescent_RMergeDxIdeal [hRMergeDxIdeal : Cert.RMergeDxIdeal.Facts] : Prop :=
  ∀ (m : (ℓ : Loc Cert.RMergeDxIdeal.nD Cert.RMergeDxIdeal.τ Cert.RMergeDxIdeal.sig) → Buf (Elt Ideal) ℓ) (g : Dev Cert.RMergeDxIdeal.nD → PrngReg), Pre_RMergeDxIdeal m →
    θ_run (Cert.RMergeDxIdeal.defs (F := Ideal)) (onTc (τ := Cert.RMergeDxIdeal.τ) (Cert.RMergeDxIdeal.main (F := Ideal))) ⟨m, fun _ => 0, g⟩ (fun r => (∀ c : Dev Cert.RMergeDxIdeal.nD,
      r.2.mem ((c.tc : Thread Cert.RMergeDxIdeal.nD Cert.RMergeDxIdeal.τ).loc Cert.RMergeDxIdeal.main_arg0) = m ((c.tc : Thread Cert.RMergeDxIdeal.nD Cert.RMergeDxIdeal.τ).loc Cert.RMergeDxIdeal.main_arg0)
      ∧ r.2.mem ((c.tc : Thread Cert.RMergeDxIdeal.nD Cert.RMergeDxIdeal.τ).loc Cert.RMergeDxIdeal.main_arg1) = m ((c.tc : Thread Cert.RMergeDxIdeal.nD Cert.RMergeDxIdeal.τ).loc Cert.RMergeDxIdeal.main_arg1)
      ∧ r.2.mem ((c.tc : Thread Cert.RMergeDxIdeal.nD Cert.RMergeDxIdeal.τ).loc Cert.RMergeDxIdeal.main_arg2) = m ((c.tc : Thread Cert.RMergeDxIdeal.nD Cert.RMergeDxIdeal.τ).loc Cert.RMergeDxIdeal.main_arg2)
      ∧ r.2.mem ((c.tc : Thread Cert.RMergeDxIdeal.nD Cert.RMergeDxIdeal.τ).loc Cert.RMergeDxIdeal.main_arg3) = m ((c.tc : Thread Cert.RMergeDxIdeal.nD Cert.RMergeDxIdeal.τ).loc Cert.RMergeDxIdeal.main_arg3))
      ∧ r.2.sem = fun _ => 0)

def quiescent_KLoss [hKLoss : Cert.KLoss.Facts] : Prop :=
  ∀ (m : (ℓ : Loc Cert.KLoss.nD Cert.KLoss.τ Cert.KLoss.sig) → Buf (Elt Bits) ℓ) (g : Dev Cert.KLoss.nD → PrngReg), Pre_KLoss m →
    θ_run (Cert.KLoss.defs (F := Bits)) (onTc (τ := Cert.KLoss.τ) (Cert.KLoss.main (F := Bits))) ⟨m, fun _ => 0, g⟩ (fun r => (∀ c : Dev Cert.KLoss.nD,
      r.2.mem ((c.tc : Thread Cert.KLoss.nD Cert.KLoss.τ).loc Cert.KLoss.main_arg0) = m ((c.tc : Thread Cert.KLoss.nD Cert.KLoss.τ).loc Cert.KLoss.main_arg0)
      ∧ r.2.mem ((c.tc : Thread Cert.KLoss.nD Cert.KLoss.τ).loc Cert.KLoss.main_arg1) = m ((c.tc : Thread Cert.KLoss.nD Cert.KLoss.τ).loc Cert.KLoss.main_arg1))
      ∧ r.2.sem = fun _ => 0)

def quiescent_KLossIdeal [hKLossIdeal : Cert.KLossIdeal.Facts] : Prop :=
  ∀ (m : (ℓ : Loc Cert.KLossIdeal.nD Cert.KLossIdeal.τ Cert.KLossIdeal.sig) → Buf (Elt Ideal) ℓ) (g : Dev Cert.KLossIdeal.nD → PrngReg), Pre_KLossIdeal m →
    θ_run (Cert.KLossIdeal.defs (F := Ideal)) (onTc (τ := Cert.KLossIdeal.τ) (Cert.KLossIdeal.main (F := Ideal))) ⟨m, fun _ => 0, g⟩ (fun r => (∀ c : Dev Cert.KLossIdeal.nD,
      r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
      ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1))
      ∧ r.2.sem = fun _ => 0)

def quiescent_RLossIdeal [hRLossIdeal : Cert.RLossIdeal.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_v53_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_v53_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KUp_KUpIdeal : Prop :=
  True

def algebraic_KUpIdeal_RUpIdeal [hKUpIdeal : Cert.KUpIdeal.Facts] [hRUpIdeal : Cert.RUpIdeal.Facts] : Prop :=
  ∀ (m : (ℓ : Loc Cert.KUpIdeal.nD Cert.KUpIdeal.τ Cert.KUpIdeal.sig) → Buf (Elt Ideal) ℓ) (g : Dev Cert.KUpIdeal.nD → PrngReg)
    (m' : (ℓ : Loc Cert.RUpIdeal.nD Cert.RUpIdeal.τ Cert.RUpIdeal.sig) → Buf (Elt Ideal) ℓ) (g' : Dev Cert.RUpIdeal.nD → PrngReg), Pre_KUpIdeal m →
    (∀ c : Dev Cert.KUpIdeal.nD,
      m' ((c.tc : Thread Cert.RUpIdeal.nD Cert.RUpIdeal.τ).loc Cert.RUpIdeal.main_arg0) = m ((c.tc : Thread Cert.KUpIdeal.nD Cert.KUpIdeal.τ).loc Cert.KUpIdeal.main_arg0)
      ∧ m' ((c.tc : Thread Cert.RUpIdeal.nD Cert.RUpIdeal.τ).loc Cert.RUpIdeal.main_arg1) = m ((c.tc : Thread Cert.KUpIdeal.nD Cert.KUpIdeal.τ).loc Cert.KUpIdeal.main_arg1)) →
    ∃ (v0 : (c : Dev Cert.KUpIdeal.nD) → Buf (Elt Ideal) ((c.tc : Thread Cert.KUpIdeal.nD Cert.KUpIdeal.τ).loc Cert.KUpIdeal.main_v2_0)) (v1 : (c : Dev Cert.KUpIdeal.nD) → Buf (Elt Ideal) ((c.tc : Thread Cert.KUpIdeal.nD Cert.KUpIdeal.τ).loc Cert.KUpIdeal.main_v2_1)) (v2 : (c : Dev Cert.KUpIdeal.nD) → Buf (Elt Ideal) ((c.tc : Thread Cert.KUpIdeal.nD Cert.KUpIdeal.τ).loc Cert.KUpIdeal.main_v2_2)),
      θ_run (Cert.KUpIdeal.defs (F := Ideal)) (onTc (τ := Cert.KUpIdeal.τ) (Cert.KUpIdeal.main (F := Ideal))) ⟨m, fun _ => 0, g⟩ (fun r => ∀ c : Dev Cert.KUpIdeal.nD,
          r.2.mem ((c.tc : Thread Cert.KUpIdeal.nD Cert.KUpIdeal.τ).loc Cert.KUpIdeal.main_v2_0) = v0 c
          ∧ r.2.mem ((c.tc : Thread Cert.KUpIdeal.nD Cert.KUpIdeal.τ).loc Cert.KUpIdeal.main_v2_1) = v1 c
          ∧ r.2.mem ((c.tc : Thread Cert.KUpIdeal.nD Cert.KUpIdeal.τ).loc Cert.KUpIdeal.main_v2_2) = v2 c
          ∧ r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
          ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1))
      ∧ θ_run (Cert.RUpIdeal.defs (F := Ideal)) (onTc (τ := Cert.RUpIdeal.τ) (Cert.RUpIdeal.main (F := Ideal))) ⟨m', fun _ => 0, g'⟩ (fun r => ∀ c : Dev Cert.RUpIdeal.nD,
          r.2.mem ((c.tc : Thread Cert.RUpIdeal.nD Cert.RUpIdeal.τ).loc Cert.RUpIdeal.main_v5) = v0 c
          ∧ r.2.mem ((c.tc : Thread Cert.RUpIdeal.nD Cert.RUpIdeal.τ).loc Cert.RUpIdeal.main_v6) = v1 c
          ∧ r.2.mem ((c.tc : Thread Cert.RUpIdeal.nD Cert.RUpIdeal.τ).loc Cert.RUpIdeal.main_v7) = v2 c
          ∧ r.2.mem ((c.tc : Thread Cert.RUpIdeal.nD Cert.RUpIdeal.τ).loc Cert.RUpIdeal.main_arg0) = m' ((c.tc : Thread Cert.RUpIdeal.nD Cert.RUpIdeal.τ).loc Cert.RUpIdeal.main_arg0)
          ∧ r.2.mem ((c.tc : Thread Cert.RUpIdeal.nD Cert.RUpIdeal.τ).loc Cert.RUpIdeal.main_arg1) = m' ((c.tc : Thread Cert.RUpIdeal.nD Cert.RUpIdeal.τ).loc Cert.RUpIdeal.main_arg1))

def preserves_KUpDx_KUpDxIdeal : Prop :=
  True

def algebraic_KUpDxIdeal_RUpDxIdeal [hKUpDxIdeal : Cert.KUpDxIdeal.Facts] [hRUpDxIdeal : Cert.RUpDxIdeal.Facts] : Prop :=
  ∀ (m : (ℓ : Loc Cert.KUpDxIdeal.nD Cert.KUpDxIdeal.τ Cert.KUpDxIdeal.sig) → Buf (Elt Ideal) ℓ) (g : Dev Cert.KUpDxIdeal.nD → PrngReg)
    (m' : (ℓ : Loc Cert.RUpDxIdeal.nD Cert.RUpDxIdeal.τ Cert.RUpDxIdeal.sig) → Buf (Elt Ideal) ℓ) (g' : Dev Cert.RUpDxIdeal.nD → PrngReg), Pre_KUpDxIdeal m →
    (∀ c : Dev Cert.KUpDxIdeal.nD,
      m' ((c.tc : Thread Cert.RUpDxIdeal.nD Cert.RUpDxIdeal.τ).loc Cert.RUpDxIdeal.main_arg0) = m ((c.tc : Thread Cert.KUpDxIdeal.nD Cert.KUpDxIdeal.τ).loc Cert.KUpDxIdeal.main_arg0)
      ∧ m' ((c.tc : Thread Cert.RUpDxIdeal.nD Cert.RUpDxIdeal.τ).loc Cert.RUpDxIdeal.main_arg1) = m ((c.tc : Thread Cert.KUpDxIdeal.nD Cert.KUpDxIdeal.τ).loc Cert.KUpDxIdeal.main_arg1)) →
    ∃ (v0 : (c : Dev Cert.KUpDxIdeal.nD) → Buf (Elt Ideal) ((c.tc : Thread Cert.KUpDxIdeal.nD Cert.KUpDxIdeal.τ).loc Cert.KUpDxIdeal.main_v2)),
      θ_run (Cert.KUpDxIdeal.defs (F := Ideal)) (onTc (τ := Cert.KUpDxIdeal.τ) (Cert.KUpDxIdeal.main (F := Ideal))) ⟨m, fun _ => 0, g⟩ (fun r => ∀ c : Dev Cert.KUpDxIdeal.nD,
          r.2.mem ((c.tc : Thread Cert.KUpDxIdeal.nD Cert.KUpDxIdeal.τ).loc Cert.KUpDxIdeal.main_v2) = v0 c
          ∧ r.2.mem ((c.tc : Thread Cert.KUpDxIdeal.nD Cert.KUpDxIdeal.τ).loc Cert.KUpDxIdeal.main_arg0) = m ((c.tc : Thread Cert.KUpDxIdeal.nD Cert.KUpDxIdeal.τ).loc Cert.KUpDxIdeal.main_arg0)
          ∧ r.2.mem ((c.tc : Thread Cert.KUpDxIdeal.nD Cert.KUpDxIdeal.τ).loc Cert.KUpDxIdeal.main_arg1) = m ((c.tc : Thread Cert.KUpDxIdeal.nD Cert.KUpDxIdeal.τ).loc Cert.KUpDxIdeal.main_arg1))
      ∧ θ_run (Cert.RUpDxIdeal.defs (F := Ideal)) (onTc (τ := Cert.RUpDxIdeal.τ) (Cert.RUpDxIdeal.main (F := Ideal))) ⟨m', fun _ => 0, g'⟩ (fun r => ∀ c : Dev Cert.RUpDxIdeal.nD,
          r.2.mem ((c.tc : Thread Cert.RUpDxIdeal.nD Cert.RUpDxIdeal.τ).loc Cert.RUpDxIdeal.main_v2) = v0 c
          ∧ r.2.mem ((c.tc : Thread Cert.RUpDxIdeal.nD Cert.RUpDxIdeal.τ).loc Cert.RUpDxIdeal.main_arg0) = m' ((c.tc : Thread Cert.RUpDxIdeal.nD Cert.RUpDxIdeal.τ).loc Cert.RUpDxIdeal.main_arg0)
          ∧ r.2.mem ((c.tc : Thread Cert.RUpDxIdeal.nD Cert.RUpDxIdeal.τ).loc Cert.RUpDxIdeal.main_arg1) = m' ((c.tc : Thread Cert.RUpDxIdeal.nD Cert.RUpDxIdeal.τ).loc Cert.RUpDxIdeal.main_arg1))

def preserves_KUpDw_KUpDwIdeal : Prop :=
  True

def algebraic_KUpDwIdeal_RUpDwIdeal [hKUpDwIdeal : Cert.KUpDwIdeal.Facts] [hRUpDwIdeal : Cert.RUpDwIdeal.Facts] : Prop :=
  ∀ (m : (ℓ : Loc Cert.KUpDwIdeal.nD Cert.KUpDwIdeal.τ Cert.KUpDwIdeal.sig) → Buf (Elt Ideal) ℓ) (g : Dev Cert.KUpDwIdeal.nD → PrngReg)
    (m' : (ℓ : Loc Cert.RUpDwIdeal.nD Cert.RUpDwIdeal.τ Cert.RUpDwIdeal.sig) → Buf (Elt Ideal) ℓ) (g' : Dev Cert.RUpDwIdeal.nD → PrngReg), Pre_KUpDwIdeal m →
    (∀ c : Dev Cert.KUpDwIdeal.nD,
      m' ((c.tc : Thread Cert.RUpDwIdeal.nD Cert.RUpDwIdeal.τ).loc Cert.RUpDwIdeal.main_arg0) = m ((c.tc : Thread Cert.KUpDwIdeal.nD Cert.KUpDwIdeal.τ).loc Cert.KUpDwIdeal.main_arg0)
      ∧ m' ((c.tc : Thread Cert.RUpDwIdeal.nD Cert.RUpDwIdeal.τ).loc Cert.RUpDwIdeal.main_arg1) = m ((c.tc : Thread Cert.KUpDwIdeal.nD Cert.KUpDwIdeal.τ).loc Cert.KUpDwIdeal.main_arg1)) →
    ∃ (v0 : (c : Dev Cert.KUpDwIdeal.nD) → Buf (Elt Ideal) ((c.tc : Thread Cert.KUpDwIdeal.nD Cert.KUpDwIdeal.τ).loc Cert.KUpDwIdeal.main_v2)),
      θ_run (Cert.KUpDwIdeal.defs (F := Ideal)) (onTc (τ := Cert.KUpDwIdeal.τ) (Cert.KUpDwIdeal.main (F := Ideal))) ⟨m, fun _ => 0, g⟩ (fun r => ∀ c : Dev Cert.KUpDwIdeal.nD,
          r.2.mem ((c.tc : Thread Cert.KUpDwIdeal.nD Cert.KUpDwIdeal.τ).loc Cert.KUpDwIdeal.main_v2) = v0 c
          ∧ r.2.mem ((c.tc : Thread Cert.KUpDwIdeal.nD Cert.KUpDwIdeal.τ).loc Cert.KUpDwIdeal.main_arg0) = m ((c.tc : Thread Cert.KUpDwIdeal.nD Cert.KUpDwIdeal.τ).loc Cert.KUpDwIdeal.main_arg0)
          ∧ r.2.mem ((c.tc : Thread Cert.KUpDwIdeal.nD Cert.KUpDwIdeal.τ).loc Cert.KUpDwIdeal.main_arg1) = m ((c.tc : Thread Cert.KUpDwIdeal.nD Cert.KUpDwIdeal.τ).loc Cert.KUpDwIdeal.main_arg1))
      ∧ θ_run (Cert.RUpDwIdeal.defs (F := Ideal)) (onTc (τ := Cert.RUpDwIdeal.τ) (Cert.RUpDwIdeal.main (F := Ideal))) ⟨m', fun _ => 0, g'⟩ (fun r => ∀ c : Dev Cert.RUpDwIdeal.nD,
          r.2.mem ((c.tc : Thread Cert.RUpDwIdeal.nD Cert.RUpDwIdeal.τ).loc Cert.RUpDwIdeal.main_v3) = v0 c
          ∧ r.2.mem ((c.tc : Thread Cert.RUpDwIdeal.nD Cert.RUpDwIdeal.τ).loc Cert.RUpDwIdeal.main_arg0) = m' ((c.tc : Thread Cert.RUpDwIdeal.nD Cert.RUpDwIdeal.τ).loc Cert.RUpDwIdeal.main_arg0)
          ∧ r.2.mem ((c.tc : Thread Cert.RUpDwIdeal.nD Cert.RUpDwIdeal.τ).loc Cert.RUpDwIdeal.main_arg1) = m' ((c.tc : Thread Cert.RUpDwIdeal.nD Cert.RUpDwIdeal.τ).loc Cert.RUpDwIdeal.main_arg1))

def preserves_KIn_KInIdeal : Prop :=
  True

def algebraic_KInIdeal_RInIdeal [hKInIdeal : Cert.KInIdeal.Facts] [hRInIdeal : Cert.RInIdeal.Facts] : Prop :=
  ∀ (m : (ℓ : Loc Cert.KInIdeal.nD Cert.KInIdeal.τ Cert.KInIdeal.sig) → Buf (Elt Ideal) ℓ) (g : Dev Cert.KInIdeal.nD → PrngReg)
    (m' : (ℓ : Loc Cert.RInIdeal.nD Cert.RInIdeal.τ Cert.RInIdeal.sig) → Buf (Elt Ideal) ℓ) (g' : Dev Cert.RInIdeal.nD → PrngReg), Pre_KInIdeal m →
    (∀ c : Dev Cert.KInIdeal.nD,
      m' ((c.tc : Thread Cert.RInIdeal.nD Cert.RInIdeal.τ).loc Cert.RInIdeal.main_arg0) = m ((c.tc : Thread Cert.KInIdeal.nD Cert.KInIdeal.τ).loc Cert.KInIdeal.main_arg0)
      ∧ m' ((c.tc : Thread Cert.RInIdeal.nD Cert.RInIdeal.τ).loc Cert.RInIdeal.main_arg1) = m ((c.tc : Thread Cert.KInIdeal.nD Cert.KInIdeal.τ).loc Cert.KInIdeal.main_arg1)) →
    ∃ (v0 : (c : Dev Cert.KInIdeal.nD) → Buf (Elt Ideal) ((c.tc : Thread Cert.KInIdeal.nD Cert.KInIdeal.τ).loc Cert.KInIdeal.main_v2)),
      θ_run (Cert.KInIdeal.defs (F := Ideal)) (onTc (τ := Cert.KInIdeal.τ) (Cert.KInIdeal.main (F := Ideal))) ⟨m, fun _ => 0, g⟩ (fun r => ∀ c : Dev Cert.KInIdeal.nD,
          r.2.mem ((c.tc : Thread Cert.KInIdeal.nD Cert.KInIdeal.τ).loc Cert.KInIdeal.main_v2) = v0 c
          ∧ r.2.mem ((c.tc : Thread Cert.KInIdeal.nD Cert.KInIdeal.τ).loc Cert.KInIdeal.main_arg0) = m ((c.tc : Thread Cert.KInIdeal.nD Cert.KInIdeal.τ).loc Cert.KInIdeal.main_arg0)
          ∧ r.2.mem ((c.tc : Thread Cert.KInIdeal.nD Cert.KInIdeal.τ).loc Cert.KInIdeal.main_arg1) = m ((c.tc : Thread Cert.KInIdeal.nD Cert.KInIdeal.τ).loc Cert.KInIdeal.main_arg1))
      ∧ θ_run (Cert.RInIdeal.defs (F := Ideal)) (onTc (τ := Cert.RInIdeal.τ) (Cert.RInIdeal.main (F := Ideal))) ⟨m', fun _ => 0, g'⟩ (fun r => ∀ c : Dev Cert.RInIdeal.nD,
          r.2.mem ((c.tc : Thread Cert.RInIdeal.nD Cert.RInIdeal.τ).loc Cert.RInIdeal.main_v0) = v0 c
          ∧ r.2.mem ((c.tc : Thread Cert.RInIdeal.nD Cert.RInIdeal.τ).loc Cert.RInIdeal.main_arg0) = m' ((c.tc : Thread Cert.RInIdeal.nD Cert.RInIdeal.τ).loc Cert.RInIdeal.main_arg0)
          ∧ r.2.mem ((c.tc : Thread Cert.RInIdeal.nD Cert.RInIdeal.τ).loc Cert.RInIdeal.main_arg1) = m' ((c.tc : Thread Cert.RInIdeal.nD Cert.RInIdeal.τ).loc Cert.RInIdeal.main_arg1))

def preserves_KInDx_KInDxIdeal : Prop :=
  True

def algebraic_KInDxIdeal_RInDxIdeal [hKInDxIdeal : Cert.KInDxIdeal.Facts] [hRInDxIdeal : Cert.RInDxIdeal.Facts] : Prop :=
  ∀ (m : (ℓ : Loc Cert.KInDxIdeal.nD Cert.KInDxIdeal.τ Cert.KInDxIdeal.sig) → Buf (Elt Ideal) ℓ) (g : Dev Cert.KInDxIdeal.nD → PrngReg)
    (m' : (ℓ : Loc Cert.RInDxIdeal.nD Cert.RInDxIdeal.τ Cert.RInDxIdeal.sig) → Buf (Elt Ideal) ℓ) (g' : Dev Cert.RInDxIdeal.nD → PrngReg), Pre_KInDxIdeal m →
    (∀ c : Dev Cert.KInDxIdeal.nD,
      m' ((c.tc : Thread Cert.RInDxIdeal.nD Cert.RInDxIdeal.τ).loc Cert.RInDxIdeal.main_arg0) = m ((c.tc : Thread Cert.KInDxIdeal.nD Cert.KInDxIdeal.τ).loc Cert.KInDxIdeal.main_arg0)
      ∧ m' ((c.tc : Thread Cert.RInDxIdeal.nD Cert.RInDxIdeal.τ).loc Cert.RInDxIdeal.main_arg1) = m ((c.tc : Thread Cert.KInDxIdeal.nD Cert.KInDxIdeal.τ).loc Cert.KInDxIdeal.main_arg1)) →
    ∃ (v0 : (c : Dev Cert.KInDxIdeal.nD) → Buf (Elt Ideal) ((c.tc : Thread Cert.KInDxIdeal.nD Cert.KInDxIdeal.τ).loc Cert.KInDxIdeal.main_v2)),
      θ_run (Cert.KInDxIdeal.defs (F := Ideal)) (onTc (τ := Cert.KInDxIdeal.τ) (Cert.KInDxIdeal.main (F := Ideal))) ⟨m, fun _ => 0, g⟩ (fun r => ∀ c : Dev Cert.KInDxIdeal.nD,
          r.2.mem ((c.tc : Thread Cert.KInDxIdeal.nD Cert.KInDxIdeal.τ).loc Cert.KInDxIdeal.main_v2) = v0 c
          ∧ r.2.mem ((c.tc : Thread Cert.KInDxIdeal.nD Cert.KInDxIdeal.τ).loc Cert.KInDxIdeal.main_arg0) = m ((c.tc : Thread Cert.KInDxIdeal.nD Cert.KInDxIdeal.τ).loc Cert.KInDxIdeal.main_arg0)
          ∧ r.2.mem ((c.tc : Thread Cert.KInDxIdeal.nD Cert.KInDxIdeal.τ).loc Cert.KInDxIdeal.main_arg1) = m ((c.tc : Thread Cert.KInDxIdeal.nD Cert.KInDxIdeal.τ).loc Cert.KInDxIdeal.main_arg1))
      ∧ θ_run (Cert.RInDxIdeal.defs (F := Ideal)) (onTc (τ := Cert.RInDxIdeal.τ) (Cert.RInDxIdeal.main (F := Ideal))) ⟨m', fun _ => 0, g'⟩ (fun r => ∀ c : Dev Cert.RInDxIdeal.nD,
          r.2.mem ((c.tc : Thread Cert.RInDxIdeal.nD Cert.RInDxIdeal.τ).loc Cert.RInDxIdeal.main_v2) = v0 c
          ∧ r.2.mem ((c.tc : Thread Cert.RInDxIdeal.nD Cert.RInDxIdeal.τ).loc Cert.RInDxIdeal.main_arg0) = m' ((c.tc : Thread Cert.RInDxIdeal.nD Cert.RInDxIdeal.τ).loc Cert.RInDxIdeal.main_arg0)
          ∧ r.2.mem ((c.tc : Thread Cert.RInDxIdeal.nD Cert.RInDxIdeal.τ).loc Cert.RInDxIdeal.main_arg1) = m' ((c.tc : Thread Cert.RInDxIdeal.nD Cert.RInDxIdeal.τ).loc Cert.RInDxIdeal.main_arg1))

def preserves_KInDw_KInDwIdeal : Prop :=
  True

def algebraic_KInDwIdeal_RInDwIdeal [hKInDwIdeal : Cert.KInDwIdeal.Facts] [hRInDwIdeal : Cert.RInDwIdeal.Facts] : Prop :=
  ∀ (m : (ℓ : Loc Cert.KInDwIdeal.nD Cert.KInDwIdeal.τ Cert.KInDwIdeal.sig) → Buf (Elt Ideal) ℓ) (g : Dev Cert.KInDwIdeal.nD → PrngReg)
    (m' : (ℓ : Loc Cert.RInDwIdeal.nD Cert.RInDwIdeal.τ Cert.RInDwIdeal.sig) → Buf (Elt Ideal) ℓ) (g' : Dev Cert.RInDwIdeal.nD → PrngReg), Pre_KInDwIdeal m →
    (∀ c : Dev Cert.KInDwIdeal.nD,
      m' ((c.tc : Thread Cert.RInDwIdeal.nD Cert.RInDwIdeal.τ).loc Cert.RInDwIdeal.main_arg0) = m ((c.tc : Thread Cert.KInDwIdeal.nD Cert.KInDwIdeal.τ).loc Cert.KInDwIdeal.main_arg0)
      ∧ m' ((c.tc : Thread Cert.RInDwIdeal.nD Cert.RInDwIdeal.τ).loc Cert.RInDwIdeal.main_arg1) = m ((c.tc : Thread Cert.KInDwIdeal.nD Cert.KInDwIdeal.τ).loc Cert.KInDwIdeal.main_arg1)) →
    ∃ (v0 : (c : Dev Cert.KInDwIdeal.nD) → Buf (Elt Ideal) ((c.tc : Thread Cert.KInDwIdeal.nD Cert.KInDwIdeal.τ).loc Cert.KInDwIdeal.main_v2)),
      θ_run (Cert.KInDwIdeal.defs (F := Ideal)) (onTc (τ := Cert.KInDwIdeal.τ) (Cert.KInDwIdeal.main (F := Ideal))) ⟨m, fun _ => 0, g⟩ (fun r => ∀ c : Dev Cert.KInDwIdeal.nD,
          r.2.mem ((c.tc : Thread Cert.KInDwIdeal.nD Cert.KInDwIdeal.τ).loc Cert.KInDwIdeal.main_v2) = v0 c
          ∧ r.2.mem ((c.tc : Thread Cert.KInDwIdeal.nD Cert.KInDwIdeal.τ).loc Cert.KInDwIdeal.main_arg0) = m ((c.tc : Thread Cert.KInDwIdeal.nD Cert.KInDwIdeal.τ).loc Cert.KInDwIdeal.main_arg0)
          ∧ r.2.mem ((c.tc : Thread Cert.KInDwIdeal.nD Cert.KInDwIdeal.τ).loc Cert.KInDwIdeal.main_arg1) = m ((c.tc : Thread Cert.KInDwIdeal.nD Cert.KInDwIdeal.τ).loc Cert.KInDwIdeal.main_arg1))
      ∧ θ_run (Cert.RInDwIdeal.defs (F := Ideal)) (onTc (τ := Cert.RInDwIdeal.τ) (Cert.RInDwIdeal.main (F := Ideal))) ⟨m', fun _ => 0, g'⟩ (fun r => ∀ c : Dev Cert.RInDwIdeal.nD,
          r.2.mem ((c.tc : Thread Cert.RInDwIdeal.nD Cert.RInDwIdeal.τ).loc Cert.RInDwIdeal.main_v3) = v0 c
          ∧ r.2.mem ((c.tc : Thread Cert.RInDwIdeal.nD Cert.RInDwIdeal.τ).loc Cert.RInDwIdeal.main_arg0) = m' ((c.tc : Thread Cert.RInDwIdeal.nD Cert.RInDwIdeal.τ).loc Cert.RInDwIdeal.main_arg0)
          ∧ r.2.mem ((c.tc : Thread Cert.RInDwIdeal.nD Cert.RInDwIdeal.τ).loc Cert.RInDwIdeal.main_arg1) = m' ((c.tc : Thread Cert.RInDwIdeal.nD Cert.RInDwIdeal.τ).loc Cert.RInDwIdeal.main_arg1))

def preserves_KDown_KDownIdeal : Prop :=
  True

def algebraic_KDownIdeal_RDownIdeal [hKDownIdeal : Cert.KDownIdeal.Facts] [hRDownIdeal : Cert.RDownIdeal.Facts] : Prop :=
  ∀ (m : (ℓ : Loc Cert.KDownIdeal.nD Cert.KDownIdeal.τ Cert.KDownIdeal.sig) → Buf (Elt Ideal) ℓ) (g : Dev Cert.KDownIdeal.nD → PrngReg)
    (m' : (ℓ : Loc Cert.RDownIdeal.nD Cert.RDownIdeal.τ Cert.RDownIdeal.sig) → Buf (Elt Ideal) ℓ) (g' : Dev Cert.RDownIdeal.nD → PrngReg), Pre_KDownIdeal m →
    (∀ c : Dev Cert.KDownIdeal.nD,
      m' ((c.tc : Thread Cert.RDownIdeal.nD Cert.RDownIdeal.τ).loc Cert.RDownIdeal.main_arg0) = m ((c.tc : Thread Cert.KDownIdeal.nD Cert.KDownIdeal.τ).loc Cert.KDownIdeal.main_arg0)
      ∧ m' ((c.tc : Thread Cert.RDownIdeal.nD Cert.RDownIdeal.τ).loc Cert.RDownIdeal.main_arg1) = m ((c.tc : Thread Cert.KDownIdeal.nD Cert.KDownIdeal.τ).loc Cert.KDownIdeal.main_arg1)
      ∧ m' ((c.tc : Thread Cert.RDownIdeal.nD Cert.RDownIdeal.τ).loc Cert.RDownIdeal.main_arg2) = m ((c.tc : Thread Cert.KDownIdeal.nD Cert.KDownIdeal.τ).loc Cert.KDownIdeal.main_arg2)) →
    ∃ (v0 : (c : Dev Cert.KDownIdeal.nD) → Buf (Elt Ideal) ((c.tc : Thread Cert.KDownIdeal.nD Cert.KDownIdeal.τ).loc Cert.KDownIdeal.main_v2)),
      θ_run (Cert.KDownIdeal.defs (F := Ideal)) (onTc (τ := Cert.KDownIdeal.τ) (Cert.KDownIdeal.main (F := Ideal))) ⟨m, fun _ => 0, g⟩ (fun r => ∀ c : Dev Cert.KDownIdeal.nD,
          r.2.mem ((c.tc : Thread Cert.KDownIdeal.nD Cert.KDownIdeal.τ).loc Cert.KDownIdeal.main_v2) = v0 c
          ∧ r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
          ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
          ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2))
      ∧ θ_run (Cert.RDownIdeal.defs (F := Ideal)) (onTc (τ := Cert.RDownIdeal.τ) (Cert.RDownIdeal.main (F := Ideal))) ⟨m', fun _ => 0, g'⟩ (fun r => ∀ c : Dev Cert.RDownIdeal.nD,
          r.2.mem ((c.tc : Thread Cert.RDownIdeal.nD Cert.RDownIdeal.τ).loc Cert.RDownIdeal.main_v3) = v0 c
          ∧ r.2.mem ((c.tc : Thread Cert.RDownIdeal.nD Cert.RDownIdeal.τ).loc Cert.RDownIdeal.main_arg0) = m' ((c.tc : Thread Cert.RDownIdeal.nD Cert.RDownIdeal.τ).loc Cert.RDownIdeal.main_arg0)
          ∧ r.2.mem ((c.tc : Thread Cert.RDownIdeal.nD Cert.RDownIdeal.τ).loc Cert.RDownIdeal.main_arg1) = m' ((c.tc : Thread Cert.RDownIdeal.nD Cert.RDownIdeal.τ).loc Cert.RDownIdeal.main_arg1)
          ∧ r.2.mem ((c.tc : Thread Cert.RDownIdeal.nD Cert.RDownIdeal.τ).loc Cert.RDownIdeal.main_arg2) = m' ((c.tc : Thread Cert.RDownIdeal.nD Cert.RDownIdeal.τ).loc Cert.RDownIdeal.main_arg2))

def preserves_KDownDx_KDownDxIdeal : Prop :=
  True

def algebraic_KDownDxIdeal_RDownDxIdeal [hKDownDxIdeal : Cert.KDownDxIdeal.Facts] [hRDownDxIdeal : Cert.RDownDxIdeal.Facts] : Prop :=
  ∀ (m : (ℓ : Loc Cert.KDownDxIdeal.nD Cert.KDownDxIdeal.τ Cert.KDownDxIdeal.sig) → Buf (Elt Ideal) ℓ) (g : Dev Cert.KDownDxIdeal.nD → PrngReg)
    (m' : (ℓ : Loc Cert.RDownDxIdeal.nD Cert.RDownDxIdeal.τ Cert.RDownDxIdeal.sig) → Buf (Elt Ideal) ℓ) (g' : Dev Cert.RDownDxIdeal.nD → PrngReg), Pre_KDownDxIdeal m →
    (∀ c : Dev Cert.KDownDxIdeal.nD,
      m' ((c.tc : Thread Cert.RDownDxIdeal.nD Cert.RDownDxIdeal.τ).loc Cert.RDownDxIdeal.main_arg0) = m ((c.tc : Thread Cert.KDownDxIdeal.nD Cert.KDownDxIdeal.τ).loc Cert.KDownDxIdeal.main_arg0)
      ∧ m' ((c.tc : Thread Cert.RDownDxIdeal.nD Cert.RDownDxIdeal.τ).loc Cert.RDownDxIdeal.main_arg1) = m ((c.tc : Thread Cert.KDownDxIdeal.nD Cert.KDownDxIdeal.τ).loc Cert.KDownDxIdeal.main_arg1)) →
    ∃ (v0 : (c : Dev Cert.KDownDxIdeal.nD) → Buf (Elt Ideal) ((c.tc : Thread Cert.KDownDxIdeal.nD Cert.KDownDxIdeal.τ).loc Cert.KDownDxIdeal.main_v1)),
      θ_run (Cert.KDownDxIdeal.defs (F := Ideal)) (onTc (τ := Cert.KDownDxIdeal.τ) (Cert.KDownDxIdeal.main (F := Ideal))) ⟨m, fun _ => 0, g⟩ (fun r => ∀ c : Dev Cert.KDownDxIdeal.nD,
          r.2.mem ((c.tc : Thread Cert.KDownDxIdeal.nD Cert.KDownDxIdeal.τ).loc Cert.KDownDxIdeal.main_v1) = v0 c
          ∧ r.2.mem ((c.tc : Thread Cert.KDownDxIdeal.nD Cert.KDownDxIdeal.τ).loc Cert.KDownDxIdeal.main_arg0) = m ((c.tc : Thread Cert.KDownDxIdeal.nD Cert.KDownDxIdeal.τ).loc Cert.KDownDxIdeal.main_arg0)
          ∧ r.2.mem ((c.tc : Thread Cert.KDownDxIdeal.nD Cert.KDownDxIdeal.τ).loc Cert.KDownDxIdeal.main_arg1) = m ((c.tc : Thread Cert.KDownDxIdeal.nD Cert.KDownDxIdeal.τ).loc Cert.KDownDxIdeal.main_arg1))
      ∧ θ_run (Cert.RDownDxIdeal.defs (F := Ideal)) (onTc (τ := Cert.RDownDxIdeal.τ) (Cert.RDownDxIdeal.main (F := Ideal))) ⟨m', fun _ => 0, g'⟩ (fun r => ∀ c : Dev Cert.RDownDxIdeal.nD,
          r.2.mem ((c.tc : Thread Cert.RDownDxIdeal.nD Cert.RDownDxIdeal.τ).loc Cert.RDownDxIdeal.main_v7) = v0 c
          ∧ r.2.mem ((c.tc : Thread Cert.RDownDxIdeal.nD Cert.RDownDxIdeal.τ).loc Cert.RDownDxIdeal.main_arg0) = m' ((c.tc : Thread Cert.RDownDxIdeal.nD Cert.RDownDxIdeal.τ).loc Cert.RDownDxIdeal.main_arg0)
          ∧ r.2.mem ((c.tc : Thread Cert.RDownDxIdeal.nD Cert.RDownDxIdeal.τ).loc Cert.RDownDxIdeal.main_arg1) = m' ((c.tc : Thread Cert.RDownDxIdeal.nD Cert.RDownDxIdeal.τ).loc Cert.RDownDxIdeal.main_arg1))

def preserves_KDownDw_KDownDwIdeal : Prop :=
  True

def algebraic_KDownDwIdeal_RDownDwIdeal [hKDownDwIdeal : Cert.KDownDwIdeal.Facts] [hRDownDwIdeal : Cert.RDownDwIdeal.Facts] : Prop :=
  ∀ (m : (ℓ : Loc Cert.KDownDwIdeal.nD Cert.KDownDwIdeal.τ Cert.KDownDwIdeal.sig) → Buf (Elt Ideal) ℓ) (g : Dev Cert.KDownDwIdeal.nD → PrngReg)
    (m' : (ℓ : Loc Cert.RDownDwIdeal.nD Cert.RDownDwIdeal.τ Cert.RDownDwIdeal.sig) → Buf (Elt Ideal) ℓ) (g' : Dev Cert.RDownDwIdeal.nD → PrngReg), Pre_KDownDwIdeal m →
    (∀ c : Dev Cert.KDownDwIdeal.nD,
      m' ((c.tc : Thread Cert.RDownDwIdeal.nD Cert.RDownDwIdeal.τ).loc Cert.RDownDwIdeal.main_arg0) = m ((c.tc : Thread Cert.KDownDwIdeal.nD Cert.KDownDwIdeal.τ).loc Cert.KDownDwIdeal.main_arg0)
      ∧ m' ((c.tc : Thread Cert.RDownDwIdeal.nD Cert.RDownDwIdeal.τ).loc Cert.RDownDwIdeal.main_arg1) = m ((c.tc : Thread Cert.KDownDwIdeal.nD Cert.KDownDwIdeal.τ).loc Cert.KDownDwIdeal.main_arg1)) →
    ∃ (v0 : (c : Dev Cert.KDownDwIdeal.nD) → Buf (Elt Ideal) ((c.tc : Thread Cert.KDownDwIdeal.nD Cert.KDownDwIdeal.τ).loc Cert.KDownDwIdeal.main_v1)),
      θ_run (Cert.KDownDwIdeal.defs (F := Ideal)) (onTc (τ := Cert.KDownDwIdeal.τ) (Cert.KDownDwIdeal.main (F := Ideal))) ⟨m, fun _ => 0, g⟩ (fun r => ∀ c : Dev Cert.KDownDwIdeal.nD,
          r.2.mem ((c.tc : Thread Cert.KDownDwIdeal.nD Cert.KDownDwIdeal.τ).loc Cert.KDownDwIdeal.main_v1) = v0 c
          ∧ r.2.mem ((c.tc : Thread Cert.KDownDwIdeal.nD Cert.KDownDwIdeal.τ).loc Cert.KDownDwIdeal.main_arg0) = m ((c.tc : Thread Cert.KDownDwIdeal.nD Cert.KDownDwIdeal.τ).loc Cert.KDownDwIdeal.main_arg0)
          ∧ r.2.mem ((c.tc : Thread Cert.KDownDwIdeal.nD Cert.KDownDwIdeal.τ).loc Cert.KDownDwIdeal.main_arg1) = m ((c.tc : Thread Cert.KDownDwIdeal.nD Cert.KDownDwIdeal.τ).loc Cert.KDownDwIdeal.main_arg1))
      ∧ θ_run (Cert.RDownDwIdeal.defs (F := Ideal)) (onTc (τ := Cert.RDownDwIdeal.τ) (Cert.RDownDwIdeal.main (F := Ideal))) ⟨m', fun _ => 0, g'⟩ (fun r => ∀ c : Dev Cert.RDownDwIdeal.nD,
          r.2.mem ((c.tc : Thread Cert.RDownDwIdeal.nD Cert.RDownDwIdeal.τ).loc Cert.RDownDwIdeal.main_v7) = v0 c
          ∧ r.2.mem ((c.tc : Thread Cert.RDownDwIdeal.nD Cert.RDownDwIdeal.τ).loc Cert.RDownDwIdeal.main_arg0) = m' ((c.tc : Thread Cert.RDownDwIdeal.nD Cert.RDownDwIdeal.τ).loc Cert.RDownDwIdeal.main_arg0)
          ∧ r.2.mem ((c.tc : Thread Cert.RDownDwIdeal.nD Cert.RDownDwIdeal.τ).loc Cert.RDownDwIdeal.main_arg1) = m' ((c.tc : Thread Cert.RDownDwIdeal.nD Cert.RDownDwIdeal.τ).loc Cert.RDownDwIdeal.main_arg1))

def preserves_KSsdOut_KSsdOutIdeal : Prop :=
  True

def algebraic_KSsdOutIdeal_RSsdOutIdeal [hKSsdOutIdeal : Cert.KSsdOutIdeal.Facts] [hRSsdOutIdeal : Cert.RSsdOutIdeal.Facts] : Prop :=
  ∀ (m : (ℓ : Loc Cert.KSsdOutIdeal.nD Cert.KSsdOutIdeal.τ Cert.KSsdOutIdeal.sig) → Buf (Elt Ideal) ℓ) (g : Dev Cert.KSsdOutIdeal.nD → PrngReg)
    (m' : (ℓ : Loc Cert.RSsdOutIdeal.nD Cert.RSsdOutIdeal.τ Cert.RSsdOutIdeal.sig) → Buf (Elt Ideal) ℓ) (g' : Dev Cert.RSsdOutIdeal.nD → PrngReg), Pre_KSsdOutIdeal m →
    (∀ c : Dev Cert.KSsdOutIdeal.nD,
      m' ((c.tc : Thread Cert.RSsdOutIdeal.nD Cert.RSsdOutIdeal.τ).loc Cert.RSsdOutIdeal.main_arg0) = m ((c.tc : Thread Cert.KSsdOutIdeal.nD Cert.KSsdOutIdeal.τ).loc Cert.KSsdOutIdeal.main_arg0)
      ∧ m' ((c.tc : Thread Cert.RSsdOutIdeal.nD Cert.RSsdOutIdeal.τ).loc Cert.RSsdOutIdeal.main_arg1) = m ((c.tc : Thread Cert.KSsdOutIdeal.nD Cert.KSsdOutIdeal.τ).loc Cert.KSsdOutIdeal.main_arg1)) →
    ∃ (v0 : (c : Dev Cert.KSsdOutIdeal.nD) → Buf (Elt Ideal) ((c.tc : Thread Cert.KSsdOutIdeal.nD Cert.KSsdOutIdeal.τ).loc Cert.KSsdOutIdeal.main_v2)),
      θ_run (Cert.KSsdOutIdeal.defs (F := Ideal)) (onTc (τ := Cert.KSsdOutIdeal.τ) (Cert.KSsdOutIdeal.main (F := Ideal))) ⟨m, fun _ => 0, g⟩ (fun r => ∀ c : Dev Cert.KSsdOutIdeal.nD,
          r.2.mem ((c.tc : Thread Cert.KSsdOutIdeal.nD Cert.KSsdOutIdeal.τ).loc Cert.KSsdOutIdeal.main_v2) = v0 c
          ∧ r.2.mem ((c.tc : Thread Cert.KSsdOutIdeal.nD Cert.KSsdOutIdeal.τ).loc Cert.KSsdOutIdeal.main_arg0) = m ((c.tc : Thread Cert.KSsdOutIdeal.nD Cert.KSsdOutIdeal.τ).loc Cert.KSsdOutIdeal.main_arg0)
          ∧ r.2.mem ((c.tc : Thread Cert.KSsdOutIdeal.nD Cert.KSsdOutIdeal.τ).loc Cert.KSsdOutIdeal.main_arg1) = m ((c.tc : Thread Cert.KSsdOutIdeal.nD Cert.KSsdOutIdeal.τ).loc Cert.KSsdOutIdeal.main_arg1))
      ∧ θ_run (Cert.RSsdOutIdeal.defs (F := Ideal)) (onTc (τ := Cert.RSsdOutIdeal.τ) (Cert.RSsdOutIdeal.main (F := Ideal))) ⟨m', fun _ => 0, g'⟩ (fun r => ∀ c : Dev Cert.RSsdOutIdeal.nD,
          r.2.mem ((c.tc : Thread Cert.RSsdOutIdeal.nD Cert.RSsdOutIdeal.τ).loc Cert.RSsdOutIdeal.main_v0) = v0 c
          ∧ r.2.mem ((c.tc : Thread Cert.RSsdOutIdeal.nD Cert.RSsdOutIdeal.τ).loc Cert.RSsdOutIdeal.main_arg0) = m' ((c.tc : Thread Cert.RSsdOutIdeal.nD Cert.RSsdOutIdeal.τ).loc Cert.RSsdOutIdeal.main_arg0)
          ∧ r.2.mem ((c.tc : Thread Cert.RSsdOutIdeal.nD Cert.RSsdOutIdeal.τ).loc Cert.RSsdOutIdeal.main_arg1) = m' ((c.tc : Thread Cert.RSsdOutIdeal.nD Cert.RSsdOutIdeal.τ).loc Cert.RSsdOutIdeal.main_arg1))

def preserves_KSsdOutDx_KSsdOutDxIdeal : Prop :=
  True

def algebraic_KSsdOutDxIdeal_RSsdOutDxIdeal [hKSsdOutDxIdeal : Cert.KSsdOutDxIdeal.Facts] [hRSsdOutDxIdeal : Cert.RSsdOutDxIdeal.Facts] : Prop :=
  ∀ (m : (ℓ : Loc Cert.KSsdOutDxIdeal.nD Cert.KSsdOutDxIdeal.τ Cert.KSsdOutDxIdeal.sig) → Buf (Elt Ideal) ℓ) (g : Dev Cert.KSsdOutDxIdeal.nD → PrngReg)
    (m' : (ℓ : Loc Cert.RSsdOutDxIdeal.nD Cert.RSsdOutDxIdeal.τ Cert.RSsdOutDxIdeal.sig) → Buf (Elt Ideal) ℓ) (g' : Dev Cert.RSsdOutDxIdeal.nD → PrngReg), Pre_KSsdOutDxIdeal m →
    (∀ c : Dev Cert.KSsdOutDxIdeal.nD,
      m' ((c.tc : Thread Cert.RSsdOutDxIdeal.nD Cert.RSsdOutDxIdeal.τ).loc Cert.RSsdOutDxIdeal.main_arg0) = m ((c.tc : Thread Cert.KSsdOutDxIdeal.nD Cert.KSsdOutDxIdeal.τ).loc Cert.KSsdOutDxIdeal.main_arg0)
      ∧ m' ((c.tc : Thread Cert.RSsdOutDxIdeal.nD Cert.RSsdOutDxIdeal.τ).loc Cert.RSsdOutDxIdeal.main_arg1) = m ((c.tc : Thread Cert.KSsdOutDxIdeal.nD Cert.KSsdOutDxIdeal.τ).loc Cert.KSsdOutDxIdeal.main_arg1)) →
    ∃ (v0 : (c : Dev Cert.KSsdOutDxIdeal.nD) → Buf (Elt Ideal) ((c.tc : Thread Cert.KSsdOutDxIdeal.nD Cert.KSsdOutDxIdeal.τ).loc Cert.KSsdOutDxIdeal.main_v2)),
      θ_run (Cert.KSsdOutDxIdeal.defs (F := Ideal)) (onTc (τ := Cert.KSsdOutDxIdeal.τ) (Cert.KSsdOutDxIdeal.main (F := Ideal))) ⟨m, fun _ => 0, g⟩ (fun r => ∀ c : Dev Cert.KSsdOutDxIdeal.nD,
          r.2.mem ((c.tc : Thread Cert.KSsdOutDxIdeal.nD Cert.KSsdOutDxIdeal.τ).loc Cert.KSsdOutDxIdeal.main_v2) = v0 c
          ∧ r.2.mem ((c.tc : Thread Cert.KSsdOutDxIdeal.nD Cert.KSsdOutDxIdeal.τ).loc Cert.KSsdOutDxIdeal.main_arg0) = m ((c.tc : Thread Cert.KSsdOutDxIdeal.nD Cert.KSsdOutDxIdeal.τ).loc Cert.KSsdOutDxIdeal.main_arg0)
          ∧ r.2.mem ((c.tc : Thread Cert.KSsdOutDxIdeal.nD Cert.KSsdOutDxIdeal.τ).loc Cert.KSsdOutDxIdeal.main_arg1) = m ((c.tc : Thread Cert.KSsdOutDxIdeal.nD Cert.KSsdOutDxIdeal.τ).loc Cert.KSsdOutDxIdeal.main_arg1))
      ∧ θ_run (Cert.RSsdOutDxIdeal.defs (F := Ideal)) (onTc (τ := Cert.RSsdOutDxIdeal.τ) (Cert.RSsdOutDxIdeal.main (F := Ideal))) ⟨m', fun _ => 0, g'⟩ (fun r => ∀ c : Dev Cert.RSsdOutDxIdeal.nD,
          r.2.mem ((c.tc : Thread Cert.RSsdOutDxIdeal.nD Cert.RSsdOutDxIdeal.τ).loc Cert.RSsdOutDxIdeal.main_v2) = v0 c
          ∧ r.2.mem ((c.tc : Thread Cert.RSsdOutDxIdeal.nD Cert.RSsdOutDxIdeal.τ).loc Cert.RSsdOutDxIdeal.main_arg0) = m' ((c.tc : Thread Cert.RSsdOutDxIdeal.nD Cert.RSsdOutDxIdeal.τ).loc Cert.RSsdOutDxIdeal.main_arg0)
          ∧ r.2.mem ((c.tc : Thread Cert.RSsdOutDxIdeal.nD Cert.RSsdOutDxIdeal.τ).loc Cert.RSsdOutDxIdeal.main_arg1) = m' ((c.tc : Thread Cert.RSsdOutDxIdeal.nD Cert.RSsdOutDxIdeal.τ).loc Cert.RSsdOutDxIdeal.main_arg1))

def preserves_KSsdOutDw_KSsdOutDwIdeal : Prop :=
  True

def algebraic_KSsdOutDwIdeal_RSsdOutDwIdeal [hKSsdOutDwIdeal : Cert.KSsdOutDwIdeal.Facts] [hRSsdOutDwIdeal : Cert.RSsdOutDwIdeal.Facts] : Prop :=
  ∀ (m : (ℓ : Loc Cert.KSsdOutDwIdeal.nD Cert.KSsdOutDwIdeal.τ Cert.KSsdOutDwIdeal.sig) → Buf (Elt Ideal) ℓ) (g : Dev Cert.KSsdOutDwIdeal.nD → PrngReg)
    (m' : (ℓ : Loc Cert.RSsdOutDwIdeal.nD Cert.RSsdOutDwIdeal.τ Cert.RSsdOutDwIdeal.sig) → Buf (Elt Ideal) ℓ) (g' : Dev Cert.RSsdOutDwIdeal.nD → PrngReg), Pre_KSsdOutDwIdeal m →
    (∀ c : Dev Cert.KSsdOutDwIdeal.nD,
      m' ((c.tc : Thread Cert.RSsdOutDwIdeal.nD Cert.RSsdOutDwIdeal.τ).loc Cert.RSsdOutDwIdeal.main_arg0) = m ((c.tc : Thread Cert.KSsdOutDwIdeal.nD Cert.KSsdOutDwIdeal.τ).loc Cert.KSsdOutDwIdeal.main_arg0)
      ∧ m' ((c.tc : Thread Cert.RSsdOutDwIdeal.nD Cert.RSsdOutDwIdeal.τ).loc Cert.RSsdOutDwIdeal.main_arg1) = m ((c.tc : Thread Cert.KSsdOutDwIdeal.nD Cert.KSsdOutDwIdeal.τ).loc Cert.KSsdOutDwIdeal.main_arg1)) →
    ∃ (v0 : (c : Dev Cert.KSsdOutDwIdeal.nD) → Buf (Elt Ideal) ((c.tc : Thread Cert.KSsdOutDwIdeal.nD Cert.KSsdOutDwIdeal.τ).loc Cert.KSsdOutDwIdeal.main_v2)),
      θ_run (Cert.KSsdOutDwIdeal.defs (F := Ideal)) (onTc (τ := Cert.KSsdOutDwIdeal.τ) (Cert.KSsdOutDwIdeal.main (F := Ideal))) ⟨m, fun _ => 0, g⟩ (fun r => ∀ c : Dev Cert.KSsdOutDwIdeal.nD,
          r.2.mem ((c.tc : Thread Cert.KSsdOutDwIdeal.nD Cert.KSsdOutDwIdeal.τ).loc Cert.KSsdOutDwIdeal.main_v2) = v0 c
          ∧ r.2.mem ((c.tc : Thread Cert.KSsdOutDwIdeal.nD Cert.KSsdOutDwIdeal.τ).loc Cert.KSsdOutDwIdeal.main_arg0) = m ((c.tc : Thread Cert.KSsdOutDwIdeal.nD Cert.KSsdOutDwIdeal.τ).loc Cert.KSsdOutDwIdeal.main_arg0)
          ∧ r.2.mem ((c.tc : Thread Cert.KSsdOutDwIdeal.nD Cert.KSsdOutDwIdeal.τ).loc Cert.KSsdOutDwIdeal.main_arg1) = m ((c.tc : Thread Cert.KSsdOutDwIdeal.nD Cert.KSsdOutDwIdeal.τ).loc Cert.KSsdOutDwIdeal.main_arg1))
      ∧ θ_run (Cert.RSsdOutDwIdeal.defs (F := Ideal)) (onTc (τ := Cert.RSsdOutDwIdeal.τ) (Cert.RSsdOutDwIdeal.main (F := Ideal))) ⟨m', fun _ => 0, g'⟩ (fun r => ∀ c : Dev Cert.RSsdOutDwIdeal.nD,
          r.2.mem ((c.tc : Thread Cert.RSsdOutDwIdeal.nD Cert.RSsdOutDwIdeal.τ).loc Cert.RSsdOutDwIdeal.main_v3) = v0 c
          ∧ r.2.mem ((c.tc : Thread Cert.RSsdOutDwIdeal.nD Cert.RSsdOutDwIdeal.τ).loc Cert.RSsdOutDwIdeal.main_arg0) = m' ((c.tc : Thread Cert.RSsdOutDwIdeal.nD Cert.RSsdOutDwIdeal.τ).loc Cert.RSsdOutDwIdeal.main_arg0)
          ∧ r.2.mem ((c.tc : Thread Cert.RSsdOutDwIdeal.nD Cert.RSsdOutDwIdeal.τ).loc Cert.RSsdOutDwIdeal.main_arg1) = m' ((c.tc : Thread Cert.RSsdOutDwIdeal.nD Cert.RSsdOutDwIdeal.τ).loc Cert.RSsdOutDwIdeal.main_arg1))

def preserves_KUq_KUqIdeal : Prop :=
  True

def algebraic_KUqIdeal_RUqIdeal [hKUqIdeal : Cert.KUqIdeal.Facts] [hRUqIdeal : Cert.RUqIdeal.Facts] : Prop :=
  ∀ (m : (ℓ : Loc Cert.KUqIdeal.nD Cert.KUqIdeal.τ Cert.KUqIdeal.sig) → Buf (Elt Ideal) ℓ) (g : Dev Cert.KUqIdeal.nD → PrngReg)
    (m' : (ℓ : Loc Cert.RUqIdeal.nD Cert.RUqIdeal.τ Cert.RUqIdeal.sig) → Buf (Elt Ideal) ℓ) (g' : Dev Cert.RUqIdeal.nD → PrngReg), Pre_KUqIdeal m →
    (∀ c : Dev Cert.KUqIdeal.nD,
      m' ((c.tc : Thread Cert.RUqIdeal.nD Cert.RUqIdeal.τ).loc Cert.RUqIdeal.main_arg0) = m ((c.tc : Thread Cert.KUqIdeal.nD Cert.KUqIdeal.τ).loc Cert.KUqIdeal.main_arg0)
      ∧ m' ((c.tc : Thread Cert.RUqIdeal.nD Cert.RUqIdeal.τ).loc Cert.RUqIdeal.main_arg1) = m ((c.tc : Thread Cert.KUqIdeal.nD Cert.KUqIdeal.τ).loc Cert.KUqIdeal.main_arg1)) →
    ∃ (v0 : (c : Dev Cert.KUqIdeal.nD) → Buf (Elt Ideal) ((c.tc : Thread Cert.KUqIdeal.nD Cert.KUqIdeal.τ).loc Cert.KUqIdeal.main_v2)),
      θ_run (Cert.KUqIdeal.defs (F := Ideal)) (onTc (τ := Cert.KUqIdeal.τ) (Cert.KUqIdeal.main (F := Ideal))) ⟨m, fun _ => 0, g⟩ (fun r => ∀ c : Dev Cert.KUqIdeal.nD,
          r.2.mem ((c.tc : Thread Cert.KUqIdeal.nD Cert.KUqIdeal.τ).loc Cert.KUqIdeal.main_v2) = v0 c
          ∧ r.2.mem ((c.tc : Thread Cert.KUqIdeal.nD Cert.KUqIdeal.τ).loc Cert.KUqIdeal.main_arg0) = m ((c.tc : Thread Cert.KUqIdeal.nD Cert.KUqIdeal.τ).loc Cert.KUqIdeal.main_arg0)
          ∧ r.2.mem ((c.tc : Thread Cert.KUqIdeal.nD Cert.KUqIdeal.τ).loc Cert.KUqIdeal.main_arg1) = m ((c.tc : Thread Cert.KUqIdeal.nD Cert.KUqIdeal.τ).loc Cert.KUqIdeal.main_arg1))
      ∧ θ_run (Cert.RUqIdeal.defs (F := Ideal)) (onTc (τ := Cert.RUqIdeal.τ) (Cert.RUqIdeal.main (F := Ideal))) ⟨m', fun _ => 0, g'⟩ (fun r => ∀ c : Dev Cert.RUqIdeal.nD,
          r.2.mem ((c.tc : Thread Cert.RUqIdeal.nD Cert.RUqIdeal.τ).loc Cert.RUqIdeal.main_v0) = v0 c
          ∧ r.2.mem ((c.tc : Thread Cert.RUqIdeal.nD Cert.RUqIdeal.τ).loc Cert.RUqIdeal.main_arg0) = m' ((c.tc : Thread Cert.RUqIdeal.nD Cert.RUqIdeal.τ).loc Cert.RUqIdeal.main_arg0)
          ∧ r.2.mem ((c.tc : Thread Cert.RUqIdeal.nD Cert.RUqIdeal.τ).loc Cert.RUqIdeal.main_arg1) = m' ((c.tc : Thread Cert.RUqIdeal.nD Cert.RUqIdeal.τ).loc Cert.RUqIdeal.main_arg1))

def preserves_KUqDx_KUqDxIdeal : Prop :=
  True

def algebraic_KUqDxIdeal_RUqDxIdeal [hKUqDxIdeal : Cert.KUqDxIdeal.Facts] [hRUqDxIdeal : Cert.RUqDxIdeal.Facts] : Prop :=
  ∀ (m : (ℓ : Loc Cert.KUqDxIdeal.nD Cert.KUqDxIdeal.τ Cert.KUqDxIdeal.sig) → Buf (Elt Ideal) ℓ) (g : Dev Cert.KUqDxIdeal.nD → PrngReg)
    (m' : (ℓ : Loc Cert.RUqDxIdeal.nD Cert.RUqDxIdeal.τ Cert.RUqDxIdeal.sig) → Buf (Elt Ideal) ℓ) (g' : Dev Cert.RUqDxIdeal.nD → PrngReg), Pre_KUqDxIdeal m →
    (∀ c : Dev Cert.KUqDxIdeal.nD,
      m' ((c.tc : Thread Cert.RUqDxIdeal.nD Cert.RUqDxIdeal.τ).loc Cert.RUqDxIdeal.main_arg0) = m ((c.tc : Thread Cert.KUqDxIdeal.nD Cert.KUqDxIdeal.τ).loc Cert.KUqDxIdeal.main_arg0)
      ∧ m' ((c.tc : Thread Cert.RUqDxIdeal.nD Cert.RUqDxIdeal.τ).loc Cert.RUqDxIdeal.main_arg1) = m ((c.tc : Thread Cert.KUqDxIdeal.nD Cert.KUqDxIdeal.τ).loc Cert.KUqDxIdeal.main_arg1)) →
    ∃ (v0 : (c : Dev Cert.KUqDxIdeal.nD) → Buf (Elt Ideal) ((c.tc : Thread Cert.KUqDxIdeal.nD Cert.KUqDxIdeal.τ).loc Cert.KUqDxIdeal.main_v2)),
      θ_run (Cert.KUqDxIdeal.defs (F := Ideal)) (onTc (τ := Cert.KUqDxIdeal.τ) (Cert.KUqDxIdeal.main (F := Ideal))) ⟨m, fun _ => 0, g⟩ (fun r => ∀ c : Dev Cert.KUqDxIdeal.nD,
          r.2.mem ((c.tc : Thread Cert.KUqDxIdeal.nD Cert.KUqDxIdeal.τ).loc Cert.KUqDxIdeal.main_v2) = v0 c
          ∧ r.2.mem ((c.tc : Thread Cert.KUqDxIdeal.nD Cert.KUqDxIdeal.τ).loc Cert.KUqDxIdeal.main_arg0) = m ((c.tc : Thread Cert.KUqDxIdeal.nD Cert.KUqDxIdeal.τ).loc Cert.KUqDxIdeal.main_arg0)
          ∧ r.2.mem ((c.tc : Thread Cert.KUqDxIdeal.nD Cert.KUqDxIdeal.τ).loc Cert.KUqDxIdeal.main_arg1) = m ((c.tc : Thread Cert.KUqDxIdeal.nD Cert.KUqDxIdeal.τ).loc Cert.KUqDxIdeal.main_arg1))
      ∧ θ_run (Cert.RUqDxIdeal.defs (F := Ideal)) (onTc (τ := Cert.RUqDxIdeal.τ) (Cert.RUqDxIdeal.main (F := Ideal))) ⟨m', fun _ => 0, g'⟩ (fun r => ∀ c : Dev Cert.RUqDxIdeal.nD,
          r.2.mem ((c.tc : Thread Cert.RUqDxIdeal.nD Cert.RUqDxIdeal.τ).loc Cert.RUqDxIdeal.main_v2) = v0 c
          ∧ r.2.mem ((c.tc : Thread Cert.RUqDxIdeal.nD Cert.RUqDxIdeal.τ).loc Cert.RUqDxIdeal.main_arg0) = m' ((c.tc : Thread Cert.RUqDxIdeal.nD Cert.RUqDxIdeal.τ).loc Cert.RUqDxIdeal.main_arg0)
          ∧ r.2.mem ((c.tc : Thread Cert.RUqDxIdeal.nD Cert.RUqDxIdeal.τ).loc Cert.RUqDxIdeal.main_arg1) = m' ((c.tc : Thread Cert.RUqDxIdeal.nD Cert.RUqDxIdeal.τ).loc Cert.RUqDxIdeal.main_arg1))

def preserves_KUqDw_KUqDwIdeal : Prop :=
  True

def algebraic_KUqDwIdeal_RUqDwIdeal [hKUqDwIdeal : Cert.KUqDwIdeal.Facts] [hRUqDwIdeal : Cert.RUqDwIdeal.Facts] : Prop :=
  ∀ (m : (ℓ : Loc Cert.KUqDwIdeal.nD Cert.KUqDwIdeal.τ Cert.KUqDwIdeal.sig) → Buf (Elt Ideal) ℓ) (g : Dev Cert.KUqDwIdeal.nD → PrngReg)
    (m' : (ℓ : Loc Cert.RUqDwIdeal.nD Cert.RUqDwIdeal.τ Cert.RUqDwIdeal.sig) → Buf (Elt Ideal) ℓ) (g' : Dev Cert.RUqDwIdeal.nD → PrngReg), Pre_KUqDwIdeal m →
    (∀ c : Dev Cert.KUqDwIdeal.nD,
      m' ((c.tc : Thread Cert.RUqDwIdeal.nD Cert.RUqDwIdeal.τ).loc Cert.RUqDwIdeal.main_arg0) = m ((c.tc : Thread Cert.KUqDwIdeal.nD Cert.KUqDwIdeal.τ).loc Cert.KUqDwIdeal.main_arg0)
      ∧ m' ((c.tc : Thread Cert.RUqDwIdeal.nD Cert.RUqDwIdeal.τ).loc Cert.RUqDwIdeal.main_arg1) = m ((c.tc : Thread Cert.KUqDwIdeal.nD Cert.KUqDwIdeal.τ).loc Cert.KUqDwIdeal.main_arg1)) →
    ∃ (v0 : (c : Dev Cert.KUqDwIdeal.nD) → Buf (Elt Ideal) ((c.tc : Thread Cert.KUqDwIdeal.nD Cert.KUqDwIdeal.τ).loc Cert.KUqDwIdeal.main_v2)),
      θ_run (Cert.KUqDwIdeal.defs (F := Ideal)) (onTc (τ := Cert.KUqDwIdeal.τ) (Cert.KUqDwIdeal.main (F := Ideal))) ⟨m, fun _ => 0, g⟩ (fun r => ∀ c : Dev Cert.KUqDwIdeal.nD,
          r.2.mem ((c.tc : Thread Cert.KUqDwIdeal.nD Cert.KUqDwIdeal.τ).loc Cert.KUqDwIdeal.main_v2) = v0 c
          ∧ r.2.mem ((c.tc : Thread Cert.KUqDwIdeal.nD Cert.KUqDwIdeal.τ).loc Cert.KUqDwIdeal.main_arg0) = m ((c.tc : Thread Cert.KUqDwIdeal.nD Cert.KUqDwIdeal.τ).loc Cert.KUqDwIdeal.main_arg0)
          ∧ r.2.mem ((c.tc : Thread Cert.KUqDwIdeal.nD Cert.KUqDwIdeal.τ).loc Cert.KUqDwIdeal.main_arg1) = m ((c.tc : Thread Cert.KUqDwIdeal.nD Cert.KUqDwIdeal.τ).loc Cert.KUqDwIdeal.main_arg1))
      ∧ θ_run (Cert.RUqDwIdeal.defs (F := Ideal)) (onTc (τ := Cert.RUqDwIdeal.τ) (Cert.RUqDwIdeal.main (F := Ideal))) ⟨m', fun _ => 0, g'⟩ (fun r => ∀ c : Dev Cert.RUqDwIdeal.nD,
          r.2.mem ((c.tc : Thread Cert.RUqDwIdeal.nD Cert.RUqDwIdeal.τ).loc Cert.RUqDwIdeal.main_v3) = v0 c
          ∧ r.2.mem ((c.tc : Thread Cert.RUqDwIdeal.nD Cert.RUqDwIdeal.τ).loc Cert.RUqDwIdeal.main_arg0) = m' ((c.tc : Thread Cert.RUqDwIdeal.nD Cert.RUqDwIdeal.τ).loc Cert.RUqDwIdeal.main_arg0)
          ∧ r.2.mem ((c.tc : Thread Cert.RUqDwIdeal.nD Cert.RUqDwIdeal.τ).loc Cert.RUqDwIdeal.main_arg1) = m' ((c.tc : Thread Cert.RUqDwIdeal.nD Cert.RUqDwIdeal.τ).loc Cert.RUqDwIdeal.main_arg1))

def preserves_KUkv_KUkvIdeal : Prop :=
  True

def algebraic_KUkvIdeal_RUkvIdeal [hKUkvIdeal : Cert.KUkvIdeal.Facts] [hRUkvIdeal : Cert.RUkvIdeal.Facts] : Prop :=
  ∀ (m : (ℓ : Loc Cert.KUkvIdeal.nD Cert.KUkvIdeal.τ Cert.KUkvIdeal.sig) → Buf (Elt Ideal) ℓ) (g : Dev Cert.KUkvIdeal.nD → PrngReg)
    (m' : (ℓ : Loc Cert.RUkvIdeal.nD Cert.RUkvIdeal.τ Cert.RUkvIdeal.sig) → Buf (Elt Ideal) ℓ) (g' : Dev Cert.RUkvIdeal.nD → PrngReg), Pre_KUkvIdeal m →
    (∀ c : Dev Cert.KUkvIdeal.nD,
      m' ((c.tc : Thread Cert.RUkvIdeal.nD Cert.RUkvIdeal.τ).loc Cert.RUkvIdeal.main_arg0) = m ((c.tc : Thread Cert.KUkvIdeal.nD Cert.KUkvIdeal.τ).loc Cert.KUkvIdeal.main_arg0)
      ∧ m' ((c.tc : Thread Cert.RUkvIdeal.nD Cert.RUkvIdeal.τ).loc Cert.RUkvIdeal.main_arg1) = m ((c.tc : Thread Cert.KUkvIdeal.nD Cert.KUkvIdeal.τ).loc Cert.KUkvIdeal.main_arg1)) →
    ∃ (v0 : (c : Dev Cert.KUkvIdeal.nD) → Buf (Elt Ideal) ((c.tc : Thread Cert.KUkvIdeal.nD Cert.KUkvIdeal.τ).loc Cert.KUkvIdeal.main_v2)),
      θ_run (Cert.KUkvIdeal.defs (F := Ideal)) (onTc (τ := Cert.KUkvIdeal.τ) (Cert.KUkvIdeal.main (F := Ideal))) ⟨m, fun _ => 0, g⟩ (fun r => ∀ c : Dev Cert.KUkvIdeal.nD,
          r.2.mem ((c.tc : Thread Cert.KUkvIdeal.nD Cert.KUkvIdeal.τ).loc Cert.KUkvIdeal.main_v2) = v0 c
          ∧ r.2.mem ((c.tc : Thread Cert.KUkvIdeal.nD Cert.KUkvIdeal.τ).loc Cert.KUkvIdeal.main_arg0) = m ((c.tc : Thread Cert.KUkvIdeal.nD Cert.KUkvIdeal.τ).loc Cert.KUkvIdeal.main_arg0)
          ∧ r.2.mem ((c.tc : Thread Cert.KUkvIdeal.nD Cert.KUkvIdeal.τ).loc Cert.KUkvIdeal.main_arg1) = m ((c.tc : Thread Cert.KUkvIdeal.nD Cert.KUkvIdeal.τ).loc Cert.KUkvIdeal.main_arg1))
      ∧ θ_run (Cert.RUkvIdeal.defs (F := Ideal)) (onTc (τ := Cert.RUkvIdeal.τ) (Cert.RUkvIdeal.main (F := Ideal))) ⟨m', fun _ => 0, g'⟩ (fun r => ∀ c : Dev Cert.RUkvIdeal.nD,
          r.2.mem ((c.tc : Thread Cert.RUkvIdeal.nD Cert.RUkvIdeal.τ).loc Cert.RUkvIdeal.main_v0) = v0 c
          ∧ r.2.mem ((c.tc : Thread Cert.RUkvIdeal.nD Cert.RUkvIdeal.τ).loc Cert.RUkvIdeal.main_arg0) = m' ((c.tc : Thread Cert.RUkvIdeal.nD Cert.RUkvIdeal.τ).loc Cert.RUkvIdeal.main_arg0)
          ∧ r.2.mem ((c.tc : Thread Cert.RUkvIdeal.nD Cert.RUkvIdeal.τ).loc Cert.RUkvIdeal.main_arg1) = m' ((c.tc : Thread Cert.RUkvIdeal.nD Cert.RUkvIdeal.τ).loc Cert.RUkvIdeal.main_arg1))

def preserves_KUkvDx_KUkvDxIdeal : Prop :=
  True

def algebraic_KUkvDxIdeal_RUkvDxIdeal [hKUkvDxIdeal : Cert.KUkvDxIdeal.Facts] [hRUkvDxIdeal : Cert.RUkvDxIdeal.Facts] : Prop :=
  ∀ (m : (ℓ : Loc Cert.KUkvDxIdeal.nD Cert.KUkvDxIdeal.τ Cert.KUkvDxIdeal.sig) → Buf (Elt Ideal) ℓ) (g : Dev Cert.KUkvDxIdeal.nD → PrngReg)
    (m' : (ℓ : Loc Cert.RUkvDxIdeal.nD Cert.RUkvDxIdeal.τ Cert.RUkvDxIdeal.sig) → Buf (Elt Ideal) ℓ) (g' : Dev Cert.RUkvDxIdeal.nD → PrngReg), Pre_KUkvDxIdeal m →
    (∀ c : Dev Cert.KUkvDxIdeal.nD,
      m' ((c.tc : Thread Cert.RUkvDxIdeal.nD Cert.RUkvDxIdeal.τ).loc Cert.RUkvDxIdeal.main_arg0) = m ((c.tc : Thread Cert.KUkvDxIdeal.nD Cert.KUkvDxIdeal.τ).loc Cert.KUkvDxIdeal.main_arg0)
      ∧ m' ((c.tc : Thread Cert.RUkvDxIdeal.nD Cert.RUkvDxIdeal.τ).loc Cert.RUkvDxIdeal.main_arg1) = m ((c.tc : Thread Cert.KUkvDxIdeal.nD Cert.KUkvDxIdeal.τ).loc Cert.KUkvDxIdeal.main_arg1)) →
    ∃ (v0 : (c : Dev Cert.KUkvDxIdeal.nD) → Buf (Elt Ideal) ((c.tc : Thread Cert.KUkvDxIdeal.nD Cert.KUkvDxIdeal.τ).loc Cert.KUkvDxIdeal.main_v2)),
      θ_run (Cert.KUkvDxIdeal.defs (F := Ideal)) (onTc (τ := Cert.KUkvDxIdeal.τ) (Cert.KUkvDxIdeal.main (F := Ideal))) ⟨m, fun _ => 0, g⟩ (fun r => ∀ c : Dev Cert.KUkvDxIdeal.nD,
          r.2.mem ((c.tc : Thread Cert.KUkvDxIdeal.nD Cert.KUkvDxIdeal.τ).loc Cert.KUkvDxIdeal.main_v2) = v0 c
          ∧ r.2.mem ((c.tc : Thread Cert.KUkvDxIdeal.nD Cert.KUkvDxIdeal.τ).loc Cert.KUkvDxIdeal.main_arg0) = m ((c.tc : Thread Cert.KUkvDxIdeal.nD Cert.KUkvDxIdeal.τ).loc Cert.KUkvDxIdeal.main_arg0)
          ∧ r.2.mem ((c.tc : Thread Cert.KUkvDxIdeal.nD Cert.KUkvDxIdeal.τ).loc Cert.KUkvDxIdeal.main_arg1) = m ((c.tc : Thread Cert.KUkvDxIdeal.nD Cert.KUkvDxIdeal.τ).loc Cert.KUkvDxIdeal.main_arg1))
      ∧ θ_run (Cert.RUkvDxIdeal.defs (F := Ideal)) (onTc (τ := Cert.RUkvDxIdeal.τ) (Cert.RUkvDxIdeal.main (F := Ideal))) ⟨m', fun _ => 0, g'⟩ (fun r => ∀ c : Dev Cert.RUkvDxIdeal.nD,
          r.2.mem ((c.tc : Thread Cert.RUkvDxIdeal.nD Cert.RUkvDxIdeal.τ).loc Cert.RUkvDxIdeal.main_v2) = v0 c
          ∧ r.2.mem ((c.tc : Thread Cert.RUkvDxIdeal.nD Cert.RUkvDxIdeal.τ).loc Cert.RUkvDxIdeal.main_arg0) = m' ((c.tc : Thread Cert.RUkvDxIdeal.nD Cert.RUkvDxIdeal.τ).loc Cert.RUkvDxIdeal.main_arg0)
          ∧ r.2.mem ((c.tc : Thread Cert.RUkvDxIdeal.nD Cert.RUkvDxIdeal.τ).loc Cert.RUkvDxIdeal.main_arg1) = m' ((c.tc : Thread Cert.RUkvDxIdeal.nD Cert.RUkvDxIdeal.τ).loc Cert.RUkvDxIdeal.main_arg1))

def preserves_KUkvDw_KUkvDwIdeal : Prop :=
  True

def algebraic_KUkvDwIdeal_RUkvDwIdeal [hKUkvDwIdeal : Cert.KUkvDwIdeal.Facts] [hRUkvDwIdeal : Cert.RUkvDwIdeal.Facts] : Prop :=
  ∀ (m : (ℓ : Loc Cert.KUkvDwIdeal.nD Cert.KUkvDwIdeal.τ Cert.KUkvDwIdeal.sig) → Buf (Elt Ideal) ℓ) (g : Dev Cert.KUkvDwIdeal.nD → PrngReg)
    (m' : (ℓ : Loc Cert.RUkvDwIdeal.nD Cert.RUkvDwIdeal.τ Cert.RUkvDwIdeal.sig) → Buf (Elt Ideal) ℓ) (g' : Dev Cert.RUkvDwIdeal.nD → PrngReg), Pre_KUkvDwIdeal m →
    (∀ c : Dev Cert.KUkvDwIdeal.nD,
      m' ((c.tc : Thread Cert.RUkvDwIdeal.nD Cert.RUkvDwIdeal.τ).loc Cert.RUkvDwIdeal.main_arg0) = m ((c.tc : Thread Cert.KUkvDwIdeal.nD Cert.KUkvDwIdeal.τ).loc Cert.KUkvDwIdeal.main_arg0)
      ∧ m' ((c.tc : Thread Cert.RUkvDwIdeal.nD Cert.RUkvDwIdeal.τ).loc Cert.RUkvDwIdeal.main_arg1) = m ((c.tc : Thread Cert.KUkvDwIdeal.nD Cert.KUkvDwIdeal.τ).loc Cert.KUkvDwIdeal.main_arg1)) →
    ∃ (v0 : (c : Dev Cert.KUkvDwIdeal.nD) → Buf (Elt Ideal) ((c.tc : Thread Cert.KUkvDwIdeal.nD Cert.KUkvDwIdeal.τ).loc Cert.KUkvDwIdeal.main_v2)),
      θ_run (Cert.KUkvDwIdeal.defs (F := Ideal)) (onTc (τ := Cert.KUkvDwIdeal.τ) (Cert.KUkvDwIdeal.main (F := Ideal))) ⟨m, fun _ => 0, g⟩ (fun r => ∀ c : Dev Cert.KUkvDwIdeal.nD,
          r.2.mem ((c.tc : Thread Cert.KUkvDwIdeal.nD Cert.KUkvDwIdeal.τ).loc Cert.KUkvDwIdeal.main_v2) = v0 c
          ∧ r.2.mem ((c.tc : Thread Cert.KUkvDwIdeal.nD Cert.KUkvDwIdeal.τ).loc Cert.KUkvDwIdeal.main_arg0) = m ((c.tc : Thread Cert.KUkvDwIdeal.nD Cert.KUkvDwIdeal.τ).loc Cert.KUkvDwIdeal.main_arg0)
          ∧ r.2.mem ((c.tc : Thread Cert.KUkvDwIdeal.nD Cert.KUkvDwIdeal.τ).loc Cert.KUkvDwIdeal.main_arg1) = m ((c.tc : Thread Cert.KUkvDwIdeal.nD Cert.KUkvDwIdeal.τ).loc Cert.KUkvDwIdeal.main_arg1))
      ∧ θ_run (Cert.RUkvDwIdeal.defs (F := Ideal)) (onTc (τ := Cert.RUkvDwIdeal.τ) (Cert.RUkvDwIdeal.main (F := Ideal))) ⟨m', fun _ => 0, g'⟩ (fun r => ∀ c : Dev Cert.RUkvDwIdeal.nD,
          r.2.mem ((c.tc : Thread Cert.RUkvDwIdeal.nD Cert.RUkvDwIdeal.τ).loc Cert.RUkvDwIdeal.main_v3) = v0 c
          ∧ r.2.mem ((c.tc : Thread Cert.RUkvDwIdeal.nD Cert.RUkvDwIdeal.τ).loc Cert.RUkvDwIdeal.main_arg0) = m' ((c.tc : Thread Cert.RUkvDwIdeal.nD Cert.RUkvDwIdeal.τ).loc Cert.RUkvDwIdeal.main_arg0)
          ∧ r.2.mem ((c.tc : Thread Cert.RUkvDwIdeal.nD Cert.RUkvDwIdeal.τ).loc Cert.RUkvDwIdeal.main_arg1) = m' ((c.tc : Thread Cert.RUkvDwIdeal.nD Cert.RUkvDwIdeal.τ).loc Cert.RUkvDwIdeal.main_arg1))

def preserves_KMlaOut_KMlaOutIdeal : Prop :=
  True

def algebraic_KMlaOutIdeal_RMlaOutIdeal [hKMlaOutIdeal : Cert.KMlaOutIdeal.Facts] [hRMlaOutIdeal : Cert.RMlaOutIdeal.Facts] : Prop :=
  ∀ (m : (ℓ : Loc Cert.KMlaOutIdeal.nD Cert.KMlaOutIdeal.τ Cert.KMlaOutIdeal.sig) → Buf (Elt Ideal) ℓ) (g : Dev Cert.KMlaOutIdeal.nD → PrngReg)
    (m' : (ℓ : Loc Cert.RMlaOutIdeal.nD Cert.RMlaOutIdeal.τ Cert.RMlaOutIdeal.sig) → Buf (Elt Ideal) ℓ) (g' : Dev Cert.RMlaOutIdeal.nD → PrngReg), Pre_KMlaOutIdeal m →
    (∀ c : Dev Cert.KMlaOutIdeal.nD,
      m' ((c.tc : Thread Cert.RMlaOutIdeal.nD Cert.RMlaOutIdeal.τ).loc Cert.RMlaOutIdeal.main_arg0) = m ((c.tc : Thread Cert.KMlaOutIdeal.nD Cert.KMlaOutIdeal.τ).loc Cert.KMlaOutIdeal.main_arg0)
      ∧ m' ((c.tc : Thread Cert.RMlaOutIdeal.nD Cert.RMlaOutIdeal.τ).loc Cert.RMlaOutIdeal.main_arg1) = m ((c.tc : Thread Cert.KMlaOutIdeal.nD Cert.KMlaOutIdeal.τ).loc Cert.KMlaOutIdeal.main_arg1)) →
    ∃ (v0 : (c : Dev Cert.KMlaOutIdeal.nD) → Buf (Elt Ideal) ((c.tc : Thread Cert.KMlaOutIdeal.nD Cert.KMlaOutIdeal.τ).loc Cert.KMlaOutIdeal.main_v1)),
      θ_run (Cert.KMlaOutIdeal.defs (F := Ideal)) (onTc (τ := Cert.KMlaOutIdeal.τ) (Cert.KMlaOutIdeal.main (F := Ideal))) ⟨m, fun _ => 0, g⟩ (fun r => ∀ c : Dev Cert.KMlaOutIdeal.nD,
          r.2.mem ((c.tc : Thread Cert.KMlaOutIdeal.nD Cert.KMlaOutIdeal.τ).loc Cert.KMlaOutIdeal.main_v1) = v0 c
          ∧ r.2.mem ((c.tc : Thread Cert.KMlaOutIdeal.nD Cert.KMlaOutIdeal.τ).loc Cert.KMlaOutIdeal.main_arg0) = m ((c.tc : Thread Cert.KMlaOutIdeal.nD Cert.KMlaOutIdeal.τ).loc Cert.KMlaOutIdeal.main_arg0)
          ∧ r.2.mem ((c.tc : Thread Cert.KMlaOutIdeal.nD Cert.KMlaOutIdeal.τ).loc Cert.KMlaOutIdeal.main_arg1) = m ((c.tc : Thread Cert.KMlaOutIdeal.nD Cert.KMlaOutIdeal.τ).loc Cert.KMlaOutIdeal.main_arg1))
      ∧ θ_run (Cert.RMlaOutIdeal.defs (F := Ideal)) (onTc (τ := Cert.RMlaOutIdeal.τ) (Cert.RMlaOutIdeal.main (F := Ideal))) ⟨m', fun _ => 0, g'⟩ (fun r => ∀ c : Dev Cert.RMlaOutIdeal.nD,
          r.2.mem ((c.tc : Thread Cert.RMlaOutIdeal.nD Cert.RMlaOutIdeal.τ).loc Cert.RMlaOutIdeal.main_v0) = v0 c
          ∧ r.2.mem ((c.tc : Thread Cert.RMlaOutIdeal.nD Cert.RMlaOutIdeal.τ).loc Cert.RMlaOutIdeal.main_arg0) = m' ((c.tc : Thread Cert.RMlaOutIdeal.nD Cert.RMlaOutIdeal.τ).loc Cert.RMlaOutIdeal.main_arg0)
          ∧ r.2.mem ((c.tc : Thread Cert.RMlaOutIdeal.nD Cert.RMlaOutIdeal.τ).loc Cert.RMlaOutIdeal.main_arg1) = m' ((c.tc : Thread Cert.RMlaOutIdeal.nD Cert.RMlaOutIdeal.τ).loc Cert.RMlaOutIdeal.main_arg1))

def preserves_KMlaOutDx_KMlaOutDxIdeal : Prop :=
  True

def algebraic_KMlaOutDxIdeal_RMlaOutDxIdeal [hKMlaOutDxIdeal : Cert.KMlaOutDxIdeal.Facts] [hRMlaOutDxIdeal : Cert.RMlaOutDxIdeal.Facts] : Prop :=
  ∀ (m : (ℓ : Loc Cert.KMlaOutDxIdeal.nD Cert.KMlaOutDxIdeal.τ Cert.KMlaOutDxIdeal.sig) → Buf (Elt Ideal) ℓ) (g : Dev Cert.KMlaOutDxIdeal.nD → PrngReg)
    (m' : (ℓ : Loc Cert.RMlaOutDxIdeal.nD Cert.RMlaOutDxIdeal.τ Cert.RMlaOutDxIdeal.sig) → Buf (Elt Ideal) ℓ) (g' : Dev Cert.RMlaOutDxIdeal.nD → PrngReg), Pre_KMlaOutDxIdeal m →
    (∀ c : Dev Cert.KMlaOutDxIdeal.nD,
      m' ((c.tc : Thread Cert.RMlaOutDxIdeal.nD Cert.RMlaOutDxIdeal.τ).loc Cert.RMlaOutDxIdeal.main_arg0) = m ((c.tc : Thread Cert.KMlaOutDxIdeal.nD Cert.KMlaOutDxIdeal.τ).loc Cert.KMlaOutDxIdeal.main_arg0)
      ∧ m' ((c.tc : Thread Cert.RMlaOutDxIdeal.nD Cert.RMlaOutDxIdeal.τ).loc Cert.RMlaOutDxIdeal.main_arg1) = m ((c.tc : Thread Cert.KMlaOutDxIdeal.nD Cert.KMlaOutDxIdeal.τ).loc Cert.KMlaOutDxIdeal.main_arg1)) →
    ∃ (v0 : (c : Dev Cert.KMlaOutDxIdeal.nD) → Buf (Elt Ideal) ((c.tc : Thread Cert.KMlaOutDxIdeal.nD Cert.KMlaOutDxIdeal.τ).loc Cert.KMlaOutDxIdeal.main_v2)),
      θ_run (Cert.KMlaOutDxIdeal.defs (F := Ideal)) (onTc (τ := Cert.KMlaOutDxIdeal.τ) (Cert.KMlaOutDxIdeal.main (F := Ideal))) ⟨m, fun _ => 0, g⟩ (fun r => ∀ c : Dev Cert.KMlaOutDxIdeal.nD,
          r.2.mem ((c.tc : Thread Cert.KMlaOutDxIdeal.nD Cert.KMlaOutDxIdeal.τ).loc Cert.KMlaOutDxIdeal.main_v2) = v0 c
          ∧ r.2.mem ((c.tc : Thread Cert.KMlaOutDxIdeal.nD Cert.KMlaOutDxIdeal.τ).loc Cert.KMlaOutDxIdeal.main_arg0) = m ((c.tc : Thread Cert.KMlaOutDxIdeal.nD Cert.KMlaOutDxIdeal.τ).loc Cert.KMlaOutDxIdeal.main_arg0)
          ∧ r.2.mem ((c.tc : Thread Cert.KMlaOutDxIdeal.nD Cert.KMlaOutDxIdeal.τ).loc Cert.KMlaOutDxIdeal.main_arg1) = m ((c.tc : Thread Cert.KMlaOutDxIdeal.nD Cert.KMlaOutDxIdeal.τ).loc Cert.KMlaOutDxIdeal.main_arg1))
      ∧ θ_run (Cert.RMlaOutDxIdeal.defs (F := Ideal)) (onTc (τ := Cert.RMlaOutDxIdeal.τ) (Cert.RMlaOutDxIdeal.main (F := Ideal))) ⟨m', fun _ => 0, g'⟩ (fun r => ∀ c : Dev Cert.RMlaOutDxIdeal.nD,
          r.2.mem ((c.tc : Thread Cert.RMlaOutDxIdeal.nD Cert.RMlaOutDxIdeal.τ).loc Cert.RMlaOutDxIdeal.main_v2) = v0 c
          ∧ r.2.mem ((c.tc : Thread Cert.RMlaOutDxIdeal.nD Cert.RMlaOutDxIdeal.τ).loc Cert.RMlaOutDxIdeal.main_arg0) = m' ((c.tc : Thread Cert.RMlaOutDxIdeal.nD Cert.RMlaOutDxIdeal.τ).loc Cert.RMlaOutDxIdeal.main_arg0)
          ∧ r.2.mem ((c.tc : Thread Cert.RMlaOutDxIdeal.nD Cert.RMlaOutDxIdeal.τ).loc Cert.RMlaOutDxIdeal.main_arg1) = m' ((c.tc : Thread Cert.RMlaOutDxIdeal.nD Cert.RMlaOutDxIdeal.τ).loc Cert.RMlaOutDxIdeal.main_arg1))

def preserves_KMlaOutDw_KMlaOutDwIdeal : Prop :=
  True

def algebraic_KMlaOutDwIdeal_RMlaOutDwIdeal [hKMlaOutDwIdeal : Cert.KMlaOutDwIdeal.Facts] [hRMlaOutDwIdeal : Cert.RMlaOutDwIdeal.Facts] : Prop :=
  ∀ (m : (ℓ : Loc Cert.KMlaOutDwIdeal.nD Cert.KMlaOutDwIdeal.τ Cert.KMlaOutDwIdeal.sig) → Buf (Elt Ideal) ℓ) (g : Dev Cert.KMlaOutDwIdeal.nD → PrngReg)
    (m' : (ℓ : Loc Cert.RMlaOutDwIdeal.nD Cert.RMlaOutDwIdeal.τ Cert.RMlaOutDwIdeal.sig) → Buf (Elt Ideal) ℓ) (g' : Dev Cert.RMlaOutDwIdeal.nD → PrngReg), Pre_KMlaOutDwIdeal m →
    (∀ c : Dev Cert.KMlaOutDwIdeal.nD,
      m' ((c.tc : Thread Cert.RMlaOutDwIdeal.nD Cert.RMlaOutDwIdeal.τ).loc Cert.RMlaOutDwIdeal.main_arg0) = m ((c.tc : Thread Cert.KMlaOutDwIdeal.nD Cert.KMlaOutDwIdeal.τ).loc Cert.KMlaOutDwIdeal.main_arg0)
      ∧ m' ((c.tc : Thread Cert.RMlaOutDwIdeal.nD Cert.RMlaOutDwIdeal.τ).loc Cert.RMlaOutDwIdeal.main_arg1) = m ((c.tc : Thread Cert.KMlaOutDwIdeal.nD Cert.KMlaOutDwIdeal.τ).loc Cert.KMlaOutDwIdeal.main_arg1)) →
    ∃ (v0 : (c : Dev Cert.KMlaOutDwIdeal.nD) → Buf (Elt Ideal) ((c.tc : Thread Cert.KMlaOutDwIdeal.nD Cert.KMlaOutDwIdeal.τ).loc Cert.KMlaOutDwIdeal.main_v1)),
      θ_run (Cert.KMlaOutDwIdeal.defs (F := Ideal)) (onTc (τ := Cert.KMlaOutDwIdeal.τ) (Cert.KMlaOutDwIdeal.main (F := Ideal))) ⟨m, fun _ => 0, g⟩ (fun r => ∀ c : Dev Cert.KMlaOutDwIdeal.nD,
          r.2.mem ((c.tc : Thread Cert.KMlaOutDwIdeal.nD Cert.KMlaOutDwIdeal.τ).loc Cert.KMlaOutDwIdeal.main_v1) = v0 c
          ∧ r.2.mem ((c.tc : Thread Cert.KMlaOutDwIdeal.nD Cert.KMlaOutDwIdeal.τ).loc Cert.KMlaOutDwIdeal.main_arg0) = m ((c.tc : Thread Cert.KMlaOutDwIdeal.nD Cert.KMlaOutDwIdeal.τ).loc Cert.KMlaOutDwIdeal.main_arg0)
          ∧ r.2.mem ((c.tc : Thread Cert.KMlaOutDwIdeal.nD Cert.KMlaOutDwIdeal.τ).loc Cert.KMlaOutDwIdeal.main_arg1) = m ((c.tc : Thread Cert.KMlaOutDwIdeal.nD Cert.KMlaOutDwIdeal.τ).loc Cert.KMlaOutDwIdeal.main_arg1))
      ∧ θ_run (Cert.RMlaOutDwIdeal.defs (F := Ideal)) (onTc (τ := Cert.RMlaOutDwIdeal.τ) (Cert.RMlaOutDwIdeal.main (F := Ideal))) ⟨m', fun _ => 0, g'⟩ (fun r => ∀ c : Dev Cert.RMlaOutDwIdeal.nD,
          r.2.mem ((c.tc : Thread Cert.RMlaOutDwIdeal.nD Cert.RMlaOutDwIdeal.τ).loc Cert.RMlaOutDwIdeal.main_v3) = v0 c
          ∧ r.2.mem ((c.tc : Thread Cert.RMlaOutDwIdeal.nD Cert.RMlaOutDwIdeal.τ).loc Cert.RMlaOutDwIdeal.main_arg0) = m' ((c.tc : Thread Cert.RMlaOutDwIdeal.nD Cert.RMlaOutDwIdeal.τ).loc Cert.RMlaOutDwIdeal.main_arg0)
          ∧ r.2.mem ((c.tc : Thread Cert.RMlaOutDwIdeal.nD Cert.RMlaOutDwIdeal.τ).loc Cert.RMlaOutDwIdeal.main_arg1) = m' ((c.tc : Thread Cert.RMlaOutDwIdeal.nD Cert.RMlaOutDwIdeal.τ).loc Cert.RMlaOutDwIdeal.main_arg1))

def preserves_KOut_KOutIdeal : Prop :=
  True

def algebraic_KOutIdeal_ROutIdeal [hKOutIdeal : Cert.KOutIdeal.Facts] [hROutIdeal : Cert.ROutIdeal.Facts] : Prop :=
  ∀ (m : (ℓ : Loc Cert.KOutIdeal.nD Cert.KOutIdeal.τ Cert.KOutIdeal.sig) → Buf (Elt Ideal) ℓ) (g : Dev Cert.KOutIdeal.nD → PrngReg)
    (m' : (ℓ : Loc Cert.ROutIdeal.nD Cert.ROutIdeal.τ Cert.ROutIdeal.sig) → Buf (Elt Ideal) ℓ) (g' : Dev Cert.ROutIdeal.nD → PrngReg), Pre_KOutIdeal m →
    (∀ c : Dev Cert.KOutIdeal.nD,
      m' ((c.tc : Thread Cert.ROutIdeal.nD Cert.ROutIdeal.τ).loc Cert.ROutIdeal.main_arg0) = m ((c.tc : Thread Cert.KOutIdeal.nD Cert.KOutIdeal.τ).loc Cert.KOutIdeal.main_arg0)
      ∧ m' ((c.tc : Thread Cert.ROutIdeal.nD Cert.ROutIdeal.τ).loc Cert.ROutIdeal.main_arg1) = m ((c.tc : Thread Cert.KOutIdeal.nD Cert.KOutIdeal.τ).loc Cert.KOutIdeal.main_arg1)
      ∧ m' ((c.tc : Thread Cert.ROutIdeal.nD Cert.ROutIdeal.τ).loc Cert.ROutIdeal.main_arg2) = m ((c.tc : Thread Cert.KOutIdeal.nD Cert.KOutIdeal.τ).loc Cert.KOutIdeal.main_arg2)) →
    ∃ (v0 : (c : Dev Cert.KOutIdeal.nD) → Buf (Elt Ideal) ((c.tc : Thread Cert.KOutIdeal.nD Cert.KOutIdeal.τ).loc Cert.KOutIdeal.main_v2)),
      θ_run (Cert.KOutIdeal.defs (F := Ideal)) (onTc (τ := Cert.KOutIdeal.τ) (Cert.KOutIdeal.main (F := Ideal))) ⟨m, fun _ => 0, g⟩ (fun r => ∀ c : Dev Cert.KOutIdeal.nD,
          r.2.mem ((c.tc : Thread Cert.KOutIdeal.nD Cert.KOutIdeal.τ).loc Cert.KOutIdeal.main_v2) = v0 c
          ∧ r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
          ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
          ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2))
      ∧ θ_run (Cert.ROutIdeal.defs (F := Ideal)) (onTc (τ := Cert.ROutIdeal.τ) (Cert.ROutIdeal.main (F := Ideal))) ⟨m', fun _ => 0, g'⟩ (fun r => ∀ c : Dev Cert.ROutIdeal.nD,
          r.2.mem ((c.tc : Thread Cert.ROutIdeal.nD Cert.ROutIdeal.τ).loc Cert.ROutIdeal.main_v1) = v0 c
          ∧ r.2.mem ((c.tc : Thread Cert.ROutIdeal.nD Cert.ROutIdeal.τ).loc Cert.ROutIdeal.main_arg0) = m' ((c.tc : Thread Cert.ROutIdeal.nD Cert.ROutIdeal.τ).loc Cert.ROutIdeal.main_arg0)
          ∧ r.2.mem ((c.tc : Thread Cert.ROutIdeal.nD Cert.ROutIdeal.τ).loc Cert.ROutIdeal.main_arg1) = m' ((c.tc : Thread Cert.ROutIdeal.nD Cert.ROutIdeal.τ).loc Cert.ROutIdeal.main_arg1)
          ∧ r.2.mem ((c.tc : Thread Cert.ROutIdeal.nD Cert.ROutIdeal.τ).loc Cert.ROutIdeal.main_arg2) = m' ((c.tc : Thread Cert.ROutIdeal.nD Cert.ROutIdeal.τ).loc Cert.ROutIdeal.main_arg2))

def preserves_KOutDx_KOutDxIdeal : Prop :=
  True

def algebraic_KOutDxIdeal_ROutDxIdeal [hKOutDxIdeal : Cert.KOutDxIdeal.Facts] [hROutDxIdeal : Cert.ROutDxIdeal.Facts] : Prop :=
  ∀ (m : (ℓ : Loc Cert.KOutDxIdeal.nD Cert.KOutDxIdeal.τ Cert.KOutDxIdeal.sig) → Buf (Elt Ideal) ℓ) (g : Dev Cert.KOutDxIdeal.nD → PrngReg)
    (m' : (ℓ : Loc Cert.ROutDxIdeal.nD Cert.ROutDxIdeal.τ Cert.ROutDxIdeal.sig) → Buf (Elt Ideal) ℓ) (g' : Dev Cert.ROutDxIdeal.nD → PrngReg), Pre_KOutDxIdeal m →
    (∀ c : Dev Cert.KOutDxIdeal.nD,
      m' ((c.tc : Thread Cert.ROutDxIdeal.nD Cert.ROutDxIdeal.τ).loc Cert.ROutDxIdeal.main_arg0) = m ((c.tc : Thread Cert.KOutDxIdeal.nD Cert.KOutDxIdeal.τ).loc Cert.KOutDxIdeal.main_arg0)
      ∧ m' ((c.tc : Thread Cert.ROutDxIdeal.nD Cert.ROutDxIdeal.τ).loc Cert.ROutDxIdeal.main_arg1) = m ((c.tc : Thread Cert.KOutDxIdeal.nD Cert.KOutDxIdeal.τ).loc Cert.KOutDxIdeal.main_arg1)) →
    ∃ (v0 : (c : Dev Cert.KOutDxIdeal.nD) → Buf (Elt Ideal) ((c.tc : Thread Cert.KOutDxIdeal.nD Cert.KOutDxIdeal.τ).loc Cert.KOutDxIdeal.main_v1)),
      θ_run (Cert.KOutDxIdeal.defs (F := Ideal)) (onTc (τ := Cert.KOutDxIdeal.τ) (Cert.KOutDxIdeal.main (F := Ideal))) ⟨m, fun _ => 0, g⟩ (fun r => ∀ c : Dev Cert.KOutDxIdeal.nD,
          r.2.mem ((c.tc : Thread Cert.KOutDxIdeal.nD Cert.KOutDxIdeal.τ).loc Cert.KOutDxIdeal.main_v1) = v0 c
          ∧ r.2.mem ((c.tc : Thread Cert.KOutDxIdeal.nD Cert.KOutDxIdeal.τ).loc Cert.KOutDxIdeal.main_arg0) = m ((c.tc : Thread Cert.KOutDxIdeal.nD Cert.KOutDxIdeal.τ).loc Cert.KOutDxIdeal.main_arg0)
          ∧ r.2.mem ((c.tc : Thread Cert.KOutDxIdeal.nD Cert.KOutDxIdeal.τ).loc Cert.KOutDxIdeal.main_arg1) = m ((c.tc : Thread Cert.KOutDxIdeal.nD Cert.KOutDxIdeal.τ).loc Cert.KOutDxIdeal.main_arg1))
      ∧ θ_run (Cert.ROutDxIdeal.defs (F := Ideal)) (onTc (τ := Cert.ROutDxIdeal.τ) (Cert.ROutDxIdeal.main (F := Ideal))) ⟨m', fun _ => 0, g'⟩ (fun r => ∀ c : Dev Cert.ROutDxIdeal.nD,
          r.2.mem ((c.tc : Thread Cert.ROutDxIdeal.nD Cert.ROutDxIdeal.τ).loc Cert.ROutDxIdeal.main_v2) = v0 c
          ∧ r.2.mem ((c.tc : Thread Cert.ROutDxIdeal.nD Cert.ROutDxIdeal.τ).loc Cert.ROutDxIdeal.main_arg0) = m' ((c.tc : Thread Cert.ROutDxIdeal.nD Cert.ROutDxIdeal.τ).loc Cert.ROutDxIdeal.main_arg0)
          ∧ r.2.mem ((c.tc : Thread Cert.ROutDxIdeal.nD Cert.ROutDxIdeal.τ).loc Cert.ROutDxIdeal.main_arg1) = m' ((c.tc : Thread Cert.ROutDxIdeal.nD Cert.ROutDxIdeal.τ).loc Cert.ROutDxIdeal.main_arg1))

def preserves_KOutDw_KOutDwIdeal : Prop :=
  True

def algebraic_KOutDwIdeal_ROutDwIdeal [hKOutDwIdeal : Cert.KOutDwIdeal.Facts] [hROutDwIdeal : Cert.ROutDwIdeal.Facts] : Prop :=
  ∀ (m : (ℓ : Loc Cert.KOutDwIdeal.nD Cert.KOutDwIdeal.τ Cert.KOutDwIdeal.sig) → Buf (Elt Ideal) ℓ) (g : Dev Cert.KOutDwIdeal.nD → PrngReg)
    (m' : (ℓ : Loc Cert.ROutDwIdeal.nD Cert.ROutDwIdeal.τ Cert.ROutDwIdeal.sig) → Buf (Elt Ideal) ℓ) (g' : Dev Cert.ROutDwIdeal.nD → PrngReg), Pre_KOutDwIdeal m →
    (∀ c : Dev Cert.KOutDwIdeal.nD,
      m' ((c.tc : Thread Cert.ROutDwIdeal.nD Cert.ROutDwIdeal.τ).loc Cert.ROutDwIdeal.main_arg0) = m ((c.tc : Thread Cert.KOutDwIdeal.nD Cert.KOutDwIdeal.τ).loc Cert.KOutDwIdeal.main_arg0)
      ∧ m' ((c.tc : Thread Cert.ROutDwIdeal.nD Cert.ROutDwIdeal.τ).loc Cert.ROutDwIdeal.main_arg1) = m ((c.tc : Thread Cert.KOutDwIdeal.nD Cert.KOutDwIdeal.τ).loc Cert.KOutDwIdeal.main_arg1)) →
    ∃ (v0 : (c : Dev Cert.KOutDwIdeal.nD) → Buf (Elt Ideal) ((c.tc : Thread Cert.KOutDwIdeal.nD Cert.KOutDwIdeal.τ).loc Cert.KOutDwIdeal.main_v1)),
      θ_run (Cert.KOutDwIdeal.defs (F := Ideal)) (onTc (τ := Cert.KOutDwIdeal.τ) (Cert.KOutDwIdeal.main (F := Ideal))) ⟨m, fun _ => 0, g⟩ (fun r => ∀ c : Dev Cert.KOutDwIdeal.nD,
          r.2.mem ((c.tc : Thread Cert.KOutDwIdeal.nD Cert.KOutDwIdeal.τ).loc Cert.KOutDwIdeal.main_v1) = v0 c
          ∧ r.2.mem ((c.tc : Thread Cert.KOutDwIdeal.nD Cert.KOutDwIdeal.τ).loc Cert.KOutDwIdeal.main_arg0) = m ((c.tc : Thread Cert.KOutDwIdeal.nD Cert.KOutDwIdeal.τ).loc Cert.KOutDwIdeal.main_arg0)
          ∧ r.2.mem ((c.tc : Thread Cert.KOutDwIdeal.nD Cert.KOutDwIdeal.τ).loc Cert.KOutDwIdeal.main_arg1) = m ((c.tc : Thread Cert.KOutDwIdeal.nD Cert.KOutDwIdeal.τ).loc Cert.KOutDwIdeal.main_arg1))
      ∧ θ_run (Cert.ROutDwIdeal.defs (F := Ideal)) (onTc (τ := Cert.ROutDwIdeal.τ) (Cert.ROutDwIdeal.main (F := Ideal))) ⟨m', fun _ => 0, g'⟩ (fun r => ∀ c : Dev Cert.ROutDwIdeal.nD,
          r.2.mem ((c.tc : Thread Cert.ROutDwIdeal.nD Cert.ROutDwIdeal.τ).loc Cert.ROutDwIdeal.main_v3) = v0 c
          ∧ r.2.mem ((c.tc : Thread Cert.ROutDwIdeal.nD Cert.ROutDwIdeal.τ).loc Cert.ROutDwIdeal.main_arg0) = m' ((c.tc : Thread Cert.ROutDwIdeal.nD Cert.ROutDwIdeal.τ).loc Cert.ROutDwIdeal.main_arg0)
          ∧ r.2.mem ((c.tc : Thread Cert.ROutDwIdeal.nD Cert.ROutDwIdeal.τ).loc Cert.ROutDwIdeal.main_arg1) = m' ((c.tc : Thread Cert.ROutDwIdeal.nD Cert.ROutDwIdeal.τ).loc Cert.ROutDwIdeal.main_arg1))

def preserves_KNorm_KNormIdeal : Prop :=
  True

def algebraic_KNormIdeal_RNormIdeal [hKNormIdeal : Cert.KNormIdeal.Facts] [hRNormIdeal : Cert.RNormIdeal.Facts] : Prop :=
  ∀ (m : (ℓ : Loc Cert.KNormIdeal.nD Cert.KNormIdeal.τ Cert.KNormIdeal.sig) → Buf (Elt Ideal) ℓ) (g : Dev Cert.KNormIdeal.nD → PrngReg)
    (m' : (ℓ : Loc Cert.RNormIdeal.nD Cert.RNormIdeal.τ Cert.RNormIdeal.sig) → Buf (Elt Ideal) ℓ) (g' : Dev Cert.RNormIdeal.nD → PrngReg), Pre_KNormIdeal m →
    (∀ c : Dev Cert.KNormIdeal.nD,
      m' ((c.tc : Thread Cert.RNormIdeal.nD Cert.RNormIdeal.τ).loc Cert.RNormIdeal.main_arg0) = m ((c.tc : Thread Cert.KNormIdeal.nD Cert.KNormIdeal.τ).loc Cert.KNormIdeal.main_arg0)
      ∧ m' ((c.tc : Thread Cert.RNormIdeal.nD Cert.RNormIdeal.τ).loc Cert.RNormIdeal.main_arg1) = m ((c.tc : Thread Cert.KNormIdeal.nD Cert.KNormIdeal.τ).loc Cert.KNormIdeal.main_arg1)) →
    ∃ (v0 : (c : Dev Cert.KNormIdeal.nD) → Buf (Elt Ideal) ((c.tc : Thread Cert.KNormIdeal.nD Cert.KNormIdeal.τ).loc Cert.KNormIdeal.main_v0)),
      θ_run (Cert.KNormIdeal.defs (F := Ideal)) (onTc (τ := Cert.KNormIdeal.τ) (Cert.KNormIdeal.main (F := Ideal))) ⟨m, fun _ => 0, g⟩ (fun r => ∀ c : Dev Cert.KNormIdeal.nD,
          r.2.mem ((c.tc : Thread Cert.KNormIdeal.nD Cert.KNormIdeal.τ).loc Cert.KNormIdeal.main_v0) = v0 c
          ∧ r.2.mem ((c.tc : Thread Cert.KNormIdeal.nD Cert.KNormIdeal.τ).loc Cert.KNormIdeal.main_arg0) = m ((c.tc : Thread Cert.KNormIdeal.nD Cert.KNormIdeal.τ).loc Cert.KNormIdeal.main_arg0)
          ∧ r.2.mem ((c.tc : Thread Cert.KNormIdeal.nD Cert.KNormIdeal.τ).loc Cert.KNormIdeal.main_arg1) = m ((c.tc : Thread Cert.KNormIdeal.nD Cert.KNormIdeal.τ).loc Cert.KNormIdeal.main_arg1))
      ∧ θ_run (Cert.RNormIdeal.defs (F := Ideal)) (onTc (τ := Cert.RNormIdeal.τ) (Cert.RNormIdeal.main (F := Ideal))) ⟨m', fun _ => 0, g'⟩ (fun r => ∀ c : Dev Cert.RNormIdeal.nD,
          r.2.mem ((c.tc : Thread Cert.RNormIdeal.nD Cert.RNormIdeal.τ).loc Cert.RNormIdeal.main_v12) = v0 c
          ∧ r.2.mem ((c.tc : Thread Cert.RNormIdeal.nD Cert.RNormIdeal.τ).loc Cert.RNormIdeal.main_arg0) = m' ((c.tc : Thread Cert.RNormIdeal.nD Cert.RNormIdeal.τ).loc Cert.RNormIdeal.main_arg0)
          ∧ r.2.mem ((c.tc : Thread Cert.RNormIdeal.nD Cert.RNormIdeal.τ).loc Cert.RNormIdeal.main_arg1) = m' ((c.tc : Thread Cert.RNormIdeal.nD Cert.RNormIdeal.τ).loc Cert.RNormIdeal.main_arg1))

def preserves_KGatedNorm_KGatedNormIdeal : Prop :=
  True

def algebraic_KGatedNormIdeal_RGatedNormIdeal [hKGatedNormIdeal : Cert.KGatedNormIdeal.Facts] [hRGatedNormIdeal : Cert.RGatedNormIdeal.Facts] : Prop :=
  ∀ (m : (ℓ : Loc Cert.KGatedNormIdeal.nD Cert.KGatedNormIdeal.τ Cert.KGatedNormIdeal.sig) → Buf (Elt Ideal) ℓ) (g : Dev Cert.KGatedNormIdeal.nD → PrngReg)
    (m' : (ℓ : Loc Cert.RGatedNormIdeal.nD Cert.RGatedNormIdeal.τ Cert.RGatedNormIdeal.sig) → Buf (Elt Ideal) ℓ) (g' : Dev Cert.RGatedNormIdeal.nD → PrngReg), Pre_KGatedNormIdeal m →
    (∀ c : Dev Cert.KGatedNormIdeal.nD,
      m' ((c.tc : Thread Cert.RGatedNormIdeal.nD Cert.RGatedNormIdeal.τ).loc Cert.RGatedNormIdeal.main_arg0) = m ((c.tc : Thread Cert.KGatedNormIdeal.nD Cert.KGatedNormIdeal.τ).loc Cert.KGatedNormIdeal.main_arg0)
      ∧ m' ((c.tc : Thread Cert.RGatedNormIdeal.nD Cert.RGatedNormIdeal.τ).loc Cert.RGatedNormIdeal.main_arg1) = m ((c.tc : Thread Cert.KGatedNormIdeal.nD Cert.KGatedNormIdeal.τ).loc Cert.KGatedNormIdeal.main_arg1)
      ∧ m' ((c.tc : Thread Cert.RGatedNormIdeal.nD Cert.RGatedNormIdeal.τ).loc Cert.RGatedNormIdeal.main_arg2) = m ((c.tc : Thread Cert.KGatedNormIdeal.nD Cert.KGatedNormIdeal.τ).loc Cert.KGatedNormIdeal.main_arg2)) →
    ∃ (v0 : (c : Dev Cert.KGatedNormIdeal.nD) → Buf (Elt Ideal) ((c.tc : Thread Cert.KGatedNormIdeal.nD Cert.KGatedNormIdeal.τ).loc Cert.KGatedNormIdeal.main_v0)),
      θ_run (Cert.KGatedNormIdeal.defs (F := Ideal)) (onTc (τ := Cert.KGatedNormIdeal.τ) (Cert.KGatedNormIdeal.main (F := Ideal))) ⟨m, fun _ => 0, g⟩ (fun r => ∀ c : Dev Cert.KGatedNormIdeal.nD,
          r.2.mem ((c.tc : Thread Cert.KGatedNormIdeal.nD Cert.KGatedNormIdeal.τ).loc Cert.KGatedNormIdeal.main_v0) = v0 c
          ∧ r.2.mem ((c.tc : Thread Cert.KGatedNormIdeal.nD Cert.KGatedNormIdeal.τ).loc Cert.KGatedNormIdeal.main_arg0) = m ((c.tc : Thread Cert.KGatedNormIdeal.nD Cert.KGatedNormIdeal.τ).loc Cert.KGatedNormIdeal.main_arg0)
          ∧ r.2.mem ((c.tc : Thread Cert.KGatedNormIdeal.nD Cert.KGatedNormIdeal.τ).loc Cert.KGatedNormIdeal.main_arg1) = m ((c.tc : Thread Cert.KGatedNormIdeal.nD Cert.KGatedNormIdeal.τ).loc Cert.KGatedNormIdeal.main_arg1)
          ∧ r.2.mem ((c.tc : Thread Cert.KGatedNormIdeal.nD Cert.KGatedNormIdeal.τ).loc Cert.KGatedNormIdeal.main_arg2) = m ((c.tc : Thread Cert.KGatedNormIdeal.nD Cert.KGatedNormIdeal.τ).loc Cert.KGatedNormIdeal.main_arg2))
      ∧ θ_run (Cert.RGatedNormIdeal.defs (F := Ideal)) (onTc (τ := Cert.RGatedNormIdeal.τ) (Cert.RGatedNormIdeal.main (F := Ideal))) ⟨m', fun _ => 0, g'⟩ (fun r => ∀ c : Dev Cert.RGatedNormIdeal.nD,
          r.2.mem ((c.tc : Thread Cert.RGatedNormIdeal.nD Cert.RGatedNormIdeal.τ).loc Cert.RGatedNormIdeal.main_v15) = v0 c
          ∧ r.2.mem ((c.tc : Thread Cert.RGatedNormIdeal.nD Cert.RGatedNormIdeal.τ).loc Cert.RGatedNormIdeal.main_arg0) = m' ((c.tc : Thread Cert.RGatedNormIdeal.nD Cert.RGatedNormIdeal.τ).loc Cert.RGatedNormIdeal.main_arg0)
          ∧ r.2.mem ((c.tc : Thread Cert.RGatedNormIdeal.nD Cert.RGatedNormIdeal.τ).loc Cert.RGatedNormIdeal.main_arg1) = m' ((c.tc : Thread Cert.RGatedNormIdeal.nD Cert.RGatedNormIdeal.τ).loc Cert.RGatedNormIdeal.main_arg1)
          ∧ r.2.mem ((c.tc : Thread Cert.RGatedNormIdeal.nD Cert.RGatedNormIdeal.τ).loc Cert.RGatedNormIdeal.main_arg2) = m' ((c.tc : Thread Cert.RGatedNormIdeal.nD Cert.RGatedNormIdeal.τ).loc Cert.RGatedNormIdeal.main_arg2))

def preserves_KMerge_KMergeIdeal : Prop :=
  True

def algebraic_KMergeIdeal_RMergeIdeal [hKMergeIdeal : Cert.KMergeIdeal.Facts] [hRMergeIdeal : Cert.RMergeIdeal.Facts] : Prop :=
  ∀ (m : (ℓ : Loc Cert.KMergeIdeal.nD Cert.KMergeIdeal.τ Cert.KMergeIdeal.sig) → Buf (Elt Ideal) ℓ) (g : Dev Cert.KMergeIdeal.nD → PrngReg)
    (m' : (ℓ : Loc Cert.RMergeIdeal.nD Cert.RMergeIdeal.τ Cert.RMergeIdeal.sig) → Buf (Elt Ideal) ℓ) (g' : Dev Cert.RMergeIdeal.nD → PrngReg), Pre_KMergeIdeal m →
    (∀ c : Dev Cert.KMergeIdeal.nD,
      m' ((c.tc : Thread Cert.RMergeIdeal.nD Cert.RMergeIdeal.τ).loc Cert.RMergeIdeal.main_arg0) = m ((c.tc : Thread Cert.KMergeIdeal.nD Cert.KMergeIdeal.τ).loc Cert.KMergeIdeal.main_arg0)
      ∧ m' ((c.tc : Thread Cert.RMergeIdeal.nD Cert.RMergeIdeal.τ).loc Cert.RMergeIdeal.main_arg1) = m ((c.tc : Thread Cert.KMergeIdeal.nD Cert.KMergeIdeal.τ).loc Cert.KMergeIdeal.main_arg1)
      ∧ m' ((c.tc : Thread Cert.RMergeIdeal.nD Cert.RMergeIdeal.τ).loc Cert.RMergeIdeal.main_arg2) = m ((c.tc : Thread Cert.KMergeIdeal.nD Cert.KMergeIdeal.τ).loc Cert.KMergeIdeal.main_arg2)) →
    ∃ (v0 : (c : Dev Cert.KMergeIdeal.nD) → Buf (Elt Ideal) ((c.tc : Thread Cert.KMergeIdeal.nD Cert.KMergeIdeal.τ).loc Cert.KMergeIdeal.main_v0)),
      θ_run (Cert.KMergeIdeal.defs (F := Ideal)) (onTc (τ := Cert.KMergeIdeal.τ) (Cert.KMergeIdeal.main (F := Ideal))) ⟨m, fun _ => 0, g⟩ (fun r => ∀ c : Dev Cert.KMergeIdeal.nD,
          r.2.mem ((c.tc : Thread Cert.KMergeIdeal.nD Cert.KMergeIdeal.τ).loc Cert.KMergeIdeal.main_v0) = v0 c
          ∧ r.2.mem ((c.tc : Thread Cert.KMergeIdeal.nD Cert.KMergeIdeal.τ).loc Cert.KMergeIdeal.main_arg0) = m ((c.tc : Thread Cert.KMergeIdeal.nD Cert.KMergeIdeal.τ).loc Cert.KMergeIdeal.main_arg0)
          ∧ r.2.mem ((c.tc : Thread Cert.KMergeIdeal.nD Cert.KMergeIdeal.τ).loc Cert.KMergeIdeal.main_arg1) = m ((c.tc : Thread Cert.KMergeIdeal.nD Cert.KMergeIdeal.τ).loc Cert.KMergeIdeal.main_arg1)
          ∧ r.2.mem ((c.tc : Thread Cert.KMergeIdeal.nD Cert.KMergeIdeal.τ).loc Cert.KMergeIdeal.main_arg2) = m ((c.tc : Thread Cert.KMergeIdeal.nD Cert.KMergeIdeal.τ).loc Cert.KMergeIdeal.main_arg2))
      ∧ θ_run (Cert.RMergeIdeal.defs (F := Ideal)) (onTc (τ := Cert.RMergeIdeal.τ) (Cert.RMergeIdeal.main (F := Ideal))) ⟨m', fun _ => 0, g'⟩ (fun r => ∀ c : Dev Cert.RMergeIdeal.nD,
          r.2.mem ((c.tc : Thread Cert.RMergeIdeal.nD Cert.RMergeIdeal.τ).loc Cert.RMergeIdeal.main_v12) = v0 c
          ∧ r.2.mem ((c.tc : Thread Cert.RMergeIdeal.nD Cert.RMergeIdeal.τ).loc Cert.RMergeIdeal.main_arg0) = m' ((c.tc : Thread Cert.RMergeIdeal.nD Cert.RMergeIdeal.τ).loc Cert.RMergeIdeal.main_arg0)
          ∧ r.2.mem ((c.tc : Thread Cert.RMergeIdeal.nD Cert.RMergeIdeal.τ).loc Cert.RMergeIdeal.main_arg1) = m' ((c.tc : Thread Cert.RMergeIdeal.nD Cert.RMergeIdeal.τ).loc Cert.RMergeIdeal.main_arg1)
          ∧ r.2.mem ((c.tc : Thread Cert.RMergeIdeal.nD Cert.RMergeIdeal.τ).loc Cert.RMergeIdeal.main_arg2) = m' ((c.tc : Thread Cert.RMergeIdeal.nD Cert.RMergeIdeal.τ).loc Cert.RMergeIdeal.main_arg2))

def preserves_KAdam_KAdamIdeal : Prop :=
  True

def algebraic_KAdamIdeal_RAdamIdeal [hKAdamIdeal : Cert.KAdamIdeal.Facts] [hRAdamIdeal : Cert.RAdamIdeal.Facts] : Prop :=
  ∀ (m : (ℓ : Loc Cert.KAdamIdeal.nD Cert.KAdamIdeal.τ Cert.KAdamIdeal.sig) → Buf (Elt Ideal) ℓ) (g : Dev Cert.KAdamIdeal.nD → PrngReg)
    (m' : (ℓ : Loc Cert.RAdamIdeal.nD Cert.RAdamIdeal.τ Cert.RAdamIdeal.sig) → Buf (Elt Ideal) ℓ) (g' : Dev Cert.RAdamIdeal.nD → PrngReg), Pre_KAdamIdeal m →
    (∀ c : Dev Cert.KAdamIdeal.nD,
      m' ((c.tc : Thread Cert.RAdamIdeal.nD Cert.RAdamIdeal.τ).loc Cert.RAdamIdeal.main_arg0) = m ((c.tc : Thread Cert.KAdamIdeal.nD Cert.KAdamIdeal.τ).loc Cert.KAdamIdeal.main_arg0)
      ∧ m' ((c.tc : Thread Cert.RAdamIdeal.nD Cert.RAdamIdeal.τ).loc Cert.RAdamIdeal.main_arg1) = m ((c.tc : Thread Cert.KAdamIdeal.nD Cert.KAdamIdeal.τ).loc Cert.KAdamIdeal.main_arg1)
      ∧ m' ((c.tc : Thread Cert.RAdamIdeal.nD Cert.RAdamIdeal.τ).loc Cert.RAdamIdeal.main_arg2) = m ((c.tc : Thread Cert.KAdamIdeal.nD Cert.KAdamIdeal.τ).loc Cert.KAdamIdeal.main_arg2)
      ∧ m' ((c.tc : Thread Cert.RAdamIdeal.nD Cert.RAdamIdeal.τ).loc Cert.RAdamIdeal.main_arg3) = m ((c.tc : Thread Cert.KAdamIdeal.nD Cert.KAdamIdeal.τ).loc Cert.KAdamIdeal.main_arg3)) →
    ∃ (v0 : (c : Dev Cert.KAdamIdeal.nD) → Buf (Elt Ideal) ((c.tc : Thread Cert.KAdamIdeal.nD Cert.KAdamIdeal.τ).loc Cert.KAdamIdeal.main_v0_0)) (v1 : (c : Dev Cert.KAdamIdeal.nD) → Buf (Elt Ideal) ((c.tc : Thread Cert.KAdamIdeal.nD Cert.KAdamIdeal.τ).loc Cert.KAdamIdeal.main_v0_1)) (v2 : (c : Dev Cert.KAdamIdeal.nD) → Buf (Elt Ideal) ((c.tc : Thread Cert.KAdamIdeal.nD Cert.KAdamIdeal.τ).loc Cert.KAdamIdeal.main_v0_2)),
      θ_run (Cert.KAdamIdeal.defs (F := Ideal)) (onTc (τ := Cert.KAdamIdeal.τ) (Cert.KAdamIdeal.main (F := Ideal))) ⟨m, fun _ => 0, g⟩ (fun r => ∀ c : Dev Cert.KAdamIdeal.nD,
          r.2.mem ((c.tc : Thread Cert.KAdamIdeal.nD Cert.KAdamIdeal.τ).loc Cert.KAdamIdeal.main_v0_0) = v0 c
          ∧ r.2.mem ((c.tc : Thread Cert.KAdamIdeal.nD Cert.KAdamIdeal.τ).loc Cert.KAdamIdeal.main_v0_1) = v1 c
          ∧ r.2.mem ((c.tc : Thread Cert.KAdamIdeal.nD Cert.KAdamIdeal.τ).loc Cert.KAdamIdeal.main_v0_2) = v2 c
          ∧ r.2.mem ((c.tc : Thread Cert.KAdamIdeal.nD Cert.KAdamIdeal.τ).loc Cert.KAdamIdeal.main_arg0) = m ((c.tc : Thread Cert.KAdamIdeal.nD Cert.KAdamIdeal.τ).loc Cert.KAdamIdeal.main_arg0)
          ∧ r.2.mem ((c.tc : Thread Cert.KAdamIdeal.nD Cert.KAdamIdeal.τ).loc Cert.KAdamIdeal.main_arg1) = m ((c.tc : Thread Cert.KAdamIdeal.nD Cert.KAdamIdeal.τ).loc Cert.KAdamIdeal.main_arg1)
          ∧ r.2.mem ((c.tc : Thread Cert.KAdamIdeal.nD Cert.KAdamIdeal.τ).loc Cert.KAdamIdeal.main_arg2) = m ((c.tc : Thread Cert.KAdamIdeal.nD Cert.KAdamIdeal.τ).loc Cert.KAdamIdeal.main_arg2)
          ∧ r.2.mem ((c.tc : Thread Cert.KAdamIdeal.nD Cert.KAdamIdeal.τ).loc Cert.KAdamIdeal.main_arg3) = m ((c.tc : Thread Cert.KAdamIdeal.nD Cert.KAdamIdeal.τ).loc Cert.KAdamIdeal.main_arg3))
      ∧ θ_run (Cert.RAdamIdeal.defs (F := Ideal)) (onTc (τ := Cert.RAdamIdeal.τ) (Cert.RAdamIdeal.main (F := Ideal))) ⟨m', fun _ => 0, g'⟩ (fun r => ∀ c : Dev Cert.RAdamIdeal.nD,
          r.2.mem ((c.tc : Thread Cert.RAdamIdeal.nD Cert.RAdamIdeal.τ).loc Cert.RAdamIdeal.main_v23) = v0 c
          ∧ r.2.mem ((c.tc : Thread Cert.RAdamIdeal.nD Cert.RAdamIdeal.τ).loc Cert.RAdamIdeal.main_v4) = v1 c
          ∧ r.2.mem ((c.tc : Thread Cert.RAdamIdeal.nD Cert.RAdamIdeal.τ).loc Cert.RAdamIdeal.main_v10) = v2 c
          ∧ r.2.mem ((c.tc : Thread Cert.RAdamIdeal.nD Cert.RAdamIdeal.τ).loc Cert.RAdamIdeal.main_arg0) = m' ((c.tc : Thread Cert.RAdamIdeal.nD Cert.RAdamIdeal.τ).loc Cert.RAdamIdeal.main_arg0)
          ∧ r.2.mem ((c.tc : Thread Cert.RAdamIdeal.nD Cert.RAdamIdeal.τ).loc Cert.RAdamIdeal.main_arg1) = m' ((c.tc : Thread Cert.RAdamIdeal.nD Cert.RAdamIdeal.τ).loc Cert.RAdamIdeal.main_arg1)
          ∧ r.2.mem ((c.tc : Thread Cert.RAdamIdeal.nD Cert.RAdamIdeal.τ).loc Cert.RAdamIdeal.main_arg2) = m' ((c.tc : Thread Cert.RAdamIdeal.nD Cert.RAdamIdeal.τ).loc Cert.RAdamIdeal.main_arg2)
          ∧ r.2.mem ((c.tc : Thread Cert.RAdamIdeal.nD Cert.RAdamIdeal.τ).loc Cert.RAdamIdeal.main_arg3) = m' ((c.tc : Thread Cert.RAdamIdeal.nD Cert.RAdamIdeal.τ).loc Cert.RAdamIdeal.main_arg3))

def preserves_KQNorm_KQNormIdeal : Prop :=
  True

def algebraic_KQNormIdeal_RQNormIdeal [hKQNormIdeal : Cert.KQNormIdeal.Facts] [hRQNormIdeal : Cert.RQNormIdeal.Facts] : Prop :=
  ∀ (m : (ℓ : Loc Cert.KQNormIdeal.nD Cert.KQNormIdeal.τ Cert.KQNormIdeal.sig) → Buf (Elt Ideal) ℓ) (g : Dev Cert.KQNormIdeal.nD → PrngReg)
    (m' : (ℓ : Loc Cert.RQNormIdeal.nD Cert.RQNormIdeal.τ Cert.RQNormIdeal.sig) → Buf (Elt Ideal) ℓ) (g' : Dev Cert.RQNormIdeal.nD → PrngReg), Pre_KQNormIdeal m →
    (∀ c : Dev Cert.KQNormIdeal.nD,
      m' ((c.tc : Thread Cert.RQNormIdeal.nD Cert.RQNormIdeal.τ).loc Cert.RQNormIdeal.main_arg0) = m ((c.tc : Thread Cert.KQNormIdeal.nD Cert.KQNormIdeal.τ).loc Cert.KQNormIdeal.main_arg0)
      ∧ m' ((c.tc : Thread Cert.RQNormIdeal.nD Cert.RQNormIdeal.τ).loc Cert.RQNormIdeal.main_arg1) = m ((c.tc : Thread Cert.KQNormIdeal.nD Cert.KQNormIdeal.τ).loc Cert.KQNormIdeal.main_arg1)) →
    ∃ (v0 : (c : Dev Cert.KQNormIdeal.nD) → Buf (Elt Ideal) ((c.tc : Thread Cert.KQNormIdeal.nD Cert.KQNormIdeal.τ).loc Cert.KQNormIdeal.main_v0)),
      θ_run (Cert.KQNormIdeal.defs (F := Ideal)) (onTc (τ := Cert.KQNormIdeal.τ) (Cert.KQNormIdeal.main (F := Ideal))) ⟨m, fun _ => 0, g⟩ (fun r => ∀ c : Dev Cert.KQNormIdeal.nD,
          r.2.mem ((c.tc : Thread Cert.KQNormIdeal.nD Cert.KQNormIdeal.τ).loc Cert.KQNormIdeal.main_v0) = v0 c
          ∧ r.2.mem ((c.tc : Thread Cert.KQNormIdeal.nD Cert.KQNormIdeal.τ).loc Cert.KQNormIdeal.main_arg0) = m ((c.tc : Thread Cert.KQNormIdeal.nD Cert.KQNormIdeal.τ).loc Cert.KQNormIdeal.main_arg0)
          ∧ r.2.mem ((c.tc : Thread Cert.KQNormIdeal.nD Cert.KQNormIdeal.τ).loc Cert.KQNormIdeal.main_arg1) = m ((c.tc : Thread Cert.KQNormIdeal.nD Cert.KQNormIdeal.τ).loc Cert.KQNormIdeal.main_arg1))
      ∧ θ_run (Cert.RQNormIdeal.defs (F := Ideal)) (onTc (τ := Cert.RQNormIdeal.τ) (Cert.RQNormIdeal.main (F := Ideal))) ⟨m', fun _ => 0, g'⟩ (fun r => ∀ c : Dev Cert.RQNormIdeal.nD,
          r.2.mem ((c.tc : Thread Cert.RQNormIdeal.nD Cert.RQNormIdeal.τ).loc Cert.RQNormIdeal.main_v13) = v0 c
          ∧ r.2.mem ((c.tc : Thread Cert.RQNormIdeal.nD Cert.RQNormIdeal.τ).loc Cert.RQNormIdeal.main_arg0) = m' ((c.tc : Thread Cert.RQNormIdeal.nD Cert.RQNormIdeal.τ).loc Cert.RQNormIdeal.main_arg0)
          ∧ r.2.mem ((c.tc : Thread Cert.RQNormIdeal.nD Cert.RQNormIdeal.τ).loc Cert.RQNormIdeal.main_arg1) = m' ((c.tc : Thread Cert.RQNormIdeal.nD Cert.RQNormIdeal.τ).loc Cert.RQNormIdeal.main_arg1))

def preserves_KKvNorm_KKvNormIdeal : Prop :=
  True

def algebraic_KKvNormIdeal_RKvNormIdeal [hKKvNormIdeal : Cert.KKvNormIdeal.Facts] [hRKvNormIdeal : Cert.RKvNormIdeal.Facts] : Prop :=
  ∀ (m : (ℓ : Loc Cert.KKvNormIdeal.nD Cert.KKvNormIdeal.τ Cert.KKvNormIdeal.sig) → Buf (Elt Ideal) ℓ) (g : Dev Cert.KKvNormIdeal.nD → PrngReg)
    (m' : (ℓ : Loc Cert.RKvNormIdeal.nD Cert.RKvNormIdeal.τ Cert.RKvNormIdeal.sig) → Buf (Elt Ideal) ℓ) (g' : Dev Cert.RKvNormIdeal.nD → PrngReg), Pre_KKvNormIdeal m →
    (∀ c : Dev Cert.KKvNormIdeal.nD,
      m' ((c.tc : Thread Cert.RKvNormIdeal.nD Cert.RKvNormIdeal.τ).loc Cert.RKvNormIdeal.main_arg0) = m ((c.tc : Thread Cert.KKvNormIdeal.nD Cert.KKvNormIdeal.τ).loc Cert.KKvNormIdeal.main_arg0)
      ∧ m' ((c.tc : Thread Cert.RKvNormIdeal.nD Cert.RKvNormIdeal.τ).loc Cert.RKvNormIdeal.main_arg1) = m ((c.tc : Thread Cert.KKvNormIdeal.nD Cert.KKvNormIdeal.τ).loc Cert.KKvNormIdeal.main_arg1)) →
    ∃ (v0 : (c : Dev Cert.KKvNormIdeal.nD) → Buf (Elt Ideal) ((c.tc : Thread Cert.KKvNormIdeal.nD Cert.KKvNormIdeal.τ).loc Cert.KKvNormIdeal.main_v0)),
      θ_run (Cert.KKvNormIdeal.defs (F := Ideal)) (onTc (τ := Cert.KKvNormIdeal.τ) (Cert.KKvNormIdeal.main (F := Ideal))) ⟨m, fun _ => 0, g⟩ (fun r => ∀ c : Dev Cert.KKvNormIdeal.nD,
          r.2.mem ((c.tc : Thread Cert.KKvNormIdeal.nD Cert.KKvNormIdeal.τ).loc Cert.KKvNormIdeal.main_v0) = v0 c
          ∧ r.2.mem ((c.tc : Thread Cert.KKvNormIdeal.nD Cert.KKvNormIdeal.τ).loc Cert.KKvNormIdeal.main_arg0) = m ((c.tc : Thread Cert.KKvNormIdeal.nD Cert.KKvNormIdeal.τ).loc Cert.KKvNormIdeal.main_arg0)
          ∧ r.2.mem ((c.tc : Thread Cert.KKvNormIdeal.nD Cert.KKvNormIdeal.τ).loc Cert.KKvNormIdeal.main_arg1) = m ((c.tc : Thread Cert.KKvNormIdeal.nD Cert.KKvNormIdeal.τ).loc Cert.KKvNormIdeal.main_arg1))
      ∧ θ_run (Cert.RKvNormIdeal.defs (F := Ideal)) (onTc (τ := Cert.RKvNormIdeal.τ) (Cert.RKvNormIdeal.main (F := Ideal))) ⟨m', fun _ => 0, g'⟩ (fun r => ∀ c : Dev Cert.RKvNormIdeal.nD,
          r.2.mem ((c.tc : Thread Cert.RKvNormIdeal.nD Cert.RKvNormIdeal.τ).loc Cert.RKvNormIdeal.main_v13) = v0 c
          ∧ r.2.mem ((c.tc : Thread Cert.RKvNormIdeal.nD Cert.RKvNormIdeal.τ).loc Cert.RKvNormIdeal.main_arg0) = m' ((c.tc : Thread Cert.RKvNormIdeal.nD Cert.RKvNormIdeal.τ).loc Cert.RKvNormIdeal.main_arg0)
          ∧ r.2.mem ((c.tc : Thread Cert.RKvNormIdeal.nD Cert.RKvNormIdeal.τ).loc Cert.RKvNormIdeal.main_arg1) = m' ((c.tc : Thread Cert.RKvNormIdeal.nD Cert.RKvNormIdeal.τ).loc Cert.RKvNormIdeal.main_arg1))

def preserves_KMergeDx_KMergeDxIdeal : Prop :=
  True

def algebraic_KMergeDxIdeal_RMergeDxIdeal [hKMergeDxIdeal : Cert.KMergeDxIdeal.Facts] [hRMergeDxIdeal : Cert.RMergeDxIdeal.Facts] : Prop :=
  ∀ (m : (ℓ : Loc Cert.KMergeDxIdeal.nD Cert.KMergeDxIdeal.τ Cert.KMergeDxIdeal.sig) → Buf (Elt Ideal) ℓ) (g : Dev Cert.KMergeDxIdeal.nD → PrngReg)
    (m' : (ℓ : Loc Cert.RMergeDxIdeal.nD Cert.RMergeDxIdeal.τ Cert.RMergeDxIdeal.sig) → Buf (Elt Ideal) ℓ) (g' : Dev Cert.RMergeDxIdeal.nD → PrngReg), Pre_KMergeDxIdeal m →
    (∀ c : Dev Cert.KMergeDxIdeal.nD,
      m' ((c.tc : Thread Cert.RMergeDxIdeal.nD Cert.RMergeDxIdeal.τ).loc Cert.RMergeDxIdeal.main_arg0) = m ((c.tc : Thread Cert.KMergeDxIdeal.nD Cert.KMergeDxIdeal.τ).loc Cert.KMergeDxIdeal.main_arg0)
      ∧ m' ((c.tc : Thread Cert.RMergeDxIdeal.nD Cert.RMergeDxIdeal.τ).loc Cert.RMergeDxIdeal.main_arg1) = m ((c.tc : Thread Cert.KMergeDxIdeal.nD Cert.KMergeDxIdeal.τ).loc Cert.KMergeDxIdeal.main_arg1)
      ∧ m' ((c.tc : Thread Cert.RMergeDxIdeal.nD Cert.RMergeDxIdeal.τ).loc Cert.RMergeDxIdeal.main_arg2) = m ((c.tc : Thread Cert.KMergeDxIdeal.nD Cert.KMergeDxIdeal.τ).loc Cert.KMergeDxIdeal.main_arg2)
      ∧ m' ((c.tc : Thread Cert.RMergeDxIdeal.nD Cert.RMergeDxIdeal.τ).loc Cert.RMergeDxIdeal.main_arg3) = m ((c.tc : Thread Cert.KMergeDxIdeal.nD Cert.KMergeDxIdeal.τ).loc Cert.KMergeDxIdeal.main_arg3)) →
    ∃ (v0 : (c : Dev Cert.KMergeDxIdeal.nD) → Buf (Elt Ideal) ((c.tc : Thread Cert.KMergeDxIdeal.nD Cert.KMergeDxIdeal.τ).loc Cert.KMergeDxIdeal.main_v0_0)) (v1 : (c : Dev Cert.KMergeDxIdeal.nD) → Buf (Elt Ideal) ((c.tc : Thread Cert.KMergeDxIdeal.nD Cert.KMergeDxIdeal.τ).loc Cert.KMergeDxIdeal.main_v0_1)) (v2 : (c : Dev Cert.KMergeDxIdeal.nD) → Buf (Elt Ideal) ((c.tc : Thread Cert.KMergeDxIdeal.nD Cert.KMergeDxIdeal.τ).loc Cert.KMergeDxIdeal.main_v0_2)),
      θ_run (Cert.KMergeDxIdeal.defs (F := Ideal)) (onTc (τ := Cert.KMergeDxIdeal.τ) (Cert.KMergeDxIdeal.main (F := Ideal))) ⟨m, fun _ => 0, g⟩ (fun r => ∀ c : Dev Cert.KMergeDxIdeal.nD,
          r.2.mem ((c.tc : Thread Cert.KMergeDxIdeal.nD Cert.KMergeDxIdeal.τ).loc Cert.KMergeDxIdeal.main_v0_0) = v0 c
          ∧ r.2.mem ((c.tc : Thread Cert.KMergeDxIdeal.nD Cert.KMergeDxIdeal.τ).loc Cert.KMergeDxIdeal.main_v0_1) = v1 c
          ∧ r.2.mem ((c.tc : Thread Cert.KMergeDxIdeal.nD Cert.KMergeDxIdeal.τ).loc Cert.KMergeDxIdeal.main_v0_2) = v2 c
          ∧ r.2.mem ((c.tc : Thread Cert.KMergeDxIdeal.nD Cert.KMergeDxIdeal.τ).loc Cert.KMergeDxIdeal.main_arg0) = m ((c.tc : Thread Cert.KMergeDxIdeal.nD Cert.KMergeDxIdeal.τ).loc Cert.KMergeDxIdeal.main_arg0)
          ∧ r.2.mem ((c.tc : Thread Cert.KMergeDxIdeal.nD Cert.KMergeDxIdeal.τ).loc Cert.KMergeDxIdeal.main_arg1) = m ((c.tc : Thread Cert.KMergeDxIdeal.nD Cert.KMergeDxIdeal.τ).loc Cert.KMergeDxIdeal.main_arg1)
          ∧ r.2.mem ((c.tc : Thread Cert.KMergeDxIdeal.nD Cert.KMergeDxIdeal.τ).loc Cert.KMergeDxIdeal.main_arg2) = m ((c.tc : Thread Cert.KMergeDxIdeal.nD Cert.KMergeDxIdeal.τ).loc Cert.KMergeDxIdeal.main_arg2)
          ∧ r.2.mem ((c.tc : Thread Cert.KMergeDxIdeal.nD Cert.KMergeDxIdeal.τ).loc Cert.KMergeDxIdeal.main_arg3) = m ((c.tc : Thread Cert.KMergeDxIdeal.nD Cert.KMergeDxIdeal.τ).loc Cert.KMergeDxIdeal.main_arg3))
      ∧ θ_run (Cert.RMergeDxIdeal.defs (F := Ideal)) (onTc (τ := Cert.RMergeDxIdeal.τ) (Cert.RMergeDxIdeal.main (F := Ideal))) ⟨m', fun _ => 0, g'⟩ (fun r => ∀ c : Dev Cert.RMergeDxIdeal.nD,
          r.2.mem ((c.tc : Thread Cert.RMergeDxIdeal.nD Cert.RMergeDxIdeal.τ).loc Cert.RMergeDxIdeal.main_v25) = v0 c
          ∧ r.2.mem ((c.tc : Thread Cert.RMergeDxIdeal.nD Cert.RMergeDxIdeal.τ).loc Cert.RMergeDxIdeal.main_v26) = v1 c
          ∧ r.2.mem ((c.tc : Thread Cert.RMergeDxIdeal.nD Cert.RMergeDxIdeal.τ).loc Cert.RMergeDxIdeal.main_v27) = v2 c
          ∧ r.2.mem ((c.tc : Thread Cert.RMergeDxIdeal.nD Cert.RMergeDxIdeal.τ).loc Cert.RMergeDxIdeal.main_arg0) = m' ((c.tc : Thread Cert.RMergeDxIdeal.nD Cert.RMergeDxIdeal.τ).loc Cert.RMergeDxIdeal.main_arg0)
          ∧ r.2.mem ((c.tc : Thread Cert.RMergeDxIdeal.nD Cert.RMergeDxIdeal.τ).loc Cert.RMergeDxIdeal.main_arg1) = m' ((c.tc : Thread Cert.RMergeDxIdeal.nD Cert.RMergeDxIdeal.τ).loc Cert.RMergeDxIdeal.main_arg1)
          ∧ r.2.mem ((c.tc : Thread Cert.RMergeDxIdeal.nD Cert.RMergeDxIdeal.τ).loc Cert.RMergeDxIdeal.main_arg2) = m' ((c.tc : Thread Cert.RMergeDxIdeal.nD Cert.RMergeDxIdeal.τ).loc Cert.RMergeDxIdeal.main_arg2)
          ∧ r.2.mem ((c.tc : Thread Cert.RMergeDxIdeal.nD Cert.RMergeDxIdeal.τ).loc Cert.RMergeDxIdeal.main_arg3) = m' ((c.tc : Thread Cert.RMergeDxIdeal.nD Cert.RMergeDxIdeal.τ).loc Cert.RMergeDxIdeal.main_arg3))

def preserves_KLoss_KLossIdeal : Prop :=
  True

def algebraic_KLossIdeal_RLossIdeal [hKLossIdeal : Cert.KLossIdeal.Facts] [hRLossIdeal : Cert.RLossIdeal.Facts] : Prop :=
  ∀ (m : (ℓ : Loc Cert.KLossIdeal.nD Cert.KLossIdeal.τ Cert.KLossIdeal.sig) → Buf (Elt Ideal) ℓ) (g : Dev Cert.KLossIdeal.nD → PrngReg)
    (m' : (ℓ : Loc Cert.RLossIdeal.nD Cert.RLossIdeal.τ Cert.RLossIdeal.sig) → Buf (Elt Ideal) ℓ) (g' : Dev Cert.RLossIdeal.nD → PrngReg), Pre_KLossIdeal m →
    (∀ c : Dev Cert.KLossIdeal.nD,
      m' ((c.tc : Thread Cert.RLossIdeal.nD Cert.RLossIdeal.τ).loc Cert.RLossIdeal.main_arg0) = m ((c.tc : Thread Cert.KLossIdeal.nD Cert.KLossIdeal.τ).loc Cert.KLossIdeal.main_arg0)
      ∧ m' ((c.tc : Thread Cert.RLossIdeal.nD Cert.RLossIdeal.τ).loc Cert.RLossIdeal.main_arg1) = m ((c.tc : Thread Cert.KLossIdeal.nD Cert.KLossIdeal.τ).loc Cert.KLossIdeal.main_arg1)) →
    ∃ (v0 : (c : Dev Cert.KLossIdeal.nD) → Buf (Elt Ideal) ((c.tc : Thread Cert.KLossIdeal.nD Cert.KLossIdeal.τ).loc Cert.KLossIdeal.main_v0_0)) (v1 : (c : Dev Cert.KLossIdeal.nD) → Buf (Elt Ideal) ((c.tc : Thread Cert.KLossIdeal.nD Cert.KLossIdeal.τ).loc Cert.KLossIdeal.main_v0_1)),
      θ_run (Cert.KLossIdeal.defs (F := Ideal)) (onTc (τ := Cert.KLossIdeal.τ) (Cert.KLossIdeal.main (F := Ideal))) ⟨m, fun _ => 0, g⟩ (fun r => ∀ c : Dev Cert.KLossIdeal.nD,
          r.2.mem ((c.tc : Thread Cert.KLossIdeal.nD Cert.KLossIdeal.τ).loc Cert.KLossIdeal.main_v0_0) = v0 c
          ∧ r.2.mem ((c.tc : Thread Cert.KLossIdeal.nD Cert.KLossIdeal.τ).loc Cert.KLossIdeal.main_v0_1) = v1 c
          ∧ r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
          ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1))
      ∧ θ_run (Cert.RLossIdeal.defs (F := Ideal)) (onTc (τ := Cert.RLossIdeal.τ) (Cert.RLossIdeal.main (F := Ideal))) ⟨m', fun _ => 0, g'⟩ (fun r => ∀ c : Dev Cert.RLossIdeal.nD,
          r.2.mem ((c.tc : Thread Cert.RLossIdeal.nD Cert.RLossIdeal.τ).loc Cert.RLossIdeal.main_v7) = v0 c
          ∧ r.2.mem ((c.tc : Thread Cert.RLossIdeal.nD Cert.RLossIdeal.τ).loc Cert.RLossIdeal.main_v22) = v1 c
          ∧ r.2.mem ((c.tc : Thread Cert.RLossIdeal.nD Cert.RLossIdeal.τ).loc Cert.RLossIdeal.main_arg0) = m' ((c.tc : Thread Cert.RLossIdeal.nD Cert.RLossIdeal.τ).loc Cert.RLossIdeal.main_arg0)
          ∧ r.2.mem ((c.tc : Thread Cert.RLossIdeal.nD Cert.RLossIdeal.τ).loc Cert.RLossIdeal.main_arg1) = m' ((c.tc : Thread Cert.RLossIdeal.nD Cert.RLossIdeal.τ).loc Cert.RLossIdeal.main_arg1))

def Claim : Prop :=
  ∃ (hKernel : Cert.Kernel.Facts) (hKernelIdeal : Cert.KernelIdeal.Facts) (hReferenceIdeal : Cert.ReferenceIdeal.Facts) (hKUp : Cert.KUp.Facts) (hKUpIdeal : Cert.KUpIdeal.Facts) (hRUpIdeal : Cert.RUpIdeal.Facts) (hKUpDx : Cert.KUpDx.Facts) (hKUpDxIdeal : Cert.KUpDxIdeal.Facts) (hRUpDxIdeal : Cert.RUpDxIdeal.Facts) (hKUpDw : Cert.KUpDw.Facts) (hKUpDwIdeal : Cert.KUpDwIdeal.Facts) (hRUpDwIdeal : Cert.RUpDwIdeal.Facts) (hKIn : Cert.KIn.Facts) (hKInIdeal : Cert.KInIdeal.Facts) (hRInIdeal : Cert.RInIdeal.Facts) (hKInDx : Cert.KInDx.Facts) (hKInDxIdeal : Cert.KInDxIdeal.Facts) (hRInDxIdeal : Cert.RInDxIdeal.Facts) (hKInDw : Cert.KInDw.Facts) (hKInDwIdeal : Cert.KInDwIdeal.Facts) (hRInDwIdeal : Cert.RInDwIdeal.Facts) (hKDown : Cert.KDown.Facts) (hKDownIdeal : Cert.KDownIdeal.Facts) (hRDownIdeal : Cert.RDownIdeal.Facts) (hKDownDx : Cert.KDownDx.Facts) (hKDownDxIdeal : Cert.KDownDxIdeal.Facts) (hRDownDxIdeal : Cert.RDownDxIdeal.Facts) (hKDownDw : Cert.KDownDw.Facts) (hKDownDwIdeal : Cert.KDownDwIdeal.Facts) (hRDownDwIdeal : Cert.RDownDwIdeal.Facts) (hKSsdOut : Cert.KSsdOut.Facts) (hKSsdOutIdeal : Cert.KSsdOutIdeal.Facts) (hRSsdOutIdeal : Cert.RSsdOutIdeal.Facts) (hKSsdOutDx : Cert.KSsdOutDx.Facts) (hKSsdOutDxIdeal : Cert.KSsdOutDxIdeal.Facts) (hRSsdOutDxIdeal : Cert.RSsdOutDxIdeal.Facts) (hKSsdOutDw : Cert.KSsdOutDw.Facts) (hKSsdOutDwIdeal : Cert.KSsdOutDwIdeal.Facts) (hRSsdOutDwIdeal : Cert.RSsdOutDwIdeal.Facts) (hKUq : Cert.KUq.Facts) (hKUqIdeal : Cert.KUqIdeal.Facts) (hRUqIdeal : Cert.RUqIdeal.Facts) (hKUqDx : Cert.KUqDx.Facts) (hKUqDxIdeal : Cert.KUqDxIdeal.Facts) (hRUqDxIdeal : Cert.RUqDxIdeal.Facts) (hKUqDw : Cert.KUqDw.Facts) (hKUqDwIdeal : Cert.KUqDwIdeal.Facts) (hRUqDwIdeal : Cert.RUqDwIdeal.Facts) (hKUkv : Cert.KUkv.Facts) (hKUkvIdeal : Cert.KUkvIdeal.Facts) (hRUkvIdeal : Cert.RUkvIdeal.Facts) (hKUkvDx : Cert.KUkvDx.Facts) (hKUkvDxIdeal : Cert.KUkvDxIdeal.Facts) (hRUkvDxIdeal : Cert.RUkvDxIdeal.Facts) (hKUkvDw : Cert.KUkvDw.Facts) (hKUkvDwIdeal : Cert.KUkvDwIdeal.Facts) (hRUkvDwIdeal : Cert.RUkvDwIdeal.Facts) (hKMlaOut : Cert.KMlaOut.Facts) (hKMlaOutIdeal : Cert.KMlaOutIdeal.Facts) (hRMlaOutIdeal : Cert.RMlaOutIdeal.Facts) (hKMlaOutDx : Cert.KMlaOutDx.Facts) (hKMlaOutDxIdeal : Cert.KMlaOutDxIdeal.Facts) (hRMlaOutDxIdeal : Cert.RMlaOutDxIdeal.Facts) (hKMlaOutDw : Cert.KMlaOutDw.Facts) (hKMlaOutDwIdeal : Cert.KMlaOutDwIdeal.Facts) (hRMlaOutDwIdeal : Cert.RMlaOutDwIdeal.Facts) (hKOut : Cert.KOut.Facts) (hKOutIdeal : Cert.KOutIdeal.Facts) (hROutIdeal : Cert.ROutIdeal.Facts) (hKOutDx : Cert.KOutDx.Facts) (hKOutDxIdeal : Cert.KOutDxIdeal.Facts) (hROutDxIdeal : Cert.ROutDxIdeal.Facts) (hKOutDw : Cert.KOutDw.Facts) (hKOutDwIdeal : Cert.KOutDwIdeal.Facts) (hROutDwIdeal : Cert.ROutDwIdeal.Facts) (hKNorm : Cert.KNorm.Facts) (hKNormIdeal : Cert.KNormIdeal.Facts) (hRNormIdeal : Cert.RNormIdeal.Facts) (hKGatedNorm : Cert.KGatedNorm.Facts) (hKGatedNormIdeal : Cert.KGatedNormIdeal.Facts) (hRGatedNormIdeal : Cert.RGatedNormIdeal.Facts) (hKMerge : Cert.KMerge.Facts) (hKMergeIdeal : Cert.KMergeIdeal.Facts) (hRMergeIdeal : Cert.RMergeIdeal.Facts) (hKAdam : Cert.KAdam.Facts) (hKAdamIdeal : Cert.KAdamIdeal.Facts) (hRAdamIdeal : Cert.RAdamIdeal.Facts) (hKQNorm : Cert.KQNorm.Facts) (hKQNormIdeal : Cert.KQNormIdeal.Facts) (hRQNormIdeal : Cert.RQNormIdeal.Facts) (hKKvNorm : Cert.KKvNorm.Facts) (hKKvNormIdeal : Cert.KKvNormIdeal.Facts) (hRKvNormIdeal : Cert.RKvNormIdeal.Facts) (hKMergeDx : Cert.KMergeDx.Facts) (hKMergeDxIdeal : Cert.KMergeDxIdeal.Facts) (hRMergeDxIdeal : Cert.RMergeDxIdeal.Facts) (hKLoss : Cert.KLoss.Facts) (hKLossIdeal : Cert.KLossIdeal.Facts) (hRLossIdeal : Cert.RLossIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KUp (hKUp := hKUp)
    ∧ quiescent_KUpIdeal (hKUpIdeal := hKUpIdeal)
    ∧ quiescent_RUpIdeal (hRUpIdeal := hRUpIdeal)
    ∧ quiescent_KUpDx (hKUpDx := hKUpDx)
    ∧ quiescent_KUpDxIdeal (hKUpDxIdeal := hKUpDxIdeal)
    ∧ quiescent_RUpDxIdeal (hRUpDxIdeal := hRUpDxIdeal)
    ∧ quiescent_KUpDw (hKUpDw := hKUpDw)
    ∧ quiescent_KUpDwIdeal (hKUpDwIdeal := hKUpDwIdeal)
    ∧ quiescent_RUpDwIdeal (hRUpDwIdeal := hRUpDwIdeal)
    ∧ quiescent_KIn (hKIn := hKIn)
    ∧ quiescent_KInIdeal (hKInIdeal := hKInIdeal)
    ∧ quiescent_RInIdeal (hRInIdeal := hRInIdeal)
    ∧ quiescent_KInDx (hKInDx := hKInDx)
    ∧ quiescent_KInDxIdeal (hKInDxIdeal := hKInDxIdeal)
    ∧ quiescent_RInDxIdeal (hRInDxIdeal := hRInDxIdeal)
    ∧ quiescent_KInDw (hKInDw := hKInDw)
    ∧ quiescent_KInDwIdeal (hKInDwIdeal := hKInDwIdeal)
    ∧ quiescent_RInDwIdeal (hRInDwIdeal := hRInDwIdeal)
    ∧ quiescent_KDown (hKDown := hKDown)
    ∧ quiescent_KDownIdeal (hKDownIdeal := hKDownIdeal)
    ∧ quiescent_RDownIdeal (hRDownIdeal := hRDownIdeal)
    ∧ quiescent_KDownDx (hKDownDx := hKDownDx)
    ∧ quiescent_KDownDxIdeal (hKDownDxIdeal := hKDownDxIdeal)
    ∧ quiescent_RDownDxIdeal (hRDownDxIdeal := hRDownDxIdeal)
    ∧ quiescent_KDownDw (hKDownDw := hKDownDw)
    ∧ quiescent_KDownDwIdeal (hKDownDwIdeal := hKDownDwIdeal)
    ∧ quiescent_RDownDwIdeal (hRDownDwIdeal := hRDownDwIdeal)
    ∧ quiescent_KSsdOut (hKSsdOut := hKSsdOut)
    ∧ quiescent_KSsdOutIdeal (hKSsdOutIdeal := hKSsdOutIdeal)
    ∧ quiescent_RSsdOutIdeal (hRSsdOutIdeal := hRSsdOutIdeal)
    ∧ quiescent_KSsdOutDx (hKSsdOutDx := hKSsdOutDx)
    ∧ quiescent_KSsdOutDxIdeal (hKSsdOutDxIdeal := hKSsdOutDxIdeal)
    ∧ quiescent_RSsdOutDxIdeal (hRSsdOutDxIdeal := hRSsdOutDxIdeal)
    ∧ quiescent_KSsdOutDw (hKSsdOutDw := hKSsdOutDw)
    ∧ quiescent_KSsdOutDwIdeal (hKSsdOutDwIdeal := hKSsdOutDwIdeal)
    ∧ quiescent_RSsdOutDwIdeal (hRSsdOutDwIdeal := hRSsdOutDwIdeal)
    ∧ quiescent_KUq (hKUq := hKUq)
    ∧ quiescent_KUqIdeal (hKUqIdeal := hKUqIdeal)
    ∧ quiescent_RUqIdeal (hRUqIdeal := hRUqIdeal)
    ∧ quiescent_KUqDx (hKUqDx := hKUqDx)
    ∧ quiescent_KUqDxIdeal (hKUqDxIdeal := hKUqDxIdeal)
    ∧ quiescent_RUqDxIdeal (hRUqDxIdeal := hRUqDxIdeal)
    ∧ quiescent_KUqDw (hKUqDw := hKUqDw)
    ∧ quiescent_KUqDwIdeal (hKUqDwIdeal := hKUqDwIdeal)
    ∧ quiescent_RUqDwIdeal (hRUqDwIdeal := hRUqDwIdeal)
    ∧ quiescent_KUkv (hKUkv := hKUkv)
    ∧ quiescent_KUkvIdeal (hKUkvIdeal := hKUkvIdeal)
    ∧ quiescent_RUkvIdeal (hRUkvIdeal := hRUkvIdeal)
    ∧ quiescent_KUkvDx (hKUkvDx := hKUkvDx)
    ∧ quiescent_KUkvDxIdeal (hKUkvDxIdeal := hKUkvDxIdeal)
    ∧ quiescent_RUkvDxIdeal (hRUkvDxIdeal := hRUkvDxIdeal)
    ∧ quiescent_KUkvDw (hKUkvDw := hKUkvDw)
    ∧ quiescent_KUkvDwIdeal (hKUkvDwIdeal := hKUkvDwIdeal)
    ∧ quiescent_RUkvDwIdeal (hRUkvDwIdeal := hRUkvDwIdeal)
    ∧ quiescent_KMlaOut (hKMlaOut := hKMlaOut)
    ∧ quiescent_KMlaOutIdeal (hKMlaOutIdeal := hKMlaOutIdeal)
    ∧ quiescent_RMlaOutIdeal (hRMlaOutIdeal := hRMlaOutIdeal)
    ∧ quiescent_KMlaOutDx (hKMlaOutDx := hKMlaOutDx)
    ∧ quiescent_KMlaOutDxIdeal (hKMlaOutDxIdeal := hKMlaOutDxIdeal)
    ∧ quiescent_RMlaOutDxIdeal (hRMlaOutDxIdeal := hRMlaOutDxIdeal)
    ∧ quiescent_KMlaOutDw (hKMlaOutDw := hKMlaOutDw)
    ∧ quiescent_KMlaOutDwIdeal (hKMlaOutDwIdeal := hKMlaOutDwIdeal)
    ∧ quiescent_RMlaOutDwIdeal (hRMlaOutDwIdeal := hRMlaOutDwIdeal)
    ∧ quiescent_KOut (hKOut := hKOut)
    ∧ quiescent_KOutIdeal (hKOutIdeal := hKOutIdeal)
    ∧ quiescent_ROutIdeal (hROutIdeal := hROutIdeal)
    ∧ quiescent_KOutDx (hKOutDx := hKOutDx)
    ∧ quiescent_KOutDxIdeal (hKOutDxIdeal := hKOutDxIdeal)
    ∧ quiescent_ROutDxIdeal (hROutDxIdeal := hROutDxIdeal)
    ∧ quiescent_KOutDw (hKOutDw := hKOutDw)
    ∧ quiescent_KOutDwIdeal (hKOutDwIdeal := hKOutDwIdeal)
    ∧ quiescent_ROutDwIdeal (hROutDwIdeal := hROutDwIdeal)
    ∧ quiescent_KNorm (hKNorm := hKNorm)
    ∧ quiescent_KNormIdeal (hKNormIdeal := hKNormIdeal)
    ∧ quiescent_RNormIdeal (hRNormIdeal := hRNormIdeal)
    ∧ quiescent_KGatedNorm (hKGatedNorm := hKGatedNorm)
    ∧ quiescent_KGatedNormIdeal (hKGatedNormIdeal := hKGatedNormIdeal)
    ∧ quiescent_RGatedNormIdeal (hRGatedNormIdeal := hRGatedNormIdeal)
    ∧ quiescent_KMerge (hKMerge := hKMerge)
    ∧ quiescent_KMergeIdeal (hKMergeIdeal := hKMergeIdeal)
    ∧ quiescent_RMergeIdeal (hRMergeIdeal := hRMergeIdeal)
    ∧ quiescent_KAdam (hKAdam := hKAdam)
    ∧ quiescent_KAdamIdeal (hKAdamIdeal := hKAdamIdeal)
    ∧ quiescent_RAdamIdeal (hRAdamIdeal := hRAdamIdeal)
    ∧ quiescent_KQNorm (hKQNorm := hKQNorm)
    ∧ quiescent_KQNormIdeal (hKQNormIdeal := hKQNormIdeal)
    ∧ quiescent_RQNormIdeal (hRQNormIdeal := hRQNormIdeal)
    ∧ quiescent_KKvNorm (hKKvNorm := hKKvNorm)
    ∧ quiescent_KKvNormIdeal (hKKvNormIdeal := hKKvNormIdeal)
    ∧ quiescent_RKvNormIdeal (hRKvNormIdeal := hRKvNormIdeal)
    ∧ quiescent_KMergeDx (hKMergeDx := hKMergeDx)
    ∧ quiescent_KMergeDxIdeal (hKMergeDxIdeal := hKMergeDxIdeal)
    ∧ quiescent_RMergeDxIdeal (hRMergeDxIdeal := hRMergeDxIdeal)
    ∧ quiescent_KLoss (hKLoss := hKLoss)
    ∧ quiescent_KLossIdeal (hKLossIdeal := hKLossIdeal)
    ∧ quiescent_RLossIdeal (hRLossIdeal := hRLossIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KUp_KUpIdeal
    ∧ algebraic_KUpIdeal_RUpIdeal (hKUpIdeal := hKUpIdeal) (hRUpIdeal := hRUpIdeal)
    ∧ preserves_KUpDx_KUpDxIdeal
    ∧ algebraic_KUpDxIdeal_RUpDxIdeal (hKUpDxIdeal := hKUpDxIdeal) (hRUpDxIdeal := hRUpDxIdeal)
    ∧ preserves_KUpDw_KUpDwIdeal
    ∧ algebraic_KUpDwIdeal_RUpDwIdeal (hKUpDwIdeal := hKUpDwIdeal) (hRUpDwIdeal := hRUpDwIdeal)
    ∧ preserves_KIn_KInIdeal
    ∧ algebraic_KInIdeal_RInIdeal (hKInIdeal := hKInIdeal) (hRInIdeal := hRInIdeal)
    ∧ preserves_KInDx_KInDxIdeal
    ∧ algebraic_KInDxIdeal_RInDxIdeal (hKInDxIdeal := hKInDxIdeal) (hRInDxIdeal := hRInDxIdeal)
    ∧ preserves_KInDw_KInDwIdeal
    ∧ algebraic_KInDwIdeal_RInDwIdeal (hKInDwIdeal := hKInDwIdeal) (hRInDwIdeal := hRInDwIdeal)
    ∧ preserves_KDown_KDownIdeal
    ∧ algebraic_KDownIdeal_RDownIdeal (hKDownIdeal := hKDownIdeal) (hRDownIdeal := hRDownIdeal)
    ∧ preserves_KDownDx_KDownDxIdeal
    ∧ algebraic_KDownDxIdeal_RDownDxIdeal (hKDownDxIdeal := hKDownDxIdeal) (hRDownDxIdeal := hRDownDxIdeal)
    ∧ preserves_KDownDw_KDownDwIdeal
    ∧ algebraic_KDownDwIdeal_RDownDwIdeal (hKDownDwIdeal := hKDownDwIdeal) (hRDownDwIdeal := hRDownDwIdeal)
    ∧ preserves_KSsdOut_KSsdOutIdeal
    ∧ algebraic_KSsdOutIdeal_RSsdOutIdeal (hKSsdOutIdeal := hKSsdOutIdeal) (hRSsdOutIdeal := hRSsdOutIdeal)
    ∧ preserves_KSsdOutDx_KSsdOutDxIdeal
    ∧ algebraic_KSsdOutDxIdeal_RSsdOutDxIdeal (hKSsdOutDxIdeal := hKSsdOutDxIdeal) (hRSsdOutDxIdeal := hRSsdOutDxIdeal)
    ∧ preserves_KSsdOutDw_KSsdOutDwIdeal
    ∧ algebraic_KSsdOutDwIdeal_RSsdOutDwIdeal (hKSsdOutDwIdeal := hKSsdOutDwIdeal) (hRSsdOutDwIdeal := hRSsdOutDwIdeal)
    ∧ preserves_KUq_KUqIdeal
    ∧ algebraic_KUqIdeal_RUqIdeal (hKUqIdeal := hKUqIdeal) (hRUqIdeal := hRUqIdeal)
    ∧ preserves_KUqDx_KUqDxIdeal
    ∧ algebraic_KUqDxIdeal_RUqDxIdeal (hKUqDxIdeal := hKUqDxIdeal) (hRUqDxIdeal := hRUqDxIdeal)
    ∧ preserves_KUqDw_KUqDwIdeal
    ∧ algebraic_KUqDwIdeal_RUqDwIdeal (hKUqDwIdeal := hKUqDwIdeal) (hRUqDwIdeal := hRUqDwIdeal)
    ∧ preserves_KUkv_KUkvIdeal
    ∧ algebraic_KUkvIdeal_RUkvIdeal (hKUkvIdeal := hKUkvIdeal) (hRUkvIdeal := hRUkvIdeal)
    ∧ preserves_KUkvDx_KUkvDxIdeal
    ∧ algebraic_KUkvDxIdeal_RUkvDxIdeal (hKUkvDxIdeal := hKUkvDxIdeal) (hRUkvDxIdeal := hRUkvDxIdeal)
    ∧ preserves_KUkvDw_KUkvDwIdeal
    ∧ algebraic_KUkvDwIdeal_RUkvDwIdeal (hKUkvDwIdeal := hKUkvDwIdeal) (hRUkvDwIdeal := hRUkvDwIdeal)
    ∧ preserves_KMlaOut_KMlaOutIdeal
    ∧ algebraic_KMlaOutIdeal_RMlaOutIdeal (hKMlaOutIdeal := hKMlaOutIdeal) (hRMlaOutIdeal := hRMlaOutIdeal)
    ∧ preserves_KMlaOutDx_KMlaOutDxIdeal
    ∧ algebraic_KMlaOutDxIdeal_RMlaOutDxIdeal (hKMlaOutDxIdeal := hKMlaOutDxIdeal) (hRMlaOutDxIdeal := hRMlaOutDxIdeal)
    ∧ preserves_KMlaOutDw_KMlaOutDwIdeal
    ∧ algebraic_KMlaOutDwIdeal_RMlaOutDwIdeal (hKMlaOutDwIdeal := hKMlaOutDwIdeal) (hRMlaOutDwIdeal := hRMlaOutDwIdeal)
    ∧ preserves_KOut_KOutIdeal
    ∧ algebraic_KOutIdeal_ROutIdeal (hKOutIdeal := hKOutIdeal) (hROutIdeal := hROutIdeal)
    ∧ preserves_KOutDx_KOutDxIdeal
    ∧ algebraic_KOutDxIdeal_ROutDxIdeal (hKOutDxIdeal := hKOutDxIdeal) (hROutDxIdeal := hROutDxIdeal)
    ∧ preserves_KOutDw_KOutDwIdeal
    ∧ algebraic_KOutDwIdeal_ROutDwIdeal (hKOutDwIdeal := hKOutDwIdeal) (hROutDwIdeal := hROutDwIdeal)
    ∧ preserves_KNorm_KNormIdeal
    ∧ algebraic_KNormIdeal_RNormIdeal (hKNormIdeal := hKNormIdeal) (hRNormIdeal := hRNormIdeal)
    ∧ preserves_KGatedNorm_KGatedNormIdeal
    ∧ algebraic_KGatedNormIdeal_RGatedNormIdeal (hKGatedNormIdeal := hKGatedNormIdeal) (hRGatedNormIdeal := hRGatedNormIdeal)
    ∧ preserves_KMerge_KMergeIdeal
    ∧ algebraic_KMergeIdeal_RMergeIdeal (hKMergeIdeal := hKMergeIdeal) (hRMergeIdeal := hRMergeIdeal)
    ∧ preserves_KAdam_KAdamIdeal
    ∧ algebraic_KAdamIdeal_RAdamIdeal (hKAdamIdeal := hKAdamIdeal) (hRAdamIdeal := hRAdamIdeal)
    ∧ preserves_KQNorm_KQNormIdeal
    ∧ algebraic_KQNormIdeal_RQNormIdeal (hKQNormIdeal := hKQNormIdeal) (hRQNormIdeal := hRQNormIdeal)
    ∧ preserves_KKvNorm_KKvNormIdeal
    ∧ algebraic_KKvNormIdeal_RKvNormIdeal (hKKvNormIdeal := hKKvNormIdeal) (hRKvNormIdeal := hRKvNormIdeal)
    ∧ preserves_KMergeDx_KMergeDxIdeal
    ∧ algebraic_KMergeDxIdeal_RMergeDxIdeal (hKMergeDxIdeal := hKMergeDxIdeal) (hRMergeDxIdeal := hRMergeDxIdeal)
    ∧ preserves_KLoss_KLossIdeal
    ∧ algebraic_KLossIdeal_RLossIdeal (hKLossIdeal := hKLossIdeal) (hRLossIdeal := hRLossIdeal)
-- ==== Pre_finite.lean ====
abbrev S8192x8x192 : Shape := ⟨3, ![8192, 8, 192]⟩
abbrev S8192x2048 : Shape := ⟨2, ![8192, 2048]⟩
abbrev S8192x1024 : Shape := ⟨2, ![8192, 1024]⟩
abbrev S_ : Shape := ⟨0, ![]⟩

class Facts : Prop where
  bcast_S_S8192x8x192 : S_.BroadcastsInDim S8192x8x192 (![] : Fin 0 → Fin S8192x8x192.rank)
  reducesTo_S8192x8x192_S_d0_1_2 : S8192x8x192.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x8x192 .f32) (main_arg1 : FVec F S8192x8x192 .f32) (main_arg2 : FVec F S8192x2048 .f32) (main_arg3 : FVec F S8192x1024 .f32) : IVec S_ 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_c : IVec S_ 1 := constantI S_ 1 1#1
  let main_v3 : IVec S_ 1 := (fun x v => Host.reduce IntOp.andi x v reducesTo_S8192x8x192_S_d0_1_2 h_S_) main_v2 main_c
  let main_v4 : FVec F S8192x8x192 .f32 := Host.absf main_arg1
  let main_cst_0 : FVec F S_ .f32 := constant S_ .f32 0x7F800000#32
  let main_v5 : FVec F S8192x8x192 .f32 := broadcastInDim S8192x8x192 ![] bcast_S_S8192x8x192 main_cst_0
  let main_v6 : IVec S8192x8x192 1 := cmpf .olt main_v4 main_v5
  let main_c_1 : IVec S_ 1 := constantI S_ 1 1#1
  let main_v7 : IVec S_ 1 := (fun x v => Host.reduce IntOp.andi x v reducesTo_S8192x8x192_S_d0_1_2 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Kernel.lean ====
abbrev S8192x8x192 : Shape := ⟨3, ![8192, 8, 192]⟩
abbrev S8192x2048 : Shape := ⟨2, ![8192, 2048]⟩
abbrev S8192x1024 : Shape := ⟨2, ![8192, 1024]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8192x8x128 : Shape := ⟨3, ![8192, 8, 128]⟩
abbrev S8x8192 : Shape := ⟨2, ![8, 8192]⟩
abbrev S8x8192x1 : Shape := ⟨3, ![8, 8192, 1]⟩
abbrev S8x128x8192 : Shape := ⟨3, ![8, 128, 8192]⟩
abbrev S8x8192x192 : Shape := ⟨3, ![8, 8192, 192]⟩
abbrev S8x8192x256 : Shape := ⟨3, ![8, 8192, 256]⟩
abbrev S1x1024x256 : Shape := ⟨3, ![1, 1024, 256]⟩
abbrev S1024x128 : Shape := ⟨2, ![1024, 128]⟩
abbrev S1x1024x1 : Shape := ⟨3, ![1, 1024, 1]⟩
abbrev S1x8192x256 : Shape := ⟨3, ![1, 8192, 256]⟩
abbrev S1024x256 : Shape := ⟨2, ![1024, 256]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 80
  | .vmem => 20
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x2048, .f32⟩
  | .hbm, ⟨3, _⟩ => ⟨S8192x1024, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S8192x1024, .f32⟩
  | .hbm, ⟨20, _⟩ => ⟨S8192x8x128, .f32⟩
  | .hbm, ⟨21, _⟩ => ⟨S8x8192x8192, .f32⟩
  | .hbm, ⟨22, _⟩ => ⟨S_, .f32⟩
  | .hbm, ⟨23, _⟩ => ⟨S8x8192x8192, .f32⟩
  | .hbm, ⟨24, _⟩ => ⟨S8x8192x8192, .f32⟩
  | .hbm, ⟨25, _⟩ => ⟨S8192, .i32⟩
  | .hbm, ⟨26, _⟩ => ⟨S1x8192, .i32⟩
  | .hbm, ⟨27, _⟩ => ⟨S8192x1, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S_, .f32⟩
  | .hbm, ⟨32, _⟩ => ⟨S_, .f32⟩
  | .hbm, ⟨33, _⟩ => ⟨S8x8192x8192, .i1⟩
  | .hbm, ⟨34, _⟩ => ⟨S8x8192x8192, .f32⟩
  | .hbm, ⟨35, _⟩ => ⟨S8x8192x8192, .f32⟩
  | .hbm, ⟨36, _⟩ => ⟨S_, .f32⟩
  | .hbm, ⟨37, _⟩ => ⟨S8x8192, .f32⟩
  | .hbm, ⟨38, _⟩ => ⟨S_, .f32⟩
  | .hbm, ⟨39, _⟩ => ⟨S8x8192, .f32⟩
  | .hbm, ⟨40, _⟩ => ⟨S8x8192, .f32⟩
  | .hbm, ⟨41, _⟩ => ⟨S8x8192x1, .f32⟩
  | .hbm, ⟨42, _⟩ => ⟨S8x8192x8192, .f32⟩
  | .hbm, ⟨43, _⟩ => ⟨S8x8192x8192, .f32⟩
  | .hbm, ⟨44, _⟩ => ⟨S8x8192x8192, .f32⟩
  | .hbm, ⟨45, _⟩ => ⟨S_, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8x128x8192, .f32⟩
  | .hbm, ⟨51, _⟩ => ⟨S8192x8x128, .f32⟩
  | .hbm, ⟨52, _⟩ => ⟨S8192x1024, .f32⟩
  | .hbm, ⟨53, _⟩ => ⟨S_, .f32⟩
  | .hbm, ⟨54, _⟩ => ⟨S8x8192, .f32⟩
  | .hbm, ⟨55, _⟩ => ⟨S8x8192x1, .f32⟩
  | .hbm, ⟨56, _⟩ => ⟨S8x8192x8192, .f32⟩
  | .hbm, ⟨57, _⟩ => ⟨S8x8192x8192, .f32⟩
  | .hbm, ⟨58, _⟩ => ⟨S8x8192x8192, .f32⟩
  | .hbm, ⟨59, _⟩ => ⟨S_, .f32⟩
  | .hbm, ⟨60, _⟩ => ⟨S8x8192, .f32⟩
  | .hbm, ⟨61, _⟩ => ⟨S8x8192x1, .f32⟩
  | .hbm, ⟨62, _⟩ => ⟨S8x8192x1, .f32⟩
  | .hbm, ⟨63, _⟩ => ⟨S8x8192x1, .f32⟩
  | .hbm, ⟨64, _⟩ => ⟨S_, .f32⟩
  | .hbm, ⟨65, _⟩ => ⟨S8192x8x192, .f32⟩
  | .hbm, ⟨66, _⟩ => ⟨S8192x8x192, .f32⟩
  | .hbm, ⟨67, _⟩ => ⟨S8x8192x192, .f32⟩
  | .hbm, ⟨68, _⟩ => ⟨S_, .i32⟩
  | .hbm, ⟨69, _⟩ => ⟨S_, .f32⟩
  | .hbm, ⟨70, _⟩ => ⟨S8x8192x256, .f32⟩
  | .hbm, ⟨71, _⟩ => ⟨S8x8192x256, .bf16⟩
  | .hbm, ⟨72, _⟩ => ⟨S8x8192x192, .f32⟩
  | .hbm, ⟨73, _⟩ => ⟨S_, .i32⟩
  | .hbm, ⟨74, _⟩ => ⟨S_, .f32⟩
  | .hbm, ⟨75, _⟩ => ⟨S8x8192x256, .f32⟩
  | .hbm, ⟨76, _⟩ => ⟨S8x8192x256, .bf16⟩
  | .hbm, ⟨77, _⟩ => ⟨S8x8192x256, .f32⟩
  | .hbm, ⟨78, _⟩ => ⟨S8x8192x256, .f32⟩
  | .hbm, ⟨79, _⟩ => ⟨S8192x1024, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x1024x1, .f32⟩
  | .local _ .vmem, ⟨9, _⟩ => ⟨S1x1024x1, .f32⟩
  | .local _ .vmem, ⟨10, _⟩ => ⟨S1024x128, .f32⟩
  | .local _ .vmem, ⟨11, _⟩ => ⟨S1024x128, .f32⟩
  | .local _ .vmem, ⟨12, _⟩ => ⟨S1x8192x256, .f32⟩
  | .local _ .vmem, ⟨13, _⟩ => ⟨S1x8192x256, .f32⟩
  | .local _ .vmem, ⟨14, _⟩ => ⟨S1x1024x256, .f32⟩
  | .local _ .vmem, ⟨15, _⟩ => ⟨S1x1024x256, .f32⟩
  | .local _ .vmem, ⟨16, _⟩ => ⟨S1024x128, .bf16⟩
  | .local _ .vmem, ⟨17, _⟩ => ⟨S1024x128, .bf16⟩
  | .local _ .vmem, ⟨18, _⟩ => ⟨S1024x256, .f32⟩
  | .local _ .vmem, ⟨19, _⟩ => ⟨S1024x128, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c : Ref sig .tc := ⟨.hbm, 68, rfl⟩
abbrev main_call2_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_call3_v0 : Ref sig .tc := ⟨.hbm, 74, rfl⟩
abbrev main_v51 : Ref sig .tc := ⟨.hbm, 75, rfl⟩
abbrev main_v52 : Ref sig .tc := ⟨.hbm, 76, rfl⟩
abbrev main_v53_0 : Ref sig .tc := ⟨.hbm, 77, rfl⟩
abbrev main_v53_1 : Ref sig .tc := ⟨.hbm, 78, rfl⟩
abbrev main_v53_2 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let arg1 : BitVec 32 := BitVec.ofNat 32 (i 1).val
  let v3 : BitVec 1 := Scalar.cmpi .sgt arg2 arg1
  let v4 : BitVec 32 := Scalar.extui v3
  let c0_i32_1 : BitVec 32 := 0#32
  let v5 : BitVec 1 := Scalar.cmpi .ne v4 c0_i32_1
  v5

def k0_mult1 (i : grid0.Coords) : BitVec 32 :=
  let arg2 : BitVec 32 := BitVec.ofNat 32 (i 2).val
  let c1024_i32 : BitVec 32 := 1024#32
  let v52 : BitVec 32 := Scalar.muli arg2 c1024_i32
  v52
def k0_cond3 (i : grid0.Coords) : BitVec 1 :=
  let arg1 : BitVec 32 := BitVec.ofNat 32 (i 1).val
  let c0_i32_32 : BitVec 32 := 0#32
  let v54 : BitVec 1 := Scalar.cmpi .eq arg1 c0_i32_32
  let v55 : BitVec 32 := Scalar.extui v54
  let c0_i32_33 : BitVec 32 := 0#32
  let v56 : BitVec 1 := Scalar.cmpi .ne v55 c0_i32_33
  v56

def k0_off1 (i : grid0.Coords) : Fin 3 → Nat :=
  let c0_36 : Index := 0#32
  let arg2 : BitVec 32 := BitVec.ofNat 32 (i 2).val
  let c1024_i32 : BitVec 32 := 1024#32
  let v52 : BitVec 32 := Scalar.muli arg2 c1024_i32
  let v53 : BitVec 32 := v52
  let v60 : Index := Scalar.indexCast v53
  let c0_37 : Index := 0#32
  ![0, v60.toNat, 0]
def k0_cond4 (i : grid0.Coords) : BitVec 1 :=
  let arg1 : BitVec 32 := BitVec.ofNat 32 (i 1).val
  let c0_i32_34 : BitVec 32 := 0#32
  let v57 : BitVec 1 := Scalar.cmpi .sgt arg1 c0_i32_34
  let v58 : BitVec 32 := Scalar.extui v57
  let c0_i32_35 : BitVec 32 := 0#32
  let v59 : BitVec 1 := Scalar.cmpi .ne v58 c0_i32_35
  v59

def k0_off2 (i : grid0.Coords) : Fin 3 → Nat :=
  let c0_36 : Index := 0#32
  let arg2 : BitVec 32 := BitVec.ofNat 32 (i 2).val
  let c1024_i32 : BitVec 32 := 1024#32
  let v52 : BitVec 32 := Scalar.muli arg2 c1024_i32
  let v53 : BitVec 32 := v52
  let v60 : Index := Scalar.indexCast v53
  let c0_37 : Index := 0#32
  ![0, v60.toNat, 0]
def k0_cond5 (i : grid0.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def k0_mult2 (i : grid0.Coords) : BitVec 32 :=
  let arg2 : BitVec 32 := BitVec.ofNat 32 (i 2).val
  let c1024_i32 : BitVec 32 := 1024#32
  let v57 : BitVec 32 := Scalar.muli arg2 c1024_i32
  v57
def k0_cond6 (i : grid0.Coords) : BitVec 1 :=
  let arg1 : BitVec 32 := BitVec.ofNat 32 (i 1).val
  let c0_i32_33 : BitVec 32 := 0#32
  let v59 : BitVec 1 := Scalar.cmpi .eq arg1 c0_i32_33
  let v60 : BitVec 32 := Scalar.extui v59
  let c0_i32_34 : BitVec 32 := 0#32
  let v61 : BitVec 1 := Scalar.cmpi .ne v60 c0_i32_34
  v61

def k0_off3 (i : grid0.Coords) : Fin 3 → Nat :=
  let c0_37 : Index := 0#32
  let arg2 : BitVec 32 := BitVec.ofNat 32 (i 2).val
  let c1024_i32 : BitVec 32 := 1024#32
  let v57 : BitVec 32 := Scalar.muli arg2 c1024_i32
  let v58 : BitVec 32 := v57
  let v65 : Index := Scalar.indexCast v58
  let c0_38 : Index := 0#32
  ![0, v65.toNat, 0]
def k0_cond7 (i : grid0.Coords) : BitVec 1 :=
  let arg1 : BitVec 32 := BitVec.ofNat 32 (i 1).val
  let c0_i32_35 : BitVec 32 := 0#32
  let v62 : BitVec 1 := Scalar.cmpi .sgt arg1 c0_i32_35
  let v63 : BitVec 32 := Scalar.extui v62
  let c0_i32_36 : BitVec 32 := 0#32
  let v64 : BitVec 1 := Scalar.cmpi .ne v63 c0_i32_36
  v64

def k0_off4 (i : grid0.Coords) : Fin 3 → Nat :=
  let c0_37 : Index := 0#32
  let arg2 : BitVec 32 := BitVec.ofNat 32 (i 2).val
  let c1024_i32 : BitVec 32 := 1024#32
  let v57 : BitVec 32 := Scalar.muli arg2 c1024_i32
  let v58 : BitVec 32 := v57
  let v65 : Index := Scalar.indexCast v58
  let c0_38 : Index := 0#32
  ![0, v65.toNat, 0]
def k0_cond8 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S8192x8x192 : Shape := ⟨3, ![8192, 8, 192]⟩
abbrev S8192x2048 : Shape := ⟨2, ![8192, 2048]⟩
abbrev S8192x1024 : Shape := ⟨2, ![8192, 1024]⟩
abbrev S8192x8x128 : Shape := ⟨3, ![8192, 8, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x192 : Shape := ⟨3, ![8, 8192, 192]⟩
abbrev S8x8192x256 : Shape := ⟨3, ![8, 8192, 256]⟩

abbrev nBuf : Space → Nat
  | .hbm => 102
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x2048, .f32⟩
  | .hbm, ⟨3, _⟩ => ⟨S8192x1024, .f32⟩
  | .hbm, ⟨4, _⟩ => ⟨S8192x1024, .f32⟩
  | .hbm, ⟨5, _⟩ => ⟨S8192x8x128, .f32⟩
  | .hbm, ⟨6, _⟩ => ⟨S8x8192x8192, .f32⟩
  | .hbm, ⟨7, _⟩ => ⟨S_, .f32⟩
  | .hbm, ⟨8, _⟩ => ⟨S8x8192x8192, .f32⟩
  | .hbm, ⟨9, _⟩ => ⟨S8x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S8x8192x8192, .i1⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192x8192, .f32⟩
  | .hbm, ⟨23, _⟩ => ⟨S_, .f32⟩
  | .hbm, ⟨24, _⟩ => ⟨S8x8192, .f32⟩
  | .hbm, ⟨25, _⟩ => ⟨S8x8192x1, .f32⟩
  | .hbm, ⟨26, _⟩ => ⟨S8x8192x8192, .f32⟩
  | .hbm, ⟨27, _⟩ => ⟨S8x8192x8192, .i1⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S_, .f32⟩
  | .hbm, ⟨32, _⟩ => ⟨S8x8192, .f32⟩
  | .hbm, ⟨33, _⟩ => ⟨S8x8192, .f32⟩
  | .hbm, ⟨34, _⟩ => ⟨S_, .f32⟩
  | .hbm, ⟨35, _⟩ => ⟨S8x8192, .f32⟩
  | .hbm, ⟨36, _⟩ => ⟨S8x8192, .i1⟩
  | .hbm, ⟨37, _⟩ => ⟨S_, .f32⟩
  | .hbm, ⟨38, _⟩ => ⟨S8x8192, .f32⟩
  | .hbm, ⟨39, _⟩ => ⟨S8x8192, .i1⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S_, .f32⟩
  | .hbm, ⟨45, _⟩ => ⟨S8x8192, .f32⟩
  | .hbm, ⟨46, _⟩ => ⟨S8x8192, .f32⟩
  | .hbm, ⟨47, _⟩ => ⟨S8x8192, .f32⟩
  | .hbm, ⟨48, _⟩ => ⟨S8x8192x1, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S_, .f32⟩
  | .hbm, ⟨53, _⟩ => ⟨S8x8192, .f32⟩
  | .hbm, ⟨54, _⟩ => ⟨S8x8192x1, .f32⟩
  | .hbm, ⟨55, _⟩ => ⟨S8x8192x8192, .f32⟩
  | .hbm, ⟨56, _⟩ => ⟨S8x8192x8192, .f32⟩
  | .hbm, ⟨57, _⟩ => ⟨S8x8192x1, .f32⟩
  | .hbm, ⟨58, _⟩ => ⟨S_, .f32⟩
  | .hbm, ⟨59, _⟩ => ⟨S8x8192x1, .f32⟩
  | .hbm, ⟨60, _⟩ => ⟨S8x8192x1, .f32⟩
  | .hbm, ⟨61, _⟩ => ⟨S8x128x8192, .f32⟩
  | .hbm, ⟨62, _⟩ => ⟨S8192x8x128, .f32⟩
  | .hbm, ⟨63, _⟩ => ⟨S8192x8x128, .f32⟩
  | .hbm, ⟨64, _⟩ => ⟨S8x128x8192, .f32⟩
  | .hbm, ⟨65, _⟩ => ⟨S8x8192x8192, .f32⟩
  | .hbm, ⟨66, _⟩ => ⟨S8x128x8192, .f32⟩
  | .hbm, ⟨67, _⟩ => ⟨S8192x8x128, .f32⟩
  | .hbm, ⟨68, _⟩ => ⟨S8x8192x8192, .f32⟩
  | .hbm, ⟨69, _⟩ => ⟨S8x8192x8192, .f32⟩
  | .hbm, ⟨70, _⟩ => ⟨S8x8192x8192, .f32⟩
  | .hbm, ⟨71, _⟩ => ⟨S_, .f32⟩
  | .hbm, ⟨72, _⟩ => ⟨S8x8192, .f32⟩
  | .hbm, ⟨73, _⟩ => ⟨S8x8192x1, .f32⟩
  | .hbm, ⟨74, _⟩ => ⟨S8x8192x1, .f32⟩
  | .hbm, ⟨75, _⟩ => ⟨S8x8192x8192, .f32⟩
  | .hbm, ⟨76, _⟩ => ⟨S8x8192x8192, .f32⟩
  | .hbm, ⟨77, _⟩ => ⟨S_, .f32⟩
  | .hbm, ⟨78, _⟩ => ⟨S8x8192, .f32⟩
  | .hbm, ⟨79, _⟩ => ⟨S8x8192x8192, .f32⟩
  | .hbm, ⟨80, _⟩ => ⟨S8x8192x8192, .f32⟩
  | .hbm, ⟨81, _⟩ => ⟨S8x8192x8192, .f32⟩
  | .hbm, ⟨82, _⟩ => ⟨S_, .f32⟩
  | .hbm, ⟨83, _⟩ => ⟨S8x8192x8192, .f32⟩
  | .hbm, ⟨84, _⟩ => ⟨S8x8192x8192, .f32⟩
  | .hbm, ⟨85, _⟩ => ⟨S_, .f32⟩
  | .hbm, ⟨86, _⟩ => ⟨S8x8192x8192, .f32⟩
  | .hbm, ⟨87, _⟩ => ⟨S8x8192x8192, .f32⟩
  | .hbm, ⟨88, _⟩ => ⟨S8x8192x192, .f32⟩
  | .hbm, ⟨89, _⟩ => ⟨S8192x8x192, .f32⟩
  | .hbm, ⟨90, _⟩ => ⟨S8x8192x192, .f32⟩
  | .hbm, ⟨91, _⟩ => ⟨S8192x8x192, .f32⟩
  | .hbm, ⟨92, _⟩ => ⟨S8x8192x192, .f32⟩
  | .hbm, ⟨93, _⟩ => ⟨S_, .i32⟩
  | .hbm, ⟨94, _⟩ => ⟨S_, .f32⟩
  | .hbm, ⟨95, _⟩ => ⟨S8x8192x256, .f32⟩
  | .hbm, ⟨96, _⟩ => ⟨S8x8192x192, .f32⟩
  | .hbm, ⟨97, _⟩ => ⟨S_, .i32⟩
  | .hbm, ⟨98, _⟩ => ⟨S_, .f32⟩
  | .hbm, ⟨99, _⟩ => ⟨S8x8192x256, .f32⟩
  | .hbm, ⟨100, _⟩ => ⟨S8192x1024, .f32⟩
  | .hbm, ⟨101, _⟩ => ⟨S8192x1024, .bf16⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_v11_1 : Ref sig .tc := ⟨.hbm, 18, rfl⟩
abbrev main_call0_v2 : Ref sig .tc := ⟨.hbm, 19, rfl⟩
abbrev main_v11_0 : Ref sig .tc := ⟨.hbm, 20, rfl⟩
abbrev main_call0_cst : Ref sig .tc := ⟨.hbm, 21, rfl⟩
abbrev main_v11_2 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c : Ref sig .tc := ⟨.hbm, 93, rfl⟩
abbrev main_call2_v0 : Ref sig .tc := ⟨.hbm, 94, rfl⟩
abbrev main_v67 : Ref sig .tc := ⟨.hbm, 95, rfl⟩
abbrev main_v68 : Ref sig .tc := ⟨.hbm, 96, rfl⟩
abbrev main_c_14 : Ref sig .tc := ⟨.hbm, 97, rfl⟩
abbrev main_call3_v0 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩

abbrev nD : Nat := 1
abbrev τ : Topo := Topo.v7x

variable {F : FTy → Type} [FloatOps F]
-- ==== KUp.lean ====
abbrev S8192x1024 : Shape := ⟨2, ![8192, 1024]⟩
abbrev S1024x5632 : Shape := ⟨2, ![1024, 5632]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S8192x2816, .bf16⟩
  | .hbm, ⟨5, _⟩ => ⟨S8192x2816, .bf16⟩
  | .hbm, ⟨6, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RUpIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .bf16⟩
  | .hbm, ⟨16, _⟩ => ⟨S8192x2816, .bf16⟩
  | .hbm, ⟨17, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== KUpDx.lean ====
abbrev S1024x5632 : Shape := ⟨2, ![1024, 5632]⟩
abbrev S8192x5632 : Shape := ⟨2, ![8192, 5632]⟩
abbrev S8192x1024 : Shape := ⟨2, ![8192, 1024]⟩
abbrev S512x5632 : Shape := ⟨2, ![512, 5632]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x5632, .f32⟩
  | .hbm, ⟨1, _⟩ => ⟨S8192x5632, .f32⟩
  | .hbm, ⟨2, _⟩ => ⟨S8192x5632, .bf16⟩
  | .hbm, ⟨3, _⟩ => ⟨S1024x5632, .bf16⟩
  | .hbm, ⟨4, _⟩ => ⟨S8192x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RUpDxIdeal.lean ====
abbrev S1024x5632 : Shape := ⟨2, ![1024, 5632]⟩
abbrev S8192x5632 : Shape := ⟨2, ![8192, 5632]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S8192x5632, .f32⟩
  | .hbm, ⟨2, _⟩ => ⟨S_, .f32⟩
  | .hbm, ⟨3, _⟩ => ⟨S8192x1024, .f32⟩
  | .hbm, ⟨4, _⟩ => ⟨S8192x5632, .f32⟩
  | .hbm, ⟨5, _⟩ => ⟨S8192x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KUpDw.lean ====
abbrev S8192x1024 : Shape := ⟨2, ![8192, 1024]⟩
abbrev S8192x5632 : Shape := ⟨2, ![8192, 5632]⟩
abbrev S1024x5632 : Shape := ⟨2, ![1024, 5632]⟩
abbrev S1024x512 : Shape := ⟨2, ![1024, 512]⟩
abbrev S1024x2816 : Shape := ⟨2, ![1024, 2816]⟩
abbrev S512x2816 : Shape := ⟨2, ![512, 2816]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x5632, .bf16⟩
  | .hbm, ⟨4, _⟩ => ⟨S1024x5632, .f32⟩
  | .local _ .vmem, ⟨0, _⟩ => ⟨S1024x512, .bf16⟩
  | .local _ .vmem, ⟨1, _⟩ => ⟨S1024x512, .bf16⟩
  | .local _ .vmem, ⟨2, _⟩ => ⟨S1024x2816, .bf16⟩
  | .local _ .vmem, ⟨3, _⟩ => ⟨S1024x2816, .bf16⟩
  | .local _ .vmem, ⟨4, _⟩ => ⟨S512x2816, .f32⟩
  | .local _ .vmem, ⟨5, _⟩ => ⟨S512x2816, .f32⟩
  | .local _ .vmem, ⟨6, _⟩ => ⟨S512x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RUpDwIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KIn.lean ====
abbrev S8192x1024 : Shape := ⟨2, ![8192, 1024]⟩
abbrev S1024x8064 : Shape := ⟨2, ![1024, 8064]⟩
abbrev S8192x8064 : Shape := ⟨2, ![8192, 8064]⟩
abbrev S1024x1024 : Shape := ⟨2, ![1024, 1024]⟩
abbrev S1024x1152 : Shape := ⟨2, ![1024, 1152]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x8064, .f32⟩
  | .hbm, ⟨2, _⟩ => ⟨S8192x1024, .bf16⟩
  | .hbm, ⟨3, _⟩ => ⟨S1024x8064, .bf16⟩
  | .hbm, ⟨4, _⟩ => ⟨S8192x8064, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RInIdeal.lean ====
abbrev S8192x1024 : Shape := ⟨2, ![8192, 1024]⟩
abbrev S1024x8064 : Shape := ⟨2, ![1024, 8064]⟩
abbrev S8192x8064 : Shape := ⟨2, ![8192, 8064]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x8064, .f32⟩
  | .hbm, ⟨2, _⟩ => ⟨S8192x8064, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KInDx.lean ====
abbrev S1024x8064 : Shape := ⟨2, ![1024, 8064]⟩
abbrev S8192x8064 : Shape := ⟨2, ![8192, 8064]⟩
abbrev S8192x1024 : Shape := ⟨2, ![8192, 1024]⟩
abbrev S1024x2688 : Shape := ⟨2, ![1024, 2688]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x8064, .f32⟩
  | .hbm, ⟨1, _⟩ => ⟨S8192x8064, .f32⟩
  | .hbm, ⟨2, _⟩ => ⟨S8192x8064, .bf16⟩
  | .hbm, ⟨3, _⟩ => ⟨S1024x8064, .bf16⟩
  | .hbm, ⟨4, _⟩ => ⟨S8192x1024, .f32⟩
  | .local _ .vmem, ⟨0, _⟩ => ⟨S1024x2688, .bf16⟩
  | .local _ .vmem, ⟨1, _⟩ => ⟨S1024x2688, .bf16⟩
  | .local _ .vmem, ⟨2, _⟩ => ⟨S1024x2688, .bf16⟩
  | .local _ .vmem, ⟨3, _⟩ => ⟨S1024x2688, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x8064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RInDxIdeal.lean ====
abbrev S1024x8064 : Shape := ⟨2, ![1024, 8064]⟩
abbrev S8192x8064 : Shape := ⟨2, ![8192, 8064]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x8064, .f32⟩
  | .hbm, ⟨1, _⟩ => ⟨S8192x8064, .f32⟩
  | .hbm, ⟨2, _⟩ => ⟨S_, .f32⟩
  | .hbm, ⟨3, _⟩ => ⟨S8192x1024, .f32⟩
  | .hbm, ⟨4, _⟩ => ⟨S8192x8064, .f32⟩
  | .hbm, ⟨5, _⟩ => ⟨S8192x1024, .f32⟩
  | _, _ => ⟨S1024x8064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KInDw.lean ====
abbrev S8192x1024 : Shape := ⟨2, ![8192, 1024]⟩
abbrev S8192x8064 : Shape := ⟨2, ![8192, 8064]⟩
abbrev S1024x8064 : Shape := ⟨2, ![1024, 8064]⟩
abbrev S1024x512 : Shape := ⟨2, ![1024, 512]⟩
abbrev S1024x2688 : Shape := ⟨2, ![1024, 2688]⟩
abbrev S512x2688 : Shape := ⟨2, ![512, 2688]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x8064, .f32⟩
  | .hbm, ⟨2, _⟩ => ⟨S8192x1024, .bf16⟩
  | .hbm, ⟨3, _⟩ => ⟨S8192x8064, .bf16⟩
  | .hbm, ⟨4, _⟩ => ⟨S1024x8064, .f32⟩
  | .local _ .vmem, ⟨0, _⟩ => ⟨S1024x512, .bf16⟩
  | .local _ .vmem, ⟨1, _⟩ => ⟨S1024x512, .bf16⟩
  | .local _ .vmem, ⟨2, _⟩ => ⟨S1024x2688, .bf16⟩
  | .local _ .vmem, ⟨3, _⟩ => ⟨S1024x2688, .bf16⟩
  | .local _ .vmem, ⟨4, _⟩ => ⟨S512x2688, .f32⟩
  | .local _ .vmem, ⟨5, _⟩ => ⟨S512x2688, .f32⟩
  | .local _ .vmem, ⟨6, _⟩ => ⟨S512x2688, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 8], ![false, false, false]⟩

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RInDwIdeal.lean ====
abbrev S8192x1024 : Shape := ⟨2, ![8192, 1024]⟩
abbrev S8192x8064 : Shape := ⟨2, ![8192, 8064]⟩
abbrev S_ : Shape := ⟨0, ![]⟩
abbrev S1024x8064 : Shape := ⟨2, ![1024, 8064]⟩
abbrev S8064x1024 : Shape := ⟨2, ![8064, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8064, .f32⟩
  | .hbm, ⟨2, _⟩ => ⟨S_, .f32⟩
  | .hbm, ⟨3, _⟩ => ⟨S1024x8064, .f32⟩
  | .hbm, ⟨4, _⟩ => ⟨S8192x8064, .f32⟩
  | .hbm, ⟨5, _⟩ => ⟨S8064x1024, .f32⟩
  | .hbm, ⟨6, _⟩ => ⟨S1024x8064, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KDown.lean ====
abbrev S8192x1024 : Shape := ⟨2, ![8192, 1024]⟩
abbrev S8192x2816 : Shape := ⟨2, ![8192, 2816]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S8192x2816, .bf16⟩
  | .hbm, ⟨4, _⟩ => ⟨S2816x1024, .bf16⟩
  | .hbm, ⟨5, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RDownIdeal.lean ====
abbrev S8192x1024 : Shape := ⟨2, ![8192, 1024]⟩
abbrev S8192x2816 : Shape := ⟨2, ![8192, 2816]⟩
abbrev S2816x1024 : Shape := ⟨2, ![2816, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KDownDx.lean ====
abbrev S2816x1024 : Shape := ⟨2, ![2816, 1024]⟩
abbrev S8192x1024 : Shape := ⟨2, ![8192, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S2816x1024, .bf16⟩
  | .hbm, ⟨3, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDownDxIdeal.lean ====
abbrev S2816x1024 : Shape := ⟨2, ![2816, 1024]⟩
abbrev S8192x1024 : Shape := ⟨2, ![8192, 1024]⟩
abbrev S_ : Shape := ⟨0, ![]⟩
abbrev S8192x2816 : Shape := ⟨2, ![8192, 2816]⟩

abbrev nBuf : Space → Nat
  | .hbm => 13
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x2816, .f32⟩
  | .hbm, ⟨12, _⟩ => ⟨S8192x2816, .bf16⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== KDownDw.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RDownDwIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 13
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S1024x2816, .f32⟩
  | .hbm, ⟨12, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== KSsdOut.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x2048, .bf16⟩
  | .hbm, ⟨3, _⟩ => ⟨S2048x1024, .bf16⟩
  | .hbm, ⟨4, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RSsdOutIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KSsdOutDx.lean ====
abbrev S2048x1024 : Shape := ⟨2, ![2048, 1024]⟩
abbrev S8192x1024 : Shape := ⟨2, ![8192, 1024]⟩
abbrev S8192x2048 : Shape := ⟨2, ![8192, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S8192x1024, .f32⟩
  | .hbm, ⟨2, _⟩ => ⟨S8192x1024, .bf16⟩
  | .hbm, ⟨3, _⟩ => ⟨S2048x1024, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RSsdOutDxIdeal.lean ====
abbrev S2048x1024 : Shape := ⟨2, ![2048, 1024]⟩
abbrev S8192x1024 : Shape := ⟨2, ![8192, 1024]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8192x1024, .f32⟩
  | .hbm, ⟨2, _⟩ => ⟨S_, .f32⟩
  | .hbm, ⟨3, _⟩ => ⟨S8192x2048, .f32⟩
  | .hbm, ⟨4, _⟩ => ⟨S8192x1024, .f32⟩
  | .hbm, ⟨5, _⟩ => ⟨S8192x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KSsdOutDw.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RSsdOutDwIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x1024, .f32⟩
  | .hbm, ⟨5, _⟩ => ⟨S1024x2048, .f32⟩
  | .hbm, ⟨6, _⟩ => ⟨S2048x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KUq.lean ====
abbrev S8192x512 : Shape := ⟨2, ![8192, 512]⟩
abbrev S512x1536 : Shape := ⟨2, ![512, 1536]⟩
abbrev S8192x1536 : Shape := ⟨2, ![8192, 1536]⟩
abbrev S1024x512 : Shape := ⟨2, ![1024, 512]⟩
abbrev S512x768 : Shape := ⟨2, ![512, 768]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1536, .f32⟩
  | .hbm, ⟨2, _⟩ => ⟨S8192x512, .bf16⟩
  | .hbm, ⟨3, _⟩ => ⟨S512x1536, .bf16⟩
  | .hbm, ⟨4, _⟩ => ⟨S8192x1536, .f32⟩
  | .local _ .vmem, ⟨0, _⟩ => ⟨S1024x512, .bf16⟩
  | .local _ .vmem, ⟨1, _⟩ => ⟨S1024x512, .bf16⟩
  | .local _ .vmem, ⟨2, _⟩ => ⟨S512x768, .bf16⟩
  | .local _ .vmem, ⟨3, _⟩ => ⟨S512x768, .bf16⟩
  | .local _ .vmem, ⟨4, _⟩ => ⟨S1024x768, .f32⟩
  | .local _ .vmem, ⟨5, _⟩ => ⟨S1024x768, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RUqIdeal.lean ====
abbrev S8192x512 : Shape := ⟨2, ![8192, 512]⟩
abbrev S512x1536 : Shape := ⟨2, ![512, 1536]⟩
abbrev S8192x1536 : Shape := ⟨2, ![8192, 1536]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1536, .f32⟩
  | .hbm, ⟨2, _⟩ => ⟨S8192x1536, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KUqDx.lean ====
abbrev S512x1536 : Shape := ⟨2, ![512, 1536]⟩
abbrev S8192x1536 : Shape := ⟨2, ![8192, 1536]⟩
abbrev S8192x512 : Shape := ⟨2, ![8192, 512]⟩
abbrev S1024x1536 : Shape := ⟨2, ![1024, 1536]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S512x1536, .f32⟩
  | .hbm, ⟨1, _⟩ => ⟨S8192x1536, .f32⟩
  | .hbm, ⟨2, _⟩ => ⟨S8192x1536, .bf16⟩
  | .hbm, ⟨3, _⟩ => ⟨S512x1536, .bf16⟩
  | .hbm, ⟨4, _⟩ => ⟨S8192x512, .f32⟩
  | .local _ .vmem, ⟨0, _⟩ => ⟨S1024x1536, .bf16⟩
  | .local _ .vmem, ⟨1, _⟩ => ⟨S1024x1536, .bf16⟩
  | .local _ .vmem, ⟨2, _⟩ => ⟨S512x1536, .bf16⟩
  | .local _ .vmem, ⟨3, _⟩ => ⟨S1024x512, .f32⟩
  | .local _ .vmem, ⟨4, _⟩ => ⟨S1024x512, .f32⟩
  | _, _ => ⟨S512x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RUqDxIdeal.lean ====
abbrev S512x1536 : Shape := ⟨2, ![512, 1536]⟩
abbrev S8192x1536 : Shape := ⟨2, ![8192, 1536]⟩
abbrev S_ : Shape := ⟨0, ![]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x1536, .f32⟩
  | .hbm, ⟨1, _⟩ => ⟨S8192x1536, .f32⟩
  | .hbm, ⟨2, _⟩ => ⟨S_, .f32⟩
  | .hbm, ⟨3, _⟩ => ⟨S8192x512, .f32⟩
  | .hbm, ⟨4, _⟩ => ⟨S8192x1536, .f32⟩
  | .hbm, ⟨5, _⟩ => ⟨S8192x512, .f32⟩
  | _, _ => ⟨S512x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KUqDw.lean ====
abbrev S8192x512 : Shape := ⟨2, ![8192, 512]⟩
abbrev S8192x1536 : Shape := ⟨2, ![8192, 1536]⟩
abbrev S512x1536 : Shape := ⟨2, ![512, 1536]⟩
abbrev S1024x512 : Shape := ⟨2, ![1024, 512]⟩
abbrev S1024x1536 : Shape := ⟨2, ![1024, 1536]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1536, .f32⟩
  | .hbm, ⟨2, _⟩ => ⟨S8192x512, .bf16⟩
  | .hbm, ⟨3, _⟩ => ⟨S8192x1536, .bf16⟩
  | .hbm, ⟨4, _⟩ => ⟨S512x1536, .f32⟩
  | .local _ .vmem, ⟨0, _⟩ => ⟨S1024x512, .bf16⟩
  | .local _ .vmem, ⟨1, _⟩ => ⟨S1024x512, .bf16⟩
  | .local _ .vmem, ⟨2, _⟩ => ⟨S1024x1536, .bf16⟩
  | .local _ .vmem, ⟨3, _⟩ => ⟨S1024x1536, .bf16⟩
  | .local _ .vmem, ⟨4, _⟩ => ⟨S512x1536, .f32⟩
  | .local _ .vmem, ⟨5, _⟩ => ⟨S512x1536, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RUqDwIdeal.lean ====
abbrev S8192x512 : Shape := ⟨2, ![8192, 512]⟩
abbrev S8192x1536 : Shape := ⟨2, ![8192, 1536]⟩
abbrev S_ : Shape := ⟨0, ![]⟩
abbrev S512x1536 : Shape := ⟨2, ![512, 1536]⟩
abbrev S1536x512 : Shape := ⟨2, ![1536, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1536, .f32⟩
  | .hbm, ⟨2, _⟩ => ⟨S_, .f32⟩
  | .hbm, ⟨3, _⟩ => ⟨S512x1536, .f32⟩
  | .hbm, ⟨4, _⟩ => ⟨S8192x1536, .f32⟩
  | .hbm, ⟨5, _⟩ => ⟨S1536x512, .f32⟩
  | .hbm, ⟨6, _⟩ => ⟨S512x1536, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KUkv.lean ====
abbrev S8192x256 : Shape := ⟨2, ![8192, 256]⟩
abbrev S256x2048 : Shape := ⟨2, ![256, 2048]⟩
abbrev S8192x2048 : Shape := ⟨2, ![8192, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x256, .bf16⟩
  | .hbm, ⟨3, _⟩ => ⟨S256x2048, .bf16⟩
  | .hbm, ⟨4, _⟩ => ⟨S8192x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RUkvIdeal.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KUkvDx.lean ====
abbrev S256x2048 : Shape := ⟨2, ![256, 2048]⟩
abbrev S8192x2048 : Shape := ⟨2, ![8192, 2048]⟩
abbrev S8192x256 : Shape := ⟨2, ![8192, 256]⟩
abbrev S1024x2048 : Shape := ⟨2, ![1024, 2048]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S8192x2048, .f32⟩
  | .hbm, ⟨2, _⟩ => ⟨S8192x2048, .bf16⟩
  | .hbm, ⟨3, _⟩ => ⟨S256x2048, .bf16⟩
  | .hbm, ⟨4, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RUkvDxIdeal.lean ====
abbrev S256x2048 : Shape := ⟨2, ![256, 2048]⟩
abbrev S8192x2048 : Shape := ⟨2, ![8192, 2048]⟩
abbrev S_ : Shape := ⟨0, ![]⟩
abbrev S8192x256 : Shape := ⟨2, ![8192, 256]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S8192x2048, .f32⟩
  | .hbm, ⟨2, _⟩ => ⟨S_, .f32⟩
  | .hbm, ⟨3, _⟩ => ⟨S8192x256, .f32⟩
  | .hbm, ⟨4, _⟩ => ⟨S8192x2048, .f32⟩
  | .hbm, ⟨5, _⟩ => ⟨S8192x256, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KUkvDw.lean ====
abbrev S8192x256 : Shape := ⟨2, ![8192, 256]⟩
abbrev S8192x2048 : Shape := ⟨2, ![8192, 2048]⟩
abbrev S256x2048 : Shape := ⟨2, ![256, 2048]⟩
abbrev S1024x256 : Shape := ⟨2, ![1024, 256]⟩
abbrev S1024x2048 : Shape := ⟨2, ![1024, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S8192x256, .bf16⟩
  | .hbm, ⟨3, _⟩ => ⟨S8192x2048, .bf16⟩
  | .hbm, ⟨4, _⟩ => ⟨S256x2048, .f32⟩
  | .local _ .vmem, ⟨0, _⟩ => ⟨S1024x256, .bf16⟩
  | .local _ .vmem, ⟨1, _⟩ => ⟨S1024x256, .bf16⟩
  | .local _ .vmem, ⟨2, _⟩ => ⟨S1024x2048, .bf16⟩
  | .local _ .vmem, ⟨3, _⟩ => ⟨S1024x2048, .bf16⟩
  | .local _ .vmem, ⟨4, _⟩ => ⟨S256x2048, .f32⟩
  | .local _ .vmem, ⟨5, _⟩ => ⟨S256x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RUkvDwIdeal.lean ====
abbrev S8192x256 : Shape := ⟨2, ![8192, 256]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S_, .f32⟩
  | .hbm, ⟨3, _⟩ => ⟨S256x2048, .f32⟩
  | .hbm, ⟨4, _⟩ => ⟨S8192x2048, .f32⟩
  | .hbm, ⟨5, _⟩ => ⟨S2048x256, .f32⟩
  | .hbm, ⟨6, _⟩ => ⟨S256x2048, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KMlaOut.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RMlaOutIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KMlaOutDx.lean ====
abbrev S1024x1024 : Shape := ⟨2, ![1024, 1024]⟩
abbrev S8192x1024 : Shape := ⟨2, ![8192, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RMlaOutDxIdeal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KMlaOutDw.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RMlaOutDwIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KOut.lean ====
abbrev S8192x1024 : Shape := ⟨2, ![8192, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ROutIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KOutDx.lean ====
abbrev S1024x1024 : Shape := ⟨2, ![1024, 1024]⟩
abbrev S8192x1024 : Shape := ⟨2, ![8192, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S1024x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ROutDxIdeal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KOutDw.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ROutDwIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KNorm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RNormIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KGatedNorm.lean ====
abbrev S8192x2048 : Shape := ⟨2, ![8192, 2048]⟩
abbrev S8192x8064 : Shape := ⟨2, ![8192, 8064]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x8064, .f32⟩
  | .hbm, ⟨2, _⟩ => ⟨S1x2048, .f32⟩
  | .hbm, ⟨3, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RGatedNormIdeal.lean ====
abbrev S8192x2048 : Shape := ⟨2, ![8192, 2048]⟩
abbrev S8192x8064 : Shape := ⟨2, ![8192, 8064]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8064, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== KMerge.lean ====
abbrev S8192x8064 : Shape := ⟨2, ![8192, 8064]⟩
abbrev S8192x1024 : Shape := ⟨2, ![8192, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x8064, .f32⟩
  | .hbm, ⟨1, _⟩ => ⟨S8192x1024, .f32⟩
  | .hbm, ⟨2, _⟩ => ⟨S8192x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x8064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RMergeIdeal.lean ====
abbrev S8192x8064 : Shape := ⟨2, ![8192, 8064]⟩
abbrev S8192x1024 : Shape := ⟨2, ![8192, 1024]⟩
abbrev S8192x2048 : Shape := ⟨2, ![8192, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x8064, .f32⟩
  | .hbm, ⟨1, _⟩ => ⟨S8192x1024, .f32⟩
  | .hbm, ⟨2, _⟩ => ⟨S8192x1024, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x8064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KAdam.lean ====
abbrev S2048x1408 : Shape := ⟨2, ![2048, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RAdamIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KQNorm.lean ====
abbrev S8192x8064 : Shape := ⟨2, ![8192, 8064]⟩
abbrev S1x512 : Shape := ⟨2, ![1, 512]⟩
abbrev S8192x512 : Shape := ⟨2, ![8192, 512]⟩
abbrev S512x512 : Shape := ⟨2, ![512, 512]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x8064, .f32⟩
  | .hbm, ⟨1, _⟩ => ⟨S1x512, .f32⟩
  | .hbm, ⟨2, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x512, .bf16⟩
  | .local _ .vmem, ⟨4, _⟩ => ⟨S512x512, .bf16⟩
  | _, _ => ⟨S8192x8064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RQNormIdeal.lean ====
abbrev S8192x8064 : Shape := ⟨2, ![8192, 8064]⟩
abbrev S1x512 : Shape := ⟨2, ![1, 512]⟩
abbrev S8192x512 : Shape := ⟨2, ![8192, 512]⟩
abbrev S_ : Shape := ⟨0, ![]⟩
abbrev S8192 : Shape := ⟨1, ![8192]⟩
abbrev S8192x1 : Shape := ⟨2, ![8192, 1]⟩

abbrev nBuf : Space → Nat
  | .hbm => 19
  | .vmem => 0
  | .smem => 0
  | _ => 0

abbrev bufTy : (tb : Table) → Fin (tcTables nBuf tb) → BufTy
  | .hbm, ⟨0, _⟩ => ⟨S8192x8064, .f32⟩
  | .hbm, ⟨1, _⟩ => ⟨S1x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .bf16⟩
  | _, _ => ⟨S8192x8064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KKvNorm.lean ====
abbrev S8192x8064 : Shape := ⟨2, ![8192, 8064]⟩
abbrev S1x256 : Shape := ⟨2, ![1, 256]⟩
abbrev S8192x256 : Shape := ⟨2, ![8192, 256]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x8064, .f32⟩
  | .hbm, ⟨1, _⟩ => ⟨S1x256, .f32⟩
  | .hbm, ⟨2, _⟩ => ⟨S8192x256, .bf16⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S512x256, .bf16⟩
  | .local _ .vmem, ⟨4, _⟩ => ⟨S512x256, .bf16⟩
  | _, _ => ⟨S8192x8064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c30_i32 : BitVec 32 := 30#32
  let c0_i32 : BitVec 32 := 0#32
  ![arg0.toNat, c30_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RKvNormIdeal.lean ====
abbrev S8192x8064 : Shape := ⟨2, ![8192, 8064]⟩
abbrev S1x256 : Shape := ⟨2, ![1, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩

abbrev nBuf : Space → Nat
  | .hbm => 19
  | .vmem => 0
  | .smem => 0
  | _ => 0

abbrev bufTy : (tb : Table) → Fin (tcTables nBuf tb) → BufTy
  | .hbm, ⟨0, _⟩ => ⟨S8192x8064, .f32⟩
  | .hbm, ⟨1, _⟩ => ⟨S1x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S8192x256, .bf16⟩
  | _, _ => ⟨S8192x8064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KMergeDx.lean ====
abbrev S8192x8064 : Shape := ⟨2, ![8192, 8064]⟩
abbrev S8192x1024 : Shape := ⟨2, ![8192, 1024]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 7
  | .vmem => 16
  | .smem => 0
  | _ => 0

abbrev bufTy : (tb : Table) → Fin (tcTables nBuf tb) → BufTy
  | .hbm, ⟨0, _⟩ => ⟨S8192x8064, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x2048, .bf16⟩
  | .hbm, ⟨5, _⟩ => ⟨S8192x1024, .bf16⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S8192x8064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RMergeDxIdeal.lean ====
abbrev S8192x8064 : Shape := ⟨2, ![8192, 8064]⟩
abbrev S8192x1024 : Shape := ⟨2, ![8192, 1024]⟩
abbrev S8192x2048 : Shape := ⟨2, ![8192, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x8064, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x2048, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .bf16⟩
  | .hbm, ⟨35, _⟩ => ⟨S8192x1024, .bf16⟩
  | .hbm, ⟨36, _⟩ => ⟨S8192x1024, .bf16⟩
  | _, _ => ⟨S8192x8064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== KLoss.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_7 : BitVec 32 := 0#32
  let v13 : BitVec 1 := Scalar.cmpi .ne v12 c0_i32_7
  v13

def k0_cond2 (i : grid0.Coords) : BitVec 1 :=
  let arg0 : BitVec 32 := BitVec.ofNat 32 (i 0).val
  let c0_i32_8 : BitVec 32 := 0#32
  let v14 : BitVec 1 := Scalar.cmpi .sgt arg0 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RLossIdeal.lean ====
abbrev S8192x1024 : Shape := ⟨2, ![8192, 1024]⟩
abbrev S_ : Shape := ⟨0, ![]⟩
abbrev S1024 : Shape := ⟨1, ![1024]⟩
abbrev S1x1024 : Shape := ⟨2, ![1, 1024]⟩
abbrev S8192 : Shape := ⟨1, ![8192]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1024, .f32⟩
  | .hbm, ⟨35, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_cst_7 : Ref sig .tc := ⟨.hbm, 27, rfl⟩
abbrev main_cst_8 : Ref sig .tc := ⟨.hbm, 28, rfl⟩
abbrev main_v17 : Ref sig .tc := ⟨.hbm, 29, rfl⟩
abbrev main_v18 : Ref sig .tc := ⟨.hbm, 30, rfl⟩
abbrev main_cst_9 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Proof.Step.lean ====
/-
  One grid point of the attention gradient's kernel, at any float values: what it leaves in the two scratch accumulators and
  in the head's query gradients, as functions of what it found there and of its input blocks, and its conditions over the grid.
-/
module

public import proofs.«01_k».proof.Proof.Gen.KernelIdeal.Frame
public import proofs.«01_k».proof.Proof.Gen.KernelIdeal.Skeleton
public import Idealize.ShloMosaic.Lib.Pipeline.DatRel
public import Idealize.ShloMosaic.Lib.Pipeline.ArrRel
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

/-! ## What one grid point computes -/

/-- The first query block: the accumulators are reset. -/
abbrev isFirst (i : grid0.Coords) : Prop :=
  (Scalar.cmpi .ne (Scalar.extui (Scalar.cmpi .eq (BitVec.ofNat 32 (i 2).val) 0#32)) 0#32) = 1#1

/-- The rows of query block `i 2` in the head's array of query gradients. -/
abbrev rowOff (i : grid0.Coords) : Fin 3 → ℕ := ![0, 1024 * (i 2).val, 0]

theorem off1_eq (i : grid0.Coords) : k0_off1 i = rowOff i := by
  have h : (i 2).val < 8 := (i 2).isLt
  have : (Scalar.muli (BitVec.ofNat 32 (i 2).val) 1024#32).toNat = 1024 * (i 2).val := by
    simp only [Scalar.muli, IntOp.muli, BitVec.toNat_mul, BitVec.toNat_ofNat]; omega
  funext a
  fin_cases a <;> simp [k0_off1, rowOff] <;> exact this

theorem off2_eq (i : grid0.Coords) : k0_off2 i = rowOff i := off1_eq i
theorem off3_eq (i : grid0.Coords) : k0_off3 i = rowOff i := off1_eq i
theorem off4_eq (i : grid0.Coords) : k0_off4 i = rowOff i := off1_eq i

theorem rowOff_inb (i : grid0.Coords) : ∀ a, rowOff i a + S1x1024x256.size a ≤ S1x8192x256.size a := by
  have h : (i 2).val < 8 := (i 2).isLt
  intro a
  fin_cases a
  · exact Nat.le_refl _
  · show 1024 * (i 2).val + 1024 ≤ 8192; omega
  · exact Nat.le_refl _

/-- The key gradient's accumulator after the point. -/
def dkNext (i : grid0.Coords) (x0 x1 : Vec F S1x1024x256 .bf16) (x2 x3 : Vec F S1024x128 .f32) (x4 : Vec F S1x1024x1 .f32)
    (x5 : Vec F S1024x128 .f32) (s : Vec F S1024x256 .f32) : Vec F S1024x256 .f32 :=
  if k0_cond2 i = 1#1 then k0_pay3 (if isFirst i then k0_pay1 else s) (k0_pay20 x0 x1 x4 x5 x3 x2)
  else if k0_cond5 i = 1#1 then k0_pay8 (k0_pay21 x0) (k0_pay26 x0 x1 x4 x5 x3 x2) (if isFirst i then k0_pay1 else s)
  else if isFirst i then k0_pay1 else s

/-- The value gradient's accumulator after the point. -/
def dvNext (i : grid0.Coords) (x0 x1 : Vec F S1x1024x256 .bf16) (x4 : Vec F S1x1024x1 .f32)
    (x5 : Vec F S1024x128 .f32) (s : Vec F S1024x128 .f32) : Vec F S1024x128 .f32 :=
  if k0_cond2 i = 1#1 then k0_pay18 x0 x1 x4 x5 (if isFirst i then k0_pay2 else s)
  else if k0_cond5 i = 1#1 then k0_pay25 x0 x1 x4 x5 (if isFirst i then k0_pay2 else s)
  else if isFirst i then k0_pay2 else s

/-- The head's query gradients after the point. -/
def dqNext (i : grid0.Coords) (x0 x1 : Vec F S1x1024x256 .bf16) (x2 x3 : Vec F S1024x128 .f32) (x4 : Vec F S1x1024x1 .f32)
    (x5 : Vec F S1024x128 .f32) (y : Vec F S1x8192x256 .f32) : Vec F S1x8192x256 .f32 :=
  if k0_cond2 i = 1#1 then
    if k0_cond3 i = 1#1 then
      VecWindow.put y (rowOff i) S1x1024x256.size (k0_pay5 (k0_pay15 x1) (k0_pay19 x0 x1 x4 x5 x3 x2))
    else
      VecWindow.put y (rowOff i) S1x1024x256.size
        (k0_pay6 (k0_pay15 x1) (k0_pay19 x0 x1 x4 x5 x3 x2) (VecWindow.window y (rowOff i) S1x1024x256.size (rowOff_inb i)))
  else if k0_cond5 i = 1#1 then
    if k0_cond6 i = 1#1 then
      VecWindow.put y (rowOff i) S1x1024x256.size (k0_pay10 (k0_pay22 x1) (k0_pay26 x0 x1 x4 x5 x3 x2))
    else
      VecWindow.put y (rowOff i) S1x1024x256.size
        (k0_pay11 (k0_pay22 x1) (k0_pay26 x0 x1 x4 x5 x3 x2) (VecWindow.window y (rowOff i) S1x1024x256.size (rowOff_inb i)))
  else y

/-! ## The conditions over the grid -/

theorem cond_first : ∀ t : Fin cfg0.N, isFirst (grid0.coords t) ↔ t.val % 8 = 0 :=
  (by decide +kernel : ∀ t : Fin grid0.N, isFirst (grid0.coords t) ↔ t.val % 8 = 0)
theorem cond_below : ∀ t : Fin cfg0.N, k0_cond2 (grid0.coords t) = 1#1 ↔ t.val / 8 % 8 + 1 ≤ t.val % 8 :=
  (by decide +kernel : ∀ t : Fin grid0.N, k0_cond2 (grid0.coords t) = 1#1 ↔ t.val / 8 % 8 + 1 ≤ t.val % 8)
theorem cond_diag : ∀ t : Fin cfg0.N, k0_cond5 (grid0.coords t) = 1#1 ↔ t.val / 8 % 8 = t.val % 8 :=
  (by decide +kernel : ∀ t : Fin grid0.N, k0_cond5 (grid0.coords t) = 1#1 ↔ t.val / 8 % 8 = t.val % 8)
theorem cond3 : ∀ t : Fin cfg0.N, k0_cond3 (grid0.coords t) = 1#1 ↔ t.val / 8 % 8 = 0 :=
  (by decide +kernel : ∀ t : Fin grid0.N, k0_cond3 (grid0.coords t) = 1#1 ↔ t.val / 8 % 8 = 0)
theorem cond6 : ∀ t : Fin cfg0.N, k0_cond6 (grid0.coords t) = 1#1 ↔ t.val / 8 % 8 = 0 :=
  (by decide +kernel : ∀ t : Fin grid0.N, k0_cond6 (grid0.coords t) = 1#1 ↔ t.val / 8 % 8 = 0)
theorem cond4 : ∀ t : Fin cfg0.N, k0_cond4 (grid0.coords t) = 1#1 ↔ 1 ≤ t.val / 8 % 8 :=
  (by decide +kernel : ∀ t : Fin grid0.N, k0_cond4 (grid0.coords t) = 1#1 ↔ 1 ≤ t.val / 8 % 8)
theorem cond7 : ∀ t : Fin cfg0.N, k0_cond7 (grid0.coords t) = 1#1 ↔ 1 ≤ t.val / 8 % 8 :=
  (by decide +kernel : ∀ t : Fin grid0.N, k0_cond7 (grid0.coords t) = 1#1 ↔ 1 ≤ t.val / 8 % 8)
theorem cond_last : ∀ t : Fin cfg0.N, k0_cond8 (grid0.coords t) = 1#1 ↔ t.val % 8 = 7 :=
  (by decide +kernel : ∀ t : Fin grid0.N, k0_cond8 (grid0.coords t) = 1#1 ↔ t.val % 8 = 7)

end Cert.KernelIdeal.Hand

end
-- ==== Proof.Data.lean ====
/-
  The values that the attention gradient's kernel carries from point to point: the accumulators of the key and value gradients, and the
  query gradients of each query block, each as a recursion over the grid's points.
-/
module

public import proofs.«01_k».proof.Proof.Step
public import proofs.«01_k».proof.Proof.Gen.KernelIdeal.Skeleton
public import Idealize.ShloMosaic.Lib.Pipeline.DatRel
public import Idealize.ShloMosaic.Lib.Pipeline.ArrRel
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

variable (m : (ℓ : Loc nD τ sig) → Buf (Elt F) ℓ) (c : Dev nD)

/-- The blocks of the six inputs at a point. -/
abbrev b0 (t : Fin cfg0.N) : Vec F S1x1024x256 .bf16 := iblk m c 0 t
abbrev b1 (t : Fin cfg0.N) : Vec F S1x1024x256 .bf16 := iblk m c 1 t
abbrev b2 (t : Fin cfg0.N) : Vec F S1024x128 .f32 := iblk m c 2 t
abbrev b3 (t : Fin cfg0.N) : Vec F S1024x128 .f32 := iblk m c 3 t
abbrev b4 (t : Fin cfg0.N) : Vec F S1x1024x1 .f32 := iblk m c 4 t
abbrev b5 (t : Fin cfg0.N) : Vec F S1024x128 .f32 := iblk m c 5 t

/-- The grid point of a number. -/
def pt (n : ℕ) : Fin cfg0.N := ⟨n % 512, Nat.lt_of_lt_of_eq (Nat.mod_lt _ (by decide)) N_0.symm⟩

theorem pt_val (t : Fin cfg0.N) : pt t.val = t :=
  Fin.ext (Nat.mod_eq_of_lt (Nat.lt_of_lt_of_eq t.isLt N_0))

/-- The key gradient's accumulator before point `n`. -/
def dkS : ℕ → Vec F S1024x256 .f32
  | 0 => k0_pay1
  | n + 1 => dkNext (grid0.coords (pt n)) (b0 m c (pt n)) (b1 m c (pt n)) (b2 m c (pt n)) (b3 m c (pt n)) (b4 m c (pt n)) (b5 m c (pt n)) (dkS n)

/-- The value gradient's accumulator before point `n`. -/
def dvS : ℕ → Vec F S1024x128 .f32
  | 0 => k0_pay2
  | n + 1 => dvNext (grid0.coords (pt n)) (b0 m c (pt n)) (b1 m c (pt n)) (b4 m c (pt n)) (b5 m c (pt n)) (dvS n)

/-- The query gradients of one query block after a point at which it is worked on. -/
def dqRow (i : grid0.Coords) (x0 x1 : Vec F S1x1024x256 .bf16) (x2 x3 : Vec F S1024x128 .f32) (x4 : Vec F S1x1024x1 .f32)
    (x5 : Vec F S1024x128 .f32) (y : Vec F S1x1024x256 .f32) : Vec F S1x1024x256 .f32 :=
  if k0_cond2 i = 1#1 then
    if k0_cond3 i = 1#1 then k0_pay5 (k0_pay15 x1) (k0_pay19 x0 x1 x4 x5 x3 x2)
    else k0_pay6 (k0_pay15 x1) (k0_pay19 x0 x1 x4 x5 x3 x2) y
  else if k0_cond5 i = 1#1 then
    if k0_cond6 i = 1#1 then k0_pay10 (k0_pay22 x1) (k0_pay26 x0 x1 x4 x5 x3 x2)
    else k0_pay11 (k0_pay22 x1) (k0_pay26 x0 x1 x4 x5 x3 x2) y
  else y

/-- The query gradients of query block `r` before point `n`. -/
def dqS : ℕ → ℕ → Vec F S1x1024x256 .f32
  | 0, _ => constant S1x1024x256 .f32 0#32
  | n + 1, r =>
    if n % 8 = r then
      dqRow (grid0.coords (pt n)) (b0 m c (pt n)) (b1 m c (pt n)) (b2 m c (pt n)) (b3 m c (pt n)) (b4 m c (pt n)) (b5 m c (pt n)) (dqS n r)
    else dqS n r

theorem rows_inb (r : Fin 8) : ∀ a, (![0, 1024 * r.val, 0] : Fin 3 → ℕ) a + S1x1024x256.size a ≤ S1x8192x256.size a := by
  have h := r.isLt
  intro a
  fin_cases a
  · exact Nat.le_refl _
  · show 1024 * r.val + 1024 ≤ 8192; omega
  · exact Nat.le_refl _

theorem window_congr' (y : Vec F S1x8192x256 .f32) {o o' : Fin 3 → ℕ} (h : o = o') (ho ho') :
    VecWindow.window y o S1x1024x256.size ho = VecWindow.window y o' S1x1024x256.size ho' := by subst h; rfl

/-- The rows of query block `r`. -/
def rowsOf (y : Vec F S1x8192x256 .f32) (r : Fin 8) : Vec F S1x1024x256 .f32 :=
  VecWindow.window y ![0, 1024 * r.val, 0] S1x1024x256.size (rows_inb r)

theorem rowsOf_put_same (y : Vec F S1x8192x256 .f32) (off : Fin 3 → ℕ) (r : Fin 8) (h : off = ![0, 1024 * r.val, 0])
    (w : Vec F S1x1024x256 .f32) : rowsOf (VecWindow.put y off S1x1024x256.size w) r = w := by
  subst h; exact VecWindow.window_put_same y _ _ (rows_inb r) w

theorem rowsOf_put_other (y : Vec F S1x8192x256 .f32) (off : Fin 3 → ℕ) (r s : Fin 8) (h : off = ![0, 1024 * s.val, 0]) (hne : s ≠ r)
    (w : Vec F S1x1024x256 .f32) : rowsOf (VecWindow.put y off S1x1024x256.size w) r = rowsOf y r := by
  subst h
  have hv : s.val ≠ r.val := fun e => hne (Fin.ext e)
  refine VecWindow.window_put_of_disjoint y _ _ _ _ (rows_inb r) w (1 : Fin 3) ?_
  show 1024 * r.val + 1024 ≤ 1024 * s.val ∨ 1024 * s.val + 1024 ≤ 1024 * r.val
  omega

/-- One point's effect on the rows of a query block. -/
theorem rowsOf_dqNext (i : grid0.Coords) (x0 x1 : Vec F S1x1024x256 .bf16) (x2 x3 : Vec F S1024x128 .f32) (x4 : Vec F S1x1024x1 .f32)
    (x5 : Vec F S1024x128 .f32) (y : Vec F S1x8192x256 .f32) (r : Fin 8) :
    rowsOf (dqNext i x0 x1 x2 x3 x4 x5 y) r
      = if (i 2).val = r.val then dqRow i x0 x1 x2 x3 x4 x5 (rowsOf y r) else rowsOf y r := by
  by_cases hr : (i 2).val = r.val
  · have ho : rowOff i = ![0, 1024 * r.val, 0] := by unfold rowOff; rw [hr]
    have hw : VecWindow.window y (rowOff i) S1x1024x256.size (rowOff_inb i) = rowsOf y r := by
      unfold rowsOf; exact window_congr' y ho _ _
    rw [if_pos hr]
    unfold dqNext dqRow
    rw [hw]
    split_ifs <;> first | exact rowsOf_put_same _ _ r ho _ | rfl
  · rw [if_neg hr]
    have hne : (⟨(i 2).val, (i 2).isLt⟩ : Fin 8) ≠ r := fun e => hr (congrArg Fin.val e)
    unfold dqNext
    split_ifs <;> first | exact rowsOf_put_other _ _ r ⟨(i 2).val, (i 2).isLt⟩ rfl hne _ | rfl

/-- What the head's array of query gradients holds after point `t`: each query block already worked on in this head, at its sum so far. -/
def holdsDq (t : Fin cfg0.N) (X : Vec F S1x8192x256 .f32) : Prop :=
  ∀ r : Fin 8, (1 ≤ t.val / 8 % 8 ∨ r.val ≤ t.val % 8) → rowsOf X r = dqS m c (t.val + 1) r.val

theorem dkNext_first (i : grid0.Coords) (h : isFirst i) (x0 x1 : Vec F S1x1024x256 .bf16) (x2 x3 : Vec F S1024x128 .f32)
    (x4 : Vec F S1x1024x1 .f32) (x5 : Vec F S1024x128 .f32) (s s' : Vec F S1024x256 .f32) :
    dkNext i x0 x1 x2 x3 x4 x5 s = dkNext i x0 x1 x2 x3 x4 x5 s' := by
  unfold dkNext; simp only [if_pos h]

theorem dvNext_first (i : grid0.Coords) (h : isFirst i) (x0 x1 : Vec F S1x1024x256 .bf16)
    (x4 : Vec F S1x1024x1 .f32) (x5 : Vec F S1024x128 .f32) (s s' : Vec F S1024x128 .f32) :
    dvNext i x0 x1 x4 x5 s = dvNext i x0 x1 x4 x5 s' := by
  unfold dvNext; simp only [if_pos h]

/-- At key block 0 the query gradients do not depend on what was there. -/
theorem dqRow_first (t : Fin cfg0.N) (h : t.val / 8 % 8 = 0) (x0 x1 : Vec F S1x1024x256 .bf16) (x2 x3 : Vec F S1024x128 .f32)
    (x4 : Vec F S1x1024x1 .f32) (x5 : Vec F S1024x128 .f32) (y y' : Vec F S1x1024x256 .f32) :
    dqRow (grid0.coords t) x0 x1 x2 x3 x4 x5 y = dqRow (grid0.coords t) x0 x1 x2 x3 x4 x5 y' := by
  unfold dqRow
  rw [if_pos ((cond3 t).mpr h), if_pos ((cond3 t).mpr h), if_pos ((cond6 t).mpr h), if_pos ((cond6 t).mpr h)]
  split_ifs with h1 h2
  · rfl
  · rfl
  · exfalso
    rw [cond_below] at h1; rw [cond_diag] at h2; omega

theorem coords_two (t : Fin cfg0.N) : (grid0.coords t 2).val = t.val % 8 := by
  have e : (grid0.coords t 2).val = t.val / 1 % 8 := Pipeline.Grid.coords_val t 2 (by decide) rfl
  rwa [Nat.div_one] at e

theorem dkS_succ (t : Fin cfg0.N) (d : Vec F S1024x256 .f32) (h : t.val ≠ 0 → d = dkS m c t.val) :
    dkNext (grid0.coords t) (b0 m c t) (b1 m c t) (b2 m c t) (b3 m c t) (b4 m c t) (b5 m c t) d = dkS m c (t.val + 1) := by
  rw [dkS, pt_val]
  by_cases h0 : t.val = 0
  · exact dkNext_first _ ((cond_first t).mpr (by rw [h0])) ..
  · rw [h h0]

theorem dvS_succ (t : Fin cfg0.N) (d : Vec F S1024x128 .f32) (h : t.val ≠ 0 → d = dvS m c t.val) :
    dvNext (grid0.coords t) (b0 m c t) (b1 m c t) (b4 m c t) (b5 m c t) d = dvS m c (t.val + 1) := by
  rw [dvS, pt_val]
  by_cases h0 : t.val = 0
  · exact dvNext_first _ ((cond_first t).mpr (by rw [h0])) ..
  · rw [h h0]

/-- The body keeps the query gradients' description. -/
theorem holdsDq_next (t : Fin cfg0.N) (Y : Vec F S1x8192x256 .f32)
    (h : ∀ u : Fin cfg0.N, u.val + 1 = t.val → t.val % 64 ≠ 0 → holdsDq m c u Y) :
    holdsDq m c t (dqNext (grid0.coords t) (b0 m c t) (b1 m c t) (b2 m c t) (b3 m c t) (b4 m c t) (b5 m c t) Y) := by
  have hN : t.val < 512 := Nat.lt_of_lt_of_eq t.isLt N_0
  intro r hr
  have hr8 := r.isLt
  rw [rowsOf_dqNext, coords_two, dqS, pt_val]
  by_cases hi : t.val % 8 = r.val
  · rw [if_pos hi, if_pos hi]
    by_cases hj : t.val / 8 % 8 = 0
    · exact dqRow_first t hj ..
    · rw [h ⟨t.val - 1, by omega⟩ (by show t.val - 1 + 1 = _; omega) (by omega) r (by show 1 ≤ (t.val - 1) / 8 % 8 ∨ r.val ≤ (t.val - 1) % 8; omega)]
      congr 2; show t.val - 1 + 1 = _; omega
  · rw [if_neg hi, if_neg hi, h ⟨t.val - 1, by omega⟩ (by show t.val - 1 + 1 = _; omega) (by omega) r (by show 1 ≤ (t.val - 1) / 8 % 8 ∨ r.val ≤ (t.val - 1) % 8; omega)]
    congr 1; show t.val - 1 + 1 = _; omega

end Cert.KernelIdeal.Hand

end
-- ==== Proof.Host.lean ====
/- What the kernel's region finds in the buffers its call reads: the host operations before the call, composed. -/
module

public import proofs.«01_k».proof.Proof.Gen.KernelIdeal.Frame
public import proofs.«01_k».proof.Proof.Gen.ReferenceIdeal.Read
public import Idealize.ShloMosaic.Lib.StableHlo.Run
public import proofs.«01_k».proof.Proof.Data

@[expose] public section

noncomputable section

namespace Cert.KernelIdeal.Hand

open Cert.KernelIdeal Cert.KernelIdeal.Gen Facts
open Idealize.ShloMosaic Idealize.ShloMosaic.TcCoe Idealize.ShloMosaic.StableHlo Idealize.SL.Sem

variable {F : FTy → Type} [FloatOps F]

/-- The query rows as the call takes them: scaled, heads first, padded to 256 columns, in half precision. -/
def rowsQ (x0 : (⟨S8192x8x192, .f32⟩ : BufTy).Contents (Elt F)) : (⟨S8x8192x256, .bf16⟩ : BufTy).Contents (Elt F) :=
  truncf .bf16 (pad S8x8192x256 ![0, 0, 0] ![0, 0, 64] ![0, 0, 0]
    (transpose S8x8192x192 [1, 0, 2] (mulf x0 (broadcastInDim S8192x8x192 ![] bcast_S_S8192x8x192 (constant S_ .f32 0x3D93CD3A#32)))
      transposes_S8192x8x192_S8x8192x192_1_0_2)
    (sitofp .f32 (constantI S_ 32 0#32)) pads_S8x8192x192_S8x8192x256_000_000_0640 h_S_) bitsLt_bf16_f32

/-- The key rows as the call takes them: heads first, padded to 256 columns, in half precision. -/
def rowsK (x1 : (⟨S8192x8x192, .f32⟩ : BufTy).Contents (Elt F)) : (⟨S8x8192x256, .bf16⟩ : BufTy).Contents (Elt F) :=
  truncf .bf16 (pad S8x8192x256 ![0, 0, 0] ![0, 0, 64] ![0, 0, 0]
    (transpose S8x8192x192 [1, 0, 2] x1 transposes_S8192x8x192_S8x8192x192_1_0_2)
    (sitofp .f32 (constantI S_ 32 0#32)) pads_S8x8192x192_S8x8192x256_000_000_0640 h_S_) bitsLt_bf16_f32

/-- The forward output as the call takes it: one row per query, the heads side by side. -/
def rowsO (x0 x1 : (⟨S8192x8x192, .f32⟩ : BufTy).Contents (Elt F)) (x2 : (⟨S8192x2048, .f32⟩ : BufTy).Contents (Elt F)) :
    (⟨S8192x1024, .f32⟩ : BufTy).Contents (Elt F) :=
  shapeCast S8192x1024 (Cert.ReferenceIdeal.Read.val_main_v41 x0 x1 x2) shapeCasts_S8192x8x128_S8192x1024

/-- The scores' row maximum, kept as one column. -/
def colMax (x0 x1 : (⟨S8192x8x192, .f32⟩ : BufTy).Contents (Elt F)) : (⟨S8x8192x1, .f32⟩ : BufTy).Contents (Elt F) :=
  broadcastInDim S8x8192x1 ![0, 1] bcast_S8x8192_S8x8192x1_0_1 (Cert.ReferenceIdeal.Read.val_main_v12 x0 x1)

/-- The log-sum of the scores' exponentials, row by row. -/
def colLse (x0 x1 : (⟨S8192x8x192, .f32⟩ : BufTy).Contents (Elt F)) : (⟨S8x8192x1, .f32⟩ : BufTy).Contents (Elt F) :=
  addf (colMax x0 x1) (Host.log (broadcastInDim S8x8192x1 ![0, 1] bcast_S8x8192_S8x8192x1_0_1
    (Host.reduceAdd (Host.exp (subf (Cert.ReferenceIdeal.Read.val_main_v11_0 x0 x1)
        (broadcastInDim S8x8192x8192 ![0, 1, 2] bcast_S8x8192x1_S8x8192x8192_0_1_2 (colMax x0 x1))))
      (constant S_ .f32 0x00000000#32) reducesTo_S8x8192x8192_S8x8192_d2 h_S_)))

variable (m : (ℓ : Loc nD τ sig) → Buf (Elt F) ℓ) (c : Dev nD)

/-- The region finds the query rows in the first operand. -/
theorem V_q : V m c main_v49 = rowsQ (m ((c : Thread nD τ).loc main_arg0)) := by
  simp only [V, hostOps0, hostOps0_1, hostOps0_2, hostOps0_3, hostOps0_4, hostOps0_5, hostOps0_6, hostOps0_7, hostOps0_8, List.flatten_cons, List.flatten_nil, List.append_nil, List.cons_append,
      List.nil_append, TRef.binary, TRef.nullary, TRef.ternary, TRef.unary, TRef.toBuf, TRef.ofBuf, cast_eq]
  after_results_simp <;> rfl

/-- The region finds the key rows in the second operand. -/
theorem V_k : V m c main_v52 = rowsK (m ((c : Thread nD τ).loc main_arg1)) := by
  simp only [V, hostOps0, hostOps0_1, hostOps0_2, hostOps0_3, hostOps0_4, hostOps0_5, hostOps0_6, hostOps0_7, hostOps0_8, List.flatten_cons, List.flatten_nil, List.append_nil, List.cons_append,
      List.nil_append, TRef.binary, TRef.nullary, TRef.ternary, TRef.unary, TRef.toBuf, TRef.ofBuf, cast_eq]
  after_results_simp <;> rfl

/-- The region finds the forward output in the fourth operand. -/
theorem V_o : V m c main_v35 = rowsO (m ((c : Thread nD τ).loc main_arg0)) (m ((c : Thread nD τ).loc main_arg1)) (m ((c : Thread nD τ).loc main_arg2)) := by
  simp only [V, hostOps0, hostOps0_1, hostOps0_2, hostOps0_3, hostOps0_4, hostOps0_5, hostOps0_6, hostOps0_7, hostOps0_8, List.flatten_cons, List.flatten_nil, List.append_nil, List.cons_append,
      List.nil_append, TRef.binary, TRef.nullary, TRef.ternary, TRef.unary, TRef.toBuf, TRef.ofBuf, cast_eq]
  after_results_simp <;> rfl

/-- The region finds the log-sums in the fifth operand. -/
theorem V_lse : V m c main_v44 = colLse (m ((c : Thread nD τ).loc main_arg0)) (m ((c : Thread nD τ).loc main_arg1)) := by
  simp only [V, hostOps0, hostOps0_1, hostOps0_2, hostOps0_3, hostOps0_4, hostOps0_5, hostOps0_6, hostOps0_7, hostOps0_8, List.flatten_cons, List.flatten_nil, List.append_nil, List.cons_append,
      List.nil_append, TRef.binary, TRef.nullary, TRef.ternary, TRef.unary, TRef.toBuf, TRef.ofBuf, cast_eq]
  after_results_simp <;> rfl

end Cert.KernelIdeal.Hand

end
-- ==== Proof.Model.lean ====
/-
  Causal softmax attention and its gradient over the real numbers: the mathematics on which the kernel's and the reference's values
  meet. `M` is any row constant (the programs subtract the row's maximum before the exponential).
-/
module

public import proofs.«01_k».proof.Proof.Gen.ReferenceIdeal.Read
public import Idealize.ShloMosaic.Lib.KernelVsHost
public import Idealize.ShloMosaic.Lib.ValueIdxCoords

@[expose] public section

noncomputable section

namespace Cert.Model

open Idealize.ShloMosaic Idealize.ShloMosaic.ValueIdx Cert.ReferenceIdeal
open scoped BigOperators

/-- The call's arguments as real numbers: queries, keys, the rows that hold the values, and the gradient of the output. -/
structure Args where
  q : S8192x8x192.Idx → ℝ
  k : S8192x8x192.Idx → ℝ
  v : S8192x2048.Idx → ℝ
  g : S8192x1024.Idx → ℝ
  scale : ℝ
  M : Fin 8 → Fin 8192 → ℝ

variable (A : Args)

/-- Column `d` of head `h` among the heads side by side. -/
abbrev col (h : Fin 8) (d : Fin 128) : Fin 1024 := ⟨128 * h.val + d.val, by have := h.isLt; have := d.isLt; omega⟩
/-- The same column in the right half of the keys-and-values rows. -/
abbrev vcol (h : Fin 8) (d : Fin 128) : Fin 2048 := ⟨1024 + (128 * h.val + d.val), by have := h.isLt; have := d.isLt; omega⟩

/-- The scaled score of query `q` and key `k`. -/
def Args.sc (h : Fin 8) (q k : Fin 8192) : ℝ := (∑ d : Fin 192, A.q (ix3 q h d) * A.k (ix3 k h d)) * A.scale
/-- The exponential of the shifted score, zero for a key behind the query. -/
def Args.ex (h : Fin 8) (q k : Fin 8192) : ℝ := if k ≤ q then Real.exp (A.sc h q k - A.M h q) else 0
/-- The row sum of the exponentials. -/
def Args.tot (h : Fin 8) (q : Fin 8192) : ℝ := ∑ k, A.ex h q k
/-- The softmax weights. -/
def Args.pr (h : Fin 8) (q k : Fin 8192) : ℝ := A.ex h q k / A.tot h q
/-- The gradient of the weights: the output gradient's row against the value row. -/
def Args.dp (h : Fin 8) (q k : Fin 8192) : ℝ := ∑ d : Fin 128, A.g (ix2 q (col h d)) * A.v (ix2 k (vcol h d))
/-- The forward output. -/
def Args.out (h : Fin 8) (q : Fin 8192) (d : Fin 128) : ℝ := ∑ k, A.v (ix2 k (vcol h d)) * A.pr h q k
/-- The output gradient's row against the output's row. -/
def Args.dl (h : Fin 8) (q : Fin 8192) : ℝ := ∑ d : Fin 128, A.g (ix2 q (col h d)) * A.out h q d
/-- The gradient of the scores. -/
def Args.ds (h : Fin 8) (q k : Fin 8192) : ℝ := A.pr h q k * (A.dp h q k - A.dl h q)
/-- The gradient of the queries. -/
def Args.gq (h : Fin 8) (q : Fin 8192) (d : Fin 192) : ℝ := ∑ k, A.ds h q k * A.scale * A.k (ix3 k h d)
/-- The gradient of the keys. -/
def Args.gk (h : Fin 8) (k : Fin 8192) (d : Fin 192) : ℝ := ∑ q, A.ds h q k * A.scale * A.q (ix3 q h d)
/-- The gradient of the values. -/
def Args.gv (h : Fin 8) (k : Fin 8192) (d : Fin 128) : ℝ := ∑ q, A.g (ix2 q (col h d)) * A.pr h q k

theorem ex_nonneg (h : Fin 8) (q k : Fin 8192) : 0 ≤ A.ex h q k := by
  unfold Args.ex; split_ifs
  · exact (Real.exp_pos _).le
  · exact le_rfl

/-- The row sum is positive: the query's own key is there. -/
theorem tot_pos (h : Fin 8) (q : Fin 8192) : 0 < A.tot h q :=
  Finset.sum_pos' (fun k _ => ex_nonneg A h q k) ⟨q, Finset.mem_univ _, by
    unfold Args.ex; rw [if_pos le_rfl]; exact Real.exp_pos _⟩

theorem pr_behind {h : Fin 8} {q k : Fin 8192} (hk : ¬k ≤ q) : A.pr h q k = 0 := by
  unfold Args.pr Args.ex; rw [if_neg hk, zero_div]

theorem ds_behind {h : Fin 8} {q k : Fin 8192} (hk : ¬k ≤ q) : A.ds h q k = 0 := by
  unfold Args.ds; rw [pr_behind A hk, zero_mul]

/-- The output gradient's row against the output's row is the weighted sum of the weights' gradients. -/
theorem dl_eq (h : Fin 8) (q : Fin 8192) : A.dl h q = ∑ k, A.dp h q k * A.pr h q k := by
  unfold Args.dl Args.out Args.dp
  simp only [Finset.mul_sum, Finset.sum_mul]
  rw [Finset.sum_comm]
  exact Finset.sum_congr rfl fun k _ => Finset.sum_congr rfl fun d _ => by ring

/-- The weight from the log-sum: `exp (score − (M + log sum))` is the exponential over the sum. -/
theorem pr_lse {h : Fin 8} {q k : Fin 8192} (hk : k ≤ q) :
    Real.exp (A.sc h q k - (A.M h q + Real.log (A.tot h q))) = A.pr h q k := by
  unfold Args.pr Args.ex
  rw [if_pos hk, ← sub_sub, Real.exp_sub, Real.exp_log (tot_pos A h q)]

/-- The gradient of the scores as the derivative of the quotient spells it. -/
theorem ds_quot (h : Fin 8) (q k : Fin 8192) :
    (A.dp h q k / A.tot h q + -(∑ j, A.dp h q j * (1 / (A.tot h q * A.tot h q)) * A.ex h q j)) * A.ex h q k = A.ds h q k := by
  have hL := (tot_pos A h q).ne'
  have e : ∑ j, A.dp h q j * (1 / (A.tot h q * A.tot h q)) * A.ex h q j = A.dl h q / A.tot h q := by
    rw [dl_eq, Finset.sum_div]
    refine Finset.sum_congr rfl fun j _ => ?_
    unfold Args.pr
    field_simp
  rw [e]; unfold Args.ds Args.pr
  field_simp
  ring

/-! ## Real numbers inside the extended reals -/

/-- A finite sum of real numbers, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real {x y : ℝ} (h : y ≠ 0) : Ideal.div (x : EReal) (y : EReal) = ((x / y : ℝ) : EReal) := by
  rw [Ideal.div_coe h, ← EReal.coe_mul, mul_one_div]

theorem ofBits_neg_inf : Ideal.ofBits .f32 0xFF800000#32 = ⊥ := by simp [Ideal.ofBits, Ideal.ieee]
theorem ofBits_inf : Ideal.ofBits .f32 0x7F800000#32 = ⊤ := by simp [Ideal.ofBits, Ideal.ieee]

/-- The softmax scale's literal as a real number. -/
def scale : ℝ := (Ideal.ofBits .f32 0x3D93CD3A#32).toReal

theorem scale_coe : Ideal.ofBits .f32 0x3D93CD3A#32 = (scale : EReal) := by
  have h : ∃ r : ℝ, Ideal.ofBits .f32 0x3D93CD3A#32 = (r : EReal) := ⟨_, by simp [Ideal.ofBits, Ideal.ieee]; rfl⟩
  obtain ⟨r, hr⟩ := h
  rw [scale, hr, EReal.toReal_coe]

theorem ext3 {n0 n1 n2 : Nat} {j : (⟨3, ![n0, n1, n2]⟩ : Shape).Idx} {a : Fin n0} {b : Fin n1} {c : Fin n2}
    (h0 : (j 0).val = a.val) (h1 : (j 1).val = b.val) (h2 : (j 2).val = c.val) : j = ix3 a b c := by
  rw [eq_ix3 j]
  have e0 : j 0 = a := Fin.ext h0
  have e1 : j 1 = b := Fin.ext h1
  have e2 : j 2 = c := Fin.ext h2
  rw [e0, e1, e2]; rfl

theorem ext2 {n0 n1 : Nat} {j : (⟨2, ![n0, n1]⟩ : Shape).Idx} {a : Fin n0} {b : Fin n1}
    (h0 : (j 0).val = a.val) (h1 : (j 1).val = b.val) : j = ix2 a b := by
  rw [eq_ix2 j]
  have e0 : j 0 = a := Fin.ext h0
  have e1 : j 1 = b := Fin.ext h1
  rw [e0, e1]; rfl

/-- Signed comparison of small numbers. -/
theorem sle_ofNat {a b : ℕ} (ha : a < 8192) (hb : b < 8192) : IntOp.cmpi .sle (BitVec.ofNat 32 a) (BitVec.ofNat 32 b) = if a ≤ b then 1#1 else 0#1 := by
  have e : ∀ n, n < 8192 → (BitVec.ofNat 32 n).toInt = (n : ℤ) := fun n hn => by
    rw [BitVec.toInt_eq_toNat_bmod, BitVec.toNat_ofNat, Int.bmod_def]; omega
  show BitVec.ofBool ((BitVec.ofNat 32 a).sle (BitVec.ofNat 32 b)) = _
  rw [BitVec.sle, e a ha, e b hb]
  by_cases h : a ≤ b
  · rw [if_pos h, decide_eq_true (by exact_mod_cast h)]; rfl
  · rw [if_neg h, decide_eq_false (by exact_mod_cast h)]; rfl

end Cert.Model

end
-- ==== Proof.Ref.lean ====
/-
  The reference program's operations at real arguments: each intermediate array is read as the real quantity of `Cert.Model`.
-/
module

public import proofs.«01_k».proof.Proof.Model
public import Idealize.ShloMosaic.Lib.IdealHost

@[expose] public section

noncomputable section

namespace Cert.Model

open Idealize.ShloMosaic Idealize.ShloMosaic.ValueIdx Cert.ReferenceIdeal Cert.ReferenceIdeal.Gen Cert.ReferenceIdeal.Read
open scoped BigOperators

/-- The arrays `x0 … x3` hold the real arguments `A`, the scale is the program's literal, and `A.M` is the row maximum. -/
structure Inputs (A : Args) (x0 x1 : (⟨S8192x8x192, .f32⟩ : BufTy).Contents (Elt Ideal)) (x2 : (⟨S8192x2048, .f32⟩ : BufTy).Contents (Elt Ideal))
    (x3 : (⟨S8192x1024, .f32⟩ : BufTy).Contents (Elt Ideal)) : Prop where
  q : ∀ i, x0 i = ((A.q i : ℝ) : EReal)
  k : ∀ i, x1 i = ((A.k i : ℝ) : EReal)
  v : ∀ i, x2 i = ((A.v i : ℝ) : EReal)
  g : ∀ i, x3 i = ((A.g i : ℝ) : EReal)
  s : Ideal.ofBits .f32 0x3D93CD3A#32 = ((A.scale : ℝ) : EReal)

/-- … and the reference's row maxima are `A`'s. -/
structure Reads (A : Args) (x0 x1 : (⟨S8192x8x192, .f32⟩ : BufTy).Contents (Elt Ideal)) (x2 : (⟨S8192x2048, .f32⟩ : BufTy).Contents (Elt Ideal))
    (x3 : (⟨S8192x1024, .f32⟩ : BufTy).Contents (Elt Ideal)) : Prop extends Inputs A x0 x1 x2 x3 where
  M : ∀ h q, val_main_v12 (F := Ideal) x0 x1 (ix2 h q) = ((A.M h q : ℝ) : EReal)

variable {A : Args} {x0 x1 : (⟨S8192x8x192, .f32⟩ : BufTy).Contents (Elt Ideal)} {x2 : (⟨S8192x2048, .f32⟩ : BufTy).Contents (Elt Ideal)}
  {x3 : (⟨S8192x1024, .f32⟩ : BufTy).Contents (Elt Ideal)}

/-- The scaled scores. -/
theorem v4_sc (R : Inputs A x0 x1 x2 x3) (h : Fin 8) (q k : Fin 8192) :
    val_main_v4 (F := Ideal) x0 x1 (ix3 h q k) = ((A.sc h q k : ℝ) : EReal) := by
  rw [val_main_v4_apply, val_main_v2_apply, val_main_v3_apply, val_main_cst_apply]
  have e : ∀ d : Fin 192, x0 (lidx_main_v2 (ix3 h q k) d) * x1 (ridx_main_v2 (ix3 h q k) d) = ((A.q (ix3 q h d) * A.k (ix3 k h d) : ℝ) : EReal) := fun d => by
    rw [R.q, R.k, ← EReal.coe_mul, show lidx_main_v2 (ix3 h q k) d = ix3 q h d from ext3 rfl rfl rfl,
      show ridx_main_v2 (ix3 h q k) d = ix3 k h d from ext3 rfl rfl rfl]
  rw [Finset.sum_congr rfl fun d _ => e d, ← coe_sum]
  show _ * Ideal.ofBits .f32 0x3D93CD3A#32 = _
  rw [R.s, ← EReal.coe_mul]; rfl

/-- The causal mask. -/
theorem v11_mask (h : Fin 8) (q k : Fin 8192) : val_main_v11_1 (F := Ideal) (ix3 h q k) = if k ≤ q then 1#1 else 0#1 := by
  rw [val_main_v11_1_apply, val_main_v10_apply, val_main_v8_apply, val_main_v9_apply, val_main_v6_apply, val_main_v7_apply, val_main_v5_apply, val_main_v5_apply]
  exact sle_ofNat k.isLt q.isLt

theorem call0_v2_bot (i : S8x8192x8192.Idx) : val_main_call0_v2 (F := Ideal) i = ⊥ := by
  rw [val_main_call0_v2_apply, val_main_call0_v0_apply, val_main_cst_0_apply]
  exact ofBits_neg_inf

/-- The masked scores. -/
theorem v11_sc (R : Inputs A x0 x1 x2 x3) (h : Fin 8) (q k : Fin 8192) :
    val_main_v11_0 (F := Ideal) x0 x1 (ix3 h q k) = if k ≤ q then ((A.sc h q k : ℝ) : EReal) else ⊥ := by
  rw [val_main_v11_0_apply, v11_mask, v4_sc R, call0_v2_bot]
  split_ifs <;> rfl

/-- The maximum with `-∞` is the row maximum. -/
theorem v19_M (R : Reads A x0 x1 x2 x3) (h : Fin 8) (q : Fin 8192) : val_main_v19 (F := Ideal) x0 x1 (ix2 h q) = ((A.M h q : ℝ) : EReal) := by
  rw [val_main_v19_apply, R.M, val_main_v18_apply, val_main_cst_3_apply]
  show max (Ideal.ofBits .f32 0xFF800000#32) _ = _
  rw [ofBits_neg_inf, max_eq_right bot_le]

/-- The exponentials. -/
theorem v32_ex (R : Reads A x0 x1 x2 x3) (h : Fin 8) (q k : Fin 8192) :
    val_main_v32 (F := Ideal) x0 x1 (ix3 h q k) = ((A.ex h q k : ℝ) : EReal) := by
  rw [val_main_v32_apply, val_main_v31_apply, v11_sc R.toInputs, val_main_v30_apply, val_main_v29_apply,
    show idx_main_v29 (idx_main_v30 (ix3 h q k)) = ix2 h q from ext2 rfl rfl, v19_M R]
  unfold Args.ex
  split_ifs
  · show Ideal.exp ((A.sc h q k : EReal) - (A.M h q : EReal)) = _
    rw [← EReal.coe_sub, Ideal.exp_coe]
  · show Ideal.exp (⊥ - (A.M h q : EReal)) = _
    rw [EReal.bot_sub, Ideal.exp_bot]; rfl

theorem ofBits_zero : (FloatOps.ofBits (F := Ideal) .f32 0x00000000#32 : EReal) = ((0 : ℝ) : EReal) := Ideal.ofBits_zero_f32
theorem ofBits_one : (FloatOps.ofBits (F := Ideal) .f32 0x3F800000#32 : EReal) = ((1 : ℝ) : EReal) := Ideal.ofBits_one_f32

/-- The row sums. -/
theorem v33_tot (R : Reads A x0 x1 x2 x3) (h : Fin 8) (q : Fin 8192) : val_main_v33 (F := Ideal) x0 x1 (ix2 h q) = ((A.tot h q : ℝ) : EReal) := by
  rw [val_main_v33_apply, val_main_cst_9_apply, ofBits_zero]
  rw [Finset.sum_congr rfl fun k _ => show val_main_v32 (F := Ideal) x0 x1 (idx_main_v33 (ix2 h q) k) = ((A.ex h q k : ℝ) : EReal) by
    rw [show idx_main_v33 (ix2 h q) k = ix3 h q k from ext3 rfl rfl rfl]; exact v32_ex R h q k]
  rw [← coe_sum, ← EReal.coe_add, zero_add]; rfl

/-- The weights. -/
theorem v36_pr (R : Reads A x0 x1 x2 x3) (h : Fin 8) (q k : Fin 8192) :
    val_main_v36 (F := Ideal) x0 x1 (ix3 h q k) = ((A.pr h q k : ℝ) : EReal) := by
  rw [val_main_v36_apply, v32_ex R, val_main_v35_apply, val_main_v34_apply,
    show idx_main_v34 (idx_main_v35 (ix3 h q k)) = ix2 h q from ext2 rfl rfl, v33_tot R]
  exact div_real (tot_pos A h q).ne'

/-- The values, out of the right half of their rows. -/
theorem v1_v (R : Reads A x0 x1 x2 x3) (h : Fin 8) (k : Fin 8192) (d : Fin 128) :
    val_main_v1 (F := Ideal) x2 (ix3 k h d) = ((A.v (ix2 k (vcol h d)) : ℝ) : EReal) := by
  have := h.isLt; have := d.isLt; have := k.isLt
  rw [val_main_v1_apply, val_main_v0_apply, R.v, show idx_main_v0 (idx_main_v1 (ix3 k h d)) = ix2 k (vcol h d) from
    ext2 (by show ((k.val * 8 + h.val) * 128 + d.val) / 1024 = k.val; omega)
      (by show 1024 + ((k.val * 8 + h.val) * 128 + d.val) % 1024 = 1024 + (128 * h.val + d.val); omega)]

/-- The output gradient, heads first. -/
theorem v43_g (R : Reads A x0 x1 x2 x3) (h : Fin 8) (d : Fin 128) (q : Fin 8192) :
    val_main_v43 (F := Ideal) x3 (ix3 h d q) = ((A.g (ix2 q (col h d)) : ℝ) : EReal) := by
  have := h.isLt; have := d.isLt; have := q.isLt
  rw [val_main_v43_apply, val_main_v42_apply, R.g, show idx_main_v42 (idx_main_v43 (ix3 h d q)) = ix2 q (col h d) from
    ext2 (by show ((q.val * 8 + h.val) * 128 + d.val) / 1024 = q.val; omega)
      (by show ((q.val * 8 + h.val) * 128 + d.val) % 1024 = 128 * h.val + d.val; omega)]

/-- The forward output. -/
theorem v41_out (R : Reads A x0 x1 x2 x3) (h : Fin 8) (q : Fin 8192) (d : Fin 128) :
    val_main_v41 (F := Ideal) x0 x1 x2 (ix3 q h d) = ((A.out h q d : ℝ) : EReal) := by
  rw [val_main_v41_apply, show idx_main_v41 (ix3 q h d) = ix3 h d q from ext3 rfl rfl rfl, val_main_v40_apply]
  rw [Finset.sum_congr rfl fun k _ => show val_main_v1 (F := Ideal) x2 (lidx_main_v40 (ix3 h d q) k) * val_main_v36 (F := Ideal) x0 x1 (ridx_main_v40 (ix3 h d q) k)
      = ((A.v (ix2 k (vcol h d)) * A.pr h q k : ℝ) : EReal) by
    rw [show lidx_main_v40 (ix3 h d q) k = ix3 k h d from ext3 rfl rfl rfl, show ridx_main_v40 (ix3 h d q) k = ix3 h q k from ext3 rfl rfl rfl,
      v1_v R, v36_pr R, ← EReal.coe_mul]]
  rw [← coe_sum]; rfl

/-- The weights' gradient. -/
theorem v44_dp (R : Reads A x0 x1 x2 x3) (h : Fin 8) (q k : Fin 8192) :
    val_main_v44 (F := Ideal) x2 x3 (ix3 h q k) = ((A.dp h q k : ℝ) : EReal) := by
  rw [val_main_v44_apply]
  rw [Finset.sum_congr rfl fun d _ => show val_main_v43 (F := Ideal) x3 (lidx_main_v44 (ix3 h q k) d) * val_main_v1 (F := Ideal) x2 (ridx_main_v44 (ix3 h q k) d)
      = ((A.g (ix2 q (col h d)) * A.v (ix2 k (vcol h d)) : ℝ) : EReal) by
    rw [show lidx_main_v44 (ix3 h q k) d = ix3 h d q from ext3 rfl rfl rfl, show ridx_main_v44 (ix3 h q k) d = ix3 k h d from ext3 rfl rfl rfl,
      v43_g R, v1_v R, ← EReal.coe_mul]]
  rw [← coe_sum]; rfl

/-- The gradient of the values. -/
theorem v71_gv (R : Reads A x0 x1 x2 x3) (h : Fin 8) (k : Fin 8192) (d : Fin 128) :
    val_main_v71 (F := Ideal) x0 x1 x3 (ix2 k (col h d)) = ((A.gv h k d : ℝ) : EReal) := by
  have := h.isLt; have := d.isLt; have := k.isLt
  rw [val_main_v71_apply, val_main_v70_apply, val_main_v46_apply, show idx_main_v46 (idx_main_v70 (ix2 k (col h d))) = ix3 h d k from
    ext3 (by show (k.val * 1024 + (128 * h.val + d.val)) / 128 % 8 = h.val; omega)
      (by show (k.val * 1024 + (128 * h.val + d.val)) % 128 = d.val; omega)
      (by show (k.val * 1024 + (128 * h.val + d.val)) / 1024 = k.val; omega), val_main_v45_apply]
  rw [Finset.sum_congr rfl fun q _ => show val_main_v43 (F := Ideal) x3 (lidx_main_v45 (ix3 h d k) q) * val_main_v36 (F := Ideal) x0 x1 (ridx_main_v45 (ix3 h d k) q)
      = ((A.g (ix2 q (col h d)) * A.pr h q k : ℝ) : EReal) by
    rw [show lidx_main_v45 (ix3 h d k) q = ix3 h d q from ext3 rfl rfl rfl, show ridx_main_v45 (ix3 h d k) q = ix3 h q k from ext3 rfl rfl rfl,
      v43_g R, v36_pr R, ← EReal.coe_mul]]
  rw [← coe_sum]; rfl

/-- One over the squared row sum. -/
theorem v39_inv (R : Reads A x0 x1 x2 x3) (h : Fin 8) (q : Fin 8192) (z : Fin 1) :
    val_main_v39 (F := Ideal) x0 x1 (ix3 h q z) = ((1 / (A.tot h q * A.tot h q) : ℝ) : EReal) := by
  rw [val_main_v39_apply, val_main_v38_apply, val_main_cst_10_apply, val_main_v37_apply, val_main_v34_apply,
    show idx_main_v34 (ix3 h q z) = ix2 h q from ext2 rfl rfl, v33_tot R, ofBits_one]
  show Ideal.div ((1 : ℝ) : EReal) ((A.tot h q : EReal) * (A.tot h q : EReal)) = _
  rw [← EReal.coe_mul]
  exact div_real (mul_pos (tot_pos A h q) (tot_pos A h q)).ne'

/-- The row correction of the quotient's derivative. -/
theorem v50_sum (R : Reads A x0 x1 x2 x3) (h : Fin 8) (q : Fin 8192) :
    val_main_v50 (F := Ideal) x0 x1 x2 x3 (ix2 h q) = ((∑ j, A.dp h q j * (1 / (A.tot h q * A.tot h q)) * A.ex h q j : ℝ) : EReal) := by
  rw [val_main_v50_apply, val_main_cst_11_apply, ofBits_zero]
  rw [Finset.sum_congr rfl fun k _ => show val_main_v49 (F := Ideal) x0 x1 x2 x3 (idx_main_v50 (ix2 h q) k)
      = ((A.dp h q k * (1 / (A.tot h q * A.tot h q)) * A.ex h q k : ℝ) : EReal) by
    rw [show idx_main_v50 (ix2 h q) k = ix3 h q k from ext3 rfl rfl rfl, val_main_v49_apply, val_main_v48_apply, v44_dp R, v32_ex R, val_main_v47_apply,
      show idx_main_v47 (ix3 h q k) = ix3 h q (0 : Fin 1) from ext3 rfl rfl rfl, v39_inv R]
    show (A.dp h q k : EReal) * _ * _ = _
    rw [← EReal.coe_mul, ← EReal.coe_mul]]
  rw [← coe_sum, ← EReal.coe_add, zero_add]

/-- The gradient of the scaled scores, times the scale. -/
theorem v61_ds (R : Reads A x0 x1 x2 x3) (h : Fin 8) (q k : Fin 8192) :
    val_main_v61 (F := Ideal) x0 x1 x2 x3 (ix3 h q k) = ((A.ds h q k * A.scale : ℝ) : EReal) := by
  have e58 : val_main_v58 (F := Ideal) x0 x1 x2 x3 (ix3 h q k) = ((A.ds h q k : ℝ) : EReal) := by
    rw [val_main_v58_apply, val_main_v57_apply, val_main_v54_apply, v44_dp R, val_main_v53_apply, val_main_v34_apply,
      show idx_main_v34 (idx_main_v53 (ix3 h q k)) = ix2 h q from ext2 rfl rfl, v33_tot R, v32_ex R, val_main_v56_apply,
      show idx_main_v56 (ix3 h q k) = ix2 h q from ext2 rfl rfl, val_main_v55_apply, val_main_cst_12_apply, ofBits_zero, Fin.sum_univ_one,
      val_main_v52_apply, val_main_v51_apply, show idx_main_v51 (idx_main_v55 (ix2 h q) 0) = ix2 h q from
        ext2 (by have := h.isLt; have := q.isLt; first | rfl | (show ((h.val * 8192 + q.val) * 1 + 0) / 8192 = h.val; omega))
          (by have := h.isLt; have := q.isLt; first | rfl | (show ((h.val * 8192 + q.val) * 1 + 0) % 8192 = q.val; omega)), v50_sum R]
    show (Ideal.div (A.dp h q k : EReal) (A.tot h q : EReal) + (((0 : ℝ) : EReal) + -_)) * (A.ex h q k : EReal) = _
    rw [div_real (tot_pos A h q).ne', ← EReal.coe_neg, ← EReal.coe_add, ← EReal.coe_add, ← EReal.coe_mul, zero_add, ds_quot]
  rw [val_main_v61_apply, val_main_v59_apply, v11_mask, val_main_v60_apply, val_main_cst_13_apply, e58, val_main_call1_v0_apply, val_main_call1_cst_apply, ofBits_zero]
  have e59 : (Scalar.select (if k ≤ q then 1#1 else 0#1) ((A.ds h q k : ℝ) : EReal) ((0 : ℝ) : EReal)) = ((A.ds h q k : ℝ) : EReal) := by
    split_ifs with hk
    · rfl
    · rw [ds_behind A hk]; rfl
  show (Scalar.select (if k ≤ q then 1#1 else 0#1) ((A.ds h q k : ℝ) : EReal) ((0 : ℝ) : EReal) : EReal) * Ideal.ofBits .f32 0x3D93CD3A#32 = _
  rw [e59, R.s, ← EReal.coe_mul]

/-- The gradient of the queries, before the padding. -/
theorem v66_gq (R : Reads A x0 x1 x2 x3) (h : Fin 8) (q : Fin 8192) (d : Fin 192) :
    val_main_v66 (F := Ideal) x0 x1 x2 x3 (ix3 h q d) = ((A.gq h q d : ℝ) : EReal) := by
  rw [val_main_v66_apply, val_main_v65_apply, show idx_main_v65 (idx_main_v66 (ix3 h q d)) = ix3 h q d from ext3 rfl rfl rfl, val_main_v64_apply]
  rw [Finset.sum_congr rfl fun k _ => show val_main_v61 (F := Ideal) x0 x1 x2 x3 (lidx_main_v64 (ix3 h q d) k) * x1 (ridx_main_v64 (ix3 h q d) k)
      = ((A.ds h q k * A.scale * A.k (ix3 k h d) : ℝ) : EReal) by
    rw [show lidx_main_v64 (ix3 h q d) k = ix3 h q k from ext3 rfl rfl rfl, show ridx_main_v64 (ix3 h q d) k = ix3 k h d from ext3 rfl rfl rfl,
      v61_ds R, R.k, ← EReal.coe_mul]]
  rw [← coe_sum]; rfl

/-- The gradient of the keys, before the padding. -/
theorem v68_gk (R : Reads A x0 x1 x2 x3) (h : Fin 8) (k : Fin 8192) (d : Fin 192) :
    val_main_v68 (F := Ideal) x0 x1 x2 x3 (ix3 h k d) = ((A.gk h k d : ℝ) : EReal) := by
  rw [val_main_v68_apply, val_main_v63_apply, show idx_main_v63 (idx_main_v68 (ix3 h k d)) = ix3 h k d from ext3 rfl rfl rfl, val_main_v62_apply]
  rw [Finset.sum_congr rfl fun q _ => show val_main_v61 (F := Ideal) x0 x1 x2 x3 (lidx_main_v62 (ix3 h k d) q) * x0 (ridx_main_v62 (ix3 h k d) q)
      = ((A.ds h q k * A.scale * A.q (ix3 q h d) : ℝ) : EReal) by
    rw [show lidx_main_v62 (ix3 h k d) q = ix3 h q k from ext3 rfl rfl rfl, show ridx_main_v62 (ix3 h k d) q = ix3 q h d from ext3 rfl rfl rfl,
      v61_ds R, R.q, ← EReal.coe_mul]]
  rw [← coe_sum]; rfl

/-- A row of 192 entries continued by zeros to 256. -/
def pad256 (f : Fin 192 → ℝ) (e : Fin 256) : ℝ := if he : e.val < 192 then f ⟨e.val, he⟩ else 0

/-- The host's padding of the last axis by zeros. -/
theorem pad_real (y : S8x8192x192.Idx → EReal) (z : S_.Idx → EReal) (f : Fin 192 → ℝ) (h : Fin 8) (q : Fin 8192)
    (hy : ∀ d, y (ix3 h q d) = ((f d : ℝ) : EReal)) (hz : z (Shape.Idx.first h_S_) = 0) (e : Fin 256) :
    pad S8x8192x256 ![0, 0, 0] ![0, 0, 64] ![0, 0, 0] y z pads_S8x8192x192_S8x8192x256_000_000_0640 h_S_ (ix3 h q e) = ((pad256 f e : ℝ) : EReal) := by
  unfold pad256
  split_ifs with he
  · rw [← hy]
    refine pad_apply_of_inside (s := S8x8192x192) (t := S8x8192x256) _ _ _ y z _ _ _ (ix3 h q ⟨e.val, he⟩) fun a => ?_
    match a with
    | ⟨0, _⟩ => show h.val = 0 + h.val * (0 + 1); omega
    | ⟨1, _⟩ => show q.val = 0 + q.val * (0 + 1); omega
    | ⟨2, _⟩ => show e.val = 0 + e.val * (0 + 1); omega
  · refine (pad_apply_of_not_inside (s := S8x8192x192) (t := S8x8192x256) _ _ _ y z _ _ _ (2 : Fin 3) ?_).trans hz
    rintro ⟨_, _, h3⟩
    exact he (by have : (e.val - 0) / (0 + 1) < 192 := h3; omega)

theorem sitofp_zero : (FloatOps.sitofp (F := Ideal) .f32 (0#32) : EReal) = 0 := by
  show (((0#32 : BitVec 32).toInt : ℝ) : EReal) = 0
  simp

/-- The first result: the gradient of the queries. -/
theorem v67_gq (R : Reads A x0 x1 x2 x3) (h : Fin 8) (q : Fin 8192) (e : Fin 256) :
    val_main_v67 (F := Ideal) x0 x1 x2 x3 (ix3 h q e) = ((pad256 (A.gq h q) e : ℝ) : EReal) :=
  pad_real _ _ _ h q (v66_gq R h q) sitofp_zero e

/-- The second result: the gradient of the keys. -/
theorem v69_gk (R : Reads A x0 x1 x2 x3) (h : Fin 8) (k : Fin 8192) (e : Fin 256) :
    val_main_v69 (F := Ideal) x0 x1 x2 x3 (ix3 h k e) = ((pad256 (A.gk h k) e : ℝ) : EReal) :=
  pad_real _ _ _ h k (v68_gk R h k) sitofp_zero e

end Cert.Model

end
-- ==== Proof.Pay.lean ====
/-
  What one grid point of the attention gradient's kernel computes from real blocks: the weights, the scores' gradient, and what is added
  to the accumulators and to the query gradients.
-/
module

public import proofs.«01_k».proof.Proof.Step
public import proofs.«01_k».proof.Proof.Model
public import Idealize.ShloMosaic.Lib.MatmulPlain
public import Idealize.ShloMosaic.Lib.IdealHost

@[expose] public section

noncomputable section

namespace Cert.KernelIdeal.Hand

open Cert.KernelIdeal Cert.KernelIdeal.Gen
open Idealize.ShloMosaic Idealize.ShloMosaic.ValueIdx
open Cert.Model (coe_sum ofBits_neg_inf ext2 ext3)
open scoped BigOperators

/-- Real blocks: query and key rows, values, outputs, the outputs' gradient, and the rows' log-sums. -/
structure Blk where
  q : Fin 1024 → Fin 256 → ℝ
  k : Fin 1024 → Fin 256 → ℝ
  v : Fin 1024 → Fin 128 → ℝ
  o : Fin 1024 → Fin 128 → ℝ
  l : Fin 1024 → ℝ
  g : Fin 1024 → Fin 128 → ℝ

/-- The weight of a query row and a key row of the blocks. -/
def Blk.p (B : Blk) (a b : Fin 1024) : ℝ := Real.exp ((∑ e, B.q a e * B.k b e) - B.l a)
/-- The weight on the diagonal: zero for a key behind the query. -/
def Blk.pm (B : Blk) (a b : Fin 1024) : ℝ := if b ≤ a then B.p a b else 0
/-- The scores' gradient with weights `p`. -/
def Blk.ds (B : Blk) (p : Fin 1024 → Fin 1024 → ℝ) (a b : Fin 1024) : ℝ :=
  p a b * ((∑ d, B.g a d * B.v b d) - ∑ d, B.g a d * B.o a d)

/-- The vectors `x0 … x5` hold the real blocks. -/
structure BlkReads (B : Blk) (x0 x1 : Vec Ideal S1x1024x256 .bf16) (x2 x3 : Vec Ideal S1024x128 .f32) (x4 : Vec Ideal S1x1024x1 .f32)
    (x5 : Vec Ideal S1024x128 .f32) : Prop where
  q : ∀ a e, x0 (ix3 (0 : Fin 1) a e) = ((B.q a e : ℝ) : EReal)
  k : ∀ a e, x1 (ix3 (0 : Fin 1) a e) = ((B.k a e : ℝ) : EReal)
  v : ∀ a d, x2 (ix2 a d) = ((B.v a d : ℝ) : EReal)
  o : ∀ a d, x3 (ix2 a d) = ((B.o a d : ℝ) : EReal)
  l : ∀ a, x4 (ix3 (0 : Fin 1) a (0 : Fin 1)) = ((B.l a : ℝ) : EReal)
  g : ∀ a d, x5 (ix2 a d) = ((B.g a d : ℝ) : EReal)

/-! ## Products and reshapes at an index -/

theorem sum_real {n : ℕ} {f g : Fin n → EReal} {u w : Fin n → ℝ} (hf : ∀ k, f k = ((u k : ℝ) : EReal)) (hg : ∀ k, g k = ((w k : ℝ) : EReal)) :
    ∑ k, f k * g k = ((∑ k, u k * w k : ℝ) : EReal) := by
  rw [coe_sum]
  exact Finset.sum_congr rfl fun k _ => by rw [hf, hg, ← EReal.coe_mul]

theorem cst_zero {s : Shape} (i : s.Idx) : (constant (F := Ideal) s .f32 0x00000000#32 : FVec Ideal s .f32) i = 0 := Ideal.ofBits_zero_f32

theorem mm_qk (x y : FVec Ideal S1024x256 .bf16) (a b : Fin 1024) :
    matmul dot_S1024x256_S1024x256_S1024x1024_1_1_0_0_n_n none x y (constant S1024x1024 .f32 0x00000000#32) (ix2 a b) = ∑ e : Fin 256, x (ix2 a e) * y (ix2 b e) :=
  (Ideal.matmul_transposedRhs_apply (M := 1024) (K := 256) (N := 1024) none x y _ a b).trans (by rw [cst_zero, zero_add])

theorem mm_gv (x y : FVec Ideal S1024x128 .bf16) (a b : Fin 1024) :
    matmul dot_S1024x128_S1024x128_S1024x1024_1_1_0_0_n_n none x y (constant S1024x1024 .f32 0x00000000#32) (ix2 a b) = ∑ e : Fin 128, x (ix2 a e) * y (ix2 b e) :=
  (Ideal.matmul_transposedRhs_apply (M := 1024) (K := 128) (N := 1024) none x y _ a b).trans (by rw [cst_zero, zero_add])

theorem mm_dq (x : FVec Ideal S1024x1024 .bf16) (y : FVec Ideal S1024x256 .bf16) (a : Fin 1024) (e : Fin 256) :
    matmul dot_S1024x1024_S1024x256_S1024x256_1_0_0_1_n_n none x y (constant S1024x256 .f32 0x00000000#32) (ix2 a e) = ∑ b : Fin 1024, x (ix2 a b) * y (ix2 b e) :=
  (Ideal.matmul_plain_apply (M := 1024) (K := 1024) (N := 256) none x y _ a e).trans (by rw [cst_zero, zero_add])

theorem mm_dk (x : FVec Ideal S1024x1024 .bf16) (y : FVec Ideal S1024x256 .bf16) (b : Fin 1024) (e : Fin 256) :
    matmul dot_S1024x1024_S1024x256_S1024x256_0_0_1_1_n_n none x y (constant S1024x256 .f32 0x00000000#32) (ix2 b e) = ∑ a : Fin 1024, x (ix2 a b) * y (ix2 a e) := by
  refine (Ideal.matmul_apply dot_S1024x1024_S1024x256_S1024x256_0_0_1_1_n_n none x y _ _).trans ?_
  rw [cst_zero, zero_add, ← Equiv.sum_comp (contrEquiv1 dot_S1024x1024_S1024x256_S1024x256_0_0_1_1_n_n 1024 rfl rfl).symm]
  refine Finset.sum_congr rfl fun a _ => ?_
  have hk := contrEquiv1_symm_val dot_S1024x1024_S1024x256_S1024x256_0_0_1_1_n_n 1024 rfl rfl a
  congr 1
  · exact congrArg x (ext2 hk rfl)
  · exact congrArg y (ext2 hk rfl)

theorem mm_dv (x : FVec Ideal S1024x1024 .bf16) (y : FVec Ideal S1024x128 .bf16) (b : Fin 1024) (e : Fin 128) :
    matmul dot_S1024x1024_S1024x128_S1024x128_0_0_1_1_n_n none x y (constant S1024x128 .f32 0x00000000#32) (ix2 b e) = ∑ a : Fin 1024, x (ix2 a b) * y (ix2 a e) := by
  refine (Ideal.matmul_apply dot_S1024x1024_S1024x128_S1024x128_0_0_1_1_n_n none x y _ _).trans ?_
  rw [cst_zero, zero_add, ← Equiv.sum_comp (contrEquiv1 dot_S1024x1024_S1024x128_S1024x128_0_0_1_1_n_n 1024 rfl rfl).symm]
  refine Finset.sum_congr rfl fun a _ => ?_
  have hk := contrEquiv1_symm_val dot_S1024x1024_S1024x128_S1024x128_0_0_1_1_n_n 1024 rfl rfl a
  congr 1
  · exact congrArg x (ext2 hk rfl)
  · exact congrArg y (ext2 hk rfl)

theorem cast_squeeze {α : Type} (x : S1x1024x256.Idx → α) (a : Fin 1024) (e : Fin 256) :
    shapeCast S1024x256 x shapeCasts_S1x1024x256_S1024x256 (ix2 a e) = x (ix3 (0 : Fin 1) a e) := by
  refine shapeCast_apply x _ _ _ ?_
  rw [Shape.rowMajor_val_two, Shape.rowMajor_val_three]
  show (0 * 1024 + a.val) * 256 + e.val = a.val * 256 + e.val
  omega

theorem cast_unsqueeze {α : Type} (x : S1024x256.Idx → α) (a : Fin 1024) (e : Fin 256) :
    shapeCast S1x1024x256 x shapeCasts_S1024x256_S1x1024x256 (ix3 (0 : Fin 1) a e) = x (ix2 a e) := by
  refine shapeCast_apply x _ _ _ ?_
  rw [Shape.rowMajor_val_two, Shape.rowMajor_val_three]
  show a.val * 256 + e.val = (0 * 1024 + a.val) * 256 + e.val
  omega

theorem cast_same {α : Type} {s : Shape} (x : s.Idx → α) (h : s.ShapeCasts s) (i : s.Idx) : shapeCast s x h i = x i :=
  shapeCast_apply x h i i rfl

theorem lse_col (x4 : Vec Ideal S1x1024x1 .f32) (a b : Fin 1024) :
    broadcastTo S1024x1024 (shapeCast S1024x1 x4 shapeCasts_S1x1024x1_S1024x1) broadcasts_S1024x1_S1024x1024 (ix2 a b) = x4 (ix3 (0 : Fin 1) a (0 : Fin 1)) := by
  refine (broadcastTo_apply _ broadcasts_S1024x1_S1024x1024 (ix2 a b) (ix2 a (0 : Fin 1)) ?_).trans ?_
  · intro d
    match d with
    | ⟨0, _⟩ => rfl
    | ⟨1, _⟩ => rfl
  · refine shapeCast_apply x4 _ _ _ ?_
    rw [Shape.rowMajor_val_two, Shape.rowMajor_val_three]
    show (0 * 1024 + a.val) * 1 + 0 = a.val * 1 + 0
    omega

theorem delta_col (y : FVec Ideal S1024x128 .f32) (a b : Fin 1024) :
    broadcastTo S1024x1024 (shapeCast S1024x1 (multiReduction .add [1] S1024 y 0x00000000#32 reduces_S1024x128_S1024 (.inl rfl) rfl) shapeCasts_S1024_S1024x1)
      broadcasts_S1024x1_S1024x1024 (ix2 a b) = ∑ d : Fin 128, y (ix2 a d) := by
  refine (broadcastTo_apply _ broadcasts_S1024x1_S1024x1024 (ix2 a b) (ix2 a (0 : Fin 1)) ?_).trans ?_
  · intro d
    match d with
    | ⟨0, _⟩ => rfl
    | ⟨1, _⟩ => rfl
  · refine (shapeCast_apply _ shapeCasts_S1024_S1024x1 (ix2 a (0 : Fin 1)) (ix1 a) ?_).trans ?_
    · rw [Shape.rowMajor_val_two, Shape.rowMajor_val_one]
      show a.val = a.val * 1 + 0
      omega
    · refine (Ideal.multiReduction_add_single y _ reduces_S1024x128_S1024 (.inl rfl) rfl (ix1 a)).trans ?_
      exact Finset.sum_congr rfl fun d _ => congrArg y (ext2 rfl rfl)

/-! ## The payloads -/

variable {B : Blk} {x0 x1 : Vec Ideal S1x1024x256 .bf16} {x2 x3 : Vec Ideal S1024x128 .f32} {x4 : Vec Ideal S1x1024x1 .f32} {x5 : Vec Ideal S1024x128 .f32}

theorem score_real (R : BlkReads B x0 x1 x2 x3 x4 x5) (a b : Fin 1024) :
    matmul dot_S1024x256_S1024x256_S1024x1024_1_1_0_0_n_n none (shapeCast S1024x256 x0 shapeCasts_S1x1024x256_S1024x256 : FVec Ideal S1024x256 .bf16)
      (shapeCast S1024x256 x1 shapeCasts_S1x1024x256_S1024x256 : FVec Ideal S1024x256 .bf16) (constant S1024x1024 .f32 0x00000000#32) (ix2 a b)
      = ((∑ e, B.q a e * B.k b e : ℝ) : EReal) :=
  (mm_qk _ _ a b).trans (sum_real (fun e => (cast_squeeze x0 a e).trans (R.q a e)) (fun e => (cast_squeeze x1 b e).trans (R.k b e)))

theorem pay16_real (R : BlkReads B x0 x1 x2 x3 x4 x5) (a b : Fin 1024) : k0_pay16 x0 x1 x4 (ix2 a b) = ((B.p a b : ℝ) : EReal) := by
  show Ideal.exp ((matmul dot_S1024x256_S1024x256_S1024x1024_1_1_0_0_n_n none (shapeCast S1024x256 x0 shapeCasts_S1x1024x256_S1024x256 : FVec Ideal S1024x256 .bf16)
      (shapeCast S1024x256 x1 shapeCasts_S1x1024x256_S1024x256 : FVec Ideal S1024x256 .bf16) (constant S1024x1024 .f32 0x00000000#32) (ix2 a b) : EReal)
    - broadcastTo S1024x1024 (shapeCast S1024x1 x4 shapeCasts_S1x1024x1_S1024x1) broadcasts_S1024x1_S1024x1024 (ix2 a b)) = _
  rw [score_real R, lse_col, R.l, ← EReal.coe_sub, Ideal.exp_coe]
  rfl

/-- The diagonal's mask. -/
theorem mask_apply (a b : Fin 1024) :
    cmpi .sge (iota .tc S1024x1024 32 [0] iota_S1024x1024_d0_w32) (iota .tc S1024x1024 32 [1] iota_S1024x1024_d1_w32) (ix2 a b) = if b ≤ a then 1#1 else 0#1 := by
  have ha := a.isLt; have hb := b.isLt
  have e0 : iota .tc S1024x1024 32 [0] iota_S1024x1024_d0_w32 (ix2 a b) = BitVec.ofNat 32 a.val := by
    rw [iota_single_apply]
  have e1 : iota .tc S1024x1024 32 [1] iota_S1024x1024_d1_w32 (ix2 a b) = BitVec.ofNat 32 b.val := by
    rw [iota_single_apply]
  show IntOp.cmpi .sge (iota .tc S1024x1024 32 [0] iota_S1024x1024_d0_w32 (ix2 a b)) (iota .tc S1024x1024 32 [1] iota_S1024x1024_d1_w32 (ix2 a b)) = _
  rw [e0, e1]
  exact Cert.Model.sle_ofNat (a := b.val) (b := a.val) (by omega) (by omega)

theorem pay23_real (R : BlkReads B x0 x1 x2 x3 x4 x5) (a b : Fin 1024) : k0_pay23 x0 x1 x4 (ix2 a b) = ((B.pm a b : ℝ) : EReal) := by
  show Ideal.exp (((Scalar.select (cmpi .sge (iota .tc S1024x1024 32 [0] iota_S1024x1024_d0_w32) (iota .tc S1024x1024 32 [1] iota_S1024x1024_d1_w32) (ix2 a b))
      (matmul dot_S1024x256_S1024x256_S1024x1024_1_1_0_0_n_n none (shapeCast S1024x256 x0 shapeCasts_S1x1024x256_S1024x256 : FVec Ideal S1024x256 .bf16)
      (shapeCast S1024x256 x1 shapeCasts_S1x1024x256_S1024x256 : FVec Ideal S1024x256 .bf16) (constant S1024x1024 .f32 0x00000000#32) (ix2 a b) : EReal)
      (Ideal.ofBits .f32 0xFF800000#32) : EReal))
    - broadcastTo S1024x1024 (shapeCast S1024x1 x4 shapeCasts_S1x1024x1_S1024x1) broadcasts_S1024x1_S1024x1024 (ix2 a b)) = _
  rw [score_real R, lse_col, R.l, mask_apply, ofBits_neg_inf]
  unfold Blk.pm
  split_ifs
  · show Ideal.exp (((∑ e, B.q a e * B.k b e : ℝ) : EReal) - (B.l a : EReal)) = _
    rw [← EReal.coe_sub, Ideal.exp_coe]
    rfl
  · show Ideal.exp (⊥ - (B.l a : EReal)) = _
    rw [EReal.bot_sub, Ideal.exp_bot]; rfl

/-- The scores' gradient from weights `w`. -/
theorem ds_real (R : BlkReads B x0 x1 x2 x3 x4 x5) (w : FVec Ideal S1024x1024 .f32) (p : Fin 1024 → Fin 1024 → ℝ)
    (hw : ∀ a b, w (ix2 a b) = ((p a b : ℝ) : EReal)) (a b : Fin 1024) :
    mulf w (subf (matmul dot_S1024x128_S1024x128_S1024x1024_1_1_0_0_n_n none (truncf .bf16 x5 bitsLt_bf16_f32) (truncf .bf16 x2 bitsLt_bf16_f32)
        (constant S1024x1024 .f32 0x00000000#32))
      (broadcastTo S1024x1024 (shapeCast S1024x1 (multiReduction .add [1] S1024 (mulf x5 (shapeCast S1024x128 x3 shapeCasts_S1024x128_S1024x128)) 0x00000000#32
        reduces_S1024x128_S1024 (.inl rfl) rfl) shapeCasts_S1024_S1024x1) broadcasts_S1024x1_S1024x1024)) (ix2 a b) = ((B.ds p a b : ℝ) : EReal) := by
  show (w (ix2 a b) : EReal) * ((matmul (F := Ideal) dot_S1024x128_S1024x128_S1024x1024_1_1_0_0_n_n none (truncf .bf16 x5 bitsLt_bf16_f32) (truncf .bf16 x2 bitsLt_bf16_f32)
        (constant S1024x1024 .f32 0x00000000#32) (ix2 a b) : EReal) - _) = _
  rw [delta_col, mm_gv, hw]
  have e1 : ∑ e : Fin 128, (truncf .bf16 x5 bitsLt_bf16_f32 : FVec Ideal S1024x128 .bf16) (ix2 a e) * (truncf .bf16 x2 bitsLt_bf16_f32 : FVec Ideal S1024x128 .bf16) (ix2 b e)
      = ((∑ d, B.g a d * B.v b d : ℝ) : EReal) := sum_real (R.g a) (R.v b)
  have e2 : ∑ d : Fin 128, (mulf x5 (shapeCast S1024x128 x3 shapeCasts_S1024x128_S1024x128) : FVec Ideal S1024x128 .f32) (ix2 a d)
      = ((∑ d, B.g a d * B.o a d : ℝ) : EReal) := sum_real (R.g a) (fun d => (cast_same x3 _ _).trans (R.o a d))
  rw [e1, e2, ← EReal.coe_sub, ← EReal.coe_mul]
  rfl

theorem pay19_real (R : BlkReads B x0 x1 x2 x3 x4 x5) (a b : Fin 1024) : k0_pay19 x0 x1 x4 x5 x3 x2 (ix2 a b) = ((B.ds B.p a b : ℝ) : EReal) :=
  ds_real R (k0_pay16 x0 x1 x4) B.p (pay16_real R) a b

theorem pay26_real (R : BlkReads B x0 x1 x2 x3 x4 x5) (a b : Fin 1024) : k0_pay26 x0 x1 x4 x5 x3 x2 (ix2 a b) = ((B.ds B.pm a b : ℝ) : EReal) :=
  ds_real R (k0_pay23 x0 x1 x4) B.pm (pay23_real R) a b

/-- The key gradient's share of a block below the diagonal, added to the accumulator. -/
theorem pay3_real (R : BlkReads B x0 x1 x2 x3 x4 x5) (s : Vec Ideal S1024x256 .f32) (b : Fin 1024) (e : Fin 256) :
    k0_pay3 s (k0_pay20 x0 x1 x4 x5 x3 x2) (ix2 b e) = s (ix2 b e) + ((∑ a, B.ds B.p a b * B.q a e : ℝ) : EReal) := by
  unfold k0_pay3
  refine (cast_same _ shapeCasts_S1024x256_S1024x256 _).trans ?_
  show s (ix2 b e) + (matmul dot_S1024x1024_S1024x256_S1024x256_0_0_1_1_n_n none (k0_pay19 x0 x1 x4 x5 x3 x2) (k0_pay14 x0) (constant S1024x256 .f32 0x00000000#32) (ix2 b e) : EReal) = _
  rw [mm_dk, sum_real (fun a => pay19_real R a b) (fun a => (show k0_pay14 x0 (ix2 a e) = _ from (cast_squeeze x0 a e).trans (R.q a e)))]

/-- The same on the diagonal. -/
theorem pay8_real (R : BlkReads B x0 x1 x2 x3 x4 x5) (s : Vec Ideal S1024x256 .f32) (b : Fin 1024) (e : Fin 256) :
    k0_pay8 (k0_pay21 x0) (k0_pay26 x0 x1 x4 x5 x3 x2) s (ix2 b e) = s (ix2 b e) + ((∑ a, B.ds B.pm a b * B.q a e : ℝ) : EReal) := by
  unfold k0_pay8
  refine (cast_same _ shapeCasts_S1024x256_S1024x256 _).trans ?_
  show s (ix2 b e) + (matmul dot_S1024x1024_S1024x256_S1024x256_0_0_1_1_n_n none (k0_pay7 (k0_pay26 x0 x1 x4 x5 x3 x2)) (k0_pay21 x0) (constant S1024x256 .f32 0x00000000#32) (ix2 b e) : EReal) = _
  rw [mm_dk, sum_real (fun a => (show k0_pay7 (k0_pay26 x0 x1 x4 x5 x3 x2) (ix2 a b) = _ from pay26_real R a b)) (fun a => (show k0_pay21 x0 (ix2 a e) = _ from (cast_squeeze x0 a e).trans (R.q a e)))]

/-- The value gradient's share of a block below the diagonal, added to the accumulator. -/
theorem pay18_real (R : BlkReads B x0 x1 x2 x3 x4 x5) (s : Vec Ideal S1024x128 .f32) (b : Fin 1024) (d : Fin 128) :
    k0_pay18 x0 x1 x4 x5 s (ix2 b d) = s (ix2 b d) + ((∑ a, B.p a b * B.g a d : ℝ) : EReal) := by
  unfold k0_pay18
  refine (cast_same _ shapeCasts_S1024x128_S1024x128 _).trans ?_
  show s (ix2 b d) + (matmul dot_S1024x1024_S1024x128_S1024x128_0_0_1_1_n_n none (truncf .bf16 (k0_pay16 x0 x1 x4) bitsLt_bf16_f32) (k0_pay17 x5) (constant S1024x128 .f32 0x00000000#32) (ix2 b d) : EReal) = _
  rw [mm_dv, sum_real (fun a => (show (truncf .bf16 (k0_pay16 x0 x1 x4) bitsLt_bf16_f32 : FVec Ideal S1024x1024 .bf16) (ix2 a b) = _ from pay16_real R a b))
    (fun a => (show k0_pay17 x5 (ix2 a d) = _ from R.g a d))]

/-- The same on the diagonal. -/
theorem pay25_real (R : BlkReads B x0 x1 x2 x3 x4 x5) (s : Vec Ideal S1024x128 .f32) (b : Fin 1024) (d : Fin 128) :
    k0_pay25 x0 x1 x4 x5 s (ix2 b d) = s (ix2 b d) + ((∑ a, B.pm a b * B.g a d : ℝ) : EReal) := by
  unfold k0_pay25
  refine (cast_same _ shapeCasts_S1024x128_S1024x128 _).trans ?_
  show s (ix2 b d) + (matmul dot_S1024x1024_S1024x128_S1024x128_0_0_1_1_n_n none (truncf .bf16 (k0_pay23 x0 x1 x4) bitsLt_bf16_f32) (k0_pay24 x5) (constant S1024x128 .f32 0x00000000#32) (ix2 b d) : EReal) = _
  rw [mm_dv, sum_real (fun a => (show (truncf .bf16 (k0_pay23 x0 x1 x4) bitsLt_bf16_f32 : FVec Ideal S1024x1024 .bf16) (ix2 a b) = _ from pay23_real R a b))
    (fun a => (show k0_pay24 x5 (ix2 a d) = _ from R.g a d))]

/-- The query gradient's share of a block below the diagonal. -/
theorem pay4_real (R : BlkReads B x0 x1 x2 x3 x4 x5) (a : Fin 1024) (e : Fin 256) :
    k0_pay4 (k0_pay15 x1) (k0_pay19 x0 x1 x4 x5 x3 x2) (ix2 a e) = (((∑ b, B.ds B.p a b * B.k b e) * Cert.Model.scale : ℝ) : EReal) := by
  show (matmul dot_S1024x1024_S1024x256_S1024x256_1_0_0_1_n_n none (k0_pay19 x0 x1 x4 x5 x3 x2) (k0_pay15 x1) (constant S1024x256 .f32 0x00000000#32) (ix2 a e) : EReal)
    * Ideal.ofBits .f32 0x3D93CD3A#32 = _
  rw [mm_dq, sum_real (fun b => pay19_real R a b) (fun b => (show k0_pay15 x1 (ix2 b e) = _ from (cast_squeeze x1 b e).trans (R.k b e))), Cert.Model.scale_coe, ← EReal.coe_mul]

/-- The same on the diagonal. -/
theorem pay9_real (R : BlkReads B x0 x1 x2 x3 x4 x5) (a : Fin 1024) (e : Fin 256) :
    k0_pay9 (k0_pay22 x1) (k0_pay26 x0 x1 x4 x5 x3 x2) (ix2 a e) = (((∑ b, B.ds B.pm a b * B.k b e) * Cert.Model.scale : ℝ) : EReal) := by
  show (matmul dot_S1024x1024_S1024x256_S1024x256_1_0_0_1_n_n none (k0_pay7 (k0_pay26 x0 x1 x4 x5 x3 x2)) (k0_pay22 x1) (constant S1024x256 .f32 0x00000000#32) (ix2 a e) : EReal)
    * Ideal.ofBits .f32 0x3D93CD3A#32 = _
  rw [mm_dq, sum_real (fun b => (show k0_pay7 (k0_pay26 x0 x1 x4 x5 x3 x2) (ix2 a b) = _ from pay26_real R a b)) (fun b => (show k0_pay22 x1 (ix2 b e) = _ from (cast_squeeze x1 b e).trans (R.k b e))),
    Cert.Model.scale_coe, ← EReal.coe_mul]

theorem pay5_apply (x : FVec Ideal S1024x256 .bf16) (y : FVec Ideal S1024x1024 .bf16) (a : Fin 1024) (e : Fin 256) :
    k0_pay5 x y (ix3 (0 : Fin 1) a e) = k0_pay4 x y (ix2 a e) := by
  unfold k0_pay5
  exact cast_unsqueeze _ a e
theorem pay10_apply (x : FVec Ideal S1024x256 .bf16) (y : FVec Ideal S1024x1024 .f32) (a : Fin 1024) (e : Fin 256) :
    k0_pay10 x y (ix3 (0 : Fin 1) a e) = k0_pay9 x y (ix2 a e) := by
  unfold k0_pay10
  exact cast_unsqueeze _ a e
theorem pay6_apply (x : FVec Ideal S1024x256 .bf16) (y : FVec Ideal S1024x1024 .bf16) (z : Vec Ideal S1x1024x256 .f32) (a : Fin 1024) (e : Fin 256) :
    k0_pay6 x y z (ix3 (0 : Fin 1) a e) = (z (ix3 (0 : Fin 1) a e) + k0_pay4 x y (ix2 a e) : EReal) := by
  unfold k0_pay6
  exact (cast_unsqueeze _ a e).trans (congrArg (· + (k0_pay4 x y (ix2 a e) : EReal)) (cast_squeeze z a e))
theorem pay11_apply (x : FVec Ideal S1024x256 .bf16) (y : FVec Ideal S1024x1024 .f32) (z : Vec Ideal S1x1024x256 .f32) (a : Fin 1024) (e : Fin 256) :
    k0_pay11 x y z (ix3 (0 : Fin 1) a e) = (z (ix3 (0 : Fin 1) a e) + k0_pay9 x y (ix2 a e) : EReal) := by
  unfold k0_pay11
  exact (cast_unsqueeze _ a e).trans (congrArg (· + (k0_pay9 x y (ix2 a e) : EReal)) (cast_squeeze z a e))
theorem pay12_apply (s : Vec Ideal S1024x256 .f32) (a : Fin 1024) (e : Fin 256) : k0_pay12 s (ix3 (0 : Fin 1) a e) = s (ix2 a e) := by
  unfold k0_pay12
  exact cast_unsqueeze _ a e
theorem pay13_apply (s : Vec Ideal S1024x128 .f32) (i) : (k0_pay13 s i : EReal) = s i := rfl
theorem pay1_apply (i : S1024x256.Idx) : (k0_pay1 (F := Ideal) i : EReal) = 0 := by
  unfold k0_pay1
  exact (cast_same _ shapeCasts_S1024x256_S1024x256 i).trans Ideal.ofBits_zero_f32
theorem pay2_apply (i : S1024x128.Idx) : (k0_pay2 (F := Ideal) i : EReal) = 0 := by
  unfold k0_pay2
  exact (cast_same _ shapeCasts_S1024x128_S1024x128 i).trans Ideal.ofBits_zero_f32

end Cert.KernelIdeal.Hand

end
-- ==== Proof.Prep.lean ====
/-
  The host's preparation of the attention gradient's operands, at real arguments.
-/
module

public import proofs.«01_k».proof.Proof.Host
public import proofs.«01_k».proof.Proof.Ref
public import proofs.«01_k».proof.Proof.Pay

@[expose] public section

noncomputable section

namespace Cert.KernelIdeal.Hand

open Cert.KernelIdeal Cert.KernelIdeal.Gen Facts
open Idealize.ShloMosaic Idealize.ShloMosaic.ValueIdx Idealize.ShloMosaic.StableHlo Idealize.ShloMosaic.TcCoe
open Cert.Model
open scoped BigOperators

/-! ## The host's preparation, at real arguments -/

variable {A : Args} {x0 x1 : (⟨S8192x8x192, .f32⟩ : BufTy).Contents (Elt Ideal)} {x2 : (⟨S8192x2048, .f32⟩ : BufTy).Contents (Elt Ideal)}
  {x3 : (⟨S8192x1024, .f32⟩ : BufTy).Contents (Elt Ideal)}

theorem transpose_at (y : S8192x8x192.Idx → EReal) (h : Fin 8) (q : Fin 8192) (d : Fin 192) :
    transpose S8x8192x192 [1, 0, 2] y transposes_S8192x8x192_S8x8192x192_1_0_2 (ix3 h q d) = y (ix3 q h d) :=
  transpose_apply [1, 0, 2] y transposes_S8192x8x192_S8x8192x192_1_0_2 (ix3 h q d) (ix3 q h d) (fun b => match b with
    | ⟨0, _⟩ => rfl
    | ⟨1, _⟩ => rfl
    | ⟨2, _⟩ => rfl)

theorem rowsQ_real (R : Reads A x0 x1 x2 x3) (h : Fin 8) (q : Fin 8192) (e : Fin 256) :
    (rowsQ (F := Ideal) x0 (ix3 h q e) : EReal) = ((pad256 (fun d => A.q (ix3 q h d) * A.scale) e : ℝ) : EReal) := by
  refine pad_real _ _ (fun d => A.q (ix3 q h d) * A.scale) h q (fun d => ?_) Cert.Model.sitofp_zero e
  refine (transpose_at _ h q d).trans ?_
  show x0 (ix3 q h d) * Ideal.ofBits .f32 0x3D93CD3A#32 = _
  rw [R.q, R.s, ← EReal.coe_mul]

theorem rowsK_real (R : Reads A x0 x1 x2 x3) (h : Fin 8) (k : Fin 8192) (e : Fin 256) :
    (rowsK (F := Ideal) x1 (ix3 h k e) : EReal) = ((pad256 (fun d => A.k (ix3 k h d)) e : ℝ) : EReal) :=
  pad_real _ _ (fun d => A.k (ix3 k h d)) h k (fun d => (transpose_at _ h k d).trans (R.k _)) Cert.Model.sitofp_zero e

theorem rowsO_real (R : Reads A x0 x1 x2 x3) (h : Fin 8) (q : Fin 8192) (d : Fin 128) :
    (rowsO (F := Ideal) x0 x1 x2 (ix2 q (col h d)) : EReal) = ((A.out h q d : ℝ) : EReal) := by
  refine (shapeCast_apply _ shapeCasts_S8192x8x128_S8192x1024 (ix2 q (col h d)) (ix3 q h d) ?_).trans (v41_out R h q d)
  rw [Shape.rowMajor_val_two, Shape.rowMajor_val_three]
  show (q.val * 8 + h.val) * 128 + d.val = q.val * 1024 + (128 * h.val + d.val)
  omega

theorem col_at (y : S8x8192.Idx → EReal) (h : Fin 8) (q : Fin 8192) :
    broadcastInDim S8x8192x1 ![0, 1] bcast_S8x8192_S8x8192x1_0_1 y (ix3 h q (0 : Fin 1)) = y (ix2 h q) :=
  broadcastInDim_apply _ bcast_S8x8192_S8x8192x1_0_1 y (ix3 h q (0 : Fin 1)) (ix2 h q) (fun a => match a with
    | ⟨0, _⟩ => by show h.val = if (8 : Nat) = 1 then 0 else h.val; rw [if_neg (by decide)]
    | ⟨1, _⟩ => by show q.val = if (8192 : Nat) = 1 then 0 else q.val; rw [if_neg (by decide)])

theorem wide_at (y : S8x8192x1.Idx → EReal) (h : Fin 8) (q k : Fin 8192) :
    broadcastInDim S8x8192x8192 ![0, 1, 2] bcast_S8x8192x1_S8x8192x8192_0_1_2 y (ix3 h q k) = y (ix3 h q (0 : Fin 1)) :=
  broadcastInDim_apply _ bcast_S8x8192x1_S8x8192x8192_0_1_2 y (ix3 h q k) (ix3 h q (0 : Fin 1)) (fun a => match a with
    | ⟨0, _⟩ => by show h.val = if (8 : Nat) = 1 then 0 else h.val; rw [if_neg (by decide)]
    | ⟨1, _⟩ => by show q.val = if (8192 : Nat) = 1 then 0 else q.val; rw [if_neg (by decide)]
    | ⟨2, _⟩ => by show 0 = if (1 : Nat) = 1 then 0 else k.val; rw [if_pos rfl])

theorem colMax_real (R : Reads A x0 x1 x2 x3) (h : Fin 8) (q : Fin 8192) :
    (colMax (F := Ideal) x0 x1 (ix3 h q (0 : Fin 1)) : EReal) = ((A.M h q : ℝ) : EReal) := (col_at _ h q).trans (R.M h q)

theorem rowSum_at (y : FVec Ideal S8x8192x8192 .f32) (z : FVec Ideal S_ .f32) (h : Fin 8) (q : Fin 8192) :
    (Host.reduceAdd y z reducesTo_S8x8192x8192_S8x8192_d2 h_S_ (ix2 h q) : EReal) = z (Shape.Idx.first h_S_) + ∑ k : Fin 8192, y (ix3 h q k) := by
  simp only [Host.reduceAdd, Ideal.hostReduceAdd_def]
  rw [Ideal.hostReduceAdd_single reducesTo_S8x8192x8192_S8x8192_d2 (by decide)]
  exact congrArg (_ + ·) (Finset.sum_congr rfl fun k _ => congrArg y (ext3 rfl rfl rfl))

/-- A row's sum of shifted exponentials, for any scores and any column of shifts. -/
theorem expSum_at (y : FVec Ideal S8x8192x8192 .f32) (z : FVec Ideal S8x8192x1 .f32) (h : Fin 8) (q : Fin 8192) :
    (Host.reduceAdd (Host.exp (subf y (broadcastInDim S8x8192x8192 ![0, 1, 2] bcast_S8x8192x1_S8x8192x8192_0_1_2 z)))
      (constant S_ .f32 0x00000000#32) reducesTo_S8x8192x8192_S8x8192_d2 h_S_ (ix2 h q) : EReal)
      = ∑ k : Fin 8192, Ideal.exp ((y (ix3 h q k) : EReal) - z (ix3 h q (0 : Fin 1))) := by
  refine (rowSum_at _ _ h q).trans ((congrArg (· + _) (cst_zero _)).trans ((zero_add _).trans ?_))
  refine Finset.sum_congr rfl fun k _ => ?_
  show Ideal.exp ((y (ix3 h q k) : EReal) - broadcastInDim S8x8192x8192 ![0, 1, 2] bcast_S8x8192x1_S8x8192x8192_0_1_2 z (ix3 h q k)) = _
  rw [wide_at]

/-- A column plus the logarithm of a row's sum, for any column and any sums. -/
theorem logCol_at (z : FVec Ideal S8x8192x1 .f32) (y : FVec Ideal S8x8192 .f32) (h : Fin 8) (q : Fin 8192) :
    (addf z (Host.log (broadcastInDim S8x8192x1 ![0, 1] bcast_S8x8192_S8x8192x1_0_1 y)) (ix3 h q (0 : Fin 1)) : EReal)
      = z (ix3 h q (0 : Fin 1)) + Ideal.log (y (ix2 h q)) := by
  show (z (ix3 h q (0 : Fin 1)) : EReal) + Ideal.log (broadcastInDim S8x8192x1 ![0, 1] bcast_S8x8192_S8x8192x1_0_1 y (ix3 h q (0 : Fin 1))) = _
  rw [col_at]

theorem colLse_real (R : Reads A x0 x1 x2 x3) (h : Fin 8) (q : Fin 8192) :
    (colLse (F := Ideal) x0 x1 (ix3 h q (0 : Fin 1)) : EReal) = ((A.M h q + Real.log (A.tot h q) : ℝ) : EReal) := by
  unfold colLse
  rw [logCol_at, expSum_at, colMax_real R, Finset.sum_congr rfl fun k _ => show Ideal.exp
    ((Cert.ReferenceIdeal.Read.val_main_v11_0 (F := Ideal) x0 x1 (ix3 h q k) : EReal) - ((A.M h q : ℝ) : EReal)) = ((A.ex h q k : ℝ) : EReal) by
      rw [v11_sc R.toInputs]
      unfold Args.ex
      split_ifs
      · rw [← EReal.coe_sub, Ideal.exp_coe]
      · rw [EReal.bot_sub, Ideal.exp_bot]; rfl]
  rw [← coe_sum, show (∑ k, A.ex h q k) = A.tot h q from rfl, Ideal.log_coe, if_neg (not_le.mpr (tot_pos A h q)), ← EReal.coe_add]

end Cert.KernelIdeal.Hand

end
-- ==== Proof.Pairs.lean ====
/-
  The real blocks of a query block and a key block, and their weights and scores' gradient.
-/
module

public import proofs.«01_k».proof.Proof.Model
public import proofs.«01_k».proof.Proof.Ref
public import proofs.«01_k».proof.Proof.Pay

@[expose] public section

noncomputable section

namespace Cert.KernelIdeal.Hand

open Cert.KernelIdeal Cert.KernelIdeal.Gen Facts
open Idealize.ShloMosaic Idealize.ShloMosaic.ValueIdx Idealize.ShloMosaic.StableHlo Idealize.ShloMosaic.TcCoe
open Cert.Model
open scoped BigOperators

/-- Row `a` of block `i` among the 8192 rows. -/
def row (i : Fin 8) (a : Fin 1024) : Fin 8192 := ⟨1024 * i.val + a.val, by have := i.isLt; have := a.isLt; omega⟩

/-! ## Pairs of blocks -/

/-- The real blocks of head `h`, query block `i` and key block `j`. -/
def blk (A : Args) (h i j : Fin 8) : Blk where
  q a e := pad256 (fun d => A.q (ix3 (row i a) h d) * A.scale) e
  k b e := pad256 (fun d => A.k (ix3 (row j b) h d)) e
  v b d := A.v (ix2 (row j b) (vcol h d))
  o a d := A.out h (row i a) d
  l a := A.M h (row i a) + Real.log (A.tot h (row i a))
  g a d := A.g (ix2 (row i a) (col h d))

/-- A product over padded rows is the product over the rows. -/
theorem sum_pad (f g : Fin 192 → ℝ) : ∑ e, pad256 f e * pad256 g e = ∑ d, f d * g d := by
  have h := Fin.sum_univ_add (fun e : Fin (192 + 64) => pad256 f e * pad256 g e)
  refine h.trans ?_
  have h0 : ∀ i : Fin 64, pad256 f (Fin.natAdd 192 i) * pad256 g (Fin.natAdd 192 i) = 0 := fun i => by
    unfold pad256
    rw [dif_neg (by show ¬(192 + i.val < 192); omega), zero_mul]
  rw [Finset.sum_congr rfl fun i _ => h0 i, Finset.sum_const_zero, add_zero]
  refine Finset.sum_congr rfl fun d _ => ?_
  unfold pad256
  rw [dif_pos (show (Fin.castAdd 64 d).val < 192 from d.isLt), dif_pos (show (Fin.castAdd 64 d).val < 192 from d.isLt)]
  rfl

theorem blk_p (A : Args) {h i j : Fin 8} {a b : Fin 1024} (hle : row j b ≤ row i a) : (blk A h i j).p a b = A.pr h (row i a) (row j b) := by
  rw [← pr_lse A hle]
  unfold Blk.p Args.sc
  congr 2
  show ∑ e, pad256 (fun d => A.q (ix3 (row i a) h d) * A.scale) e * pad256 (fun d => A.k (ix3 (row j b) h d)) e = _
  rw [sum_pad, Finset.sum_mul]
  exact Finset.sum_congr rfl fun d _ => by ring

theorem row_le {i j : Fin 8} (h : j < i) (a b : Fin 1024) : row j b ≤ row i a := by
  have h' : j.val < i.val := h
  have := b.isLt
  show 1024 * j.val + b.val ≤ 1024 * i.val + a.val
  omega

theorem row_le_same (i : Fin 8) (a b : Fin 1024) : row i b ≤ row i a ↔ b ≤ a := by
  show 1024 * i.val + b.val ≤ 1024 * i.val + a.val ↔ b.val ≤ a.val
  omega

theorem row_behind {i j : Fin 8} (h : i < j) (a b : Fin 1024) : ¬row j b ≤ row i a := by
  have h' : i.val < j.val := h
  have := a.isLt
  show ¬1024 * j.val + b.val ≤ 1024 * i.val + a.val
  omega

/-- Below the diagonal the block's weights are the softmax weights. -/
theorem blk_p_below (A : Args) {h i j : Fin 8} (hij : j < i) (a b : Fin 1024) : (blk A h i j).p a b = A.pr h (row i a) (row j b) :=
  blk_p A (row_le hij a b)

/-- On the diagonal the masked weights are the softmax weights. -/
theorem blk_pm_diag (A : Args) (h i : Fin 8) (a b : Fin 1024) : (blk A h i i).pm a b = A.pr h (row i a) (row i b) := by
  unfold Blk.pm
  split_ifs with hb
  · exact blk_p A ((row_le_same i a b).mpr hb)
  · exact (pr_behind A (fun hh => hb ((row_le_same i a b).mp hh))).symm

/-- With the softmax weights the block's scores' gradient is the scores' gradient. -/
theorem blk_ds (A : Args) {h i j : Fin 8} {p : Fin 1024 → Fin 1024 → ℝ} {a b : Fin 1024} (hp : p a b = A.pr h (row i a) (row j b)) :
    (blk A h i j).ds p a b = A.ds h (row i a) (row j b) := by
  simp only [Blk.ds, blk, Args.ds, Args.dp, Args.dl, hp]

end Cert.KernelIdeal.Hand

end
-- ==== Proof.Blocks.lean ====
/-
  The blocks that the attention gradient's kernel reads at a grid point are real blocks of the arguments.
-/
module

public import proofs.«01_k».proof.Proof.Prep
public import proofs.«01_k».proof.Proof.Pairs
public import proofs.«01_k».proof.Proof.Data

@[expose] public section

set_option maxRecDepth 16384

noncomputable section

namespace Cert.KernelIdeal.Hand

open Cert.KernelIdeal Cert.KernelIdeal.Gen Facts
open Idealize.ShloMosaic Idealize.ShloMosaic.ValueIdx Idealize.ShloMosaic.StableHlo Idealize.ShloMosaic.TcCoe
open Cert.Model
open scoped BigOperators

/-! ## The blocks at a grid point -/

/-- The head of a point, its key block, its query block, and the query block it reads. -/
def hd (t : Fin cfg0.N) : Fin 8 := ⟨t.val / 64 % 8, Nat.mod_lt _ (by decide)⟩
def kb (t : Fin cfg0.N) : Fin 8 := ⟨t.val / 8 % 8, Nat.mod_lt _ (by decide)⟩
def qb (t : Fin cfg0.N) : Fin 8 := ⟨t.val % 8, Nat.mod_lt _ (by decide)⟩
def qr (t : Fin cfg0.N) : Fin 8 := ⟨max (t.val % 8) (t.val / 8 % 8), by omega⟩

theorem coord0 (t : Fin cfg0.N) : (grid0.coords t 0).val = (hd t).val := Pipeline.Grid.coords_val t 0 (by decide) rfl
theorem coord1 (t : Fin cfg0.N) : (grid0.coords t 1).val = (kb t).val := Pipeline.Grid.coords_val t 1 (by decide) rfl
theorem coord2 (t : Fin cfg0.N) : (grid0.coords t 2).val = (qb t).val := coords_two t

theorem ofNat_small : ∀ a : Fin 8, (BitVec.ofNat 32 a.val).toNat = a.val := by decide
theorem ofNat_add8 : ∀ a : Fin 8, (Scalar.addi 8#32 (BitVec.ofNat 32 a.val)).toNat = 8 + a.val := by decide
theorem maxsi_small : ∀ a b : Fin 8, (Scalar.maxsi (BitVec.ofNat 32 a.val) (BitVec.ofNat 32 b.val)).toNat = max a.val b.val := by decide

theorem small0 (t : Fin cfg0.N) : (BitVec.ofNat 32 (grid0.coords t 0).val).toNat = (hd t).val := by rw [coord0]; exact ofNat_small _
theorem small1 (t : Fin cfg0.N) : (BitVec.ofNat 32 (grid0.coords t 1).val).toNat = (kb t).val := by rw [coord1]; exact ofNat_small _
theorem smallv (t : Fin cfg0.N) : (Scalar.addi 8#32 (BitVec.ofNat 32 (grid0.coords t 0).val)).toNat = 8 + (hd t).val := by rw [coord0]; exact ofNat_add8 _
theorem smallq (t : Fin cfg0.N) : (Scalar.maxsi (BitVec.ofNat 32 (grid0.coords t 2).val) (BitVec.ofNat 32 (grid0.coords t 1).val)).toNat = (qr t).val := by
  rw [coord1, coord2]; exact maxsi_small _ _

variable {A : Args} (m : (ℓ : Loc nD τ sig) → Buf (Elt Ideal) ℓ) (c : Dev nD)

/-- Where window 0's block lies in its array. -/
theorem w0_at (t : Fin cfg0.N) (a : Fin 1024) (e : Fin 256) (f : (⟨S8x8192x256, .bf16⟩ : BufTy).Contents (Elt Ideal)) :
    ((cfg0.win 0).blk t).view.read (Elt Ideal) f (ix3 (0 : Fin 1) a e) = f (ix3 (hd t) (row (qr t) a) e) := by
  rw [View.read_apply]
  show f _ = _
  congr 1
  refine ext3 ?_ ?_ ?_
  · show (BitVec.ofNat 32 (grid0.coords t 0).val).toNat * 1 + 1 * 0 = (hd t).val; rw [small0]; omega
  · show (Scalar.maxsi (BitVec.ofNat 32 (grid0.coords t 2).val) (BitVec.ofNat 32 (grid0.coords t 1).val)).toNat * 1024 + 1 * a.val = 1024 * (qr t).val + a.val
    rw [smallq]; omega
  · show 0 * 256 + 1 * e.val = e.val; omega

theorem b0_at (t : Fin cfg0.N) (a : Fin 1024) (e : Fin 256) : b0 m c t (ix3 (0 : Fin 1) a e) = V m c main_v49 (ix3 (hd t) (row (qr t) a) e) :=
  w0_at t a e (V m c main_v49)

/-- Where window 1's block lies in its array. -/
theorem w1_at (t : Fin cfg0.N) (a : Fin 1024) (e : Fin 256) (f : (⟨S8x8192x256, .bf16⟩ : BufTy).Contents (Elt Ideal)) :
    ((cfg0.win 1).blk t).view.read (Elt Ideal) f (ix3 (0 : Fin 1) a e) = f (ix3 (hd t) (row (kb t) a) e) := by
  rw [View.read_apply]
  show f _ = _
  congr 1
  refine ext3 ?_ ?_ ?_
  · show (BitVec.ofNat 32 (grid0.coords t 0).val).toNat * 1 + 1 * 0 = (hd t).val; rw [small0]; omega
  · show (BitVec.ofNat 32 (grid0.coords t 1).val).toNat * 1024 + 1 * a.val = 1024 * (kb t).val + a.val
    rw [small1]; omega
  · show 0 * 256 + 1 * e.val = e.val; omega

theorem b1_at (t : Fin cfg0.N) (a : Fin 1024) (e : Fin 256) : b1 m c t (ix3 (0 : Fin 1) a e) = V m c main_v52 (ix3 (hd t) (row (kb t) a) e) :=
  w1_at t a e (V m c main_v52)

/-- Where window 2's block lies in its array. -/
theorem w2_at (t : Fin cfg0.N) (a : Fin 1024) (d : Fin 128) (f : (⟨S8192x2048, .f32⟩ : BufTy).Contents (Elt Ideal)) :
    ((cfg0.win 2).blk t).view.read (Elt Ideal) f (ix2 a d) = f (ix2 (row (kb t) a) (vcol (hd t) d)) := by
  rw [View.read_apply]
  show f _ = _
  congr 1
  refine ext2 ?_ ?_
  · show (BitVec.ofNat 32 (grid0.coords t 1).val).toNat * 1024 + 1 * a.val = 1024 * (kb t).val + a.val
    rw [small1]; omega
  · show (Scalar.addi 8#32 (BitVec.ofNat 32 (grid0.coords t 0).val)).toNat * 128 + 1 * d.val = 1024 + (128 * (hd t).val + d.val)
    rw [smallv]; omega

theorem b2_at (t : Fin cfg0.N) (a : Fin 1024) (d : Fin 128) : b2 m c t (ix2 a d) = V m c main_arg2 (ix2 (row (kb t) a) (vcol (hd t) d)) :=
  w2_at t a d (V m c main_arg2)

/-- Where window 3's block lies in its array. -/
theorem w3_at (t : Fin cfg0.N) (a : Fin 1024) (d : Fin 128) (f : (⟨S8192x1024, .f32⟩ : BufTy).Contents (Elt Ideal)) :
    ((cfg0.win 3).blk t).view.read (Elt Ideal) f (ix2 a d) = f (ix2 (row (qr t) a) (col (hd t) d)) := by
  rw [View.read_apply]
  show f _ = _
  congr 1
  refine ext2 ?_ ?_
  · show (Scalar.maxsi (BitVec.ofNat 32 (grid0.coords t 2).val) (BitVec.ofNat 32 (grid0.coords t 1).val)).toNat * 1024 + 1 * a.val = 1024 * (qr t).val + a.val
    rw [smallq]; omega
  · show (BitVec.ofNat 32 (grid0.coords t 0).val).toNat * 128 + 1 * d.val = 128 * (hd t).val + d.val
    rw [small0]; omega

theorem b3_at (t : Fin cfg0.N) (a : Fin 1024) (d : Fin 128) : b3 m c t (ix2 a d) = V m c main_v35 (ix2 (row (qr t) a) (col (hd t) d)) :=
  w3_at t a d (V m c main_v35)

/-- Where window 4's block lies in its array. -/
theorem w4_at (t : Fin cfg0.N) (a : Fin 1024) (f : (⟨S8x8192x1, .f32⟩ : BufTy).Contents (Elt Ideal)) :
    ((cfg0.win 4).blk t).view.read (Elt Ideal) f (ix3 (0 : Fin 1) a (0 : Fin 1)) = f (ix3 (hd t) (row (qr t) a) (0 : Fin 1)) := by
  rw [View.read_apply]
  show f _ = _
  congr 1
  refine ext3 ?_ ?_ ?_
  · show (BitVec.ofNat 32 (grid0.coords t 0).val).toNat * 1 + 1 * 0 = (hd t).val; rw [small0]; omega
  · show (Scalar.maxsi (BitVec.ofNat 32 (grid0.coords t 2).val) (BitVec.ofNat 32 (grid0.coords t 1).val)).toNat * 1024 + 1 * a.val = 1024 * (qr t).val + a.val
    rw [smallq]; omega
  · show 0 * 1 + 1 * 0 = 0; rfl

theorem b4_at (t : Fin cfg0.N) (a : Fin 1024) : b4 m c t (ix3 (0 : Fin 1) a (0 : Fin 1)) = V m c main_v44 (ix3 (hd t) (row (qr t) a) (0 : Fin 1)) :=
  w4_at t a (V m c main_v44)

/-- Where window 5's block lies in its array. -/
theorem w5_at (t : Fin cfg0.N) (a : Fin 1024) (d : Fin 128) (f : (⟨S8192x1024, .f32⟩ : BufTy).Contents (Elt Ideal)) :
    ((cfg0.win 5).blk t).view.read (Elt Ideal) f (ix2 a d) = f (ix2 (row (qr t) a) (col (hd t) d)) := by
  rw [View.read_apply]
  show f _ = _
  congr 1
  refine ext2 ?_ ?_
  · show (Scalar.maxsi (BitVec.ofNat 32 (grid0.coords t 2).val) (BitVec.ofNat 32 (grid0.coords t 1).val)).toNat * 1024 + 1 * a.val = 1024 * (qr t).val + a.val
    rw [smallq]; omega
  · show (BitVec.ofNat 32 (grid0.coords t 0).val).toNat * 128 + 1 * d.val = 128 * (hd t).val + d.val
    rw [small0]; omega

theorem b5_at (t : Fin cfg0.N) (a : Fin 1024) (d : Fin 128) : b5 m c t (ix2 a d) = V m c main_arg3 (ix2 (row (qr t) a) (col (hd t) d)) :=
  w5_at t a d (V m c main_arg3)

/-- The launch's arrays hold the real arguments `A` on core `c`. -/
abbrev Holds (A : Args) : Prop :=
  Reads A (m ((c : Thread nD τ).loc main_arg0)) (m ((c : Thread nD τ).loc main_arg1)) (m ((c : Thread nD τ).loc main_arg2)) (m ((c : Thread nD τ).loc main_arg3))

/-- The blocks read at a point are real blocks of the arguments. -/
theorem reads_at (H : Holds m c A) (t : Fin cfg0.N) :
    BlkReads (blk A (hd t) (qr t) (kb t)) (b0 m c t) (b1 m c t) (b2 m c t) (b3 m c t) (b4 m c t) (b5 m c t) where
  q a e := by rw [b0_at, V_q]; exact rowsQ_real H _ _ e
  k a e := by rw [b1_at, V_k]; exact rowsK_real H _ _ e
  v a d := by rw [b2_at, V_main_arg2]; exact H.v (ix2 (row (kb t) a) (vcol (hd t) d))
  o a d := by rw [b3_at, V_o]; exact rowsO_real H _ _ d
  l a := by rw [b4_at, V_lse]; exact colLse_real H _ _
  g a d := by rw [b5_at, V_main_arg3]; exact H.g (ix2 (row (qr t) a) (col (hd t) d))

end Cert.KernelIdeal.Hand

end
-- ==== Proof.Sums.lean ====
/-
  The attention gradient's accumulators as real sums: each point adds one pair of blocks' product, a pair above the diagonal adds zero, and
  the whole sweep sums over all 8192 rows.
-/
module

public import proofs.«01_k».proof.Proof.Blocks

@[expose] public section

set_option maxRecDepth 16384

noncomputable section

namespace Cert.KernelIdeal.Hand

open Cert.KernelIdeal Cert.KernelIdeal.Gen Facts
open Idealize.ShloMosaic Idealize.ShloMosaic.ValueIdx Idealize.ShloMosaic.StableHlo Idealize.ShloMosaic.TcCoe
open Cert.Model
open scoped BigOperators

/-- What query block `i` adds to the gradient of key block `j`. -/
def addK (A : Args) (h j i : Fin 8) (b : Fin 1024) (e : Fin 256) : ℝ :=
  ∑ a, A.ds h (row i a) (row j b) * pad256 (fun d => A.q (ix3 (row i a) h d) * A.scale) e
/-- What query block `i` adds to the gradient of value block `j`. -/
def addV (A : Args) (h j i : Fin 8) (b : Fin 1024) (d : Fin 128) : ℝ :=
  ∑ a, A.pr h (row i a) (row j b) * A.g (ix2 (row i a) (col h d))
/-- What key block `j` adds to the gradient of query block `i`. -/
def addQ (A : Args) (h i j : Fin 8) (a : Fin 1024) (e : Fin 256) : ℝ :=
  (∑ b, A.ds h (row i a) (row j b) * pad256 (fun d => A.k (ix3 (row j b) h d)) e) * Cert.Model.scale

theorem addK_behind (A : Args) (h : Fin 8) {i j : Fin 8} (hij : i < j) (b : Fin 1024) (e : Fin 256) : addK A h j i b e = 0 :=
  Finset.sum_eq_zero fun a _ => by rw [ds_behind A (row_behind hij a b), zero_mul]
theorem addV_behind (A : Args) (h : Fin 8) {i j : Fin 8} (hij : i < j) (b : Fin 1024) (d : Fin 128) : addV A h j i b d = 0 :=
  Finset.sum_eq_zero fun a _ => by rw [pr_behind A (row_behind hij a b), zero_mul]
theorem addQ_behind (A : Args) (h : Fin 8) {i j : Fin 8} (hij : i < j) (a : Fin 1024) (e : Fin 256) : addQ A h i j a e = 0 := by
  unfold addQ
  rw [Finset.sum_eq_zero fun b _ => by rw [ds_behind A (row_behind hij a b), zero_mul], zero_mul]

variable {A : Args} {m : (ℓ : Loc nD τ sig) → Buf (Elt Ideal) ℓ} {c : Dev nD}

/-- Above no key block, the query block read is the point's own. -/
theorem reads_own (H : Holds m c A) (t : Fin cfg0.N) (hle : t.val / 8 % 8 ≤ t.val % 8) :
    BlkReads (blk A (hd t) (qb t) (kb t)) (b0 m c t) (b1 m c t) (b2 m c t) (b3 m c t) (b4 m c t) (b5 m c t) := by
  have R := reads_at m c H t
  rwa [show qr t = qb t from Fin.ext (by show max (t.val % 8) (t.val / 8 % 8) = t.val % 8; omega)] at R

theorem first1 (t : Fin cfg0.N) (s : Vec Ideal S1024x256 .f32) (i : S1024x256.Idx) :
    ((if isFirst (grid0.coords t) then k0_pay1 (F := Ideal) else s : Vec Ideal S1024x256 .f32) i : EReal) = if t.val % 8 = 0 then 0 else s i := by
  by_cases h : t.val % 8 = 0
  · rw [if_pos ((cond_first t).mpr h), if_pos h]; exact pay1_apply i
  · rw [if_neg (fun hh => h ((cond_first t).mp hh)), if_neg h]
theorem first2 (t : Fin cfg0.N) (s : Vec Ideal S1024x128 .f32) (i : S1024x128.Idx) :
    ((if isFirst (grid0.coords t) then k0_pay2 (F := Ideal) else s : Vec Ideal S1024x128 .f32) i : EReal) = if t.val % 8 = 0 then 0 else s i := by
  by_cases h : t.val % 8 = 0
  · rw [if_pos ((cond_first t).mpr h), if_pos h]; exact pay2_apply i
  · rw [if_neg (fun hh => h ((cond_first t).mp hh)), if_neg h]

theorem kb_lt (t : Fin cfg0.N) (h : t.val / 8 % 8 + 1 ≤ t.val % 8) : kb t < qb t := by
  show t.val / 8 % 8 < t.val % 8; omega

/-- One point's effect on the key gradients. -/
theorem dk_step (H : Holds m c A) (t : Fin cfg0.N) (s : Vec Ideal S1024x256 .f32) (b : Fin 1024) (e : Fin 256) :
    (dkNext (grid0.coords t) (b0 m c t) (b1 m c t) (b2 m c t) (b3 m c t) (b4 m c t) (b5 m c t) s (ix2 b e) : EReal)
      = (if t.val % 8 = 0 then 0 else s (ix2 b e)) + ((addK A (hd t) (kb t) (qb t) b e : ℝ) : EReal) := by
  unfold dkNext
  by_cases h2 : t.val / 8 % 8 + 1 ≤ t.val % 8
  · rw [if_pos ((cond_below t).mpr h2), pay3_real (reads_own H t (by omega)), first1]
    unfold addK
    rw [Finset.sum_congr rfl fun a _ => by rw [blk_ds A (blk_p_below A (kb_lt t h2) a b)]]
    rfl
  · rw [if_neg (fun hh => h2 ((cond_below t).mp hh))]
    by_cases h5 : t.val / 8 % 8 = t.val % 8
    · have R := reads_own H t (by omega)
      have hk : kb t = qb t := Fin.ext h5
      rw [if_pos ((cond_diag t).mpr h5), pay8_real R, first1]
      unfold addK
      rw [hk, Finset.sum_congr rfl fun a _ => by rw [blk_ds A (blk_pm_diag A (hd t) (qb t) a b)]]
      rfl
    · rw [if_neg (fun hh => h5 ((cond_diag t).mp hh)), first1,
        addK_behind A _ (show qb t < kb t by show t.val % 8 < t.val / 8 % 8; omega), EReal.coe_zero, add_zero]

/-- One point's effect on the value gradients. -/
theorem dv_step (H : Holds m c A) (t : Fin cfg0.N) (s : Vec Ideal S1024x128 .f32) (b : Fin 1024) (d : Fin 128) :
    (dvNext (grid0.coords t) (b0 m c t) (b1 m c t) (b4 m c t) (b5 m c t) s (ix2 b d) : EReal)
      = (if t.val % 8 = 0 then 0 else s (ix2 b d)) + ((addV A (hd t) (kb t) (qb t) b d : ℝ) : EReal) := by
  unfold dvNext
  by_cases h2 : t.val / 8 % 8 + 1 ≤ t.val % 8
  · rw [if_pos ((cond_below t).mpr h2), pay18_real (reads_own H t (by omega)), first2]
    unfold addV
    rw [Finset.sum_congr rfl fun a _ => by rw [blk_p_below A (kb_lt t h2) a b]]
    rfl
  · rw [if_neg (fun hh => h2 ((cond_below t).mp hh))]
    by_cases h5 : t.val / 8 % 8 = t.val % 8
    · have R := reads_own H t (by omega)
      have hk : kb t = qb t := Fin.ext h5
      rw [if_pos ((cond_diag t).mpr h5), pay25_real R, first2]
      unfold addV
      rw [hk, Finset.sum_congr rfl fun a _ => by rw [blk_pm_diag A (hd t) (qb t) a b]]
      rfl
    · rw [if_neg (fun hh => h5 ((cond_diag t).mp hh)), first2,
        addV_behind A _ (show qb t < kb t by show t.val % 8 < t.val / 8 % 8; omega), EReal.coe_zero, add_zero]

/-- One point's effect on the gradients of its query block. -/
theorem dq_step (H : Holds m c A) (t : Fin cfg0.N) (y : Vec Ideal S1x1024x256 .f32) (a : Fin 1024) (e : Fin 256) :
    (dqRow (grid0.coords t) (b0 m c t) (b1 m c t) (b2 m c t) (b3 m c t) (b4 m c t) (b5 m c t) y (ix3 (0 : Fin 1) a e) : EReal)
      = (if t.val / 8 % 8 = 0 then 0 else y (ix3 (0 : Fin 1) a e)) + ((addQ A (hd t) (qb t) (kb t) a e : ℝ) : EReal) := by
  unfold dqRow
  by_cases h2 : t.val / 8 % 8 + 1 ≤ t.val % 8
  · have E : (k0_pay4 (k0_pay15 (b1 m c t)) (k0_pay19 (b0 m c t) (b1 m c t) (b4 m c t) (b5 m c t) (b3 m c t) (b2 m c t)) (ix2 a e) : EReal)
        = ((addQ A (hd t) (qb t) (kb t) a e : ℝ) : EReal) := by
      rw [pay4_real (reads_own H t (by omega))]
      unfold addQ
      rw [Finset.sum_congr rfl fun b _ => by rw [blk_ds A (blk_p_below A (kb_lt t h2) a b)]]
      rfl
    rw [if_pos ((cond_below t).mpr h2)]
    by_cases h0 : t.val / 8 % 8 = 0
    · rw [if_pos ((cond3 t).mpr h0), if_pos h0, pay5_apply, zero_add]; exact E
    · rw [if_neg (fun hh => h0 ((cond3 t).mp hh)), if_neg h0, pay6_apply, E]
  · rw [if_neg (fun hh => h2 ((cond_below t).mp hh))]
    by_cases h5 : t.val / 8 % 8 = t.val % 8
    · have hk : kb t = qb t := Fin.ext h5
      have E : (k0_pay9 (k0_pay22 (b1 m c t)) (k0_pay26 (b0 m c t) (b1 m c t) (b4 m c t) (b5 m c t) (b3 m c t) (b2 m c t)) (ix2 a e) : EReal)
          = ((addQ A (hd t) (qb t) (kb t) a e : ℝ) : EReal) := by
        rw [pay9_real (reads_own H t (by omega))]
        unfold addQ
        rw [hk, Finset.sum_congr rfl fun b _ => by rw [blk_ds A (blk_pm_diag A (hd t) (qb t) a b)]]
        rfl
      rw [if_pos ((cond_diag t).mpr h5)]
      by_cases h0 : t.val / 8 % 8 = 0
      · rw [if_pos ((cond6 t).mpr h0), if_pos h0, pay10_apply, zero_add]; exact E
      · rw [if_neg (fun hh => h0 ((cond6 t).mp hh)), if_neg h0, pay11_apply, E]
    · rw [if_neg (fun hh => h5 ((cond_diag t).mp hh)), if_neg (show ¬t.val / 8 % 8 = 0 by omega),
        addQ_behind A _ (show qb t < kb t by show t.val % 8 < t.val / 8 % 8; omega), EReal.coe_zero, add_zero]

/-! ## The sweeps -/

/-- The block of index `n`, counted around. -/
def nb (n : ℕ) : Fin 8 := ⟨n % 8, Nat.mod_lt _ (by decide)⟩

/-- The grid point of head `h`, key block `j` and query block `i`. -/
theorem at_pt (h j : Fin 8) {i : ℕ} (hi : i < 8) :
    hd (pt (64 * h.val + 8 * j.val + i)) = h ∧ kb (pt (64 * h.val + 8 * j.val + i)) = j ∧ qb (pt (64 * h.val + 8 * j.val + i)) = nb i
      ∧ (pt (64 * h.val + 8 * j.val + i)).val % 8 = i ∧ (pt (64 * h.val + 8 * j.val + i)).val / 8 % 8 = j.val := by
  have hh := h.isLt; have hj := j.isLt
  have hv : (pt (64 * h.val + 8 * j.val + i)).val = 64 * h.val + 8 * j.val + i := Nat.mod_eq_of_lt (by omega)
  refine ⟨Fin.ext ?_, Fin.ext ?_, Fin.ext ?_, ?_, ?_⟩
  · show (pt _).val / 64 % 8 = h.val; rw [hv]; omega
  · show (pt _).val / 8 % 8 = j.val; rw [hv]; omega
  · show (pt _).val % 8 = i % 8; rw [hv]; omega
  · rw [hv]; omega
  · rw [hv]; omega

theorem dkS_at (H : Holds m c A) (h j : Fin 8) (b : Fin 1024) (e : Fin 256) (i : ℕ) (hi : i < 8) :
    (dkS m c (64 * h.val + 8 * j.val + i + 1) (ix2 b e) : EReal) = ((∑ n ∈ Finset.range (i + 1), addK A h j (nb n) b e : ℝ) : EReal) := by
  obtain ⟨e1, e2, e3, e4, -⟩ := at_pt h j hi
  rw [dkS, dk_step H, e1, e2, e3, e4, Finset.sum_range_succ]
  cases i with
  | zero => rw [if_pos rfl, Finset.sum_range_zero, zero_add, zero_add]
  | succ i => rw [if_neg (Nat.succ_ne_zero i), show 64 * h.val + 8 * j.val + (i + 1) = 64 * h.val + 8 * j.val + i + 1 from rfl,
      dkS_at H h j b e i (by omega), ← EReal.coe_add]

theorem dvS_at (H : Holds m c A) (h j : Fin 8) (b : Fin 1024) (d : Fin 128) (i : ℕ) (hi : i < 8) :
    (dvS m c (64 * h.val + 8 * j.val + i + 1) (ix2 b d) : EReal) = ((∑ n ∈ Finset.range (i + 1), addV A h j (nb n) b d : ℝ) : EReal) := by
  obtain ⟨e1, e2, e3, e4, -⟩ := at_pt h j hi
  rw [dvS, dv_step H, e1, e2, e3, e4, Finset.sum_range_succ]
  cases i with
  | zero => rw [if_pos rfl, Finset.sum_range_zero, zero_add, zero_add]
  | succ i => rw [if_neg (Nat.succ_ne_zero i), show 64 * h.val + 8 * j.val + (i + 1) = 64 * h.val + 8 * j.val + i + 1 from rfl,
      dvS_at H h j b d i (by omega), ← EReal.coe_add]

/-- Between its own points a query block keeps its gradients. -/
theorem dqS_keep (n r k : ℕ) (hk : ∀ x, x < k → (n + x) % 8 ≠ r) : dqS m c (n + k) r = dqS m c n r := by
  induction k with
  | zero => rfl
  | succ k ih =>
    rw [← Nat.add_assoc, dqS, if_neg (hk k (Nat.lt_succ_self k))]
    exact ih fun x hx => hk x (Nat.lt_succ_of_lt hx)

theorem dqS_at (H : Holds m c A) (h r : Fin 8) (a : Fin 1024) (e : Fin 256) (j : ℕ) (hj : j < 8) :
    (dqS m c (64 * h.val + 8 * j + r.val + 1) r.val (ix3 (0 : Fin 1) a e) : EReal)
      = ((∑ n ∈ Finset.range (j + 1), addQ A h r (nb n) a e : ℝ) : EReal) := by
  have hr := r.isLt
  obtain ⟨e1, e2, e3, -, e5⟩ := at_pt h ⟨j, hj⟩ hr
  have e3' : qb (pt (64 * h.val + 8 * j + r.val)) = r := e3.trans (Fin.ext (Nat.mod_eq_of_lt hr))
  have e2' : kb (pt (64 * h.val + 8 * j + r.val)) = nb j := e2.trans (Fin.ext (Nat.mod_eq_of_lt hj).symm)
  rw [dqS, if_pos (by omega), dq_step H, e1, e2', e3', Finset.sum_range_succ]
  cases j with
  | zero => rw [if_pos e5, Finset.sum_range_zero, zero_add, zero_add]
  | succ j =>
    rw [if_neg (fun hh => Nat.succ_ne_zero j (e5.symm.trans hh)),
      show 64 * h.val + 8 * (j + 1) + r.val = 64 * h.val + 8 * j + r.val + 1 + 7 by omega,
      dqS_keep _ r.val 7 (fun x hx => by omega), dqS_at H h r a e j (by omega), ← EReal.coe_add]

/-! ## Sums over all rows -/

theorem sum_nb (f : Fin 8 → ℝ) : ∑ n ∈ Finset.range 8, f (nb n) = ∑ i, f i := by
  rw [Finset.sum_range]
  exact Finset.sum_congr rfl fun i _ => congrArg f (Fin.ext (Nat.mod_eq_of_lt i.isLt))

theorem sum_rows (f : Fin 8192 → ℝ) : ∑ i, ∑ a, f (row i a) = ∑ q, f q := by
  rw [← Fintype.sum_prod_type']
  refine Fintype.sum_equiv (finProdFinEquiv (m := 8) (n := 1024)) _ _ fun x => congrArg f (Fin.ext ?_)
  show 1024 * x.1.val + x.2.val = x.2.val + 1024 * x.1.val
  omega

theorem pad_sum {n : ℕ} (w : Fin n → ℝ) (f : Fin n → Fin 192 → ℝ) (e : Fin 256) :
    ∑ q, w q * pad256 (f q) e = pad256 (fun d => ∑ q, w q * f q d) e := by
  unfold pad256
  split_ifs
  · rfl
  · exact Finset.sum_eq_zero fun q _ => mul_zero _

/-- The key gradients of block `j` after the sweep over the query blocks. -/
theorem dkS_last (H : Holds m c A) (h j : Fin 8) (b : Fin 1024) (e : Fin 256) :
    (dkS m c (64 * h.val + 8 * j.val + 8) (ix2 b e) : EReal) = ((pad256 (A.gk h (row j b)) e : ℝ) : EReal) := by
  rw [dkS_at H h j b e 7 (by decide), sum_nb (fun i => addK A h j i b e)]
  unfold addK
  rw [sum_rows (fun q => A.ds h q (row j b) * pad256 (fun d => A.q (ix3 q h d) * A.scale) e), pad_sum]
  congr 2
  funext d
  exact Finset.sum_congr rfl fun q _ => by ring

/-- The value gradients of block `j` after the sweep over the query blocks. -/
theorem dvS_last (H : Holds m c A) (h j : Fin 8) (b : Fin 1024) (d : Fin 128) :
    (dvS m c (64 * h.val + 8 * j.val + 8) (ix2 b d) : EReal) = ((A.gv h (row j b) d : ℝ) : EReal) := by
  rw [dvS_at H h j b d 7 (by decide), sum_nb (fun i => addV A h j i b d)]
  unfold addV
  rw [sum_rows (fun q => A.pr h q (row j b) * A.g (ix2 q (col h d)))]
  congr 1
  exact Finset.sum_congr rfl fun q _ => by ring

/-- The query gradients of block `r` after the head. -/
theorem dqS_last (H : Holds m c A) (h r : Fin 8) (a : Fin 1024) (e : Fin 256) :
    (dqS m c (64 * h.val + 64) r.val (ix3 (0 : Fin 1) a e) : EReal) = ((pad256 (A.gq h (row r a)) e : ℝ) : EReal) := by
  have hr := r.isLt
  have hs : A.scale = Cert.Model.scale := EReal.coe_injective (H.s.symm.trans scale_coe)
  rw [show 64 * h.val + 64 = 64 * h.val + 8 * 7 + r.val + 1 + (7 - r.val) by omega, dqS_keep _ r.val _ (fun x hx => by omega),
    dqS_at H h r a e 7 (by decide), sum_nb (fun j => addQ A h r j a e)]
  unfold addQ
  rw [← Finset.sum_mul, sum_rows (fun k => A.ds h (row r a) k * pad256 (fun d => A.k (ix3 k h d)) e), pad_sum]
  congr 1
  unfold pad256
  split_ifs with he
  · rw [Finset.sum_mul]
    exact Finset.sum_congr rfl fun k _ => by rw [hs]; ring
  · exact zero_mul _

end Cert.KernelIdeal.Hand

end
-- ==== Proof.Body.lean ====
/-
  The attention gradient's kernel body, run once for the idealized program at any float values: what one grid point leaves in
  the two scratch accumulators and in the three output windows, as functions of what it found there and of its input blocks.
-/
module

public import proofs.«01_k».proof.Proof.Step
public import proofs.«01_k».proof.Proof.Gen.KernelIdeal.Frame
public import proofs.«01_k».proof.Proof.Gen.KernelIdeal.Skeleton
public import Idealize.ShloMosaic.Lib.Pipeline.DatRel
public import Idealize.ShloMosaic.Lib.Pipeline.ArrRel
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

/-! ## Reading a whole buffer back -/

section Reads

variable {κ : Kind} {sp : Space} {e : EltTy} {Val : EltTy → Type}

/-- A load of the whole buffer reads what the buffer reads. -/
theorem ld_1024x256x1 (v : View sig κ sp S1x1024x256 e) (f : v.ty.Contents Val) :
    v.readAt Val (Rect.unit ![0, 0, 0] ![1, 1024, 256] inb_S1x1024x256_S1x1024x256_0_0_0).toLoadRect f = v.read Val f :=
  View.readAt_full v f _
theorem ld_1024x1x1 (v : View sig κ sp S1x1024x1 e) (f : v.ty.Contents Val) :
    v.readAt Val (Rect.unit ![0, 0, 0] ![1, 1024, 1] inb_S1x1024x1_S1x1024x1_0_0_0).toLoadRect f = v.read Val f :=
  View.readAt_full v f _
theorem ld_1024x128 (v : View sig κ sp S1024x128 e) (f : v.ty.Contents Val) :
    v.readAt Val (Rect.unit ![0, 0] ![1024, 128] inb_S1024x128_S1024x128_0_0).toLoadRect f = v.read Val f :=
  View.readAt_full v f _
theorem ld_1024x256 (v : View sig κ sp S1024x256 e) (f : v.ty.Contents Val) :
    v.readAt Val (Rect.unit ![0, 0] ![1024, 256] inb_S1024x256_S1024x256_0_0).toLoadRect f = v.read Val f :=
  View.readAt_full v f _

/-- After a store of the whole buffer the buffer reads the payload. -/
theorem st_1024x256x1 (v : View sig κ sp S1x1024x256 e) (f : v.ty.Contents Val) (w : S1x1024x256.Idx → Val e) (L : List (View.Piece Val S1x1024x256 e)) :
    v.read Val (v.writes Val f (⟨Rect.unit ![0, 0, 0] ![1, 1024, 256] inb_S1x1024x256_S1x1024x256_0_0_0, w⟩ :: L)) = w :=
  View.read_writes_full v f _ w L
theorem st_1024x256 (v : View sig κ sp S1024x256 e) (f : v.ty.Contents Val) (w : S1024x256.Idx → Val e) (L : List (View.Piece Val S1024x256 e)) :
    v.read Val (v.writes Val f (⟨Rect.unit ![0, 0] ![1024, 256] inb_S1024x256_S1024x256_0_0, w⟩ :: L)) = w :=
  View.read_writes_full v f _ w L
theorem st_1024x128 (v : View sig κ sp S1024x128 e) (f : v.ty.Contents Val) (w : S1024x128.Idx → Val e) (L : List (View.Piece Val S1024x128 e)) :
    v.read Val (v.writes Val f (⟨Rect.unit ![0, 0] ![1024, 128] inb_S1024x128_S1024x128_0_0, w⟩ :: L)) = w :=
  View.read_writes_full v f _ w L

/-- A load of the whole buffer after a store of the whole buffer reads the payload. -/
theorem cov_1024x256 [∀ e, Nonempty (Val e)] (v : View sig κ sp S1024x256 e) (w : S1024x256.Idx → Val e) (L : List (View.Piece Val S1024x256 e)) :
    v.readCov (⟨Rect.unit ![0, 0] ![1024, 256] inb_S1024x256_S1024x256_0_0, w⟩ :: L)
      (Rect.unit ![0, 0] ![1024, 256] inb_S1024x256_S1024x256_0_0).toLoadRect = w :=
  View.readCov_full v _ _ w L
theorem cov_1024x128 [∀ e, Nonempty (Val e)] (v : View sig κ sp S1024x128 e) (w : S1024x128.Idx → Val e) (L : List (View.Piece Val S1024x128 e)) :
    v.readCov (⟨Rect.unit ![0, 0] ![1024, 128] inb_S1024x128_S1024x128_0_0, w⟩ :: L)
      (Rect.unit ![0, 0] ![1024, 128] inb_S1024x128_S1024x128_0_0).toLoadRect = w :=
  View.readCov_full v _ _ w L

end Reads

/-- What the body is handed and hands back, each buffer at its contents. -/
abbrev held (c : Dev nD) (arg3 arg4 : Memref sig .tc .vmem S1x1024x256 .bf16) (arg5 arg6 : Memref sig .tc .vmem S1024x128 .f32)
    (arg7 : Memref sig .tc .vmem S1x1024x1 .f32) (arg8 : Memref sig .tc .vmem S1024x128 .f32)
    (arg9 : Memref sig .tc .vmem S1x8192x256 .f32) (arg10 : Memref sig .tc .vmem S1x1024x256 .f32) (arg11 : Memref sig .tc .vmem S1024x128 .bf16)
    (arg12 : Memref sig .tc .vmem S1024x256 .f32) (arg13 : Memref sig .tc .vmem S1024x128 .f32)
    (x0 x1 : Vec F S1x1024x256 .bf16) (x2 x3 : Vec F S1024x128 .f32) (x4 : Vec F S1x1024x1 .f32) (x5 : Vec F S1024x128 .f32)
    (y6 : Vec F S1x8192x256 .f32) (y7 : Vec F S1x1024x256 .f32) (y8 : Vec F S1024x128 .bf16)
    (s0 : Vec F S1024x256 .f32) (s1 : Vec F S1024x128 .f32) : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare x4 ∗ owns (c : Thread nD τ) arg8 fullShare x5
    ∗ owns (c : Thread nD τ) arg9 fullShare y6 ∗ owns (c : Thread nD τ) arg10 fullShare y7 ∗ owns (c : Thread nD τ) arg11 fullShare y8
    ∗ owns (c : Thread nD τ) arg12 fullShare s0 ∗ owns (c : Thread nD τ) arg13 fullShare s1)

set_option maxHeartbeats 4000000 in
/-- The body's triple: from whole buffers at any contents to the contents named above. -/
theorem bodyRun (c : Dev nD) (i : grid0.Coords)
    (arg3 : Memref sig .tc .vmem S1x1024x256 .bf16) (harg3 : arg3.IsWhole) (arg4 : Memref sig .tc .vmem S1x1024x256 .bf16) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S1x1024x1 .f32) (harg7 : arg7.IsWhole) (arg8 : Memref sig .tc .vmem S1024x128 .f32) (harg8 : arg8.IsWhole)
    (arg9 : Memref sig .tc .vmem S1x8192x256 .f32) (harg9 : arg9.IsWhole) (arg10 : Memref sig .tc .vmem S1x1024x256 .f32) (harg10 : arg10.IsWhole)
    (arg11 : Memref sig .tc .vmem S1024x128 .bf16) (harg11 : arg11.IsWhole) (arg12 : Memref sig .tc .vmem S1024x256 .f32) (harg12 : arg12.IsWhole)
    (arg13 : Memref sig .tc .vmem S1024x128 .f32) (harg13 : arg13.IsWhole)
    (hcases : (k0_cond2 i = 1#1 ∧ ¬k0_cond5 i = 1#1 ∧ k0_cond3 i = 1#1 ∧ ¬k0_cond4 i = 1#1 ∧ ¬isFirst i ∧ k0_cond8 i = 1#1)
      ∨ (k0_cond2 i = 1#1 ∧ ¬k0_cond5 i = 1#1 ∧ k0_cond3 i = 1#1 ∧ ¬k0_cond4 i = 1#1 ∧ ¬isFirst i ∧ ¬k0_cond8 i = 1#1)
      ∨ (k0_cond2 i = 1#1 ∧ ¬k0_cond5 i = 1#1 ∧ ¬k0_cond3 i = 1#1 ∧ k0_cond4 i = 1#1 ∧ ¬isFirst i ∧ k0_cond8 i = 1#1)
      ∨ (k0_cond2 i = 1#1 ∧ ¬k0_cond5 i = 1#1 ∧ ¬k0_cond3 i = 1#1 ∧ k0_cond4 i = 1#1 ∧ ¬isFirst i ∧ ¬k0_cond8 i = 1#1)
      ∨ (¬k0_cond2 i = 1#1 ∧ k0_cond5 i = 1#1 ∧ k0_cond6 i = 1#1 ∧ ¬k0_cond7 i = 1#1 ∧ isFirst i ∧ ¬k0_cond8 i = 1#1)
      ∨ (¬k0_cond2 i = 1#1 ∧ k0_cond5 i = 1#1 ∧ ¬k0_cond6 i = 1#1 ∧ k0_cond7 i = 1#1 ∧ ¬isFirst i ∧ k0_cond8 i = 1#1)
      ∨ (¬k0_cond2 i = 1#1 ∧ k0_cond5 i = 1#1 ∧ ¬k0_cond6 i = 1#1 ∧ k0_cond7 i = 1#1 ∧ ¬isFirst i ∧ ¬k0_cond8 i = 1#1)
      ∨ (¬k0_cond2 i = 1#1 ∧ ¬k0_cond5 i = 1#1 ∧ True ∧ True ∧ isFirst i ∧ ¬k0_cond8 i = 1#1)
      ∨ (¬k0_cond2 i = 1#1 ∧ ¬k0_cond5 i = 1#1 ∧ True ∧ True ∧ ¬isFirst i ∧ ¬k0_cond8 i = 1#1))
    (x0 x1 : Vec F S1x1024x256 .bf16) (x2 x3 : Vec F S1024x128 .f32) (x4 : Vec F S1x1024x1 .f32) (x5 : Vec F S1024x128 .f32)
    (y6 : Vec F S1x8192x256 .f32) (y7 : Vec F S1x1024x256 .f32) (y8 : Vec F S1024x128 .bf16)
    (s0 : Vec F S1024x256 .f32) (s1 : Vec F S1024x128 .f32) (E : Set ℕ) (K : PUnit → sProp 𝕄) :
    iprop(held c arg3 arg4 arg5 arg6 arg7 arg8 arg9 arg10 arg11 arg12 arg13 x0 x1 x2 x3 x4 x5 y6 y7 y8 s0 s1
        ∗ (held c arg3 arg4 arg5 arg6 arg7 arg8 arg9 arg10 arg11 arg12 arg13 x0 x1 x2 x3 x4 x5 (dqNext i x0 x1 x2 x3 x4 x5 y6)
              (if k0_cond8 i = 1#1 then k0_pay12 (dkNext i x0 x1 x2 x3 x4 x5 s0) else y7)
              (if k0_cond8 i = 1#1 then k0_pay13 (dvNext i x0 x1 x4 x5 s1) else y8)
              (dkNext i x0 x1 x2 x3 x4 x5 s0) (dvNext i x0 x1 x4 x5 s1) -∗ K ⟨⟩))
      ⊢ wp frame (wpE (defs₀ (F := F)) Variants.none c none) E
          (cc0_l0_mix_attn_bwd i arg3 harg3 arg4 harg4 arg5 harg5 arg6 harg6 arg7 harg7 arg8 harg8 arg9 harg9 arg10 harg10 arg11 harg11 arg12 harg12 arg13 harg13) K := by
  simp only [cc0_l0_mix_attn_bwd_eq_skeleton]; unfold cc0_l0_mix_attn_bwd_skel
  simp only [k0_part1_eq_skeleton, k0_part2_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  obtain rfl := harg12.eq_unread hfs0; obtain rfl := harg13.eq_unread hfs1
  rcases hcases with ⟨h2, h5, ha, hb, c1, c8⟩ | ⟨h2, h5, ha, hb, c1, c8⟩ | ⟨h2, h5, ha, hb, c1, c8⟩ | ⟨h2, h5, ha, hb, c1, c8⟩ | ⟨h2, h5, ha, hb, c1, c8⟩ | ⟨h2, h5, ha, hb, c1, c8⟩ | ⟨h2, h5, ha, hb, c1, c8⟩ | ⟨h2, h5, ha, hb, c1, c8⟩ | ⟨h2, h5, ha, hb, c1, c8⟩
  all_goals
    sl_exec (disch := first | sl_exact c1 | sl_exact c8 | sl_exact h2 | sl_exact h5 | sl_exact ha | sl_exact hb)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr
      swap; · iexact H6
      ipureintro
      sl_unfold_run_names
      simp only [dqNext, h2, h5, ha, not_false_eq_true, if_true, if_false, ld_1024x256x1, ld_1024x1x1, ld_1024x128, ld_1024x256, hf0, hf1, hf2, hf3, hf4, hf5]
      try (first
        | rw [View.read_writes_cons_put _ _ _ _ _ (off1_eq i)]
        | rw [View.read_writes_cons_put _ _ _ _ _ (off2_eq i)]
        | rw [View.read_writes_cons_put _ _ _ _ _ (off3_eq i)]
        | rw [View.read_writes_cons_put _ _ _ _ _ (off4_eq i)])
      try (first
        | rw [View.readAt_unit _ _ _ (off2_eq i) (rowOff_inb i)]
        | rw [View.readAt_unit _ _ _ (off4_eq i) (rowOff_inb i)])
      simp only [View.writes_nil, hf6]
    isplitl [H7]
    · iexists _; isplitr
      swap; · iexact H7
      ipureintro
      sl_unfold_run_names
      simp only [dkNext, isFirst, h2, h5, c1, c8, not_false_eq_true, if_true, if_false, ld_1024x256x1, ld_1024x1x1, ld_1024x128, ld_1024x256, st_1024x256x1, cov_1024x256, hf0, hf1, hf2, hf3, hf4, hf5, hf7, hfs0]
    isplitl [H8]
    · iexists _; isplitr
      swap; · iexact H8
      ipureintro
      sl_unfold_run_names
      simp only [dvNext, isFirst, h2, h5, c1, c8, not_false_eq_true, if_true, if_false, ld_1024x256x1, ld_1024x1x1, ld_1024x128, ld_1024x256, st_1024x128, cov_1024x128, hf0, hf1, hf2, hf3, hf4, hf5, hf8, hfs1]
    isplitl [HS0]
    · iexists _; isplitr
      swap; · iexact HS0
      ipureintro
      sl_unfold_run_names
      simp only [dkNext, isFirst, h2, h5, c1, not_false_eq_true, if_true, if_false, ld_1024x256x1, ld_1024x1x1, ld_1024x128, ld_1024x256, st_1024x256, cov_1024x256, hf0, hf1, hf2, hf3, hf4, hf5, hfs0]
    iexists _; isplitr
    swap; · iexact HS1
    ipureintro
    sl_unfold_run_names
    simp only [dvNext, isFirst, h2, h5, c1, not_false_eq_true, if_true, if_false, ld_1024x256x1, ld_1024x1x1, ld_1024x128, ld_1024x256, st_1024x128, cov_1024x128, hf0, hf1, hf2, hf3, hf4, hf5, hfs1]

end Cert.KernelIdeal.Hand

end
-- ==== Proof.Run.lean ====
/-
  The run of the attention gradient's kernel, at any float values: it ends, its arguments' arrays unchanged and every counter zero, with the
  outputs' blocks at the values of Data.lean.
-/
module

public import proofs.«01_k».proof.Proof.Body
public import proofs.«01_k».proof.Proof.Data
public import proofs.«01_k».proof.Proof.Gen.KernelIdeal.Skeleton
public import Idealize.ShloMosaic.Lib.Pipeline.DatRel
public import Idealize.ShloMosaic.Lib.Pipeline.ArrRel
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

variable (m : (ℓ : Loc nD τ sig) → Buf (Elt F) ℓ) (c : Dev nD)

/-! ## The proof data -/

/-- The outputs' windows, held to a predicate. -/
def outs : Fin 9 → Bool := fun w => w.val == 6 || w.val == 7 || w.val == 8

/-- What the body leaves in the outputs' windows at point `t`. -/
def Rl (w : Fin cfg0.W) (t : Fin cfg0.N) : ((cfg0.win w).block.Idx → Elt F (cfg0.win w).elt) → Prop :=
  match w with
  | ⟨6, _⟩ => fun X => holdsDq m c t X
  | ⟨7, _⟩ => fun X => t.val % 8 = 7 → X = k0_pay12 (dkS m c (t.val + 1))
  | ⟨8, _⟩ => fun X => t.val % 8 = 7 → X = k0_pay13 (dvS m c (t.val + 1))
  | ⟨0, _⟩ | ⟨1, _⟩ | ⟨2, _⟩ | ⟨3, _⟩ | ⟨4, _⟩ | ⟨5, _⟩ => fun _ => True

abbrev scM0_0 : Memref sig .tc .vmem S1024x256 .f32 := Memref.whole cc0_scratch0
abbrev scM0_1 : Memref sig .tc .vmem S1024x128 .f32 := Memref.whole cc0_scratch1

/-- The scratch accumulators before point `n`, and the core's random-number register at something. -/
def Phi (n : ℕ) : sProp 𝕄 :=
  iprop(∃ d0, ∃ d1, ⌜n ≠ 0 → d0 = dkS m c n ∧ d1 = dvS m c n⌝ ∗ owns (c : Thread nD τ) scM0_0 fullShare d0 ∗ owns (c : Thread nD τ) scM0_1 fullShare d1
    ∗ (∃ r, prngReg c r))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := Phi m c t.val
  q _ := fullShare
  owed _ := 0

/-- The same read as relational data, the outputs held to `Rl`. -/
abbrev rdat (c : Dev nD) : Pipeline.RDat τ (Elt F) Unit ℕ (UR sig nD τ) ℕ cfg0 c := (dats m 0 c).toRRel outs (Rl m c)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t := before0_0_of m _ (A_eq m c 0) (after0_0 m c) t d
theorem before0_1 (c : Dev nD) (t : Fin cfg0.N) (d) : (dats m 0 c).before 1 t d = iblk m c 1 t := before0_1_of m _ (A_eq m c 1) (after0_1 m c) t d
theorem before0_2 (c : Dev nD) (t : Fin cfg0.N) (d) : (dats m 0 c).before 2 t d = iblk m c 2 t := before0_2_of m _ (A_eq m c 2) (after0_2 m c) t d
theorem before0_3 (c : Dev nD) (t : Fin cfg0.N) (d) : (dats m 0 c).before 3 t d = iblk m c 3 t := before0_3_of m _ (A_eq m c 3) (after0_3 m c) t d
theorem before0_4 (c : Dev nD) (t : Fin cfg0.N) (d) : (dats m 0 c).before 4 t d = iblk m c 4 t := before0_4_of m _ (A_eq m c 4) (after0_4 m c) t d
theorem before0_5 (c : Dev nD) (t : Fin cfg0.N) (d) : (dats m 0 c).before 5 t d = iblk m c 5 t := before0_5_of m _ (A_eq m c 5) (after0_5 m c) t d

/-! ## The body obligation -/

/-- What the body may find in the query gradients' window. -/
theorem finds_dq (c : Dev nD) (t : Fin cfg0.N) (Y : Vec F S1x8192x256 .f32) (h : (rdat m c).Finds 6 t Y) (u : Fin cfg0.N) (hu : u.val + 1 = t.val)
    (h64 : t.val % 64 ≠ 0) : holdsDq m c u Y := by
  have ht : t.val ≠ 0 := by omega
  have e : (⟨t.val - 1, Nat.lt_of_le_of_lt (Nat.sub_le _ _) t.isLt⟩ : Fin cfg0.N) = u := Fin.ext (by show t.val - 1 = u.val; omega)
  rcases ((rdat m c).finds_of_pos (w := 6) rfl ht Y).mp h with h | h
  · rw [e] at h
    have := (flush0_6 u).mp h
    omega
  · rw [e] at h
    exact (dats m 0 c).toRRel_leaves (w := 6) rfl h

theorem cases_at (t : Fin cfg0.N) :
    (k0_cond2 (grid0.coords t) = 1#1 ∧ ¬k0_cond5 (grid0.coords t) = 1#1 ∧ k0_cond3 (grid0.coords t) = 1#1 ∧ ¬k0_cond4 (grid0.coords t) = 1#1 ∧ ¬isFirst (grid0.coords t) ∧ k0_cond8 (grid0.coords t) = 1#1)
      ∨ (k0_cond2 (grid0.coords t) = 1#1 ∧ ¬k0_cond5 (grid0.coords t) = 1#1 ∧ k0_cond3 (grid0.coords t) = 1#1 ∧ ¬k0_cond4 (grid0.coords t) = 1#1 ∧ ¬isFirst (grid0.coords t) ∧ ¬k0_cond8 (grid0.coords t) = 1#1)
      ∨ (k0_cond2 (grid0.coords t) = 1#1 ∧ ¬k0_cond5 (grid0.coords t) = 1#1 ∧ ¬k0_cond3 (grid0.coords t) = 1#1 ∧ k0_cond4 (grid0.coords t) = 1#1 ∧ ¬isFirst (grid0.coords t) ∧ k0_cond8 (grid0.coords t) = 1#1)
      ∨ (k0_cond2 (grid0.coords t) = 1#1 ∧ ¬k0_cond5 (grid0.coords t) = 1#1 ∧ ¬k0_cond3 (grid0.coords t) = 1#1 ∧ k0_cond4 (grid0.coords t) = 1#1 ∧ ¬isFirst (grid0.coords t) ∧ ¬k0_cond8 (grid0.coords t) = 1#1)
      ∨ (¬k0_cond2 (grid0.coords t) = 1#1 ∧ k0_cond5 (grid0.coords t) = 1#1 ∧ k0_cond6 (grid0.coords t) = 1#1 ∧ ¬k0_cond7 (grid0.coords t) = 1#1 ∧ isFirst (grid0.coords t) ∧ ¬k0_cond8 (grid0.coords t) = 1#1)
      ∨ (¬k0_cond2 (grid0.coords t) = 1#1 ∧ k0_cond5 (grid0.coords t) = 1#1 ∧ ¬k0_cond6 (grid0.coords t) = 1#1 ∧ k0_cond7 (grid0.coords t) = 1#1 ∧ ¬isFirst (grid0.coords t) ∧ k0_cond8 (grid0.coords t) = 1#1)
      ∨ (¬k0_cond2 (grid0.coords t) = 1#1 ∧ k0_cond5 (grid0.coords t) = 1#1 ∧ ¬k0_cond6 (grid0.coords t) = 1#1 ∧ k0_cond7 (grid0.coords t) = 1#1 ∧ ¬isFirst (grid0.coords t) ∧ ¬k0_cond8 (grid0.coords t) = 1#1)
      ∨ (¬k0_cond2 (grid0.coords t) = 1#1 ∧ ¬k0_cond5 (grid0.coords t) = 1#1 ∧ True ∧ True ∧ isFirst (grid0.coords t) ∧ ¬k0_cond8 (grid0.coords t) = 1#1)
      ∨ (¬k0_cond2 (grid0.coords t) = 1#1 ∧ ¬k0_cond5 (grid0.coords t) = 1#1 ∧ True ∧ True ∧ ¬isFirst (grid0.coords t) ∧ ¬k0_cond8 (grid0.coords t) = 1#1) := by
  simp only [cond_first, cond_below, cond_diag, cond3, cond6, cond4, cond7, cond_last]
  have hi : t.val % 8 < 8 := Nat.mod_lt _ (by decide)
  have hj : t.val / 8 % 8 < 8 := Nat.mod_lt _ (by decide)
  generalize t.val % 8 = i at hi ⊢
  generalize t.val / 8 % 8 = j at hj ⊢
  rcases Nat.lt_trichotomy j i with h | h | h
  · by_cases h0 : j = 0 <;> by_cases h7 : i = 7
    · exact .inl ⟨by omega, by omega, by omega, by omega, by omega, by omega⟩
    · exact .inr (.inl ⟨by omega, by omega, by omega, by omega, by omega, by omega⟩)
    · exact .inr (.inr (.inl ⟨by omega, by omega, by omega, by omega, by omega, by omega⟩))
    · exact .inr (.inr (.inr (.inl ⟨by omega, by omega, by omega, by omega, by omega, by omega⟩)))
  · by_cases h0 : j = 0
    · exact .inr (.inr (.inr (.inr (.inl ⟨by omega, by omega, by omega, by omega, by omega, by omega⟩))))
    · by_cases h7 : i = 7
      · exact .inr (.inr (.inr (.inr (.inr (.inl ⟨by omega, by omega, by omega, by omega, by omega, by omega⟩)))))
      · exact .inr (.inr (.inr (.inr (.inr (.inr (.inl ⟨by omega, by omega, by omega, by omega, by omega, by omega⟩))))))
  · by_cases h0 : i = 0
    · exact .inr (.inr (.inr (.inr (.inr (.inr (.inr (.inl ⟨by omega, by omega, trivial, trivial, by omega, by omega⟩)))))))
    · exact .inr (.inr (.inr (.inr (.inr (.inr (.inr (.inr ⟨by omega, by omega, trivial, trivial, by omega, by omega⟩)))))))

theorem sound_body (c : Dev nD) (t : Fin cfg0.N) :
    iprop((dats m 0 c).Φ t.castSucc ∗ (dats m 0 c).owesAt () t.castSucc
        ∗ (∃ d, owns c ((cfg0.win 0).stage (cfg0.slots t 0)) fullShare ((dats m 0 c).before 0 t d))
        ∗ (∃ d, owns c ((cfg0.win 1).stage (cfg0.slots t 1)) fullShare ((dats m 0 c).before 1 t d))
        ∗ (∃ d, owns c ((cfg0.win 2).stage (cfg0.slots t 2)) fullShare ((dats m 0 c).before 2 t d))
        ∗ (∃ d, owns c ((cfg0.win 3).stage (cfg0.slots t 3)) fullShare ((dats m 0 c).before 3 t d))
        ∗ (∃ d, owns c ((cfg0.win 4).stage (cfg0.slots t 4)) fullShare ((dats m 0 c).before 4 t d))
        ∗ (∃ d, owns c ((cfg0.win 5).stage (cfg0.slots t 5)) fullShare ((dats m 0 c).before 5 t d))
        ∗ (∃ Y, ⌜(rdat m c).Finds 6 t Y⌝ ∗ owns c ((cfg0.win 6).stage (cfg0.slots t 6)) fullShare Y)
        ∗ (∃ Y, ⌜(rdat m c).Finds 7 t Y⌝ ∗ owns c ((cfg0.win 7).stage (cfg0.slots t 7)) fullShare Y)
        ∗ (∃ Y, ⌜(rdat m c).Finds 8 t Y⌝ ∗ owns c ((cfg0.win 8).stage (cfg0.slots t 8)) fullShare Y))
      ⊢ wp frame (wpE (defs₀ (F := F)) Variants.none c none) Set.univ (bodyAt0 t) (fun _ =>
        iprop((dats m 0 c).Φ t.succ ∗ (dats m 0 c).owesAt () t.succ
        ∗ owns c ((cfg0.win 0).stage (cfg0.slots t 0)) fullShare ((dats m 0 c).after 0 t)
        ∗ owns c ((cfg0.win 1).stage (cfg0.slots t 1)) fullShare ((dats m 0 c).after 1 t)
        ∗ owns c ((cfg0.win 2).stage (cfg0.slots t 2)) fullShare ((dats m 0 c).after 2 t)
        ∗ owns c ((cfg0.win 3).stage (cfg0.slots t 3)) fullShare ((dats m 0 c).after 3 t)
        ∗ owns c ((cfg0.win 4).stage (cfg0.slots t 4)) fullShare ((dats m 0 c).after 4 t)
        ∗ owns c ((cfg0.win 5).stage (cfg0.slots t 5)) fullShare ((dats m 0 c).after 5 t)
        ∗ (∃ X, ⌜Rl m c 6 t X⌝ ∗ owns c ((cfg0.win 6).stage (cfg0.slots t 6)) fullShare X)
        ∗ (∃ X, ⌜Rl m c 7 t X⌝ ∗ owns c ((cfg0.win 7).stage (cfg0.slots t 7)) fullShare X)
        ∗ (∃ X, ⌜Rl m c 8 t X⌝ ∗ owns c ((cfg0.win 8).stage (cfg0.slots t 8)) fullShare X))) := by
  simp only [before0_0, before0_1, before0_2, before0_3, before0_4, before0_5, after0_0, after0_1, after0_2, after0_3, after0_4, after0_5]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  unfold Phi bodyAt0
  iintro ⟨⟨%s0, %s1, %hs, HS0, HS1, Hg⟩, Ho, ⟨%d0, H0⟩, ⟨%d1, H1⟩, ⟨%d2, H2⟩, ⟨%d3, H3⟩, ⟨%d4, H4⟩, ⟨%d5, H5⟩, ⟨%y6, %h6, H6⟩, ⟨%y7, %h7, H7⟩, ⟨%y8, %h8, H8⟩⟩
  iapply (bodyRun c (grid0.coords t) _ _ _ _ _ _ _ _ _ _ _ _ _ _ _ _ _ _ scM0_0 (Memref.isWhole_whole _) scM0_1 (Memref.isWhole_whole _) (cases_at t)
    (b0 m c t) (b1 m c t) (b2 m c t) (b3 m c t) (b4 m c t) (b5 m c t) y6 y7 y8 s0 s1 Set.univ _)
  unfold held
  isplitl [H0 H1 H2 H3 H4 H5 H6 H7 H8 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    iexact HS1
  iintro ⟨H0, H1, H2, H3, H4, H5, H6, H7, H8, HS0, HS1⟩
  isplitl [HS0 HS1 Hg]
  · iexists _; iexists _
    isplitr
    swap
    · isplitl [HS0]; · iexact HS0
      isplitl [HS1]; · iexact HS1
      iexact Hg
    ipureintro
    exact fun _ => ⟨dkS_succ m c t s0 fun h => (hs h).1, dvS_succ m c t s1 fun h => (hs h).2⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro
    exact holdsDq_next m c t y6 (finds_dq m c t y6 h6)
  isplitl [H7]
  · iexists _; isplitr
    swap; · iexact H7
    ipureintro
    show t.val % 8 = 7 → _
    intro h
    rw [if_pos ((cond_last t).mpr h), dkS_succ m c t s0 fun h => (hs h).1]
  · iexists _; isplitr
    swap; · iexact H8
    ipureintro
    show t.val % 8 = 7 → _
    intro h
    rw [if_pos ((cond_last t).mpr h), dvS_succ m c t s1 fun h => (hs h).2]

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ outs (Rl m c) := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, PhiA0_eq]
  unfold Phi
  iintro ⟨⟨⟨%d0, HS0⟩, ⟨%d1, HS1⟩⟩, Hg⟩
  iexists d0; iexists d1
  isplitr
  · ipureintro; exact fun h => absurd rfl h
  isplitl [HS0]; · iexact HS0
  isplitl [HS1]; · iexact HS1
  iexact Hg

theorem hout (c : Dev nD) : (dats m 0 c).Φ (Fin.last cfg0.N) ⊢ Pipeline.ΦA spec0 c := by
  rw [show (dats m 0 c).Φ (Fin.last cfg0.N) = Phi m c (Fin.last cfg0.N).val from rfl, PhiA0_eq]
  unfold Phi
  iintro ⟨%d0, %d1, -, HS0, HS1, Hg⟩
  isplitl [HS0 HS1]
  · isplitl [HS0]
    · iexists _; iexact HS0
    iexists _; iexact HS1
  iexact Hg

/-! ## The run -/

variable (ρ : Dev nD → PrngReg)

set_option backward.isDefEq.respectTransparency.types false in
/-- The launch, with what the outputs' arrays hold at the end, and every counter at zero. -/
theorem run_main : θ_run defs (onTc (τ := τ) (main (F := F))) (s₀ m ρ)
    (fun r => (Pipeline.RDat.FramePost (cfgs 0) (fun c => rdat m c) (V m)) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- The arguments' arrays end as they were, for any proof data over the arrays as the region finds them. -/
theorem args_of (rd : (c : Dev nD) → Pipeline.RDat τ (Elt F) Unit ℕ (UR sig nD τ) ℕ (cfgs 0) c)
    (hA : ∀ c w, (rd c).A w = V m c (Pipeline.arrRef spec0 w))
    {r : PUnit × MemSt nD τ sig (Elt F)} (h : Pipeline.RDat.FramePost (cfgs 0) rd (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (Pipeline.RDat.FramePost.arr_in h c 2 rfl).trans ((hA c 2).trans (V_main_arg2 m c)),
    (Pipeline.RDat.FramePost.arr_in h c 5 rfl).trans ((hA c 5).trans (V_main_arg3 m c))⟩

/-- The frame: the program runs, its arguments end as they were, and every counter is zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_of m (fun c => rdat m c) (A_eq m) h.1, h.2⟩) (run_main m ρ)

end Cert.KernelIdeal.Hand

end
-- ==== Proof.Arrays.lean ====
/-
  The three arrays of gradients after the launch: each is the real gradient of the attention over its whole index space.
-/
module

public import proofs.«01_k».proof.Proof.Sums
public import proofs.«01_k».proof.Proof.Run

@[expose] public section

set_option maxRecDepth 16384

noncomputable section

namespace Cert.KernelIdeal.Hand

open Cert.KernelIdeal Cert.KernelIdeal.Gen Facts
open Idealize.ShloMosaic Idealize.ShloMosaic.ValueIdx Idealize.ShloMosaic.StableHlo Idealize.ShloMosaic.TcCoe
open Idealize.ShloMosaic.Pipeline (Dat RDat)
open Idealize.SL.Sem
open Cert.Model
open scoped BigOperators

/-- The gradient of the queries, padded, per head. -/
def endQ (A : Args) : (⟨S8x8192x256, .f32⟩ : BufTy).Contents (Elt Ideal) := fun i => ((pad256 (A.gq (i 0) (i 1)) (i 2) : ℝ) : EReal)
/-- The gradient of the keys, padded, per head. -/
def endK (A : Args) : (⟨S8x8192x256, .f32⟩ : BufTy).Contents (Elt Ideal) := fun i => ((pad256 (A.gk (i 0) (i 1)) (i 2) : ℝ) : EReal)
/-- The head of a column of the values' gradients, and the column within it. -/
def colHead (n : Fin 1024) : Fin 8 := ⟨n.val / 128, by have := n.isLt; omega⟩
def colIn (n : Fin 1024) : Fin 128 := ⟨n.val % 128, Nat.mod_lt _ (by decide)⟩
/-- The gradient of the values, the heads side by side. -/
def endV (A : Args) : (⟨S8192x1024, .bf16⟩ : BufTy).Contents (Elt Ideal) := fun i => ((A.gv (colHead (i 1)) (i 0) (colIn (i 1)) : ℝ) : EReal)

variable {A : Args} {m : (ℓ : Loc nD τ sig) → Buf (Elt Ideal) ℓ} {c : Dev nD}

/-- Where the query gradients' window lies. -/
theorem w6_emb (t : Fin cfg0.N) (y : S1x8192x256.Idx) : ((cfg0.win 6).blk t).view.emb y = ix3 (hd t) (y 1) (y 2) := by
  refine ext3 ?_ ?_ ?_
  · show (BitVec.ofNat 32 (grid0.coords t 0).val).toNat * 1 + 1 * (y 0).val = (hd t).val
    have h0 : (y 0).val < 1 := (y 0).isLt
    rw [small0]; omega
  · show 0 * 8192 + 1 * (y 1).val = (y 1).val; omega
  · show 0 * 256 + 1 * (y 2).val = (y 2).val; omega

/-- Where the key gradients' window lies. -/
theorem w7_emb (t : Fin cfg0.N) (y : S1x1024x256.Idx) : ((cfg0.win 7).blk t).view.emb y = ix3 (hd t) (row (kb t) (y 1)) (y 2) := by
  refine ext3 ?_ ?_ ?_
  · show (BitVec.ofNat 32 (grid0.coords t 0).val).toNat * 1 + 1 * (y 0).val = (hd t).val
    have h0 : (y 0).val < 1 := (y 0).isLt
    rw [small0]; omega
  · show (BitVec.ofNat 32 (grid0.coords t 1).val).toNat * 1024 + 1 * (y 1).val = 1024 * (kb t).val + (y 1).val
    rw [small1]; omega
  · show 0 * 256 + 1 * (y 2).val = (y 2).val; omega

/-- Where the value gradients' window lies. -/
theorem w8_emb (t : Fin cfg0.N) (y : S1024x128.Idx) : ((cfg0.win 8).blk t).view.emb y = ix2 (row (kb t) (y 0)) (col (hd t) (y 1)) := by
  refine ext2 ?_ ?_
  · show (BitVec.ofNat 32 (grid0.coords t 1).val).toNat * 1024 + 1 * (y 0).val = 1024 * (kb t).val + (y 0).val
    rw [small1]; omega
  · show (BitVec.ofNat 32 (grid0.coords t 0).val).toNat * 128 + 1 * (y 1).val = 128 * (hd t).val + (y 1).val
    rw [small0]; omega

/-- The head's rows at its last point. -/
theorem left6_at (H : Holds m c A) (t : Fin cfg0.N) (ht : t.val % 64 = 63) (X : Vec Ideal S1x8192x256 .f32) (hX : holdsDq m c t X)
    (q : Fin 8192) (e : Fin 256) : (X (ix3 (0 : Fin 1) q e) : EReal) = ((pad256 (A.gq (hd t) q) e : ℝ) : EReal) := by
  have hN : t.val < 512 := Nat.lt_of_lt_of_eq t.isLt N_0
  have hq := q.isLt
  let r : Fin 8 := ⟨q.val / 1024, by omega⟩
  let a : Fin 1024 := ⟨q.val % 1024, Nat.mod_lt _ (by decide)⟩
  have er : row r a = q := Fin.ext (by show 1024 * (q.val / 1024) + q.val % 1024 = q.val; omega)
  have ei : (Rect.unit (s := S1x8192x256) ![0, 1024 * r.val, 0] S1x1024x256.size (rows_inb r)).emb (ix3 (0 : Fin 1) a e) = (ix3 (0 : Fin 1) q e : S1x8192x256.Idx) := by
    refine ext3 ?_ ?_ ?_
    · show 0 + 1 * 0 = 0; rfl
    · show 1024 * (q.val / 1024) + 1 * (q.val % 1024) = q.val; omega
    · show 0 + 1 * e.val = e.val; omega
  have e1 : rowsOf X r (ix3 (0 : Fin 1) a e) = X (ix3 (0 : Fin 1) q e) := congrArg X ei
  have e2 : t.val + 1 = 64 * (hd t).val + 64 := by show t.val + 1 = 64 * (t.val / 64 % 8) + 64; omega
  rw [← e1, hX r (Or.inl (by omega)), e2]
  exact (dqS_last H (hd t) r a e).trans (by rw [er])

theorem left6 (H : Holds m c A) (t : Fin cfg0.N) (ht : t.val % 64 = 63) (X : Vec Ideal S1x8192x256 .f32) (hX : holdsDq m c t X) (y : S1x8192x256.Idx) :
    (X y : EReal) = endQ A (ix3 (hd t) (y 1) (y 2)) := by
  have h0 : (y 0).val < 1 := (y 0).isLt
  have e : y = ix3 (0 : Fin 1) (y 1) (y 2) := ext3 (by show (y 0).val = 0; omega) rfl rfl
  exact (congrArg X e).trans (left6_at H t ht X hX (y 1) (y 2))

theorem last_pt (t : Fin cfg0.N) (ht : t.val % 8 = 7) : t.val + 1 = 64 * (hd t).val + 8 * (kb t).val + 8 := by
  have hN : t.val < 512 := Nat.lt_of_lt_of_eq t.isLt N_0
  show t.val + 1 = 64 * (t.val / 64 % 8) + 8 * (t.val / 8 % 8) + 8
  omega

theorem left7 (H : Holds m c A) (t : Fin cfg0.N) (ht : t.val % 8 = 7) (y : S1x1024x256.Idx) :
    (k0_pay12 (dkS m c (t.val + 1)) y : EReal) = endK A (ix3 (hd t) (row (kb t) (y 1)) (y 2)) := by
  have h0 : (y 0).val < 1 := (y 0).isLt
  have e : y = ix3 (0 : Fin 1) (y 1) (y 2) := ext3 (by show (y 0).val = 0; omega) rfl rfl
  rw [last_pt t ht]
  exact (congrArg (k0_pay12 _) e).trans ((pay12_apply _ (y 1) (y 2)).trans (dkS_last H (hd t) (kb t) (y 1) (y 2)))

theorem left8_at (H : Holds m c A) (t : Fin cfg0.N) (ht : t.val % 8 = 7) (b : Fin 1024) (d : Fin 128) :
    (k0_pay13 (dvS m c (t.val + 1)) (ix2 b d) : EReal) = endV A (ix2 (row (kb t) b) (col (hd t) d)) := by
  have hd1 := d.isLt
  have eh : colHead (col (hd t) d) = hd t := Fin.ext (by show (128 * (hd t).val + d.val) / 128 = (hd t).val; omega)
  have ei : colIn (col (hd t) d) = d := Fin.ext (by show (128 * (hd t).val + d.val) % 128 = d.val; omega)
  rw [last_pt t ht]
  refine (pay13_apply _ _).trans ((dvS_last H (hd t) (kb t) b d).trans ?_)
  show ((A.gv (hd t) (row (kb t) b) d : ℝ) : EReal) = ((A.gv (colHead (col (hd t) d)) (row (kb t) b) (colIn (col (hd t) d)) : ℝ) : EReal)
  rw [eh, ei]

theorem left8 (H : Holds m c A) (t : Fin cfg0.N) (ht : t.val % 8 = 7) (y : S1024x128.Idx) :
    (k0_pay13 (dvS m c (t.val + 1)) y : EReal) = endV A (ix2 (row (kb t) (y 0)) (col (hd t) (y 1))) :=
  (congrArg (k0_pay13 _) (show y = ix2 (y 0) (y 1) from ext2 rfl rfl)).trans (left8_at H t ht (y 0) (y 1))

variable (after : (w' : Fin cfg0.W) → Fin cfg0.N → (cfg0.win w').block.Idx → Elt Ideal (cfg0.win w').elt)

theorem end6 (H : Holds m c A) (h : ∀ t, (cfg0.win 6).flush t = true → Rl m c 6 t (after 6 t)) :
    ((rdat m c).withAfter after).arrAt 6 cfg0.N = endQ A :=
  Dat.arrAt_eq_of_covers ((rdat m c).withAfter after) 6 (endQ A) (by decide +kernel) fun t hf y =>
    (left6 H t ((flush0_6 t).mp hf) (after 6 t) (h t hf) y).trans (congrArg (endQ A) (w6_emb t y).symm)

theorem end7 (H : Holds m c A) (h : ∀ t, (cfg0.win 7).flush t = true → Rl m c 7 t (after 7 t)) :
    ((rdat m c).withAfter after).arrAt 7 cfg0.N = endK A :=
  Dat.arrAt_eq_of_covers ((rdat m c).withAfter after) 7 (endK A) (by decide +kernel) fun t hf y =>
    (congrFun (h t hf ((flush0_7 t).mp hf)) y).trans ((left7 H t ((flush0_7 t).mp hf) y).trans (congrArg (endK A) (w7_emb t y).symm))

theorem end8 (H : Holds m c A) (h : ∀ t, (cfg0.win 8).flush t = true → Rl m c 8 t (after 8 t)) :
    ((rdat m c).withAfter after).arrAt 8 cfg0.N = endV A :=
  Dat.arrAt_eq_of_covers ((rdat m c).withAfter after) 8 (endV A) (by decide +kernel) fun t hf y =>
    (congrFun (h t hf ((flush0_8 t).mp hf)) y).trans ((left8 H t ((flush0_8 t).mp hf) y).trans (congrArg (endV A) (w8_emb t y).symm))

/-- What the three windows' arrays end holding. -/
theorem ends (H : Holds m c A) {r : PUnit × MemSt nD τ sig (Elt Ideal)} (h : RDat.FramePost (cfgs 0) (fun c => rdat m c) (V m) r) :
    r.2.mem ((c : Thread nD τ).loc main_v53_0) = endQ A ∧ r.2.mem ((c : Thread nD τ).loc main_v53_1) = endK A
      ∧ r.2.mem ((c : Thread nD τ).loc main_v53_2) = endV A := by
  obtain ⟨after, hL, hA⟩ := h.exists_exact c
  exact ⟨(hA 6).trans (end6 after H fun t hf => Dat.toRRel_leaves _ rfl (hL 6 t hf)),
    (hA 7).trans (end7 after H fun t hf => Dat.toRRel_leaves _ rfl (hL 7 t hf)),
    (hA 8).trans (end8 after H fun t hf => Dat.toRRel_leaves _ rfl (hL 8 t hf))⟩

end Cert.KernelIdeal.Hand

end
-- ==== Proof.Finite.lean ====
/-
  The precondition, read back: every argument is a real number, the scores' row maxima are real numbers, and the arguments are then those
  of the real model.
-/
module

public import proofs.«01_k».proof.Proof.Ref
public import proofs.«01_k».proof.Proof.Gen.Pre_finite
public import Idealize.ShloMosaic.Lib.ReduceAll

@[expose] public section

set_option maxRecDepth 16384

noncomputable section

namespace Cert.Model

open Idealize.ShloMosaic Idealize.ShloMosaic.ValueIdx Idealize.ShloMosaic.StableHlo
open Cert.ReferenceIdeal Cert.ReferenceIdeal.Gen Cert.ReferenceIdeal.Read
open Cert.ReferenceIdeal.Facts
open scoped BigOperators

/-- An ideal number whose absolute value is below infinity is a real number. -/
theorem real_of_olt (x : EReal) (h : Ideal.cmp .olt (max x (-x)) (Ideal.ofBits .f32 0x7F800000#32) = 1) : x = ((x.toReal : ℝ) : EReal) := by
  rw [ofBits_inf] at h
  have h' : max x (-x) < ⊤ := by
    by_contra hn
    have h1 : BitVec.ofBool (decide (max x (-x) < ⊤)) = 1 := h
    rw [decide_eq_false hn] at h1
    exact absurd h1 (by decide)
  rw [max_lt_iff] at h'
  refine (EReal.coe_toReal h'.1.ne ?_).symm
  rintro rfl
  exact absurd h'.2 (by rw [EReal.neg_bot]; exact lt_irrefl _)

/-- An array all of whose comparisons came out true is an array of real numbers. -/
theorem real_of_all {s u : Shape} {axes : List (Fin s.rank)} [Subsingleton u.Idx] (x : s.Idx → EReal)
    (bd : Fin u.rank → Fin s.rank) (hb : u.BroadcastsInDim s bd) (init : u.Idx → BitVec 1) (hr : s.ReducesTo axes u) (hu : 0 < u.numel) (j : u.Idx)
    (e : Host.reduce IntOp.andi (cmpf (F := Ideal) (φ := .f32) .olt (Host.absf x) (broadcastInDim s bd hb (constant u .f32 0x7F800000#32))) init hr hu j = 1#1)
    (i : s.Idx) : x i = (((x i).toReal : ℝ) : EReal) :=
  real_of_olt (x i) (Host.reduce_andi_all _ init hr hu j e i)

variable {x0 x1 : (⟨S8192x8x192, .f32⟩ : BufTy).Contents (Elt Ideal)} {x2 : (⟨S8192x2048, .f32⟩ : BufTy).Contents (Elt Ideal)}
  {x3 : (⟨S8192x1024, .f32⟩ : BufTy).Contents (Elt Ideal)}

instance : Subsingleton (Cert.Pre_finite.S_).Idx := ⟨fun _ _ => funext fun a => a.elim0⟩

/-- What the precondition says of the four arguments. -/
theorem real_args [Cert.Pre_finite.Facts] (h : Cert.Pre_finite.fn (F := Ideal) x0 x1 x2 x3 = fun _ => 1#1) :
    (∀ i, (x0 i : EReal) = (((x0 i : EReal).toReal : ℝ) : EReal)) ∧ (∀ i, (x1 i : EReal) = (((x1 i : EReal).toReal : ℝ) : EReal))
      ∧ (∀ i, (x2 i : EReal) = (((x2 i : EReal).toReal : ℝ) : EReal)) ∧ (∀ i, (x3 i : EReal) = (((x3 i : EReal).toReal : ℝ) : EReal)) := by
  have h0 := congrFun h (Shape.Idx.first Cert.Pre_finite.Facts.h_S_)
  unfold Cert.Pre_finite.fn Cert.Pre_finite.fn_part1 at h0
  obtain ⟨h012, h3⟩ := IntOp.andi_eq_one.mp h0
  obtain ⟨h01, h2⟩ := IntOp.andi_eq_one.mp h012
  obtain ⟨h0', h1⟩ := IntOp.andi_eq_one.mp h01
  exact ⟨real_of_all x0 _ _ _ _ _ _ h0', real_of_all x1 _ _ _ _ _ _ h1, real_of_all x2 _ _ _ _ _ _ h2, real_of_all x3 _ _ _ _ _ _ h3⟩

/-- The row maxima of real scores are real: every row has the query's own key. -/
theorem rowMax_real {A : Args} (R : Inputs A x0 x1 x2 x3) (h : Fin 8) (q : Fin 8192) :
    (val_main_v12 (F := Ideal) x0 x1 (ix2 h q) : EReal) = (((val_main_v12 (F := Ideal) x0 x1 (ix2 h q) : EReal).toReal : ℝ) : EReal) := by
  have e : (val_main_v12 (F := Ideal) x0 x1 (ix2 h q) : EReal)
      = (Finset.univ : Finset (Fin 8192)).fold max (⊥ : EReal) (fun k => if k ≤ q then ((A.sc h q k : ℝ) : EReal) else ⊥) := by
    unfold val_main_v12
    refine (Host.reduce_eq_fold_single (FloatOps.maximumf (F := Ideal) (φ := .f32)) _ _ reducesTo_S8x8192x8192_S8x8192_d2 (by decide) h_S_ (ix2 h q)).trans ?_
    rw [val_main_cst_1_apply, show (FloatOps.ofBits (F := Ideal) .f32 0xFF800000#32 : EReal) = ⊥ from ofBits_neg_inf]
    refine Finset.fold_congr fun k _ => ?_
    exact (congrArg (val_main_v11_0 (F := Ideal) x0 x1) (ext3 rfl rfl rfl)).trans (v11_sc R h q k)
  refine (EReal.coe_toReal ?_ ?_).symm
  · rw [e]
    refine ((Finset.fold_max_lt _).mpr ⟨bot_lt_top, fun k _ => ?_⟩).ne
    split_ifs
    · exact EReal.coe_lt_top _
    · exact bot_lt_top
  · rw [e]
    refine ((Finset.lt_fold_max _).mpr (Or.inr ⟨q, Finset.mem_univ q, ?_⟩)).ne'
    rw [if_pos (le_refl q)]
    exact EReal.bot_lt_coe _

/-- A row's maximum. -/
def rowMax (x0 x1 : (⟨S8192x8x192, .f32⟩ : BufTy).Contents (Elt Ideal)) (h : Fin 8) (q : Fin 8192) : ℝ :=
  (val_main_v12 (F := Ideal) x0 x1 (ix2 h q) : EReal).toReal

theorem rowMax_eq {A : Args} (R : Inputs A x0 x1 x2 x3) (h : Fin 8) (q : Fin 8192) :
    val_main_v12 (F := Ideal) x0 x1 (ix2 h q) = ((rowMax x0 x1 h q : ℝ) : EReal) := by
  unfold rowMax; exact rowMax_real R h q

/-- The real model of the arguments. -/
def argsOf (x0 x1 : (⟨S8192x8x192, .f32⟩ : BufTy).Contents (Elt Ideal)) (x2 : (⟨S8192x2048, .f32⟩ : BufTy).Contents (Elt Ideal))
    (x3 : (⟨S8192x1024, .f32⟩ : BufTy).Contents (Elt Ideal)) : Args where
  q i := (x0 i : EReal).toReal
  k i := (x1 i : EReal).toReal
  v i := (x2 i : EReal).toReal
  g i := (x3 i : EReal).toReal
  scale := scale
  M h q := rowMax x0 x1 h q

theorem inputs_of_real (h0 : ∀ i, (x0 i : EReal) = (((x0 i : EReal).toReal : ℝ) : EReal)) (h1 : ∀ i, (x1 i : EReal) = (((x1 i : EReal).toReal : ℝ) : EReal))
    (h2 : ∀ i, (x2 i : EReal) = (((x2 i : EReal).toReal : ℝ) : EReal)) (h3 : ∀ i, (x3 i : EReal) = (((x3 i : EReal).toReal : ℝ) : EReal)) :
    Inputs (argsOf x0 x1 x2 x3) x0 x1 x2 x3 where
  q i := h0 i
  k i := h1 i
  v i := h2 i
  g i := h3 i
  s := scale_coe

theorem Reads.of {A : Args} (R : Inputs A x0 x1 x2 x3) (h : ∀ h q, val_main_v12 (F := Ideal) x0 x1 (ix2 h q) = ((A.M h q : ℝ) : EReal)) :
    Reads A x0 x1 x2 x3 := { R with M := h }

theorem argsOf_M (h : Fin 8) (q : Fin 8192) : (argsOf x0 x1 x2 x3).M h q = rowMax x0 x1 h q := by
  unfold argsOf; dsimp only

theorem rowMax_M (R : Inputs (argsOf x0 x1 x2 x3) x0 x1 x2 x3) (h : Fin 8) (q : Fin 8192) :
    val_main_v12 (F := Ideal) x0 x1 (ix2 h q) = (((argsOf x0 x1 x2 x3).M h q : ℝ) : EReal) := by
  rw [argsOf_M]; exact rowMax_eq R h q

theorem reads_of_inputs (R : Inputs (argsOf x0 x1 x2 x3) x0 x1 x2 x3) : Reads (argsOf x0 x1 x2 x3) x0 x1 x2 x3 :=
  Reads.of R (rowMax_M R)

/-- Under the precondition the arguments are those of their real model. -/
theorem reads_of_finite [Cert.Pre_finite.Facts] (h : Cert.Pre_finite.fn (F := Ideal) x0 x1 x2 x3 = fun _ => 1#1) :
    Reads (argsOf x0 x1 x2 x3) x0 x1 x2 x3 := by
  obtain ⟨h0, h1, h2, h3⟩ := real_args h
  exact reads_of_inputs (inputs_of_real h0 h1 h2 h3)

end Cert.Model

end
-- ==== Proof.Same.lean ====
/-
  The kernel's program is the ideal kernel's, read at the machine's floats: the two texts are one, so its frame is the one run's.
-/
module

public import proofs.«01_k».proof.Defs
public import proofs.«01_k».proof.Proof.Gen.Kernel
public import proofs.«01_k».proof.Proof.Gen.KernelIdeal
public import proofs.«01_k».proof.Proof.Run

@[expose] public section

set_option maxRecDepth 16384

noncomputable section

namespace Cert.Proof

open Idealize.ShloMosaic Idealize.SL.Sem

set_option maxHeartbeats 1000000 in
/-- The two body tables have the same rows. -/
theorem defs₀_at (pr ℓ a) : Cert.Kernel.defs₀ (F := Bits) pr ℓ a = Cert.KernelIdeal.defs₀ (F := Bits) pr ℓ a := by
  cases pr with
  | tc =>
    match ℓ, a with
    | 0, (t, s) => with_unfolding_all rfl
  | scScalar _ => with_unfolding_all rfl
  | scVector _ _ => with_unfolding_all rfl

theorem defs₀_eq : Cert.Kernel.defs₀ (F := Bits) = Cert.KernelIdeal.defs₀ (F := Bits) :=
  funext fun pr => funext fun ℓ => funext fun a => defs₀_at pr ℓ a

theorem defs_eq : Cert.Kernel.defs (F := Bits) = Cert.KernelIdeal.defs (F := Bits) :=
  congrArg (Pipeline.defs Cert.KernelIdeal.pcfgs) defs₀_eq

set_option maxHeartbeats 2000000 in
set_option backward.isDefEq.respectTransparency.types false in
theorem main_eq (c) : Cert.Kernel.main (F := Bits) c = Cert.KernelIdeal.main (F := Bits) c := by
  with_unfolding_all rfl

/-- The frame, for any table and any program that are the ideal kernel's. -/
theorem frame_same (m : (ℓ : Loc Cert.KernelIdeal.nD Cert.KernelIdeal.τ Cert.KernelIdeal.sig) → Buf (Elt Bits) ℓ)
    (ρ : Dev Cert.KernelIdeal.nD → PrngReg) (d) (hd : d = Cert.KernelIdeal.defs (F := Bits)) (p) (hp : p = Cert.KernelIdeal.main (F := Bits)) :
    θ_run d (onTc (τ := Cert.KernelIdeal.τ) p) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) := by
  subst hd hp
  exact Cert.KernelIdeal.Hand.frame_ideal (F := Bits) m ρ

theorem frame_kernel : Cert.quiescent_Kernel := fun m ρ _ =>
  frame_same m ρ (Cert.Kernel.defs (F := Bits)) defs_eq (Cert.Kernel.main (F := Bits)) (funext main_eq)

end Cert.Proof

end
-- ==== Proof.Up.lean ====
/-
  The up projection and its activation, block by block: the gate's columns, the up columns, and what the activation makes of them.
-/
module

public import proofs.«01_k».proof.Proof.Gen.KUpIdeal.Value
public import proofs.«01_k».proof.Proof.Gen.RUpIdeal.Run
public import proofs.«01_k».proof.Proof.Gen.RUpIdeal.Read
public import Idealize.ShloMosaic.Lib.Pipeline.ValueKit
public import Idealize.ShloMosaic.Lib.MatmulPlain
public import Idealize.ShloMosaic.Lib.IdealHost

@[expose] public section

noncomputable section

namespace Cert.KUpIdeal.Hand

open Cert.KUpIdeal Cert.KUpIdeal.Gen
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-- The product of two blocks, at an index. -/
def part (x : Vec Ideal S1024x1024 .bf16) (y : Vec Ideal S1024x1408 .bf16) (j : S1024x1408.Idx) : EReal :=
  ∑ k : Fin 1024, x (ix2 (j 0) k) * y (ix2 k (j 1))

/-- The gate passed through its activation, times the up column. -/
def swi (g u : EReal) : EReal := g * Ideal.logistic g * u

theorem block (x : FVec Ideal S1024x1024 .bf16) (y : FVec Ideal S1024x1408 .bf16) (j : S1024x1408.Idx) :
    matmul (F := Ideal) dot_S1024x1024_S1024x1408_S1024x1408_1_0_0_1_n_n none x y (constant S1024x1408 .f32 0x00000000#32) j = part x y j := by
  obtain ⟨a, b, rfl⟩ : ∃ (a : Fin 1024) (b : Fin 1408), j = ix2 a b := ⟨j 0, j 1, eq_ix2 j⟩
  refine (Ideal.matmul_plain_apply (M := 1024) (K := 1024) (N := 1408) none x y _ a b).trans ?_
  rw [show (constant (F := Ideal) S1024x1408 .f32 0x00000000#32 : FVec Ideal S1024x1408 .f32) (ix2 a b) = 0 from Ideal.ofBits_zero_f32, zero_add]
  rfl

theorem pay2 (x : Vec Ideal S1024x1024 .bf16) (y : Vec Ideal S1024x1408 .bf16) (j : S1024x1408.Idx) : k0_pay2 x y j = part x y j := by
  unfold k0_pay2 k0_pay1
  simp only [shapeCast_self]
  exact block x y j

theorem pay3 (x : Vec Ideal S1024x1024 .bf16) (y : Vec Ideal S1024x1408 .bf16) (j : S1024x1408.Idx) : k0_pay3 x y j = part x y j := by
  unfold k0_pay3 k0_pay1
  simp only [shapeCast_self]
  exact block x y j

theorem pay4 (x : Vec Ideal S1024x1024 .bf16) (y z : Vec Ideal S1024x1408 .bf16) (j : S1024x1408.Idx) :
    k0_pay4 x y z j = swi (part x y j) (part x z j) := by
  rw [← pay2, ← pay3]
  rfl

theorem pay5 (x : Vec Ideal S1024x1024 .bf16) (y : Vec Ideal S1024x1408 .bf16) (j : S1024x1408.Idx) : k0_pay5 x y j = part x y j := by
  rw [← pay2]
  rfl

theorem pay6 (x : Vec Ideal S1024x1024 .bf16) (y : Vec Ideal S1024x1408 .bf16) (j : S1024x1408.Idx) : k0_pay6 x y j = part x y j := by
  rw [← pay3]
  rfl

/-- The region finds the rows and the weights as they were launched. -/
theorem V_x : V m c main_v0 = m ((c : Thread nD τ).loc main_arg0) := by
  simp only [V, hostOps0]
  after_results_simp <;> rfl
theorem V_w : V m c main_v1 = m ((c : Thread nD τ).loc main_arg1) := by
  simp only [V, hostOps0]
  after_results_simp <;> rfl

/-- The gate's and the up half's column of the packed weights. -/
def gcol (j : Fin 2816) : Fin 5632 := ⟨j.val, by omega⟩
def ucol (j : Fin 2816) : Fin 5632 := ⟨2816 + j.val, by omega⟩

/-- The product with one column. -/
def dotc (x : (⟨S8192x1024, .f32⟩ : BufTy).Contents (Elt Ideal)) (w : (⟨S1024x5632, .f32⟩ : BufTy).Contents (Elt Ideal)) (i : Fin 8192) (j : Fin 5632) : EReal :=
  ∑ k : Fin 1024, x (ix2 i k) * w (ix2 k j)

def gateG (x : (⟨S8192x1024, .f32⟩ : BufTy).Contents (Elt Ideal)) (w : (⟨S1024x5632, .f32⟩ : BufTy).Contents (Elt Ideal)) :
    (⟨S8192x2816, .bf16⟩ : BufTy).Contents (Elt Ideal) := fun i => dotc x w (i 0) (gcol (i 1))
def upG (x : (⟨S8192x1024, .f32⟩ : BufTy).Contents (Elt Ideal)) (w : (⟨S1024x5632, .f32⟩ : BufTy).Contents (Elt Ideal)) :
    (⟨S8192x2816, .bf16⟩ : BufTy).Contents (Elt Ideal) := fun i => dotc x w (i 0) (ucol (i 1))
def actG (x : (⟨S8192x1024, .f32⟩ : BufTy).Contents (Elt Ideal)) (w : (⟨S1024x5632, .f32⟩ : BufTy).Contents (Elt Ideal)) :
    (⟨S8192x2816, .bf16⟩ : BufTy).Contents (Elt Ideal) := fun i => swi (dotc x w (i 0) (gcol (i 1))) (dotc x w (i 0) (ucol (i 1)))

theorem index_facts : ∀ t : Fin cfg0.N, (win0_0.index t 0 = t.val % 8 ∧ win0_0.index t 1 = 0) ∧ (win0_1.index t 0 = 0 ∧ win0_1.index t 1 = t.val / 8)
    ∧ (win0_2.index t 0 = 0 ∧ win0_2.index t 1 = 2 + t.val / 8) ∧ (win0_3.index t 0 = t.val % 8 ∧ win0_3.index t 1 = t.val / 8)
    ∧ (win0_4.index t 0 = t.val % 8 ∧ win0_4.index t 1 = t.val / 8) ∧ (win0_5.index t 0 = t.val % 8 ∧ win0_5.index t 1 = t.val / 8) :=
  (by decide +kernel : ∀ t : Fin grid0.N, (win0_0.index t 0 = t.val % 8 ∧ win0_0.index t 1 = 0) ∧ (win0_1.index t 0 = 0 ∧ win0_1.index t 1 = t.val / 8)
    ∧ (win0_2.index t 0 = 0 ∧ win0_2.index t 1 = 2 + t.val / 8) ∧ (win0_3.index t 0 = t.val % 8 ∧ win0_3.index t 1 = t.val / 8)
    ∧ (win0_4.index t 0 = t.val % 8 ∧ win0_4.index t 1 = t.val / 8) ∧ (win0_5.index t 0 = t.val % 8 ∧ win0_5.index t 1 = t.val / 8))

/-- A point's products are the whole product's, at the rows and columns of its block. -/
theorem gate_at (t : Fin cfg0.N) (a : Fin 1024) (b : Fin 1408) (r : Fin 8192) (j : Fin 2816)
    (hr : r.val = t.val % 8 * 1024 + a.val) (hj : j.val = t.val / 8 * 1408 + b.val) :
    part (iblk m c 0 t) (iblk m c 1 t) (ix2 a b) = dotc (V m c main_v0) (V m c main_v1) r (gcol j) := by
  obtain ⟨⟨h0, h1⟩, ⟨h2, h3⟩, -, -, -, -⟩ := index_facts t
  unfold part dotc
  refine Fin.sum_fin_congr fun k => ?_
  refine congrArg₂ (fun (p q : EReal) => p * q) ?_ ?_
  · blk_ext [iblk, h0, h1]
    exact hr.symm
  · blk_ext [iblk, h2, h3]
    exact hj.symm

theorem up_at (t : Fin cfg0.N) (a : Fin 1024) (b : Fin 1408) (r : Fin 8192) (j : Fin 2816)
    (hr : r.val = t.val % 8 * 1024 + a.val) (hj : j.val = t.val / 8 * 1408 + b.val) :
    part (iblk m c 0 t) (iblk m c 2 t) (ix2 a b) = dotc (V m c main_v0) (V m c main_v1) r (ucol j) := by
  obtain ⟨⟨h0, h1⟩, -, ⟨h2, h3⟩, -, -, -⟩ := index_facts t
  unfold part dotc
  refine Fin.sum_fin_congr fun k => ?_
  refine congrArg₂ (fun (p q : EReal) => p * q) ?_ ?_
  · blk_ext [iblk, h0, h1]
    exact hr.symm
  · blk_ext [iblk, h2, h3]
    show (2 + t.val / 8) * 1408 + b.val = 2816 + j.val
    omega

theorem arr_act : (dats m 0 c).arrAt 3 cfg0.N = actG (V m c main_v0) (V m c main_v1) :=
  Dat.arrAt_eq_of_covers (dats m 0 c) 3 _ (by decide +kernel) fun t hf y => by
    obtain ⟨a, b, rfl⟩ : ∃ (a : Fin 1024) (b : Fin 1408), y = ix2 a b := ⟨y 0, y 1, eq_ix2 y⟩
    obtain ⟨-, -, -, ⟨h0, h1⟩, -, -⟩ := index_facts t
    blk_simp
    rw [after0_3]
    frame_out
    rw [pay4]
    unfold actG
    refine congrArg₂ swi (gate_at m c t a b _ _ ?_ ?_) (up_at m c t a b _ _ ?_ ?_)
    all_goals blk_simp [h0, h1]

theorem arr_gate : (dats m 0 c).arrAt 4 cfg0.N = gateG (V m c main_v0) (V m c main_v1) :=
  Dat.arrAt_eq_of_covers (dats m 0 c) 4 _ (by decide +kernel) fun t hf y => by
    obtain ⟨a, b, rfl⟩ : ∃ (a : Fin 1024) (b : Fin 1408), y = ix2 a b := ⟨y 0, y 1, eq_ix2 y⟩
    obtain ⟨-, -, -, -, ⟨h0, h1⟩, -⟩ := index_facts t
    blk_simp
    rw [after0_4]
    frame_out
    rw [pay5]
    unfold gateG
    refine gate_at m c t a b _ _ ?_ ?_
    all_goals blk_simp [h0, h1]

theorem arr_up : (dats m 0 c).arrAt 5 cfg0.N = upG (V m c main_v0) (V m c main_v1) :=
  Dat.arrAt_eq_of_covers (dats m 0 c) 5 _ (by decide +kernel) fun t hf y => by
    obtain ⟨a, b, rfl⟩ : ∃ (a : Fin 1024) (b : Fin 1408), y = ix2 a b := ⟨y 0, y 1, eq_ix2 y⟩
    obtain ⟨-, -, -, -, -, ⟨h0, h1⟩⟩ := index_facts t
    blk_simp
    rw [after0_5]
    frame_out
    rw [pay6]
    unfold upG
    refine up_at m c t a b _ _ ?_ ?_
    all_goals blk_simp [h0, h1]

/-! ## The reference -/

open Cert.RUpIdeal.Read in
theorem ref0 (x : (⟨S8192x1024, .f32⟩ : BufTy).Contents (Elt Ideal)) (w : (⟨S1024x5632, .f32⟩ : BufTy).Contents (Elt Ideal)) (r : Fin 8192) (j : Fin 5632) :
    val_main_v0 (F := Ideal) x w (ix2 r j) = dotc x w r j := by
  rw [val_main_v0_apply]
  refine Finset.sum_congr rfl fun k _ => ?_
  refine congrArg₂ (fun (p q : EReal) => p * q) (congrArg x ?_) (congrArg w ?_) <;> funext d <;> fin_cases d <;> rfl

open Cert.RUpIdeal.Read in
theorem ref1 (x : (⟨S8192x1024, .f32⟩ : BufTy).Contents (Elt Ideal)) (w : (⟨S1024x5632, .f32⟩ : BufTy).Contents (Elt Ideal)) (i : S8192x2816.Idx) :
    val_main_v1 (F := Ideal) x w i = dotc x w (i 0) (gcol (i 1)) := by
  rw [val_main_v1_apply]
  refine (congrArg (val_main_v0 (F := Ideal) x w) ?_).trans (ref0 x w (i 0) (gcol (i 1)))
  funext d; fin_cases d <;> apply Fin.ext
  · show _ = (i 0).val; simp [idx_main_v1]
  · show _ = (i 1).val; simp [idx_main_v1]

open Cert.RUpIdeal.Read in
theorem ref2 (x : (⟨S8192x1024, .f32⟩ : BufTy).Contents (Elt Ideal)) (w : (⟨S1024x5632, .f32⟩ : BufTy).Contents (Elt Ideal)) (i : S8192x2816.Idx) :
    val_main_v2 (F := Ideal) x w i = dotc x w (i 0) (ucol (i 1)) := by
  rw [val_main_v2_apply]
  refine (congrArg (val_main_v0 (F := Ideal) x w) ?_).trans (ref0 x w (i 0) (ucol (i 1)))
  funext d; fin_cases d <;> apply Fin.ext
  · show _ = (i 0).val; simp [idx_main_v2]
  · show _ = 2816 + (i 1).val; simp [idx_main_v2]

open Cert.RUpIdeal.Read in
theorem ref_gate (x : (⟨S8192x1024, .f32⟩ : BufTy).Contents (Elt Ideal)) (w : (⟨S1024x5632, .f32⟩ : BufTy).Contents (Elt Ideal)) :
    val_main_v6 (F := Ideal) x w = gateG x w := funext fun i => ref1 x w i

open Cert.RUpIdeal.Read in
theorem ref_up (x : (⟨S8192x1024, .f32⟩ : BufTy).Contents (Elt Ideal)) (w : (⟨S1024x5632, .f32⟩ : BufTy).Contents (Elt Ideal)) :
    val_main_v7 (F := Ideal) x w = upG x w := funext fun i => ref2 x w i

open Cert.RUpIdeal.Read in
theorem ref_act (x : (⟨S8192x1024, .f32⟩ : BufTy).Contents (Elt Ideal)) (w : (⟨S1024x5632, .f32⟩ : BufTy).Contents (Elt Ideal)) :
    val_main_v5 (F := Ideal) x w = actG x w := funext fun i => by
  unfold actG
  rw [← ref1, ← ref2, val_main_v5_apply, val_main_v4_apply, val_main_v3_apply, val_main_call0_v5_apply, val_main_call0_v3_apply, val_main_call0_v4_apply,
    val_main_call0_v2_apply, val_main_call0_v1_apply, val_main_call0_v0_apply, val_main_call0_cst_apply, val_main_call0_cst_0_apply]
  rw [show (FloatOps.ofBits (F := Ideal) .f32 0x3F800000#32 : EReal) = 1 from Ideal.ofBits_one_f32]
  rfl

end Cert.KUpIdeal.Hand

end
-- ==== Proof.Products.lean ====
/-
  Facts on matrix products that the calls share: the three ways of contracting two matrices, read at an index; a sum that is kept across
  the points of a block row; and the factor one half.
-/
module

public import Idealize.ShloMosaic.Lib.Pipeline.ValueKit
public import Idealize.ShloMosaic.Lib.MatmulPlain
public import Idealize.ShloMosaic.Lib.IdealHost
public import Idealize.ShloMosaic.Adequacy

@[expose] public section

noncomputable section

namespace Cert.Products

open Idealize.ShloMosaic hiding ix2 eq_ix2
open Idealize.ShloMosaic.ValueIdx Idealize.SL.Sem
open scoped BigOperators

/-! ## The three contractions -/

section
variable {M K N : ℕ}

/-- Row `a` of `x` with column `b` of `y`. -/
def nn (x : (⟨2, ![M, K]⟩ : Shape).Idx → EReal) (y : (⟨2, ![K, N]⟩ : Shape).Idx → EReal) (a : Fin M) (b : Fin N) : EReal :=
  ∑ k : Fin K, x (ix2 a k) * y (ix2 k b)
/-- Row `a` of `x` with row `b` of `y`. -/
def nt (x : (⟨2, ![M, K]⟩ : Shape).Idx → EReal) (y : (⟨2, ![N, K]⟩ : Shape).Idx → EReal) (a : Fin M) (b : Fin N) : EReal :=
  ∑ k : Fin K, x (ix2 a k) * y (ix2 b k)
/-- Column `a` of `x` with column `b` of `y`. -/
def tn (x : (⟨2, ![K, M]⟩ : Shape).Idx → EReal) (y : (⟨2, ![K, N]⟩ : Shape).Idx → EReal) (a : Fin M) (b : Fin N) : EReal :=
  ∑ k : Fin K, x (ix2 k a) * y (ix2 k b)

/-- Two contractions are equal where their factors are. -/
theorem sum_mul_congr {f g f' g' : Fin K → EReal} (hf : ∀ k, f k = f' k) (hg : ∀ k, g k = g' k) : ∑ k, f k * g k = ∑ k, f' k * g' k :=
  Finset.sum_congr rfl fun k _ => congrArg₂ (fun (p q : EReal) => p * q) (hf k) (hg k)

/-- Sums over blocks of the contracted axis make the whole contraction. -/
theorem sum_blocks {L S n : ℕ} (hL : L = S * n) {f g : Fin S → Fin n → EReal} {f' g' : Fin L → EReal}
    (hf : ∀ (s : Fin S) (k : Fin n) (hl : s.val * n + k.val < L), f s k = f' ⟨s.val * n + k.val, hl⟩)
    (hg : ∀ (s : Fin S) (k : Fin n) (hl : s.val * n + k.val < L), g s k = g' ⟨s.val * n + k.val, hl⟩) :
    ∑ s, ∑ k, f s k * g s k = ∑ l, f' l * g' l :=
  Fin.sum_mul_add_congr (F := fun s k => f s k * g s k) (f := fun l => f' l * g' l)
    (fun s k hl => congrArg₂ (fun (p q : EReal) => p * q) (hf s k hl) (hg s k hl)) hL

variable {φ₁ φ₂ : FTy} (prec : Option ContractPrecision) (a : Fin M) (b : Fin N)

theorem zero_at : (constant (F := Ideal) ⟨2, ![M, N]⟩ .f32 0x00000000#32 : FVec Ideal ⟨2, ![M, N]⟩ .f32) (ix2 a b) = 0 := Ideal.ofBits_zero_f32

/-- A block's product onto zeros, `x · y`. -/
theorem matmul_nn (x : FVec Ideal ⟨2, ![M, K]⟩ φ₁) (y : FVec Ideal ⟨2, ![K, N]⟩ φ₂) :
    FloatOps.matmul (DotDims.plain M K N) prec x y (constant (F := Ideal) ⟨2, ![M, N]⟩ .f32 0x00000000#32) (ix2 a b) = nn x y a b := by
  rw [Ideal.matmul_plain_apply, zero_at, zero_add]
  rfl

/-- A block's product onto zeros, `x · yᵀ`. -/
theorem matmul_nt (x : FVec Ideal ⟨2, ![M, K]⟩ φ₁) (y : FVec Ideal ⟨2, ![N, K]⟩ φ₂) :
    FloatOps.matmul (DotDims.transposedRhs M K N) prec x y (constant (F := Ideal) ⟨2, ![M, N]⟩ .f32 0x00000000#32) (ix2 a b) = nt x y a b := by
  rw [Ideal.matmul_transposedRhs_apply, zero_at, zero_add]
  rfl

/-- The contraction of both first axes. -/
def tnDims (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, (by decide : (([1] ++ [0] : List (Fin 2))).Perm (List.finRange 2)),
    (by decide : (([1] ++ [0] : List (Fin 2))).Perm (List.finRange 2)), rfl, Nat.two_pos, fun b => by fin_cases b <;> rfl⟩

theorem tn_rank : (tnDims M K N).contr.rank = 1 := rfl

/-- A block's product onto zeros, `xᵀ · y`. -/
theorem matmul_tn (x : FVec Ideal ⟨2, ![K, M]⟩ φ₁) (y : FVec Ideal ⟨2, ![K, N]⟩ φ₂) :
    FloatOps.matmul (tnDims M K N) prec x y (constant (F := Ideal) ⟨2, ![M, N]⟩ .f32 0x00000000#32) (ix2 a b) = tn x y a b := by
  rw [Ideal.matmul_apply, zero_at, zero_add, ← Equiv.sum_comp (contrEquiv1 (tnDims M K N) K rfl rfl).symm]
  refine sum_mul_congr (fun k => congrArg x ?_) (fun k => congrArg y ?_) <;> funext d <;> apply Fin.ext
  · match d with
    | ⟨0, _⟩ => exact ((tnDims M K N).lhsIdx_val_of_single rfl _ _).trans (contrEquiv1_symm_val (tnDims M K N) K rfl rfl k)
    | ⟨1, _⟩ => rfl
  · match d with
    | ⟨0, _⟩ => exact ((tnDims M K N).rhsIdx_val_of_single rfl _ _).trans (contrEquiv1_symm_val (tnDims M K N) K rfl rfl k)
    | ⟨1, _⟩ => rfl

end

/-! ## A sum kept across the points of a run -/

/-- Runs of `J` points. The first point of a run sets `s` to its term, the next ones add theirs, and the last leaves `s` alone and gives
    `fin` of what `s` would be: that is `fin` of the sum over the run. -/
theorem run_sum {N J : ℕ} [NeZero J] (hJ : 2 ≤ J) {ι : Type} (out s : (n : ℕ) → n < N → ι → EReal) (term : Fin N → ι → EReal) (fin : EReal → EReal)
    (hA : ∀ t : Fin N, t.val % J = 0 → ∀ i, s t.val t.isLt i = term t i)
    (hB : ∀ t : Fin N, ¬t.val % J = 0 → ¬t.val % J = J - 1 → ∀ i,
      s t.val t.isLt i = s (t.val - 1) (Nat.lt_of_le_of_lt (Nat.sub_le _ _) t.isLt) i + term t i)
    (hC : ∀ t : Fin N, t.val % J = J - 1 → ∀ i,
      out t.val t.isLt i = fin (s (t.val - 1) (Nat.lt_of_le_of_lt (Nat.sub_le _ _) t.isLt) i + term t i))
    (t : Fin N) (ht : t.val % J = J - 1) (i : ι) :
    out t.val t.isLt i = fin (∑ r : Fin J, term ⟨J * (t.val / J) + r.val, Pipeline.run_point_lt_of_flush t ht r⟩ i) := by
  let f : (n : ℕ) → n < N → ι → EReal := fun n h i =>
    if n % J = J - 1 then s (n - 1) (Nat.lt_of_le_of_lt (Nat.sub_le _ _) h) i + term ⟨n, h⟩ i else s n h i
  have hs := Pipeline.eq_sum_fin_of_reset_step_apply_of_flush f J (fun _ => (0 : EReal)) term
    (fun t h0 i => by
      show (if t.val % J = J - 1 then _ else _) = _
      rw [if_neg (by omega), hA t h0 i, zero_add])
    (fun t h0 i => by
      have hp : ¬(t.val - 1) % J = J - 1 := by
        intro h
        apply h0
        have h1 : 1 ≤ t.val := Nat.one_le_iff_ne_zero.mpr fun h => h0 (by rw [h, Nat.zero_mod])
        have h2 : t.val = (t.val - 1) + 1 := by omega
        rw [h2, Nat.add_mod, h, Nat.mod_eq_of_lt (by omega : 1 < J), show J - 1 + 1 = J by omega, Nat.mod_self]
      show (if t.val % J = J - 1 then _ else _) = (if (t.val - 1) % J = J - 1 then _ else _) + _
      rw [if_neg hp]
      by_cases h2 : t.val % J = J - 1
      · rw [if_pos h2]
      · rw [if_neg h2, hB t h0 h2 i])
    t ht i
  rw [hC t ht i, ← zero_add (∑ r : Fin J, _), ← hs]
  show fin _ = fin (if t.val % J = J - 1 then _ else _)
  rw [if_pos ht]

/-! ## Words and offsets -/

/-- Scaling by the word of one changes nothing. -/
theorem mul_one_word (a : EReal) : a * (Scalar.ofBits .f32 0x3F800000#32 : Ideal .f32) = a := by
  rw [show (Scalar.ofBits .f32 0x3F800000#32 : Ideal .f32) = 1 from Ideal.ofBits_one_f32, mul_one]

theorem one_step (a b : ℕ) : a + b = a + 1 * b := by rw [one_mul]

/-- One half, as the kernels' word spells it. -/
def half : EReal := Ideal.ofBits .f32 0x3F000000#32

theorem half_eq : half = (((1 / 2 : ℝ)) : EReal) := by
  unfold half
  simp [Ideal.ofBits, Ideal.ieee]
  rw [← EReal.coe_mul]
  congr 1
  norm_num

/-- A sum of scaled terms is the scaled sum, at the infinities too. -/
theorem half_sum {n : ℕ} (f : Fin n → EReal) : ∑ k, half * f k = half * ∑ k, f k := by
  rw [half_eq]
  induction n with
  | zero => simp
  | succ n ih =>
    rw [Fin.sum_univ_succ, Fin.sum_univ_succ, ih, EReal.left_distrib_of_nonneg_of_ne_top (by exact_mod_cast (by norm_num : (0 : ℝ) ≤ 1 / 2)) (EReal.coe_ne_top _)]

/-! ## Runs of equal programs -/

/-- What holds of every run of a program holds of an equal program. -/
theorem run_of_eq {nD : ℕ} {τ : Topo} {sig : RefSig} {Val : EltTy → Type} {Λ : Labels} {d d' : Defs nD τ sig Val Λ}
    {p p' : (c : Thread nD τ) → Prog (TpuEff nD τ sig Val Λ c.2) PUnit} (hd : d = d') (hp : p = p') {s : MemSt nD τ sig Val}
    {Q : PUnit × MemSt nD τ sig Val → Prop} (h : θ_run d' p' s Q) : θ_run d p s Q := by
  subst hd hp
  exact h

end Cert.Products

end
-- ==== Proof.UpDx.lean ====
/-
  The gradient of the up projection's rows, block by block.
-/
module

public import proofs.«01_k».proof.Proof.Gen.KUpDxIdeal.Value
public import proofs.«01_k».proof.Proof.Gen.RUpDxIdeal.Run
public import proofs.«01_k».proof.Proof.Gen.RUpDxIdeal.Read
public import proofs.«01_k».proof.Proof.Products

@[expose] public section

noncomputable section

namespace Cert.KUpDxIdeal.Hand

open Cert.KUpDxIdeal Cert.KUpDxIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S512x5632 .bf16) (y : Vec Ideal S1024x5632 .bf16) (j : S512x1024.Idx)

/-- The product of a point's two blocks. -/
def part : EReal := nt (M := 512) (N := 1024) x y (j 0) (j 1)

theorem pay : k0_pay1 x y j = part x y j := by
  unfold k0_pay1
  simp only [shapeCast_self]
  exact (mul_one_word _).trans ((congrArg _ (eq_ix2 j)).trans (matmul_nt (φ₁ := .bf16) (φ₂ := .bf16) none (j 0) (j 1) x y))

/-! ## The array -/

/-- The region finds its operands as they were launched. -/
theorem V_x : V m c main_v0 = m ((c : Thread nD τ).loc main_arg1) := by
  simp only [V, hostOps0]
  after_results_simp <;> rfl
theorem V_w : V m c main_v1 = m ((c : Thread nD τ).loc main_arg0) := by
  simp only [V, hostOps0]
  after_results_simp <;> rfl

/-- What the whole array holds. -/
def prod (x : (⟨S8192x5632, .f32⟩ : BufTy).Contents (Elt Ideal)) (w : (⟨S1024x5632, .f32⟩ : BufTy).Contents (Elt Ideal)) :
    (⟨S8192x1024, .f32⟩ : BufTy).Contents (Elt Ideal) := fun i => nt (M := 8192) (N := 1024) x w (i 0) (i 1)

theorem blocks : ∀ t : Fin grid0.N, win0_0.index t 0 = win0_2.index t 0 ∧ win0_0.index t 1 = 0 ∧ win0_1.index t 0 = win0_2.index t 1 ∧ win0_1.index t 1 = 0 := by decide +kernel

/-- The array after the run. -/
theorem arr : (dats m 0 c).arrAt 2 cfg0.N = prod (V m c main_v0) (V m c main_v1) :=
  Dat.arrAt_eq_of_covers (dats m 0 c) 2 _ (by decide +kernel) fun t hf y => by
    obtain ⟨a, b, rfl⟩ : ∃ (a : Fin 512) (b : Fin 1024), y = ix2 a b := ⟨y 0, y 1, eq_ix2 y⟩
    obtain ⟨h0, h1, h2, h3⟩ := blocks t
    blk_simp
    rw [after0_2]
    frame_out
    rw [pay]
    unfold prod part nt
    refine Fin.sum_fin_congr fun k => congrArg₂ (fun (p q : EReal) => p * q) ?_ ?_
    · blk_ext [iblk, h0, h1]
      exact one_step _ _
    · blk_ext [iblk, h2, h3]
      exact one_step _ _

/-- The reference's array is the same. -/
theorem ref (x : (⟨S8192x5632, .f32⟩ : BufTy).Contents (Elt Ideal)) (w : (⟨S1024x5632, .f32⟩ : BufTy).Contents (Elt Ideal)) :
    Cert.RUpDxIdeal.Read.val_main_v2 (F := Ideal) w x = prod x w := funext fun i => by
  rw [Cert.RUpDxIdeal.Read.val_main_v2_apply]
  unfold prod nt
  refine Finset.sum_congr rfl fun k _ => congrArg₂ (fun (p q : EReal) => p * q) (congrArg x ?_) (congrArg w ?_) <;>
    funext d <;> fin_cases d <;> rfl

end Cert.KUpDxIdeal.Hand

end
-- ==== Proof.UpDw.lean ====
/-
  The gradient of the up projection's weights: eight row blocks accumulated.
-/
module

public import proofs.«01_k».proof.Proof.Gen.KUpDwIdeal.Value
public import proofs.«01_k».proof.Proof.Gen.RUpDwIdeal.Run
public import proofs.«01_k».proof.Proof.Gen.RUpDwIdeal.Read
public import proofs.«01_k».proof.Proof.Products

@[expose] public section

noncomputable section

namespace Cert.KUpDwIdeal.Hand

open Cert.KUpDwIdeal Cert.KUpDwIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x512 .bf16) (y : Vec Ideal S1024x2816 .bf16) (z : Vec Ideal S512x2816 .f32) (j : S512x2816.Idx)

/-- The product of a point's two blocks. -/
def part : EReal := tn (M := 512) (N := 2816) x y (j 0) (j 1)

theorem pay1 : k0_pay1 x y j = part x y j := by
  unfold k0_pay1
  simp only [shapeCast_self]
  exact (congrArg _ (eq_ix2 j)).trans (matmul_tn (φ₁ := .bf16) (φ₂ := .bf16) none (j 0) (j 1) x y)

theorem pay2 : k0_pay2 x y j = part x y j := by
  unfold k0_pay2
  simp only [shapeCast_self]
  exact pay1 x y j

theorem pay3 : k0_pay3 x y z j = (z j : EReal) + part x y j := by
  unfold k0_pay3
  simp only [shapeCast_self]
  exact congrArg (fun p : EReal => (z j : EReal) + p) (pay1 x y j)

theorem pay4 : k0_pay4 x y z j = (z j : EReal) + part x y j :=
  (mul_one_word _).trans (congrArg (fun p : EReal => (z j : EReal) + p) (pay1 x y j))

theorem first (t : Fin cfg0.N) (h : t.val % 8 = 0) (j : S512x2816.Idx) :
    (outsAt0 m c t.val t.isLt).2 j = part (iblk m c 0 t) (iblk m c 1 t) j := by
  rw [outsAt0_A m c t h (by omega) (by omega)]
  frame_out
  exact pay2 _ _ j

theorem next (t : Fin cfg0.N) (h : ¬t.val % 8 = 0) (h' : ¬t.val % 8 = 8 - 1) (j : S512x2816.Idx) :
    (outsAt0 m c t.val t.isLt).2 j
      = ((outsAt0 m c (t.val - 1) (Nat.lt_of_le_of_lt (Nat.sub_le _ _) t.isLt)).2 j : EReal) + part (iblk m c 0 t) (iblk m c 1 t) j := by
  rw [outsAt0_B m c t h (by omega) h']
  frame_out
  rw [pay3, (Memref.isWhole_whole _).read_unread]

theorem last (t : Fin cfg0.N) (h : t.val % 8 = 8 - 1) (j : S512x2816.Idx) :
    (outsAt0 m c t.val t.isLt).1 j
      = ((outsAt0 m c (t.val - 1) (Nat.lt_of_le_of_lt (Nat.sub_le _ _) t.isLt)).2 j : EReal) + part (iblk m c 0 t) (iblk m c 1 t) j := by
  rw [outsAt0_C m c t (by omega) (by omega) h]
  frame_out
  rw [pay4, (Memref.isWhole_whole _).read_unread]

/-! ## The array -/

/-- The region finds its operands as they were launched. -/
theorem V_x : V m c main_v0 = m ((c : Thread nD τ).loc main_arg0) := by
  simp only [V, hostOps0]
  after_results_simp <;> rfl
theorem V_w : V m c main_v1 = m ((c : Thread nD τ).loc main_arg1) := by
  simp only [V, hostOps0]
  after_results_simp <;> rfl

/-- What the whole array holds. -/
def prod (x : (⟨S8192x1024, .f32⟩ : BufTy).Contents (Elt Ideal)) (w : (⟨S8192x5632, .f32⟩ : BufTy).Contents (Elt Ideal)) :
    (⟨S1024x5632, .f32⟩ : BufTy).Contents (Elt Ideal) := fun i => tn (M := 1024) (N := 5632) x w (i 0) (i 1)

theorem blocks : ∀ t : Fin grid0.N, t.val % 8 = 7 → ∀ s : Fin 8, ∀ h : 8 * (t.val / 8) + s.val < grid0.N,
    win0_0.index (⟨8 * (t.val / 8) + s.val, h⟩ : Fin grid0.N) 0 = s.val ∧ win0_0.index (⟨8 * (t.val / 8) + s.val, h⟩ : Fin grid0.N) 1 = win0_2.index t 0
    ∧ win0_1.index (⟨8 * (t.val / 8) + s.val, h⟩ : Fin grid0.N) 0 = s.val ∧ win0_1.index (⟨8 * (t.val / 8) + s.val, h⟩ : Fin grid0.N) 1 = win0_2.index t 1 := by
  decide +kernel

theorem flush_last : ∀ t : Fin grid0.N, win0_2.flush t = true → t.val % 8 = 8 - 1 := by decide +kernel

/-- The array after the run. -/
theorem arr : (dats m 0 c).arrAt 2 cfg0.N = prod (V m c main_v0) (V m c main_v1) :=
  Dat.arrAt_eq_of_covers (dats m 0 c) 2 _ (by decide +kernel) fun t hf y => by
    obtain ⟨a, b, rfl⟩ : ∃ (a : Fin 512) (b : Fin 2816), y = ix2 a b := ⟨y 0, y 1, eq_ix2 y⟩
    have ht := flush_last t hf
    blk_simp
    rw [after0_2]
    refine (run_sum (by decide) (fun n h => (outsAt0 m c n h).1) (fun n h => (outsAt0 m c n h).2) (fun t => part (iblk m c 0 t) (iblk m c 1 t))
      id (first m c) (next m c) (last m c) t ht (ix2 a b)).trans ?_
    unfold prod part tn
    refine sum_blocks rfl (fun s k hl => ?_) (fun s k hl => ?_)
    all_goals obtain ⟨h0, h1, h2, h3⟩ := blocks t ht s (Pipeline.run_point_lt_of_flush t ht s)
    · blk_ext [iblk, h0, h1]
      exact one_step _ _
    · blk_ext [iblk, h2, h3]
      exact one_step _ _

/-- The reference's array is the same. -/
theorem ref (x : (⟨S8192x1024, .f32⟩ : BufTy).Contents (Elt Ideal)) (w : (⟨S8192x5632, .f32⟩ : BufTy).Contents (Elt Ideal)) :
    Cert.RUpDwIdeal.Read.val_main_v3 (F := Ideal) x w = prod x w := funext fun i => by
  rw [Cert.RUpDwIdeal.Read.val_main_v3_apply, Cert.RUpDwIdeal.Read.val_main_v2_apply]
  unfold prod tn
  refine Finset.sum_congr rfl fun k _ => (mul_comm _ _).trans (congrArg₂ (fun (p q : EReal) => p * q) (congrArg x ?_) (congrArg w ?_)) <;>
    funext d <;> fin_cases d <;> rfl

end Cert.KUpDwIdeal.Hand

end
-- ==== Proof.In.lean ====
/-
  The input projection, block by block.
-/
module

public import proofs.«01_k».proof.Proof.Gen.KInIdeal.Value
public import proofs.«01_k».proof.Proof.Gen.RInIdeal.Run
public import proofs.«01_k».proof.Proof.Gen.RInIdeal.Read
public import proofs.«01_k».proof.Proof.Products

@[expose] public section

noncomputable section

namespace Cert.KInIdeal.Hand

open Cert.KInIdeal Cert.KInIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x1024 .bf16) (y : Vec Ideal S1024x1152 .bf16) (j : S1024x1152.Idx)

/-- The product of a point's two blocks. -/
def part : EReal := nn (M := 1024) (N := 1152) x y (j 0) (j 1)

theorem pay : k0_pay1 x y j = part x y j := by
  unfold k0_pay1
  simp only [shapeCast_self]
  exact (mul_one_word _).trans ((congrArg _ (eq_ix2 j)).trans (matmul_nn (φ₁ := .bf16) (φ₂ := .bf16) none (j 0) (j 1) x y))

/-! ## The array -/

/-- The region finds its operands as they were launched. -/
theorem V_x : V m c main_v0 = m ((c : Thread nD τ).loc main_arg0) := by
  simp only [V, hostOps0]
  after_results_simp <;> rfl
theorem V_w : V m c main_v1 = m ((c : Thread nD τ).loc main_arg1) := by
  simp only [V, hostOps0]
  after_results_simp <;> rfl

/-- What the whole array holds. -/
def prod (x : (⟨S8192x1024, .f32⟩ : BufTy).Contents (Elt Ideal)) (w : (⟨S1024x8064, .f32⟩ : BufTy).Contents (Elt Ideal)) :
    (⟨S8192x8064, .f32⟩ : BufTy).Contents (Elt Ideal) := fun i => nn (M := 8192) (N := 8064) x w (i 0) (i 1)

theorem blocks : ∀ t : Fin grid0.N, win0_0.index t 0 = win0_2.index t 0 ∧ win0_0.index t 1 = 0 ∧ win0_1.index t 1 = win0_2.index t 1 ∧ win0_1.index t 0 = 0 := by decide +kernel

/-- The array after the run. -/
theorem arr : (dats m 0 c).arrAt 2 cfg0.N = prod (V m c main_v0) (V m c main_v1) :=
  Dat.arrAt_eq_of_covers (dats m 0 c) 2 _ (by decide +kernel) fun t hf y => by
    obtain ⟨a, b, rfl⟩ : ∃ (a : Fin 1024) (b : Fin 1152), y = ix2 a b := ⟨y 0, y 1, eq_ix2 y⟩
    obtain ⟨h0, h1, h2, h3⟩ := blocks t
    blk_simp
    rw [after0_2]
    frame_out
    rw [pay]
    unfold prod part nn
    refine Fin.sum_fin_congr fun k => congrArg₂ (fun (p q : EReal) => p * q) ?_ ?_
    · blk_ext [iblk, h0, h1]
      exact one_step _ _
    · blk_ext [iblk, h2, h3]
      exact one_step _ _

/-- The reference's array is the same. -/
theorem ref (x : (⟨S8192x1024, .f32⟩ : BufTy).Contents (Elt Ideal)) (w : (⟨S1024x8064, .f32⟩ : BufTy).Contents (Elt Ideal)) :
    Cert.RInIdeal.Read.val_main_v0 (F := Ideal) x w = prod x w := funext fun i => by
  rw [Cert.RInIdeal.Read.val_main_v0_apply]
  unfold prod nn
  refine Finset.sum_congr rfl fun k _ => congrArg₂ (fun (p q : EReal) => p * q) (congrArg x ?_) (congrArg w ?_) <;>
    funext d <;> fin_cases d <;> rfl

end Cert.KInIdeal.Hand

end
-- ==== Proof.InDx.lean ====
/-
  The gradient of the input projection's rows: the contracted axis in three blocks.
-/
module

public import proofs.«01_k».proof.Proof.Gen.KInDxIdeal.Value
public import proofs.«01_k».proof.Proof.Gen.RInDxIdeal.Run
public import proofs.«01_k».proof.Proof.Gen.RInDxIdeal.Read
public import proofs.«01_k».proof.Proof.Products

@[expose] public section

noncomputable section

namespace Cert.KInDxIdeal.Hand

open Cert.KInDxIdeal Cert.KInDxIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x2688 .bf16) (y : Vec Ideal S1024x2688 .bf16) (z : Vec Ideal S1024x1024 .f32) (j : S1024x1024.Idx)

/-- The product of a point's two blocks. -/
def part : EReal := nt (M := 1024) (N := 1024) x y (j 0) (j 1)

theorem pay1 : k0_pay1 x y j = part x y j := by
  unfold k0_pay1
  simp only [shapeCast_self]
  exact (congrArg _ (eq_ix2 j)).trans (matmul_nt (φ₁ := .bf16) (φ₂ := .bf16) none (j 0) (j 1) x y)

theorem pay2 : k0_pay2 x y j = part x y j := by
  unfold k0_pay2
  simp only [shapeCast_self]
  exact pay1 x y j

theorem pay3 : k0_pay3 x y z j = (z j : EReal) + part x y j := by
  unfold k0_pay3
  simp only [shapeCast_self]
  exact congrArg (fun p : EReal => (z j : EReal) + p) (pay1 x y j)

theorem pay4 : k0_pay4 x y z j = (z j : EReal) + part x y j :=
  (mul_one_word _).trans (congrArg (fun p : EReal => (z j : EReal) + p) (pay1 x y j))

theorem first (t : Fin cfg0.N) (h : t.val % 3 = 0) (j : S1024x1024.Idx) :
    (outsAt0 m c t.val t.isLt).2 j = part (iblk m c 0 t) (iblk m c 1 t) j := by
  rw [outsAt0_A m c t h (by omega) (by omega)]
  frame_out
  exact pay2 _ _ j

theorem next (t : Fin cfg0.N) (h : ¬t.val % 3 = 0) (h' : ¬t.val % 3 = 3 - 1) (j : S1024x1024.Idx) :
    (outsAt0 m c t.val t.isLt).2 j
      = ((outsAt0 m c (t.val - 1) (Nat.lt_of_le_of_lt (Nat.sub_le _ _) t.isLt)).2 j : EReal) + part (iblk m c 0 t) (iblk m c 1 t) j := by
  rw [outsAt0_B m c t h (by omega) h']
  frame_out
  rw [pay3, (Memref.isWhole_whole _).read_unread]

theorem last (t : Fin cfg0.N) (h : t.val % 3 = 3 - 1) (j : S1024x1024.Idx) :
    (outsAt0 m c t.val t.isLt).1 j
      = ((outsAt0 m c (t.val - 1) (Nat.lt_of_le_of_lt (Nat.sub_le _ _) t.isLt)).2 j : EReal) + part (iblk m c 0 t) (iblk m c 1 t) j := by
  rw [outsAt0_C m c t (by omega) (by omega) h]
  frame_out
  rw [pay4, (Memref.isWhole_whole _).read_unread]

/-! ## The array -/

/-- The region finds its operands as they were launched. -/
theorem V_x : V m c main_v0 = m ((c : Thread nD τ).loc main_arg1) := by
  simp only [V, hostOps0]
  after_results_simp <;> rfl
theorem V_w : V m c main_v1 = m ((c : Thread nD τ).loc main_arg0) := by
  simp only [V, hostOps0]
  after_results_simp <;> rfl

/-- What the whole array holds. -/
def prod (x : (⟨S8192x8064, .f32⟩ : BufTy).Contents (Elt Ideal)) (w : (⟨S1024x8064, .f32⟩ : BufTy).Contents (Elt Ideal)) :
    (⟨S8192x1024, .f32⟩ : BufTy).Contents (Elt Ideal) := fun i => nt (M := 8192) (N := 1024) x w (i 0) (i 1)

theorem blocks : ∀ t : Fin grid0.N, t.val % 3 = 2 → ∀ s : Fin 3, ∀ h : 3 * (t.val / 3) + s.val < grid0.N,
    win0_0.index (⟨3 * (t.val / 3) + s.val, h⟩ : Fin grid0.N) 1 = s.val ∧ win0_0.index (⟨3 * (t.val / 3) + s.val, h⟩ : Fin grid0.N) 0 = win0_2.index t 0
    ∧ win0_1.index (⟨3 * (t.val / 3) + s.val, h⟩ : Fin grid0.N) 1 = s.val ∧ win0_1.index (⟨3 * (t.val / 3) + s.val, h⟩ : Fin grid0.N) 0 = win0_2.index t 1 := by
  decide +kernel

theorem flush_last : ∀ t : Fin grid0.N, win0_2.flush t = true → t.val % 3 = 3 - 1 := by decide +kernel

/-- The array after the run. -/
theorem arr : (dats m 0 c).arrAt 2 cfg0.N = prod (V m c main_v0) (V m c main_v1) :=
  Dat.arrAt_eq_of_covers (dats m 0 c) 2 _ (by decide +kernel) fun t hf y => by
    obtain ⟨a, b, rfl⟩ : ∃ (a : Fin 1024) (b : Fin 1024), y = ix2 a b := ⟨y 0, y 1, eq_ix2 y⟩
    have ht := flush_last t hf
    blk_simp
    rw [after0_2]
    refine (run_sum (by decide) (fun n h => (outsAt0 m c n h).1) (fun n h => (outsAt0 m c n h).2) (fun t => part (iblk m c 0 t) (iblk m c 1 t))
      id (first m c) (next m c) (last m c) t ht (ix2 a b)).trans ?_
    unfold prod part nt
    refine sum_blocks rfl (fun s k hl => ?_) (fun s k hl => ?_)
    all_goals obtain ⟨h0, h1, h2, h3⟩ := blocks t ht s (Pipeline.run_point_lt_of_flush t ht s)
    · blk_ext [iblk, h0, h1]
      exact one_step _ _
    · blk_ext [iblk, h2, h3]
      exact one_step _ _

/-- The reference's array is the same. -/
theorem ref (x : (⟨S8192x8064, .f32⟩ : BufTy).Contents (Elt Ideal)) (w : (⟨S1024x8064, .f32⟩ : BufTy).Contents (Elt Ideal)) :
    Cert.RInDxIdeal.Read.val_main_v2 (F := Ideal) w x = prod x w := funext fun i => by
  rw [Cert.RInDxIdeal.Read.val_main_v2_apply]
  unfold prod nt
  refine Finset.sum_congr rfl fun k _ => congrArg₂ (fun (p q : EReal) => p * q) (congrArg x ?_) (congrArg w ?_) <;>
    funext d <;> fin_cases d <;> rfl

end Cert.KInDxIdeal.Hand

end
-- ==== Proof.InDw.lean ====
/-
  The gradient of the input projection's weights: eight row blocks accumulated.
-/
module

public import proofs.«01_k».proof.Proof.Gen.KInDwIdeal.Value
public import proofs.«01_k».proof.Proof.Gen.RInDwIdeal.Run
public import proofs.«01_k».proof.Proof.Gen.RInDwIdeal.Read
public import proofs.«01_k».proof.Proof.Products

@[expose] public section

noncomputable section

namespace Cert.KInDwIdeal.Hand

open Cert.KInDwIdeal Cert.KInDwIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x512 .bf16) (y : Vec Ideal S1024x2688 .bf16) (z : Vec Ideal S512x2688 .f32) (j : S512x2688.Idx)

/-- The product of a point's two blocks. -/
def part : EReal := tn (M := 512) (N := 2688) x y (j 0) (j 1)

theorem pay1 : k0_pay1 x y j = part x y j := by
  unfold k0_pay1
  simp only [shapeCast_self]
  exact (congrArg _ (eq_ix2 j)).trans (matmul_tn (φ₁ := .bf16) (φ₂ := .bf16) none (j 0) (j 1) x y)

theorem pay2 : k0_pay2 x y j = part x y j := by
  unfold k0_pay2
  simp only [shapeCast_self]
  exact pay1 x y j

theorem pay3 : k0_pay3 x y z j = (z j : EReal) + part x y j := by
  unfold k0_pay3
  simp only [shapeCast_self]
  exact congrArg (fun p : EReal => (z j : EReal) + p) (pay1 x y j)

theorem pay4 : k0_pay4 x y z j = (z j : EReal) + part x y j :=
  (mul_one_word _).trans (congrArg (fun p : EReal => (z j : EReal) + p) (pay1 x y j))

theorem first (t : Fin cfg0.N) (h : t.val % 8 = 0) (j : S512x2688.Idx) :
    (outsAt0 m c t.val t.isLt).2 j = part (iblk m c 0 t) (iblk m c 1 t) j := by
  rw [outsAt0_A m c t h (by omega) (by omega)]
  frame_out
  exact pay2 _ _ j

theorem next (t : Fin cfg0.N) (h : ¬t.val % 8 = 0) (h' : ¬t.val % 8 = 8 - 1) (j : S512x2688.Idx) :
    (outsAt0 m c t.val t.isLt).2 j
      = ((outsAt0 m c (t.val - 1) (Nat.lt_of_le_of_lt (Nat.sub_le _ _) t.isLt)).2 j : EReal) + part (iblk m c 0 t) (iblk m c 1 t) j := by
  rw [outsAt0_B m c t h (by omega) h']
  frame_out
  rw [pay3, (Memref.isWhole_whole _).read_unread]

theorem last (t : Fin cfg0.N) (h : t.val % 8 = 8 - 1) (j : S512x2688.Idx) :
    (outsAt0 m c t.val t.isLt).1 j
      = ((outsAt0 m c (t.val - 1) (Nat.lt_of_le_of_lt (Nat.sub_le _ _) t.isLt)).2 j : EReal) + part (iblk m c 0 t) (iblk m c 1 t) j := by
  rw [outsAt0_C m c t (by omega) (by omega) h]
  frame_out
  rw [pay4, (Memref.isWhole_whole _).read_unread]

/-! ## The array -/

/-- The region finds its operands as they were launched. -/
theorem V_x : V m c main_v0 = m ((c : Thread nD τ).loc main_arg0) := by
  simp only [V, hostOps0]
  after_results_simp <;> rfl
theorem V_w : V m c main_v1 = m ((c : Thread nD τ).loc main_arg1) := by
  simp only [V, hostOps0]
  after_results_simp <;> rfl

/-- What the whole array holds. -/
def prod (x : (⟨S8192x1024, .f32⟩ : BufTy).Contents (Elt Ideal)) (w : (⟨S8192x8064, .f32⟩ : BufTy).Contents (Elt Ideal)) :
    (⟨S1024x8064, .f32⟩ : BufTy).Contents (Elt Ideal) := fun i => tn (M := 1024) (N := 8064) x w (i 0) (i 1)

theorem blocks : ∀ t : Fin grid0.N, t.val % 8 = 7 → ∀ s : Fin 8, ∀ h : 8 * (t.val / 8) + s.val < grid0.N,
    win0_0.index (⟨8 * (t.val / 8) + s.val, h⟩ : Fin grid0.N) 0 = s.val ∧ win0_0.index (⟨8 * (t.val / 8) + s.val, h⟩ : Fin grid0.N) 1 = win0_2.index t 0
    ∧ win0_1.index (⟨8 * (t.val / 8) + s.val, h⟩ : Fin grid0.N) 0 = s.val ∧ win0_1.index (⟨8 * (t.val / 8) + s.val, h⟩ : Fin grid0.N) 1 = win0_2.index t 1 := by
  decide +kernel

theorem flush_last : ∀ t : Fin grid0.N, win0_2.flush t = true → t.val % 8 = 8 - 1 := by decide +kernel

/-- The array after the run. -/
theorem arr : (dats m 0 c).arrAt 2 cfg0.N = prod (V m c main_v0) (V m c main_v1) :=
  Dat.arrAt_eq_of_covers (dats m 0 c) 2 _ (by decide +kernel) fun t hf y => by
    obtain ⟨a, b, rfl⟩ : ∃ (a : Fin 512) (b : Fin 2688), y = ix2 a b := ⟨y 0, y 1, eq_ix2 y⟩
    have ht := flush_last t hf
    blk_simp
    rw [after0_2]
    refine (run_sum (by decide) (fun n h => (outsAt0 m c n h).1) (fun n h => (outsAt0 m c n h).2) (fun t => part (iblk m c 0 t) (iblk m c 1 t))
      id (first m c) (next m c) (last m c) t ht (ix2 a b)).trans ?_
    unfold prod part tn
    refine sum_blocks rfl (fun s k hl => ?_) (fun s k hl => ?_)
    all_goals obtain ⟨h0, h1, h2, h3⟩ := blocks t ht s (Pipeline.run_point_lt_of_flush t ht s)
    · blk_ext [iblk, h0, h1]
      exact one_step _ _
    · blk_ext [iblk, h2, h3]
      exact one_step _ _

/-- The reference's array is the same. -/
theorem ref (x : (⟨S8192x1024, .f32⟩ : BufTy).Contents (Elt Ideal)) (w : (⟨S8192x8064, .f32⟩ : BufTy).Contents (Elt Ideal)) :
    Cert.RInDwIdeal.Read.val_main_v3 (F := Ideal) x w = prod x w := funext fun i => by
  rw [Cert.RInDwIdeal.Read.val_main_v3_apply, Cert.RInDwIdeal.Read.val_main_v2_apply]
  unfold prod tn
  refine Finset.sum_congr rfl fun k _ => (mul_comm _ _).trans (congrArg₂ (fun (p q : EReal) => p * q) (congrArg x ?_) (congrArg w ?_)) <;>
    funext d <;> fin_cases d <;> rfl

end Cert.KInDwIdeal.Hand

end
-- ==== Proof.Down.lean ====
/-
  The down projection, halved and added to the residual, block by block.
-/
module

public import proofs.«01_k».proof.Proof.Gen.KDownIdeal.Value
public import proofs.«01_k».proof.Proof.Gen.RDownIdeal.Run
public import proofs.«01_k».proof.Proof.Gen.RDownIdeal.Read
public import proofs.«01_k».proof.Proof.Products

@[expose] public section

noncomputable section

namespace Cert.KDownIdeal.Hand

open Cert.KDownIdeal Cert.KDownIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x2816 .bf16) (y : Vec Ideal S2816x1024 .bf16) (z : Vec Ideal S1024x1024 .f32) (j : S1024x1024.Idx)

/-- The product of a point's two blocks. -/
def part : EReal := nn (M := 1024) (N := 1024) x y (j 0) (j 1)

theorem pay : k0_pay1 x y z j = (z j : EReal) + part x y j * half := by
  unfold k0_pay1
  simp only [shapeCast_self]
  refine congrArg (fun p : EReal => (z j : EReal) + p) ?_
  exact congrArg (fun p : EReal => p * half) ((congrArg _ (eq_ix2 j)).trans (matmul_nn (φ₁ := .bf16) (φ₂ := .bf16) none (j 0) (j 1) x y))

/-! ## The array -/

/-- The region finds its operands as they were launched. -/
theorem V_x : V m c main_v0 = m ((c : Thread nD τ).loc main_arg1) := by
  simp only [V, hostOps0]
  after_results_simp <;> rfl
theorem V_w : V m c main_v1 = m ((c : Thread nD τ).loc main_arg2) := by
  simp only [V, hostOps0]
  after_results_simp <;> rfl

/-- What the whole array holds. -/
def prod (z : (⟨S8192x1024, .f32⟩ : BufTy).Contents (Elt Ideal)) (x : (⟨S8192x2816, .f32⟩ : BufTy).Contents (Elt Ideal)) (w : (⟨S2816x1024, .f32⟩ : BufTy).Contents (Elt Ideal)) :
    (⟨S8192x1024, .f32⟩ : BufTy).Contents (Elt Ideal) := fun i => (z i : EReal) + nn (M := 8192) (N := 1024) x w (i 0) (i 1) * half

theorem blocks : ∀ t : Fin grid0.N, win0_0.index t 0 = win0_3.index t 0 ∧ win0_0.index t 1 = 0 ∧ win0_1.index t 1 = win0_3.index t 1 ∧ win0_1.index t 0 = 0
    ∧ win0_2.index t 0 = win0_3.index t 0 ∧ win0_2.index t 1 = win0_3.index t 1 := by decide +kernel

/-- The array after the run. -/
theorem arr : (dats m 0 c).arrAt 3 cfg0.N = prod (V m c main_arg0) (V m c main_v0) (V m c main_v1) :=
  Dat.arrAt_eq_of_covers (dats m 0 c) 3 _ (by decide +kernel) fun t hf y => by
    obtain ⟨a, b, rfl⟩ : ∃ (a : Fin 1024) (b : Fin 1024), y = ix2 a b := ⟨y 0, y 1, eq_ix2 y⟩
    obtain ⟨h0, h1, h2, h3, h4, h5⟩ := blocks t
    blk_simp
    rw [after0_3]
    frame_out
    rw [pay]
    unfold prod part nn
    refine congrArg₂ (fun (p q : EReal) => p + q) (by blk_ext [iblk, h4, h5]) ?_
    refine congrArg (fun p : EReal => p * half) ?_
    refine Fin.sum_fin_congr fun k => congrArg₂ (fun (p q : EReal) => p * q) ?_ ?_
    · blk_ext [iblk, h0, h1]
      exact one_step _ _
    · blk_ext [iblk, h2, h3]
      exact one_step _ _

/-- The reference's array is the same. -/
theorem ref (z : (⟨S8192x1024, .f32⟩ : BufTy).Contents (Elt Ideal)) (x : (⟨S8192x2816, .f32⟩ : BufTy).Contents (Elt Ideal)) (w : (⟨S2816x1024, .f32⟩ : BufTy).Contents (Elt Ideal)) :
    Cert.RDownIdeal.Read.val_main_v3 (F := Ideal) z x w = prod z x w := funext fun i => by
  rw [Cert.RDownIdeal.Read.val_main_v3_apply, Cert.RDownIdeal.Read.val_main_v2_apply, Cert.RDownIdeal.Read.val_main_v1_apply, Cert.RDownIdeal.Read.val_main_cst_apply, Cert.RDownIdeal.Read.val_main_v0_apply]
  unfold prod nn
  refine congrArg (fun p : EReal => (z i : EReal) + p) ((mul_comm _ _).trans (congrArg (fun p : EReal => p * half) ?_))
  refine Finset.sum_congr rfl fun k _ => congrArg₂ (fun (p q : EReal) => p * q) (congrArg x ?_) (congrArg w ?_) <;>
    funext d <;> fin_cases d <;> rfl

end Cert.KDownIdeal.Hand

end
-- ==== Proof.DownDx.lean ====
/-
  The gradient of the down projection's rows, block by block; the reference scales the rows, the kernel the sums.
-/
module

public import proofs.«01_k».proof.Proof.Gen.KDownDxIdeal.Value
public import proofs.«01_k».proof.Proof.Gen.RDownDxIdeal.Run
public import proofs.«01_k».proof.Proof.Gen.RDownDxIdeal.Read
public import proofs.«01_k».proof.Proof.Products

@[expose] public section

noncomputable section

namespace Cert.KDownDxIdeal.Hand

open Cert.KDownDxIdeal Cert.KDownDxIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x1024 .f32) (y : Vec Ideal S1408x1024 .bf16) (j : S1024x1408.Idx)

/-- The product of a point's two blocks. -/
def part : EReal := nt (M := 1024) (N := 1408) x y (j 0) (j 1)

theorem pay : k0_pay1 x y j = part x y j * half := by
  unfold k0_pay1
  simp only [shapeCast_self]
  exact congrArg (fun p : EReal => p * half) ((congrArg _ (eq_ix2 j)).trans (matmul_nt (φ₁ := .bf16) (φ₂ := .bf16) none (j 0) (j 1) x y))

/-! ## The array -/

/-- The region finds its operands as they were launched. -/
theorem V_x : V m c main_arg1 = m ((c : Thread nD τ).loc main_arg1) := V_main_arg1 m c
theorem V_w : V m c main_v0 = m ((c : Thread nD τ).loc main_arg0) := by
  simp only [V, hostOps0]
  after_results_simp <;> rfl

/-- What the whole array holds. -/
def prod (x : (⟨S8192x1024, .f32⟩ : BufTy).Contents (Elt Ideal)) (w : (⟨S2816x1024, .f32⟩ : BufTy).Contents (Elt Ideal)) :
    (⟨S8192x2816, .bf16⟩ : BufTy).Contents (Elt Ideal) := fun i => nt (M := 8192) (N := 2816) x w (i 0) (i 1) * half

theorem blocks : ∀ t : Fin grid0.N, win0_0.index t 0 = win0_2.index t 0 ∧ win0_0.index t 1 = 0 ∧ win0_1.index t 0 = win0_2.index t 1 ∧ win0_1.index t 1 = 0 := by decide +kernel

/-- The array after the run. -/
theorem arr : (dats m 0 c).arrAt 2 cfg0.N = prod (V m c main_arg1) (V m c main_v0) :=
  Dat.arrAt_eq_of_covers (dats m 0 c) 2 _ (by decide +kernel) fun t hf y => by
    obtain ⟨a, b, rfl⟩ : ∃ (a : Fin 1024) (b : Fin 1408), y = ix2 a b := ⟨y 0, y 1, eq_ix2 y⟩
    obtain ⟨h0, h1, h2, h3⟩ := blocks t
    blk_simp
    rw [after0_2]
    frame_out
    rw [pay]
    unfold prod part nt
    refine congrArg (fun p : EReal => p * half) ?_
    refine Fin.sum_fin_congr fun k => congrArg₂ (fun (p q : EReal) => p * q) ?_ ?_
    · blk_ext [iblk, h0, h1]
      exact one_step _ _
    · blk_ext [iblk, h2, h3]
      exact one_step _ _

/-- The reference's array is the same. -/
theorem ref (x : (⟨S8192x1024, .f32⟩ : BufTy).Contents (Elt Ideal)) (w : (⟨S2816x1024, .f32⟩ : BufTy).Contents (Elt Ideal)) :
    Cert.RDownDxIdeal.Read.val_main_v7 (F := Ideal) w x = prod x w := funext fun i => by
  rw [Cert.RDownDxIdeal.Read.val_main_v7_apply]
  unfold prod nt
  refine (Cert.RDownDxIdeal.Read.val_main_v6_apply w x i).trans ?_
  refine Eq.trans (Finset.sum_congr rfl fun k _ => ?_) ((half_sum fun k => (x (ix2 (i 0) k) * w (ix2 (i 1) k) : EReal)).trans (mul_comm _ _))
  rw [Cert.RDownDxIdeal.Read.val_main_v5_apply, Cert.RDownDxIdeal.Read.val_main_v4_apply, Cert.RDownDxIdeal.Read.val_main_cst_1_apply]
  refine (mul_assoc half _ _).trans (congrArg (fun p : EReal => half * p) ?_)
  refine congrArg₂ (fun (p q : EReal) => p * q) (congrArg x ?_) (congrArg w ?_) <;>
    funext d <;> fin_cases d <;> rfl

end Cert.KDownDxIdeal.Hand

end
-- ==== Proof.DownDw.lean ====
/-
  The gradient of the down projection's weights: eight row blocks accumulated; the reference scales the rows, the kernel the sums.
-/
module

public import proofs.«01_k».proof.Proof.Gen.KDownDwIdeal.Value
public import proofs.«01_k».proof.Proof.Gen.RDownDwIdeal.Run
public import proofs.«01_k».proof.Proof.Gen.RDownDwIdeal.Read
public import proofs.«01_k».proof.Proof.Products

@[expose] public section

noncomputable section

namespace Cert.KDownDwIdeal.Hand

open Cert.KDownDwIdeal Cert.KDownDwIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x1408 .bf16) (y : Vec Ideal S1024x1024 .f32) (z : Vec Ideal S1408x1024 .f32) (j : S1408x1024.Idx)

/-- The product of a point's two blocks. -/
def part : EReal := tn (M := 1408) (N := 1024) x y (j 0) (j 1)

theorem pay1 : k0_pay1 x y j = part x y j := by
  unfold k0_pay1
  simp only [shapeCast_self]
  exact (congrArg _ (eq_ix2 j)).trans (matmul_tn (φ₁ := .bf16) (φ₂ := .bf16) none (j 0) (j 1) x y)

theorem pay2 : k0_pay2 x y j = part x y j := by
  unfold k0_pay2
  simp only [shapeCast_self]
  exact pay1 x y j

theorem pay3 : k0_pay3 x y z j = (z j : EReal) + part x y j := by
  unfold k0_pay3
  simp only [shapeCast_self]
  exact congrArg (fun p : EReal => (z j : EReal) + p) (pay1 x y j)

theorem pay4 : k0_pay4 x y z j = ((z j : EReal) + part x y j) * half :=
  congrArg (fun p : EReal => ((z j : EReal) + p) * half) (pay1 x y j)

theorem first (t : Fin cfg0.N) (h : t.val % 8 = 0) (j : S1408x1024.Idx) :
    (outsAt0 m c t.val t.isLt).2 j = part (iblk m c 0 t) (iblk m c 1 t) j := by
  rw [outsAt0_A m c t h (by omega) (by omega)]
  frame_out
  exact pay2 _ _ j

theorem next (t : Fin cfg0.N) (h : ¬t.val % 8 = 0) (h' : ¬t.val % 8 = 8 - 1) (j : S1408x1024.Idx) :
    (outsAt0 m c t.val t.isLt).2 j
      = ((outsAt0 m c (t.val - 1) (Nat.lt_of_le_of_lt (Nat.sub_le _ _) t.isLt)).2 j : EReal) + part (iblk m c 0 t) (iblk m c 1 t) j := by
  rw [outsAt0_B m c t h (by omega) h']
  frame_out
  rw [pay3, (Memref.isWhole_whole _).read_unread]

theorem last (t : Fin cfg0.N) (h : t.val % 8 = 8 - 1) (j : S1408x1024.Idx) :
    (outsAt0 m c t.val t.isLt).1 j
      = (((outsAt0 m c (t.val - 1) (Nat.lt_of_le_of_lt (Nat.sub_le _ _) t.isLt)).2 j : EReal) + part (iblk m c 0 t) (iblk m c 1 t) j) * half := by
  rw [outsAt0_C m c t (by omega) (by omega) h]
  frame_out
  rw [pay4, (Memref.isWhole_whole _).read_unread]

/-! ## The array -/

/-- The region finds its operands as they were launched. -/
theorem V_x : V m c main_v0 = m ((c : Thread nD τ).loc main_arg0) := by
  simp only [V, hostOps0]
  after_results_simp <;> rfl
theorem V_w : V m c main_arg1 = m ((c : Thread nD τ).loc main_arg1) := V_main_arg1 m c

/-- What the whole array holds. -/
def prod (x : (⟨S8192x2816, .f32⟩ : BufTy).Contents (Elt Ideal)) (w : (⟨S8192x1024, .f32⟩ : BufTy).Contents (Elt Ideal)) :
    (⟨S2816x1024, .f32⟩ : BufTy).Contents (Elt Ideal) := fun i => tn (M := 2816) (N := 1024) x w (i 0) (i 1) * half

theorem blocks : ∀ t : Fin grid0.N, t.val % 8 = 7 → ∀ s : Fin 8, ∀ h : 8 * (t.val / 8) + s.val < grid0.N,
    win0_0.index (⟨8 * (t.val / 8) + s.val, h⟩ : Fin grid0.N) 0 = s.val ∧ win0_0.index (⟨8 * (t.val / 8) + s.val, h⟩ : Fin grid0.N) 1 = win0_2.index t 0
    ∧ win0_1.index (⟨8 * (t.val / 8) + s.val, h⟩ : Fin grid0.N) 0 = s.val ∧ win0_1.index (⟨8 * (t.val / 8) + s.val, h⟩ : Fin grid0.N) 1 = win0_2.index t 1 := by
  decide +kernel

theorem flush_last : ∀ t : Fin grid0.N, win0_2.flush t = true → t.val % 8 = 8 - 1 := by decide +kernel

/-- The array after the run. -/
theorem arr : (dats m 0 c).arrAt 2 cfg0.N = prod (V m c main_v0) (V m c main_arg1) :=
  Dat.arrAt_eq_of_covers (dats m 0 c) 2 _ (by decide +kernel) fun t hf y => by
    obtain ⟨a, b, rfl⟩ : ∃ (a : Fin 1408) (b : Fin 1024), y = ix2 a b := ⟨y 0, y 1, eq_ix2 y⟩
    have ht := flush_last t hf
    blk_simp
    rw [after0_2]
    refine (run_sum (by decide) (fun n h => (outsAt0 m c n h).1) (fun n h => (outsAt0 m c n h).2) (fun t => part (iblk m c 0 t) (iblk m c 1 t))
      (fun p : EReal => p * half) (first m c) (next m c) (last m c) t ht (ix2 a b)).trans ?_
    unfold prod part tn
    refine congrArg (fun p : EReal => p * half) ?_
    refine sum_blocks rfl (fun s k hl => ?_) (fun s k hl => ?_)
    all_goals obtain ⟨h0, h1, h2, h3⟩ := blocks t ht s (Pipeline.run_point_lt_of_flush t ht s)
    · blk_ext [iblk, h0, h1]
      exact one_step _ _
    · blk_ext [iblk, h2, h3]
      exact one_step _ _

/-- The reference's array is the same. -/
theorem ref (x : (⟨S8192x2816, .f32⟩ : BufTy).Contents (Elt Ideal)) (w : (⟨S8192x1024, .f32⟩ : BufTy).Contents (Elt Ideal)) :
    Cert.RDownDwIdeal.Read.val_main_v7 (F := Ideal) x w = prod x w := funext fun i => by
  rw [Cert.RDownDwIdeal.Read.val_main_v7_apply]
  unfold prod tn
  refine (Cert.RDownDwIdeal.Read.val_main_v6_apply x w _).trans ?_
  refine Eq.trans (Finset.sum_congr rfl fun k _ => ?_) ((half_sum fun k => (x (ix2 k (i 0)) * w (ix2 k (i 1)) : EReal)).trans (mul_comm _ _))
  rw [Cert.RDownDwIdeal.Read.val_main_v5_apply, Cert.RDownDwIdeal.Read.val_main_v4_apply, Cert.RDownDwIdeal.Read.val_main_cst_1_apply]
  refine (mul_assoc half _ _).trans (congrArg (fun p : EReal => half * p) ((mul_comm _ _).trans ?_))
  refine congrArg₂ (fun (p q : EReal) => p * q) (congrArg x ?_) (congrArg w ?_) <;>
    funext d <;> fin_cases d <;> rfl

end Cert.KDownDwIdeal.Hand

end
-- ==== Proof.Calls.lean ====
/-
  The matrix products of the two feed-forward blocks and the input projection: each call's frames and its value, from the arrays of its module.
-/
module

public import proofs.«01_k».proof.Defs
public import proofs.«01_k».proof.Proof.Gen.KUp
public import proofs.«01_k».proof.Proof.Gen.KUpIdeal
public import proofs.«01_k».proof.Proof.Gen.RUpIdeal
public import proofs.«01_k».proof.Proof.Up
public import proofs.«01_k».proof.Proof.Gen.KUpDx
public import proofs.«01_k».proof.Proof.Gen.KUpDxIdeal
public import proofs.«01_k».proof.Proof.Gen.RUpDxIdeal
public import proofs.«01_k».proof.Proof.UpDx
public import proofs.«01_k».proof.Proof.Gen.KUpDw
public import proofs.«01_k».proof.Proof.Gen.KUpDwIdeal
public import proofs.«01_k».proof.Proof.Gen.RUpDwIdeal
public import proofs.«01_k».proof.Proof.UpDw
public import proofs.«01_k».proof.Proof.Gen.KIn
public import proofs.«01_k».proof.Proof.Gen.KInIdeal
public import proofs.«01_k».proof.Proof.Gen.RInIdeal
public import proofs.«01_k».proof.Proof.In
public import proofs.«01_k».proof.Proof.Gen.KInDx
public import proofs.«01_k».proof.Proof.Gen.KInDxIdeal
public import proofs.«01_k».proof.Proof.Gen.RInDxIdeal
public import proofs.«01_k».proof.Proof.InDx
public import proofs.«01_k».proof.Proof.Gen.KInDw
public import proofs.«01_k».proof.Proof.Gen.KInDwIdeal
public import proofs.«01_k».proof.Proof.Gen.RInDwIdeal
public import proofs.«01_k».proof.Proof.InDw
public import proofs.«01_k».proof.Proof.Gen.KDown
public import proofs.«01_k».proof.Proof.Gen.KDownIdeal
public import proofs.«01_k».proof.Proof.Gen.RDownIdeal
public import proofs.«01_k».proof.Proof.Down
public import proofs.«01_k».proof.Proof.Gen.KDownDx
public import proofs.«01_k».proof.Proof.Gen.KDownDxIdeal
public import proofs.«01_k».proof.Proof.Gen.RDownDxIdeal
public import proofs.«01_k».proof.Proof.DownDx
public import proofs.«01_k».proof.Proof.Gen.KDownDw
public import proofs.«01_k».proof.Proof.Gen.KDownDwIdeal
public import proofs.«01_k».proof.Proof.Gen.RDownDwIdeal
public import proofs.«01_k».proof.Proof.DownDw
public import Idealize.ShloMosaic.Adequacy
public import Idealize.ShloMosaic.Init

@[expose] public section

set_option maxRecDepth 16384

noncomputable section

namespace Cert.Proof

open Idealize.ShloMosaic Idealize.SL.Sem
open Cert.Products (run_of_eq)

/-! ## Up -/

set_option maxHeartbeats 2000000 in
set_option backward.isDefEq.respectTransparency.types false in
theorem defs₀_KUp : Cert.KUp.defs₀ (F := Bits) = Cert.KUpIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KUp : Cert.KUp.defs (F := Bits) = Cert.KUpIdeal.defs (F := Bits) := congrArg (Pipeline.defs Cert.KUpIdeal.pcfgs) defs₀_KUp

set_option maxHeartbeats 2000000 in
set_option backward.isDefEq.respectTransparency.types false in
theorem main_KUp (c) : Cert.KUp.main (F := Bits) c = Cert.KUpIdeal.main (F := Bits) c := by
  with_unfolding_all rfl

theorem frame_KUp : Cert.quiescent_KUp := fun m ρ _ =>
  run_of_eq defs_KUp (congrArg onTc (funext main_KUp)) (Cert.KUpIdeal.Gen.frame (F := Bits) m ρ)

theorem frame_KUpIdeal : Cert.quiescent_KUpIdeal := fun m ρ _ => Cert.KUpIdeal.Gen.frame m ρ

theorem frame_RUpIdeal : Cert.quiescent_RUpIdeal := fun m ρ _ =>
  (θ_run _ _ _).mono (fun r h => ⟨fun c => (h c).2.2.2, funext fun s => by
    rcases s with ⟨t, s⟩
    cases s with
    | reg s => exact Fin.elim0 s
    | dma s => exact Fin.elim0 s⟩) (Cert.RUpIdeal.Value.run m ρ)

theorem algebraic_Up : Cert.algebraic_KUpIdeal_RUpIdeal := by
  intro m ρ m' ρ' _ hargs
  refine ⟨fun c => Cert.KUpIdeal.Hand.actG (m ((c.tc : Thread Cert.KUpIdeal.nD Cert.KUpIdeal.τ).loc Cert.KUpIdeal.main_arg0)) (m ((c.tc : Thread Cert.KUpIdeal.nD Cert.KUpIdeal.τ).loc Cert.KUpIdeal.main_arg1)), fun c => Cert.KUpIdeal.Hand.gateG (m ((c.tc : Thread Cert.KUpIdeal.nD Cert.KUpIdeal.τ).loc Cert.KUpIdeal.main_arg0)) (m ((c.tc : Thread Cert.KUpIdeal.nD Cert.KUpIdeal.τ).loc Cert.KUpIdeal.main_arg1)), fun c => Cert.KUpIdeal.Hand.upG (m ((c.tc : Thread Cert.KUpIdeal.nD Cert.KUpIdeal.τ).loc Cert.KUpIdeal.main_arg0)) (m ((c.tc : Thread Cert.KUpIdeal.nD Cert.KUpIdeal.τ).loc Cert.KUpIdeal.main_arg1)), ?_, ?_⟩
  · refine (θ_run _ _ _).mono (fun r h c => ?_) (Cert.KUpIdeal.Value.run_blocks m ρ)
    obtain ⟨h0, h1, h2, hu⟩ := h c
    exact ⟨h0.trans ((Cert.KUpIdeal.Hand.arr_act m c).trans (by rw [Cert.KUpIdeal.Hand.V_x m c, Cert.KUpIdeal.Hand.V_w m c])),
      h1.trans ((Cert.KUpIdeal.Hand.arr_gate m c).trans (by rw [Cert.KUpIdeal.Hand.V_x m c, Cert.KUpIdeal.Hand.V_w m c])),
      h2.trans ((Cert.KUpIdeal.Hand.arr_up m c).trans (by rw [Cert.KUpIdeal.Hand.V_x m c, Cert.KUpIdeal.Hand.V_w m c])), hu⟩
  · refine (θ_run _ _ _).mono (fun r h c => ?_) (Cert.RUpIdeal.Value.run m' ρ')
    obtain ⟨a0, a1⟩ := hargs c
    obtain ⟨h0, h1, h2, hu⟩ := h c
    exact ⟨h0.trans ((Cert.RUpIdeal.Read.val_main_v5_eq _ _).trans ((Cert.KUpIdeal.Hand.ref_act _ _).trans (by rw [a0, a1]))),
      h1.trans ((Cert.RUpIdeal.Read.val_main_v6_eq _ _).trans ((Cert.KUpIdeal.Hand.ref_gate _ _).trans (by rw [a0, a1]))),
      h2.trans ((Cert.RUpIdeal.Read.val_main_v7_eq _ _).trans ((Cert.KUpIdeal.Hand.ref_up _ _).trans (by rw [a0, a1]))), hu⟩

/-! ## UpDx -/

set_option maxHeartbeats 2000000 in
set_option backward.isDefEq.respectTransparency.types false in
theorem defs₀_KUpDx : Cert.KUpDx.defs₀ (F := Bits) = Cert.KUpDxIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KUpDx : Cert.KUpDx.defs (F := Bits) = Cert.KUpDxIdeal.defs (F := Bits) := congrArg (Pipeline.defs Cert.KUpDxIdeal.pcfgs) defs₀_KUpDx

set_option maxHeartbeats 2000000 in
set_option backward.isDefEq.respectTransparency.types false in
theorem main_KUpDx (c) : Cert.KUpDx.main (F := Bits) c = Cert.KUpDxIdeal.main (F := Bits) c := by
  with_unfolding_all rfl

theorem frame_KUpDx : Cert.quiescent_KUpDx := fun m ρ _ =>
  run_of_eq defs_KUpDx (congrArg onTc (funext main_KUpDx)) (Cert.KUpDxIdeal.Gen.frame (F := Bits) m ρ)

theorem frame_KUpDxIdeal : Cert.quiescent_KUpDxIdeal := fun m ρ _ => Cert.KUpDxIdeal.Gen.frame m ρ

theorem frame_RUpDxIdeal : Cert.quiescent_RUpDxIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RUpDxIdeal.Value.run m ρ)

theorem algebraic_UpDx : Cert.algebraic_KUpDxIdeal_RUpDxIdeal := by
  intro m ρ m' ρ' _ hargs
  refine ⟨fun c => Cert.KUpDxIdeal.Hand.prod (m ((c.tc : Thread Cert.KUpDxIdeal.nD Cert.KUpDxIdeal.τ).loc Cert.KUpDxIdeal.main_arg1)) (m ((c.tc : Thread Cert.KUpDxIdeal.nD Cert.KUpDxIdeal.τ).loc Cert.KUpDxIdeal.main_arg0)), ?_, ?_⟩
  · refine (θ_run _ _ _).mono (fun r h c => ?_) (Cert.KUpDxIdeal.Value.run_blocks m ρ)
    obtain ⟨h0, hu⟩ := h c
    exact ⟨h0.trans ((Cert.KUpDxIdeal.Hand.arr m c).trans (by rw [Cert.KUpDxIdeal.Hand.V_x m c, Cert.KUpDxIdeal.Hand.V_w m c])), hu⟩
  · refine (θ_run _ _ _).mono (fun r h c => ?_) (Cert.RUpDxIdeal.Value.run m' ρ')
    obtain ⟨a0, a1⟩ := hargs c
    obtain ⟨h0, hu⟩ := h c
    exact ⟨h0.trans ((Cert.RUpDxIdeal.Read.val_main_v2_eq _ _).trans ((Cert.KUpDxIdeal.Hand.ref _ _).trans (by rw [a0, a1]))), hu⟩

/-! ## UpDw -/

set_option maxHeartbeats 2000000 in
set_option backward.isDefEq.respectTransparency.types false in
theorem defs₀_KUpDw : Cert.KUpDw.defs₀ (F := Bits) = Cert.KUpDwIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KUpDw : Cert.KUpDw.defs (F := Bits) = Cert.KUpDwIdeal.defs (F := Bits) := congrArg (Pipeline.defs Cert.KUpDwIdeal.pcfgs) defs₀_KUpDw

set_option maxHeartbeats 2000000 in
set_option backward.isDefEq.respectTransparency.types false in
theorem main_KUpDw (c) : Cert.KUpDw.main (F := Bits) c = Cert.KUpDwIdeal.main (F := Bits) c := by
  with_unfolding_all rfl

theorem frame_KUpDw : Cert.quiescent_KUpDw := fun m ρ _ =>
  run_of_eq defs_KUpDw (congrArg onTc (funext main_KUpDw)) (Cert.KUpDwIdeal.Gen.frame (F := Bits) m ρ)

theorem frame_KUpDwIdeal : Cert.quiescent_KUpDwIdeal := fun m ρ _ => Cert.KUpDwIdeal.Gen.frame m ρ

theorem frame_RUpDwIdeal : Cert.quiescent_RUpDwIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RUpDwIdeal.Value.run m ρ)

theorem algebraic_UpDw : Cert.algebraic_KUpDwIdeal_RUpDwIdeal := by
  intro m ρ m' ρ' _ hargs
  refine ⟨fun c => Cert.KUpDwIdeal.Hand.prod (m ((c.tc : Thread Cert.KUpDwIdeal.nD Cert.KUpDwIdeal.τ).loc Cert.KUpDwIdeal.main_arg0)) (m ((c.tc : Thread Cert.KUpDwIdeal.nD Cert.KUpDwIdeal.τ).loc Cert.KUpDwIdeal.main_arg1)), ?_, ?_⟩
  · refine (θ_run _ _ _).mono (fun r h c => ?_) (Cert.KUpDwIdeal.Value.run_blocks m ρ)
    obtain ⟨h0, hu⟩ := h c
    exact ⟨h0.trans ((Cert.KUpDwIdeal.Hand.arr m c).trans (by rw [Cert.KUpDwIdeal.Hand.V_x m c, Cert.KUpDwIdeal.Hand.V_w m c])), hu⟩
  · refine (θ_run _ _ _).mono (fun r h c => ?_) (Cert.RUpDwIdeal.Value.run m' ρ')
    obtain ⟨a0, a1⟩ := hargs c
    obtain ⟨h0, hu⟩ := h c
    exact ⟨h0.trans ((Cert.RUpDwIdeal.Read.val_main_v3_eq _ _).trans ((Cert.KUpDwIdeal.Hand.ref _ _).trans (by rw [a0, a1]))), hu⟩

/-! ## In -/

set_option maxHeartbeats 2000000 in
set_option backward.isDefEq.respectTransparency.types false in
theorem defs₀_KIn : Cert.KIn.defs₀ (F := Bits) = Cert.KInIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KIn : Cert.KIn.defs (F := Bits) = Cert.KInIdeal.defs (F := Bits) := congrArg (Pipeline.defs Cert.KInIdeal.pcfgs) defs₀_KIn

set_option maxHeartbeats 2000000 in
set_option backward.isDefEq.respectTransparency.types false in
theorem main_KIn (c) : Cert.KIn.main (F := Bits) c = Cert.KInIdeal.main (F := Bits) c := by
  with_unfolding_all rfl

theorem frame_KIn : Cert.quiescent_KIn := fun m ρ _ =>
  run_of_eq defs_KIn (congrArg onTc (funext main_KIn)) (Cert.KInIdeal.Gen.frame (F := Bits) m ρ)

theorem frame_KInIdeal : Cert.quiescent_KInIdeal := fun m ρ _ => Cert.KInIdeal.Gen.frame m ρ

theorem frame_RInIdeal : Cert.quiescent_RInIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RInIdeal.Value.run m ρ)

theorem algebraic_In : Cert.algebraic_KInIdeal_RInIdeal := by
  intro m ρ m' ρ' _ hargs
  refine ⟨fun c => Cert.KInIdeal.Hand.prod (m ((c.tc : Thread Cert.KInIdeal.nD Cert.KInIdeal.τ).loc Cert.KInIdeal.main_arg0)) (m ((c.tc : Thread Cert.KInIdeal.nD Cert.KInIdeal.τ).loc Cert.KInIdeal.main_arg1)), ?_, ?_⟩
  · refine (θ_run _ _ _).mono (fun r h c => ?_) (Cert.KInIdeal.Value.run_blocks m ρ)
    obtain ⟨h0, hu⟩ := h c
    exact ⟨h0.trans ((Cert.KInIdeal.Hand.arr m c).trans (by rw [Cert.KInIdeal.Hand.V_x m c, Cert.KInIdeal.Hand.V_w m c])), hu⟩
  · refine (θ_run _ _ _).mono (fun r h c => ?_) (Cert.RInIdeal.Value.run m' ρ')
    obtain ⟨a0, a1⟩ := hargs c
    obtain ⟨h0, hu⟩ := h c
    exact ⟨h0.trans ((Cert.RInIdeal.Read.val_main_v0_eq _ _).trans ((Cert.KInIdeal.Hand.ref _ _).trans (by rw [a0, a1]))), hu⟩

/-! ## InDx -/

set_option maxHeartbeats 2000000 in
set_option backward.isDefEq.respectTransparency.types false in
theorem defs₀_KInDx : Cert.KInDx.defs₀ (F := Bits) = Cert.KInDxIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KInDx : Cert.KInDx.defs (F := Bits) = Cert.KInDxIdeal.defs (F := Bits) := congrArg (Pipeline.defs Cert.KInDxIdeal.pcfgs) defs₀_KInDx

set_option maxHeartbeats 2000000 in
set_option backward.isDefEq.respectTransparency.types false in
theorem main_KInDx (c) : Cert.KInDx.main (F := Bits) c = Cert.KInDxIdeal.main (F := Bits) c := by
  with_unfolding_all rfl

theorem frame_KInDx : Cert.quiescent_KInDx := fun m ρ _ =>
  run_of_eq defs_KInDx (congrArg onTc (funext main_KInDx)) (Cert.KInDxIdeal.Gen.frame (F := Bits) m ρ)

theorem frame_KInDxIdeal : Cert.quiescent_KInDxIdeal := fun m ρ _ => Cert.KInDxIdeal.Gen.frame m ρ

theorem frame_RInDxIdeal : Cert.quiescent_RInDxIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RInDxIdeal.Value.run m ρ)

theorem algebraic_InDx : Cert.algebraic_KInDxIdeal_RInDxIdeal := by
  intro m ρ m' ρ' _ hargs
  refine ⟨fun c => Cert.KInDxIdeal.Hand.prod (m ((c.tc : Thread Cert.KInDxIdeal.nD Cert.KInDxIdeal.τ).loc Cert.KInDxIdeal.main_arg1)) (m ((c.tc : Thread Cert.KInDxIdeal.nD Cert.KInDxIdeal.τ).loc Cert.KInDxIdeal.main_arg0)), ?_, ?_⟩
  · refine (θ_run _ _ _).mono (fun r h c => ?_) (Cert.KInDxIdeal.Value.run_blocks m ρ)
    obtain ⟨h0, hu⟩ := h c
    exact ⟨h0.trans ((Cert.KInDxIdeal.Hand.arr m c).trans (by rw [Cert.KInDxIdeal.Hand.V_x m c, Cert.KInDxIdeal.Hand.V_w m c])), hu⟩
  · refine (θ_run _ _ _).mono (fun r h c => ?_) (Cert.RInDxIdeal.Value.run m' ρ')
    obtain ⟨a0, a1⟩ := hargs c
    obtain ⟨h0, hu⟩ := h c
    exact ⟨h0.trans ((Cert.RInDxIdeal.Read.val_main_v2_eq _ _).trans ((Cert.KInDxIdeal.Hand.ref _ _).trans (by rw [a0, a1]))), hu⟩

/-! ## InDw -/

set_option maxHeartbeats 2000000 in
set_option backward.isDefEq.respectTransparency.types false in
theorem defs₀_KInDw : Cert.KInDw.defs₀ (F := Bits) = Cert.KInDwIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KInDw : Cert.KInDw.defs (F := Bits) = Cert.KInDwIdeal.defs (F := Bits) := congrArg (Pipeline.defs Cert.KInDwIdeal.pcfgs) defs₀_KInDw

set_option maxHeartbeats 2000000 in
set_option backward.isDefEq.respectTransparency.types false in
theorem main_KInDw (c) : Cert.KInDw.main (F := Bits) c = Cert.KInDwIdeal.main (F := Bits) c := by
  with_unfolding_all rfl

theorem frame_KInDw : Cert.quiescent_KInDw := fun m ρ _ =>
  run_of_eq defs_KInDw (congrArg onTc (funext main_KInDw)) (Cert.KInDwIdeal.Gen.frame (F := Bits) m ρ)

theorem frame_KInDwIdeal : Cert.quiescent_KInDwIdeal := fun m ρ _ => Cert.KInDwIdeal.Gen.frame m ρ

theorem frame_RInDwIdeal : Cert.quiescent_RInDwIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RInDwIdeal.Value.run m ρ)

theorem algebraic_InDw : Cert.algebraic_KInDwIdeal_RInDwIdeal := by
  intro m ρ m' ρ' _ hargs
  refine ⟨fun c => Cert.KInDwIdeal.Hand.prod (m ((c.tc : Thread Cert.KInDwIdeal.nD Cert.KInDwIdeal.τ).loc Cert.KInDwIdeal.main_arg0)) (m ((c.tc : Thread Cert.KInDwIdeal.nD Cert.KInDwIdeal.τ).loc Cert.KInDwIdeal.main_arg1)), ?_, ?_⟩
  · refine (θ_run _ _ _).mono (fun r h c => ?_) (Cert.KInDwIdeal.Value.run_blocks m ρ)
    obtain ⟨h0, hu⟩ := h c
    exact ⟨h0.trans ((Cert.KInDwIdeal.Hand.arr m c).trans (by rw [Cert.KInDwIdeal.Hand.V_x m c, Cert.KInDwIdeal.Hand.V_w m c])), hu⟩
  · refine (θ_run _ _ _).mono (fun r h c => ?_) (Cert.RInDwIdeal.Value.run m' ρ')
    obtain ⟨a0, a1⟩ := hargs c
    obtain ⟨h0, hu⟩ := h c
    exact ⟨h0.trans ((Cert.RInDwIdeal.Read.val_main_v3_eq _ _).trans ((Cert.KInDwIdeal.Hand.ref _ _).trans (by rw [a0, a1]))), hu⟩

/-! ## Down -/

set_option maxHeartbeats 2000000 in
set_option backward.isDefEq.respectTransparency.types false in
theorem defs₀_KDown : Cert.KDown.defs₀ (F := Bits) = Cert.KDownIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KDown : Cert.KDown.defs (F := Bits) = Cert.KDownIdeal.defs (F := Bits) := congrArg (Pipeline.defs Cert.KDownIdeal.pcfgs) defs₀_KDown

set_option maxHeartbeats 2000000 in
set_option backward.isDefEq.respectTransparency.types false in
theorem main_KDown (c) : Cert.KDown.main (F := Bits) c = Cert.KDownIdeal.main (F := Bits) c := by
  with_unfolding_all rfl

theorem frame_KDown : Cert.quiescent_KDown := fun m ρ _ =>
  run_of_eq defs_KDown (congrArg onTc (funext main_KDown)) (Cert.KDownIdeal.Gen.frame (F := Bits) m ρ)

theorem frame_KDownIdeal : Cert.quiescent_KDownIdeal := fun m ρ _ => Cert.KDownIdeal.Gen.frame m ρ

theorem frame_RDownIdeal : Cert.quiescent_RDownIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RDownIdeal.Value.run m ρ)

theorem algebraic_Down : Cert.algebraic_KDownIdeal_RDownIdeal := by
  intro m ρ m' ρ' _ hargs
  refine ⟨fun c => Cert.KDownIdeal.Hand.prod (m ((c.tc : Thread Cert.KDownIdeal.nD Cert.KDownIdeal.τ).loc Cert.KDownIdeal.main_arg0)) (m ((c.tc : Thread Cert.KDownIdeal.nD Cert.KDownIdeal.τ).loc Cert.KDownIdeal.main_arg1)) (m ((c.tc : Thread Cert.KDownIdeal.nD Cert.KDownIdeal.τ).loc Cert.KDownIdeal.main_arg2)), ?_, ?_⟩
  · refine (θ_run _ _ _).mono (fun r h c => ?_) (Cert.KDownIdeal.Value.run_blocks m ρ)
    obtain ⟨h0, hu⟩ := h c
    exact ⟨h0.trans ((Cert.KDownIdeal.Hand.arr m c).trans (by rw [Cert.KDownIdeal.Gen.V_main_arg0 m c, Cert.KDownIdeal.Hand.V_x m c, Cert.KDownIdeal.Hand.V_w m c])), hu⟩
  · refine (θ_run _ _ _).mono (fun r h c => ?_) (Cert.RDownIdeal.Value.run m' ρ')
    obtain ⟨a0, a1, a2⟩ := hargs c
    obtain ⟨h0, hu⟩ := h c
    exact ⟨h0.trans ((Cert.RDownIdeal.Read.val_main_v3_eq _ _ _).trans ((Cert.KDownIdeal.Hand.ref _ _ _).trans (by rw [a0, a1, a2]))), hu⟩

/-! ## DownDx -/

set_option maxHeartbeats 2000000 in
set_option backward.isDefEq.respectTransparency.types false in
theorem defs₀_KDownDx : Cert.KDownDx.defs₀ (F := Bits) = Cert.KDownDxIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KDownDx : Cert.KDownDx.defs (F := Bits) = Cert.KDownDxIdeal.defs (F := Bits) := congrArg (Pipeline.defs Cert.KDownDxIdeal.pcfgs) defs₀_KDownDx

set_option maxHeartbeats 2000000 in
set_option backward.isDefEq.respectTransparency.types false in
theorem main_KDownDx (c) : Cert.KDownDx.main (F := Bits) c = Cert.KDownDxIdeal.main (F := Bits) c := by
  with_unfolding_all rfl

theorem frame_KDownDx : Cert.quiescent_KDownDx := fun m ρ _ =>
  run_of_eq defs_KDownDx (congrArg onTc (funext main_KDownDx)) (Cert.KDownDxIdeal.Gen.frame (F := Bits) m ρ)

theorem frame_KDownDxIdeal : Cert.quiescent_KDownDxIdeal := fun m ρ _ => Cert.KDownDxIdeal.Gen.frame m ρ

theorem frame_RDownDxIdeal : Cert.quiescent_RDownDxIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RDownDxIdeal.Value.run m ρ)

theorem algebraic_DownDx : Cert.algebraic_KDownDxIdeal_RDownDxIdeal := by
  intro m ρ m' ρ' _ hargs
  refine ⟨fun c => Cert.KDownDxIdeal.Hand.prod (m ((c.tc : Thread Cert.KDownDxIdeal.nD Cert.KDownDxIdeal.τ).loc Cert.KDownDxIdeal.main_arg1)) (m ((c.tc : Thread Cert.KDownDxIdeal.nD Cert.KDownDxIdeal.τ).loc Cert.KDownDxIdeal.main_arg0)), ?_, ?_⟩
  · refine (θ_run _ _ _).mono (fun r h c => ?_) (Cert.KDownDxIdeal.Value.run_blocks m ρ)
    obtain ⟨h0, hu⟩ := h c
    exact ⟨h0.trans ((Cert.KDownDxIdeal.Hand.arr m c).trans (by rw [Cert.KDownDxIdeal.Hand.V_x m c, Cert.KDownDxIdeal.Hand.V_w m c])), hu⟩
  · refine (θ_run _ _ _).mono (fun r h c => ?_) (Cert.RDownDxIdeal.Value.run m' ρ')
    obtain ⟨a0, a1⟩ := hargs c
    obtain ⟨h0, hu⟩ := h c
    exact ⟨h0.trans ((Cert.RDownDxIdeal.Read.val_main_v7_eq _ _).trans ((Cert.KDownDxIdeal.Hand.ref _ _).trans (by rw [a0, a1]))), hu⟩

/-! ## DownDw -/

set_option maxHeartbeats 2000000 in
set_option backward.isDefEq.respectTransparency.types false in
theorem defs₀_KDownDw : Cert.KDownDw.defs₀ (F := Bits) = Cert.KDownDwIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KDownDw : Cert.KDownDw.defs (F := Bits) = Cert.KDownDwIdeal.defs (F := Bits) := congrArg (Pipeline.defs Cert.KDownDwIdeal.pcfgs) defs₀_KDownDw

set_option maxHeartbeats 2000000 in
set_option backward.isDefEq.respectTransparency.types false in
theorem main_KDownDw (c) : Cert.KDownDw.main (F := Bits) c = Cert.KDownDwIdeal.main (F := Bits) c := by
  with_unfolding_all rfl

theorem frame_KDownDw : Cert.quiescent_KDownDw := fun m ρ _ =>
  run_of_eq defs_KDownDw (congrArg onTc (funext main_KDownDw)) (Cert.KDownDwIdeal.Gen.frame (F := Bits) m ρ)

theorem frame_KDownDwIdeal : Cert.quiescent_KDownDwIdeal := fun m ρ _ => Cert.KDownDwIdeal.Gen.frame m ρ

theorem frame_RDownDwIdeal : Cert.quiescent_RDownDwIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RDownDwIdeal.Value.run m ρ)

theorem algebraic_DownDw : Cert.algebraic_KDownDwIdeal_RDownDwIdeal := by
  intro m ρ m' ρ' _ hargs
  refine ⟨fun c => Cert.KDownDwIdeal.Hand.prod (m ((c.tc : Thread Cert.KDownDwIdeal.nD Cert.KDownDwIdeal.τ).loc Cert.KDownDwIdeal.main_arg0)) (m ((c.tc : Thread Cert.KDownDwIdeal.nD Cert.KDownDwIdeal.τ).loc Cert.KDownDwIdeal.main_arg1)), ?_, ?_⟩
  · refine (θ_run _ _ _).mono (fun r h c => ?_) (Cert.KDownDwIdeal.Value.run_blocks m ρ)
    obtain ⟨h0, hu⟩ := h c
    exact ⟨h0.trans ((Cert.KDownDwIdeal.Hand.arr m c).trans (by rw [Cert.KDownDwIdeal.Hand.V_x m c, Cert.KDownDwIdeal.Hand.V_w m c])), hu⟩
  · refine (θ_run _ _ _).mono (fun r h c => ?_) (Cert.RDownDwIdeal.Value.run m' ρ')
    obtain ⟨a0, a1⟩ := hargs c
    obtain ⟨h0, hu⟩ := h c
    exact ⟨h0.trans ((Cert.RDownDwIdeal.Read.val_main_v7_eq _ _).trans ((Cert.KDownDwIdeal.Hand.ref _ _).trans (by rw [a0, a1]))), hu⟩

end Cert.Proof

end
-- ==== Proof.SsdOut.lean ====
/-
  The state-space output projection, block by block.
-/
module

public import proofs.«01_k».proof.Proof.Gen.KSsdOutIdeal.Value
public import proofs.«01_k».proof.Proof.Gen.RSsdOutIdeal.Run
public import proofs.«01_k».proof.Proof.Gen.RSsdOutIdeal.Read
public import proofs.«01_k».proof.Proof.Products

@[expose] public section

noncomputable section

namespace Cert.KSsdOutIdeal.Hand

open Cert.KSsdOutIdeal Cert.KSsdOutIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x2048 .bf16) (y : Vec Ideal S2048x1024 .bf16) (j : S1024x1024.Idx)

/-- The product of a point's two blocks. -/
def part : EReal := nn (M := 1024) (N := 1024) x y (j 0) (j 1)

theorem pay : k0_pay1 x y j = part x y j := by
  unfold k0_pay1
  simp only [shapeCast_self]
  exact (mul_one_word _).trans ((congrArg _ (eq_ix2 j)).trans (matmul_nn (φ₁ := .bf16) (φ₂ := .bf16) none (j 0) (j 1) x y))

/-! ## The array -/

/-- The region finds its operands as they were launched. -/
theorem V_x : V m c main_v0 = m ((c : Thread nD τ).loc main_arg0) := by
  simp only [V, hostOps0]
  after_results_simp <;> rfl
theorem V_w : V m c main_v1 = m ((c : Thread nD τ).loc main_arg1) := by
  simp only [V, hostOps0]
  after_results_simp <;> rfl

/-- What the whole array holds. -/
def prod (x : (⟨S8192x2048, .f32⟩ : BufTy).Contents (Elt Ideal)) (w : (⟨S2048x1024, .f32⟩ : BufTy).Contents (Elt Ideal)) :
    (⟨S8192x1024, .f32⟩ : BufTy).Contents (Elt Ideal) := fun i => nn (M := 8192) (N := 1024) x w (i 0) (i 1)

theorem blocks : ∀ t : Fin grid0.N, win0_0.index t 0 = win0_2.index t 0 ∧ win0_0.index t 1 = 0 ∧ win0_1.index t 1 = win0_2.index t 1 ∧ win0_1.index t 0 = 0 := by decide +kernel

/-- The array after the run. -/
theorem arr : (dats m 0 c).arrAt 2 cfg0.N = prod (V m c main_v0) (V m c main_v1) :=
  Dat.arrAt_eq_of_covers (dats m 0 c) 2 _ (by decide +kernel) fun t hf y => by
    obtain ⟨a, b, rfl⟩ : ∃ (a : Fin 1024) (b : Fin 1024), y = ix2 a b := ⟨y 0, y 1, eq_ix2 y⟩
    obtain ⟨h0, h1, h2, h3⟩ := blocks t
    blk_simp
    rw [after0_2]
    frame_out
    rw [pay]
    unfold prod part nn
    refine Fin.sum_fin_congr fun k => congrArg₂ (fun (p q : EReal) => p * q) ?_ ?_
    · blk_ext [iblk, h0, h1]
      exact one_step _ _
    · blk_ext [iblk, h2, h3]
      exact one_step _ _

/-- The reference's array is the same. -/
theorem ref (x : (⟨S8192x2048, .f32⟩ : BufTy).Contents (Elt Ideal)) (w : (⟨S2048x1024, .f32⟩ : BufTy).Contents (Elt Ideal)) :
    Cert.RSsdOutIdeal.Read.val_main_v0 (F := Ideal) x w = prod x w := funext fun i => by
  rw [Cert.RSsdOutIdeal.Read.val_main_v0_apply]
  unfold prod nn
  refine Finset.sum_congr rfl fun k _ => congrArg₂ (fun (p q : EReal) => p * q) (congrArg x ?_) (congrArg w ?_) <;>
    funext d <;> fin_cases d <;> rfl

end Cert.KSsdOutIdeal.Hand

end
-- ==== Proof.SsdOutDx.lean ====
/-
  The gradient of the state-space output projection's rows, block by block.
-/
module

public import proofs.«01_k».proof.Proof.Gen.KSsdOutDxIdeal.Value
public import proofs.«01_k».proof.Proof.Gen.RSsdOutDxIdeal.Run
public import proofs.«01_k».proof.Proof.Gen.RSsdOutDxIdeal.Read
public import proofs.«01_k».proof.Proof.Products

@[expose] public section

noncomputable section

namespace Cert.KSsdOutDxIdeal.Hand

open Cert.KSsdOutDxIdeal Cert.KSsdOutDxIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x1024 .bf16) (y : Vec Ideal S1024x1024 .bf16) (j : S1024x1024.Idx)

/-- The product of a point's two blocks. -/
def part : EReal := nt (M := 1024) (N := 1024) x y (j 0) (j 1)

theorem pay : k0_pay1 x y j = part x y j := by
  unfold k0_pay1
  simp only [shapeCast_self]
  exact (mul_one_word _).trans ((congrArg _ (eq_ix2 j)).trans (matmul_nt (φ₁ := .bf16) (φ₂ := .bf16) none (j 0) (j 1) x y))

/-! ## The array -/

/-- The region finds its operands as they were launched. -/
theorem V_x : V m c main_v0 = m ((c : Thread nD τ).loc main_arg1) := by
  simp only [V, hostOps0]
  after_results_simp <;> rfl
theorem V_w : V m c main_v1 = m ((c : Thread nD τ).loc main_arg0) := by
  simp only [V, hostOps0]
  after_results_simp <;> rfl

/-- What the whole array holds. -/
def prod (x : (⟨S8192x1024, .f32⟩ : BufTy).Contents (Elt Ideal)) (w : (⟨S2048x1024, .f32⟩ : BufTy).Contents (Elt Ideal)) :
    (⟨S8192x2048, .f32⟩ : BufTy).Contents (Elt Ideal) := fun i => nt (M := 8192) (N := 2048) x w (i 0) (i 1)

theorem blocks : ∀ t : Fin grid0.N, win0_0.index t 0 = win0_2.index t 0 ∧ win0_0.index t 1 = 0 ∧ win0_1.index t 0 = win0_2.index t 1 ∧ win0_1.index t 1 = 0 := by decide +kernel

/-- The array after the run. -/
theorem arr : (dats m 0 c).arrAt 2 cfg0.N = prod (V m c main_v0) (V m c main_v1) :=
  Dat.arrAt_eq_of_covers (dats m 0 c) 2 _ (by decide +kernel) fun t hf y => by
    obtain ⟨a, b, rfl⟩ : ∃ (a : Fin 1024) (b : Fin 1024), y = ix2 a b := ⟨y 0, y 1, eq_ix2 y⟩
    obtain ⟨h0, h1, h2, h3⟩ := blocks t
    blk_simp
    rw [after0_2]
    frame_out
    rw [pay]
    unfold prod part nt
    refine Fin.sum_fin_congr fun k => congrArg₂ (fun (p q : EReal) => p * q) ?_ ?_
    · blk_ext [iblk, h0, h1]
      exact one_step _ _
    · blk_ext [iblk, h2, h3]
      exact one_step _ _

/-- The reference's array is the same. -/
theorem ref (x : (⟨S8192x1024, .f32⟩ : BufTy).Contents (Elt Ideal)) (w : (⟨S2048x1024, .f32⟩ : BufTy).Contents (Elt Ideal)) :
    Cert.RSsdOutDxIdeal.Read.val_main_v2 (F := Ideal) w x = prod x w := funext fun i => by
  rw [Cert.RSsdOutDxIdeal.Read.val_main_v2_apply]
  unfold prod nt
  refine Finset.sum_congr rfl fun k _ => congrArg₂ (fun (p q : EReal) => p * q) (congrArg x ?_) (congrArg w ?_) <;>
    funext d <;> fin_cases d <;> rfl

end Cert.KSsdOutDxIdeal.Hand

end
-- ==== Proof.SsdOutDw.lean ====
/-
  The gradient of the state-space output projection's weights: eight row blocks accumulated.
-/
module

public import proofs.«01_k».proof.Proof.Gen.KSsdOutDwIdeal.Value
public import proofs.«01_k».proof.Proof.Gen.RSsdOutDwIdeal.Run
public import proofs.«01_k».proof.Proof.Gen.RSsdOutDwIdeal.Read
public import proofs.«01_k».proof.Proof.Products

@[expose] public section

noncomputable section

namespace Cert.KSsdOutDwIdeal.Hand

open Cert.KSsdOutDwIdeal Cert.KSsdOutDwIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x1024 .bf16) (y : Vec Ideal S1024x1024 .bf16) (z : Vec Ideal S1024x1024 .f32) (j : S1024x1024.Idx)

/-- The product of a point's two blocks. -/
def part : EReal := tn (M := 1024) (N := 1024) x y (j 0) (j 1)

theorem pay1 : k0_pay1 x y j = part x y j := by
  unfold k0_pay1
  simp only [shapeCast_self]
  exact (congrArg _ (eq_ix2 j)).trans (matmul_tn (φ₁ := .bf16) (φ₂ := .bf16) none (j 0) (j 1) x y)

theorem pay2 : k0_pay2 x y j = part x y j := by
  unfold k0_pay2
  simp only [shapeCast_self]
  exact pay1 x y j

theorem pay3 : k0_pay3 x y z j = (z j : EReal) + part x y j := by
  unfold k0_pay3
  simp only [shapeCast_self]
  exact congrArg (fun p : EReal => (z j : EReal) + p) (pay1 x y j)

theorem pay4 : k0_pay4 x y z j = (z j : EReal) + part x y j :=
  (mul_one_word _).trans (congrArg (fun p : EReal => (z j : EReal) + p) (pay1 x y j))

theorem first (t : Fin cfg0.N) (h : t.val % 8 = 0) (j : S1024x1024.Idx) :
    (outsAt0 m c t.val t.isLt).2 j = part (iblk m c 0 t) (iblk m c 1 t) j := by
  rw [outsAt0_A m c t h (by omega) (by omega)]
  frame_out
  exact pay2 _ _ j

theorem next (t : Fin cfg0.N) (h : ¬t.val % 8 = 0) (h' : ¬t.val % 8 = 8 - 1) (j : S1024x1024.Idx) :
    (outsAt0 m c t.val t.isLt).2 j
      = ((outsAt0 m c (t.val - 1) (Nat.lt_of_le_of_lt (Nat.sub_le _ _) t.isLt)).2 j : EReal) + part (iblk m c 0 t) (iblk m c 1 t) j := by
  rw [outsAt0_B m c t h (by omega) h']
  frame_out
  rw [pay3, (Memref.isWhole_whole _).read_unread]

theorem last (t : Fin cfg0.N) (h : t.val % 8 = 8 - 1) (j : S1024x1024.Idx) :
    (outsAt0 m c t.val t.isLt).1 j
      = ((outsAt0 m c (t.val - 1) (Nat.lt_of_le_of_lt (Nat.sub_le _ _) t.isLt)).2 j : EReal) + part (iblk m c 0 t) (iblk m c 1 t) j := by
  rw [outsAt0_C m c t (by omega) (by omega) h]
  frame_out
  rw [pay4, (Memref.isWhole_whole _).read_unread]

/-! ## The array -/

/-- The region finds its operands as they were launched. -/
theorem V_x : V m c main_v0 = m ((c : Thread nD τ).loc main_arg0) := by
  simp only [V, hostOps0]
  after_results_simp <;> rfl
theorem V_w : V m c main_v1 = m ((c : Thread nD τ).loc main_arg1) := by
  simp only [V, hostOps0]
  after_results_simp <;> rfl

/-- What the whole array holds. -/
def prod (x : (⟨S8192x2048, .f32⟩ : BufTy).Contents (Elt Ideal)) (w : (⟨S8192x1024, .f32⟩ : BufTy).Contents (Elt Ideal)) :
    (⟨S2048x1024, .f32⟩ : BufTy).Contents (Elt Ideal) := fun i => tn (M := 2048) (N := 1024) x w (i 0) (i 1)

theorem blocks : ∀ t : Fin grid0.N, t.val % 8 = 7 → ∀ s : Fin 8, ∀ h : 8 * (t.val / 8) + s.val < grid0.N,
    win0_0.index (⟨8 * (t.val / 8) + s.val, h⟩ : Fin grid0.N) 0 = s.val ∧ win0_0.index (⟨8 * (t.val / 8) + s.val, h⟩ : Fin grid0.N) 1 = win0_2.index t 0
    ∧ win0_1.index (⟨8 * (t.val / 8) + s.val, h⟩ : Fin grid0.N) 0 = s.val ∧ win0_1.index (⟨8 * (t.val / 8) + s.val, h⟩ : Fin grid0.N) 1 = win0_2.index t 1 := by
  decide +kernel

theorem flush_last : ∀ t : Fin grid0.N, win0_2.flush t = true → t.val % 8 = 8 - 1 := by decide +kernel

/-- The array after the run. -/
theorem arr : (dats m 0 c).arrAt 2 cfg0.N = prod (V m c main_v0) (V m c main_v1) :=
  Dat.arrAt_eq_of_covers (dats m 0 c) 2 _ (by decide +kernel) fun t hf y => by
    obtain ⟨a, b, rfl⟩ : ∃ (a : Fin 1024) (b : Fin 1024), y = ix2 a b := ⟨y 0, y 1, eq_ix2 y⟩
    have ht := flush_last t hf
    blk_simp
    rw [after0_2]
    refine (run_sum (by decide) (fun n h => (outsAt0 m c n h).1) (fun n h => (outsAt0 m c n h).2) (fun t => part (iblk m c 0 t) (iblk m c 1 t))
      id (first m c) (next m c) (last m c) t ht (ix2 a b)).trans ?_
    unfold prod part tn
    refine sum_blocks rfl (fun s k hl => ?_) (fun s k hl => ?_)
    all_goals obtain ⟨h0, h1, h2, h3⟩ := blocks t ht s (Pipeline.run_point_lt_of_flush t ht s)
    · blk_ext [iblk, h0, h1]
      exact one_step _ _
    · blk_ext [iblk, h2, h3]
      exact one_step _ _

/-- The reference's array is the same. -/
theorem ref (x : (⟨S8192x2048, .f32⟩ : BufTy).Contents (Elt Ideal)) (w : (⟨S8192x1024, .f32⟩ : BufTy).Contents (Elt Ideal)) :
    Cert.RSsdOutDwIdeal.Read.val_main_v3 (F := Ideal) x w = prod x w := funext fun i => by
  rw [Cert.RSsdOutDwIdeal.Read.val_main_v3_apply, Cert.RSsdOutDwIdeal.Read.val_main_v2_apply]
  unfold prod tn
  refine Finset.sum_congr rfl fun k _ => (mul_comm _ _).trans (congrArg₂ (fun (p q : EReal) => p * q) (congrArg x ?_) (congrArg w ?_)) <;>
    funext d <;> fin_cases d <;> rfl

end Cert.KSsdOutDwIdeal.Hand

end
-- ==== Proof.Uq.lean ====
/-
  The query up-projection, block by block.
-/
module

public import proofs.«01_k».proof.Proof.Gen.KUqIdeal.Value
public import proofs.«01_k».proof.Proof.Gen.RUqIdeal.Run
public import proofs.«01_k».proof.Proof.Gen.RUqIdeal.Read
public import proofs.«01_k».proof.Proof.Products

@[expose] public section

noncomputable section

namespace Cert.KUqIdeal.Hand

open Cert.KUqIdeal Cert.KUqIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x512 .bf16) (y : Vec Ideal S512x768 .bf16) (j : S1024x768.Idx)

/-- The product of a point's two blocks. -/
def part : EReal := nn (M := 1024) (N := 768) x y (j 0) (j 1)

theorem pay : k0_pay1 x y j = part x y j := by
  unfold k0_pay1
  simp only [shapeCast_self]
  exact (mul_one_word _).trans ((congrArg _ (eq_ix2 j)).trans (matmul_nn (φ₁ := .bf16) (φ₂ := .bf16) none (j 0) (j 1) x y))

/-! ## The array -/

/-- The region finds its operands as they were launched. -/
theorem V_x : V m c main_v0 = m ((c : Thread nD τ).loc main_arg0) := by
  simp only [V, hostOps0]
  after_results_simp <;> rfl
theorem V_w : V m c main_v1 = m ((c : Thread nD τ).loc main_arg1) := by
  simp only [V, hostOps0]
  after_results_simp <;> rfl

/-- What the whole array holds. -/
def prod (x : (⟨S8192x512, .f32⟩ : BufTy).Contents (Elt Ideal)) (w : (⟨S512x1536, .f32⟩ : BufTy).Contents (Elt Ideal)) :
    (⟨S8192x1536, .f32⟩ : BufTy).Contents (Elt Ideal) := fun i => nn (M := 8192) (N := 1536) x w (i 0) (i 1)

theorem blocks : ∀ t : Fin grid0.N, win0_0.index t 0 = win0_2.index t 0 ∧ win0_0.index t 1 = 0 ∧ win0_1.index t 1 = win0_2.index t 1 ∧ win0_1.index t 0 = 0 := by decide +kernel

/-- The array after the run. -/
theorem arr : (dats m 0 c).arrAt 2 cfg0.N = prod (V m c main_v0) (V m c main_v1) :=
  Dat.arrAt_eq_of_covers (dats m 0 c) 2 _ (by decide +kernel) fun t hf y => by
    obtain ⟨a, b, rfl⟩ : ∃ (a : Fin 1024) (b : Fin 768), y = ix2 a b := ⟨y 0, y 1, eq_ix2 y⟩
    obtain ⟨h0, h1, h2, h3⟩ := blocks t
    blk_simp
    rw [after0_2]
    frame_out
    rw [pay]
    unfold prod part nn
    refine Fin.sum_fin_congr fun k => congrArg₂ (fun (p q : EReal) => p * q) ?_ ?_
    · blk_ext [iblk, h0, h1]
      exact one_step _ _
    · blk_ext [iblk, h2, h3]
      exact one_step _ _

/-- The reference's array is the same. -/
theorem ref (x : (⟨S8192x512, .f32⟩ : BufTy).Contents (Elt Ideal)) (w : (⟨S512x1536, .f32⟩ : BufTy).Contents (Elt Ideal)) :
    Cert.RUqIdeal.Read.val_main_v0 (F := Ideal) x w = prod x w := funext fun i => by
  rw [Cert.RUqIdeal.Read.val_main_v0_apply]
  unfold prod nn
  refine Finset.sum_congr rfl fun k _ => congrArg₂ (fun (p q : EReal) => p * q) (congrArg x ?_) (congrArg w ?_) <;>
    funext d <;> fin_cases d <;> rfl

end Cert.KUqIdeal.Hand

end
-- ==== Proof.UqDx.lean ====
/-
  The gradient of the query up-projection's rows, block by block.
-/
module

public import proofs.«01_k».proof.Proof.Gen.KUqDxIdeal.Value
public import proofs.«01_k».proof.Proof.Gen.RUqDxIdeal.Run
public import proofs.«01_k».proof.Proof.Gen.RUqDxIdeal.Read
public import proofs.«01_k».proof.Proof.Products

@[expose] public section

noncomputable section

namespace Cert.KUqDxIdeal.Hand

open Cert.KUqDxIdeal Cert.KUqDxIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x1536 .bf16) (y : Vec Ideal S512x1536 .bf16) (j : S1024x512.Idx)

/-- The product of a point's two blocks. -/
def part : EReal := nt (M := 1024) (N := 512) x y (j 0) (j 1)

theorem pay : k0_pay1 x y j = part x y j := by
  unfold k0_pay1
  simp only [shapeCast_self]
  exact (mul_one_word _).trans ((congrArg _ (eq_ix2 j)).trans (matmul_nt (φ₁ := .bf16) (φ₂ := .bf16) none (j 0) (j 1) x y))

/-! ## The array -/

/-- The region finds its operands as they were launched. -/
theorem V_x : V m c main_v0 = m ((c : Thread nD τ).loc main_arg1) := by
  simp only [V, hostOps0]
  after_results_simp <;> rfl
theorem V_w : V m c main_v1 = m ((c : Thread nD τ).loc main_arg0) := by
  simp only [V, hostOps0]
  after_results_simp <;> rfl

/-- What the whole array holds. -/
def prod (x : (⟨S8192x1536, .f32⟩ : BufTy).Contents (Elt Ideal)) (w : (⟨S512x1536, .f32⟩ : BufTy).Contents (Elt Ideal)) :
    (⟨S8192x512, .f32⟩ : BufTy).Contents (Elt Ideal) := fun i => nt (M := 8192) (N := 512) x w (i 0) (i 1)

theorem blocks : ∀ t : Fin grid0.N, win0_0.index t 0 = win0_2.index t 0 ∧ win0_0.index t 1 = 0 ∧ win0_1.index t 0 = win0_2.index t 1 ∧ win0_1.index t 1 = 0 := by decide +kernel

/-- The array after the run. -/
theorem arr : (dats m 0 c).arrAt 2 cfg0.N = prod (V m c main_v0) (V m c main_v1) :=
  Dat.arrAt_eq_of_covers (dats m 0 c) 2 _ (by decide +kernel) fun t hf y => by
    obtain ⟨a, b, rfl⟩ : ∃ (a : Fin 1024) (b : Fin 512), y = ix2 a b := ⟨y 0, y 1, eq_ix2 y⟩
    obtain ⟨h0, h1, h2, h3⟩ := blocks t
    blk_simp
    rw [after0_2]
    frame_out
    rw [pay]
    unfold prod part nt
    refine Fin.sum_fin_congr fun k => congrArg₂ (fun (p q : EReal) => p * q) ?_ ?_
    · blk_ext [iblk, h0, h1]
      exact one_step _ _
    · blk_ext [iblk, h2, h3]
      exact one_step _ _

/-- The reference's array is the same. -/
theorem ref (x : (⟨S8192x1536, .f32⟩ : BufTy).Contents (Elt Ideal)) (w : (⟨S512x1536, .f32⟩ : BufTy).Contents (Elt Ideal)) :
    Cert.RUqDxIdeal.Read.val_main_v2 (F := Ideal) w x = prod x w := funext fun i => by
  rw [Cert.RUqDxIdeal.Read.val_main_v2_apply]
  unfold prod nt
  refine Finset.sum_congr rfl fun k _ => congrArg₂ (fun (p q : EReal) => p * q) (congrArg x ?_) (congrArg w ?_) <;>
    funext d <;> fin_cases d <;> rfl

end Cert.KUqDxIdeal.Hand

end
-- ==== Proof.UqDw.lean ====
/-
  The gradient of the query up-projection's weights: eight row blocks accumulated.
-/
module

public import proofs.«01_k».proof.Proof.Gen.KUqDwIdeal.Value
public import proofs.«01_k».proof.Proof.Gen.RUqDwIdeal.Run
public import proofs.«01_k».proof.Proof.Gen.RUqDwIdeal.Read
public import proofs.«01_k».proof.Proof.Products

@[expose] public section

noncomputable section

namespace Cert.KUqDwIdeal.Hand

open Cert.KUqDwIdeal Cert.KUqDwIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x512 .bf16) (y : Vec Ideal S1024x1536 .bf16) (z : Vec Ideal S512x1536 .f32) (j : S512x1536.Idx)

/-- The product of a point's two blocks. -/
def part : EReal := tn (M := 512) (N := 1536) x y (j 0) (j 1)

theorem pay1 : k0_pay1 x y j = part x y j := by
  unfold k0_pay1
  simp only [shapeCast_self]
  exact (congrArg _ (eq_ix2 j)).trans (matmul_tn (φ₁ := .bf16) (φ₂ := .bf16) none (j 0) (j 1) x y)

theorem pay2 : k0_pay2 x y j = part x y j := by
  unfold k0_pay2
  simp only [shapeCast_self]
  exact pay1 x y j

theorem pay3 : k0_pay3 x y z j = (z j : EReal) + part x y j := by
  unfold k0_pay3
  simp only [shapeCast_self]
  exact congrArg (fun p : EReal => (z j : EReal) + p) (pay1 x y j)

theorem pay4 : k0_pay4 x y z j = (z j : EReal) + part x y j :=
  (mul_one_word _).trans (congrArg (fun p : EReal => (z j : EReal) + p) (pay1 x y j))

theorem first (t : Fin cfg0.N) (h : t.val % 8 = 0) (j : S512x1536.Idx) :
    (outsAt0 m c t.val t.isLt).2 j = part (iblk m c 0 t) (iblk m c 1 t) j := by
  rw [outsAt0_A m c t h (by omega) (by omega)]
  frame_out
  exact pay2 _ _ j

theorem next (t : Fin cfg0.N) (h : ¬t.val % 8 = 0) (h' : ¬t.val % 8 = 8 - 1) (j : S512x1536.Idx) :
    (outsAt0 m c t.val t.isLt).2 j
      = ((outsAt0 m c (t.val - 1) (Nat.lt_of_le_of_lt (Nat.sub_le _ _) t.isLt)).2 j : EReal) + part (iblk m c 0 t) (iblk m c 1 t) j := by
  rw [outsAt0_B m c t h (by omega) h']
  frame_out
  rw [pay3, (Memref.isWhole_whole _).read_unread]

theorem last (t : Fin cfg0.N) (h : t.val % 8 = 8 - 1) (j : S512x1536.Idx) :
    (outsAt0 m c t.val t.isLt).1 j
      = ((outsAt0 m c (t.val - 1) (Nat.lt_of_le_of_lt (Nat.sub_le _ _) t.isLt)).2 j : EReal) + part (iblk m c 0 t) (iblk m c 1 t) j := by
  rw [outsAt0_C m c t (by omega) (by omega) h]
  frame_out
  rw [pay4, (Memref.isWhole_whole _).read_unread]

/-! ## The array -/

/-- The region finds its operands as they were launched. -/
theorem V_x : V m c main_v0 = m ((c : Thread nD τ).loc main_arg0) := by
  simp only [V, hostOps0]
  after_results_simp <;> rfl
theorem V_w : V m c main_v1 = m ((c : Thread nD τ).loc main_arg1) := by
  simp only [V, hostOps0]
  after_results_simp <;> rfl

/-- What the whole array holds. -/
def prod (x : (⟨S8192x512, .f32⟩ : BufTy).Contents (Elt Ideal)) (w : (⟨S8192x1536, .f32⟩ : BufTy).Contents (Elt Ideal)) :
    (⟨S512x1536, .f32⟩ : BufTy).Contents (Elt Ideal) := fun i => tn (M := 512) (N := 1536) x w (i 0) (i 1)

theorem blocks : ∀ t : Fin grid0.N, t.val % 8 = 7 → ∀ s : Fin 8, ∀ h : 8 * (t.val / 8) + s.val < grid0.N,
    win0_0.index (⟨8 * (t.val / 8) + s.val, h⟩ : Fin grid0.N) 0 = s.val ∧ win0_0.index (⟨8 * (t.val / 8) + s.val, h⟩ : Fin grid0.N) 1 = win0_2.index t 0
    ∧ win0_1.index (⟨8 * (t.val / 8) + s.val, h⟩ : Fin grid0.N) 0 = s.val ∧ win0_1.index (⟨8 * (t.val / 8) + s.val, h⟩ : Fin grid0.N) 1 = win0_2.index t 1 := by
  decide +kernel

theorem flush_last : ∀ t : Fin grid0.N, win0_2.flush t = true → t.val % 8 = 8 - 1 := by decide +kernel

/-- The array after the run. -/
theorem arr : (dats m 0 c).arrAt 2 cfg0.N = prod (V m c main_v0) (V m c main_v1) :=
  Dat.arrAt_eq_of_covers (dats m 0 c) 2 _ (by decide +kernel) fun t hf y => by
    obtain ⟨a, b, rfl⟩ : ∃ (a : Fin 512) (b : Fin 1536), y = ix2 a b := ⟨y 0, y 1, eq_ix2 y⟩
    have ht := flush_last t hf
    blk_simp
    rw [after0_2]
    refine (run_sum (by decide) (fun n h => (outsAt0 m c n h).1) (fun n h => (outsAt0 m c n h).2) (fun t => part (iblk m c 0 t) (iblk m c 1 t))
      id (first m c) (next m c) (last m c) t ht (ix2 a b)).trans ?_
    unfold prod part tn
    refine sum_blocks rfl (fun s k hl => ?_) (fun s k hl => ?_)
    all_goals obtain ⟨h0, h1, h2, h3⟩ := blocks t ht s (Pipeline.run_point_lt_of_flush t ht s)
    · blk_ext [iblk, h0, h1]
      exact one_step _ _
    · blk_ext [iblk, h2, h3]
      exact one_step _ _

/-- The reference's array is the same. -/
theorem ref (x : (⟨S8192x512, .f32⟩ : BufTy).Contents (Elt Ideal)) (w : (⟨S8192x1536, .f32⟩ : BufTy).Contents (Elt Ideal)) :
    Cert.RUqDwIdeal.Read.val_main_v3 (F := Ideal) x w = prod x w := funext fun i => by
  rw [Cert.RUqDwIdeal.Read.val_main_v3_apply, Cert.RUqDwIdeal.Read.val_main_v2_apply]
  unfold prod tn
  refine Finset.sum_congr rfl fun k _ => (mul_comm _ _).trans (congrArg₂ (fun (p q : EReal) => p * q) (congrArg x ?_) (congrArg w ?_)) <;>
    funext d <;> fin_cases d <;> rfl

end Cert.KUqDwIdeal.Hand

end
-- ==== Proof.Ukv.lean ====
/-
  The key and value up-projection, block by block.
-/
module

public import proofs.«01_k».proof.Proof.Gen.KUkvIdeal.Value
public import proofs.«01_k».proof.Proof.Gen.RUkvIdeal.Run
public import proofs.«01_k».proof.Proof.Gen.RUkvIdeal.Read
public import proofs.«01_k».proof.Proof.Products

@[expose] public section

noncomputable section

namespace Cert.KUkvIdeal.Hand

open Cert.KUkvIdeal Cert.KUkvIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x256 .bf16) (y : Vec Ideal S256x1024 .bf16) (j : S1024x1024.Idx)

/-- The product of a point's two blocks. -/
def part : EReal := nn (M := 1024) (N := 1024) x y (j 0) (j 1)

theorem pay : k0_pay1 x y j = part x y j := by
  unfold k0_pay1
  simp only [shapeCast_self]
  exact (mul_one_word _).trans ((congrArg _ (eq_ix2 j)).trans (matmul_nn (φ₁ := .bf16) (φ₂ := .bf16) none (j 0) (j 1) x y))

/-! ## The array -/

/-- The region finds its operands as they were launched. -/
theorem V_x : V m c main_v0 = m ((c : Thread nD τ).loc main_arg0) := by
  simp only [V, hostOps0]
  after_results_simp <;> rfl
theorem V_w : V m c main_v1 = m ((c : Thread nD τ).loc main_arg1) := by
  simp only [V, hostOps0]
  after_results_simp <;> rfl

/-- What the whole array holds. -/
def prod (x : (⟨S8192x256, .f32⟩ : BufTy).Contents (Elt Ideal)) (w : (⟨S256x2048, .f32⟩ : BufTy).Contents (Elt Ideal)) :
    (⟨S8192x2048, .f32⟩ : BufTy).Contents (Elt Ideal) := fun i => nn (M := 8192) (N := 2048) x w (i 0) (i 1)

theorem blocks : ∀ t : Fin grid0.N, win0_0.index t 0 = win0_2.index t 0 ∧ win0_0.index t 1 = 0 ∧ win0_1.index t 1 = win0_2.index t 1 ∧ win0_1.index t 0 = 0 := by decide +kernel

/-- The array after the run. -/
theorem arr : (dats m 0 c).arrAt 2 cfg0.N = prod (V m c main_v0) (V m c main_v1) :=
  Dat.arrAt_eq_of_covers (dats m 0 c) 2 _ (by decide +kernel) fun t hf y => by
    obtain ⟨a, b, rfl⟩ : ∃ (a : Fin 1024) (b : Fin 1024), y = ix2 a b := ⟨y 0, y 1, eq_ix2 y⟩
    obtain ⟨h0, h1, h2, h3⟩ := blocks t
    blk_simp
    rw [after0_2]
    frame_out
    rw [pay]
    unfold prod part nn
    refine Fin.sum_fin_congr fun k => congrArg₂ (fun (p q : EReal) => p * q) ?_ ?_
    · blk_ext [iblk, h0, h1]
      exact one_step _ _
    · blk_ext [iblk, h2, h3]
      exact one_step _ _

/-- The reference's array is the same. -/
theorem ref (x : (⟨S8192x256, .f32⟩ : BufTy).Contents (Elt Ideal)) (w : (⟨S256x2048, .f32⟩ : BufTy).Contents (Elt Ideal)) :
    Cert.RUkvIdeal.Read.val_main_v0 (F := Ideal) x w = prod x w := funext fun i => by
  rw [Cert.RUkvIdeal.Read.val_main_v0_apply]
  unfold prod nn
  refine Finset.sum_congr rfl fun k _ => congrArg₂ (fun (p q : EReal) => p * q) (congrArg x ?_) (congrArg w ?_) <;>
    funext d <;> fin_cases d <;> rfl

end Cert.KUkvIdeal.Hand

end
-- ==== Proof.UkvDx.lean ====
/-
  The gradient of the key and value up-projection's rows, block by block.
-/
module

public import proofs.«01_k».proof.Proof.Gen.KUkvDxIdeal.Value
public import proofs.«01_k».proof.Proof.Gen.RUkvDxIdeal.Run
public import proofs.«01_k».proof.Proof.Gen.RUkvDxIdeal.Read
public import proofs.«01_k».proof.Proof.Products

@[expose] public section

noncomputable section

namespace Cert.KUkvDxIdeal.Hand

open Cert.KUkvDxIdeal Cert.KUkvDxIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x2048 .bf16) (y : Vec Ideal S256x2048 .bf16) (j : S1024x256.Idx)

/-- The product of a point's two blocks. -/
def part : EReal := nt (M := 1024) (N := 256) x y (j 0) (j 1)

theorem pay : k0_pay1 x y j = part x y j := by
  unfold k0_pay1
  simp only [shapeCast_self]
  exact (mul_one_word _).trans ((congrArg _ (eq_ix2 j)).trans (matmul_nt (φ₁ := .bf16) (φ₂ := .bf16) none (j 0) (j 1) x y))

/-! ## The array -/

/-- The region finds its operands as they were launched. -/
theorem V_x : V m c main_v0 = m ((c : Thread nD τ).loc main_arg1) := by
  simp only [V, hostOps0]
  after_results_simp <;> rfl
theorem V_w : V m c main_v1 = m ((c : Thread nD τ).loc main_arg0) := by
  simp only [V, hostOps0]
  after_results_simp <;> rfl

/-- What the whole array holds. -/
def prod (x : (⟨S8192x2048, .f32⟩ : BufTy).Contents (Elt Ideal)) (w : (⟨S256x2048, .f32⟩ : BufTy).Contents (Elt Ideal)) :
    (⟨S8192x256, .f32⟩ : BufTy).Contents (Elt Ideal) := fun i => nt (M := 8192) (N := 256) x w (i 0) (i 1)

theorem blocks : ∀ t : Fin grid0.N, win0_0.index t 0 = win0_2.index t 0 ∧ win0_0.index t 1 = 0 ∧ win0_1.index t 0 = win0_2.index t 1 ∧ win0_1.index t 1 = 0 := by decide +kernel

/-- The array after the run. -/
theorem arr : (dats m 0 c).arrAt 2 cfg0.N = prod (V m c main_v0) (V m c main_v1) :=
  Dat.arrAt_eq_of_covers (dats m 0 c) 2 _ (by decide +kernel) fun t hf y => by
    obtain ⟨a, b, rfl⟩ : ∃ (a : Fin 1024) (b : Fin 256), y = ix2 a b := ⟨y 0, y 1, eq_ix2 y⟩
    obtain ⟨h0, h1, h2, h3⟩ := blocks t
    blk_simp
    rw [after0_2]
    frame_out
    rw [pay]
    unfold prod part nt
    refine Fin.sum_fin_congr fun k => congrArg₂ (fun (p q : EReal) => p * q) ?_ ?_
    · blk_ext [iblk, h0, h1]
      exact one_step _ _
    · blk_ext [iblk, h2, h3]
      exact one_step _ _

/-- The reference's array is the same. -/
theorem ref (x : (⟨S8192x2048, .f32⟩ : BufTy).Contents (Elt Ideal)) (w : (⟨S256x2048, .f32⟩ : BufTy).Contents (Elt Ideal)) :
    Cert.RUkvDxIdeal.Read.val_main_v2 (F := Ideal) w x = prod x w := funext fun i => by
  rw [Cert.RUkvDxIdeal.Read.val_main_v2_apply]
  unfold prod nt
  refine Finset.sum_congr rfl fun k _ => congrArg₂ (fun (p q : EReal) => p * q) (congrArg x ?_) (congrArg w ?_) <;>
    funext d <;> fin_cases d <;> rfl

end Cert.KUkvDxIdeal.Hand

end
-- ==== Proof.UkvDw.lean ====
/-
  The gradient of the key and value up-projection's weights: eight row blocks accumulated.
-/
module

public import proofs.«01_k».proof.Proof.Gen.KUkvDwIdeal.Value
public import proofs.«01_k».proof.Proof.Gen.RUkvDwIdeal.Run
public import proofs.«01_k».proof.Proof.Gen.RUkvDwIdeal.Read
public import proofs.«01_k».proof.Proof.Products

@[expose] public section

noncomputable section

namespace Cert.KUkvDwIdeal.Hand

open Cert.KUkvDwIdeal Cert.KUkvDwIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x256 .bf16) (y : Vec Ideal S1024x2048 .bf16) (z : Vec Ideal S256x2048 .f32) (j : S256x2048.Idx)

/-- The product of a point's two blocks. -/
def part : EReal := tn (M := 256) (N := 2048) x y (j 0) (j 1)

theorem pay1 : k0_pay1 x y j = part x y j := by
  unfold k0_pay1
  simp only [shapeCast_self]
  exact (congrArg _ (eq_ix2 j)).trans (matmul_tn (φ₁ := .bf16) (φ₂ := .bf16) none (j 0) (j 1) x y)

theorem pay2 : k0_pay2 x y j = part x y j := by
  unfold k0_pay2
  simp only [shapeCast_self]
  exact pay1 x y j

theorem pay3 : k0_pay3 x y z j = (z j : EReal) + part x y j := by
  unfold k0_pay3
  simp only [shapeCast_self]
  exact congrArg (fun p : EReal => (z j : EReal) + p) (pay1 x y j)

theorem pay4 : k0_pay4 x y z j = (z j : EReal) + part x y j :=
  (mul_one_word _).trans (congrArg (fun p : EReal => (z j : EReal) + p) (pay1 x y j))

theorem first (t : Fin cfg0.N) (h : t.val % 8 = 0) (j : S256x2048.Idx) :
    (outsAt0 m c t.val t.isLt).2 j = part (iblk m c 0 t) (iblk m c 1 t) j := by
  rw [outsAt0_A m c t h (by omega) (by omega)]
  frame_out
  exact pay2 _ _ j

theorem next (t : Fin cfg0.N) (h : ¬t.val % 8 = 0) (h' : ¬t.val % 8 = 8 - 1) (j : S256x2048.Idx) :
    (outsAt0 m c t.val t.isLt).2 j
      = ((outsAt0 m c (t.val - 1) (Nat.lt_of_le_of_lt (Nat.sub_le _ _) t.isLt)).2 j : EReal) + part (iblk m c 0 t) (iblk m c 1 t) j := by
  rw [outsAt0_B m c t h (by omega) h']
  frame_out
  rw [pay3, (Memref.isWhole_whole _).read_unread]

theorem last (t : Fin cfg0.N) (h : t.val % 8 = 8 - 1) (j : S256x2048.Idx) :
    (outsAt0 m c t.val t.isLt).1 j
      = ((outsAt0 m c (t.val - 1) (Nat.lt_of_le_of_lt (Nat.sub_le _ _) t.isLt)).2 j : EReal) + part (iblk m c 0 t) (iblk m c 1 t) j := by
  rw [outsAt0_C m c t (by omega) (by omega) h]
  frame_out
  rw [pay4, (Memref.isWhole_whole _).read_unread]

/-! ## The array -/

/-- The region finds its operands as they were launched. -/
theorem V_x : V m c main_v0 = m ((c : Thread nD τ).loc main_arg0) := by
  simp only [V, hostOps0]
  after_results_simp <;> rfl
theorem V_w : V m c main_v1 = m ((c : Thread nD τ).loc main_arg1) := by
  simp only [V, hostOps0]
  after_results_simp <;> rfl

/-- What the whole array holds. -/
def prod (x : (⟨S8192x256, .f32⟩ : BufTy).Contents (Elt Ideal)) (w : (⟨S8192x2048, .f32⟩ : BufTy).Contents (Elt Ideal)) :
    (⟨S256x2048, .f32⟩ : BufTy).Contents (Elt Ideal) := fun i => tn (M := 256) (N := 2048) x w (i 0) (i 1)

theorem blocks : ∀ t : Fin grid0.N, t.val % 8 = 7 → ∀ s : Fin 8, ∀ h : 8 * (t.val / 8) + s.val < grid0.N,
    win0_0.index (⟨8 * (t.val / 8) + s.val, h⟩ : Fin grid0.N) 0 = s.val ∧ win0_0.index (⟨8 * (t.val / 8) + s.val, h⟩ : Fin grid0.N) 1 = win0_2.index t 0
    ∧ win0_1.index (⟨8 * (t.val / 8) + s.val, h⟩ : Fin grid0.N) 0 = s.val ∧ win0_1.index (⟨8 * (t.val / 8) + s.val, h⟩ : Fin grid0.N) 1 = win0_2.index t 1 := by
  decide +kernel

theorem flush_last : ∀ t : Fin grid0.N, win0_2.flush t = true → t.val % 8 = 8 - 1 := by decide +kernel

/-- The array after the run. -/
theorem arr : (dats m 0 c).arrAt 2 cfg0.N = prod (V m c main_v0) (V m c main_v1) :=
  Dat.arrAt_eq_of_covers (dats m 0 c) 2 _ (by decide +kernel) fun t hf y => by
    obtain ⟨a, b, rfl⟩ : ∃ (a : Fin 256) (b : Fin 2048), y = ix2 a b := ⟨y 0, y 1, eq_ix2 y⟩
    have ht := flush_last t hf
    blk_simp
    rw [after0_2]
    refine (run_sum (by decide) (fun n h => (outsAt0 m c n h).1) (fun n h => (outsAt0 m c n h).2) (fun t => part (iblk m c 0 t) (iblk m c 1 t))
      id (first m c) (next m c) (last m c) t ht (ix2 a b)).trans ?_
    unfold prod part tn
    refine sum_blocks rfl (fun s k hl => ?_) (fun s k hl => ?_)
    all_goals obtain ⟨h0, h1, h2, h3⟩ := blocks t ht s (Pipeline.run_point_lt_of_flush t ht s)
    · blk_ext [iblk, h0, h1]
      exact one_step _ _
    · blk_ext [iblk, h2, h3]
      exact one_step _ _

/-- The reference's array is the same. -/
theorem ref (x : (⟨S8192x256, .f32⟩ : BufTy).Contents (Elt Ideal)) (w : (⟨S8192x2048, .f32⟩ : BufTy).Contents (Elt Ideal)) :
    Cert.RUkvDwIdeal.Read.val_main_v3 (F := Ideal) x w = prod x w := funext fun i => by
  rw [Cert.RUkvDwIdeal.Read.val_main_v3_apply, Cert.RUkvDwIdeal.Read.val_main_v2_apply]
  unfold prod tn
  refine Finset.sum_congr rfl fun k _ => (mul_comm _ _).trans (congrArg₂ (fun (p q : EReal) => p * q) (congrArg x ?_) (congrArg w ?_)) <;>
    funext d <;> fin_cases d <;> rfl

end Cert.KUkvDwIdeal.Hand

end
-- ==== Proof.MlaOut.lean ====
/-
  The attention output projection, block by block.
-/
module

public import proofs.«01_k».proof.Proof.Gen.KMlaOutIdeal.Value
public import proofs.«01_k».proof.Proof.Gen.RMlaOutIdeal.Run
public import proofs.«01_k».proof.Proof.Gen.RMlaOutIdeal.Read
public import proofs.«01_k».proof.Proof.Products

@[expose] public section

noncomputable section

namespace Cert.KMlaOutIdeal.Hand

open Cert.KMlaOutIdeal Cert.KMlaOutIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x1024 .f32) (y : Vec Ideal S1024x1024 .bf16) (j : S1024x1024.Idx)

/-- The product of a point's two blocks. -/
def part : EReal := nn (M := 1024) (N := 1024) x y (j 0) (j 1)

theorem pay : k0_pay1 x y j = part x y j := by
  unfold k0_pay1
  simp only [shapeCast_self]
  exact (mul_one_word _).trans ((congrArg _ (eq_ix2 j)).trans (matmul_nn (φ₁ := .bf16) (φ₂ := .bf16) none (j 0) (j 1) x y))

/-! ## The array -/

/-- The region finds its operands as they were launched. -/
theorem V_x : V m c main_arg0 = m ((c : Thread nD τ).loc main_arg0) := V_main_arg0 m c
theorem V_w : V m c main_v0 = m ((c : Thread nD τ).loc main_arg1) := by
  simp only [V, hostOps0]
  after_results_simp <;> rfl

/-- What the whole array holds. -/
def prod (x : (⟨S8192x1024, .f32⟩ : BufTy).Contents (Elt Ideal)) (w : (⟨S1024x1024, .f32⟩ : BufTy).Contents (Elt Ideal)) :
    (⟨S8192x1024, .f32⟩ : BufTy).Contents (Elt Ideal) := fun i => nn (M := 8192) (N := 1024) x w (i 0) (i 1)

theorem blocks : ∀ t : Fin grid0.N, win0_0.index t 0 = win0_2.index t 0 ∧ win0_0.index t 1 = 0 ∧ win0_1.index t 1 = win0_2.index t 1 ∧ win0_1.index t 0 = 0 := by decide +kernel

/-- The array after the run. -/
theorem arr : (dats m 0 c).arrAt 2 cfg0.N = prod (V m c main_arg0) (V m c main_v0) :=
  Dat.arrAt_eq_of_covers (dats m 0 c) 2 _ (by decide +kernel) fun t hf y => by
    obtain ⟨a, b, rfl⟩ : ∃ (a : Fin 1024) (b : Fin 1024), y = ix2 a b := ⟨y 0, y 1, eq_ix2 y⟩
    obtain ⟨h0, h1, h2, h3⟩ := blocks t
    blk_simp
    rw [after0_2]
    frame_out
    rw [pay]
    unfold prod part nn
    refine Fin.sum_fin_congr fun k => congrArg₂ (fun (p q : EReal) => p * q) ?_ ?_
    · blk_ext [iblk, h0, h1]
      exact one_step _ _
    · blk_ext [iblk, h2, h3]
      exact one_step _ _

/-- The reference's array is the same. -/
theorem ref (x : (⟨S8192x1024, .f32⟩ : BufTy).Contents (Elt Ideal)) (w : (⟨S1024x1024, .f32⟩ : BufTy).Contents (Elt Ideal)) :
    Cert.RMlaOutIdeal.Read.val_main_v0 (F := Ideal) x w = prod x w := funext fun i => by
  rw [Cert.RMlaOutIdeal.Read.val_main_v0_apply]
  unfold prod nn
  refine Finset.sum_congr rfl fun k _ => congrArg₂ (fun (p q : EReal) => p * q) (congrArg x ?_) (congrArg w ?_) <;>
    funext d <;> fin_cases d <;> rfl

end Cert.KMlaOutIdeal.Hand

end
-- ==== Proof.MlaOutDx.lean ====
/-
  The gradient of the attention output projection's rows, block by block.
-/
module

public import proofs.«01_k».proof.Proof.Gen.KMlaOutDxIdeal.Value
public import proofs.«01_k».proof.Proof.Gen.RMlaOutDxIdeal.Run
public import proofs.«01_k».proof.Proof.Gen.RMlaOutDxIdeal.Read
public import proofs.«01_k».proof.Proof.Products

@[expose] public section

noncomputable section

namespace Cert.KMlaOutDxIdeal.Hand

open Cert.KMlaOutDxIdeal Cert.KMlaOutDxIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x1024 .bf16) (y : Vec Ideal S1024x1024 .bf16) (j : S1024x1024.Idx)

/-- The product of a point's two blocks. -/
def part : EReal := nt (M := 1024) (N := 1024) x y (j 0) (j 1)

theorem pay : k0_pay1 x y j = part x y j := by
  unfold k0_pay1
  simp only [shapeCast_self]
  exact (mul_one_word _).trans ((congrArg _ (eq_ix2 j)).trans (matmul_nt (φ₁ := .bf16) (φ₂ := .bf16) none (j 0) (j 1) x y))

/-! ## The array -/

/-- The region finds its operands as they were launched. -/
theorem V_x : V m c main_v0 = m ((c : Thread nD τ).loc main_arg1) := by
  simp only [V, hostOps0]
  after_results_simp <;> rfl
theorem V_w : V m c main_v1 = m ((c : Thread nD τ).loc main_arg0) := by
  simp only [V, hostOps0]
  after_results_simp <;> rfl

/-- What the whole array holds. -/
def prod (x : (⟨S8192x1024, .f32⟩ : BufTy).Contents (Elt Ideal)) (w : (⟨S1024x1024, .f32⟩ : BufTy).Contents (Elt Ideal)) :
    (⟨S8192x1024, .f32⟩ : BufTy).Contents (Elt Ideal) := fun i => nt (M := 8192) (N := 1024) x w (i 0) (i 1)

theorem blocks : ∀ t : Fin grid0.N, win0_0.index t 0 = win0_2.index t 0 ∧ win0_0.index t 1 = 0 ∧ win0_1.index t 0 = win0_2.index t 1 ∧ win0_1.index t 1 = 0 := by decide +kernel

/-- The array after the run. -/
theorem arr : (dats m 0 c).arrAt 2 cfg0.N = prod (V m c main_v0) (V m c main_v1) :=
  Dat.arrAt_eq_of_covers (dats m 0 c) 2 _ (by decide +kernel) fun t hf y => by
    obtain ⟨a, b, rfl⟩ : ∃ (a : Fin 1024) (b : Fin 1024), y = ix2 a b := ⟨y 0, y 1, eq_ix2 y⟩
    obtain ⟨h0, h1, h2, h3⟩ := blocks t
    blk_simp
    rw [after0_2]
    frame_out
    rw [pay]
    unfold prod part nt
    refine Fin.sum_fin_congr fun k => congrArg₂ (fun (p q : EReal) => p * q) ?_ ?_
    · blk_ext [iblk, h0, h1]
      exact one_step _ _
    · blk_ext [iblk, h2, h3]
      exact one_step _ _

/-- The reference's array is the same. -/
theorem ref (x : (⟨S8192x1024, .f32⟩ : BufTy).Contents (Elt Ideal)) (w : (⟨S1024x1024, .f32⟩ : BufTy).Contents (Elt Ideal)) :
    Cert.RMlaOutDxIdeal.Read.val_main_v2 (F := Ideal) w x = prod x w := funext fun i => by
  rw [Cert.RMlaOutDxIdeal.Read.val_main_v2_apply]
  unfold prod nt
  refine Finset.sum_congr rfl fun k _ => congrArg₂ (fun (p q : EReal) => p * q) (congrArg x ?_) (congrArg w ?_) <;>
    funext d <;> fin_cases d <;> rfl

end Cert.KMlaOutDxIdeal.Hand

end
-- ==== Proof.MlaOutDw.lean ====
/-
  The gradient of the attention output projection's weights: eight row blocks accumulated.
-/
module

public import proofs.«01_k».proof.Proof.Gen.KMlaOutDwIdeal.Value
public import proofs.«01_k».proof.Proof.Gen.RMlaOutDwIdeal.Run
public import proofs.«01_k».proof.Proof.Gen.RMlaOutDwIdeal.Read
public import proofs.«01_k».proof.Proof.Products

@[expose] public section

noncomputable section

namespace Cert.KMlaOutDwIdeal.Hand

open Cert.KMlaOutDwIdeal Cert.KMlaOutDwIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x1024 .f32) (y : Vec Ideal S1024x1024 .bf16) (z : Vec Ideal S1024x1024 .f32) (j : S1024x1024.Idx)

/-- The product of a point's two blocks. -/
def part : EReal := tn (M := 1024) (N := 1024) x y (j 0) (j 1)

theorem pay1 : k0_pay1 x y j = part x y j := by
  unfold k0_pay1
  simp only [shapeCast_self]
  exact (congrArg _ (eq_ix2 j)).trans (matmul_tn (φ₁ := .bf16) (φ₂ := .bf16) none (j 0) (j 1) x y)

theorem pay2 : k0_pay2 x y j = part x y j := by
  unfold k0_pay2
  simp only [shapeCast_self]
  exact pay1 x y j

theorem pay3 : k0_pay3 x y z j = (z j : EReal) + part x y j := by
  unfold k0_pay3
  simp only [shapeCast_self]
  exact congrArg (fun p : EReal => (z j : EReal) + p) (pay1 x y j)

theorem pay4 : k0_pay4 x y z j = (z j : EReal) + part x y j :=
  (mul_one_word _).trans (congrArg (fun p : EReal => (z j : EReal) + p) (pay1 x y j))

theorem first (t : Fin cfg0.N) (h : t.val % 8 = 0) (j : S1024x1024.Idx) :
    (outsAt0 m c t.val t.isLt).2 j = part (iblk m c 0 t) (iblk m c 1 t) j := by
  rw [outsAt0_A m c t h (by omega) (by omega)]
  frame_out
  exact pay2 _ _ j

theorem next (t : Fin cfg0.N) (h : ¬t.val % 8 = 0) (h' : ¬t.val % 8 = 8 - 1) (j : S1024x1024.Idx) :
    (outsAt0 m c t.val t.isLt).2 j
      = ((outsAt0 m c (t.val - 1) (Nat.lt_of_le_of_lt (Nat.sub_le _ _) t.isLt)).2 j : EReal) + part (iblk m c 0 t) (iblk m c 1 t) j := by
  rw [outsAt0_B m c t h (by omega) h']
  frame_out
  rw [pay3, (Memref.isWhole_whole _).read_unread]

theorem last (t : Fin cfg0.N) (h : t.val % 8 = 8 - 1) (j : S1024x1024.Idx) :
    (outsAt0 m c t.val t.isLt).1 j
      = ((outsAt0 m c (t.val - 1) (Nat.lt_of_le_of_lt (Nat.sub_le _ _) t.isLt)).2 j : EReal) + part (iblk m c 0 t) (iblk m c 1 t) j := by
  rw [outsAt0_C m c t (by omega) (by omega) h]
  frame_out
  rw [pay4, (Memref.isWhole_whole _).read_unread]

/-! ## The array -/

/-- The region finds its operands as they were launched. -/
theorem V_x : V m c main_arg0 = m ((c : Thread nD τ).loc main_arg0) := V_main_arg0 m c
theorem V_w : V m c main_v0 = m ((c : Thread nD τ).loc main_arg1) := by
  simp only [V, hostOps0]
  after_results_simp <;> rfl

/-- What the whole array holds. -/
def prod (x : (⟨S8192x1024, .f32⟩ : BufTy).Contents (Elt Ideal)) (w : (⟨S8192x1024, .f32⟩ : BufTy).Contents (Elt Ideal)) :
    (⟨S1024x1024, .f32⟩ : BufTy).Contents (Elt Ideal) := fun i => tn (M := 1024) (N := 1024) x w (i 0) (i 1)

theorem blocks : ∀ t : Fin grid0.N, t.val % 8 = 7 → ∀ s : Fin 8, ∀ h : 8 * (t.val / 8) + s.val < grid0.N,
    win0_0.index (⟨8 * (t.val / 8) + s.val, h⟩ : Fin grid0.N) 0 = s.val ∧ win0_0.index (⟨8 * (t.val / 8) + s.val, h⟩ : Fin grid0.N) 1 = win0_2.index t 0
    ∧ win0_1.index (⟨8 * (t.val / 8) + s.val, h⟩ : Fin grid0.N) 0 = s.val ∧ win0_1.index (⟨8 * (t.val / 8) + s.val, h⟩ : Fin grid0.N) 1 = win0_2.index t 1 := by
  decide +kernel

theorem flush_last : ∀ t : Fin grid0.N, win0_2.flush t = true → t.val % 8 = 8 - 1 := by decide +kernel

/-- The array after the run. -/
theorem arr : (dats m 0 c).arrAt 2 cfg0.N = prod (V m c main_arg0) (V m c main_v0) :=
  Dat.arrAt_eq_of_covers (dats m 0 c) 2 _ (by decide +kernel) fun t hf y => by
    obtain ⟨a, b, rfl⟩ : ∃ (a : Fin 1024) (b : Fin 1024), y = ix2 a b := ⟨y 0, y 1, eq_ix2 y⟩
    have ht := flush_last t hf
    blk_simp
    rw [after0_2]
    refine (run_sum (by decide) (fun n h => (outsAt0 m c n h).1) (fun n h => (outsAt0 m c n h).2) (fun t => part (iblk m c 0 t) (iblk m c 1 t))
      id (first m c) (next m c) (last m c) t ht (ix2 a b)).trans ?_
    unfold prod part tn
    refine sum_blocks rfl (fun s k hl => ?_) (fun s k hl => ?_)
    all_goals obtain ⟨h0, h1, h2, h3⟩ := blocks t ht s (Pipeline.run_point_lt_of_flush t ht s)
    · blk_ext [iblk, h0, h1]
      exact one_step _ _
    · blk_ext [iblk, h2, h3]
      exact one_step _ _

/-- The reference's array is the same. -/
theorem ref (x : (⟨S8192x1024, .f32⟩ : BufTy).Contents (Elt Ideal)) (w : (⟨S8192x1024, .f32⟩ : BufTy).Contents (Elt Ideal)) :
    Cert.RMlaOutDwIdeal.Read.val_main_v3 (F := Ideal) x w = prod x w := funext fun i => by
  rw [Cert.RMlaOutDwIdeal.Read.val_main_v3_apply, Cert.RMlaOutDwIdeal.Read.val_main_v2_apply]
  unfold prod tn
  refine Finset.sum_congr rfl fun k _ => (mul_comm _ _).trans (congrArg₂ (fun (p q : EReal) => p * q) (congrArg x ?_) (congrArg w ?_)) <;>
    funext d <;> fin_cases d <;> rfl

end Cert.KMlaOutDwIdeal.Hand

end
-- ==== Proof.Out.lean ====
/-
  The mixer output projection added to the residual, block by block.
-/
module

public import proofs.«01_k».proof.Proof.Gen.KOutIdeal.Value
public import proofs.«01_k».proof.Proof.Gen.ROutIdeal.Run
public import proofs.«01_k».proof.Proof.Gen.ROutIdeal.Read
public import proofs.«01_k».proof.Proof.Products

@[expose] public section

noncomputable section

namespace Cert.KOutIdeal.Hand

open Cert.KOutIdeal Cert.KOutIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x1024 .bf16) (y : Vec Ideal S1024x1024 .bf16) (z : Vec Ideal S1024x1024 .f32) (j : S1024x1024.Idx)

/-- The product of a point's two blocks. -/
def part : EReal := nn (M := 1024) (N := 1024) x y (j 0) (j 1)

theorem pay : k0_pay1 x y z j = (z j : EReal) + part x y j := by
  unfold k0_pay1
  simp only [shapeCast_self]
  refine congrArg (fun p : EReal => (z j : EReal) + p) ?_
  exact (mul_one_word _).trans ((congrArg _ (eq_ix2 j)).trans (matmul_nn (φ₁ := .bf16) (φ₂ := .bf16) none (j 0) (j 1) x y))

/-! ## The array -/

/-- The region finds its operands as they were launched. -/
theorem V_x : V m c main_v0 = m ((c : Thread nD τ).loc main_arg1) := by
  simp only [V, hostOps0]
  after_results_simp <;> rfl
theorem V_w : V m c main_v1 = m ((c : Thread nD τ).loc main_arg2) := by
  simp only [V, hostOps0]
  after_results_simp <;> rfl

/-- What the whole array holds. -/
def prod (z : (⟨S8192x1024, .f32⟩ : BufTy).Contents (Elt Ideal)) (x : (⟨S8192x1024, .f32⟩ : BufTy).Contents (Elt Ideal)) (w : (⟨S1024x1024, .f32⟩ : BufTy).Contents (Elt Ideal)) :
    (⟨S8192x1024, .f32⟩ : BufTy).Contents (Elt Ideal) := fun i => (z i : EReal) + nn (M := 8192) (N := 1024) x w (i 0) (i 1)

theorem blocks : ∀ t : Fin grid0.N, win0_0.index t 0 = win0_3.index t 0 ∧ win0_0.index t 1 = 0 ∧ win0_1.index t 1 = win0_3.index t 1 ∧ win0_1.index t 0 = 0
    ∧ win0_2.index t 0 = win0_3.index t 0 ∧ win0_2.index t 1 = win0_3.index t 1 := by decide +kernel

/-- The array after the run. -/
theorem arr : (dats m 0 c).arrAt 3 cfg0.N = prod (V m c main_arg0) (V m c main_v0) (V m c main_v1) :=
  Dat.arrAt_eq_of_covers (dats m 0 c) 3 _ (by decide +kernel) fun t hf y => by
    obtain ⟨a, b, rfl⟩ : ∃ (a : Fin 1024) (b : Fin 1024), y = ix2 a b := ⟨y 0, y 1, eq_ix2 y⟩
    obtain ⟨h0, h1, h2, h3, h4, h5⟩ := blocks t
    blk_simp
    rw [after0_3]
    frame_out
    rw [pay]
    unfold prod part nn
    refine congrArg₂ (fun (p q : EReal) => p + q) (by blk_ext [iblk, h4, h5]) ?_
    refine Fin.sum_fin_congr fun k => congrArg₂ (fun (p q : EReal) => p * q) ?_ ?_
    · blk_ext [iblk, h0, h1]
      exact one_step _ _
    · blk_ext [iblk, h2, h3]
      exact one_step _ _

/-- The reference's array is the same. -/
theorem ref (z : (⟨S8192x1024, .f32⟩ : BufTy).Contents (Elt Ideal)) (x : (⟨S8192x1024, .f32⟩ : BufTy).Contents (Elt Ideal)) (w : (⟨S1024x1024, .f32⟩ : BufTy).Contents (Elt Ideal)) :
    Cert.ROutIdeal.Read.val_main_v1 (F := Ideal) z x w = prod z x w := funext fun i => by
  rw [Cert.ROutIdeal.Read.val_main_v1_apply, Cert.ROutIdeal.Read.val_main_v0_apply]
  unfold prod nn
  refine congrArg (fun p : EReal => (z i : EReal) + p) ?_
  refine Finset.sum_congr rfl fun k _ => congrArg₂ (fun (p q : EReal) => p * q) (congrArg x ?_) (congrArg w ?_) <;>
    funext d <;> fin_cases d <;> rfl

end Cert.KOutIdeal.Hand

end
-- ==== Proof.OutDx.lean ====
/-
  The gradient of the mixer output projection's rows, block by block.
-/
module

public import proofs.«01_k».proof.Proof.Gen.KOutDxIdeal.Value
public import proofs.«01_k».proof.Proof.Gen.ROutDxIdeal.Run
public import proofs.«01_k».proof.Proof.Gen.ROutDxIdeal.Read
public import proofs.«01_k».proof.Proof.Products

@[expose] public section

noncomputable section

namespace Cert.KOutDxIdeal.Hand

open Cert.KOutDxIdeal Cert.KOutDxIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x1024 .f32) (y : Vec Ideal S1024x1024 .bf16) (j : S1024x1024.Idx)

/-- The product of a point's two blocks. -/
def part : EReal := nt (M := 1024) (N := 1024) x y (j 0) (j 1)

theorem pay : k0_pay1 x y j = part x y j := by
  unfold k0_pay1
  simp only [shapeCast_self]
  exact (mul_one_word _).trans ((congrArg _ (eq_ix2 j)).trans (matmul_nt (φ₁ := .bf16) (φ₂ := .bf16) none (j 0) (j 1) x y))

/-! ## The array -/

/-- The region finds its operands as they were launched. -/
theorem V_x : V m c main_arg1 = m ((c : Thread nD τ).loc main_arg1) := V_main_arg1 m c
theorem V_w : V m c main_v0 = m ((c : Thread nD τ).loc main_arg0) := by
  simp only [V, hostOps0]
  after_results_simp <;> rfl

/-- What the whole array holds. -/
def prod (x : (⟨S8192x1024, .f32⟩ : BufTy).Contents (Elt Ideal)) (w : (⟨S1024x1024, .f32⟩ : BufTy).Contents (Elt Ideal)) :
    (⟨S8192x1024, .f32⟩ : BufTy).Contents (Elt Ideal) := fun i => nt (M := 8192) (N := 1024) x w (i 0) (i 1)

theorem blocks : ∀ t : Fin grid0.N, win0_0.index t 0 = win0_2.index t 0 ∧ win0_0.index t 1 = 0 ∧ win0_1.index t 0 = win0_2.index t 1 ∧ win0_1.index t 1 = 0 := by decide +kernel

/-- The array after the run. -/
theorem arr : (dats m 0 c).arrAt 2 cfg0.N = prod (V m c main_arg1) (V m c main_v0) :=
  Dat.arrAt_eq_of_covers (dats m 0 c) 2 _ (by decide +kernel) fun t hf y => by
    obtain ⟨a, b, rfl⟩ : ∃ (a : Fin 1024) (b : Fin 1024), y = ix2 a b := ⟨y 0, y 1, eq_ix2 y⟩
    obtain ⟨h0, h1, h2, h3⟩ := blocks t
    blk_simp
    rw [after0_2]
    frame_out
    rw [pay]
    unfold prod part nt
    refine Fin.sum_fin_congr fun k => congrArg₂ (fun (p q : EReal) => p * q) ?_ ?_
    · blk_ext [iblk, h0, h1]
      exact one_step _ _
    · blk_ext [iblk, h2, h3]
      exact one_step _ _

/-- The reference's array is the same. -/
theorem ref (x : (⟨S8192x1024, .f32⟩ : BufTy).Contents (Elt Ideal)) (w : (⟨S1024x1024, .f32⟩ : BufTy).Contents (Elt Ideal)) :
    Cert.ROutDxIdeal.Read.val_main_v2 (F := Ideal) w x = prod x w := funext fun i => by
  rw [Cert.ROutDxIdeal.Read.val_main_v2_apply]
  unfold prod nt
  refine Finset.sum_congr rfl fun k _ => congrArg₂ (fun (p q : EReal) => p * q) (congrArg x ?_) (congrArg w ?_) <;>
    funext d <;> fin_cases d <;> rfl

end Cert.KOutDxIdeal.Hand

end
-- ==== Proof.OutDw.lean ====
/-
  The gradient of the mixer output projection's weights: eight row blocks accumulated.
-/
module

public import proofs.«01_k».proof.Proof.Gen.KOutDwIdeal.Value
public import proofs.«01_k».proof.Proof.Gen.ROutDwIdeal.Run
public import proofs.«01_k».proof.Proof.Gen.ROutDwIdeal.Read
public import proofs.«01_k».proof.Proof.Products

@[expose] public section

noncomputable section

namespace Cert.KOutDwIdeal.Hand

open Cert.KOutDwIdeal Cert.KOutDwIdeal.Gen Cert.Products
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## A grid point -/

variable (x : Vec Ideal S1024x1024 .bf16) (y : Vec Ideal S1024x1024 .f32) (z : Vec Ideal S1024x1024 .f32) (j : S1024x1024.Idx)

/-- The product of a point's two blocks. -/
def part : EReal := tn (M := 1024) (N := 1024) x y (j 0) (j 1)

theorem pay1 : k0_pay1 x y j = part x y j := by
  unfold k0_pay1
  simp only [shapeCast_self]
  exact (congrArg _ (eq_ix2 j)).trans (matmul_tn (φ₁ := .bf16) (φ₂ := .bf16) none (j 0) (j 1) x y)

theorem pay2 : k0_pay2 x y j = part x y j := by
  unfold k0_pay2
  simp only [shapeCast_self]
  exact pay1 x y j

theorem pay3 : k0_pay3 x y z j = (z j : EReal) + part x y j := by
  unfold k0_pay3
  simp only [shapeCast_self]
  exact congrArg (fun p : EReal => (z j : EReal) + p) (pay1 x y j)

theorem pay4 : k0_pay4 x y z j = (z j : EReal) + part x y j :=
  (mul_one_word _).trans (congrArg (fun p : EReal => (z j : EReal) + p) (pay1 x y j))

theorem first (t : Fin cfg0.N) (h : t.val % 8 = 0) (j : S1024x1024.Idx) :
    (outsAt0 m c t.val t.isLt).2 j = part (iblk m c 0 t) (iblk m c 1 t) j := by
  rw [outsAt0_A m c t h (by omega) (by omega)]
  frame_out
  exact pay2 _ _ j

theorem next (t : Fin cfg0.N) (h : ¬t.val % 8 = 0) (h' : ¬t.val % 8 = 8 - 1) (j : S1024x1024.Idx) :
    (outsAt0 m c t.val t.isLt).2 j
      = ((outsAt0 m c (t.val - 1) (Nat.lt_of_le_of_lt (Nat.sub_le _ _) t.isLt)).2 j : EReal) + part (iblk m c 0 t) (iblk m c 1 t) j := by
  rw [outsAt0_B m c t h (by omega) h']
  frame_out
  rw [pay3, (Memref.isWhole_whole _).read_unread]

theorem last (t : Fin cfg0.N) (h : t.val % 8 = 8 - 1) (j : S1024x1024.Idx) :
    (outsAt0 m c t.val t.isLt).1 j
      = ((outsAt0 m c (t.val - 1) (Nat.lt_of_le_of_lt (Nat.sub_le _ _) t.isLt)).2 j : EReal) + part (iblk m c 0 t) (iblk m c 1 t) j := by
  rw [outsAt0_C m c t (by omega) (by omega) h]
  frame_out
  rw [pay4, (Memref.isWhole_whole _).read_unread]

/-! ## The array -/

/-- The region finds its operands as they were launched. -/
theorem V_x : V m c main_v0 = m ((c : Thread nD τ).loc main_arg0) := by
  simp only [V, hostOps0]
  after_results_simp <;> rfl
theorem V_w : V m c main_arg1 = m ((c : Thread nD τ).loc main_arg1) := V_main_arg1 m c

/-- What the whole array holds. -/
def prod (x : (⟨S8192x1024, .f32⟩ : BufTy).Contents (Elt Ideal)) (w : (⟨S8192x1024, .f32⟩ : BufTy).Contents (Elt Ideal)) :
    (⟨S1024x1024, .f32⟩ : BufTy).Contents (Elt Ideal) := fun i => tn (M := 1024) (N := 1024) x w (i 0) (i 1)

theorem blocks : ∀ t : Fin grid0.N, t.val % 8 = 7 → ∀ s : Fin 8, ∀ h : 8 * (t.val / 8) + s.val < grid0.N,
    win0_0.index (⟨8 * (t.val / 8) + s.val, h⟩ : Fin grid0.N) 0 = s.val ∧ win0_0.index (⟨8 * (t.val / 8) + s.val, h⟩ : Fin grid0.N) 1 = win0_2.index t 0
    ∧ win0_1.index (⟨8 * (t.val / 8) + s.val, h⟩ : Fin grid0.N) 0 = s.val ∧ win0_1.index (⟨8 * (t.val / 8) + s.val, h⟩ : Fin grid0.N) 1 = win0_2.index t 1 := by
  decide +kernel

theorem flush_last : ∀ t : Fin grid0.N, win0_2.flush t = true → t.val % 8 = 8 - 1 := by decide +kernel

/-- The array after the run. -/
theorem arr : (dats m 0 c).arrAt 2 cfg0.N = prod (V m c main_v0) (V m c main_arg1) :=
  Dat.arrAt_eq_of_covers (dats m 0 c) 2 _ (by decide +kernel) fun t hf y => by
    obtain ⟨a, b, rfl⟩ : ∃ (a : Fin 1024) (b : Fin 1024), y = ix2 a b := ⟨y 0, y 1, eq_ix2 y⟩
    have ht := flush_last t hf
    blk_simp
    rw [after0_2]
    refine (run_sum (by decide) (fun n h => (outsAt0 m c n h).1) (fun n h => (outsAt0 m c n h).2) (fun t => part (iblk m c 0 t) (iblk m c 1 t))
      id (first m c) (next m c) (last m c) t ht (ix2 a b)).trans ?_
    unfold prod part tn
    refine sum_blocks rfl (fun s k hl => ?_) (fun s k hl => ?_)
    all_goals obtain ⟨h0, h1, h2, h3⟩ := blocks t ht s (Pipeline.run_point_lt_of_flush t ht s)
    · blk_ext [iblk, h0, h1]
      exact one_step _ _
    · blk_ext [iblk, h2, h3]
      exact one_step _ _

/-- The reference's array is the same. -/
theorem ref (x : (⟨S8192x1024, .f32⟩ : BufTy).Contents (Elt Ideal)) (w : (⟨S8192x1024, .f32⟩ : BufTy).Contents (Elt Ideal)) :
    Cert.ROutDwIdeal.Read.val_main_v3 (F := Ideal) x w = prod x w := funext fun i => by
  rw [Cert.ROutDwIdeal.Read.val_main_v3_apply, Cert.ROutDwIdeal.Read.val_main_v2_apply]
  unfold prod tn
  refine Finset.sum_congr rfl fun k _ => (mul_comm _ _).trans (congrArg₂ (fun (p q : EReal) => p * q) (congrArg x ?_) (congrArg w ?_)) <;>
    funext d <;> fin_cases d <;> rfl

end Cert.KOutDwIdeal.Hand

end
-- ==== Proof.CallsMixer.lean ====
/-
  The smaller matrix products of the mixer: each call's frames and its value, from the arrays of its module.
-/
module

public import proofs.«01_k».proof.Defs
public import proofs.«01_k».proof.Proof.Gen.KSsdOut
public import proofs.«01_k».proof.Proof.Gen.KSsdOutIdeal
public import proofs.«01_k».proof.Proof.Gen.RSsdOutIdeal
public import proofs.«01_k».proof.Proof.SsdOut
public import proofs.«01_k».proof.Proof.Gen.KSsdOutDx
public import proofs.«01_k».proof.Proof.Gen.KSsdOutDxIdeal
public import proofs.«01_k».proof.Proof.Gen.RSsdOutDxIdeal
public import proofs.«01_k».proof.Proof.SsdOutDx
public import proofs.«01_k».proof.Proof.Gen.KSsdOutDw
public import proofs.«01_k».proof.Proof.Gen.KSsdOutDwIdeal
public import proofs.«01_k».proof.Proof.Gen.RSsdOutDwIdeal
public import proofs.«01_k».proof.Proof.SsdOutDw
public import proofs.«01_k».proof.Proof.Gen.KUq
public import proofs.«01_k».proof.Proof.Gen.KUqIdeal
public import proofs.«01_k».proof.Proof.Gen.RUqIdeal
public import proofs.«01_k».proof.Proof.Uq
public import proofs.«01_k».proof.Proof.Gen.KUqDx
public import proofs.«01_k».proof.Proof.Gen.KUqDxIdeal
public import proofs.«01_k».proof.Proof.Gen.RUqDxIdeal
public import proofs.«01_k».proof.Proof.UqDx
public import proofs.«01_k».proof.Proof.Gen.KUqDw
public import proofs.«01_k».proof.Proof.Gen.KUqDwIdeal
public import proofs.«01_k».proof.Proof.Gen.RUqDwIdeal
public import proofs.«01_k».proof.Proof.UqDw
public import proofs.«01_k».proof.Proof.Gen.KUkv
public import proofs.«01_k».proof.Proof.Gen.KUkvIdeal
public import proofs.«01_k».proof.Proof.Gen.RUkvIdeal
public import proofs.«01_k».proof.Proof.Ukv
public import proofs.«01_k».proof.Proof.Gen.KUkvDx
public import proofs.«01_k».proof.Proof.Gen.KUkvDxIdeal
public import proofs.«01_k».proof.Proof.Gen.RUkvDxIdeal
public import proofs.«01_k».proof.Proof.UkvDx
public import proofs.«01_k».proof.Proof.Gen.KUkvDw
public import proofs.«01_k».proof.Proof.Gen.KUkvDwIdeal
public import proofs.«01_k».proof.Proof.Gen.RUkvDwIdeal
public import proofs.«01_k».proof.Proof.UkvDw
public import proofs.«01_k».proof.Proof.Gen.KMlaOut
public import proofs.«01_k».proof.Proof.Gen.KMlaOutIdeal
public import proofs.«01_k».proof.Proof.Gen.RMlaOutIdeal
public import proofs.«01_k».proof.Proof.MlaOut
public import proofs.«01_k».proof.Proof.Gen.KMlaOutDx
public import proofs.«01_k».proof.Proof.Gen.KMlaOutDxIdeal
public import proofs.«01_k».proof.Proof.Gen.RMlaOutDxIdeal
public import proofs.«01_k».proof.Proof.MlaOutDx
public import proofs.«01_k».proof.Proof.Gen.KMlaOutDw
public import proofs.«01_k».proof.Proof.Gen.KMlaOutDwIdeal
public import proofs.«01_k».proof.Proof.Gen.RMlaOutDwIdeal
public import proofs.«01_k».proof.Proof.MlaOutDw
public import proofs.«01_k».proof.Proof.Gen.KOut
public import proofs.«01_k».proof.Proof.Gen.KOutIdeal
public import proofs.«01_k».proof.Proof.Gen.ROutIdeal
public import proofs.«01_k».proof.Proof.Out
public import proofs.«01_k».proof.Proof.Gen.KOutDx
public import proofs.«01_k».proof.Proof.Gen.KOutDxIdeal
public import proofs.«01_k».proof.Proof.Gen.ROutDxIdeal
public import proofs.«01_k».proof.Proof.OutDx
public import proofs.«01_k».proof.Proof.Gen.KOutDw
public import proofs.«01_k».proof.Proof.Gen.KOutDwIdeal
public import proofs.«01_k».proof.Proof.Gen.ROutDwIdeal
public import proofs.«01_k».proof.Proof.OutDw
public import Idealize.ShloMosaic.Adequacy
public import Idealize.ShloMosaic.Init

@[expose] public section

set_option maxRecDepth 16384

noncomputable section

namespace Cert.Proof

open Idealize.ShloMosaic Idealize.SL.Sem
open Cert.Products (run_of_eq)

/-! ## SsdOut -/

set_option maxHeartbeats 2000000 in
set_option backward.isDefEq.respectTransparency.types false in
theorem defs₀_KSsdOut : Cert.KSsdOut.defs₀ (F := Bits) = Cert.KSsdOutIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KSsdOut : Cert.KSsdOut.defs (F := Bits) = Cert.KSsdOutIdeal.defs (F := Bits) := congrArg (Pipeline.defs Cert.KSsdOutIdeal.pcfgs) defs₀_KSsdOut

set_option maxHeartbeats 2000000 in
set_option backward.isDefEq.respectTransparency.types false in
theorem main_KSsdOut (c) : Cert.KSsdOut.main (F := Bits) c = Cert.KSsdOutIdeal.main (F := Bits) c := by
  with_unfolding_all rfl

theorem frame_KSsdOut : Cert.quiescent_KSsdOut := fun m ρ _ =>
  run_of_eq defs_KSsdOut (congrArg onTc (funext main_KSsdOut)) (Cert.KSsdOutIdeal.Gen.frame (F := Bits) m ρ)

theorem frame_KSsdOutIdeal : Cert.quiescent_KSsdOutIdeal := fun m ρ _ => Cert.KSsdOutIdeal.Gen.frame m ρ

theorem frame_RSsdOutIdeal : Cert.quiescent_RSsdOutIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RSsdOutIdeal.Value.run m ρ)

theorem algebraic_SsdOut : Cert.algebraic_KSsdOutIdeal_RSsdOutIdeal := by
  intro m ρ m' ρ' _ hargs
  refine ⟨fun c => Cert.KSsdOutIdeal.Hand.prod (m ((c.tc : Thread Cert.KSsdOutIdeal.nD Cert.KSsdOutIdeal.τ).loc Cert.KSsdOutIdeal.main_arg0)) (m ((c.tc : Thread Cert.KSsdOutIdeal.nD Cert.KSsdOutIdeal.τ).loc Cert.KSsdOutIdeal.main_arg1)), ?_, ?_⟩
  · refine (θ_run _ _ _).mono (fun r h c => ?_) (Cert.KSsdOutIdeal.Value.run_blocks m ρ)
    obtain ⟨h0, hu⟩ := h c
    exact ⟨h0.trans ((Cert.KSsdOutIdeal.Hand.arr m c).trans (by rw [Cert.KSsdOutIdeal.Hand.V_x m c, Cert.KSsdOutIdeal.Hand.V_w m c])), hu⟩
  · refine (θ_run _ _ _).mono (fun r h c => ?_) (Cert.RSsdOutIdeal.Value.run m' ρ')
    obtain ⟨a0, a1⟩ := hargs c
    obtain ⟨h0, hu⟩ := h c
    exact ⟨h0.trans ((Cert.RSsdOutIdeal.Read.val_main_v0_eq _ _).trans ((Cert.KSsdOutIdeal.Hand.ref _ _).trans (by rw [a0, a1]))), hu⟩

/-! ## SsdOutDx -/

set_option maxHeartbeats 2000000 in
set_option backward.isDefEq.respectTransparency.types false in
theorem defs₀_KSsdOutDx : Cert.KSsdOutDx.defs₀ (F := Bits) = Cert.KSsdOutDxIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KSsdOutDx : Cert.KSsdOutDx.defs (F := Bits) = Cert.KSsdOutDxIdeal.defs (F := Bits) := congrArg (Pipeline.defs Cert.KSsdOutDxIdeal.pcfgs) defs₀_KSsdOutDx

set_option maxHeartbeats 2000000 in
set_option backward.isDefEq.respectTransparency.types false in
theorem main_KSsdOutDx (c) : Cert.KSsdOutDx.main (F := Bits) c = Cert.KSsdOutDxIdeal.main (F := Bits) c := by
  with_unfolding_all rfl

theorem frame_KSsdOutDx : Cert.quiescent_KSsdOutDx := fun m ρ _ =>
  run_of_eq defs_KSsdOutDx (congrArg onTc (funext main_KSsdOutDx)) (Cert.KSsdOutDxIdeal.Gen.frame (F := Bits) m ρ)

theorem frame_KSsdOutDxIdeal : Cert.quiescent_KSsdOutDxIdeal := fun m ρ _ => Cert.KSsdOutDxIdeal.Gen.frame m ρ

theorem frame_RSsdOutDxIdeal : Cert.quiescent_RSsdOutDxIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RSsdOutDxIdeal.Value.run m ρ)

theorem algebraic_SsdOutDx : Cert.algebraic_KSsdOutDxIdeal_RSsdOutDxIdeal := by
  intro m ρ m' ρ' _ hargs
  refine ⟨fun c => Cert.KSsdOutDxIdeal.Hand.prod (m ((c.tc : Thread Cert.KSsdOutDxIdeal.nD Cert.KSsdOutDxIdeal.τ).loc Cert.KSsdOutDxIdeal.main_arg1)) (m ((c.tc : Thread Cert.KSsdOutDxIdeal.nD Cert.KSsdOutDxIdeal.τ).loc Cert.KSsdOutDxIdeal.main_arg0)), ?_, ?_⟩
  · refine (θ_run _ _ _).mono (fun r h c => ?_) (Cert.KSsdOutDxIdeal.Value.run_blocks m ρ)
    obtain ⟨h0, hu⟩ := h c
    exact ⟨h0.trans ((Cert.KSsdOutDxIdeal.Hand.arr m c).trans (by rw [Cert.KSsdOutDxIdeal.Hand.V_x m c, Cert.KSsdOutDxIdeal.Hand.V_w m c])), hu⟩
  · refine (θ_run _ _ _).mono (fun r h c => ?_) (Cert.RSsdOutDxIdeal.Value.run m' ρ')
    obtain ⟨a0, a1⟩ := hargs c
    obtain ⟨h0, hu⟩ := h c
    exact ⟨h0.trans ((Cert.RSsdOutDxIdeal.Read.val_main_v2_eq _ _).trans ((Cert.KSsdOutDxIdeal.Hand.ref _ _).trans (by rw [a0, a1]))), hu⟩

/-! ## SsdOutDw -/

set_option maxHeartbeats 2000000 in
set_option backward.isDefEq.respectTransparency.types false in
theorem defs₀_KSsdOutDw : Cert.KSsdOutDw.defs₀ (F := Bits) = Cert.KSsdOutDwIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KSsdOutDw : Cert.KSsdOutDw.defs (F := Bits) = Cert.KSsdOutDwIdeal.defs (F := Bits) := congrArg (Pipeline.defs Cert.KSsdOutDwIdeal.pcfgs) defs₀_KSsdOutDw

set_option maxHeartbeats 2000000 in
set_option backward.isDefEq.respectTransparency.types false in
theorem main_KSsdOutDw (c) : Cert.KSsdOutDw.main (F := Bits) c = Cert.KSsdOutDwIdeal.main (F := Bits) c := by
  with_unfolding_all rfl

theorem frame_KSsdOutDw : Cert.quiescent_KSsdOutDw := fun m ρ _ =>
  run_of_eq defs_KSsdOutDw (congrArg onTc (funext main_KSsdOutDw)) (Cert.KSsdOutDwIdeal.Gen.frame (F := Bits) m ρ)

theorem frame_KSsdOutDwIdeal : Cert.quiescent_KSsdOutDwIdeal := fun m ρ _ => Cert.KSsdOutDwIdeal.Gen.frame m ρ

theorem frame_RSsdOutDwIdeal : Cert.quiescent_RSsdOutDwIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RSsdOutDwIdeal.Value.run m ρ)

theorem algebraic_SsdOutDw : Cert.algebraic_KSsdOutDwIdeal_RSsdOutDwIdeal := by
  intro m ρ m' ρ' _ hargs
  refine ⟨fun c => Cert.KSsdOutDwIdeal.Hand.prod (m ((c.tc : Thread Cert.KSsdOutDwIdeal.nD Cert.KSsdOutDwIdeal.τ).loc Cert.KSsdOutDwIdeal.main_arg0)) (m ((c.tc : Thread Cert.KSsdOutDwIdeal.nD Cert.KSsdOutDwIdeal.τ).loc Cert.KSsdOutDwIdeal.main_arg1)), ?_, ?_⟩
  · refine (θ_run _ _ _).mono (fun r h c => ?_) (Cert.KSsdOutDwIdeal.Value.run_blocks m ρ)
    obtain ⟨h0, hu⟩ := h c
    exact ⟨h0.trans ((Cert.KSsdOutDwIdeal.Hand.arr m c).trans (by rw [Cert.KSsdOutDwIdeal.Hand.V_x m c, Cert.KSsdOutDwIdeal.Hand.V_w m c])), hu⟩
  · refine (θ_run _ _ _).mono (fun r h c => ?_) (Cert.RSsdOutDwIdeal.Value.run m' ρ')
    obtain ⟨a0, a1⟩ := hargs c
    obtain ⟨h0, hu⟩ := h c
    exact ⟨h0.trans ((Cert.RSsdOutDwIdeal.Read.val_main_v3_eq _ _).trans ((Cert.KSsdOutDwIdeal.Hand.ref _ _).trans (by rw [a0, a1]))), hu⟩

/-! ## Uq -/

set_option maxHeartbeats 2000000 in
set_option backward.isDefEq.respectTransparency.types false in
theorem defs₀_KUq : Cert.KUq.defs₀ (F := Bits) = Cert.KUqIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KUq : Cert.KUq.defs (F := Bits) = Cert.KUqIdeal.defs (F := Bits) := congrArg (Pipeline.defs Cert.KUqIdeal.pcfgs) defs₀_KUq

set_option maxHeartbeats 2000000 in
set_option backward.isDefEq.respectTransparency.types false in
theorem main_KUq (c) : Cert.KUq.main (F := Bits) c = Cert.KUqIdeal.main (F := Bits) c := by
  with_unfolding_all rfl

theorem frame_KUq : Cert.quiescent_KUq := fun m ρ _ =>
  run_of_eq defs_KUq (congrArg onTc (funext main_KUq)) (Cert.KUqIdeal.Gen.frame (F := Bits) m ρ)

theorem frame_KUqIdeal : Cert.quiescent_KUqIdeal := fun m ρ _ => Cert.KUqIdeal.Gen.frame m ρ

theorem frame_RUqIdeal : Cert.quiescent_RUqIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RUqIdeal.Value.run m ρ)

theorem algebraic_Uq : Cert.algebraic_KUqIdeal_RUqIdeal := by
  intro m ρ m' ρ' _ hargs
  refine ⟨fun c => Cert.KUqIdeal.Hand.prod (m ((c.tc : Thread Cert.KUqIdeal.nD Cert.KUqIdeal.τ).loc Cert.KUqIdeal.main_arg0)) (m ((c.tc : Thread Cert.KUqIdeal.nD Cert.KUqIdeal.τ).loc Cert.KUqIdeal.main_arg1)), ?_, ?_⟩
  · refine (θ_run _ _ _).mono (fun r h c => ?_) (Cert.KUqIdeal.Value.run_blocks m ρ)
    obtain ⟨h0, hu⟩ := h c
    exact ⟨h0.trans ((Cert.KUqIdeal.Hand.arr m c).trans (by rw [Cert.KUqIdeal.Hand.V_x m c, Cert.KUqIdeal.Hand.V_w m c])), hu⟩
  · refine (θ_run _ _ _).mono (fun r h c => ?_) (Cert.RUqIdeal.Value.run m' ρ')
    obtain ⟨a0, a1⟩ := hargs c
    obtain ⟨h0, hu⟩ := h c
    exact ⟨h0.trans ((Cert.RUqIdeal.Read.val_main_v0_eq _ _).trans ((Cert.KUqIdeal.Hand.ref _ _).trans (by rw [a0, a1]))), hu⟩

/-! ## UqDx -/

set_option maxHeartbeats 2000000 in
set_option backward.isDefEq.respectTransparency.types false in
theorem defs₀_KUqDx : Cert.KUqDx.defs₀ (F := Bits) = Cert.KUqDxIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KUqDx : Cert.KUqDx.defs (F := Bits) = Cert.KUqDxIdeal.defs (F := Bits) := congrArg (Pipeline.defs Cert.KUqDxIdeal.pcfgs) defs₀_KUqDx

set_option maxHeartbeats 2000000 in
set_option backward.isDefEq.respectTransparency.types false in
theorem main_KUqDx (c) : Cert.KUqDx.main (F := Bits) c = Cert.KUqDxIdeal.main (F := Bits) c := by
  with_unfolding_all rfl

theorem frame_KUqDx : Cert.quiescent_KUqDx := fun m ρ _ =>
  run_of_eq defs_KUqDx (congrArg onTc (funext main_KUqDx)) (Cert.KUqDxIdeal.Gen.frame (F := Bits) m ρ)

theorem frame_KUqDxIdeal : Cert.quiescent_KUqDxIdeal := fun m ρ _ => Cert.KUqDxIdeal.Gen.frame m ρ

theorem frame_RUqDxIdeal : Cert.quiescent_RUqDxIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RUqDxIdeal.Value.run m ρ)

theorem algebraic_UqDx : Cert.algebraic_KUqDxIdeal_RUqDxIdeal := by
  intro m ρ m' ρ' _ hargs
  refine ⟨fun c => Cert.KUqDxIdeal.Hand.prod (m ((c.tc : Thread Cert.KUqDxIdeal.nD Cert.KUqDxIdeal.τ).loc Cert.KUqDxIdeal.main_arg1)) (m ((c.tc : Thread Cert.KUqDxIdeal.nD Cert.KUqDxIdeal.τ).loc Cert.KUqDxIdeal.main_arg0)), ?_, ?_⟩
  · refine (θ_run _ _ _).mono (fun r h c => ?_) (Cert.KUqDxIdeal.Value.run_blocks m ρ)
    obtain ⟨h0, hu⟩ := h c
    exact ⟨h0.trans ((Cert.KUqDxIdeal.Hand.arr m c).trans (by rw [Cert.KUqDxIdeal.Hand.V_x m c, Cert.KUqDxIdeal.Hand.V_w m c])), hu⟩
  · refine (θ_run _ _ _).mono (fun r h c => ?_) (Cert.RUqDxIdeal.Value.run m' ρ')
    obtain ⟨a0, a1⟩ := hargs c
    obtain ⟨h0, hu⟩ := h c
    exact ⟨h0.trans ((Cert.RUqDxIdeal.Read.val_main_v2_eq _ _).trans ((Cert.KUqDxIdeal.Hand.ref _ _).trans (by rw [a0, a1]))), hu⟩

/-! ## UqDw -/

set_option maxHeartbeats 2000000 in
set_option backward.isDefEq.respectTransparency.types false in
theorem defs₀_KUqDw : Cert.KUqDw.defs₀ (F := Bits) = Cert.KUqDwIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KUqDw : Cert.KUqDw.defs (F := Bits) = Cert.KUqDwIdeal.defs (F := Bits) := congrArg (Pipeline.defs Cert.KUqDwIdeal.pcfgs) defs₀_KUqDw

set_option maxHeartbeats 2000000 in
set_option backward.isDefEq.respectTransparency.types false in
theorem main_KUqDw (c) : Cert.KUqDw.main (F := Bits) c = Cert.KUqDwIdeal.main (F := Bits) c := by
  with_unfolding_all rfl

theorem frame_KUqDw : Cert.quiescent_KUqDw := fun m ρ _ =>
  run_of_eq defs_KUqDw (congrArg onTc (funext main_KUqDw)) (Cert.KUqDwIdeal.Gen.frame (F := Bits) m ρ)

theorem frame_KUqDwIdeal : Cert.quiescent_KUqDwIdeal := fun m ρ _ => Cert.KUqDwIdeal.Gen.frame m ρ

theorem frame_RUqDwIdeal : Cert.quiescent_RUqDwIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RUqDwIdeal.Value.run m ρ)

theorem algebraic_UqDw : Cert.algebraic_KUqDwIdeal_RUqDwIdeal := by
  intro m ρ m' ρ' _ hargs
  refine ⟨fun c => Cert.KUqDwIdeal.Hand.prod (m ((c.tc : Thread Cert.KUqDwIdeal.nD Cert.KUqDwIdeal.τ).loc Cert.KUqDwIdeal.main_arg0)) (m ((c.tc : Thread Cert.KUqDwIdeal.nD Cert.KUqDwIdeal.τ).loc Cert.KUqDwIdeal.main_arg1)), ?_, ?_⟩
  · refine (θ_run _ _ _).mono (fun r h c => ?_) (Cert.KUqDwIdeal.Value.run_blocks m ρ)
    obtain ⟨h0, hu⟩ := h c
    exact ⟨h0.trans ((Cert.KUqDwIdeal.Hand.arr m c).trans (by rw [Cert.KUqDwIdeal.Hand.V_x m c, Cert.KUqDwIdeal.Hand.V_w m c])), hu⟩
  · refine (θ_run _ _ _).mono (fun r h c => ?_) (Cert.RUqDwIdeal.Value.run m' ρ')
    obtain ⟨a0, a1⟩ := hargs c
    obtain ⟨h0, hu⟩ := h c
    exact ⟨h0.trans ((Cert.RUqDwIdeal.Read.val_main_v3_eq _ _).trans ((Cert.KUqDwIdeal.Hand.ref _ _).trans (by rw [a0, a1]))), hu⟩

/-! ## Ukv -/

set_option maxHeartbeats 2000000 in
set_option backward.isDefEq.respectTransparency.types false in
theorem defs₀_KUkv : Cert.KUkv.defs₀ (F := Bits) = Cert.KUkvIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KUkv : Cert.KUkv.defs (F := Bits) = Cert.KUkvIdeal.defs (F := Bits) := congrArg (Pipeline.defs Cert.KUkvIdeal.pcfgs) defs₀_KUkv

set_option maxHeartbeats 2000000 in
set_option backward.isDefEq.respectTransparency.types false in
theorem main_KUkv (c) : Cert.KUkv.main (F := Bits) c = Cert.KUkvIdeal.main (F := Bits) c := by
  with_unfolding_all rfl

theorem frame_KUkv : Cert.quiescent_KUkv := fun m ρ _ =>
  run_of_eq defs_KUkv (congrArg onTc (funext main_KUkv)) (Cert.KUkvIdeal.Gen.frame (F := Bits) m ρ)

theorem frame_KUkvIdeal : Cert.quiescent_KUkvIdeal := fun m ρ _ => Cert.KUkvIdeal.Gen.frame m ρ

theorem frame_RUkvIdeal : Cert.quiescent_RUkvIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RUkvIdeal.Value.run m ρ)

theorem algebraic_Ukv : Cert.algebraic_KUkvIdeal_RUkvIdeal := by
  intro m ρ m' ρ' _ hargs
  refine ⟨fun c => Cert.KUkvIdeal.Hand.prod (m ((c.tc : Thread Cert.KUkvIdeal.nD Cert.KUkvIdeal.τ).loc Cert.KUkvIdeal.main_arg0)) (m ((c.tc : Thread Cert.KUkvIdeal.nD Cert.KUkvIdeal.τ).loc Cert.KUkvIdeal.main_arg1)), ?_, ?_⟩
  · refine (θ_run _ _ _).mono (fun r h c => ?_) (Cert.KUkvIdeal.Value.run_blocks m ρ)
    obtain ⟨h0, hu⟩ := h c
    exact ⟨h0.trans ((Cert.KUkvIdeal.Hand.arr m c).trans (by rw [Cert.KUkvIdeal.Hand.V_x m c, Cert.KUkvIdeal.Hand.V_w m c])), hu⟩
  · refine (θ_run _ _ _).mono (fun r h c => ?_) (Cert.RUkvIdeal.Value.run m' ρ')
    obtain ⟨a0, a1⟩ := hargs c
    obtain ⟨h0, hu⟩ := h c
    exact ⟨h0.trans ((Cert.RUkvIdeal.Read.val_main_v0_eq _ _).trans ((Cert.KUkvIdeal.Hand.ref _ _).trans (by rw [a0, a1]))), hu⟩

/-! ## UkvDx -/

set_option maxHeartbeats 2000000 in
set_option backward.isDefEq.respectTransparency.types false in
theorem defs₀_KUkvDx : Cert.KUkvDx.defs₀ (F := Bits) = Cert.KUkvDxIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KUkvDx : Cert.KUkvDx.defs (F := Bits) = Cert.KUkvDxIdeal.defs (F := Bits) := congrArg (Pipeline.defs Cert.KUkvDxIdeal.pcfgs) defs₀_KUkvDx

set_option maxHeartbeats 2000000 in
set_option backward.isDefEq.respectTransparency.types false in
theorem main_KUkvDx (c) : Cert.KUkvDx.main (F := Bits) c = Cert.KUkvDxIdeal.main (F := Bits) c := by
  with_unfolding_all rfl

theorem frame_KUkvDx : Cert.quiescent_KUkvDx := fun m ρ _ =>
  run_of_eq defs_KUkvDx (congrArg onTc (funext main_KUkvDx)) (Cert.KUkvDxIdeal.Gen.frame (F := Bits) m ρ)

theorem frame_KUkvDxIdeal : Cert.quiescent_KUkvDxIdeal := fun m ρ _ => Cert.KUkvDxIdeal.Gen.frame m ρ

theorem frame_RUkvDxIdeal : Cert.quiescent_RUkvDxIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RUkvDxIdeal.Value.run m ρ)

theorem algebraic_UkvDx : Cert.algebraic_KUkvDxIdeal_RUkvDxIdeal := by
  intro m ρ m' ρ' _ hargs
  refine ⟨fun c => Cert.KUkvDxIdeal.Hand.prod (m ((c.tc : Thread Cert.KUkvDxIdeal.nD Cert.KUkvDxIdeal.τ).loc Cert.KUkvDxIdeal.main_arg1)) (m ((c.tc : Thread Cert.KUkvDxIdeal.nD Cert.KUkvDxIdeal.τ).loc Cert.KUkvDxIdeal.main_arg0)), ?_, ?_⟩
  · refine (θ_run _ _ _).mono (fun r h c => ?_) (Cert.KUkvDxIdeal.Value.run_blocks m ρ)
    obtain ⟨h0, hu⟩ := h c
    exact ⟨h0.trans ((Cert.KUkvDxIdeal.Hand.arr m c).trans (by rw [Cert.KUkvDxIdeal.Hand.V_x m c, Cert.KUkvDxIdeal.Hand.V_w m c])), hu⟩
  · refine (θ_run _ _ _).mono (fun r h c => ?_) (Cert.RUkvDxIdeal.Value.run m' ρ')
    obtain ⟨a0, a1⟩ := hargs c
    obtain ⟨h0, hu⟩ := h c
    exact ⟨h0.trans ((Cert.RUkvDxIdeal.Read.val_main_v2_eq _ _).trans ((Cert.KUkvDxIdeal.Hand.ref _ _).trans (by rw [a0, a1]))), hu⟩

/-! ## UkvDw -/

set_option maxHeartbeats 2000000 in
set_option backward.isDefEq.respectTransparency.types false in
theorem defs₀_KUkvDw : Cert.KUkvDw.defs₀ (F := Bits) = Cert.KUkvDwIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KUkvDw : Cert.KUkvDw.defs (F := Bits) = Cert.KUkvDwIdeal.defs (F := Bits) := congrArg (Pipeline.defs Cert.KUkvDwIdeal.pcfgs) defs₀_KUkvDw

set_option maxHeartbeats 2000000 in
set_option backward.isDefEq.respectTransparency.types false in
theorem main_KUkvDw (c) : Cert.KUkvDw.main (F := Bits) c = Cert.KUkvDwIdeal.main (F := Bits) c := by
  with_unfolding_all rfl

theorem frame_KUkvDw : Cert.quiescent_KUkvDw := fun m ρ _ =>
  run_of_eq defs_KUkvDw (congrArg onTc (funext main_KUkvDw)) (Cert.KUkvDwIdeal.Gen.frame (F := Bits) m ρ)

theorem frame_KUkvDwIdeal : Cert.quiescent_KUkvDwIdeal := fun m ρ _ => Cert.KUkvDwIdeal.Gen.frame m ρ

theorem frame_RUkvDwIdeal : Cert.quiescent_RUkvDwIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RUkvDwIdeal.Value.run m ρ)

theorem algebraic_UkvDw : Cert.algebraic_KUkvDwIdeal_RUkvDwIdeal := by
  intro m ρ m' ρ' _ hargs
  refine ⟨fun c => Cert.KUkvDwIdeal.Hand.prod (m ((c.tc : Thread Cert.KUkvDwIdeal.nD Cert.KUkvDwIdeal.τ).loc Cert.KUkvDwIdeal.main_arg0)) (m ((c.tc : Thread Cert.KUkvDwIdeal.nD Cert.KUkvDwIdeal.τ).loc Cert.KUkvDwIdeal.main_arg1)), ?_, ?_⟩
  · refine (θ_run _ _ _).mono (fun r h c => ?_) (Cert.KUkvDwIdeal.Value.run_blocks m ρ)
    obtain ⟨h0, hu⟩ := h c
    exact ⟨h0.trans ((Cert.KUkvDwIdeal.Hand.arr m c).trans (by rw [Cert.KUkvDwIdeal.Hand.V_x m c, Cert.KUkvDwIdeal.Hand.V_w m c])), hu⟩
  · refine (θ_run _ _ _).mono (fun r h c => ?_) (Cert.RUkvDwIdeal.Value.run m' ρ')
    obtain ⟨a0, a1⟩ := hargs c
    obtain ⟨h0, hu⟩ := h c
    exact ⟨h0.trans ((Cert.RUkvDwIdeal.Read.val_main_v3_eq _ _).trans ((Cert.KUkvDwIdeal.Hand.ref _ _).trans (by rw [a0, a1]))), hu⟩

/-! ## MlaOut -/

set_option maxHeartbeats 2000000 in
set_option backward.isDefEq.respectTransparency.types false in
theorem defs₀_KMlaOut : Cert.KMlaOut.defs₀ (F := Bits) = Cert.KMlaOutIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KMlaOut : Cert.KMlaOut.defs (F := Bits) = Cert.KMlaOutIdeal.defs (F := Bits) := congrArg (Pipeline.defs Cert.KMlaOutIdeal.pcfgs) defs₀_KMlaOut

set_option maxHeartbeats 2000000 in
set_option backward.isDefEq.respectTransparency.types false in
theorem main_KMlaOut (c) : Cert.KMlaOut.main (F := Bits) c = Cert.KMlaOutIdeal.main (F := Bits) c := by
  with_unfolding_all rfl

theorem frame_KMlaOut : Cert.quiescent_KMlaOut := fun m ρ _ =>
  run_of_eq defs_KMlaOut (congrArg onTc (funext main_KMlaOut)) (Cert.KMlaOutIdeal.Gen.frame (F := Bits) m ρ)

theorem frame_KMlaOutIdeal : Cert.quiescent_KMlaOutIdeal := fun m ρ _ => Cert.KMlaOutIdeal.Gen.frame m ρ

theorem frame_RMlaOutIdeal : Cert.quiescent_RMlaOutIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RMlaOutIdeal.Value.run m ρ)

theorem algebraic_MlaOut : Cert.algebraic_KMlaOutIdeal_RMlaOutIdeal := by
  intro m ρ m' ρ' _ hargs
  refine ⟨fun c => Cert.KMlaOutIdeal.Hand.prod (m ((c.tc : Thread Cert.KMlaOutIdeal.nD Cert.KMlaOutIdeal.τ).loc Cert.KMlaOutIdeal.main_arg0)) (m ((c.tc : Thread Cert.KMlaOutIdeal.nD Cert.KMlaOutIdeal.τ).loc Cert.KMlaOutIdeal.main_arg1)), ?_, ?_⟩
  · refine (θ_run _ _ _).mono (fun r h c => ?_) (Cert.KMlaOutIdeal.Value.run_blocks m ρ)
    obtain ⟨h0, hu⟩ := h c
    exact ⟨h0.trans ((Cert.KMlaOutIdeal.Hand.arr m c).trans (by rw [Cert.KMlaOutIdeal.Hand.V_x m c, Cert.KMlaOutIdeal.Hand.V_w m c])), hu⟩
  · refine (θ_run _ _ _).mono (fun r h c => ?_) (Cert.RMlaOutIdeal.Value.run m' ρ')
    obtain ⟨a0, a1⟩ := hargs c
    obtain ⟨h0, hu⟩ := h c
    exact ⟨h0.trans ((Cert.RMlaOutIdeal.Read.val_main_v0_eq _ _).trans ((Cert.KMlaOutIdeal.Hand.ref _ _).trans (by rw [a0, a1]))), hu⟩

/-! ## MlaOutDx -/

set_option maxHeartbeats 2000000 in
set_option backward.isDefEq.respectTransparency.types false in
theorem defs₀_KMlaOutDx : Cert.KMlaOutDx.defs₀ (F := Bits) = Cert.KMlaOutDxIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KMlaOutDx : Cert.KMlaOutDx.defs (F := Bits) = Cert.KMlaOutDxIdeal.defs (F := Bits) := congrArg (Pipeline.defs Cert.KMlaOutDxIdeal.pcfgs) defs₀_KMlaOutDx

set_option maxHeartbeats 2000000 in
set_option backward.isDefEq.respectTransparency.types false in
theorem main_KMlaOutDx (c) : Cert.KMlaOutDx.main (F := Bits) c = Cert.KMlaOutDxIdeal.main (F := Bits) c := by
  with_unfolding_all rfl

theorem frame_KMlaOutDx : Cert.quiescent_KMlaOutDx := fun m ρ _ =>
  run_of_eq defs_KMlaOutDx (congrArg onTc (funext main_KMlaOutDx)) (Cert.KMlaOutDxIdeal.Gen.frame (F := Bits) m ρ)

theorem frame_KMlaOutDxIdeal : Cert.quiescent_KMlaOutDxIdeal := fun m ρ _ => Cert.KMlaOutDxIdeal.Gen.frame m ρ

theorem frame_RMlaOutDxIdeal : Cert.quiescent_RMlaOutDxIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RMlaOutDxIdeal.Value.run m ρ)

theorem algebraic_MlaOutDx : Cert.algebraic_KMlaOutDxIdeal_RMlaOutDxIdeal := by
  intro m ρ m' ρ' _ hargs
  refine ⟨fun c => Cert.KMlaOutDxIdeal.Hand.prod (m ((c.tc : Thread Cert.KMlaOutDxIdeal.nD Cert.KMlaOutDxIdeal.τ).loc Cert.KMlaOutDxIdeal.main_arg1)) (m ((c.tc : Thread Cert.KMlaOutDxIdeal.nD Cert.KMlaOutDxIdeal.τ).loc Cert.KMlaOutDxIdeal.main_arg0)), ?_, ?_⟩
  · refine (θ_run _ _ _).mono (fun r h c => ?_) (Cert.KMlaOutDxIdeal.Value.run_blocks m ρ)
    obtain ⟨h0, hu⟩ := h c
    exact ⟨h0.trans ((Cert.KMlaOutDxIdeal.Hand.arr m c).trans (by rw [Cert.KMlaOutDxIdeal.Hand.V_x m c, Cert.KMlaOutDxIdeal.Hand.V_w m c])), hu⟩
  · refine (θ_run _ _ _).mono (fun r h c => ?_) (Cert.RMlaOutDxIdeal.Value.run m' ρ')
    obtain ⟨a0, a1⟩ := hargs c
    obtain ⟨h0, hu⟩ := h c
    exact ⟨h0.trans ((Cert.RMlaOutDxIdeal.Read.val_main_v2_eq _ _).trans ((Cert.KMlaOutDxIdeal.Hand.ref _ _).trans (by rw [a0, a1]))), hu⟩

/-! ## MlaOutDw -/

set_option maxHeartbeats 2000000 in
set_option backward.isDefEq.respectTransparency.types false in
theorem defs₀_KMlaOutDw : Cert.KMlaOutDw.defs₀ (F := Bits) = Cert.KMlaOutDwIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KMlaOutDw : Cert.KMlaOutDw.defs (F := Bits) = Cert.KMlaOutDwIdeal.defs (F := Bits) := congrArg (Pipeline.defs Cert.KMlaOutDwIdeal.pcfgs) defs₀_KMlaOutDw

set_option maxHeartbeats 2000000 in
set_option backward.isDefEq.respectTransparency.types false in
theorem main_KMlaOutDw (c) : Cert.KMlaOutDw.main (F := Bits) c = Cert.KMlaOutDwIdeal.main (F := Bits) c := by
  with_unfolding_all rfl

theorem frame_KMlaOutDw : Cert.quiescent_KMlaOutDw := fun m ρ _ =>
  run_of_eq defs_KMlaOutDw (congrArg onTc (funext main_KMlaOutDw)) (Cert.KMlaOutDwIdeal.Gen.frame (F := Bits) m ρ)

theorem frame_KMlaOutDwIdeal : Cert.quiescent_KMlaOutDwIdeal := fun m ρ _ => Cert.KMlaOutDwIdeal.Gen.frame m ρ

theorem frame_RMlaOutDwIdeal : Cert.quiescent_RMlaOutDwIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RMlaOutDwIdeal.Value.run m ρ)

theorem algebraic_MlaOutDw : Cert.algebraic_KMlaOutDwIdeal_RMlaOutDwIdeal := by
  intro m ρ m' ρ' _ hargs
  refine ⟨fun c => Cert.KMlaOutDwIdeal.Hand.prod (m ((c.tc : Thread Cert.KMlaOutDwIdeal.nD Cert.KMlaOutDwIdeal.τ).loc Cert.KMlaOutDwIdeal.main_arg0)) (m ((c.tc : Thread Cert.KMlaOutDwIdeal.nD Cert.KMlaOutDwIdeal.τ).loc Cert.KMlaOutDwIdeal.main_arg1)), ?_, ?_⟩
  · refine (θ_run _ _ _).mono (fun r h c => ?_) (Cert.KMlaOutDwIdeal.Value.run_blocks m ρ)
    obtain ⟨h0, hu⟩ := h c
    exact ⟨h0.trans ((Cert.KMlaOutDwIdeal.Hand.arr m c).trans (by rw [Cert.KMlaOutDwIdeal.Hand.V_x m c, Cert.KMlaOutDwIdeal.Hand.V_w m c])), hu⟩
  · refine (θ_run _ _ _).mono (fun r h c => ?_) (Cert.RMlaOutDwIdeal.Value.run m' ρ')
    obtain ⟨a0, a1⟩ := hargs c
    obtain ⟨h0, hu⟩ := h c
    exact ⟨h0.trans ((Cert.RMlaOutDwIdeal.Read.val_main_v3_eq _ _).trans ((Cert.KMlaOutDwIdeal.Hand.ref _ _).trans (by rw [a0, a1]))), hu⟩

/-! ## Out -/

set_option maxHeartbeats 2000000 in
set_option backward.isDefEq.respectTransparency.types false in
theorem defs₀_KOut : Cert.KOut.defs₀ (F := Bits) = Cert.KOutIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KOut : Cert.KOut.defs (F := Bits) = Cert.KOutIdeal.defs (F := Bits) := congrArg (Pipeline.defs Cert.KOutIdeal.pcfgs) defs₀_KOut

set_option maxHeartbeats 2000000 in
set_option backward.isDefEq.respectTransparency.types false in
theorem main_KOut (c) : Cert.KOut.main (F := Bits) c = Cert.KOutIdeal.main (F := Bits) c := by
  with_unfolding_all rfl

theorem frame_KOut : Cert.quiescent_KOut := fun m ρ _ =>
  run_of_eq defs_KOut (congrArg onTc (funext main_KOut)) (Cert.KOutIdeal.Gen.frame (F := Bits) m ρ)

theorem frame_KOutIdeal : Cert.quiescent_KOutIdeal := fun m ρ _ => Cert.KOutIdeal.Gen.frame m ρ

theorem frame_ROutIdeal : Cert.quiescent_ROutIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.ROutIdeal.Value.run m ρ)

theorem algebraic_Out : Cert.algebraic_KOutIdeal_ROutIdeal := by
  intro m ρ m' ρ' _ hargs
  refine ⟨fun c => Cert.KOutIdeal.Hand.prod (m ((c.tc : Thread Cert.KOutIdeal.nD Cert.KOutIdeal.τ).loc Cert.KOutIdeal.main_arg0)) (m ((c.tc : Thread Cert.KOutIdeal.nD Cert.KOutIdeal.τ).loc Cert.KOutIdeal.main_arg1)) (m ((c.tc : Thread Cert.KOutIdeal.nD Cert.KOutIdeal.τ).loc Cert.KOutIdeal.main_arg2)), ?_, ?_⟩
  · refine (θ_run _ _ _).mono (fun r h c => ?_) (Cert.KOutIdeal.Value.run_blocks m ρ)
    obtain ⟨h0, hu⟩ := h c
    exact ⟨h0.trans ((Cert.KOutIdeal.Hand.arr m c).trans (by rw [Cert.KOutIdeal.Gen.V_main_arg0 m c, Cert.KOutIdeal.Hand.V_x m c, Cert.KOutIdeal.Hand.V_w m c])), hu⟩
  · refine (θ_run _ _ _).mono (fun r h c => ?_) (Cert.ROutIdeal.Value.run m' ρ')
    obtain ⟨a0, a1, a2⟩ := hargs c
    obtain ⟨h0, hu⟩ := h c
    exact ⟨h0.trans ((Cert.ROutIdeal.Read.val_main_v1_eq _ _ _).trans ((Cert.KOutIdeal.Hand.ref _ _ _).trans (by rw [a0, a1, a2]))), hu⟩

/-! ## OutDx -/

set_option maxHeartbeats 2000000 in
set_option backward.isDefEq.respectTransparency.types false in
theorem defs₀_KOutDx : Cert.KOutDx.defs₀ (F := Bits) = Cert.KOutDxIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KOutDx : Cert.KOutDx.defs (F := Bits) = Cert.KOutDxIdeal.defs (F := Bits) := congrArg (Pipeline.defs Cert.KOutDxIdeal.pcfgs) defs₀_KOutDx

set_option maxHeartbeats 2000000 in
set_option backward.isDefEq.respectTransparency.types false in
theorem main_KOutDx (c) : Cert.KOutDx.main (F := Bits) c = Cert.KOutDxIdeal.main (F := Bits) c := by
  with_unfolding_all rfl

theorem frame_KOutDx : Cert.quiescent_KOutDx := fun m ρ _ =>
  run_of_eq defs_KOutDx (congrArg onTc (funext main_KOutDx)) (Cert.KOutDxIdeal.Gen.frame (F := Bits) m ρ)

theorem frame_KOutDxIdeal : Cert.quiescent_KOutDxIdeal := fun m ρ _ => Cert.KOutDxIdeal.Gen.frame m ρ

theorem frame_ROutDxIdeal : Cert.quiescent_ROutDxIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.ROutDxIdeal.Value.run m ρ)

theorem algebraic_OutDx : Cert.algebraic_KOutDxIdeal_ROutDxIdeal := by
  intro m ρ m' ρ' _ hargs
  refine ⟨fun c => Cert.KOutDxIdeal.Hand.prod (m ((c.tc : Thread Cert.KOutDxIdeal.nD Cert.KOutDxIdeal.τ).loc Cert.KOutDxIdeal.main_arg1)) (m ((c.tc : Thread Cert.KOutDxIdeal.nD Cert.KOutDxIdeal.τ).loc Cert.KOutDxIdeal.main_arg0)), ?_, ?_⟩
  · refine (θ_run _ _ _).mono (fun r h c => ?_) (Cert.KOutDxIdeal.Value.run_blocks m ρ)
    obtain ⟨h0, hu⟩ := h c
    exact ⟨h0.trans ((Cert.KOutDxIdeal.Hand.arr m c).trans (by rw [Cert.KOutDxIdeal.Hand.V_x m c, Cert.KOutDxIdeal.Hand.V_w m c])), hu⟩
  · refine (θ_run _ _ _).mono (fun r h c => ?_) (Cert.ROutDxIdeal.Value.run m' ρ')
    obtain ⟨a0, a1⟩ := hargs c
    obtain ⟨h0, hu⟩ := h c
    exact ⟨h0.trans ((Cert.ROutDxIdeal.Read.val_main_v2_eq _ _).trans ((Cert.KOutDxIdeal.Hand.ref _ _).trans (by rw [a0, a1]))), hu⟩

/-! ## OutDw -/

set_option maxHeartbeats 2000000 in
set_option backward.isDefEq.respectTransparency.types false in
theorem defs₀_KOutDw : Cert.KOutDw.defs₀ (F := Bits) = Cert.KOutDwIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KOutDw : Cert.KOutDw.defs (F := Bits) = Cert.KOutDwIdeal.defs (F := Bits) := congrArg (Pipeline.defs Cert.KOutDwIdeal.pcfgs) defs₀_KOutDw

set_option maxHeartbeats 2000000 in
set_option backward.isDefEq.respectTransparency.types false in
theorem main_KOutDw (c) : Cert.KOutDw.main (F := Bits) c = Cert.KOutDwIdeal.main (F := Bits) c := by
  with_unfolding_all rfl

theorem frame_KOutDw : Cert.quiescent_KOutDw := fun m ρ _ =>
  run_of_eq defs_KOutDw (congrArg onTc (funext main_KOutDw)) (Cert.KOutDwIdeal.Gen.frame (F := Bits) m ρ)

theorem frame_KOutDwIdeal : Cert.quiescent_KOutDwIdeal := fun m ρ _ => Cert.KOutDwIdeal.Gen.frame m ρ

theorem frame_ROutDwIdeal : Cert.quiescent_ROutDwIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.ROutDwIdeal.Value.run m ρ)

theorem algebraic_OutDw : Cert.algebraic_KOutDwIdeal_ROutDwIdeal := by
  intro m ρ m' ρ' _ hargs
  refine ⟨fun c => Cert.KOutDwIdeal.Hand.prod (m ((c.tc : Thread Cert.KOutDwIdeal.nD Cert.KOutDwIdeal.τ).loc Cert.KOutDwIdeal.main_arg0)) (m ((c.tc : Thread Cert.KOutDwIdeal.nD Cert.KOutDwIdeal.τ).loc Cert.KOutDwIdeal.main_arg1)), ?_, ?_⟩
  · refine (θ_run _ _ _).mono (fun r h c => ?_) (Cert.KOutDwIdeal.Value.run_blocks m ρ)
    obtain ⟨h0, hu⟩ := h c
    exact ⟨h0.trans ((Cert.KOutDwIdeal.Hand.arr m c).trans (by rw [Cert.KOutDwIdeal.Hand.V_x m c, Cert.KOutDwIdeal.Hand.V_w m c])), hu⟩
  · refine (θ_run _ _ _).mono (fun r h c => ?_) (Cert.ROutDwIdeal.Value.run m' ρ')
    obtain ⟨a0, a1⟩ := hargs c
    obtain ⟨h0, hu⟩ := h c
    exact ⟨h0.trans ((Cert.ROutDwIdeal.Read.val_main_v3_eq _ _).trans ((Cert.KOutDwIdeal.Hand.ref _ _).trans (by rw [a0, a1]))), hu⟩

end Cert.Proof

end
-- ==== Proof.Rows.lean ====
/-
  What the calls without a product share: literals, the logistic function as the host writes it, and a row's normalisation.
-/
module

public import Idealize.ShloMosaic.Lib.Pipeline.ValueKit
public import Idealize.ShloMosaic.Lib.IdealHost
public import proofs.«01_k».proof.Proof.Products

@[expose] public section

noncomputable section

namespace Cert.Rows

open Idealize.ShloMosaic hiding ix1 ix2 eq_ix2
open Idealize.ShloMosaic.ValueIdx
open scoped BigOperators

/-- A literal of the programs, as a number. -/
def lit (b : BitVec 32) : EReal := Ideal.ofBits .f32 b

/-- The host's quotient is the logistic function. -/
theorem logistic_host (x : EReal) : Ideal.div (Ideal.ofBits .f32 0x3F800000#32) (Ideal.ofBits .f32 0x3F800000#32 + Ideal.exp (-x)) = Ideal.logistic x := by
  rw [show Ideal.ofBits .f32 0x3F800000#32 = 1 from Ideal.ofBits_one_f32]
  rfl

/-- One entry of a row `f` divided by the root of the mean of its squares, `n` of them, and scaled by `g`. -/
def rms {w : ℕ} (n : BitVec 32) (f : Fin w → EReal) (k : Fin w) (g : EReal) : EReal :=
  f k * Ideal.rsqrt (Ideal.div (∑ j, f j * f j) (lit n) + lit 0x358637BD#32) * g

/-- The same from a sum that starts at zero. -/
theorem rms_zero {w : ℕ} (n : BitVec 32) (f : Fin w → EReal) (k : Fin w) (g : EReal) :
    f k * Ideal.rsqrt (Ideal.div (Ideal.ofBits .f32 0x00000000#32 + ∑ j, f j * f j) (lit n) + lit 0x358637BD#32) * g = rms n f k g := by
  rw [show Ideal.ofBits .f32 0x00000000#32 = 0 from Ideal.ofBits_zero_f32, zero_add]
  rfl

theorem rms_congr {w : ℕ} (n : BitVec 32) {f f' : Fin w → EReal} {k k' : Fin w} {g g' : EReal} (hf : ∀ j, f j = f' j) (hk : k = k') (hg : g = g') :
    rms n f k g = rms n f' k' g' := by
  rw [funext hf, hk, hg]

section

variable {M N : ℕ} (x : FVec Ideal ⟨2, ![M, N]⟩ .f32) (g : FVec Ideal ⟨2, ![1, N]⟩ .f32)
  (hr : (⟨2, ![M, N]⟩ : Shape).Reduces [1] ⟨1, ![M]⟩) (hc : (⟨1, ![M]⟩ : Shape).ShapeCasts ⟨2, ![M, 1]⟩)
  (hb : (⟨2, ![M, 1]⟩ : Shape).Broadcasts ⟨2, ![M, N]⟩) (hg : (⟨2, ![1, N]⟩ : Shape).Broadcasts ⟨2, ![M, N]⟩) (a : Fin M) (b : Fin N)

/-- A column spread over the rows' entries. -/
theorem spread_col (hN : M ≠ 1) (y : FVec Ideal ⟨2, ![M, 1]⟩ .f32) : broadcastTo ⟨2, ![M, N]⟩ y hb (ix2 a b) = y (ix2 a (0 : Fin 1)) := by
  refine broadcastTo_apply y hb (ix2 a b) (ix2 a (0 : Fin 1)) fun d => ?_
  match d with
  | ⟨0, _⟩ => exact (if_neg hN).symm
  | ⟨1, _⟩ => exact (if_pos rfl).symm

/-- A row spread over the columns' entries. -/
theorem spread_row (hN : N ≠ 1) : broadcastTo ⟨2, ![M, N]⟩ g hg (ix2 a b) = g (ix2 (0 : Fin 1) b) := by
  refine broadcastTo_apply g hg (ix2 a b) (ix2 (0 : Fin 1) b) fun d => ?_
  match d with
  | ⟨0, _⟩ => exact (if_pos rfl).symm
  | ⟨1, _⟩ => exact (if_neg hN).symm

/-- The sums of the rows, as a column. -/
theorem sum_col : shapeCast ⟨2, ![M, 1]⟩ (multiReduction .add [1] ⟨1, ![M]⟩ x 0x00000000#32 hr (.inl rfl) rfl) hc (ix2 a (0 : Fin 1))
    = ∑ k : Fin N, (x (ix2 a k) : EReal) := by
  refine (shapeCast_apply _ hc (ix2 a (0 : Fin 1)) (ix1 a) ?_).trans ?_
  · rw [Shape.rowMajor_val_two, Shape.rowMajor_val_one]
    show a.val = a.val * 1 + 0
    omega
  · refine (Ideal.multiReduction_add_single x _ hr (.inl rfl) rfl (ix1 a)).trans ?_
    exact Finset.sum_congr rfl fun k _ => congrArg x (funext fun d => by fin_cases d <;> rfl)

/-- A block's rows, normalised and scaled. -/
theorem norm_at (hM : M ≠ 1) (hN : N ≠ 1) (n : BitVec 32) :
    mulf (mulf x (broadcastTo ⟨2, ![M, N]⟩ (rsqrt (addf (divf (shapeCast ⟨2, ![M, 1]⟩
        (multiReduction .add [1] ⟨1, ![M]⟩ (mulf x x) 0x00000000#32 hr (.inl rfl) rfl) hc) (broadcast ⟨2, ![M, 1]⟩ (Scalar.ofBits (F := Ideal) .f32 n)))
        (broadcast ⟨2, ![M, 1]⟩ (Scalar.ofBits (F := Ideal) .f32 0x358637BD#32)))) hb)) (broadcastTo ⟨2, ![M, N]⟩ g hg) (ix2 a b)
      = rms n (fun k => x (ix2 a k)) b (g (ix2 (0 : Fin 1) b)) := by
  refine congrArg₂ (fun (p q : EReal) => p * q) (congrArg (fun p : EReal => x (ix2 a b) * p) ?_) (spread_row g hg a b hN)
  refine (spread_col hb a b hM _).trans ?_
  refine congrArg (fun p : EReal => Ideal.rsqrt (Ideal.div p (lit n) + lit 0x358637BD#32)) ?_
  exact sum_col (mulf x x) hr hc a

end

end Cert.Rows

end
-- ==== Proof.Norm.lean ====
/-
  The normalisation of rows: each row over the root of the mean of its squares.
-/
module

public import proofs.«01_k».proof.Proof.Gen.KNormIdeal.Value
public import proofs.«01_k».proof.Proof.Gen.RNormIdeal.Run
public import proofs.«01_k».proof.Proof.Gen.RNormIdeal.Read
public import proofs.«01_k».proof.Proof.Rows

@[expose] public section

noncomputable section

namespace Cert.KNormIdeal.Hand

open Cert.KNormIdeal Cert.KNormIdeal.Gen Cert.Rows
open Cert.Products (one_step)
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

theorem pay (x : Vec Ideal S512x1024 .f32) (g : Vec Ideal S1x1024 .f32) (a : Fin 512) (b : Fin 1024) :
    k0_pay1 x g (ix2 a b) = rms 0x44800000#32 (fun k => x (ix2 a k)) b (g (ix2 (0 : Fin 1) b)) := by
  unfold k0_pay1
  simp only [shapeCast_self]
  exact norm_at x g reduces_S512x1024_S512 shapeCasts_S512_S512x1 broadcasts_S512x1_S512x1024 broadcasts_S1x1024_S512x1024 a b (by decide) (by decide) _

/-! ## The array -/

/-- The region finds its operands as they were launched. -/
theorem V_x : V m c main_arg0 = m ((c : Thread nD τ).loc main_arg0) := V_main_arg0 m c
theorem V_g : V m c main_arg1 = m ((c : Thread nD τ).loc main_arg1) := V_main_arg1 m c

/-- What the whole array holds. -/
def prod (x : (⟨S8192x1024, .f32⟩ : BufTy).Contents (Elt Ideal)) (g : (⟨S1x1024, .f32⟩ : BufTy).Contents (Elt Ideal)) : (⟨S8192x1024, .bf16⟩ : BufTy).Contents (Elt Ideal) := fun i =>
  rms 0x44800000#32 (fun k => x (ix2 (i 0) k)) (i 1) (g (ix2 (0 : Fin 1) (i 1)))

theorem blocks : ∀ t : Fin grid0.N, win0_0.index t 0 = win0_2.index t 0 ∧ win0_0.index t 1 = 0 ∧ win0_1.index t 0 = 0 ∧ win0_1.index t 1 = 0
    ∧ win0_2.index t 1 = 0 := by decide +kernel

/-- The array after the run. -/
theorem arr : (dats m 0 c).arrAt 2 cfg0.N = prod (V m c main_arg0) (V m c main_arg1) :=
  Dat.arrAt_eq_of_covers (dats m 0 c) 2 _ (by decide +kernel) fun t hf y => by
    obtain ⟨a, b, rfl⟩ : ∃ (a : Fin 512) (b : Fin 1024), y = ix2 a b := ⟨y 0, y 1, eq_ix2 y⟩
    obtain ⟨h0, h1, h2, h3, h4⟩ := blocks t
    blk_simp
    rw [after0_2]
    frame_out
    rw [pay]
    unfold prod
    refine rms_congr _ (fun k => ?_) (Fin.ext ?_) ?_
    · blk_ext [iblk, h0, h1]
      exact one_step _ _
    · show b.val = win0_2.index t 1 * 1024 + 1 * b.val
      omega
    · blk_ext [iblk, h2, h3]
      show b.val = win0_2.index t 1 * 1024 + 1 * b.val
      omega

/-- The reference's array is the same. -/
theorem ref (x : (⟨S8192x1024, .f32⟩ : BufTy).Contents (Elt Ideal)) (g : (⟨S1x1024, .f32⟩ : BufTy).Contents (Elt Ideal)) : Cert.RNormIdeal.Read.val_main_v12 (F := Ideal) x g = prod x g := funext fun i => by
  rw [Cert.RNormIdeal.Read.val_main_v12_apply, Cert.RNormIdeal.Read.val_main_v11_apply, Cert.RNormIdeal.Read.val_main_v10_apply, Cert.RNormIdeal.Read.val_main_v9_apply, Cert.RNormIdeal.Read.val_main_v8_apply, Cert.RNormIdeal.Read.val_main_v7_apply, Cert.RNormIdeal.Read.val_main_v6_apply, Cert.RNormIdeal.Read.val_main_v5_apply, Cert.RNormIdeal.Read.val_main_cst_1_apply, Cert.RNormIdeal.Read.val_main_v4_apply, Cert.RNormIdeal.Read.val_main_v3_apply, Cert.RNormIdeal.Read.val_main_cst_0_apply, Cert.RNormIdeal.Read.val_main_v2_apply, Cert.RNormIdeal.Read.val_main_v1_apply, Cert.RNormIdeal.Read.val_main_cst_apply]
  refine Eq.trans ?_ (rms_zero 0x44800000#32 (fun k => x (ix2 (i 0) k)) (i 1) (g (ix2 (0 : Fin 1) (i 1))))
  refine congrArg₂ (fun (p q : EReal) => p * q) (congrArg₂ (fun (p q : EReal) => p * q) ?_
    (congrArg (fun p : EReal => Ideal.rsqrt (Ideal.div (Ideal.ofBits .f32 0x00000000#32 + p) (lit 0x44800000#32) + lit 0x358637BD#32)) (Finset.sum_congr rfl fun k _ => ?_))) (congrArg g ?_)
  · exact congrArg x (eq_ix2 i)
  · exact congrArg (fun j => (x j * x j : EReal)) (funext fun d => by fin_cases d <;> rfl)
  · funext d
    fin_cases d <;> rfl

end Cert.KNormIdeal.Hand

end
-- ==== Proof.QNorm.lean ====
/-
  The normalisation of the queries' latent, columns 7168 to 7679 of the projection.
-/
module

public import proofs.«01_k».proof.Proof.Gen.KQNormIdeal.Value
public import proofs.«01_k».proof.Proof.Gen.RQNormIdeal.Run
public import proofs.«01_k».proof.Proof.Gen.RQNormIdeal.Read
public import proofs.«01_k».proof.Proof.Rows

@[expose] public section

noncomputable section

namespace Cert.KQNormIdeal.Hand

open Cert.KQNormIdeal Cert.KQNormIdeal.Gen Cert.Rows
open Cert.Products (one_step)
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

theorem pay (x : Vec Ideal S512x512 .f32) (g : Vec Ideal S1x512 .f32) (a : Fin 512) (b : Fin 512) :
    k0_pay1 x g (ix2 a b) = rms 0x44000000#32 (fun k => x (ix2 a k)) b (g (ix2 (0 : Fin 1) b)) := by
  unfold k0_pay1
  simp only [shapeCast_self]
  exact norm_at x g reduces_S512x512_S512 shapeCasts_S512_S512x1 broadcasts_S512x1_S512x512 broadcasts_S1x512_S512x512 a b (by decide) (by decide) _

/-! ## The array -/

/-- The region finds its operands as they were launched. -/
theorem V_p : V m c main_arg0 = m ((c : Thread nD τ).loc main_arg0) := V_main_arg0 m c
theorem V_g : V m c main_arg1 = m ((c : Thread nD τ).loc main_arg1) := V_main_arg1 m c

/-- The latent's column of the projection. -/
def col (k : Fin 512) : Fin 8064 := ⟨7168 + k.val, by omega⟩

/-- What the whole array holds. -/
def prod (p : (⟨S8192x8064, .f32⟩ : BufTy).Contents (Elt Ideal)) (g : (⟨S1x512, .f32⟩ : BufTy).Contents (Elt Ideal)) : (⟨S8192x512, .bf16⟩ : BufTy).Contents (Elt Ideal) := fun i =>
  rms 0x44000000#32 (fun k => p (ix2 (i 0) (col k))) (i 1) (g (ix2 (0 : Fin 1) (i 1)))

theorem blocks : ∀ t : Fin grid0.N, win0_0.index t 0 = win0_2.index t 0 ∧ win0_0.index t 1 = 14 ∧ win0_1.index t 0 = 0 ∧ win0_1.index t 1 = 0
    ∧ win0_2.index t 1 = 0 := by decide +kernel

/-- The array after the run. -/
theorem arr : (dats m 0 c).arrAt 2 cfg0.N = prod (V m c main_arg0) (V m c main_arg1) :=
  Dat.arrAt_eq_of_covers (dats m 0 c) 2 _ (by decide +kernel) fun t hf y => by
    obtain ⟨a, b, rfl⟩ : ∃ (a : Fin 512) (b : Fin 512), y = ix2 a b := ⟨y 0, y 1, eq_ix2 y⟩
    obtain ⟨h0, h1, h2, h3, h4⟩ := blocks t
    blk_simp
    rw [after0_2]
    unfold outsAt0
    frame_out
    rw [pay]
    unfold prod
    refine rms_congr _ (fun k => ?_) (Fin.ext ?_) ?_
    · unfold X0_0 Pipeline.Window.fill
      rw [dif_pos (moved0_0 t _)]
      blk_ext [iblk, h0, h1]
      · exact one_step _ _
      · rfl
    · show b.val = win0_2.index t 1 * 512 + 1 * b.val
      omega
    · blk_ext [iblk, h2, h3]
      show b.val = win0_2.index t 1 * 512 + 1 * b.val
      omega

/-- The reference's slice is the latent. -/
theorem ref_col (p : (⟨S8192x8064, .f32⟩ : BufTy).Contents (Elt Ideal)) (a : Fin 8192) (k : Fin 512) (j : S8192x512.Idx) (hj : j = ix2 a k) :
    Cert.RQNormIdeal.Read.val_main_v0 (F := Ideal) p j = p (ix2 a (col k)) := by
  subst hj
  rw [Cert.RQNormIdeal.Read.val_main_v0_apply]
  exact congrArg p (funext fun d => by fin_cases d <;> exact Fin.ext (by simp [col]; try omega))

/-- The reference's array is the same. -/
theorem ref (p : (⟨S8192x8064, .f32⟩ : BufTy).Contents (Elt Ideal)) (g : (⟨S1x512, .f32⟩ : BufTy).Contents (Elt Ideal)) : Cert.RQNormIdeal.Read.val_main_v13 (F := Ideal) p g = prod p g := funext fun i => by
  rw [Cert.RQNormIdeal.Read.val_main_v13_apply, Cert.RQNormIdeal.Read.val_main_v12_apply, Cert.RQNormIdeal.Read.val_main_v11_apply, Cert.RQNormIdeal.Read.val_main_v10_apply, Cert.RQNormIdeal.Read.val_main_v9_apply, Cert.RQNormIdeal.Read.val_main_v8_apply, Cert.RQNormIdeal.Read.val_main_v7_apply, Cert.RQNormIdeal.Read.val_main_v6_apply, Cert.RQNormIdeal.Read.val_main_cst_1_apply, Cert.RQNormIdeal.Read.val_main_v5_apply, Cert.RQNormIdeal.Read.val_main_v4_apply, Cert.RQNormIdeal.Read.val_main_cst_0_apply, Cert.RQNormIdeal.Read.val_main_v3_apply, Cert.RQNormIdeal.Read.val_main_v2_apply, Cert.RQNormIdeal.Read.val_main_cst_apply]
  refine Eq.trans ?_ (rms_zero 0x44000000#32 (fun k => p (ix2 (i 0) (col k))) (i 1) (g (ix2 (0 : Fin 1) (i 1))))
  refine congrArg₂ (fun (p q : EReal) => p * q) (congrArg₂ (fun (p q : EReal) => p * q) ?_
    (congrArg (fun p : EReal => Ideal.rsqrt (Ideal.div (Ideal.ofBits .f32 0x00000000#32 + p) (lit 0x44000000#32) + lit 0x358637BD#32)) (Finset.sum_congr rfl fun k _ => ?_))) (congrArg g ?_)
  · exact ref_col p (i 0) (i 1) i (eq_ix2 i)
  · have e := ref_col p (i 0) k _ (show Cert.RQNormIdeal.Read.idx_main_v2 (Cert.RQNormIdeal.Read.idx_main_v3 (Cert.RQNormIdeal.Read.idx_main_v9 i)) k = ix2 (i 0) k from funext fun d => by fin_cases d <;> rfl)
    rw [Cert.RQNormIdeal.Read.val_main_v1_apply]
    exact congrArg₂ (fun (p q : EReal) => p * q) e e
  · funext d
    fin_cases d <;> rfl

end Cert.KQNormIdeal.Hand

end
-- ==== Proof.KvNorm.lean ====
/-
  The normalisation of the keys' and values' latent, columns 7680 to 7935 of the projection.
-/
module

public import proofs.«01_k».proof.Proof.Gen.KKvNormIdeal.Value
public import proofs.«01_k».proof.Proof.Gen.RKvNormIdeal.Run
public import proofs.«01_k».proof.Proof.Gen.RKvNormIdeal.Read
public import proofs.«01_k».proof.Proof.Rows

@[expose] public section

noncomputable section

namespace Cert.KKvNormIdeal.Hand

open Cert.KKvNormIdeal Cert.KKvNormIdeal.Gen Cert.Rows
open Cert.Products (one_step)
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

theorem pay (x : Vec Ideal S512x256 .f32) (g : Vec Ideal S1x256 .f32) (a : Fin 512) (b : Fin 256) :
    k0_pay1 x g (ix2 a b) = rms 0x43800000#32 (fun k => x (ix2 a k)) b (g (ix2 (0 : Fin 1) b)) := by
  unfold k0_pay1
  simp only [shapeCast_self]
  exact norm_at x g reduces_S512x256_S512 shapeCasts_S512_S512x1 broadcasts_S512x1_S512x256 broadcasts_S1x256_S512x256 a b (by decide) (by decide) _

/-! ## The array -/

/-- The region finds its operands as they were launched. -/
theorem V_p : V m c main_arg0 = m ((c : Thread nD τ).loc main_arg0) := V_main_arg0 m c
theorem V_g : V m c main_arg1 = m ((c : Thread nD τ).loc main_arg1) := V_main_arg1 m c

/-- The latent's column of the projection. -/
def col (k : Fin 256) : Fin 8064 := ⟨7680 + k.val, by omega⟩

/-- What the whole array holds. -/
def prod (p : (⟨S8192x8064, .f32⟩ : BufTy).Contents (Elt Ideal)) (g : (⟨S1x256, .f32⟩ : BufTy).Contents (Elt Ideal)) : (⟨S8192x256, .bf16⟩ : BufTy).Contents (Elt Ideal) := fun i =>
  rms 0x43800000#32 (fun k => p (ix2 (i 0) (col k))) (i 1) (g (ix2 (0 : Fin 1) (i 1)))

theorem blocks : ∀ t : Fin grid0.N, win0_0.index t 0 = win0_2.index t 0 ∧ win0_0.index t 1 = 30 ∧ win0_1.index t 0 = 0 ∧ win0_1.index t 1 = 0
    ∧ win0_2.index t 1 = 0 := by decide +kernel

/-- The array after the run. -/
theorem arr : (dats m 0 c).arrAt 2 cfg0.N = prod (V m c main_arg0) (V m c main_arg1) :=
  Dat.arrAt_eq_of_covers (dats m 0 c) 2 _ (by decide +kernel) fun t hf y => by
    obtain ⟨a, b, rfl⟩ : ∃ (a : Fin 512) (b : Fin 256), y = ix2 a b := ⟨y 0, y 1, eq_ix2 y⟩
    obtain ⟨h0, h1, h2, h3, h4⟩ := blocks t
    blk_simp
    rw [after0_2]
    unfold outsAt0
    frame_out
    rw [pay]
    unfold prod
    refine rms_congr _ (fun k => ?_) (Fin.ext ?_) ?_
    · unfold X0_0 Pipeline.Window.fill
      rw [dif_pos (moved0_0 t _)]
      blk_ext [iblk, h0, h1]
      · exact one_step _ _
      · rfl
    · show b.val = win0_2.index t 1 * 256 + 1 * b.val
      omega
    · blk_ext [iblk, h2, h3]
      show b.val = win0_2.index t 1 * 256 + 1 * b.val
      omega

/-- The reference's slice is the latent. -/
theorem ref_col (p : (⟨S8192x8064, .f32⟩ : BufTy).Contents (Elt Ideal)) (a : Fin 8192) (k : Fin 256) (j : S8192x256.Idx) (hj : j = ix2 a k) :
    Cert.RKvNormIdeal.Read.val_main_v0 (F := Ideal) p j = p (ix2 a (col k)) := by
  subst hj
  rw [Cert.RKvNormIdeal.Read.val_main_v0_apply]
  exact congrArg p (funext fun d => by fin_cases d <;> exact Fin.ext (by simp [col]; try omega))

/-- The reference's array is the same. -/
theorem ref (p : (⟨S8192x8064, .f32⟩ : BufTy).Contents (Elt Ideal)) (g : (⟨S1x256, .f32⟩ : BufTy).Contents (Elt Ideal)) : Cert.RKvNormIdeal.Read.val_main_v13 (F := Ideal) p g = prod p g := funext fun i => by
  rw [Cert.RKvNormIdeal.Read.val_main_v13_apply, Cert.RKvNormIdeal.Read.val_main_v12_apply, Cert.RKvNormIdeal.Read.val_main_v11_apply, Cert.RKvNormIdeal.Read.val_main_v10_apply, Cert.RKvNormIdeal.Read.val_main_v9_apply, Cert.RKvNormIdeal.Read.val_main_v8_apply, Cert.RKvNormIdeal.Read.val_main_v7_apply, Cert.RKvNormIdeal.Read.val_main_v6_apply, Cert.RKvNormIdeal.Read.val_main_cst_1_apply, Cert.RKvNormIdeal.Read.val_main_v5_apply, Cert.RKvNormIdeal.Read.val_main_v4_apply, Cert.RKvNormIdeal.Read.val_main_cst_0_apply, Cert.RKvNormIdeal.Read.val_main_v3_apply, Cert.RKvNormIdeal.Read.val_main_v2_apply, Cert.RKvNormIdeal.Read.val_main_cst_apply]
  refine Eq.trans ?_ (rms_zero 0x43800000#32 (fun k => p (ix2 (i 0) (col k))) (i 1) (g (ix2 (0 : Fin 1) (i 1))))
  refine congrArg₂ (fun (p q : EReal) => p * q) (congrArg₂ (fun (p q : EReal) => p * q) ?_
    (congrArg (fun p : EReal => Ideal.rsqrt (Ideal.div (Ideal.ofBits .f32 0x00000000#32 + p) (lit 0x43800000#32) + lit 0x358637BD#32)) (Finset.sum_congr rfl fun k _ => ?_))) (congrArg g ?_)
  · exact ref_col p (i 0) (i 1) i (eq_ix2 i)
  · have e := ref_col p (i 0) k _ (show Cert.RKvNormIdeal.Read.idx_main_v2 (Cert.RKvNormIdeal.Read.idx_main_v3 (Cert.RKvNormIdeal.Read.idx_main_v9 i)) k = ix2 (i 0) k from funext fun d => by fin_cases d <;> rfl)
    rw [Cert.RKvNormIdeal.Read.val_main_v1_apply]
    exact congrArg₂ (fun (p q : EReal) => p * q) e e
  · funext d
    fin_cases d <;> rfl

end Cert.KKvNormIdeal.Hand

end
-- ==== Proof.GatedNorm.lean ====
/-
  The gated normalisation of rows: the scan, times its gate passed through the activation, normalised.
-/
module

public import proofs.«01_k».proof.Proof.Gen.KGatedNormIdeal.Value
public import proofs.«01_k».proof.Proof.Gen.RGatedNormIdeal.Run
public import proofs.«01_k».proof.Proof.Gen.RGatedNormIdeal.Read
public import proofs.«01_k».proof.Proof.Rows

@[expose] public section

noncomputable section

namespace Cert.KGatedNormIdeal.Hand

open Cert.KGatedNormIdeal Cert.KGatedNormIdeal.Gen Cert.Rows
open Cert.Products (one_step)
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-- One entry with its gate. -/
def gated (y z : EReal) : EReal := y * (z * Ideal.logistic z)

theorem pay (y z : Vec Ideal S256x2048 .f32) (g : Vec Ideal S1x2048 .f32) (a : Fin 256) (b : Fin 2048) :
    k0_pay1 y z g (ix2 a b) = rms 0x45000000#32 (fun k => gated (y (ix2 a k)) (z (ix2 a k))) b (g (ix2 (0 : Fin 1) b)) := by
  unfold k0_pay1
  simp only [shapeCast_self]
  exact norm_at (mulf y (mulf z (logistic z))) g reduces_S256x2048_S256 shapeCasts_S256_S256x1 broadcasts_S256x1_S256x2048 broadcasts_S1x2048_S256x2048 a b (by decide) (by decide) _

/-! ## The array -/

/-- The region finds its operands as they were launched. -/
theorem V_y : V m c main_arg0 = m ((c : Thread nD τ).loc main_arg0) := V_main_arg0 m c
theorem V_p : V m c main_arg1 = m ((c : Thread nD τ).loc main_arg1) := V_main_arg1 m c
theorem V_g : V m c main_arg2 = m ((c : Thread nD τ).loc main_arg2) := V_main_arg2 m c

/-- The gate's column of the projection. -/
def zcol (k : Fin 2048) : Fin 8064 := ⟨k.val, by omega⟩

/-- What the whole array holds. -/
def prod (y : (⟨S8192x2048, .f32⟩ : BufTy).Contents (Elt Ideal)) (p : (⟨S8192x8064, .f32⟩ : BufTy).Contents (Elt Ideal)) (g : (⟨S1x2048, .f32⟩ : BufTy).Contents (Elt Ideal)) : (⟨S8192x2048, .bf16⟩ : BufTy).Contents (Elt Ideal) := fun i =>
  rms 0x45000000#32 (fun k => gated (y (ix2 (i 0) k)) (p (ix2 (i 0) (zcol k)))) (i 1) (g (ix2 (0 : Fin 1) (i 1)))

theorem blocks : ∀ t : Fin grid0.N, win0_0.index t 0 = win0_3.index t 0 ∧ win0_0.index t 1 = 0 ∧ win0_1.index t 0 = win0_3.index t 0 ∧ win0_1.index t 1 = 0
    ∧ win0_2.index t 0 = 0 ∧ win0_2.index t 1 = 0 ∧ win0_3.index t 1 = 0 := by decide +kernel

/-- The array after the run. -/
theorem arr : (dats m 0 c).arrAt 3 cfg0.N = prod (V m c main_arg0) (V m c main_arg1) (V m c main_arg2) :=
  Dat.arrAt_eq_of_covers (dats m 0 c) 3 _ (by decide +kernel) fun t hf y => by
    obtain ⟨a, b, rfl⟩ : ∃ (a : Fin 256) (b : Fin 2048), y = ix2 a b := ⟨y 0, y 1, eq_ix2 y⟩
    obtain ⟨h0, h1, h2, h3, h4, h5, h6⟩ := blocks t
    blk_simp
    rw [after0_3]
    unfold outsAt0
    frame_out
    rw [pay]
    unfold prod
    refine rms_congr _ (fun k => congrArg₂ gated ?_ ?_) (Fin.ext ?_) ?_
    · blk_ext [iblk, h0, h1]
      exact one_step _ _
    · unfold X0_1 Pipeline.Window.fill
      rw [dif_pos (moved0_1 t _)]
      blk_ext [iblk, h2, h3]
      · exact one_step _ _
      · rfl
    · show b.val = win0_3.index t 1 * 2048 + 1 * b.val
      omega
    · blk_ext [iblk, h4, h5]
      show b.val = win0_3.index t 1 * 2048 + 1 * b.val
      omega

/-- The reference's gated entry. -/
theorem ref_gated (y : (⟨S8192x2048, .f32⟩ : BufTy).Contents (Elt Ideal)) (p : (⟨S8192x8064, .f32⟩ : BufTy).Contents (Elt Ideal)) (a : Fin 8192) (k : Fin 2048) (j : S8192x2048.Idx) (hj : j = ix2 a k) :
    Cert.RGatedNormIdeal.Read.val_main_v2 (F := Ideal) y p j = gated (y (ix2 a k)) (p (ix2 a (zcol k))) := by
  subst hj
  rw [Cert.RGatedNormIdeal.Read.val_main_v2_apply, Cert.RGatedNormIdeal.Read.val_main_v1_apply, Cert.RGatedNormIdeal.Read.val_main_call0_v5_apply, Cert.RGatedNormIdeal.Read.val_main_call0_v4_apply, Cert.RGatedNormIdeal.Read.val_main_call0_cst_0_apply, Cert.RGatedNormIdeal.Read.val_main_call0_v3_apply, Cert.RGatedNormIdeal.Read.val_main_call0_v2_apply, Cert.RGatedNormIdeal.Read.val_main_call0_cst_apply, Cert.RGatedNormIdeal.Read.val_main_call0_v1_apply, Cert.RGatedNormIdeal.Read.val_main_call0_v0_apply, Cert.RGatedNormIdeal.Read.val_main_v0_apply]
  refine congrArg₂ (fun (p q : EReal) => p * q) rfl ?_
  have e : Cert.RGatedNormIdeal.Read.idx_main_v0 (ix2 a k) = ix2 a (zcol k) := funext fun d => by fin_cases d <;> exact Fin.ext (by simp [zcol])
  rw [e]
  exact congrArg (fun q : EReal => (p (ix2 a (zcol k)) : EReal) * q) (logistic_host _)

/-- The reference's array is the same. -/
theorem ref (y : (⟨S8192x2048, .f32⟩ : BufTy).Contents (Elt Ideal)) (p : (⟨S8192x8064, .f32⟩ : BufTy).Contents (Elt Ideal)) (g : (⟨S1x2048, .f32⟩ : BufTy).Contents (Elt Ideal)) : Cert.RGatedNormIdeal.Read.val_main_v15 (F := Ideal) y p g = prod y p g := funext fun i => by
  rw [Cert.RGatedNormIdeal.Read.val_main_v15_apply, Cert.RGatedNormIdeal.Read.val_main_v14_apply, Cert.RGatedNormIdeal.Read.val_main_v13_apply, Cert.RGatedNormIdeal.Read.val_main_v12_apply, Cert.RGatedNormIdeal.Read.val_main_v11_apply, Cert.RGatedNormIdeal.Read.val_main_v10_apply, Cert.RGatedNormIdeal.Read.val_main_v9_apply, Cert.RGatedNormIdeal.Read.val_main_v8_apply, Cert.RGatedNormIdeal.Read.val_main_cst_1_apply, Cert.RGatedNormIdeal.Read.val_main_v7_apply, Cert.RGatedNormIdeal.Read.val_main_v6_apply, Cert.RGatedNormIdeal.Read.val_main_cst_0_apply, Cert.RGatedNormIdeal.Read.val_main_v5_apply, Cert.RGatedNormIdeal.Read.val_main_v4_apply, Cert.RGatedNormIdeal.Read.val_main_cst_apply]
  refine Eq.trans ?_ (rms_zero 0x45000000#32 (fun k => gated (y (ix2 (i 0) k)) (p (ix2 (i 0) (zcol k)))) (i 1) (g (ix2 (0 : Fin 1) (i 1))))
  refine congrArg₂ (fun (p q : EReal) => p * q) (congrArg₂ (fun (p q : EReal) => p * q) ?_
    (congrArg (fun p : EReal => Ideal.rsqrt (Ideal.div (Ideal.ofBits .f32 0x00000000#32 + p) (lit 0x45000000#32) + lit 0x358637BD#32)) (Finset.sum_congr rfl fun k _ => ?_))) (congrArg g ?_)
  · exact ref_gated y p (i 0) (i 1) i (eq_ix2 i)
  · have e := ref_gated y p (i 0) k _ (show Cert.RGatedNormIdeal.Read.idx_main_v4 (Cert.RGatedNormIdeal.Read.idx_main_v5 (Cert.RGatedNormIdeal.Read.idx_main_v11 i)) k = ix2 (i 0) k from funext fun d => by fin_cases d <;> rfl)
    rw [Cert.RGatedNormIdeal.Read.val_main_v3_apply]
    exact congrArg₂ (fun (p q : EReal) => p * q) e e
  · funext d
    fin_cases d <;> rfl

end Cert.KGatedNormIdeal.Hand

end
-- ==== Proof.Merge.lean ====
/-
  The gated sum of the two branches, entry by entry.
-/
module

public import proofs.«01_k».proof.Proof.Gen.KMergeIdeal.Value
public import proofs.«01_k».proof.Proof.Gen.RMergeIdeal.Run
public import proofs.«01_k».proof.Proof.Gen.RMergeIdeal.Read
public import proofs.«01_k».proof.Proof.Rows

@[expose] public section

noncomputable section

namespace Cert.KMergeIdeal.Hand

open Cert.KMergeIdeal Cert.KMergeIdeal.Gen Cert.Rows
open Cert.Products (one_step)
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-- One entry from the two gates and the two branches. -/
def mix (p q a b : EReal) : EReal := Ideal.logistic p * a + Ideal.logistic q * b

theorem pay (p a q b : Vec Ideal S512x1024 .f32) (j : S512x1024.Idx) : k0_pay1 p a q b j = mix (p j) (q j) (a j) (b j) := rfl

/-! ## The array -/

/-- The region finds its operands as they were launched. -/
theorem V_p : V m c main_arg0 = m ((c : Thread nD τ).loc main_arg0) := V_main_arg0 m c
theorem V_a : V m c main_arg1 = m ((c : Thread nD τ).loc main_arg1) := V_main_arg1 m c
theorem V_b : V m c main_arg2 = m ((c : Thread nD τ).loc main_arg2) := V_main_arg2 m c

/-- The two gates' columns of the projection. -/
def gate1 (k : Fin 1024) : Fin 8064 := ⟨5120 + k.val, by omega⟩
def gate2 (k : Fin 1024) : Fin 8064 := ⟨6144 + k.val, by omega⟩

/-- What the whole array holds. -/
def prod (p : (⟨S8192x8064, .f32⟩ : BufTy).Contents (Elt Ideal)) (a b : (⟨S8192x1024, .f32⟩ : BufTy).Contents (Elt Ideal)) : (⟨S8192x1024, .bf16⟩ : BufTy).Contents (Elt Ideal) := fun i =>
  mix (p (ix2 (i 0) (gate1 (i 1)))) (p (ix2 (i 0) (gate2 (i 1)))) (a i) (b i)

theorem blocks : ∀ t : Fin grid0.N, win0_0.index t 0 = win0_4.index t 0 ∧ win0_0.index t 1 = 5 ∧ win0_1.index t 0 = win0_4.index t 0 ∧ win0_1.index t 1 = 6
    ∧ win0_2.index t 0 = win0_4.index t 0 ∧ win0_2.index t 1 = win0_4.index t 1 ∧ win0_3.index t 0 = win0_4.index t 0 ∧ win0_3.index t 1 = win0_4.index t 1
    ∧ win0_4.index t 1 = 0 := by decide +kernel

/-- The array after the run. -/
theorem arr : (dats m 0 c).arrAt 4 cfg0.N = prod (V m c main_arg0) (V m c main_arg1) (V m c main_arg2) :=
  Dat.arrAt_eq_of_covers (dats m 0 c) 4 _ (by decide +kernel) fun t hf y => by
    obtain ⟨a, b, rfl⟩ : ∃ (a : Fin 512) (b : Fin 1024), y = ix2 a b := ⟨y 0, y 1, eq_ix2 y⟩
    obtain ⟨h0, h1, h2, h3, h4, h5, h6, h7, h8⟩ := blocks t
    blk_simp
    rw [after0_4]
    unfold outsAt0
    frame_out
    rw [pay]
    unfold prod X0_0 X0_1 Pipeline.Window.fill
    rw [dif_pos (moved0_0 t _), dif_pos (moved0_1 t _)]
    congr 1
    · blk_ext [iblk, h0, h1]
      · exact one_step _ _
      · show 5 * 1024 + b.val = 5120 + (win0_4.index t 1 * 1024 + 1 * b.val)
        omega
    · blk_ext [iblk, h2, h3]
      · exact one_step _ _
      · show 6 * 1024 + b.val = 6144 + (win0_4.index t 1 * 1024 + 1 * b.val)
        omega

/-- The reference's array is the same. -/
theorem ref (p : (⟨S8192x8064, .f32⟩ : BufTy).Contents (Elt Ideal)) (a b : (⟨S8192x1024, .f32⟩ : BufTy).Contents (Elt Ideal)) : Cert.RMergeIdeal.Read.val_main_v12 (F := Ideal) p a b = prod p a b := funext fun i => by
  rw [Cert.RMergeIdeal.Read.val_main_v12_apply, Cert.RMergeIdeal.Read.val_main_v11_apply, Cert.RMergeIdeal.Read.val_main_v8_apply,
    Cert.RMergeIdeal.Read.val_main_v10_apply, Cert.RMergeIdeal.Read.val_main_v7_apply, Cert.RMergeIdeal.Read.val_main_v9_apply]
  have e (j) : Cert.RMergeIdeal.Read.val_main_v6 (F := Ideal) p j = Ideal.logistic (p (Cert.RMergeIdeal.Read.idx_main_v0 j)) := by
    rw [Cert.RMergeIdeal.Read.val_main_v6_apply, Cert.RMergeIdeal.Read.val_main_v5_apply, Cert.RMergeIdeal.Read.val_main_cst_0_apply,
      Cert.RMergeIdeal.Read.val_main_v4_apply, Cert.RMergeIdeal.Read.val_main_v3_apply, Cert.RMergeIdeal.Read.val_main_cst_apply,
      Cert.RMergeIdeal.Read.val_main_v2_apply, Cert.RMergeIdeal.Read.val_main_v1_apply, Cert.RMergeIdeal.Read.val_main_v0_apply]
    exact logistic_host _
  rw [e, e]
  refine congrArg₂ (fun (p q : EReal) => p + q) (congrArg (fun p : EReal => Ideal.logistic p * a i) (congrArg p ?_))
    (congrArg (fun p : EReal => Ideal.logistic p * b i) (congrArg p ?_)) <;>
    funext d <;> fin_cases d <;> exact Fin.ext (by simp [gate1, gate2]; try omega)

end Cert.KMergeIdeal.Hand

end
-- ==== Proof.MergeDx.lean ====
/-
  The gradient of the gated sum to its two gates and its two branches.
-/
module

public import proofs.«01_k».proof.Proof.Gen.KMergeDxIdeal.Value
public import proofs.«01_k».proof.Proof.Gen.RMergeDxIdeal.Run
public import proofs.«01_k».proof.Proof.Gen.RMergeDxIdeal.Read
public import proofs.«01_k».proof.Proof.Rows
public import Idealize.ShloMosaic.Lib.KernelVsHost

@[expose] public section

noncomputable section

namespace Cert.KMergeDxIdeal.Hand

open Cert.KMergeDxIdeal Cert.KMergeDxIdeal.Gen Cert.Rows
open Cert.Products (one_step)
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## One entry -/

/-- To a branch. -/
def toBranch (z d : EReal) : EReal := d * Ideal.logistic z

/-- To a gate, beside its branch's entry. -/
def toGate (z d a : EReal) : EReal := d * a * Ideal.logistic z * (lit 0x3F800000#32 - Ideal.logistic z)

theorem pay3 (z d : Vec Ideal S512x1024 .f32) (j : S512x1024.Idx) : k0_pay3 z d j = toBranch (z j) (d j) := rfl
theorem pay4 (z d : Vec Ideal S512x1024 .f32) (j : S512x1024.Idx) : k0_pay4 z d j = toBranch (z j) (d j) := rfl
theorem pay5 (z d a : Vec Ideal S512x1024 .f32) (j : S512x1024.Idx) : k0_pay5 z d a j = toGate (z j) (d j) (a j) := rfl
theorem pay6 (z d a : Vec Ideal S512x1024 .f32) (j : S512x1024.Idx) : k0_pay6 z d a j = toGate (z j) (d j) (a j) := rfl

/-! ## The arrays -/

/-- The region finds its operands as they were launched. -/
theorem V_p : V m c main_arg0 = m ((c : Thread nD τ).loc main_arg0) := V_main_arg0 m c
theorem V_a : V m c main_arg1 = m ((c : Thread nD τ).loc main_arg1) := V_main_arg1 m c
theorem V_b : V m c main_arg2 = m ((c : Thread nD τ).loc main_arg2) := V_main_arg2 m c
theorem V_d : V m c main_arg3 = m ((c : Thread nD τ).loc main_arg3) := V_main_arg3 m c

/-- The gates' columns of the projection: those of the first branch, then those of the second. -/
def gate (k : Fin 2048) : Fin 8064 := ⟨5120 + k.val, by omega⟩
def fst (k : Fin 1024) : Fin 2048 := ⟨k.val, by omega⟩
def snd (k : Fin 1024) : Fin 2048 := ⟨1024 + k.val, by omega⟩

/-- The gradient to one branch, whose gates are chosen by `s`. -/
def branchG (s : Fin 1024 → Fin 2048) (p : (⟨S8192x8064, .f32⟩ : BufTy).Contents (Elt Ideal)) (d : (⟨S8192x1024, .f32⟩ : BufTy).Contents (Elt Ideal)) : (⟨S8192x1024, .bf16⟩ : BufTy).Contents (Elt Ideal) := fun i =>
  toBranch (p (ix2 (i 0) (gate (s (i 1))))) (d i)

/-- The gradient to the gates: the first half beside the first branch, the second beside the second. -/
def gateG (p : (⟨S8192x8064, .f32⟩ : BufTy).Contents (Elt Ideal)) (a b d : (⟨S8192x1024, .f32⟩ : BufTy).Contents (Elt Ideal)) : (⟨S8192x2048, .bf16⟩ : BufTy).Contents (Elt Ideal) := fun i =>
  if h : (i 1).val < 1024 then toGate (p (ix2 (i 0) (gate (i 1)))) (d (ix2 (i 0) (⟨(i 1).val, h⟩ : Fin 1024))) (a (ix2 (i 0) (⟨(i 1).val, h⟩ : Fin 1024)))
  else toGate (p (ix2 (i 0) (gate (i 1)))) (d (ix2 (i 0) (⟨(i 1).val - 1024, by have := (i 1).isLt; change _ < 2048 at this; omega⟩ : Fin 1024)))
    (b (ix2 (i 0) (⟨(i 1).val - 1024, by have := (i 1).isLt; change _ < 2048 at this; omega⟩ : Fin 1024)))

theorem blocks : ∀ t : Fin grid0.N, win0_0.index t 0 = win0_5.index t 0 ∧ win0_0.index t 1 = 5 ∧ win0_1.index t 0 = win0_5.index t 0 ∧ win0_1.index t 1 = 6
    ∧ (win0_2.index t 0 = win0_5.index t 0 ∧ win0_2.index t 1 = 0) ∧ (win0_3.index t 0 = win0_5.index t 0 ∧ win0_3.index t 1 = 0)
    ∧ (win0_4.index t 0 = win0_5.index t 0 ∧ win0_4.index t 1 = 0) ∧ (win0_6.index t 0 = win0_5.index t 0 ∧ win0_6.index t 1 = 0)
    ∧ (win0_7.index t 0 = win0_5.index t 0 ∧ win0_7.index t 1 = 0) ∧ win0_5.index t 1 = 0 := by decide +kernel

/-- A block's entry of the result is the array's. -/
theorem arr_fst : (dats m 0 c).arrAt 6 cfg0.N = branchG fst (V m c main_arg0) (V m c main_arg3) :=
  Dat.arrAt_eq_of_covers (dats m 0 c) 6 _ (by decide +kernel) fun t hf y => by
    obtain ⟨a, b, rfl⟩ : ∃ (a : Fin 512) (b : Fin 1024), y = ix2 a b := ⟨y 0, y 1, eq_ix2 y⟩
    obtain ⟨h0, h1, h2, h3, ⟨h4, h5⟩, ⟨h6, h7⟩, ⟨h8, h9⟩, ⟨g6, k6⟩, ⟨g7, k7⟩, h10⟩ := blocks t
    blk_simp
    rw [after0_6]
    unfold outsAt0
    frame_out
    rw [pay3]
    unfold branchG X0_0 Pipeline.Window.fill
    rw [dif_pos (moved0_0 t _)]
    refine congrArg₂ toBranch ?_ ?_
    · blk_ext [iblk, h0, h1, g6, k6]
      · exact one_step _ _
      · show 5 * 1024 + b.val = 5120 + (win0_6.index t 1 * 1024 + 1 * b.val)
        omega
    · blk_ext [iblk, h8, h9, g6, k6]

theorem arr_snd : (dats m 0 c).arrAt 7 cfg0.N = branchG snd (V m c main_arg0) (V m c main_arg3) :=
  Dat.arrAt_eq_of_covers (dats m 0 c) 7 _ (by decide +kernel) fun t hf y => by
    obtain ⟨a, b, rfl⟩ : ∃ (a : Fin 512) (b : Fin 1024), y = ix2 a b := ⟨y 0, y 1, eq_ix2 y⟩
    obtain ⟨h0, h1, h2, h3, ⟨h4, h5⟩, ⟨h6, h7⟩, ⟨h8, h9⟩, ⟨g6, k6⟩, ⟨g7, k7⟩, h10⟩ := blocks t
    blk_simp
    rw [after0_7]
    unfold outsAt0
    frame_out
    rw [pay4]
    unfold branchG X0_1 Pipeline.Window.fill
    rw [dif_pos (moved0_1 t _)]
    refine congrArg₂ toBranch ?_ ?_
    · blk_ext [iblk, h2, h3, g7, k7]
      · exact one_step _ _
      · show 6 * 1024 + b.val = 5120 + (1024 + (win0_7.index t 1 * 1024 + 1 * b.val))
        omega
    · blk_ext [iblk, h8, h9, g7, k7]

/-- A column of the gates is one of the first branch's or one of the second's. -/
theorem halves (b : Fin 2048) : (∃ k, b = fst k) ∨ ∃ k, b = snd k := by
  by_cases h : b.val < 1024
  · exact .inl ⟨⟨b.val, h⟩, rfl⟩
  · exact .inr ⟨⟨b.val - 1024, by omega⟩, Fin.ext (by show b.val = 1024 + (b.val - 1024); omega)⟩

theorem gateG_fst (p : (⟨S8192x8064, .f32⟩ : BufTy).Contents (Elt Ideal)) (a b d : (⟨S8192x1024, .f32⟩ : BufTy).Contents (Elt Ideal)) (r : Fin 8192) (k : Fin 1024) :
    gateG p a b d (ix2 r (fst k)) = toGate (p (ix2 r (gate (fst k)))) (d (ix2 r k)) (a (ix2 r k)) := dif_pos k.isLt

theorem gateG_snd (p : (⟨S8192x8064, .f32⟩ : BufTy).Contents (Elt Ideal)) (a b d : (⟨S8192x1024, .f32⟩ : BufTy).Contents (Elt Ideal)) (r : Fin 8192) (k : Fin 1024) :
    gateG p a b d (ix2 r (snd k)) = toGate (p (ix2 r (gate (snd k)))) (d (ix2 r k)) (b (ix2 r k)) := by
  refine (dif_neg (show ¬ 1024 + k.val < 1024 by omega)).trans ?_
  have e : (⟨(ix2 r (snd k) 1).val - 1024, by have := k.isLt; show 1024 + k.val - 1024 < 1024; omega⟩ : Fin 1024) = k :=
    Fin.ext (by show 1024 + k.val - 1024 = k.val; omega)
  exact congrArg₂ (toGate _) (congrArg (fun q => d (ix2 r q)) e) (congrArg (fun q => b (ix2 r q)) e)

theorem arr_gate : (dats m 0 c).arrAt 5 cfg0.N = gateG (V m c main_arg0) (V m c main_arg1) (V m c main_arg2) (V m c main_arg3) :=
  Dat.arrAt_eq_of_covers (dats m 0 c) 5 _ (by decide +kernel) fun t hf y => by
    obtain ⟨a, b, rfl⟩ : ∃ (a : Fin 512) (b : Fin 2048), y = ix2 a b := ⟨y 0, y 1, eq_ix2 y⟩
    obtain ⟨h0, h1, h2, h3, ⟨h4, h5⟩, ⟨h6, h7⟩, ⟨h8, h9⟩, ⟨g6, k6⟩, ⟨g7, k7⟩, h10⟩ := blocks t
    blk_simp
    rw [after0_5]
    unfold outsAt0
    frame_out
    obtain ⟨r, hr, hj⟩ : ∃ r : Fin 8192, win0_5.index t 0 * 512 + a.val = r.val ∧ ((View.whole main_v0_0).slice (win0_5.rect t)).emb (ix2 a b) = (ix2 r b : S8192x2048.Idx) := by
      refine ⟨((View.whole main_v0_0).slice (win0_5.rect t)).emb (ix2 a b) 0, one_step _ _, (eq_ix2 (n0 := 8192) (n1 := 2048) _).trans (congrArg (ix2 _) (Fin.ext ?_))⟩
      show win0_5.index t 1 * 2048 + 1 * b.val = b.val
      omega
    refine Eq.trans ?_ (congrArg (gateG (V m c main_arg0) (V m c main_arg1) (V m c main_arg2) (V m c main_arg3)) hj).symm
    rcases halves b with ⟨k, rfl⟩ | ⟨k, rfl⟩
    · rw [gateG_fst, View.canon_cons_of_not_mem]
      · have e : (ix2 a (fst k) : S512x2048.Idx) = (Rect.unit ![0, 0] ![512, 1024] inb_S512x2048_S512x1024_0_0).emb (ix2 a k) :=
          funext fun d => by fin_cases d <;> exact Fin.ext ((Nat.zero_add _).symm.trans (one_step 0 _))
        rw [e, View.canon_cons_emb, pay5]
        unfold X0_0 Pipeline.Window.fill
        rw [dif_pos (moved0_0 t _)]
        refine congr (congrArg₂ toGate ?_ ?_) ?_
        · blk_ext [iblk, h0, h1]
          show 5 * 1024 + k.val = 5120 + k.val
          omega
        · blk_ext [iblk, h8, h9]
        · blk_ext [iblk, h4, h5]
      · intro h
        have hk : 1024 ≤ k.val := (Rect.mem_set_unit (inb := inb_S512x2048_S512x1024_0_1024) |>.mp h 1).1
        omega
    · have e : (ix2 a (snd k) : S512x2048.Idx) = (Rect.unit ![0, 1024] ![512, 1024] inb_S512x2048_S512x1024_0_1024).emb (ix2 a k) :=
        funext fun d => by
          fin_cases d
          · exact Fin.ext ((Nat.zero_add _).symm.trans (one_step 0 _))
          · exact Fin.ext (one_step 1024 _)
      rw [gateG_snd, e, View.canon_cons_emb, pay6]
      unfold X0_1 Pipeline.Window.fill
      rw [dif_pos (moved0_1 t _)]
      refine congr (congrArg₂ toGate ?_ ?_) ?_
      · blk_ext [iblk, h2, h3]
        show 6 * 1024 + k.val = 5120 + (1024 + k.val)
        omega
      · blk_ext [iblk, h8, h9]
      · blk_ext [iblk, h6, h7]

/-! ## The reference -/

/-- The reference's gate at a column. -/
theorem ref_sig (p : (⟨S8192x8064, .f32⟩ : BufTy).Contents (Elt Ideal)) (j : S8192x2048.Idx) : Cert.RMergeDxIdeal.Read.val_main_v6 (F := Ideal) p j = Ideal.logistic (p (ix2 (j 0) (gate (j 1)))) := by
  rw [Cert.RMergeDxIdeal.Read.val_main_v6_apply, Cert.RMergeDxIdeal.Read.val_main_v5_apply, Cert.RMergeDxIdeal.Read.val_main_cst_0_apply, Cert.RMergeDxIdeal.Read.val_main_v4_apply, Cert.RMergeDxIdeal.Read.val_main_v3_apply, Cert.RMergeDxIdeal.Read.val_main_cst_apply, Cert.RMergeDxIdeal.Read.val_main_v2_apply, Cert.RMergeDxIdeal.Read.val_main_v1_apply, Cert.RMergeDxIdeal.Read.val_main_v0_apply]
  refine (logistic_host _).trans (congrArg (fun q => Ideal.logistic (p q)) ?_)
  funext d
  fin_cases d <;> exact Fin.ext (by simp [gate]; try omega)

theorem ref_fst (p : (⟨S8192x8064, .f32⟩ : BufTy).Contents (Elt Ideal)) (d : (⟨S8192x1024, .f32⟩ : BufTy).Contents (Elt Ideal)) : Cert.RMergeDxIdeal.Read.val_main_v26 (F := Ideal) p d = branchG fst p d := funext fun i => by
  rw [Cert.RMergeDxIdeal.Read.val_main_v26_apply, Cert.RMergeDxIdeal.Read.val_main_v20_apply, Cert.RMergeDxIdeal.Read.val_main_v10_apply, ref_sig]
  rw [show Cert.RMergeDxIdeal.Read.val_main_v15 (F := Ideal) d = d from shapeCast_self d _]
  refine (mul_comm (G := EReal) _ _).trans (congrArg (fun q => (d i : EReal) * Ideal.logistic (p q)) ?_)
  funext q
  fin_cases q <;> exact Fin.ext (by simp [gate, fst])

theorem ref_snd (p : (⟨S8192x8064, .f32⟩ : BufTy).Contents (Elt Ideal)) (d : (⟨S8192x1024, .f32⟩ : BufTy).Contents (Elt Ideal)) : Cert.RMergeDxIdeal.Read.val_main_v27 (F := Ideal) p d = branchG snd p d := funext fun i => by
  rw [Cert.RMergeDxIdeal.Read.val_main_v27_apply, Cert.RMergeDxIdeal.Read.val_main_v17_apply, Cert.RMergeDxIdeal.Read.val_main_v12_apply, ref_sig]
  rw [show Cert.RMergeDxIdeal.Read.val_main_v16 (F := Ideal) d = d from shapeCast_self d _]
  refine (mul_comm (G := EReal) _ _).trans (congrArg (fun q => (d i : EReal) * Ideal.logistic (p q)) ?_)
  funext q
  fin_cases q <;> exact Fin.ext (by simp [gate, snd])

theorem ref_gate (p : (⟨S8192x8064, .f32⟩ : BufTy).Contents (Elt Ideal)) (a b d : (⟨S8192x1024, .f32⟩ : BufTy).Contents (Elt Ideal)) : Cert.RMergeDxIdeal.Read.val_main_v25 (F := Ideal) p a b d = gateG p a b d := funext fun i => by
  obtain ⟨r, b', rfl⟩ : ∃ (r : Fin 8192) (b' : Fin 2048), i = ix2 r b' := ⟨i 0, i 1, eq_ix2 i⟩
  rw [Cert.RMergeDxIdeal.Read.val_main_v25_apply, Cert.RMergeDxIdeal.Read.val_main_v24_apply, Cert.RMergeDxIdeal.Read.val_main_v23_apply, Cert.RMergeDxIdeal.Read.val_main_v9_apply, Cert.RMergeDxIdeal.Read.val_main_v8_apply, Cert.RMergeDxIdeal.Read.val_main_v7_apply, Cert.RMergeDxIdeal.Read.val_main_cst_1_apply, ref_sig]
  have hs (u v w : EReal) : (u * v) * (w * (lit 0x3F800000#32 - w)) = u * v * w * (lit 0x3F800000#32 - w) := (mul_assoc _ _ _).symm
  rcases halves b' with ⟨k, rfl⟩ | ⟨k, rfl⟩
  · have e1 : Cert.RMergeDxIdeal.Read.val_main_v19 (F := Ideal) b d (ix2 r (fst k)) = (0 : EReal) :=
      (pad_apply_of_not_inside _ _ _ _ _ _ _ _ (1 : Fin 2) (fun h => by have : 1024 ≤ k.val := h.1; omega)).trans Ideal.ofBits_zero_f32
    have e2 : Cert.RMergeDxIdeal.Read.val_main_v22 (F := Ideal) a d (ix2 r (fst k)) = (d (ix2 r k) * a (ix2 r k) : EReal) := by
      refine (pad_apply_of_inside _ _ _ _ _ _ _ _ (ix2 r k) (fun q => by fin_cases q <;> simp [fst])).trans ?_
      show (Cert.RMergeDxIdeal.Read.val_main_v15 (F := Ideal) d (ix2 r k) : EReal) * a (ix2 r k) = _
      rw [show Cert.RMergeDxIdeal.Read.val_main_v15 (F := Ideal) d = d from shapeCast_self d _]
    rw [gateG_fst, e1, e2]
    exact (congrArg (fun q : EReal => q * _) (zero_add _)).trans (hs _ _ _)
  · have e1 : Cert.RMergeDxIdeal.Read.val_main_v22 (F := Ideal) a d (ix2 r (snd k)) = (0 : EReal) :=
      (pad_apply_of_not_inside _ _ _ _ _ _ _ _ (1 : Fin 2) (fun h => by have : (1024 + k.val - 0) / (0 + 1) < 1024 := h.2.2; omega)).trans Ideal.ofBits_zero_f32
    have e2 : Cert.RMergeDxIdeal.Read.val_main_v19 (F := Ideal) b d (ix2 r (snd k)) = (d (ix2 r k) * b (ix2 r k) : EReal) := by
      refine (pad_apply_of_inside _ _ _ _ _ _ _ _ (ix2 r k) (fun q => by fin_cases q <;> simp [snd])).trans ?_
      show (Cert.RMergeDxIdeal.Read.val_main_v16 (F := Ideal) d (ix2 r k) : EReal) * b (ix2 r k) = _
      rw [show Cert.RMergeDxIdeal.Read.val_main_v16 (F := Ideal) d = d from shapeCast_self d _]
    rw [gateG_snd, e1, e2]
    exact (congrArg (fun q : EReal => q * _) (add_zero _)).trans (hs _ _ _)

end Cert.KMergeDxIdeal.Hand

end
-- ==== Proof.Adam.lean ====
/-
  One step of the optimiser on a weight's shard: each entry from its own gradient and moments.
-/
module

public import proofs.«01_k».proof.Proof.Gen.KAdamIdeal.Value
public import proofs.«01_k».proof.Proof.Gen.RAdamIdeal.Run
public import proofs.«01_k».proof.Proof.Gen.RAdamIdeal.Read
public import proofs.«01_k».proof.Proof.Rows

@[expose] public section

noncomputable section

namespace Cert.KAdamIdeal.Hand

open Cert.KAdamIdeal Cert.KAdamIdeal.Gen Cert.Rows
open Cert.Products (one_step)
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## One entry -/

/-- The new first moment. -/
def mom (g m : EReal) : EReal := lit 0x3F666666#32 * m + lit 0x3DCCCCCD#32 * g

/-- The new second moment. -/
def vel (g v : EReal) : EReal := lit 0x3F7FBE77#32 * v + lit 0x3A83126F#32 * (g * g)

/-- The weight's change. -/
def del (w g m v : EReal) : EReal :=
  lit 0xBA83126F#32 * (Ideal.div (Ideal.div (mom g m) (lit 0x3F26BD02#32)) (Ideal.sqrt (Ideal.div (vel g v) (lit 0x3C231ACC#32)) + lit 0x322BCC77#32)
    + lit 0x3C23D70A#32 * w)

theorem pay1 (g m : Vec Ideal S128x1408 .f32) (j : S128x1408.Idx) : k0_pay1 g m j = mom (g j) (m j) := rfl
theorem pay2 (g v : Vec Ideal S128x1408 .f32) (j : S128x1408.Idx) : k0_pay2 g v j = vel (g j) (v j) := rfl
theorem pay3 (g m v w : Vec Ideal S128x1408 .f32) (j : S128x1408.Idx) : k0_pay3 g m v w j = del (w j) (g j) (m j) (v j) := rfl

/-! ## The arrays -/

def momG (g m : (⟨S2048x1408, .f32⟩ : BufTy).Contents (Elt Ideal)) : (⟨S2048x1408, .f32⟩ : BufTy).Contents (Elt Ideal) := fun i => mom (g i) (m i)
def velG (g v : (⟨S2048x1408, .f32⟩ : BufTy).Contents (Elt Ideal)) : (⟨S2048x1408, .f32⟩ : BufTy).Contents (Elt Ideal) := fun i => vel (g i) (v i)
def delG (w g m v : (⟨S2048x1408, .f32⟩ : BufTy).Contents (Elt Ideal)) : (⟨S2048x1408, .f32⟩ : BufTy).Contents (Elt Ideal) := fun i => del (w i) (g i) (m i) (v i)

theorem V_w : V m c main_arg0 = m ((c : Thread nD τ).loc main_arg0) := V_main_arg0 m c
theorem V_g : V m c main_arg1 = m ((c : Thread nD τ).loc main_arg1) := V_main_arg1 m c
theorem V_m : V m c main_arg2 = m ((c : Thread nD τ).loc main_arg2) := V_main_arg2 m c
theorem V_v : V m c main_arg3 = m ((c : Thread nD τ).loc main_arg3) := V_main_arg3 m c

theorem arr_del : (dats m 0 c).arrAt 4 cfg0.N = delG (V m c main_arg0) (V m c main_arg1) (V m c main_arg2) (V m c main_arg3) :=
  Dat.arrAt_eq_of_covers (dats m 0 c) 4 _ (by decide +kernel) fun t hf y => by
    blk_simp
    rw [after0_4]
    frame_out
    rw [pay3]
    rfl

theorem arr_mom : (dats m 0 c).arrAt 5 cfg0.N = momG (V m c main_arg1) (V m c main_arg2) :=
  Dat.arrAt_eq_of_covers (dats m 0 c) 5 _ (by decide +kernel) fun t hf y => by
    blk_simp
    rw [after0_5]
    frame_out
    rw [pay1]
    rfl

theorem arr_vel : (dats m 0 c).arrAt 6 cfg0.N = velG (V m c main_arg1) (V m c main_arg3) :=
  Dat.arrAt_eq_of_covers (dats m 0 c) 6 _ (by decide +kernel) fun t hf y => by
    blk_simp
    rw [after0_6]
    frame_out
    rw [pay2]
    rfl

/-! ## The reference -/

theorem ref_mom (g m : (⟨S2048x1408, .f32⟩ : BufTy).Contents (Elt Ideal)) : Cert.RAdamIdeal.Read.val_main_v4 (F := Ideal) g m = momG g m := rfl
theorem ref_vel (g v : (⟨S2048x1408, .f32⟩ : BufTy).Contents (Elt Ideal)) : Cert.RAdamIdeal.Read.val_main_v10 (F := Ideal) g v = velG g v := rfl
theorem ref_del (w g m v : (⟨S2048x1408, .f32⟩ : BufTy).Contents (Elt Ideal)) : Cert.RAdamIdeal.Read.val_main_v23 (F := Ideal) w g m v = delG w g m v := rfl

end Cert.KAdamIdeal.Hand

end
-- ==== Proof.Loss.lean ====
/-
  The loss of a device's rows, column by column, and its gradient.
-/
module

public import proofs.«01_k».proof.Proof.Gen.KLossIdeal.Value
public import proofs.«01_k».proof.Proof.Gen.RLossIdeal.Run
public import proofs.«01_k».proof.Proof.Gen.RLossIdeal.Read
public import proofs.«01_k».proof.Proof.Rows

@[expose] public section

noncomputable section

namespace Cert.KLossIdeal.Hand

open Cert.KLossIdeal Cert.KLossIdeal.Gen Cert.Rows
open Cert.Products (one_step half half_eq run_sum sum_blocks)
open Idealize.ShloMosaic hiding ix2 eq_ix2
open Idealize.ShloMosaic.ValueIdx Idealize.ShloMosaic.StableHlo Idealize.ShloMosaic.TcCoe
open Idealize.ShloMosaic.Pipeline (Dat)
open scoped BigOperators

variable (m : (ℓ : Loc nD τ sig) → Buf (Elt Ideal) ℓ) (c : Dev nD)

/-! ## Words and constants -/

theorem w2 : lit 0x40000000#32 = ((2 : ℝ) : EReal) := by
  unfold lit
  simp [Ideal.ofBits, Ideal.ieee]
  rw [← EReal.coe_mul]
  congr 1
  norm_num

theorem w1024 : lit 0x44800000#32 = ((1024 : ℝ) : EReal) := by
  unfold lit
  simp [Ideal.ofBits, Ideal.ieee]
  rw [← EReal.coe_mul]
  congr 1
  norm_num

theorem over1024 : lit 0x3A800000#32 = ((1 / 1024 : ℝ) : EReal) := by
  unfold lit
  simp [Ideal.ofBits, Ideal.ieee]
  rw [← EReal.coe_mul]
  congr 1
  norm_num

theorem over2048 : lit 0x3A000000#32 = ((1 / 2048 : ℝ) : EReal) := by
  unfold lit
  simp [Ideal.ofBits, Ideal.ieee]
  rw [← EReal.coe_mul]
  congr 1
  norm_num

/-- A sum of terms scaled by a real that is not negative is the scaled sum, at the infinities too. -/
theorem scaled_sum {n : ℕ} (r : ℝ) (hr : 0 ≤ r) (f : Fin n → EReal) : ∑ k, f k * (r : EReal) = (∑ k, f k) * (r : EReal) := by
  induction n with
  | zero => simp
  | succ n ih =>
    rw [Fin.sum_univ_succ, Fin.sum_univ_succ, ih, EReal.right_distrib_of_nonneg_of_ne_top (by exact_mod_cast hr) (EReal.coe_ne_top _)]

/-! ## One point -/

section
variable (x y : Vec Ideal S512x1024 .f32)

/-- A point's part of the gradient. -/
def fall (j : S512x1024.Idx) : EReal := ((x j : EReal) - y j) * lit 0x3A800000#32

/-- A point's part of a column's loss. -/
def part (j : S1x1024.Idx) : EReal :=
  (∑ k : Fin 512, ((x (ix2 k (j 1)) : EReal) - y (ix2 k (j 1))) * ((x (ix2 k (j 1)) : EReal) - y (ix2 k (j 1)))) * lit 0x3A000000#32

theorem pay2 (j : S512x1024.Idx) : k0_pay2 x y j = fall x y j := rfl

theorem pay3 (j : S1x1024.Idx) : k0_pay3 x y j = part x y j := by
  unfold k0_pay3 part
  refine congrArg (fun p : EReal => p * lit 0x3A000000#32) ?_
  refine (shapeCast_apply _ shapeCasts_S1024_S1x1024 j (ValueIdx.ix1 (j 1)) ?_).trans ?_
  · rw [Shape.rowMajor_val_two, Shape.rowMajor_val_one]
    have h : (j 0).val < 1 := (j 0).isLt
    show (j 1).val = (j 0).val * 1024 + (j 1).val
    omega
  · refine (Ideal.multiReduction_add_single _ _ reduces_S512x1024_S1024 (.inl rfl) rfl (ValueIdx.ix1 (j 1))).trans ?_
    refine Finset.sum_congr rfl fun k _ => congrArg (fun q => ((x q : EReal) - y q) * ((x q : EReal) - y q)) (funext fun d => by fin_cases d <;> rfl)

theorem pay4 (z : Vec Ideal S1x1024 .f32) (j : S1x1024.Idx) : k0_pay4 x y z j = (z j : EReal) + part x y j := by
  unfold k0_pay4
  simp only [shapeCast_self]
  exact congrArg (fun p : EReal => (z j : EReal) + p) (pay3 x y j)

end

theorem first (t : Fin cfg0.N) (h : t.val % 16 = 0) (j : S1x1024.Idx) :
    (outsAt0 m c t.val t.isLt).1 j = part (iblk m c 0 t) (iblk m c 1 t) j := by
  have hN : t.val < 16 := t.isLt
  rw [outsAt0_A m c t h (by omega)]
  frame_out
  exact pay3 _ _ j

theorem next (t : Fin cfg0.N) (h : ¬t.val % 16 = 0) (j : S1x1024.Idx) :
    (outsAt0 m c t.val t.isLt).1 j
      = ((outsAt0 m c (t.val - 1) (Nat.lt_of_le_of_lt (Nat.sub_le _ _) t.isLt)).1 j : EReal) + part (iblk m c 0 t) (iblk m c 1 t) j := by
  rw [outsAt0_B m c t h (by omega)]
  frame_out
  exact pay4 _ _ _ j

theorem slope (t : Fin cfg0.N) (j : S512x1024.Idx) :
    (outsAt0 m c t.val t.isLt).2 j = fall (iblk m c 0 t) (iblk m c 1 t) j := by
  have hN : t.val < 16 := t.isLt
  by_cases h : t.val % 16 = 0
  · rw [outsAt0_A m c t h (by omega)]
    frame_out
    exact pay2 _ _ j
  · rw [outsAt0_B m c t h (by omega)]
    frame_out
    exact pay2 _ _ j

/-! ## The arrays -/

/-- The region finds its operands as they were launched. -/
theorem V_x : V m c main_arg0 = m ((c : Thread nD τ).loc main_arg0) := V_main_arg0 m c
theorem V_y : V m c main_arg1 = m ((c : Thread nD τ).loc main_arg1) := V_main_arg1 m c

/-- Each column's part of the loss. -/
def lossG (x y : (⟨S8192x1024, .f32⟩ : BufTy).Contents (Elt Ideal)) : (⟨S1x1024, .f32⟩ : BufTy).Contents (Elt Ideal) := fun i =>
  (∑ k : Fin 8192, ((x (ix2 k (i 1)) : EReal) - y (ix2 k (i 1))) * ((x (ix2 k (i 1)) : EReal) - y (ix2 k (i 1)))) * lit 0x3A000000#32

/-- The loss's gradient. -/
def slopeG (x y : (⟨S8192x1024, .f32⟩ : BufTy).Contents (Elt Ideal)) : (⟨S8192x1024, .f32⟩ : BufTy).Contents (Elt Ideal) := fun i => ((x i : EReal) - y i) * lit 0x3A800000#32

theorem arr_slope : (dats m 0 c).arrAt 3 cfg0.N = slopeG (V m c main_arg0) (V m c main_arg1) :=
  Dat.arrAt_eq_of_covers (dats m 0 c) 3 _ (by decide +kernel) fun t hf y => by
    blk_simp
    rw [after0_3]
    refine (slope m c t y).trans ?_
    unfold fall slopeG
    refine congrArg (fun p : EReal => p * lit 0x3A800000#32) (congrArg₂ (fun (p q : EReal) => p - q) ?_ ?_)
    all_goals blk_ext [iblk]
    all_goals rfl

theorem blocks : ∀ t : Fin grid0.N, t.val % 16 = 15 → ∀ s : Fin 16, ∀ h : 16 * (t.val / 16) + s.val < grid0.N,
    win0_0.index (⟨16 * (t.val / 16) + s.val, h⟩ : Fin grid0.N) 0 = s.val ∧ win0_0.index (⟨16 * (t.val / 16) + s.val, h⟩ : Fin grid0.N) 1 = win0_2.index t 1
    ∧ win0_1.index (⟨16 * (t.val / 16) + s.val, h⟩ : Fin grid0.N) 0 = s.val ∧ win0_1.index (⟨16 * (t.val / 16) + s.val, h⟩ : Fin grid0.N) 1 = win0_2.index t 1 := by
  decide +kernel

theorem flush_last : ∀ t : Fin grid0.N, win0_2.flush t = true → t.val % 16 = 16 - 1 := by decide +kernel

theorem arr_loss : (dats m 0 c).arrAt 2 cfg0.N = lossG (V m c main_arg0) (V m c main_arg1) :=
  Dat.arrAt_eq_of_covers (dats m 0 c) 2 _ (by decide +kernel) fun t hf y => by
    obtain ⟨a, b, rfl⟩ : ∃ (a : Fin 1) (b : Fin 1024), y = ix2 a b := ⟨y 0, y 1, eq_ix2 y⟩
    have ht := flush_last t hf
    blk_simp
    rw [after0_2]
    refine (run_sum (by decide) (fun n h => (outsAt0 m c n h).1) (fun n h => (outsAt0 m c n h).1) (fun t => part (iblk m c 0 t) (iblk m c 1 t))
      id (first m c) (fun t h _ => next m c t h) (fun t h => next m c t (by omega)) t ht (ix2 a b)).trans ?_
    unfold lossG part
    rw [over2048]
    refine (scaled_sum (1 / 2048) (by norm_num) _).trans (congrArg (fun p : EReal => p * ((1 / 2048 : ℝ) : EReal)) ?_)
    refine sum_blocks rfl (fun s k hl => ?_) (fun s k hl => ?_)
    all_goals obtain ⟨h0, h1, h2, h3⟩ := blocks t ht s (Pipeline.run_point_lt_of_flush t ht s)
    all_goals refine congrArg₂ (fun (p q : EReal) => p - q) ?_ ?_
    · blk_ext [iblk, h0, h1]
      exact one_step _ _
    · blk_ext [iblk, h2, h3]
      exact one_step _ _
    · blk_ext [iblk, h0, h1]
      exact one_step _ _
    · blk_ext [iblk, h2, h3]
      exact one_step _ _

/-! ## The reference -/

theorem div1024 (p : EReal) : Ideal.div p (lit 0x44800000#32) = p * ((1 / 1024 : ℝ) : EReal) := by
  rw [w1024, Ideal.div, if_neg (by exact_mod_cast (by norm_num : (1024 : ℝ) ≠ 0)), one_div, EReal.coe_inv]

theorem ref_loss (x y : (⟨S8192x1024, .f32⟩ : BufTy).Contents (Elt Ideal)) : Cert.RLossIdeal.Read.val_main_v7 (F := Ideal) x y = lossG x y := funext fun i => by
  rw [Cert.RLossIdeal.Read.val_main_v7_apply, Cert.RLossIdeal.Read.val_main_v6_apply, Cert.RLossIdeal.Read.val_main_cst_1_apply, Cert.RLossIdeal.Read.val_main_v5_apply, Cert.RLossIdeal.Read.val_main_v4_apply, Cert.RLossIdeal.Read.val_main_cst_0_apply, Cert.RLossIdeal.Read.val_main_v3_apply, Cert.RLossIdeal.Read.val_main_v2_apply, Cert.RLossIdeal.Read.val_main_cst_apply]
  have e : ∑ k : Fin 8192, (Cert.RLossIdeal.Read.val_main_v1 (F := Ideal) x y (Cert.RLossIdeal.Read.idx_main_v2 (Cert.RLossIdeal.Read.idx_main_v3 i) k) : EReal)
      = ∑ k : Fin 8192, ((x (ix2 k (i 1)) : EReal) - y (ix2 k (i 1))) * ((x (ix2 k (i 1)) : EReal) - y (ix2 k (i 1))) :=
    Finset.sum_congr rfl fun k _ => congrArg (fun q => ((x q : EReal) - y q) * ((x q : EReal) - y q)) (funext fun d => by fin_cases d <;> rfl)
  show half * Ideal.div (Ideal.ofBits .f32 0x00000000#32 + _) (lit 0x44800000#32) = _
  rw [div1024, e, half_eq, Ideal.ofBits_zero_f32, zero_add, mul_comm, mul_assoc, ← EReal.coe_mul]
  unfold lossG
  rw [over2048]
  norm_num

theorem ref_slope (x y : (⟨S8192x1024, .f32⟩ : BufTy).Contents (Elt Ideal)) : Cert.RLossIdeal.Read.val_main_v22 (F := Ideal) x y = slopeG x y := funext fun i => by
  rw [Cert.RLossIdeal.Read.val_main_v22_apply, Cert.RLossIdeal.Read.val_main_v21_apply, Cert.RLossIdeal.Read.val_main_v20_apply, Cert.RLossIdeal.Read.val_main_v19_apply, Cert.RLossIdeal.Read.val_main_cst_9_apply, Cert.RLossIdeal.Read.val_main_v18_apply, Cert.RLossIdeal.Read.val_main_v17_apply, Cert.RLossIdeal.Read.val_main_cst_7_apply, Cert.RLossIdeal.Read.val_main_cst_8_apply, Cert.RLossIdeal.Read.val_main_v11_apply, Cert.RLossIdeal.Read.val_main_v10_apply, Cert.RLossIdeal.Read.val_main_cst_2_apply, Cert.RLossIdeal.Read.val_main_v8_apply]
  show Ideal.div (half * Ideal.ofBits .f32 0x3F800000#32) (lit 0x44800000#32) * (lit 0x40000000#32 * ((x i : EReal) - y i)) = ((x i : EReal) - y i) * lit 0x3A800000#32
  rw [div1024, half_eq, Ideal.ofBits_one_f32, mul_one, w2, over1024, ← mul_assoc, ← EReal.coe_mul, ← EReal.coe_mul, mul_comm]
  norm_num

end Cert.KLossIdeal.Hand

end
-- ==== Proof.CallsRows.lean ====
/-
  The normalisations of rows, the merge of the two mixers, the optimiser's step and the loss: each call's frames and its value, from the arrays of its module.
-/
module

public import proofs.«01_k».proof.Defs
public import proofs.«01_k».proof.Proof.Gen.KNorm
public import proofs.«01_k».proof.Proof.Gen.KNormIdeal
public import proofs.«01_k».proof.Proof.Gen.RNormIdeal
public import proofs.«01_k».proof.Proof.Norm
public import proofs.«01_k».proof.Proof.Gen.KQNorm
public import proofs.«01_k».proof.Proof.Gen.KQNormIdeal
public import proofs.«01_k».proof.Proof.Gen.RQNormIdeal
public import proofs.«01_k».proof.Proof.QNorm
public import proofs.«01_k».proof.Proof.Gen.KKvNorm
public import proofs.«01_k».proof.Proof.Gen.KKvNormIdeal
public import proofs.«01_k».proof.Proof.Gen.RKvNormIdeal
public import proofs.«01_k».proof.Proof.KvNorm
public import proofs.«01_k».proof.Proof.Gen.KGatedNorm
public import proofs.«01_k».proof.Proof.Gen.KGatedNormIdeal
public import proofs.«01_k».proof.Proof.Gen.RGatedNormIdeal
public import proofs.«01_k».proof.Proof.GatedNorm
public import proofs.«01_k».proof.Proof.Gen.KMerge
public import proofs.«01_k».proof.Proof.Gen.KMergeIdeal
public import proofs.«01_k».proof.Proof.Gen.RMergeIdeal
public import proofs.«01_k».proof.Proof.Merge
public import proofs.«01_k».proof.Proof.Gen.KMergeDx
public import proofs.«01_k».proof.Proof.Gen.KMergeDxIdeal
public import proofs.«01_k».proof.Proof.Gen.RMergeDxIdeal
public import proofs.«01_k».proof.Proof.MergeDx
public import proofs.«01_k».proof.Proof.Gen.KAdam
public import proofs.«01_k».proof.Proof.Gen.KAdamIdeal
public import proofs.«01_k».proof.Proof.Gen.RAdamIdeal
public import proofs.«01_k».proof.Proof.Adam
public import proofs.«01_k».proof.Proof.Gen.KLoss
public import proofs.«01_k».proof.Proof.Gen.KLossIdeal
public import proofs.«01_k».proof.Proof.Gen.RLossIdeal
public import proofs.«01_k».proof.Proof.Loss
public import Idealize.ShloMosaic.Adequacy
public import Idealize.ShloMosaic.Init

@[expose] public section

set_option maxRecDepth 16384

noncomputable section

namespace Cert.Proof

open Idealize.ShloMosaic Idealize.SL.Sem
open Cert.Products (run_of_eq)

/-! ## Norm -/

set_option maxHeartbeats 2000000 in
set_option backward.isDefEq.respectTransparency.types false in
theorem defs₀_KNorm : Cert.KNorm.defs₀ (F := Bits) = Cert.KNormIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KNorm : Cert.KNorm.defs (F := Bits) = Cert.KNormIdeal.defs (F := Bits) := congrArg (Pipeline.defs Cert.KNormIdeal.pcfgs) defs₀_KNorm

set_option maxHeartbeats 2000000 in
set_option backward.isDefEq.respectTransparency.types false in
theorem main_KNorm (c) : Cert.KNorm.main (F := Bits) c = Cert.KNormIdeal.main (F := Bits) c := by
  with_unfolding_all rfl

theorem frame_KNorm : Cert.quiescent_KNorm := fun m ρ _ =>
  run_of_eq defs_KNorm (congrArg onTc (funext main_KNorm)) (Cert.KNormIdeal.Gen.frame (F := Bits) m ρ)

theorem frame_KNormIdeal : Cert.quiescent_KNormIdeal := fun m ρ _ => Cert.KNormIdeal.Gen.frame m ρ

theorem frame_RNormIdeal : Cert.quiescent_RNormIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RNormIdeal.Value.run m ρ)

theorem algebraic_Norm : Cert.algebraic_KNormIdeal_RNormIdeal := by
  intro m ρ m' ρ' _ hargs
  refine ⟨fun c => Cert.KNormIdeal.Hand.prod (m ((c.tc : Thread Cert.KNormIdeal.nD Cert.KNormIdeal.τ).loc Cert.KNormIdeal.main_arg0)) (m ((c.tc : Thread Cert.KNormIdeal.nD Cert.KNormIdeal.τ).loc Cert.KNormIdeal.main_arg1)), ?_, ?_⟩
  · refine (θ_run _ _ _).mono (fun r h c => ?_) (Cert.KNormIdeal.Value.run_blocks m ρ)
    obtain ⟨h0, hu⟩ := h c
    exact ⟨h0.trans ((Cert.KNormIdeal.Hand.arr m c).trans (by rw [Cert.KNormIdeal.Hand.V_x m c, Cert.KNormIdeal.Hand.V_g m c])), hu⟩
  · refine (θ_run _ _ _).mono (fun r h c => ?_) (Cert.RNormIdeal.Value.run m' ρ')
    obtain ⟨a0, a1⟩ := hargs c
    obtain ⟨h0, hu⟩ := h c
    exact ⟨h0.trans ((Cert.RNormIdeal.Read.val_main_v12_eq _ _).trans ((Cert.KNormIdeal.Hand.ref _ _).trans (by rw [a0, a1]))), hu⟩

/-! ## QNorm -/

set_option maxHeartbeats 2000000 in
set_option backward.isDefEq.respectTransparency.types false in
theorem defs₀_KQNorm : Cert.KQNorm.defs₀ (F := Bits) = Cert.KQNormIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KQNorm : Cert.KQNorm.defs (F := Bits) = Cert.KQNormIdeal.defs (F := Bits) := congrArg (Pipeline.defs Cert.KQNormIdeal.pcfgs) defs₀_KQNorm

set_option maxHeartbeats 2000000 in
set_option backward.isDefEq.respectTransparency.types false in
theorem main_KQNorm (c) : Cert.KQNorm.main (F := Bits) c = Cert.KQNormIdeal.main (F := Bits) c := by
  with_unfolding_all rfl

theorem frame_KQNorm : Cert.quiescent_KQNorm := fun m ρ _ =>
  run_of_eq defs_KQNorm (congrArg onTc (funext main_KQNorm)) (Cert.KQNormIdeal.Gen.frame (F := Bits) m ρ)

theorem frame_KQNormIdeal : Cert.quiescent_KQNormIdeal := fun m ρ _ => Cert.KQNormIdeal.Gen.frame m ρ

theorem frame_RQNormIdeal : Cert.quiescent_RQNormIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RQNormIdeal.Value.run m ρ)

theorem algebraic_QNorm : Cert.algebraic_KQNormIdeal_RQNormIdeal := by
  intro m ρ m' ρ' _ hargs
  refine ⟨fun c => Cert.KQNormIdeal.Hand.prod (m ((c.tc : Thread Cert.KQNormIdeal.nD Cert.KQNormIdeal.τ).loc Cert.KQNormIdeal.main_arg0)) (m ((c.tc : Thread Cert.KQNormIdeal.nD Cert.KQNormIdeal.τ).loc Cert.KQNormIdeal.main_arg1)), ?_, ?_⟩
  · refine (θ_run _ _ _).mono (fun r h c => ?_) (Cert.KQNormIdeal.Value.run_blocks m ρ)
    obtain ⟨h0, hu⟩ := h c
    exact ⟨h0.trans ((Cert.KQNormIdeal.Hand.arr m c).trans (by rw [Cert.KQNormIdeal.Hand.V_p m c, Cert.KQNormIdeal.Hand.V_g m c])), hu⟩
  · refine (θ_run _ _ _).mono (fun r h c => ?_) (Cert.RQNormIdeal.Value.run m' ρ')
    obtain ⟨a0, a1⟩ := hargs c
    obtain ⟨h0, hu⟩ := h c
    exact ⟨h0.trans ((Cert.RQNormIdeal.Read.val_main_v13_eq _ _).trans ((Cert.KQNormIdeal.Hand.ref _ _).trans (by rw [a0, a1]))), hu⟩

/-! ## KvNorm -/

set_option maxHeartbeats 2000000 in
set_option backward.isDefEq.respectTransparency.types false in
theorem defs₀_KKvNorm : Cert.KKvNorm.defs₀ (F := Bits) = Cert.KKvNormIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KKvNorm : Cert.KKvNorm.defs (F := Bits) = Cert.KKvNormIdeal.defs (F := Bits) := congrArg (Pipeline.defs Cert.KKvNormIdeal.pcfgs) defs₀_KKvNorm

set_option maxHeartbeats 2000000 in
set_option backward.isDefEq.respectTransparency.types false in
theorem main_KKvNorm (c) : Cert.KKvNorm.main (F := Bits) c = Cert.KKvNormIdeal.main (F := Bits) c := by
  with_unfolding_all rfl

theorem frame_KKvNorm : Cert.quiescent_KKvNorm := fun m ρ _ =>
  run_of_eq defs_KKvNorm (congrArg onTc (funext main_KKvNorm)) (Cert.KKvNormIdeal.Gen.frame (F := Bits) m ρ)

theorem frame_KKvNormIdeal : Cert.quiescent_KKvNormIdeal := fun m ρ _ => Cert.KKvNormIdeal.Gen.frame m ρ

theorem frame_RKvNormIdeal : Cert.quiescent_RKvNormIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RKvNormIdeal.Value.run m ρ)

theorem algebraic_KvNorm : Cert.algebraic_KKvNormIdeal_RKvNormIdeal := by
  intro m ρ m' ρ' _ hargs
  refine ⟨fun c => Cert.KKvNormIdeal.Hand.prod (m ((c.tc : Thread Cert.KKvNormIdeal.nD Cert.KKvNormIdeal.τ).loc Cert.KKvNormIdeal.main_arg0)) (m ((c.tc : Thread Cert.KKvNormIdeal.nD Cert.KKvNormIdeal.τ).loc Cert.KKvNormIdeal.main_arg1)), ?_, ?_⟩
  · refine (θ_run _ _ _).mono (fun r h c => ?_) (Cert.KKvNormIdeal.Value.run_blocks m ρ)
    obtain ⟨h0, hu⟩ := h c
    exact ⟨h0.trans ((Cert.KKvNormIdeal.Hand.arr m c).trans (by rw [Cert.KKvNormIdeal.Hand.V_p m c, Cert.KKvNormIdeal.Hand.V_g m c])), hu⟩
  · refine (θ_run _ _ _).mono (fun r h c => ?_) (Cert.RKvNormIdeal.Value.run m' ρ')
    obtain ⟨a0, a1⟩ := hargs c
    obtain ⟨h0, hu⟩ := h c
    exact ⟨h0.trans ((Cert.RKvNormIdeal.Read.val_main_v13_eq _ _).trans ((Cert.KKvNormIdeal.Hand.ref _ _).trans (by rw [a0, a1]))), hu⟩

/-! ## GatedNorm -/

set_option maxHeartbeats 2000000 in
set_option backward.isDefEq.respectTransparency.types false in
theorem defs₀_KGatedNorm : Cert.KGatedNorm.defs₀ (F := Bits) = Cert.KGatedNormIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KGatedNorm : Cert.KGatedNorm.defs (F := Bits) = Cert.KGatedNormIdeal.defs (F := Bits) := congrArg (Pipeline.defs Cert.KGatedNormIdeal.pcfgs) defs₀_KGatedNorm

set_option maxHeartbeats 2000000 in
set_option backward.isDefEq.respectTransparency.types false in
theorem main_KGatedNorm (c) : Cert.KGatedNorm.main (F := Bits) c = Cert.KGatedNormIdeal.main (F := Bits) c := by
  with_unfolding_all rfl

theorem frame_KGatedNorm : Cert.quiescent_KGatedNorm := fun m ρ _ =>
  run_of_eq defs_KGatedNorm (congrArg onTc (funext main_KGatedNorm)) (Cert.KGatedNormIdeal.Gen.frame (F := Bits) m ρ)

theorem frame_KGatedNormIdeal : Cert.quiescent_KGatedNormIdeal := fun m ρ _ => Cert.KGatedNormIdeal.Gen.frame m ρ

theorem frame_RGatedNormIdeal : Cert.quiescent_RGatedNormIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RGatedNormIdeal.Value.run m ρ)

theorem algebraic_GatedNorm : Cert.algebraic_KGatedNormIdeal_RGatedNormIdeal := by
  intro m ρ m' ρ' _ hargs
  refine ⟨fun c => Cert.KGatedNormIdeal.Hand.prod (m ((c.tc : Thread Cert.KGatedNormIdeal.nD Cert.KGatedNormIdeal.τ).loc Cert.KGatedNormIdeal.main_arg0)) (m ((c.tc : Thread Cert.KGatedNormIdeal.nD Cert.KGatedNormIdeal.τ).loc Cert.KGatedNormIdeal.main_arg1)) (m ((c.tc : Thread Cert.KGatedNormIdeal.nD Cert.KGatedNormIdeal.τ).loc Cert.KGatedNormIdeal.main_arg2)), ?_, ?_⟩
  · refine (θ_run _ _ _).mono (fun r h c => ?_) (Cert.KGatedNormIdeal.Value.run_blocks m ρ)
    obtain ⟨h0, hu⟩ := h c
    exact ⟨h0.trans ((Cert.KGatedNormIdeal.Hand.arr m c).trans (by rw [Cert.KGatedNormIdeal.Hand.V_y m c, Cert.KGatedNormIdeal.Hand.V_p m c, Cert.KGatedNormIdeal.Hand.V_g m c])), hu⟩
  · refine (θ_run _ _ _).mono (fun r h c => ?_) (Cert.RGatedNormIdeal.Value.run m' ρ')
    obtain ⟨a0, a1, a2⟩ := hargs c
    obtain ⟨h0, hu⟩ := h c
    exact ⟨h0.trans ((Cert.RGatedNormIdeal.Read.val_main_v15_eq _ _ _).trans ((Cert.KGatedNormIdeal.Hand.ref _ _ _).trans (by rw [a0, a1, a2]))), hu⟩

/-! ## Merge -/

set_option maxHeartbeats 2000000 in
set_option backward.isDefEq.respectTransparency.types false in
theorem defs₀_KMerge : Cert.KMerge.defs₀ (F := Bits) = Cert.KMergeIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KMerge : Cert.KMerge.defs (F := Bits) = Cert.KMergeIdeal.defs (F := Bits) := congrArg (Pipeline.defs Cert.KMergeIdeal.pcfgs) defs₀_KMerge

set_option maxHeartbeats 2000000 in
set_option backward.isDefEq.respectTransparency.types false in
theorem main_KMerge (c) : Cert.KMerge.main (F := Bits) c = Cert.KMergeIdeal.main (F := Bits) c := by
  with_unfolding_all rfl

theorem frame_KMerge : Cert.quiescent_KMerge := fun m ρ _ =>
  run_of_eq defs_KMerge (congrArg onTc (funext main_KMerge)) (Cert.KMergeIdeal.Gen.frame (F := Bits) m ρ)

theorem frame_KMergeIdeal : Cert.quiescent_KMergeIdeal := fun m ρ _ => Cert.KMergeIdeal.Gen.frame m ρ

theorem frame_RMergeIdeal : Cert.quiescent_RMergeIdeal := fun m ρ _ =>
  (θ_run _ _ _).mono (fun r h => ⟨fun c => (h c).2, funext fun s => by
    rcases s with ⟨t, s⟩
    cases s with
    | reg s => exact Fin.elim0 s
    | dma s => exact Fin.elim0 s⟩) (Cert.RMergeIdeal.Value.run m ρ)

theorem algebraic_Merge : Cert.algebraic_KMergeIdeal_RMergeIdeal := by
  intro m ρ m' ρ' _ hargs
  refine ⟨fun c => Cert.KMergeIdeal.Hand.prod (m ((c.tc : Thread Cert.KMergeIdeal.nD Cert.KMergeIdeal.τ).loc Cert.KMergeIdeal.main_arg0)) (m ((c.tc : Thread Cert.KMergeIdeal.nD Cert.KMergeIdeal.τ).loc Cert.KMergeIdeal.main_arg1)) (m ((c.tc : Thread Cert.KMergeIdeal.nD Cert.KMergeIdeal.τ).loc Cert.KMergeIdeal.main_arg2)), ?_, ?_⟩
  · refine (θ_run _ _ _).mono (fun r h c => ?_) (Cert.KMergeIdeal.Value.run_blocks m ρ)
    obtain ⟨h0, hu⟩ := h c
    exact ⟨h0.trans ((Cert.KMergeIdeal.Hand.arr m c).trans (by rw [Cert.KMergeIdeal.Hand.V_p m c, Cert.KMergeIdeal.Hand.V_a m c, Cert.KMergeIdeal.Hand.V_b m c])), hu⟩
  · refine (θ_run _ _ _).mono (fun r h c => ?_) (Cert.RMergeIdeal.Value.run m' ρ')
    obtain ⟨a0, a1, a2⟩ := hargs c
    obtain ⟨h0, hu⟩ := h c
    exact ⟨h0.trans ((Cert.RMergeIdeal.Read.val_main_v12_eq _ _ _).trans ((Cert.KMergeIdeal.Hand.ref _ _ _).trans (by rw [a0, a1, a2]))), hu⟩

/-! ## MergeDx -/

set_option maxHeartbeats 2000000 in
set_option backward.isDefEq.respectTransparency.types false in
theorem defs₀_KMergeDx : Cert.KMergeDx.defs₀ (F := Bits) = Cert.KMergeDxIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KMergeDx : Cert.KMergeDx.defs (F := Bits) = Cert.KMergeDxIdeal.defs (F := Bits) := congrArg (Pipeline.defs Cert.KMergeDxIdeal.pcfgs) defs₀_KMergeDx

set_option maxHeartbeats 2000000 in
set_option backward.isDefEq.respectTransparency.types false in
theorem main_KMergeDx (c) : Cert.KMergeDx.main (F := Bits) c = Cert.KMergeDxIdeal.main (F := Bits) c := by
  with_unfolding_all rfl

theorem frame_KMergeDx : Cert.quiescent_KMergeDx := fun m ρ _ =>
  run_of_eq defs_KMergeDx (congrArg onTc (funext main_KMergeDx)) (Cert.KMergeDxIdeal.Gen.frame (F := Bits) m ρ)

theorem frame_KMergeDxIdeal : Cert.quiescent_KMergeDxIdeal := fun m ρ _ => Cert.KMergeDxIdeal.Gen.frame m ρ

theorem frame_RMergeDxIdeal : Cert.quiescent_RMergeDxIdeal := fun m ρ _ =>
  (θ_run _ _ _).mono (fun r h => ⟨fun c => (h c).2.2.2, funext fun s => by
    rcases s with ⟨t, s⟩
    cases s with
    | reg s => exact Fin.elim0 s
    | dma s => exact Fin.elim0 s⟩) (Cert.RMergeDxIdeal.Value.run m ρ)

theorem algebraic_MergeDx : Cert.algebraic_KMergeDxIdeal_RMergeDxIdeal := by
  intro m ρ m' ρ' _ hargs
  refine ⟨fun c => Cert.KMergeDxIdeal.Hand.gateG (m ((c.tc : Thread Cert.KMergeDxIdeal.nD Cert.KMergeDxIdeal.τ).loc Cert.KMergeDxIdeal.main_arg0)) (m ((c.tc : Thread Cert.KMergeDxIdeal.nD Cert.KMergeDxIdeal.τ).loc Cert.KMergeDxIdeal.main_arg1)) (m ((c.tc : Thread Cert.KMergeDxIdeal.nD Cert.KMergeDxIdeal.τ).loc Cert.KMergeDxIdeal.main_arg2)) (m ((c.tc : Thread Cert.KMergeDxIdeal.nD Cert.KMergeDxIdeal.τ).loc Cert.KMergeDxIdeal.main_arg3)), fun c => Cert.KMergeDxIdeal.Hand.branchG Cert.KMergeDxIdeal.Hand.fst (m ((c.tc : Thread Cert.KMergeDxIdeal.nD Cert.KMergeDxIdeal.τ).loc Cert.KMergeDxIdeal.main_arg0)) (m ((c.tc : Thread Cert.KMergeDxIdeal.nD Cert.KMergeDxIdeal.τ).loc Cert.KMergeDxIdeal.main_arg3)), fun c => Cert.KMergeDxIdeal.Hand.branchG Cert.KMergeDxIdeal.Hand.snd (m ((c.tc : Thread Cert.KMergeDxIdeal.nD Cert.KMergeDxIdeal.τ).loc Cert.KMergeDxIdeal.main_arg0)) (m ((c.tc : Thread Cert.KMergeDxIdeal.nD Cert.KMergeDxIdeal.τ).loc Cert.KMergeDxIdeal.main_arg3)), ?_, ?_⟩
  · refine (θ_run _ _ _).mono (fun r h c => ?_) (Cert.KMergeDxIdeal.Value.run_blocks m ρ)
    obtain ⟨h0, h1, h2, hu⟩ := h c
    exact ⟨h0.trans ((Cert.KMergeDxIdeal.Hand.arr_gate m c).trans (by rw [Cert.KMergeDxIdeal.Hand.V_p m c, Cert.KMergeDxIdeal.Hand.V_a m c, Cert.KMergeDxIdeal.Hand.V_b m c, Cert.KMergeDxIdeal.Hand.V_d m c])),
      h1.trans ((Cert.KMergeDxIdeal.Hand.arr_fst m c).trans (by rw [Cert.KMergeDxIdeal.Hand.V_p m c, Cert.KMergeDxIdeal.Hand.V_d m c])),
      h2.trans ((Cert.KMergeDxIdeal.Hand.arr_snd m c).trans (by rw [Cert.KMergeDxIdeal.Hand.V_p m c, Cert.KMergeDxIdeal.Hand.V_d m c])), hu⟩
  · refine (θ_run _ _ _).mono (fun r h c => ?_) (Cert.RMergeDxIdeal.Value.run m' ρ')
    obtain ⟨a0, a1, a2, a3⟩ := hargs c
    obtain ⟨h0, h1, h2, hu⟩ := h c
    exact ⟨h0.trans ((Cert.RMergeDxIdeal.Read.val_main_v25_eq _ _ _ _).trans ((Cert.KMergeDxIdeal.Hand.ref_gate _ _ _ _).trans (by rw [a0, a1, a2, a3]))),
      h1.trans ((Cert.RMergeDxIdeal.Read.val_main_v26_eq _ _).trans ((Cert.KMergeDxIdeal.Hand.ref_fst _ _).trans (by rw [a0, a3]))),
      h2.trans ((Cert.RMergeDxIdeal.Read.val_main_v27_eq _ _).trans ((Cert.KMergeDxIdeal.Hand.ref_snd _ _).trans (by rw [a0, a3]))), hu⟩

/-! ## Adam -/

set_option maxHeartbeats 2000000 in
set_option backward.isDefEq.respectTransparency.types false in
theorem defs₀_KAdam : Cert.KAdam.defs₀ (F := Bits) = Cert.KAdamIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KAdam : Cert.KAdam.defs (F := Bits) = Cert.KAdamIdeal.defs (F := Bits) := congrArg (Pipeline.defs Cert.KAdamIdeal.pcfgs) defs₀_KAdam

set_option maxHeartbeats 2000000 in
set_option backward.isDefEq.respectTransparency.types false in
theorem main_KAdam (c) : Cert.KAdam.main (F := Bits) c = Cert.KAdamIdeal.main (F := Bits) c := by
  with_unfolding_all rfl

theorem frame_KAdam : Cert.quiescent_KAdam := fun m ρ _ =>
  run_of_eq defs_KAdam (congrArg onTc (funext main_KAdam)) (Cert.KAdamIdeal.Gen.frame (F := Bits) m ρ)

theorem frame_KAdamIdeal : Cert.quiescent_KAdamIdeal := fun m ρ _ => Cert.KAdamIdeal.Gen.frame m ρ

theorem frame_RAdamIdeal : Cert.quiescent_RAdamIdeal := fun m ρ _ =>
  (θ_run _ _ _).mono (fun r h => ⟨fun c => (h c).2.2.2, funext fun s => by
    rcases s with ⟨t, s⟩
    cases s with
    | reg s => exact Fin.elim0 s
    | dma s => exact Fin.elim0 s⟩) (Cert.RAdamIdeal.Value.run m ρ)

theorem algebraic_Adam : Cert.algebraic_KAdamIdeal_RAdamIdeal := by
  intro m ρ m' ρ' _ hargs
  refine ⟨fun c => Cert.KAdamIdeal.Hand.delG (m ((c.tc : Thread Cert.KAdamIdeal.nD Cert.KAdamIdeal.τ).loc Cert.KAdamIdeal.main_arg0)) (m ((c.tc : Thread Cert.KAdamIdeal.nD Cert.KAdamIdeal.τ).loc Cert.KAdamIdeal.main_arg1)) (m ((c.tc : Thread Cert.KAdamIdeal.nD Cert.KAdamIdeal.τ).loc Cert.KAdamIdeal.main_arg2)) (m ((c.tc : Thread Cert.KAdamIdeal.nD Cert.KAdamIdeal.τ).loc Cert.KAdamIdeal.main_arg3)), fun c => Cert.KAdamIdeal.Hand.momG (m ((c.tc : Thread Cert.KAdamIdeal.nD Cert.KAdamIdeal.τ).loc Cert.KAdamIdeal.main_arg1)) (m ((c.tc : Thread Cert.KAdamIdeal.nD Cert.KAdamIdeal.τ).loc Cert.KAdamIdeal.main_arg2)), fun c => Cert.KAdamIdeal.Hand.velG (m ((c.tc : Thread Cert.KAdamIdeal.nD Cert.KAdamIdeal.τ).loc Cert.KAdamIdeal.main_arg1)) (m ((c.tc : Thread Cert.KAdamIdeal.nD Cert.KAdamIdeal.τ).loc Cert.KAdamIdeal.main_arg3)), ?_, ?_⟩
  · refine (θ_run _ _ _).mono (fun r h c => ?_) (Cert.KAdamIdeal.Value.run_blocks m ρ)
    obtain ⟨h0, h1, h2, hu⟩ := h c
    exact ⟨h0.trans ((Cert.KAdamIdeal.Hand.arr_del m c).trans (by rw [Cert.KAdamIdeal.Hand.V_w m c, Cert.KAdamIdeal.Hand.V_g m c, Cert.KAdamIdeal.Hand.V_m m c, Cert.KAdamIdeal.Hand.V_v m c])),
      h1.trans ((Cert.KAdamIdeal.Hand.arr_mom m c).trans (by rw [Cert.KAdamIdeal.Hand.V_g m c, Cert.KAdamIdeal.Hand.V_m m c])),
      h2.trans ((Cert.KAdamIdeal.Hand.arr_vel m c).trans (by rw [Cert.KAdamIdeal.Hand.V_g m c, Cert.KAdamIdeal.Hand.V_v m c])), hu⟩
  · refine (θ_run _ _ _).mono (fun r h c => ?_) (Cert.RAdamIdeal.Value.run m' ρ')
    obtain ⟨a0, a1, a2, a3⟩ := hargs c
    obtain ⟨h0, h1, h2, hu⟩ := h c
    exact ⟨h0.trans ((Cert.RAdamIdeal.Read.val_main_v23_eq _ _ _ _).trans ((Cert.KAdamIdeal.Hand.ref_del _ _ _ _).trans (by rw [a0, a1, a2, a3]))),
      h1.trans ((Cert.RAdamIdeal.Read.val_main_v4_eq _ _).trans ((Cert.KAdamIdeal.Hand.ref_mom _ _).trans (by rw [a1, a2]))),
      h2.trans ((Cert.RAdamIdeal.Read.val_main_v10_eq _ _).trans ((Cert.KAdamIdeal.Hand.ref_vel _ _).trans (by rw [a1, a3]))), hu⟩

/-! ## Loss -/

set_option maxHeartbeats 2000000 in
set_option backward.isDefEq.respectTransparency.types false in
theorem defs₀_KLoss : Cert.KLoss.defs₀ (F := Bits) = Cert.KLossIdeal.defs₀ (F := Bits) := funext fun pr => funext fun ℓ => funext fun a => by
  cases pr with
  | tc =>
    match ℓ, a with
    | 0, (t, s) => with_unfolding_all rfl
  | scScalar _ => with_unfolding_all rfl
  | scVector _ _ => with_unfolding_all rfl

theorem defs_KLoss : Cert.KLoss.defs (F := Bits) = Cert.KLossIdeal.defs (F := Bits) := congrArg (Pipeline.defs Cert.KLossIdeal.pcfgs) defs₀_KLoss

set_option maxHeartbeats 2000000 in
set_option backward.isDefEq.respectTransparency.types false in
theorem main_KLoss (c) : Cert.KLoss.main (F := Bits) c = Cert.KLossIdeal.main (F := Bits) c := by
  with_unfolding_all rfl

theorem frame_KLoss : Cert.quiescent_KLoss := fun m ρ _ =>
  run_of_eq defs_KLoss (congrArg onTc (funext main_KLoss)) (Cert.KLossIdeal.Gen.frame (F := Bits) m ρ)

theorem frame_KLossIdeal : Cert.quiescent_KLossIdeal := fun m ρ _ => Cert.KLossIdeal.Gen.frame m ρ

theorem frame_RLossIdeal : Cert.quiescent_RLossIdeal := fun m ρ _ =>
  (θ_run _ _ _).mono (fun r h => ⟨fun c => (h c).2.2, funext fun s => by
    rcases s with ⟨t, s⟩
    cases s with
    | reg s => exact Fin.elim0 s
    | dma s => exact Fin.elim0 s⟩) (Cert.RLossIdeal.Value.run m ρ)

theorem algebraic_Loss : Cert.algebraic_KLossIdeal_RLossIdeal := by
  intro m ρ m' ρ' _ hargs
  refine ⟨fun c => Cert.KLossIdeal.Hand.lossG (m ((c.tc : Thread Cert.KLossIdeal.nD Cert.KLossIdeal.τ).loc Cert.KLossIdeal.main_arg0)) (m ((c.tc : Thread Cert.KLossIdeal.nD Cert.KLossIdeal.τ).loc Cert.KLossIdeal.main_arg1)), fun c => Cert.KLossIdeal.Hand.slopeG (m ((c.tc : Thread Cert.KLossIdeal.nD Cert.KLossIdeal.τ).loc Cert.KLossIdeal.main_arg0)) (m ((c.tc : Thread Cert.KLossIdeal.nD Cert.KLossIdeal.τ).loc Cert.KLossIdeal.main_arg1)), ?_, ?_⟩
  · refine (θ_run _ _ _).mono (fun r h c => ?_) (Cert.KLossIdeal.Value.run_blocks m ρ)
    obtain ⟨h0, h1, hu⟩ := h c
    exact ⟨h0.trans ((Cert.KLossIdeal.Hand.arr_loss m c).trans (by rw [Cert.KLossIdeal.Hand.V_x m c, Cert.KLossIdeal.Hand.V_y m c])),
      h1.trans ((Cert.KLossIdeal.Hand.arr_slope m c).trans (by rw [Cert.KLossIdeal.Hand.V_x m c, Cert.KLossIdeal.Hand.V_y m c])), hu⟩
  · refine (θ_run _ _ _).mono (fun r h c => ?_) (Cert.RLossIdeal.Value.run m' ρ')
    obtain ⟨a0, a1⟩ := hargs c
    obtain ⟨h0, h1, hu⟩ := h c
    exact ⟨h0.trans ((Cert.RLossIdeal.Read.val_main_v7_eq _ _).trans ((Cert.KLossIdeal.Hand.ref_loss _ _).trans (by rw [a0, a1]))),
      h1.trans ((Cert.RLossIdeal.Read.val_main_v22_eq _ _).trans ((Cert.KLossIdeal.Hand.ref_slope _ _).trans (by rw [a0, a1]))), hu⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Arrays
public import proofs.«01_k».proof.Proof.Finite
public import proofs.«01_k».proof.Proof.Same
public import proofs.«01_k».proof.Proof.Calls
public import proofs.«01_k».proof.Proof.CallsMixer
public import proofs.«01_k».proof.Proof.CallsRows
public import Idealize.ShloMosaic.Adequacy
public import Idealize.ShloMosaic.Init

@[expose] public section

set_option maxRecDepth 16384

noncomputable section

namespace Cert.Proof

open Idealize.ShloMosaic hiding ix2 ix3
open Idealize.ShloMosaic.ValueIdx Idealize.SL.Sem
open Cert.Model

theorem frame_ideal : Cert.quiescent_KernelIdeal := fun m ρ _ => Cert.KernelIdeal.Hand.frame_ideal m ρ
theorem frame_ideal_finite : Cert.quiescent_KernelIdeal_pre_finite := fun m ρ _ => Cert.KernelIdeal.Hand.frame_ideal m ρ

/-- The reference declares no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2, funext fun s => by
    rcases s with ⟨t, s⟩
    cases s with
    | reg s => exact Fin.elim0 s
    | dma s => exact Fin.elim0 s⟩) (Cert.ReferenceIdeal.Value.run m ρ)

/-! ## The values -/

section values
variable {A : Args} {x0 x1 : (⟨Cert.ReferenceIdeal.S8192x8x192, .f32⟩ : BufTy).Contents (Elt Ideal)}
  {x2 : (⟨Cert.ReferenceIdeal.S8192x2048, .f32⟩ : BufTy).Contents (Elt Ideal)} {x3 : (⟨Cert.ReferenceIdeal.S8192x1024, .f32⟩ : BufTy).Contents (Elt Ideal)}

theorem ref_q (R : Reads A x0 x1 x2 x3) : Cert.ReferenceIdeal.Read.val_main_v67 (F := Ideal) x0 x1 x2 x3 = Cert.KernelIdeal.Hand.endQ A :=
  funext fun i => (congrArg _ (show i = ix3 (i 0) (i 1) (i 2) from ext3 rfl rfl rfl)).trans (v67_gq R (i 0) (i 1) (i 2))

theorem ref_k (R : Reads A x0 x1 x2 x3) : Cert.ReferenceIdeal.Read.val_main_v69 (F := Ideal) x0 x1 x2 x3 = Cert.KernelIdeal.Hand.endK A :=
  funext fun i => (congrArg _ (show i = ix3 (i 0) (i 1) (i 2) from ext3 rfl rfl rfl)).trans (v69_gk R (i 0) (i 1) (i 2))

theorem ref_v (R : Reads A x0 x1 x2 x3) : Cert.ReferenceIdeal.Read.val_main_v71 (F := Ideal) x0 x1 x3 = Cert.KernelIdeal.Hand.endV A :=
  funext fun i => (congrArg _ (show i = ix2 (i 0) (col (Cert.KernelIdeal.Hand.colHead (i 1)) (Cert.KernelIdeal.Hand.colIn (i 1))) from ext2 rfl (by
    show (i 1).val = 128 * ((i 1).val / 128) + (i 1).val % 128
    omega))).trans (v71_gv R (Cert.KernelIdeal.Hand.colHead (i 1)) (i 0) (Cert.KernelIdeal.Hand.colIn (i 1)))

end values

theorem algebraic : Cert.algebraic_KernelIdeal_ReferenceIdeal_pre_finite := by
  intro m ρ m' ρ' hpre hargs
  have H : ∀ c, Cert.KernelIdeal.Hand.Holds m c (argsOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))) := fun c => reads_of_finite (hpre c)
  generalize hA : (fun c : Dev Cert.KernelIdeal.nD => argsOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))) = B
  have HB : ∀ c, Cert.KernelIdeal.Hand.Holds m c (B c) := fun c => by rw [← hA]; exact H c
  refine ⟨fun c => Cert.KernelIdeal.Hand.endQ (B c), fun c => Cert.KernelIdeal.Hand.endK (B c), fun c => Cert.KernelIdeal.Hand.endV (B c), ?_, ?_⟩
  · refine (θ_run _ _ _).mono (fun r h c => ?_) (Cert.KernelIdeal.Hand.run_main m ρ)
    have e := Cert.KernelIdeal.Hand.ends (c := c) (HB c) h.1
    exact ⟨e.1, e.2.1, e.2.2, Cert.KernelIdeal.Hand.args_of m (fun c => Cert.KernelIdeal.Hand.rdat m c) (Cert.KernelIdeal.Hand.A_eq m) h.1 c⟩
  · refine (θ_run _ _ _).mono (fun r h c => ?_) (Cert.ReferenceIdeal.Value.run m' ρ')
    obtain ⟨a0, a1, a2, a3⟩ := hargs c
    have R : Reads (B c) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) := by
      rw [a0, a1, a2, a3]; exact HB c
    obtain ⟨h0, h1, h2, hu⟩ := h c
    exact ⟨h0.trans ((Cert.ReferenceIdeal.Read.val_main_v67_eq m' c).trans (ref_q R)),
      h1.trans ((Cert.ReferenceIdeal.Read.val_main_v69_eq m' c).trans (ref_k R)),
      h2.trans ((Cert.ReferenceIdeal.Read.val_main_v71_eq m' c).trans (ref_v R)), hu⟩

theorem claim : Cert.Claim := ⟨Cert.Kernel.Gen.facts, Cert.KernelIdeal.Gen.facts, Cert.ReferenceIdeal.Gen.facts, Cert.KUp.Gen.facts,
  Cert.KUpIdeal.Gen.facts, Cert.RUpIdeal.Gen.facts, Cert.KUpDx.Gen.facts, Cert.KUpDxIdeal.Gen.facts, Cert.RUpDxIdeal.Gen.facts, Cert.KUpDw.Gen.facts,
  Cert.KUpDwIdeal.Gen.facts, Cert.RUpDwIdeal.Gen.facts, Cert.KIn.Gen.facts, Cert.KInIdeal.Gen.facts, Cert.RInIdeal.Gen.facts, Cert.KInDx.Gen.facts,
  Cert.KInDxIdeal.Gen.facts, Cert.RInDxIdeal.Gen.facts, Cert.KInDw.Gen.facts, Cert.KInDwIdeal.Gen.facts, Cert.RInDwIdeal.Gen.facts,
  Cert.KDown.Gen.facts, Cert.KDownIdeal.Gen.facts, Cert.RDownIdeal.Gen.facts, Cert.KDownDx.Gen.facts, Cert.KDownDxIdeal.Gen.facts,
  Cert.RDownDxIdeal.Gen.facts, Cert.KDownDw.Gen.facts, Cert.KDownDwIdeal.Gen.facts, Cert.RDownDwIdeal.Gen.facts, Cert.KSsdOut.Gen.facts,
  Cert.KSsdOutIdeal.Gen.facts, Cert.RSsdOutIdeal.Gen.facts, Cert.KSsdOutDx.Gen.facts, Cert.KSsdOutDxIdeal.Gen.facts, Cert.RSsdOutDxIdeal.Gen.facts,
  Cert.KSsdOutDw.Gen.facts, Cert.KSsdOutDwIdeal.Gen.facts, Cert.RSsdOutDwIdeal.Gen.facts, Cert.KUq.Gen.facts, Cert.KUqIdeal.Gen.facts,
  Cert.RUqIdeal.Gen.facts, Cert.KUqDx.Gen.facts, Cert.KUqDxIdeal.Gen.facts, Cert.RUqDxIdeal.Gen.facts, Cert.KUqDw.Gen.facts,
  Cert.KUqDwIdeal.Gen.facts, Cert.RUqDwIdeal.Gen.facts, Cert.KUkv.Gen.facts, Cert.KUkvIdeal.Gen.facts, Cert.RUkvIdeal.Gen.facts,
  Cert.KUkvDx.Gen.facts, Cert.KUkvDxIdeal.Gen.facts, Cert.RUkvDxIdeal.Gen.facts, Cert.KUkvDw.Gen.facts, Cert.KUkvDwIdeal.Gen.facts,
  Cert.RUkvDwIdeal.Gen.facts, Cert.KMlaOut.Gen.facts, Cert.KMlaOutIdeal.Gen.facts, Cert.RMlaOutIdeal.Gen.facts, Cert.KMlaOutDx.Gen.facts,
  Cert.KMlaOutDxIdeal.Gen.facts, Cert.RMlaOutDxIdeal.Gen.facts, Cert.KMlaOutDw.Gen.facts, Cert.KMlaOutDwIdeal.Gen.facts,
  Cert.RMlaOutDwIdeal.Gen.facts, Cert.KOut.Gen.facts, Cert.KOutIdeal.Gen.facts, Cert.ROutIdeal.Gen.facts, Cert.KOutDx.Gen.facts,
  Cert.KOutDxIdeal.Gen.facts, Cert.ROutDxIdeal.Gen.facts, Cert.KOutDw.Gen.facts, Cert.KOutDwIdeal.Gen.facts, Cert.ROutDwIdeal.Gen.facts,
  Cert.KNorm.Gen.facts, Cert.KNormIdeal.Gen.facts, Cert.RNormIdeal.Gen.facts, Cert.KGatedNorm.Gen.facts, Cert.KGatedNormIdeal.Gen.facts,
  Cert.RGatedNormIdeal.Gen.facts, Cert.KMerge.Gen.facts, Cert.KMergeIdeal.Gen.facts, Cert.RMergeIdeal.Gen.facts, Cert.KAdam.Gen.facts,
  Cert.KAdamIdeal.Gen.facts, Cert.RAdamIdeal.Gen.facts, Cert.KQNorm.Gen.facts, Cert.KQNormIdeal.Gen.facts, Cert.RQNormIdeal.Gen.facts,
  Cert.KKvNorm.Gen.facts, Cert.KKvNormIdeal.Gen.facts, Cert.RKvNormIdeal.Gen.facts, Cert.KMergeDx.Gen.facts, Cert.KMergeDxIdeal.Gen.facts,
  Cert.RMergeDxIdeal.Gen.facts, Cert.KLoss.Gen.facts, Cert.KLossIdeal.Gen.facts, Cert.RLossIdeal.Gen.facts, Cert.Pre_finite.Gen.facts, frame_kernel,
  frame_ideal, frame_ideal_finite, fun m ρ _ => frame_reference m ρ, fun m ρ _ => frame_reference m ρ, frame_KUp, frame_KUpIdeal, frame_RUpIdeal,
  frame_KUpDx, frame_KUpDxIdeal, frame_RUpDxIdeal, frame_KUpDw, frame_KUpDwIdeal, frame_RUpDwIdeal, frame_KIn, frame_KInIdeal, frame_RInIdeal,
  frame_KInDx, frame_KInDxIdeal, frame_RInDxIdeal, frame_KInDw, frame_KInDwIdeal, frame_RInDwIdeal, frame_KDown, frame_KDownIdeal, frame_RDownIdeal,
  frame_KDownDx, frame_KDownDxIdeal, frame_RDownDxIdeal, frame_KDownDw, frame_KDownDwIdeal, frame_RDownDwIdeal, frame_KSsdOut, frame_KSsdOutIdeal,
  frame_RSsdOutIdeal, frame_KSsdOutDx, frame_KSsdOutDxIdeal, frame_RSsdOutDxIdeal, frame_KSsdOutDw, frame_KSsdOutDwIdeal, frame_RSsdOutDwIdeal,
  frame_KUq, frame_KUqIdeal, frame_RUqIdeal, frame_KUqDx, frame_KUqDxIdeal, frame_RUqDxIdeal, frame_KUqDw, frame_KUqDwIdeal, frame_RUqDwIdeal,
  frame_KUkv, frame_KUkvIdeal, frame_RUkvIdeal, frame_KUkvDx, frame_KUkvDxIdeal, frame_RUkvDxIdeal, frame_KUkvDw, frame_KUkvDwIdeal,
  frame_RUkvDwIdeal, frame_KMlaOut, frame_KMlaOutIdeal, frame_RMlaOutIdeal, frame_KMlaOutDx, frame_KMlaOutDxIdeal, frame_RMlaOutDxIdeal,
  frame_KMlaOutDw, frame_KMlaOutDwIdeal, frame_RMlaOutDwIdeal, frame_KOut, frame_KOutIdeal, frame_ROutIdeal, frame_KOutDx, frame_KOutDxIdeal,
  frame_ROutDxIdeal, frame_KOutDw, frame_KOutDwIdeal, frame_ROutDwIdeal, frame_KNorm, frame_KNormIdeal, frame_RNormIdeal, frame_KGatedNorm,
  frame_KGatedNormIdeal, frame_RGatedNormIdeal, frame_KMerge, frame_KMergeIdeal, frame_RMergeIdeal, frame_KAdam, frame_KAdamIdeal, frame_RAdamIdeal,
  frame_KQNorm, frame_KQNormIdeal, frame_RQNormIdeal, frame_KKvNorm, frame_KKvNormIdeal, frame_RKvNormIdeal, frame_KMergeDx, frame_KMergeDxIdeal,
  frame_RMergeDxIdeal, frame_KLoss, frame_KLossIdeal, frame_RLossIdeal, trivial, algebraic, trivial, algebraic_Up, trivial, algebraic_UpDx, trivial,
  algebraic_UpDw, trivial, algebraic_In, trivial, algebraic_InDx, trivial, algebraic_InDw, trivial, algebraic_Down, trivial, algebraic_DownDx,
  trivial, algebraic_DownDw, trivial, algebraic_SsdOut, trivial, algebraic_SsdOutDx, trivial, algebraic_SsdOutDw, trivial, algebraic_Uq, trivial,
  algebraic_UqDx, trivial, algebraic_UqDw, trivial, algebraic_Ukv, trivial, algebraic_UkvDx, trivial, algebraic_UkvDw, trivial, algebraic_MlaOut,
  trivial, algebraic_MlaOutDx, trivial, algebraic_MlaOutDw, trivial, algebraic_Out, trivial, algebraic_OutDx, trivial, algebraic_OutDw, trivial,
  algebraic_Norm, trivial, algebraic_GatedNorm, trivial, algebraic_Merge, trivial, algebraic_Adam, trivial, algebraic_QNorm, trivial,
  algebraic_KvNorm, trivial, algebraic_MergeDx, trivial, algebraic_Loss⟩

end Cert.Proof

end
